-- ==== Defs.lean ====
def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_finite_in_dx [hPre_finite_in_dx : Cert.Pre_finite_in_dx.Facts] (m : (ℓ : Loc Cert.InDxIdeal.nD Cert.InDxIdeal.τ Cert.InDxIdeal.sig) → Buf (Elt Ideal) ℓ) : Prop :=
  ∀ c : Dev Cert.InDxIdeal.nD,
    (Cert.Pre_finite_in_dx.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7)) (m ((c.tc : Thread Cert.InDxIdeal.nD Cert.InDxIdeal.τ).loc Cert.InDxIdeal.main_arg8)) (m ((c.tc : Thread Cert.InDxIdeal.nD Cert.InDxIdeal.τ).loc Cert.InDxIdeal.main_arg9)) (m ((c.tc : Thread Cert.InDxIdeal.nD Cert.InDxIdeal.τ).loc Cert.InDxIdeal.main_arg10))) = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_finite_in_dx [hPre_finite_in_dx : Cert.Pre_finite_in_dx.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_finite_in_dx.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4)) (m ((c.tc : Thread Cert.InDxRefIdeal.nD Cert.InDxRefIdeal.τ).loc Cert.InDxRefIdeal.main_arg5)) (m ((c.tc : Thread Cert.InDxRefIdeal.nD Cert.InDxRefIdeal.τ).loc Cert.InDxRefIdeal.main_arg6)) (m ((c.tc : Thread Cert.InDxRefIdeal.nD Cert.InDxRefIdeal.τ).loc Cert.InDxRefIdeal.main_arg7)) (m ((c.tc : Thread Cert.InDxRefIdeal.nD Cert.InDxRefIdeal.τ).loc Cert.InDxRefIdeal.main_arg8)) (m ((c.tc : Thread Cert.InDxRefIdeal.nD Cert.InDxRefIdeal.τ).loc Cert.InDxRefIdeal.main_arg9)) (m ((c.tc : Thread Cert.InDxRefIdeal.nD Cert.InDxRefIdeal.τ).loc Cert.InDxRefIdeal.main_arg10))) = (fun _ => 1#1)

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_finite_sb_bwd [hPre_finite_sb_bwd : Cert.Pre_finite_sb_bwd.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_finite_sb_bwd.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1)) (m ((c.tc : Thread Cert.SbBwdIdeal.nD Cert.SbBwdIdeal.τ).loc Cert.SbBwdIdeal.main_arg2)) (m ((c.tc : Thread Cert.SbBwdIdeal.nD Cert.SbBwdIdeal.τ).loc Cert.SbBwdIdeal.main_arg3)) (m ((c.tc : Thread Cert.SbBwdIdeal.nD Cert.SbBwdIdeal.τ).loc Cert.SbBwdIdeal.main_arg4))) = (fun _ => 1#1)

def Pre_SbBwdRefIdeal (m : (ℓ : Loc Cert.SbBwdRefIdeal.nD Cert.SbBwdRefIdeal.τ Cert.SbBwdRefIdeal.sig) → Buf (Elt Ideal) ℓ) : Prop :=
  True

def Pre_SbBwdRefIdeal_finite_sb_bwd [hPre_finite_sb_bwd : Cert.Pre_finite_sb_bwd.Facts] (m : (ℓ : Loc Cert.SbBwdRefIdeal.nD Cert.SbBwdRefIdeal.τ Cert.SbBwdRefIdeal.sig) → Buf (Elt Ideal) ℓ) : Prop :=
  ∀ c : Dev Cert.SbBwdRefIdeal.nD,
    (Cert.Pre_finite_sb_bwd.fn (F := Ideal) (m ((c.tc : Thread Cert.SbBwdRefIdeal.nD Cert.SbBwdRefIdeal.τ).loc Cert.SbBwdRefIdeal.main_arg0)) (m ((c.tc : Thread Cert.SbBwdRefIdeal.nD Cert.SbBwdRefIdeal.τ).loc Cert.SbBwdRefIdeal.main_arg1)) (m ((c.tc : Thread Cert.SbBwdRefIdeal.nD Cert.SbBwdRefIdeal.τ).loc Cert.SbBwdRefIdeal.main_arg2)) (m ((c.tc : Thread Cert.SbBwdRefIdeal.nD Cert.SbBwdRefIdeal.τ).loc Cert.SbBwdRefIdeal.main_arg3)) (m ((c.tc : Thread Cert.SbBwdRefIdeal.nD Cert.SbBwdRefIdeal.τ).loc Cert.SbBwdRefIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_finite_ffn_in [hPre_finite_ffn_in : Cert.Pre_finite_ffn_in.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_finite_ffn_in.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_finite_ffn_in [hPre_finite_ffn_in : Cert.Pre_finite_ffn_in.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_finite_ffn_in.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5)) (m ((c.tc : Thread Cert.FfnInRefIdeal.nD Cert.FfnInRefIdeal.τ).loc Cert.FfnInRefIdeal.main_arg6))) = (fun _ => 1#1)

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_finite_ffn_act [hPre_finite_ffn_act : Cert.Pre_finite_ffn_act.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_finite_ffn_act.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4)) (m ((c.tc : Thread Cert.FfnActIdeal.nD Cert.FfnActIdeal.τ).loc Cert.FfnActIdeal.main_arg5))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_finite_ffn_act [hPre_finite_ffn_act : Cert.Pre_finite_ffn_act.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_finite_ffn_act.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4)) (m ((c.tc : Thread Cert.FfnActRefIdeal.nD Cert.FfnActRefIdeal.τ).loc Cert.FfnActRefIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_finite_mix_bwd [hPre_finite_mix_bwd : Cert.Pre_finite_mix_bwd.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_finite_mix_bwd.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5)) (m ((c.tc : Thread Cert.MixBwdIdeal.nD Cert.MixBwdIdeal.τ).loc Cert.MixBwdIdeal.main_arg6))) = (fun _ => 1#1)

def Pre_MixBwdRefIdeal (m : (ℓ : Loc Cert.MixBwdRefIdeal.nD Cert.MixBwdRefIdeal.τ Cert.MixBwdRefIdeal.sig) → Buf (Elt Ideal) ℓ) : Prop :=
  True

def Pre_MixBwdRefIdeal_finite_mix_bwd [hPre_finite_mix_bwd : Cert.Pre_finite_mix_bwd.Facts] (m : (ℓ : Loc Cert.MixBwdRefIdeal.nD Cert.MixBwdRefIdeal.τ Cert.MixBwdRefIdeal.sig) → Buf (Elt Ideal) ℓ) : Prop :=
  ∀ c : Dev Cert.MixBwdRefIdeal.nD,
    (Cert.Pre_finite_mix_bwd.fn (F := Ideal) (m ((c.tc : Thread Cert.MixBwdRefIdeal.nD Cert.MixBwdRefIdeal.τ).loc Cert.MixBwdRefIdeal.main_arg0)) (m ((c.tc : Thread Cert.MixBwdRefIdeal.nD Cert.MixBwdRefIdeal.τ).loc Cert.MixBwdRefIdeal.main_arg1)) (m ((c.tc : Thread Cert.MixBwdRefIdeal.nD Cert.MixBwdRefIdeal.τ).loc Cert.MixBwdRefIdeal.main_arg2)) (m ((c.tc : Thread Cert.MixBwdRefIdeal.nD Cert.MixBwdRefIdeal.τ).loc Cert.MixBwdRefIdeal.main_arg3)) (m ((c.tc : Thread Cert.MixBwdRefIdeal.nD Cert.MixBwdRefIdeal.τ).loc Cert.MixBwdRefIdeal.main_arg4)) (m ((c.tc : Thread Cert.MixBwdRefIdeal.nD Cert.MixBwdRefIdeal.τ).loc Cert.MixBwdRefIdeal.main_arg5)) (m ((c.tc : Thread Cert.MixBwdRefIdeal.nD Cert.MixBwdRefIdeal.τ).loc Cert.MixBwdRefIdeal.main_arg6))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn_act [hPre_finite_ffn_act : Cert.Pre_finite_ffn_act.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn_act.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))) = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn_act [hPre_finite_ffn_act : Cert.Pre_finite_ffn_act.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn_act.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5))) = (fun _ => 1#1)

def Pre_FfnHead (m : (ℓ : Loc Cert.FfnHead.nD Cert.FfnHead.τ Cert.FfnHead.sig) → Buf (Elt Bits) ℓ) : Prop :=
  True

def Pre_FfnHeadIdeal (m : (ℓ : Loc Cert.FfnHeadIdeal.nD Cert.FfnHeadIdeal.τ Cert.FfnHeadIdeal.sig) → Buf (Elt Ideal) ℓ) : Prop :=
  True

def Pre_FfnHeadIdeal_finite_ffn_head [hPre_finite_ffn_head : Cert.Pre_finite_ffn_head.Facts] (m : (ℓ : Loc Cert.FfnHeadIdeal.nD Cert.FfnHeadIdeal.τ Cert.FfnHeadIdeal.sig) → Buf (Elt Ideal) ℓ) : Prop :=
  ∀ c : Dev Cert.FfnHeadIdeal.nD,
    (Cert.Pre_finite_ffn_head.fn (F := Ideal) (m ((c.tc : Thread Cert.FfnHeadIdeal.nD Cert.FfnHeadIdeal.τ).loc Cert.FfnHeadIdeal.main_arg0)) (m ((c.tc : Thread Cert.FfnHeadIdeal.nD Cert.FfnHeadIdeal.τ).loc Cert.FfnHeadIdeal.main_arg1)) (m ((c.tc : Thread Cert.FfnHeadIdeal.nD Cert.FfnHeadIdeal.τ).loc Cert.FfnHeadIdeal.main_arg2)) (m ((c.tc : Thread Cert.FfnHeadIdeal.nD Cert.FfnHeadIdeal.τ).loc Cert.FfnHeadIdeal.main_arg3)) (m ((c.tc : Thread Cert.FfnHeadIdeal.nD Cert.FfnHeadIdeal.τ).loc Cert.FfnHeadIdeal.main_arg4)) (m ((c.tc : Thread Cert.FfnHeadIdeal.nD Cert.FfnHeadIdeal.τ).loc Cert.FfnHeadIdeal.main_arg5)) (m ((c.tc : Thread Cert.FfnHeadIdeal.nD Cert.FfnHeadIdeal.τ).loc Cert.FfnHeadIdeal.main_arg6))) = (fun _ => 1#1)

def Pre_FfnHeadRefIdeal (m : (ℓ : Loc Cert.FfnHeadRefIdeal.nD Cert.FfnHeadRefIdeal.τ Cert.FfnHeadRefIdeal.sig) → Buf (Elt Ideal) ℓ) : Prop :=
  True

def Pre_FfnHeadRefIdeal_finite_ffn_head [hPre_finite_ffn_head : Cert.Pre_finite_ffn_head.Facts] (m : (ℓ : Loc Cert.FfnHeadRefIdeal.nD Cert.FfnHeadRefIdeal.τ Cert.FfnHeadRefIdeal.sig) → Buf (Elt Ideal) ℓ) : Prop :=
  ∀ c : Dev Cert.FfnHeadRefIdeal.nD,
    (Cert.Pre_finite_ffn_head.fn (F := Ideal) (m ((c.tc : Thread Cert.FfnHeadRefIdeal.nD Cert.FfnHeadRefIdeal.τ).loc Cert.FfnHeadRefIdeal.main_arg0)) (m ((c.tc : Thread Cert.FfnHeadRefIdeal.nD Cert.FfnHeadRefIdeal.τ).loc Cert.FfnHeadRefIdeal.main_arg1)) (m ((c.tc : Thread Cert.FfnHeadRefIdeal.nD Cert.FfnHeadRefIdeal.τ).loc Cert.FfnHeadRefIdeal.main_arg2)) (m ((c.tc : Thread Cert.FfnHeadRefIdeal.nD Cert.FfnHeadRefIdeal.τ).loc Cert.FfnHeadRefIdeal.main_arg3)) (m ((c.tc : Thread Cert.FfnHeadRefIdeal.nD Cert.FfnHeadRefIdeal.τ).loc Cert.FfnHeadRefIdeal.main_arg4)) (m ((c.tc : Thread Cert.FfnHeadRefIdeal.nD Cert.FfnHeadRefIdeal.τ).loc Cert.FfnHeadRefIdeal.main_arg5)) (m ((c.tc : Thread Cert.FfnHeadRefIdeal.nD Cert.FfnHeadRefIdeal.τ).loc Cert.FfnHeadRefIdeal.main_arg6))) = (fun _ => 1#1)

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdIdeal_finite_mix_fwd [hPre_finite_mix_fwd : Cert.Pre_finite_mix_fwd.Facts] (m : (ℓ : Loc Cert.MixFwdIdeal.nD Cert.MixFwdIdeal.τ Cert.MixFwdIdeal.sig) → Buf (Elt Ideal) ℓ) : Prop :=
  ∀ c : Dev Cert.MixFwdIdeal.nD,
    (Cert.Pre_finite_mix_fwd.fn (F := Ideal) (m ((c.tc : Thread Cert.MixFwdIdeal.nD Cert.MixFwdIdeal.τ).loc Cert.MixFwdIdeal.main_arg0)) (m ((c.tc : Thread Cert.MixFwdIdeal.nD Cert.MixFwdIdeal.τ).loc Cert.MixFwdIdeal.main_arg1)) (m ((c.tc : Thread Cert.MixFwdIdeal.nD Cert.MixFwdIdeal.τ).loc Cert.MixFwdIdeal.main_arg2)) (m ((c.tc : Thread Cert.MixFwdIdeal.nD Cert.MixFwdIdeal.τ).loc Cert.MixFwdIdeal.main_arg3)) (m ((c.tc : Thread Cert.MixFwdIdeal.nD Cert.MixFwdIdeal.τ).loc Cert.MixFwdIdeal.main_arg4)) (m ((c.tc : Thread Cert.MixFwdIdeal.nD Cert.MixFwdIdeal.τ).loc Cert.MixFwdIdeal.main_arg5)) (m ((c.tc : Thread Cert.MixFwdIdeal.nD Cert.MixFwdIdeal.τ).loc Cert.MixFwdIdeal.main_arg6))) = (fun _ => 1#1)

def Pre_MixFwdRefIdeal (m : (ℓ : Loc Cert.MixFwdRefIdeal.nD Cert.MixFwdRefIdeal.τ Cert.MixFwdRefIdeal.sig) → Buf (Elt Ideal) ℓ) : Prop :=
  True

def Pre_MixFwdRefIdeal_finite_mix_fwd [hPre_finite_mix_fwd : Cert.Pre_finite_mix_fwd.Facts] (m : (ℓ : Loc Cert.MixFwdRefIdeal.nD Cert.MixFwdRefIdeal.τ Cert.MixFwdRefIdeal.sig) → Buf (Elt Ideal) ℓ) : Prop :=
  ∀ c : Dev Cert.MixFwdRefIdeal.nD,
    (Cert.Pre_finite_mix_fwd.fn (F := Ideal) (m ((c.tc : Thread Cert.MixFwdRefIdeal.nD Cert.MixFwdRefIdeal.τ).loc Cert.MixFwdRefIdeal.main_arg0)) (m ((c.tc : Thread Cert.MixFwdRefIdeal.nD Cert.MixFwdRefIdeal.τ).loc Cert.MixFwdRefIdeal.main_arg1)) (m ((c.tc : Thread Cert.MixFwdRefIdeal.nD Cert.MixFwdRefIdeal.τ).loc Cert.MixFwdRefIdeal.main_arg2)) (m ((c.tc : Thread Cert.MixFwdRefIdeal.nD Cert.MixFwdRefIdeal.τ).loc Cert.MixFwdRefIdeal.main_arg3)) (m ((c.tc : Thread Cert.MixFwdRefIdeal.nD Cert.MixFwdRefIdeal.τ).loc Cert.MixFwdRefIdeal.main_arg4)) (m ((c.tc : Thread Cert.MixFwdRefIdeal.nD Cert.MixFwdRefIdeal.τ).loc Cert.MixFwdRefIdeal.main_arg5)) (m ((c.tc : Thread Cert.MixFwdRefIdeal.nD Cert.MixFwdRefIdeal.τ).loc Cert.MixFwdRefIdeal.main_arg6))) = (fun _ => 1#1)

def Pre_ActFwd (m : (ℓ : Loc Cert.ActFwd.nD Cert.ActFwd.τ Cert.ActFwd.sig) → Buf (Elt Bits) ℓ) : Prop :=
  True

def Pre_ActFwdIdeal (m : (ℓ : Loc Cert.ActFwdIdeal.nD Cert.ActFwdIdeal.τ Cert.ActFwdIdeal.sig) → Buf (Elt Ideal) ℓ) : Prop :=
  True

def Pre_ActFwdIdeal_finite_act_fwd [hPre_finite_act_fwd : Cert.Pre_finite_act_fwd.Facts] (m : (ℓ : Loc Cert.ActFwdIdeal.nD Cert.ActFwdIdeal.τ Cert.ActFwdIdeal.sig) → Buf (Elt Ideal) ℓ) : Prop :=
  ∀ c : Dev Cert.ActFwdIdeal.nD,
    (Cert.Pre_finite_act_fwd.fn (F := Ideal) (m ((c.tc : Thread Cert.ActFwdIdeal.nD Cert.ActFwdIdeal.τ).loc Cert.ActFwdIdeal.main_arg0)) (m ((c.tc : Thread Cert.ActFwdIdeal.nD Cert.ActFwdIdeal.τ).loc Cert.ActFwdIdeal.main_arg1)) (m ((c.tc : Thread Cert.ActFwdIdeal.nD Cert.ActFwdIdeal.τ).loc Cert.ActFwdIdeal.main_arg2)) (m ((c.tc : Thread Cert.ActFwdIdeal.nD Cert.ActFwdIdeal.τ).loc Cert.ActFwdIdeal.main_arg3))) = (fun _ => 1#1)

def Pre_ActFwdRefIdeal (m : (ℓ : Loc Cert.ActFwdRefIdeal.nD Cert.ActFwdRefIdeal.τ Cert.ActFwdRefIdeal.sig) → Buf (Elt Ideal) ℓ) : Prop :=
  True

def Pre_ActFwdRefIdeal_finite_act_fwd [hPre_finite_act_fwd : Cert.Pre_finite_act_fwd.Facts] (m : (ℓ : Loc Cert.ActFwdRefIdeal.nD Cert.ActFwdRefIdeal.τ Cert.ActFwdRefIdeal.sig) → Buf (Elt Ideal) ℓ) : Prop :=
  ∀ c : Dev Cert.ActFwdRefIdeal.nD,
    (Cert.Pre_finite_act_fwd.fn (F := Ideal) (m ((c.tc : Thread Cert.ActFwdRefIdeal.nD Cert.ActFwdRefIdeal.τ).loc Cert.ActFwdRefIdeal.main_arg0)) (m ((c.tc : Thread Cert.ActFwdRefIdeal.nD Cert.ActFwdRefIdeal.τ).loc Cert.ActFwdRefIdeal.main_arg1)) (m ((c.tc : Thread Cert.ActFwdRefIdeal.nD Cert.ActFwdRefIdeal.τ).loc Cert.ActFwdRefIdeal.main_arg2)) (m ((c.tc : Thread Cert.ActFwdRefIdeal.nD Cert.ActFwdRefIdeal.τ).loc Cert.ActFwdRefIdeal.main_arg3))) = (fun _ => 1#1)

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6)
      ∧ r.2.mem ((c.tc : Thread Cert.InDx.nD Cert.InDx.τ).loc Cert.InDx.main_arg7) = m ((c.tc : Thread Cert.InDx.nD Cert.InDx.τ).loc Cert.InDx.main_arg7)
      ∧ r.2.mem ((c.tc : Thread Cert.InDx.nD Cert.InDx.τ).loc Cert.InDx.main_arg8) = m ((c.tc : Thread Cert.InDx.nD Cert.InDx.τ).loc Cert.InDx.main_arg8)
      ∧ r.2.mem ((c.tc : Thread Cert.InDx.nD Cert.InDx.τ).loc Cert.InDx.main_arg9) = m ((c.tc : Thread Cert.InDx.nD Cert.InDx.τ).loc Cert.InDx.main_arg9)
      ∧ r.2.mem ((c.tc : Thread Cert.InDx.nD Cert.InDx.τ).loc Cert.InDx.main_arg10) = m ((c.tc : Thread Cert.InDx.nD Cert.InDx.τ).loc Cert.InDx.main_arg10))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
      ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
      ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9)
      ∧ r.2.mem ((c.tc : Thread Cert.InDxIdeal.nD Cert.InDxIdeal.τ).loc Cert.InDxIdeal.main_arg10) = m ((c.tc : Thread Cert.InDxIdeal.nD Cert.InDxIdeal.τ).loc Cert.InDxIdeal.main_arg10))
      ∧ r.2.sem = fun _ => 0)

def quiescent_InDxIdeal_pre_finite_in_dx [hInDxIdeal : Cert.InDxIdeal.Facts] [hPre_finite_in_dx : Cert.Pre_finite_in_dx.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_finite_in_dx m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
      ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
      ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
      ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9)
      ∧ r.2.mem ((c.tc : Thread Cert.InDxIdeal.nD Cert.InDxIdeal.τ).loc Cert.InDxIdeal.main_arg10) = m ((c.tc : Thread Cert.InDxIdeal.nD Cert.InDxIdeal.τ).loc Cert.InDxIdeal.main_arg10))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7)
      ∧ r.2.mem ((c.tc : Thread Cert.InDxRefIdeal.nD Cert.InDxRefIdeal.τ).loc Cert.InDxRefIdeal.main_arg8) = m ((c.tc : Thread Cert.InDxRefIdeal.nD Cert.InDxRefIdeal.τ).loc Cert.InDxRefIdeal.main_arg8)
      ∧ r.2.mem ((c.tc : Thread Cert.InDxRefIdeal.nD Cert.InDxRefIdeal.τ).loc Cert.InDxRefIdeal.main_arg9) = m ((c.tc : Thread Cert.InDxRefIdeal.nD Cert.InDxRefIdeal.τ).loc Cert.InDxRefIdeal.main_arg9)
      ∧ r.2.mem ((c.tc : Thread Cert.InDxRefIdeal.nD Cert.InDxRefIdeal.τ).loc Cert.InDxRefIdeal.main_arg10) = m ((c.tc : Thread Cert.InDxRefIdeal.nD Cert.InDxRefIdeal.τ).loc Cert.InDxRefIdeal.main_arg10))
      ∧ r.2.sem = fun _ => 0)

def quiescent_InDxRefIdeal_pre_finite_in_dx [hInDxRefIdeal : Cert.InDxRefIdeal.Facts] [hPre_finite_in_dx : Cert.Pre_finite_in_dx.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_finite_in_dx m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6)
      ∧ r.2.mem ((c.tc : Thread Cert.InDxRefIdeal.nD Cert.InDxRefIdeal.τ).loc Cert.InDxRefIdeal.main_arg7) = m ((c.tc : Thread Cert.InDxRefIdeal.nD Cert.InDxRefIdeal.τ).loc Cert.InDxRefIdeal.main_arg7)
      ∧ r.2.mem ((c.tc : Thread Cert.InDxRefIdeal.nD Cert.InDxRefIdeal.τ).loc Cert.InDxRefIdeal.main_arg8) = m ((c.tc : Thread Cert.InDxRefIdeal.nD Cert.InDxRefIdeal.τ).loc Cert.InDxRefIdeal.main_arg8)
      ∧ r.2.mem ((c.tc : Thread Cert.InDxRefIdeal.nD Cert.InDxRefIdeal.τ).loc Cert.InDxRefIdeal.main_arg9) = m ((c.tc : Thread Cert.InDxRefIdeal.nD Cert.InDxRefIdeal.τ).loc Cert.InDxRefIdeal.main_arg9)
      ∧ r.2.mem ((c.tc : Thread Cert.InDxRefIdeal.nD Cert.InDxRefIdeal.τ).loc Cert.InDxRefIdeal.main_arg10) = m ((c.tc : Thread Cert.InDxRefIdeal.nD Cert.InDxRefIdeal.τ).loc Cert.InDxRefIdeal.main_arg10))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1)
      ∧ r.2.mem ((c.tc : Thread Cert.SbBwd.nD Cert.SbBwd.τ).loc Cert.SbBwd.main_arg2) = m ((c.tc : Thread Cert.SbBwd.nD Cert.SbBwd.τ).loc Cert.SbBwd.main_arg2)
      ∧ r.2.mem ((c.tc : Thread Cert.SbBwd.nD Cert.SbBwd.τ).loc Cert.SbBwd.main_arg3) = m ((c.tc : Thread Cert.SbBwd.nD Cert.SbBwd.τ).loc Cert.SbBwd.main_arg3)
      ∧ r.2.mem ((c.tc : Thread Cert.SbBwd.nD Cert.SbBwd.τ).loc Cert.SbBwd.main_arg4) = m ((c.tc : Thread Cert.SbBwd.nD Cert.SbBwd.τ).loc Cert.SbBwd.main_arg4))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3)
      ∧ r.2.mem ((c.tc : Thread Cert.SbBwdIdeal.nD Cert.SbBwdIdeal.τ).loc Cert.SbBwdIdeal.main_arg4) = m ((c.tc : Thread Cert.SbBwdIdeal.nD Cert.SbBwdIdeal.τ).loc Cert.SbBwdIdeal.main_arg4))
      ∧ r.2.sem = fun _ => 0)

def quiescent_SbBwdIdeal_pre_finite_sb_bwd [hSbBwdIdeal : Cert.SbBwdIdeal.Facts] [hPre_finite_sb_bwd : Cert.Pre_finite_sb_bwd.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_finite_sb_bwd m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3)
      ∧ r.2.mem ((c.tc : Thread Cert.SbBwdIdeal.nD Cert.SbBwdIdeal.τ).loc Cert.SbBwdIdeal.main_arg4) = m ((c.tc : Thread Cert.SbBwdIdeal.nD Cert.SbBwdIdeal.τ).loc Cert.SbBwdIdeal.main_arg4))
      ∧ r.2.sem = fun _ => 0)

def quiescent_SbBwdRefIdeal [hSbBwdRefIdeal : Cert.SbBwdRefIdeal.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1)
      ∧ r.2.mem ((c.tc : Thread Cert.SbBwdRefIdeal.nD Cert.SbBwdRefIdeal.τ).loc Cert.SbBwdRefIdeal.main_arg2) = m ((c.tc : Thread Cert.SbBwdRefIdeal.nD Cert.SbBwdRefIdeal.τ).loc Cert.SbBwdRefIdeal.main_arg2)
      ∧ r.2.mem ((c.tc : Thread Cert.SbBwdRefIdeal.nD Cert.SbBwdRefIdeal.τ).loc Cert.SbBwdRefIdeal.main_arg3) = m ((c.tc : Thread Cert.SbBwdRefIdeal.nD Cert.SbBwdRefIdeal.τ).loc Cert.SbBwdRefIdeal.main_arg3)
      ∧ r.2.mem ((c.tc : Thread Cert.SbBwdRefIdeal.nD Cert.SbBwdRefIdeal.τ).loc Cert.SbBwdRefIdeal.main_arg4) = m ((c.tc : Thread Cert.SbBwdRefIdeal.nD Cert.SbBwdRefIdeal.τ).loc Cert.SbBwdRefIdeal.main_arg4))
      ∧ r.2.sem = fun _ => 0)

def quiescent_SbBwdRefIdeal_pre_finite_sb_bwd [hSbBwdRefIdeal : Cert.SbBwdRefIdeal.Facts] [hPre_finite_sb_bwd : Cert.Pre_finite_sb_bwd.Facts] : Prop :=
  ∀ (m : (ℓ : Loc Cert.SbBwdRefIdeal.nD Cert.SbBwdRefIdeal.τ Cert.SbBwdRefIdeal.sig) → Buf (Elt Ideal) ℓ) (g : Dev Cert.SbBwdRefIdeal.nD → PrngReg), Pre_SbBwdRefIdeal_finite_sb_bwd m →
    θ_run (Cert.SbBwdRefIdeal.defs (F := Ideal)) (onTc (τ := Cert.SbBwdRefIdeal.τ) (Cert.SbBwdRefIdeal.main (F := Ideal))) ⟨m, fun _ => 0, g⟩ (fun r => (∀ c : Dev Cert.SbBwdRefIdeal.nD,
      r.2.mem ((c.tc : Thread Cert.SbBwdRefIdeal.nD Cert.SbBwdRefIdeal.τ).loc Cert.SbBwdRefIdeal.main_arg0) = m ((c.tc : Thread Cert.SbBwdRefIdeal.nD Cert.SbBwdRefIdeal.τ).loc Cert.SbBwdRefIdeal.main_arg0)
      ∧ r.2.mem ((c.tc : Thread Cert.SbBwdRefIdeal.nD Cert.SbBwdRefIdeal.τ).loc Cert.SbBwdRefIdeal.main_arg1) = m ((c.tc : Thread Cert.SbBwdRefIdeal.nD Cert.SbBwdRefIdeal.τ).loc Cert.SbBwdRefIdeal.main_arg1)
      ∧ r.2.mem ((c.tc : Thread Cert.SbBwdRefIdeal.nD Cert.SbBwdRefIdeal.τ).loc Cert.SbBwdRefIdeal.main_arg2) = m ((c.tc : Thread Cert.SbBwdRefIdeal.nD Cert.SbBwdRefIdeal.τ).loc Cert.SbBwdRefIdeal.main_arg2)
      ∧ r.2.mem ((c.tc : Thread Cert.SbBwdRefIdeal.nD Cert.SbBwdRefIdeal.τ).loc Cert.SbBwdRefIdeal.main_arg3) = m ((c.tc : Thread Cert.SbBwdRefIdeal.nD Cert.SbBwdRefIdeal.τ).loc Cert.SbBwdRefIdeal.main_arg3)
      ∧ r.2.mem ((c.tc : Thread Cert.SbBwdRefIdeal.nD Cert.SbBwdRefIdeal.τ).loc Cert.SbBwdRefIdeal.main_arg4) = m ((c.tc : Thread Cert.SbBwdRefIdeal.nD Cert.SbBwdRefIdeal.τ).loc Cert.SbBwdRefIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInIdeal_pre_finite_ffn_in [hFfnInIdeal : Cert.FfnInIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_finite_ffn_in m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnInRefIdeal_pre_finite_ffn_in [hFfnInRefIdeal : Cert.FfnInRefIdeal.Facts] [hPre_finite_ffn_in : Cert.Pre_finite_ffn_in.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_finite_ffn_in m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5)
      ∧ r.2.mem ((c.tc : Thread Cert.FfnInRefIdeal.nD Cert.FfnInRefIdeal.τ).loc Cert.FfnInRefIdeal.main_arg6) = m ((c.tc : Thread Cert.FfnInRefIdeal.nD Cert.FfnInRefIdeal.τ).loc Cert.FfnInRefIdeal.main_arg6))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4)
      ∧ r.2.mem ((c.tc : Thread Cert.FfnAct.nD Cert.FfnAct.τ).loc Cert.FfnAct.main_arg5) = m ((c.tc : Thread Cert.FfnAct.nD Cert.FfnAct.τ).loc Cert.FfnAct.main_arg5))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
      ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5))
      ∧ r.2.sem = fun _ => 0)

def quiescent_FfnActIdeal_pre_finite_ffn_act [hFfnActIdeal : Cert.FfnActIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_finite_ffn_act m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
      ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4)
      ∧ r.2.mem ((c.tc : Thread Cert.FfnActRefIdeal.nD Cert.FfnActRefIdeal.τ).loc Cert.FfnActRefIdeal.main_arg5) = m ((c.tc : Thread Cert.FfnActRefIdeal.nD Cert.FfnActRefIdeal.τ).loc Cert.FfnActRefIdeal.main_arg5))
      ∧ r.2.sem = fun _ => 0)

def quiescent_FfnActRefIdeal_pre_finite_ffn_act [hFfnActRefIdeal : Cert.FfnActRefIdeal.Facts] [hPre_finite_ffn_act : Cert.Pre_finite_ffn_act.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_finite_ffn_act m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4)
      ∧ r.2.mem ((c.tc : Thread Cert.FfnActRefIdeal.nD Cert.FfnActRefIdeal.τ).loc Cert.FfnActRefIdeal.main_arg5) = m ((c.tc : Thread Cert.FfnActRefIdeal.nD Cert.FfnActRefIdeal.τ).loc Cert.FfnActRefIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdIdeal_pre_finite_mix_bwd [hMixBwdIdeal : Cert.MixBwdIdeal.Facts] [hPre_finite_mix_bwd : Cert.Pre_finite_mix_bwd.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_finite_mix_bwd m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ r.2.sem = fun _ => 0)

def quiescent_MixBwdRefIdeal [hMixBwdRefIdeal : Cert.MixBwdRefIdeal.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_MixBwdRefIdeal_pre_finite_mix_bwd [hMixBwdRefIdeal : Cert.MixBwdRefIdeal.Facts] [hPre_finite_mix_bwd : Cert.Pre_finite_mix_bwd.Facts] : Prop :=
  ∀ (m : (ℓ : Loc Cert.MixBwdRefIdeal.nD Cert.MixBwdRefIdeal.τ Cert.MixBwdRefIdeal.sig) → Buf (Elt Ideal) ℓ) (g : Dev Cert.MixBwdRefIdeal.nD → PrngReg), Pre_MixBwdRefIdeal_finite_mix_bwd m →
    θ_run (Cert.MixBwdRefIdeal.defs (F := Ideal)) (onTc (τ := Cert.MixBwdRefIdeal.τ) (Cert.MixBwdRefIdeal.main (F := Ideal))) ⟨m, fun _ => 0, g⟩ (fun r => (∀ c : Dev Cert.MixBwdRefIdeal.nD,
      r.2.mem ((c.tc : Thread Cert.MixBwdRefIdeal.nD Cert.MixBwdRefIdeal.τ).loc Cert.MixBwdRefIdeal.main_arg0) = m ((c.tc : Thread Cert.MixBwdRefIdeal.nD Cert.MixBwdRefIdeal.τ).loc Cert.MixBwdRefIdeal.main_arg0)
      ∧ r.2.mem ((c.tc : Thread Cert.MixBwdRefIdeal.nD Cert.MixBwdRefIdeal.τ).loc Cert.MixBwdRefIdeal.main_arg1) = m ((c.tc : Thread Cert.MixBwdRefIdeal.nD Cert.MixBwdRefIdeal.τ).loc Cert.MixBwdRefIdeal.main_arg1)
      ∧ r.2.mem ((c.tc : Thread Cert.MixBwdRefIdeal.nD Cert.MixBwdRefIdeal.τ).loc Cert.MixBwdRefIdeal.main_arg2) = m ((c.tc : Thread Cert.MixBwdRefIdeal.nD Cert.MixBwdRefIdeal.τ).loc Cert.MixBwdRefIdeal.main_arg2)
      ∧ r.2.mem ((c.tc : Thread Cert.MixBwdRefIdeal.nD Cert.MixBwdRefIdeal.τ).loc Cert.MixBwdRefIdeal.main_arg3) = m ((c.tc : Thread Cert.MixBwdRefIdeal.nD Cert.MixBwdRefIdeal.τ).loc Cert.MixBwdRefIdeal.main_arg3)
      ∧ r.2.mem ((c.tc : Thread Cert.MixBwdRefIdeal.nD Cert.MixBwdRefIdeal.τ).loc Cert.MixBwdRefIdeal.main_arg4) = m ((c.tc : Thread Cert.MixBwdRefIdeal.nD Cert.MixBwdRefIdeal.τ).loc Cert.MixBwdRefIdeal.main_arg4)
      ∧ r.2.mem ((c.tc : Thread Cert.MixBwdRefIdeal.nD Cert.MixBwdRefIdeal.τ).loc Cert.MixBwdRefIdeal.main_arg5) = m ((c.tc : Thread Cert.MixBwdRefIdeal.nD Cert.MixBwdRefIdeal.τ).loc Cert.MixBwdRefIdeal.main_arg5)
      ∧ r.2.mem ((c.tc : Thread Cert.MixBwdRefIdeal.nD Cert.MixBwdRefIdeal.τ).loc Cert.MixBwdRefIdeal.main_arg6) = m ((c.tc : Thread Cert.MixBwdRefIdeal.nD Cert.MixBwdRefIdeal.τ).loc Cert.MixBwdRefIdeal.main_arg6))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite_ffn_act [hFfnBwdIdeal : Cert.FfnBwdIdeal.Facts] [hPre_finite_ffn_act : Cert.Pre_finite_ffn_act.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn_act m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnBwdRefIdeal_pre_finite_ffn_act [hFfnBwdRefIdeal : Cert.FfnBwdRefIdeal.Facts] [hPre_finite_ffn_act : Cert.Pre_finite_ffn_act.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn_act m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5))
      ∧ r.2.sem = fun _ => 0)

def quiescent_FfnHead [hFfnHead : Cert.FfnHead.Facts] : Prop :=
  ∀ (m : (ℓ : Loc Cert.FfnHead.nD Cert.FfnHead.τ Cert.FfnHead.sig) → Buf (Elt Bits) ℓ) (g : Dev Cert.FfnHead.nD → PrngReg), Pre_FfnHead m →
    θ_run (Cert.FfnHead.defs (F := Bits)) (onTc (τ := Cert.FfnHead.τ) (Cert.FfnHead.main (F := Bits))) ⟨m, fun _ => 0, g⟩ (fun r => (∀ c : Dev Cert.FfnHead.nD,
      r.2.mem ((c.tc : Thread Cert.FfnHead.nD Cert.FfnHead.τ).loc Cert.FfnHead.main_arg0) = m ((c.tc : Thread Cert.FfnHead.nD Cert.FfnHead.τ).loc Cert.FfnHead.main_arg0)
      ∧ r.2.mem ((c.tc : Thread Cert.FfnHead.nD Cert.FfnHead.τ).loc Cert.FfnHead.main_arg1) = m ((c.tc : Thread Cert.FfnHead.nD Cert.FfnHead.τ).loc Cert.FfnHead.main_arg1)
      ∧ r.2.mem ((c.tc : Thread Cert.FfnHead.nD Cert.FfnHead.τ).loc Cert.FfnHead.main_arg2) = m ((c.tc : Thread Cert.FfnHead.nD Cert.FfnHead.τ).loc Cert.FfnHead.main_arg2)
      ∧ r.2.mem ((c.tc : Thread Cert.FfnHead.nD Cert.FfnHead.τ).loc Cert.FfnHead.main_arg3) = m ((c.tc : Thread Cert.FfnHead.nD Cert.FfnHead.τ).loc Cert.FfnHead.main_arg3)
      ∧ r.2.mem ((c.tc : Thread Cert.FfnHead.nD Cert.FfnHead.τ).loc Cert.FfnHead.main_arg4) = m ((c.tc : Thread Cert.FfnHead.nD Cert.FfnHead.τ).loc Cert.FfnHead.main_arg4)
      ∧ r.2.mem ((c.tc : Thread Cert.FfnHead.nD Cert.FfnHead.τ).loc Cert.FfnHead.main_arg5) = m ((c.tc : Thread Cert.FfnHead.nD Cert.FfnHead.τ).loc Cert.FfnHead.main_arg5)
      ∧ r.2.mem ((c.tc : Thread Cert.FfnHead.nD Cert.FfnHead.τ).loc Cert.FfnHead.main_arg6) = m ((c.tc : Thread Cert.FfnHead.nD Cert.FfnHead.τ).loc Cert.FfnHead.main_arg6))
      ∧ r.2.sem = fun _ => 0)

def quiescent_FfnHeadIdeal [hFfnHeadIdeal : Cert.FfnHeadIdeal.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4)
      ∧ r.2.mem ((c.tc : Thread Cert.FfnHeadIdeal.nD Cert.FfnHeadIdeal.τ).loc Cert.FfnHeadIdeal.main_arg5) = m ((c.tc : Thread Cert.FfnHeadIdeal.nD Cert.FfnHeadIdeal.τ).loc Cert.FfnHeadIdeal.main_arg5)
      ∧ r.2.mem ((c.tc : Thread Cert.FfnHeadIdeal.nD Cert.FfnHeadIdeal.τ).loc Cert.FfnHeadIdeal.main_arg6) = m ((c.tc : Thread Cert.FfnHeadIdeal.nD Cert.FfnHeadIdeal.τ).loc Cert.FfnHeadIdeal.main_arg6))
      ∧ r.2.sem = fun _ => 0)

def quiescent_FfnHeadIdeal_pre_finite_ffn_head [hFfnHeadIdeal : Cert.FfnHeadIdeal.Facts] [hPre_finite_ffn_head : Cert.Pre_finite_ffn_head.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg), Pre_FfnHeadIdeal_finite_ffn_head m →
    θ_run (Cert.FfnHeadIdeal.defs (F := Ideal)) (onTc (τ := Cert.FfnHeadIdeal.τ) (Cert.FfnHeadIdeal.main (F := Ideal))) ⟨m, fun _ => 0, g⟩ (fun r => (∀ c : Dev Cert.FfnHeadIdeal.nD,
      r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
      ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
      ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
      ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
      ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4)
      ∧ r.2.mem ((c.tc : Thread Cert.FfnHeadIdeal.nD Cert.FfnHeadIdeal.τ).loc Cert.FfnHeadIdeal.main_arg5) = m ((c.tc : Thread Cert.FfnHeadIdeal.nD Cert.FfnHeadIdeal.τ).loc Cert.FfnHeadIdeal.main_arg5)
      ∧ r.2.mem ((c.tc : Thread Cert.FfnHeadIdeal.nD Cert.FfnHeadIdeal.τ).loc Cert.FfnHeadIdeal.main_arg6) = m ((c.tc : Thread Cert.FfnHeadIdeal.nD Cert.FfnHeadIdeal.τ).loc Cert.FfnHeadIdeal.main_arg6))
      ∧ r.2.sem = fun _ => 0)

def quiescent_FfnHeadRefIdeal [hFfnHeadRefIdeal : Cert.FfnHeadRefIdeal.Facts] : Prop :=
  ∀ (m : (ℓ : Loc Cert.FfnHeadRefIdeal.nD Cert.FfnHeadRefIdeal.τ Cert.FfnHeadRefIdeal.sig) → Buf (Elt Ideal) ℓ) (g : Dev Cert.FfnHeadRefIdeal.nD → PrngReg), Pre_FfnHeadRefIdeal m →
    θ_run (Cert.FfnHeadRefIdeal.defs (F := Ideal)) (onTc (τ := Cert.FfnHeadRefIdeal.τ) (Cert.FfnHeadRefIdeal.main (F := Ideal))) ⟨m, fun _ => 0, g⟩ (fun r => (∀ c : Dev Cert.FfnHeadRefIdeal.nD,
      r.2.mem ((c.tc : Thread Cert.FfnHeadRefIdeal.nD Cert.FfnHeadRefIdeal.τ).loc Cert.FfnHeadRefIdeal.main_arg0) = m ((c.tc : Thread Cert.FfnHeadRefIdeal.nD Cert.FfnHeadRefIdeal.τ).loc Cert.FfnHeadRefIdeal.main_arg0)
      ∧ r.2.mem ((c.tc : Thread Cert.FfnHeadRefIdeal.nD Cert.FfnHeadRefIdeal.τ).loc Cert.FfnHeadRefIdeal.main_arg1) = m ((c.tc : Thread Cert.FfnHeadRefIdeal.nD Cert.FfnHeadRefIdeal.τ).loc Cert.FfnHeadRefIdeal.main_arg1)
      ∧ r.2.mem ((c.tc : Thread Cert.FfnHeadRefIdeal.nD Cert.FfnHeadRefIdeal.τ).loc Cert.FfnHeadRefIdeal.main_arg2) = m ((c.tc : Thread Cert.FfnHeadRefIdeal.nD Cert.FfnHeadRefIdeal.τ).loc Cert.FfnHeadRefIdeal.main_arg2)
      ∧ r.2.mem ((c.tc : Thread Cert.FfnHeadRefIdeal.nD Cert.FfnHeadRefIdeal.τ).loc Cert.FfnHeadRefIdeal.main_arg3) = m ((c.tc : Thread Cert.FfnHeadRefIdeal.nD Cert.FfnHeadRefIdeal.τ).loc Cert.FfnHeadRefIdeal.main_arg3)
      ∧ r.2.mem ((c.tc : Thread Cert.FfnHeadRefIdeal.nD Cert.FfnHeadRefIdeal.τ).loc Cert.FfnHeadRefIdeal.main_arg4) = m ((c.tc : Thread Cert.FfnHeadRefIdeal.nD Cert.FfnHeadRefIdeal.τ).loc Cert.FfnHeadRefIdeal.main_arg4)
      ∧ r.2.mem ((c.tc : Thread Cert.FfnHeadRefIdeal.nD Cert.FfnHeadRefIdeal.τ).loc Cert.FfnHeadRefIdeal.main_arg5) = m ((c.tc : Thread Cert.FfnHeadRefIdeal.nD Cert.FfnHeadRefIdeal.τ).loc Cert.FfnHeadRefIdeal.main_arg5)
      ∧ r.2.mem ((c.tc : Thread Cert.FfnHeadRefIdeal.nD Cert.FfnHeadRefIdeal.τ).loc Cert.FfnHeadRefIdeal.main_arg6) = m ((c.tc : Thread Cert.FfnHeadRefIdeal.nD Cert.FfnHeadRefIdeal.τ).loc Cert.FfnHeadRefIdeal.main_arg6))
      ∧ r.2.sem = fun _ => 0)

def quiescent_FfnHeadRefIdeal_pre_finite_ffn_head [hFfnHeadRefIdeal : Cert.FfnHeadRefIdeal.Facts] [hPre_finite_ffn_head : Cert.Pre_finite_ffn_head.Facts] : Prop :=
  ∀ (m : (ℓ : Loc Cert.FfnHeadRefIdeal.nD Cert.FfnHeadRefIdeal.τ Cert.FfnHeadRefIdeal.sig) → Buf (Elt Ideal) ℓ) (g : Dev Cert.FfnHeadRefIdeal.nD → PrngReg), Pre_FfnHeadRefIdeal_finite_ffn_head m →
    θ_run (Cert.FfnHeadRefIdeal.defs (F := Ideal)) (onTc (τ := Cert.FfnHeadRefIdeal.τ) (Cert.FfnHeadRefIdeal.main (F := Ideal))) ⟨m, fun _ => 0, g⟩ (fun r => (∀ c : Dev Cert.FfnHeadRefIdeal.nD,
      r.2.mem ((c.tc : Thread Cert.FfnHeadRefIdeal.nD Cert.FfnHeadRefIdeal.τ).loc Cert.FfnHeadRefIdeal.main_arg0) = m ((c.tc : Thread Cert.FfnHeadRefIdeal.nD Cert.FfnHeadRefIdeal.τ).loc Cert.FfnHeadRefIdeal.main_arg0)
      ∧ r.2.mem ((c.tc : Thread Cert.FfnHeadRefIdeal.nD Cert.FfnHeadRefIdeal.τ).loc Cert.FfnHeadRefIdeal.main_arg1) = m ((c.tc : Thread Cert.FfnHeadRefIdeal.nD Cert.FfnHeadRefIdeal.τ).loc Cert.FfnHeadRefIdeal.main_arg1)
      ∧ r.2.mem ((c.tc : Thread Cert.FfnHeadRefIdeal.nD Cert.FfnHeadRefIdeal.τ).loc Cert.FfnHeadRefIdeal.main_arg2) = m ((c.tc : Thread Cert.FfnHeadRefIdeal.nD Cert.FfnHeadRefIdeal.τ).loc Cert.FfnHeadRefIdeal.main_arg2)
      ∧ r.2.mem ((c.tc : Thread Cert.FfnHeadRefIdeal.nD Cert.FfnHeadRefIdeal.τ).loc Cert.FfnHeadRefIdeal.main_arg3) = m ((c.tc : Thread Cert.FfnHeadRefIdeal.nD Cert.FfnHeadRefIdeal.τ).loc Cert.FfnHeadRefIdeal.main_arg3)
      ∧ r.2.mem ((c.tc : Thread Cert.FfnHeadRefIdeal.nD Cert.FfnHeadRefIdeal.τ).loc Cert.FfnHeadRefIdeal.main_arg4) = m ((c.tc : Thread Cert.FfnHeadRefIdeal.nD Cert.FfnHeadRefIdeal.τ).loc Cert.FfnHeadRefIdeal.main_arg4)
      ∧ r.2.mem ((c.tc : Thread Cert.FfnHeadRefIdeal.nD Cert.FfnHeadRefIdeal.τ).loc Cert.FfnHeadRefIdeal.main_arg5) = m ((c.tc : Thread Cert.FfnHeadRefIdeal.nD Cert.FfnHeadRefIdeal.τ).loc Cert.FfnHeadRefIdeal.main_arg5)
      ∧ r.2.mem ((c.tc : Thread Cert.FfnHeadRefIdeal.nD Cert.FfnHeadRefIdeal.τ).loc Cert.FfnHeadRefIdeal.main_arg6) = m ((c.tc : Thread Cert.FfnHeadRefIdeal.nD Cert.FfnHeadRefIdeal.τ).loc Cert.FfnHeadRefIdeal.main_arg6))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3)
      ∧ r.2.mem ((c.tc : Thread Cert.MixFwd.nD Cert.MixFwd.τ).loc Cert.MixFwd.main_arg4) = m ((c.tc : Thread Cert.MixFwd.nD Cert.MixFwd.τ).loc Cert.MixFwd.main_arg4)
      ∧ r.2.mem ((c.tc : Thread Cert.MixFwd.nD Cert.MixFwd.τ).loc Cert.MixFwd.main_arg5) = m ((c.tc : Thread Cert.MixFwd.nD Cert.MixFwd.τ).loc Cert.MixFwd.main_arg5)
      ∧ r.2.mem ((c.tc : Thread Cert.MixFwd.nD Cert.MixFwd.τ).loc Cert.MixFwd.main_arg6) = m ((c.tc : Thread Cert.MixFwd.nD Cert.MixFwd.τ).loc Cert.MixFwd.main_arg6))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdIdeal_pre_finite_mix_fwd [hMixFwdIdeal : Cert.MixFwdIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal_finite_mix_fwd m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
      ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
      ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
      ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_MixFwdRefIdeal_pre_finite_mix_fwd [hMixFwdRefIdeal : Cert.MixFwdRefIdeal.Facts] [hPre_finite_mix_fwd : Cert.Pre_finite_mix_fwd.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal_finite_mix_fwd m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3)
      ∧ r.2.mem ((c.tc : Thread Cert.MixFwdRefIdeal.nD Cert.MixFwdRefIdeal.τ).loc Cert.MixFwdRefIdeal.main_arg4) = m ((c.tc : Thread Cert.MixFwdRefIdeal.nD Cert.MixFwdRefIdeal.τ).loc Cert.MixFwdRefIdeal.main_arg4)
      ∧ r.2.mem ((c.tc : Thread Cert.MixFwdRefIdeal.nD Cert.MixFwdRefIdeal.τ).loc Cert.MixFwdRefIdeal.main_arg5) = m ((c.tc : Thread Cert.MixFwdRefIdeal.nD Cert.MixFwdRefIdeal.τ).loc Cert.MixFwdRefIdeal.main_arg5)
      ∧ r.2.mem ((c.tc : Thread Cert.MixFwdRefIdeal.nD Cert.MixFwdRefIdeal.τ).loc Cert.MixFwdRefIdeal.main_arg6) = m ((c.tc : Thread Cert.MixFwdRefIdeal.nD Cert.MixFwdRefIdeal.τ).loc Cert.MixFwdRefIdeal.main_arg6))
      ∧ r.2.sem = fun _ => 0)

def quiescent_ActFwd [hActFwd : Cert.ActFwd.Facts] : Prop :=
  ∀ (m : (ℓ : Loc Cert.ActFwd.nD Cert.ActFwd.τ Cert.ActFwd.sig) → Buf (Elt Bits) ℓ) (g : Dev Cert.ActFwd.nD → PrngReg), Pre_ActFwd m →
    θ_run (Cert.ActFwd.defs (F := Bits)) (onTc (τ := Cert.ActFwd.τ) (Cert.ActFwd.main (F := Bits))) ⟨m, fun _ => 0, g⟩ (fun r => (∀ c : Dev Cert.ActFwd.nD,
      r.2.mem ((c.tc : Thread Cert.ActFwd.nD Cert.ActFwd.τ).loc Cert.ActFwd.main_arg0) = m ((c.tc : Thread Cert.ActFwd.nD Cert.ActFwd.τ).loc Cert.ActFwd.main_arg0)
      ∧ r.2.mem ((c.tc : Thread Cert.ActFwd.nD Cert.ActFwd.τ).loc Cert.ActFwd.main_arg1) = m ((c.tc : Thread Cert.ActFwd.nD Cert.ActFwd.τ).loc Cert.ActFwd.main_arg1)
      ∧ r.2.mem ((c.tc : Thread Cert.ActFwd.nD Cert.ActFwd.τ).loc Cert.ActFwd.main_arg2) = m ((c.tc : Thread Cert.ActFwd.nD Cert.ActFwd.τ).loc Cert.ActFwd.main_arg2)
      ∧ r.2.mem ((c.tc : Thread Cert.ActFwd.nD Cert.ActFwd.τ).loc Cert.ActFwd.main_arg3) = m ((c.tc : Thread Cert.ActFwd.nD Cert.ActFwd.τ).loc Cert.ActFwd.main_arg3))
      ∧ r.2.sem = fun _ => 0)

def quiescent_ActFwdIdeal [hActFwdIdeal : Cert.ActFwdIdeal.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
      ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2)
      ∧ r.2.mem ((c.tc : Thread Cert.ActFwdIdeal.nD Cert.ActFwdIdeal.τ).loc Cert.ActFwdIdeal.main_arg3) = m ((c.tc : Thread Cert.ActFwdIdeal.nD Cert.ActFwdIdeal.τ).loc Cert.ActFwdIdeal.main_arg3))
      ∧ r.2.sem = fun _ => 0)

def quiescent_ActFwdIdeal_pre_finite_act_fwd [hActFwdIdeal : Cert.ActFwdIdeal.Facts] [hPre_finite_act_fwd : Cert.Pre_finite_act_fwd.Facts] : Prop :=
  ∀ (m : (ℓ : Loc Cert.ActFwdIdeal.nD Cert.ActFwdIdeal.τ Cert.ActFwdIdeal.sig) → Buf (Elt Ideal) ℓ) (g : Dev Cert.ActFwdIdeal.nD → PrngReg), Pre_ActFwdIdeal_finite_act_fwd m →
    θ_run (Cert.ActFwdIdeal.defs (F := Ideal)) (onTc (τ := Cert.ActFwdIdeal.τ) (Cert.ActFwdIdeal.main (F := Ideal))) ⟨m, fun _ => 0, g⟩ (fun r => (∀ c : Dev Cert.ActFwdIdeal.nD,
      r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
      ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
      ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2)
      ∧ r.2.mem ((c.tc : Thread Cert.ActFwdIdeal.nD Cert.ActFwdIdeal.τ).loc Cert.ActFwdIdeal.main_arg3) = m ((c.tc : Thread Cert.ActFwdIdeal.nD Cert.ActFwdIdeal.τ).loc Cert.ActFwdIdeal.main_arg3))
      ∧ r.2.sem = fun _ => 0)

def quiescent_ActFwdRefIdeal [hActFwdRefIdeal : Cert.ActFwdRefIdeal.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1)
      ∧ r.2.mem ((c.tc : Thread Cert.ActFwdRefIdeal.nD Cert.ActFwdRefIdeal.τ).loc Cert.ActFwdRefIdeal.main_arg2) = m ((c.tc : Thread Cert.ActFwdRefIdeal.nD Cert.ActFwdRefIdeal.τ).loc Cert.ActFwdRefIdeal.main_arg2)
      ∧ r.2.mem ((c.tc : Thread Cert.ActFwdRefIdeal.nD Cert.ActFwdRefIdeal.τ).loc Cert.ActFwdRefIdeal.main_arg3) = m ((c.tc : Thread Cert.ActFwdRefIdeal.nD Cert.ActFwdRefIdeal.τ).loc Cert.ActFwdRefIdeal.main_arg3))
      ∧ r.2.sem = fun _ => 0)

def quiescent_ActFwdRefIdeal_pre_finite_act_fwd [hActFwdRefIdeal : Cert.ActFwdRefIdeal.Facts] [hPre_finite_act_fwd : Cert.Pre_finite_act_fwd.Facts] : Prop :=
  ∀ (m : (ℓ : Loc Cert.ActFwdRefIdeal.nD Cert.ActFwdRefIdeal.τ Cert.ActFwdRefIdeal.sig) → Buf (Elt Ideal) ℓ) (g : Dev Cert.ActFwdRefIdeal.nD → PrngReg), Pre_ActFwdRefIdeal_finite_act_fwd m →
    θ_run (Cert.ActFwdRefIdeal.defs (F := Ideal)) (onTc (τ := Cert.ActFwdRefIdeal.τ) (Cert.ActFwdRefIdeal.main (F := Ideal))) ⟨m, fun _ => 0, g⟩ (fun r => (∀ c : Dev Cert.ActFwdRefIdeal.nD,
      r.2.mem ((c.tc : Thread Cert.ActFwdRefIdeal.nD Cert.ActFwdRefIdeal.τ).loc Cert.ActFwdRefIdeal.main_arg0) = m ((c.tc : Thread Cert.ActFwdRefIdeal.nD Cert.ActFwdRefIdeal.τ).loc Cert.ActFwdRefIdeal.main_arg0)
      ∧ r.2.mem ((c.tc : Thread Cert.ActFwdRefIdeal.nD Cert.ActFwdRefIdeal.τ).loc Cert.ActFwdRefIdeal.main_arg1) = m ((c.tc : Thread Cert.ActFwdRefIdeal.nD Cert.ActFwdRefIdeal.τ).loc Cert.ActFwdRefIdeal.main_arg1)
      ∧ r.2.mem ((c.tc : Thread Cert.ActFwdRefIdeal.nD Cert.ActFwdRefIdeal.τ).loc Cert.ActFwdRefIdeal.main_arg2) = m ((c.tc : Thread Cert.ActFwdRefIdeal.nD Cert.ActFwdRefIdeal.τ).loc Cert.ActFwdRefIdeal.main_arg2)
      ∧ r.2.mem ((c.tc : Thread Cert.ActFwdRefIdeal.nD Cert.ActFwdRefIdeal.τ).loc Cert.ActFwdRefIdeal.main_arg3) = m ((c.tc : Thread Cert.ActFwdRefIdeal.nD Cert.ActFwdRefIdeal.τ).loc Cert.ActFwdRefIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_InDx_InDxIdeal : Prop :=
  True

def algebraic_InDxIdeal_InDxRefIdeal_pre_finite_in_dx [hInDxIdeal : Cert.InDxIdeal.Facts] [hInDxRefIdeal : Cert.InDxRefIdeal.Facts] [hPre_finite_in_dx : Cert.Pre_finite_in_dx.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_finite_in_dx m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)
      ∧ m' ((c.tc : Thread Cert.InDxRefIdeal.nD Cert.InDxRefIdeal.τ).loc Cert.InDxRefIdeal.main_arg7) = m ((c.tc : Thread Cert.InDxIdeal.nD Cert.InDxIdeal.τ).loc Cert.InDxIdeal.main_arg7)
      ∧ m' ((c.tc : Thread Cert.InDxRefIdeal.nD Cert.InDxRefIdeal.τ).loc Cert.InDxRefIdeal.main_arg8) = m ((c.tc : Thread Cert.InDxIdeal.nD Cert.InDxIdeal.τ).loc Cert.InDxIdeal.main_arg8)
      ∧ m' ((c.tc : Thread Cert.InDxRefIdeal.nD Cert.InDxRefIdeal.τ).loc Cert.InDxRefIdeal.main_arg9) = m ((c.tc : Thread Cert.InDxIdeal.nD Cert.InDxIdeal.τ).loc Cert.InDxIdeal.main_arg9)
      ∧ m' ((c.tc : Thread Cert.InDxRefIdeal.nD Cert.InDxRefIdeal.τ).loc Cert.InDxRefIdeal.main_arg10) = m ((c.tc : Thread Cert.InDxIdeal.nD Cert.InDxIdeal.τ).loc Cert.InDxIdeal.main_arg10)) →
    ∃ (v0 : (c : Dev Cert.InDxIdeal.nD) → Buf (Elt Ideal) ((c.tc : Thread Cert.InDxIdeal.nD Cert.InDxIdeal.τ).loc Cert.InDxIdeal.main_v5_0)) (v1 : (c : Dev Cert.InDxIdeal.nD) → Buf (Elt Ideal) ((c.tc : Thread Cert.InDxIdeal.nD Cert.InDxIdeal.τ).loc Cert.InDxIdeal.main_v5_1)) (v2 : (c : Dev Cert.InDxIdeal.nD) → Buf (Elt Ideal) ((c.tc : Thread Cert.InDxIdeal.nD Cert.InDxIdeal.τ).loc Cert.InDxIdeal.main_v5_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v5_0) = v0 c
          ∧ r.2.mem ((c.tc : Thread Cert.InDxIdeal.nD Cert.InDxIdeal.τ).loc Cert.InDxIdeal.main_v5_1) = v1 c
          ∧ r.2.mem ((c.tc : Thread Cert.InDxIdeal.nD Cert.InDxIdeal.τ).loc Cert.InDxIdeal.main_v5_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6)
          ∧ r.2.mem ((c.tc : Thread Cert.InDxIdeal.nD Cert.InDxIdeal.τ).loc Cert.InDxIdeal.main_arg7) = m ((c.tc : Thread Cert.InDxIdeal.nD Cert.InDxIdeal.τ).loc Cert.InDxIdeal.main_arg7)
          ∧ r.2.mem ((c.tc : Thread Cert.InDxIdeal.nD Cert.InDxIdeal.τ).loc Cert.InDxIdeal.main_arg8) = m ((c.tc : Thread Cert.InDxIdeal.nD Cert.InDxIdeal.τ).loc Cert.InDxIdeal.main_arg8)
          ∧ r.2.mem ((c.tc : Thread Cert.InDxIdeal.nD Cert.InDxIdeal.τ).loc Cert.InDxIdeal.main_arg9) = m ((c.tc : Thread Cert.InDxIdeal.nD Cert.InDxIdeal.τ).loc Cert.InDxIdeal.main_arg9)
          ∧ r.2.mem ((c.tc : Thread Cert.InDxIdeal.nD Cert.InDxIdeal.τ).loc Cert.InDxIdeal.main_arg10) = m ((c.tc : Thread Cert.InDxIdeal.nD Cert.InDxIdeal.τ).loc Cert.InDxIdeal.main_arg10))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v44) = v0 c
          ∧ r.2.mem ((c.tc : Thread Cert.InDxRefIdeal.nD Cert.InDxRefIdeal.τ).loc Cert.InDxRefIdeal.main_v27) = v1 c
          ∧ r.2.mem ((c.tc : Thread Cert.InDxRefIdeal.nD Cert.InDxRefIdeal.τ).loc Cert.InDxRefIdeal.main_v47) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6)
          ∧ r.2.mem ((c.tc : Thread Cert.InDxRefIdeal.nD Cert.InDxRefIdeal.τ).loc Cert.InDxRefIdeal.main_arg7) = m' ((c.tc : Thread Cert.InDxRefIdeal.nD Cert.InDxRefIdeal.τ).loc Cert.InDxRefIdeal.main_arg7)
          ∧ r.2.mem ((c.tc : Thread Cert.InDxRefIdeal.nD Cert.InDxRefIdeal.τ).loc Cert.InDxRefIdeal.main_arg8) = m' ((c.tc : Thread Cert.InDxRefIdeal.nD Cert.InDxRefIdeal.τ).loc Cert.InDxRefIdeal.main_arg8)
          ∧ r.2.mem ((c.tc : Thread Cert.InDxRefIdeal.nD Cert.InDxRefIdeal.τ).loc Cert.InDxRefIdeal.main_arg9) = m' ((c.tc : Thread Cert.InDxRefIdeal.nD Cert.InDxRefIdeal.τ).loc Cert.InDxRefIdeal.main_arg9)
          ∧ r.2.mem ((c.tc : Thread Cert.InDxRefIdeal.nD Cert.InDxRefIdeal.τ).loc Cert.InDxRefIdeal.main_arg10) = m' ((c.tc : Thread Cert.InDxRefIdeal.nD Cert.InDxRefIdeal.τ).loc Cert.InDxRefIdeal.main_arg10))

def preserves_SbBwd_SbBwdIdeal : Prop :=
  True

def algebraic_SbBwdIdeal_SbBwdRefIdeal_pre_finite_sb_bwd [hSbBwdIdeal : Cert.SbBwdIdeal.Facts] [hSbBwdRefIdeal : Cert.SbBwdRefIdeal.Facts] [hPre_finite_sb_bwd : Cert.Pre_finite_sb_bwd.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbBwdRefIdeal.nD Cert.SbBwdRefIdeal.τ Cert.SbBwdRefIdeal.sig) → Buf (Elt Ideal) ℓ) (g' : Dev Cert.SbBwdRefIdeal.nD → PrngReg), Pre_SbBwdIdeal_finite_sb_bwd m →
    (∀ c : Dev Cert.SbBwdIdeal.nD,
      m' ((c.tc : Thread Cert.SbBwdRefIdeal.nD Cert.SbBwdRefIdeal.τ).loc Cert.SbBwdRefIdeal.main_arg0) = m ((c.tc : Thread Cert.SbBwdIdeal.nD Cert.SbBwdIdeal.τ).loc Cert.SbBwdIdeal.main_arg0)
      ∧ m' ((c.tc : Thread Cert.SbBwdRefIdeal.nD Cert.SbBwdRefIdeal.τ).loc Cert.SbBwdRefIdeal.main_arg1) = m ((c.tc : Thread Cert.SbBwdIdeal.nD Cert.SbBwdIdeal.τ).loc Cert.SbBwdIdeal.main_arg1)
      ∧ m' ((c.tc : Thread Cert.SbBwdRefIdeal.nD Cert.SbBwdRefIdeal.τ).loc Cert.SbBwdRefIdeal.main_arg2) = m ((c.tc : Thread Cert.SbBwdIdeal.nD Cert.SbBwdIdeal.τ).loc Cert.SbBwdIdeal.main_arg2)
      ∧ m' ((c.tc : Thread Cert.SbBwdRefIdeal.nD Cert.SbBwdRefIdeal.τ).loc Cert.SbBwdRefIdeal.main_arg3) = m ((c.tc : Thread Cert.SbBwdIdeal.nD Cert.SbBwdIdeal.τ).loc Cert.SbBwdIdeal.main_arg3)
      ∧ m' ((c.tc : Thread Cert.SbBwdRefIdeal.nD Cert.SbBwdRefIdeal.τ).loc Cert.SbBwdRefIdeal.main_arg4) = m ((c.tc : Thread Cert.SbBwdIdeal.nD Cert.SbBwdIdeal.τ).loc Cert.SbBwdIdeal.main_arg4)) →
    ∃ (v0 : (c : Dev Cert.SbBwdIdeal.nD) → Buf (Elt Ideal) ((c.tc : Thread Cert.SbBwdIdeal.nD Cert.SbBwdIdeal.τ).loc Cert.SbBwdIdeal.main_v27_0)) (v1 : (c : Dev Cert.SbBwdIdeal.nD) → Buf (Elt Ideal) ((c.tc : Thread Cert.SbBwdIdeal.nD Cert.SbBwdIdeal.τ).loc Cert.SbBwdIdeal.main_v27_1)) (v2 : (c : Dev Cert.SbBwdIdeal.nD) → Buf (Elt Ideal) ((c.tc : Thread Cert.SbBwdIdeal.nD Cert.SbBwdIdeal.τ).loc Cert.SbBwdIdeal.main_v27_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v27_0) = v0 c
          ∧ r.2.mem ((c.tc : Thread Cert.SbBwdIdeal.nD Cert.SbBwdIdeal.τ).loc Cert.SbBwdIdeal.main_v27_1) = v1 c
          ∧ r.2.mem ((c.tc : Thread Cert.SbBwdIdeal.nD Cert.SbBwdIdeal.τ).loc Cert.SbBwdIdeal.main_v27_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
          ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
          ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3)
          ∧ r.2.mem ((c.tc : Thread Cert.SbBwdIdeal.nD Cert.SbBwdIdeal.τ).loc Cert.SbBwdIdeal.main_arg4) = m ((c.tc : Thread Cert.SbBwdIdeal.nD Cert.SbBwdIdeal.τ).loc Cert.SbBwdIdeal.main_arg4))
      ∧ θ_run (Cert.SbBwdRefIdeal.defs (F := Ideal)) (onTc (τ := Cert.SbBwdRefIdeal.τ) (Cert.SbBwdRefIdeal.main (F := Ideal))) ⟨m', fun _ => 0, g'⟩ (fun r => ∀ c : Dev Cert.SbBwdRefIdeal.nD,
          r.2.mem ((c.tc : Thread Cert.SbBwdRefIdeal.nD Cert.SbBwdRefIdeal.τ).loc Cert.SbBwdRefIdeal.main_v52) = v0 c
          ∧ r.2.mem ((c.tc : Thread Cert.SbBwdRefIdeal.nD Cert.SbBwdRefIdeal.τ).loc Cert.SbBwdRefIdeal.main_v49) = v1 c
          ∧ r.2.mem ((c.tc : Thread Cert.SbBwdRefIdeal.nD Cert.SbBwdRefIdeal.τ).loc Cert.SbBwdRefIdeal.main_v33) = v2 c
          ∧ r.2.mem ((c.tc : Thread Cert.SbBwdRefIdeal.nD Cert.SbBwdRefIdeal.τ).loc Cert.SbBwdRefIdeal.main_arg0) = m' ((c.tc : Thread Cert.SbBwdRefIdeal.nD Cert.SbBwdRefIdeal.τ).loc Cert.SbBwdRefIdeal.main_arg0)
          ∧ r.2.mem ((c.tc : Thread Cert.SbBwdRefIdeal.nD Cert.SbBwdRefIdeal.τ).loc Cert.SbBwdRefIdeal.main_arg1) = m' ((c.tc : Thread Cert.SbBwdRefIdeal.nD Cert.SbBwdRefIdeal.τ).loc Cert.SbBwdRefIdeal.main_arg1)
          ∧ r.2.mem ((c.tc : Thread Cert.SbBwdRefIdeal.nD Cert.SbBwdRefIdeal.τ).loc Cert.SbBwdRefIdeal.main_arg2) = m' ((c.tc : Thread Cert.SbBwdRefIdeal.nD Cert.SbBwdRefIdeal.τ).loc Cert.SbBwdRefIdeal.main_arg2)
          ∧ r.2.mem ((c.tc : Thread Cert.SbBwdRefIdeal.nD Cert.SbBwdRefIdeal.τ).loc Cert.SbBwdRefIdeal.main_arg3) = m' ((c.tc : Thread Cert.SbBwdRefIdeal.nD Cert.SbBwdRefIdeal.τ).loc Cert.SbBwdRefIdeal.main_arg3)
          ∧ r.2.mem ((c.tc : Thread Cert.SbBwdRefIdeal.nD Cert.SbBwdRefIdeal.τ).loc Cert.SbBwdRefIdeal.main_arg4) = m' ((c.tc : Thread Cert.SbBwdRefIdeal.nD Cert.SbBwdRefIdeal.τ).loc Cert.SbBwdRefIdeal.main_arg4))

def preserves_FfnIn_FfnInIdeal : Prop :=
  True

def algebraic_FfnInIdeal_FfnInRefIdeal_pre_finite_ffn_in [hFfnInIdeal : Cert.FfnInIdeal.Facts] [hFfnInRefIdeal : Cert.FfnInRefIdeal.Facts] [hPre_finite_ffn_in : Cert.Pre_finite_ffn_in.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_finite_ffn_in m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)
      ∧ m' ((c.tc : Thread Cert.FfnInRefIdeal.nD Cert.FfnInRefIdeal.τ).loc Cert.FfnInRefIdeal.main_arg6) = m ((c.tc : Thread Cert.FfnInIdeal.nD Cert.FfnInIdeal.τ).loc Cert.FfnInIdeal.main_arg6)) →
    ∃ (v0 : (c : Dev Cert.FfnInIdeal.nD) → Buf (Elt Ideal) ((c.tc : Thread Cert.FfnInIdeal.nD Cert.FfnInIdeal.τ).loc Cert.FfnInIdeal.main_v4_0)) (v1 : (c : Dev Cert.FfnInIdeal.nD) → Buf (Elt Ideal) ((c.tc : Thread Cert.FfnInIdeal.nD Cert.FfnInIdeal.τ).loc Cert.FfnInIdeal.main_v4_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v4_0) = v0 c
          ∧ r.2.mem ((c.tc : Thread Cert.FfnInIdeal.nD Cert.FfnInIdeal.τ).loc Cert.FfnInIdeal.main_v4_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v45) = v0 c
          ∧ r.2.mem ((c.tc : Thread Cert.FfnInRefIdeal.nD Cert.FfnInRefIdeal.τ).loc Cert.FfnInRefIdeal.main_v28) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5)
          ∧ r.2.mem ((c.tc : Thread Cert.FfnInRefIdeal.nD Cert.FfnInRefIdeal.τ).loc Cert.FfnInRefIdeal.main_arg6) = m' ((c.tc : Thread Cert.FfnInRefIdeal.nD Cert.FfnInRefIdeal.τ).loc Cert.FfnInRefIdeal.main_arg6))

def preserves_FfnAct_FfnActIdeal : Prop :=
  True

def algebraic_FfnActIdeal_FfnActRefIdeal_pre_finite_ffn_act [hFfnActIdeal : Cert.FfnActIdeal.Facts] [hFfnActRefIdeal : Cert.FfnActRefIdeal.Facts] [hPre_finite_ffn_act : Cert.Pre_finite_ffn_act.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_finite_ffn_act m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)
      ∧ m' ((c.tc : Thread Cert.FfnActRefIdeal.nD Cert.FfnActRefIdeal.τ).loc Cert.FfnActRefIdeal.main_arg5) = m ((c.tc : Thread Cert.FfnActIdeal.nD Cert.FfnActIdeal.τ).loc Cert.FfnActIdeal.main_arg5)) →
    ∃ (v0 : (c : Dev Cert.FfnActIdeal.nD) → Buf (Elt Ideal) ((c.tc : Thread Cert.FfnActIdeal.nD Cert.FfnActIdeal.τ).loc Cert.FfnActIdeal.main_v26_0)) (v1 : (c : Dev Cert.FfnActIdeal.nD) → Buf (Elt Ideal) ((c.tc : Thread Cert.FfnActIdeal.nD Cert.FfnActIdeal.τ).loc Cert.FfnActIdeal.main_v26_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v26_0) = v0 c
          ∧ r.2.mem ((c.tc : Thread Cert.FfnActIdeal.nD Cert.FfnActIdeal.τ).loc Cert.FfnActIdeal.main_v26_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4)
          ∧ r.2.mem ((c.tc : Thread Cert.FfnActIdeal.nD Cert.FfnActIdeal.τ).loc Cert.FfnActIdeal.main_arg5) = m ((c.tc : Thread Cert.FfnActIdeal.nD Cert.FfnActIdeal.τ).loc Cert.FfnActIdeal.main_arg5))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v27) = v0 c
          ∧ r.2.mem ((c.tc : Thread Cert.FfnActRefIdeal.nD Cert.FfnActRefIdeal.τ).loc Cert.FfnActRefIdeal.main_v28) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4)
          ∧ r.2.mem ((c.tc : Thread Cert.FfnActRefIdeal.nD Cert.FfnActRefIdeal.τ).loc Cert.FfnActRefIdeal.main_arg5) = m' ((c.tc : Thread Cert.FfnActRefIdeal.nD Cert.FfnActRefIdeal.τ).loc Cert.FfnActRefIdeal.main_arg5))

def preserves_MixBwd_MixBwdIdeal : Prop :=
  True

def algebraic_MixBwdIdeal_MixBwdRefIdeal_pre_finite_mix_bwd [hMixBwdIdeal : Cert.MixBwdIdeal.Facts] [hMixBwdRefIdeal : Cert.MixBwdRefIdeal.Facts] [hPre_finite_mix_bwd : Cert.Pre_finite_mix_bwd.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixBwdRefIdeal.nD Cert.MixBwdRefIdeal.τ Cert.MixBwdRefIdeal.sig) → Buf (Elt Ideal) ℓ) (g' : Dev Cert.MixBwdRefIdeal.nD → PrngReg), Pre_MixBwdIdeal_finite_mix_bwd m →
    (∀ c : Dev Cert.MixBwdIdeal.nD,
      m' ((c.tc : Thread Cert.MixBwdRefIdeal.nD Cert.MixBwdRefIdeal.τ).loc Cert.MixBwdRefIdeal.main_arg0) = m ((c.tc : Thread Cert.MixBwdIdeal.nD Cert.MixBwdIdeal.τ).loc Cert.MixBwdIdeal.main_arg0)
      ∧ m' ((c.tc : Thread Cert.MixBwdRefIdeal.nD Cert.MixBwdRefIdeal.τ).loc Cert.MixBwdRefIdeal.main_arg1) = m ((c.tc : Thread Cert.MixBwdIdeal.nD Cert.MixBwdIdeal.τ).loc Cert.MixBwdIdeal.main_arg1)
      ∧ m' ((c.tc : Thread Cert.MixBwdRefIdeal.nD Cert.MixBwdRefIdeal.τ).loc Cert.MixBwdRefIdeal.main_arg2) = m ((c.tc : Thread Cert.MixBwdIdeal.nD Cert.MixBwdIdeal.τ).loc Cert.MixBwdIdeal.main_arg2)
      ∧ m' ((c.tc : Thread Cert.MixBwdRefIdeal.nD Cert.MixBwdRefIdeal.τ).loc Cert.MixBwdRefIdeal.main_arg3) = m ((c.tc : Thread Cert.MixBwdIdeal.nD Cert.MixBwdIdeal.τ).loc Cert.MixBwdIdeal.main_arg3)
      ∧ m' ((c.tc : Thread Cert.MixBwdRefIdeal.nD Cert.MixBwdRefIdeal.τ).loc Cert.MixBwdRefIdeal.main_arg4) = m ((c.tc : Thread Cert.MixBwdIdeal.nD Cert.MixBwdIdeal.τ).loc Cert.MixBwdIdeal.main_arg4)
      ∧ m' ((c.tc : Thread Cert.MixBwdRefIdeal.nD Cert.MixBwdRefIdeal.τ).loc Cert.MixBwdRefIdeal.main_arg5) = m ((c.tc : Thread Cert.MixBwdIdeal.nD Cert.MixBwdIdeal.τ).loc Cert.MixBwdIdeal.main_arg5)
      ∧ m' ((c.tc : Thread Cert.MixBwdRefIdeal.nD Cert.MixBwdRefIdeal.τ).loc Cert.MixBwdRefIdeal.main_arg6) = m ((c.tc : Thread Cert.MixBwdIdeal.nD Cert.MixBwdIdeal.τ).loc Cert.MixBwdIdeal.main_arg6)) →
    ∃ (v0 : (c : Dev Cert.MixBwdIdeal.nD) → Buf (Elt Ideal) ((c.tc : Thread Cert.MixBwdIdeal.nD Cert.MixBwdIdeal.τ).loc Cert.MixBwdIdeal.main_v1_0)) (v1 : (c : Dev Cert.MixBwdIdeal.nD) → Buf (Elt Ideal) ((c.tc : Thread Cert.MixBwdIdeal.nD Cert.MixBwdIdeal.τ).loc Cert.MixBwdIdeal.main_v1_1)) (v2 : (c : Dev Cert.MixBwdIdeal.nD) → Buf (Elt Ideal) ((c.tc : Thread Cert.MixBwdIdeal.nD Cert.MixBwdIdeal.τ).loc Cert.MixBwdIdeal.main_v1_2)) (v3 : (c : Dev Cert.MixBwdIdeal.nD) → Buf (Elt Ideal) ((c.tc : Thread Cert.MixBwdIdeal.nD Cert.MixBwdIdeal.τ).loc Cert.MixBwdIdeal.main_v1_3)) (v4 : (c : Dev Cert.MixBwdIdeal.nD) → Buf (Elt Ideal) ((c.tc : Thread Cert.MixBwdIdeal.nD Cert.MixBwdIdeal.τ).loc Cert.MixBwdIdeal.main_v1_4)) (v5 : (c : Dev Cert.MixBwdIdeal.nD) → Buf (Elt Ideal) ((c.tc : Thread Cert.MixBwdIdeal.nD Cert.MixBwdIdeal.τ).loc Cert.MixBwdIdeal.main_v1_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v1_0) = v0 c
          ∧ r.2.mem ((c.tc : Thread Cert.MixBwdIdeal.nD Cert.MixBwdIdeal.τ).loc Cert.MixBwdIdeal.main_v1_1) = v1 c
          ∧ r.2.mem ((c.tc : Thread Cert.MixBwdIdeal.nD Cert.MixBwdIdeal.τ).loc Cert.MixBwdIdeal.main_v1_2) = v2 c
          ∧ r.2.mem ((c.tc : Thread Cert.MixBwdIdeal.nD Cert.MixBwdIdeal.τ).loc Cert.MixBwdIdeal.main_v1_3) = v3 c
          ∧ r.2.mem ((c.tc : Thread Cert.MixBwdIdeal.nD Cert.MixBwdIdeal.τ).loc Cert.MixBwdIdeal.main_v1_4) = v4 c
          ∧ r.2.mem ((c.tc : Thread Cert.MixBwdIdeal.nD Cert.MixBwdIdeal.τ).loc Cert.MixBwdIdeal.main_v1_5) = v5 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6))
      ∧ θ_run (Cert.MixBwdRefIdeal.defs (F := Ideal)) (onTc (τ := Cert.MixBwdRefIdeal.τ) (Cert.MixBwdRefIdeal.main (F := Ideal))) ⟨m', fun _ => 0, g'⟩ (fun r => ∀ c : Dev Cert.MixBwdRefIdeal.nD,
          r.2.mem ((c.tc : Thread Cert.MixBwdRefIdeal.nD Cert.MixBwdRefIdeal.τ).loc Cert.MixBwdRefIdeal.main_v88) = v0 c
          ∧ r.2.mem ((c.tc : Thread Cert.MixBwdRefIdeal.nD Cert.MixBwdRefIdeal.τ).loc Cert.MixBwdRefIdeal.main_v67) = v1 c
          ∧ r.2.mem ((c.tc : Thread Cert.MixBwdRefIdeal.nD Cert.MixBwdRefIdeal.τ).loc Cert.MixBwdRefIdeal.main_v89) = v2 c
          ∧ r.2.mem ((c.tc : Thread Cert.MixBwdRefIdeal.nD Cert.MixBwdRefIdeal.τ).loc Cert.MixBwdRefIdeal.main_v70) = v3 c
          ∧ r.2.mem ((c.tc : Thread Cert.MixBwdRefIdeal.nD Cert.MixBwdRefIdeal.τ).loc Cert.MixBwdRefIdeal.main_v49) = v4 c
          ∧ r.2.mem ((c.tc : Thread Cert.MixBwdRefIdeal.nD Cert.MixBwdRefIdeal.τ).loc Cert.MixBwdRefIdeal.main_v90) = v5 c
          ∧ r.2.mem ((c.tc : Thread Cert.MixBwdRefIdeal.nD Cert.MixBwdRefIdeal.τ).loc Cert.MixBwdRefIdeal.main_arg0) = m' ((c.tc : Thread Cert.MixBwdRefIdeal.nD Cert.MixBwdRefIdeal.τ).loc Cert.MixBwdRefIdeal.main_arg0)
          ∧ r.2.mem ((c.tc : Thread Cert.MixBwdRefIdeal.nD Cert.MixBwdRefIdeal.τ).loc Cert.MixBwdRefIdeal.main_arg1) = m' ((c.tc : Thread Cert.MixBwdRefIdeal.nD Cert.MixBwdRefIdeal.τ).loc Cert.MixBwdRefIdeal.main_arg1)
          ∧ r.2.mem ((c.tc : Thread Cert.MixBwdRefIdeal.nD Cert.MixBwdRefIdeal.τ).loc Cert.MixBwdRefIdeal.main_arg2) = m' ((c.tc : Thread Cert.MixBwdRefIdeal.nD Cert.MixBwdRefIdeal.τ).loc Cert.MixBwdRefIdeal.main_arg2)
          ∧ r.2.mem ((c.tc : Thread Cert.MixBwdRefIdeal.nD Cert.MixBwdRefIdeal.τ).loc Cert.MixBwdRefIdeal.main_arg3) = m' ((c.tc : Thread Cert.MixBwdRefIdeal.nD Cert.MixBwdRefIdeal.τ).loc Cert.MixBwdRefIdeal.main_arg3)
          ∧ r.2.mem ((c.tc : Thread Cert.MixBwdRefIdeal.nD Cert.MixBwdRefIdeal.τ).loc Cert.MixBwdRefIdeal.main_arg4) = m' ((c.tc : Thread Cert.MixBwdRefIdeal.nD Cert.MixBwdRefIdeal.τ).loc Cert.MixBwdRefIdeal.main_arg4)
          ∧ r.2.mem ((c.tc : Thread Cert.MixBwdRefIdeal.nD Cert.MixBwdRefIdeal.τ).loc Cert.MixBwdRefIdeal.main_arg5) = m' ((c.tc : Thread Cert.MixBwdRefIdeal.nD Cert.MixBwdRefIdeal.τ).loc Cert.MixBwdRefIdeal.main_arg5)
          ∧ r.2.mem ((c.tc : Thread Cert.MixBwdRefIdeal.nD Cert.MixBwdRefIdeal.τ).loc Cert.MixBwdRefIdeal.main_arg6) = m' ((c.tc : Thread Cert.MixBwdRefIdeal.nD Cert.MixBwdRefIdeal.τ).loc Cert.MixBwdRefIdeal.main_arg6))

def preserves_FfnBwd_FfnBwdIdeal : Prop :=
  True

def algebraic_FfnBwdIdeal_FfnBwdRefIdeal_pre_finite_ffn_act [hFfnBwdIdeal : Cert.FfnBwdIdeal.Facts] [hFfnBwdRefIdeal : Cert.FfnBwdRefIdeal.Facts] [hPre_finite_ffn_act : Cert.Pre_finite_ffn_act.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn_act m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v22_0)) (v1 : (c : Dev Cert.FfnBwdIdeal.nD) → Buf (Elt Ideal) ((c.tc : Thread Cert.FfnBwdIdeal.nD Cert.FfnBwdIdeal.τ).loc Cert.FfnBwdIdeal.main_v22_1)) (v2 : (c : Dev Cert.FfnBwdIdeal.nD) → Buf (Elt Ideal) ((c.tc : Thread Cert.FfnBwdIdeal.nD Cert.FfnBwdIdeal.τ).loc Cert.FfnBwdIdeal.main_v22_2)) (v3 : (c : Dev Cert.FfnBwdIdeal.nD) → Buf (Elt Ideal) ((c.tc : Thread Cert.FfnBwdIdeal.nD Cert.FfnBwdIdeal.τ).loc Cert.FfnBwdIdeal.main_v22_3)) (v4 : (c : Dev Cert.FfnBwdIdeal.nD) → Buf (Elt Ideal) ((c.tc : Thread Cert.FfnBwdIdeal.nD Cert.FfnBwdIdeal.τ).loc Cert.FfnBwdIdeal.main_v22_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v22_0) = v0 c
          ∧ r.2.mem ((c.tc : Thread Cert.FfnBwdIdeal.nD Cert.FfnBwdIdeal.τ).loc Cert.FfnBwdIdeal.main_v22_1) = v1 c
          ∧ r.2.mem ((c.tc : Thread Cert.FfnBwdIdeal.nD Cert.FfnBwdIdeal.τ).loc Cert.FfnBwdIdeal.main_v22_2) = v2 c
          ∧ r.2.mem ((c.tc : Thread Cert.FfnBwdIdeal.nD Cert.FfnBwdIdeal.τ).loc Cert.FfnBwdIdeal.main_v22_3) = v3 c
          ∧ r.2.mem ((c.tc : Thread Cert.FfnBwdIdeal.nD Cert.FfnBwdIdeal.τ).loc Cert.FfnBwdIdeal.main_v22_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v58) = v0 c
          ∧ r.2.mem ((c.tc : Thread Cert.FfnBwdRefIdeal.nD Cert.FfnBwdRefIdeal.τ).loc Cert.FfnBwdRefIdeal.main_v41) = v1 c
          ∧ r.2.mem ((c.tc : Thread Cert.FfnBwdRefIdeal.nD Cert.FfnBwdRefIdeal.τ).loc Cert.FfnBwdRefIdeal.main_v86) = v2 c
          ∧ r.2.mem ((c.tc : Thread Cert.FfnBwdRefIdeal.nD Cert.FfnBwdRefIdeal.τ).loc Cert.FfnBwdRefIdeal.main_v87) = v3 c
          ∧ r.2.mem ((c.tc : Thread Cert.FfnBwdRefIdeal.nD Cert.FfnBwdRefIdeal.τ).loc Cert.FfnBwdRefIdeal.main_v90) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5))

def preserves_FfnHead_FfnHeadIdeal : Prop :=
  True

def algebraic_FfnHeadIdeal_FfnHeadRefIdeal_pre_finite_ffn_head [hFfnHeadIdeal : Cert.FfnHeadIdeal.Facts] [hFfnHeadRefIdeal : Cert.FfnHeadRefIdeal.Facts] [hPre_finite_ffn_head : Cert.Pre_finite_ffn_head.Facts] : Prop :=
  ∀ (m : (ℓ : Loc Cert.FfnHeadIdeal.nD Cert.FfnHeadIdeal.τ Cert.FfnHeadIdeal.sig) → Buf (Elt Ideal) ℓ) (g : Dev Cert.FfnHeadIdeal.nD → PrngReg)
    (m' : (ℓ : Loc Cert.FfnHeadRefIdeal.nD Cert.FfnHeadRefIdeal.τ Cert.FfnHeadRefIdeal.sig) → Buf (Elt Ideal) ℓ) (g' : Dev Cert.FfnHeadRefIdeal.nD → PrngReg), Pre_FfnHeadIdeal_finite_ffn_head m →
    (∀ c : Dev Cert.FfnHeadIdeal.nD,
      m' ((c.tc : Thread Cert.FfnHeadRefIdeal.nD Cert.FfnHeadRefIdeal.τ).loc Cert.FfnHeadRefIdeal.main_arg0) = m ((c.tc : Thread Cert.FfnHeadIdeal.nD Cert.FfnHeadIdeal.τ).loc Cert.FfnHeadIdeal.main_arg0)
      ∧ m' ((c.tc : Thread Cert.FfnHeadRefIdeal.nD Cert.FfnHeadRefIdeal.τ).loc Cert.FfnHeadRefIdeal.main_arg1) = m ((c.tc : Thread Cert.FfnHeadIdeal.nD Cert.FfnHeadIdeal.τ).loc Cert.FfnHeadIdeal.main_arg1)
      ∧ m' ((c.tc : Thread Cert.FfnHeadRefIdeal.nD Cert.FfnHeadRefIdeal.τ).loc Cert.FfnHeadRefIdeal.main_arg2) = m ((c.tc : Thread Cert.FfnHeadIdeal.nD Cert.FfnHeadIdeal.τ).loc Cert.FfnHeadIdeal.main_arg2)
      ∧ m' ((c.tc : Thread Cert.FfnHeadRefIdeal.nD Cert.FfnHeadRefIdeal.τ).loc Cert.FfnHeadRefIdeal.main_arg3) = m ((c.tc : Thread Cert.FfnHeadIdeal.nD Cert.FfnHeadIdeal.τ).loc Cert.FfnHeadIdeal.main_arg3)
      ∧ m' ((c.tc : Thread Cert.FfnHeadRefIdeal.nD Cert.FfnHeadRefIdeal.τ).loc Cert.FfnHeadRefIdeal.main_arg4) = m ((c.tc : Thread Cert.FfnHeadIdeal.nD Cert.FfnHeadIdeal.τ).loc Cert.FfnHeadIdeal.main_arg4)
      ∧ m' ((c.tc : Thread Cert.FfnHeadRefIdeal.nD Cert.FfnHeadRefIdeal.τ).loc Cert.FfnHeadRefIdeal.main_arg5) = m ((c.tc : Thread Cert.FfnHeadIdeal.nD Cert.FfnHeadIdeal.τ).loc Cert.FfnHeadIdeal.main_arg5)
      ∧ m' ((c.tc : Thread Cert.FfnHeadRefIdeal.nD Cert.FfnHeadRefIdeal.τ).loc Cert.FfnHeadRefIdeal.main_arg6) = m ((c.tc : Thread Cert.FfnHeadIdeal.nD Cert.FfnHeadIdeal.τ).loc Cert.FfnHeadIdeal.main_arg6)) →
    ∃ (v0 : (c : Dev Cert.FfnHeadIdeal.nD) → Buf (Elt Ideal) ((c.tc : Thread Cert.FfnHeadIdeal.nD Cert.FfnHeadIdeal.τ).loc Cert.FfnHeadIdeal.main_v5_0)) (v1 : (c : Dev Cert.FfnHeadIdeal.nD) → Buf (Elt Ideal) ((c.tc : Thread Cert.FfnHeadIdeal.nD Cert.FfnHeadIdeal.τ).loc Cert.FfnHeadIdeal.main_v5_1)) (v2 : (c : Dev Cert.FfnHeadIdeal.nD) → Buf (Elt Ideal) ((c.tc : Thread Cert.FfnHeadIdeal.nD Cert.FfnHeadIdeal.τ).loc Cert.FfnHeadIdeal.main_v5_2)) (v3 : (c : Dev Cert.FfnHeadIdeal.nD) → Buf (Elt Ideal) ((c.tc : Thread Cert.FfnHeadIdeal.nD Cert.FfnHeadIdeal.τ).loc Cert.FfnHeadIdeal.main_v5_3)) (v4 : (c : Dev Cert.FfnHeadIdeal.nD) → Buf (Elt Ideal) ((c.tc : Thread Cert.FfnHeadIdeal.nD Cert.FfnHeadIdeal.τ).loc Cert.FfnHeadIdeal.main_v5_4)) (v5 : (c : Dev Cert.FfnHeadIdeal.nD) → Buf (Elt Ideal) ((c.tc : Thread Cert.FfnHeadIdeal.nD Cert.FfnHeadIdeal.τ).loc Cert.FfnHeadIdeal.main_v5_5)) (v6 : (c : Dev Cert.FfnHeadIdeal.nD) → Buf (Elt Ideal) ((c.tc : Thread Cert.FfnHeadIdeal.nD Cert.FfnHeadIdeal.τ).loc Cert.FfnHeadIdeal.main_v5_6)),
      θ_run (Cert.FfnHeadIdeal.defs (F := Ideal)) (onTc (τ := Cert.FfnHeadIdeal.τ) (Cert.FfnHeadIdeal.main (F := Ideal))) ⟨m, fun _ => 0, g⟩ (fun r => ∀ c : Dev Cert.FfnHeadIdeal.nD,
          r.2.mem ((c.tc : Thread Cert.FfnHeadIdeal.nD Cert.FfnHeadIdeal.τ).loc Cert.FfnHeadIdeal.main_v5_0) = v0 c
          ∧ r.2.mem ((c.tc : Thread Cert.FfnHeadIdeal.nD Cert.FfnHeadIdeal.τ).loc Cert.FfnHeadIdeal.main_v5_1) = v1 c
          ∧ r.2.mem ((c.tc : Thread Cert.FfnHeadIdeal.nD Cert.FfnHeadIdeal.τ).loc Cert.FfnHeadIdeal.main_v5_2) = v2 c
          ∧ r.2.mem ((c.tc : Thread Cert.FfnHeadIdeal.nD Cert.FfnHeadIdeal.τ).loc Cert.FfnHeadIdeal.main_v5_3) = v3 c
          ∧ r.2.mem ((c.tc : Thread Cert.FfnHeadIdeal.nD Cert.FfnHeadIdeal.τ).loc Cert.FfnHeadIdeal.main_v5_4) = v4 c
          ∧ r.2.mem ((c.tc : Thread Cert.FfnHeadIdeal.nD Cert.FfnHeadIdeal.τ).loc Cert.FfnHeadIdeal.main_v5_5) = v5 c
          ∧ r.2.mem ((c.tc : Thread Cert.FfnHeadIdeal.nD Cert.FfnHeadIdeal.τ).loc Cert.FfnHeadIdeal.main_v5_6) = v6 c
          ∧ r.2.mem ((c.tc : Thread Cert.FfnHeadIdeal.nD Cert.FfnHeadIdeal.τ).loc Cert.FfnHeadIdeal.main_arg0) = m ((c.tc : Thread Cert.FfnHeadIdeal.nD Cert.FfnHeadIdeal.τ).loc Cert.FfnHeadIdeal.main_arg0)
          ∧ r.2.mem ((c.tc : Thread Cert.FfnHeadIdeal.nD Cert.FfnHeadIdeal.τ).loc Cert.FfnHeadIdeal.main_arg1) = m ((c.tc : Thread Cert.FfnHeadIdeal.nD Cert.FfnHeadIdeal.τ).loc Cert.FfnHeadIdeal.main_arg1)
          ∧ r.2.mem ((c.tc : Thread Cert.FfnHeadIdeal.nD Cert.FfnHeadIdeal.τ).loc Cert.FfnHeadIdeal.main_arg2) = m ((c.tc : Thread Cert.FfnHeadIdeal.nD Cert.FfnHeadIdeal.τ).loc Cert.FfnHeadIdeal.main_arg2)
          ∧ r.2.mem ((c.tc : Thread Cert.FfnHeadIdeal.nD Cert.FfnHeadIdeal.τ).loc Cert.FfnHeadIdeal.main_arg3) = m ((c.tc : Thread Cert.FfnHeadIdeal.nD Cert.FfnHeadIdeal.τ).loc Cert.FfnHeadIdeal.main_arg3)
          ∧ r.2.mem ((c.tc : Thread Cert.FfnHeadIdeal.nD Cert.FfnHeadIdeal.τ).loc Cert.FfnHeadIdeal.main_arg4) = m ((c.tc : Thread Cert.FfnHeadIdeal.nD Cert.FfnHeadIdeal.τ).loc Cert.FfnHeadIdeal.main_arg4)
          ∧ r.2.mem ((c.tc : Thread Cert.FfnHeadIdeal.nD Cert.FfnHeadIdeal.τ).loc Cert.FfnHeadIdeal.main_arg5) = m ((c.tc : Thread Cert.FfnHeadIdeal.nD Cert.FfnHeadIdeal.τ).loc Cert.FfnHeadIdeal.main_arg5)
          ∧ r.2.mem ((c.tc : Thread Cert.FfnHeadIdeal.nD Cert.FfnHeadIdeal.τ).loc Cert.FfnHeadIdeal.main_arg6) = m ((c.tc : Thread Cert.FfnHeadIdeal.nD Cert.FfnHeadIdeal.τ).loc Cert.FfnHeadIdeal.main_arg6))
      ∧ θ_run (Cert.FfnHeadRefIdeal.defs (F := Ideal)) (onTc (τ := Cert.FfnHeadRefIdeal.τ) (Cert.FfnHeadRefIdeal.main (F := Ideal))) ⟨m', fun _ => 0, g'⟩ (fun r => ∀ c : Dev Cert.FfnHeadRefIdeal.nD,
          r.2.mem ((c.tc : Thread Cert.FfnHeadRefIdeal.nD Cert.FfnHeadRefIdeal.τ).loc Cert.FfnHeadRefIdeal.main_v83) = v0 c
          ∧ r.2.mem ((c.tc : Thread Cert.FfnHeadRefIdeal.nD Cert.FfnHeadRefIdeal.τ).loc Cert.FfnHeadRefIdeal.main_v86) = v1 c
          ∧ r.2.mem ((c.tc : Thread Cert.FfnHeadRefIdeal.nD Cert.FfnHeadRefIdeal.τ).loc Cert.FfnHeadRefIdeal.main_v87) = v2 c
          ∧ r.2.mem ((c.tc : Thread Cert.FfnHeadRefIdeal.nD Cert.FfnHeadRefIdeal.τ).loc Cert.FfnHeadRefIdeal.main_v88) = v3 c
          ∧ r.2.mem ((c.tc : Thread Cert.FfnHeadRefIdeal.nD Cert.FfnHeadRefIdeal.τ).loc Cert.FfnHeadRefIdeal.main_v89) = v4 c
          ∧ r.2.mem ((c.tc : Thread Cert.FfnHeadRefIdeal.nD Cert.FfnHeadRefIdeal.τ).loc Cert.FfnHeadRefIdeal.main_v67) = v5 c
          ∧ r.2.mem ((c.tc : Thread Cert.FfnHeadRefIdeal.nD Cert.FfnHeadRefIdeal.τ).loc Cert.FfnHeadRefIdeal.main_v90) = v6 c
          ∧ r.2.mem ((c.tc : Thread Cert.FfnHeadRefIdeal.nD Cert.FfnHeadRefIdeal.τ).loc Cert.FfnHeadRefIdeal.main_arg0) = m' ((c.tc : Thread Cert.FfnHeadRefIdeal.nD Cert.FfnHeadRefIdeal.τ).loc Cert.FfnHeadRefIdeal.main_arg0)
          ∧ r.2.mem ((c.tc : Thread Cert.FfnHeadRefIdeal.nD Cert.FfnHeadRefIdeal.τ).loc Cert.FfnHeadRefIdeal.main_arg1) = m' ((c.tc : Thread Cert.FfnHeadRefIdeal.nD Cert.FfnHeadRefIdeal.τ).loc Cert.FfnHeadRefIdeal.main_arg1)
          ∧ r.2.mem ((c.tc : Thread Cert.FfnHeadRefIdeal.nD Cert.FfnHeadRefIdeal.τ).loc Cert.FfnHeadRefIdeal.main_arg2) = m' ((c.tc : Thread Cert.FfnHeadRefIdeal.nD Cert.FfnHeadRefIdeal.τ).loc Cert.FfnHeadRefIdeal.main_arg2)
          ∧ r.2.mem ((c.tc : Thread Cert.FfnHeadRefIdeal.nD Cert.FfnHeadRefIdeal.τ).loc Cert.FfnHeadRefIdeal.main_arg3) = m' ((c.tc : Thread Cert.FfnHeadRefIdeal.nD Cert.FfnHeadRefIdeal.τ).loc Cert.FfnHeadRefIdeal.main_arg3)
          ∧ r.2.mem ((c.tc : Thread Cert.FfnHeadRefIdeal.nD Cert.FfnHeadRefIdeal.τ).loc Cert.FfnHeadRefIdeal.main_arg4) = m' ((c.tc : Thread Cert.FfnHeadRefIdeal.nD Cert.FfnHeadRefIdeal.τ).loc Cert.FfnHeadRefIdeal.main_arg4)
          ∧ r.2.mem ((c.tc : Thread Cert.FfnHeadRefIdeal.nD Cert.FfnHeadRefIdeal.τ).loc Cert.FfnHeadRefIdeal.main_arg5) = m' ((c.tc : Thread Cert.FfnHeadRefIdeal.nD Cert.FfnHeadRefIdeal.τ).loc Cert.FfnHeadRefIdeal.main_arg5)
          ∧ r.2.mem ((c.tc : Thread Cert.FfnHeadRefIdeal.nD Cert.FfnHeadRefIdeal.τ).loc Cert.FfnHeadRefIdeal.main_arg6) = m' ((c.tc : Thread Cert.FfnHeadRefIdeal.nD Cert.FfnHeadRefIdeal.τ).loc Cert.FfnHeadRefIdeal.main_arg6))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)) →
    ∃ (v0 : (c : Dev Cert.DownFwdIdeal.nD) → Buf (Elt Ideal) ((c.tc : Thread Cert.DownFwdIdeal.nD Cert.DownFwdIdeal.τ).loc Cert.DownFwdIdeal.main_v18_0)) (v1 : (c : Dev Cert.DownFwdIdeal.nD) → Buf (Elt Ideal) ((c.tc : Thread Cert.DownFwdIdeal.nD Cert.DownFwdIdeal.τ).loc Cert.DownFwdIdeal.main_v18_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v18_0) = v0 c
          ∧ r.2.mem ((c.tc : Thread Cert.DownFwdIdeal.nD Cert.DownFwdIdeal.τ).loc Cert.DownFwdIdeal.main_v18_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v19) = v0 c
          ∧ r.2.mem ((c.tc : Thread Cert.DownFwdRefIdeal.nD Cert.DownFwdRefIdeal.τ).loc Cert.DownFwdRefIdeal.main_v32) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5))

def preserves_MixFwd_MixFwdIdeal : Prop :=
  True

def algebraic_MixFwdIdeal_MixFwdRefIdeal_pre_finite_mix_fwd [hMixFwdIdeal : Cert.MixFwdIdeal.Facts] [hMixFwdRefIdeal : Cert.MixFwdRefIdeal.Facts] [hPre_finite_mix_fwd : Cert.Pre_finite_mix_fwd.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal_finite_mix_fwd m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)
      ∧ m' ((c.tc : Thread Cert.MixFwdRefIdeal.nD Cert.MixFwdRefIdeal.τ).loc Cert.MixFwdRefIdeal.main_arg4) = m ((c.tc : Thread Cert.MixFwdIdeal.nD Cert.MixFwdIdeal.τ).loc Cert.MixFwdIdeal.main_arg4)
      ∧ m' ((c.tc : Thread Cert.MixFwdRefIdeal.nD Cert.MixFwdRefIdeal.τ).loc Cert.MixFwdRefIdeal.main_arg5) = m ((c.tc : Thread Cert.MixFwdIdeal.nD Cert.MixFwdIdeal.τ).loc Cert.MixFwdIdeal.main_arg5)
      ∧ m' ((c.tc : Thread Cert.MixFwdRefIdeal.nD Cert.MixFwdRefIdeal.τ).loc Cert.MixFwdRefIdeal.main_arg6) = m ((c.tc : Thread Cert.MixFwdIdeal.nD Cert.MixFwdIdeal.τ).loc Cert.MixFwdIdeal.main_arg6)) →
    ∃ (v0 : (c : Dev Cert.MixFwdIdeal.nD) → Buf (Elt Ideal) ((c.tc : Thread Cert.MixFwdIdeal.nD Cert.MixFwdIdeal.τ).loc Cert.MixFwdIdeal.main_v1_0)) (v1 : (c : Dev Cert.MixFwdIdeal.nD) → Buf (Elt Ideal) ((c.tc : Thread Cert.MixFwdIdeal.nD Cert.MixFwdIdeal.τ).loc Cert.MixFwdIdeal.main_v1_1)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v1_0) = v0 c
          ∧ r.2.mem ((c.tc : Thread Cert.MixFwdIdeal.nD Cert.MixFwdIdeal.τ).loc Cert.MixFwdIdeal.main_v1_1) = v1 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3)
          ∧ r.2.mem ((c.tc : Thread Cert.MixFwdIdeal.nD Cert.MixFwdIdeal.τ).loc Cert.MixFwdIdeal.main_arg4) = m ((c.tc : Thread Cert.MixFwdIdeal.nD Cert.MixFwdIdeal.τ).loc Cert.MixFwdIdeal.main_arg4)
          ∧ r.2.mem ((c.tc : Thread Cert.MixFwdIdeal.nD Cert.MixFwdIdeal.τ).loc Cert.MixFwdIdeal.main_arg5) = m ((c.tc : Thread Cert.MixFwdIdeal.nD Cert.MixFwdIdeal.τ).loc Cert.MixFwdIdeal.main_arg5)
          ∧ r.2.mem ((c.tc : Thread Cert.MixFwdIdeal.nD Cert.MixFwdIdeal.τ).loc Cert.MixFwdIdeal.main_arg6) = m ((c.tc : Thread Cert.MixFwdIdeal.nD Cert.MixFwdIdeal.τ).loc Cert.MixFwdIdeal.main_arg6))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v33) = v0 c
          ∧ r.2.mem ((c.tc : Thread Cert.MixFwdRefIdeal.nD Cert.MixFwdRefIdeal.τ).loc Cert.MixFwdRefIdeal.main_v34) = v1 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3)
          ∧ r.2.mem ((c.tc : Thread Cert.MixFwdRefIdeal.nD Cert.MixFwdRefIdeal.τ).loc Cert.MixFwdRefIdeal.main_arg4) = m' ((c.tc : Thread Cert.MixFwdRefIdeal.nD Cert.MixFwdRefIdeal.τ).loc Cert.MixFwdRefIdeal.main_arg4)
          ∧ r.2.mem ((c.tc : Thread Cert.MixFwdRefIdeal.nD Cert.MixFwdRefIdeal.τ).loc Cert.MixFwdRefIdeal.main_arg5) = m' ((c.tc : Thread Cert.MixFwdRefIdeal.nD Cert.MixFwdRefIdeal.τ).loc Cert.MixFwdRefIdeal.main_arg5)
          ∧ r.2.mem ((c.tc : Thread Cert.MixFwdRefIdeal.nD Cert.MixFwdRefIdeal.τ).loc Cert.MixFwdRefIdeal.main_arg6) = m' ((c.tc : Thread Cert.MixFwdRefIdeal.nD Cert.MixFwdRefIdeal.τ).loc Cert.MixFwdRefIdeal.main_arg6))

def preserves_ActFwd_ActFwdIdeal : Prop :=
  True

def algebraic_ActFwdIdeal_ActFwdRefIdeal_pre_finite_act_fwd [hActFwdIdeal : Cert.ActFwdIdeal.Facts] [hActFwdRefIdeal : Cert.ActFwdRefIdeal.Facts] [hPre_finite_act_fwd : Cert.Pre_finite_act_fwd.Facts] : Prop :=
  ∀ (m : (ℓ : Loc Cert.ActFwdIdeal.nD Cert.ActFwdIdeal.τ Cert.ActFwdIdeal.sig) → Buf (Elt Ideal) ℓ) (g : Dev Cert.ActFwdIdeal.nD → PrngReg)
    (m' : (ℓ : Loc Cert.ActFwdRefIdeal.nD Cert.ActFwdRefIdeal.τ Cert.ActFwdRefIdeal.sig) → Buf (Elt Ideal) ℓ) (g' : Dev Cert.ActFwdRefIdeal.nD → PrngReg), Pre_ActFwdIdeal_finite_act_fwd m →
    (∀ c : Dev Cert.ActFwdIdeal.nD,
      m' ((c.tc : Thread Cert.ActFwdRefIdeal.nD Cert.ActFwdRefIdeal.τ).loc Cert.ActFwdRefIdeal.main_arg0) = m ((c.tc : Thread Cert.ActFwdIdeal.nD Cert.ActFwdIdeal.τ).loc Cert.ActFwdIdeal.main_arg0)
      ∧ m' ((c.tc : Thread Cert.ActFwdRefIdeal.nD Cert.ActFwdRefIdeal.τ).loc Cert.ActFwdRefIdeal.main_arg1) = m ((c.tc : Thread Cert.ActFwdIdeal.nD Cert.ActFwdIdeal.τ).loc Cert.ActFwdIdeal.main_arg1)
      ∧ m' ((c.tc : Thread Cert.ActFwdRefIdeal.nD Cert.ActFwdRefIdeal.τ).loc Cert.ActFwdRefIdeal.main_arg2) = m ((c.tc : Thread Cert.ActFwdIdeal.nD Cert.ActFwdIdeal.τ).loc Cert.ActFwdIdeal.main_arg2)
      ∧ m' ((c.tc : Thread Cert.ActFwdRefIdeal.nD Cert.ActFwdRefIdeal.τ).loc Cert.ActFwdRefIdeal.main_arg3) = m ((c.tc : Thread Cert.ActFwdIdeal.nD Cert.ActFwdIdeal.τ).loc Cert.ActFwdIdeal.main_arg3)) →
    ∃ (v0 : (c : Dev Cert.ActFwdIdeal.nD) → Buf (Elt Ideal) ((c.tc : Thread Cert.ActFwdIdeal.nD Cert.ActFwdIdeal.τ).loc Cert.ActFwdIdeal.main_v4_0)) (v1 : (c : Dev Cert.ActFwdIdeal.nD) → Buf (Elt Ideal) ((c.tc : Thread Cert.ActFwdIdeal.nD Cert.ActFwdIdeal.τ).loc Cert.ActFwdIdeal.main_v4_1)) (v2 : (c : Dev Cert.ActFwdIdeal.nD) → Buf (Elt Ideal) ((c.tc : Thread Cert.ActFwdIdeal.nD Cert.ActFwdIdeal.τ).loc Cert.ActFwdIdeal.main_v4_2)) (v3 : (c : Dev Cert.ActFwdIdeal.nD) → Buf (Elt Ideal) ((c.tc : Thread Cert.ActFwdIdeal.nD Cert.ActFwdIdeal.τ).loc Cert.ActFwdIdeal.main_v4_3)),
      θ_run (Cert.ActFwdIdeal.defs (F := Ideal)) (onTc (τ := Cert.ActFwdIdeal.τ) (Cert.ActFwdIdeal.main (F := Ideal))) ⟨m, fun _ => 0, g⟩ (fun r => ∀ c : Dev Cert.ActFwdIdeal.nD,
          r.2.mem ((c.tc : Thread Cert.ActFwdIdeal.nD Cert.ActFwdIdeal.τ).loc Cert.ActFwdIdeal.main_v4_0) = v0 c
          ∧ r.2.mem ((c.tc : Thread Cert.ActFwdIdeal.nD Cert.ActFwdIdeal.τ).loc Cert.ActFwdIdeal.main_v4_1) = v1 c
          ∧ r.2.mem ((c.tc : Thread Cert.ActFwdIdeal.nD Cert.ActFwdIdeal.τ).loc Cert.ActFwdIdeal.main_v4_2) = v2 c
          ∧ r.2.mem ((c.tc : Thread Cert.ActFwdIdeal.nD Cert.ActFwdIdeal.τ).loc Cert.ActFwdIdeal.main_v4_3) = v3 c
          ∧ r.2.mem ((c.tc : Thread Cert.ActFwdIdeal.nD Cert.ActFwdIdeal.τ).loc Cert.ActFwdIdeal.main_arg0) = m ((c.tc : Thread Cert.ActFwdIdeal.nD Cert.ActFwdIdeal.τ).loc Cert.ActFwdIdeal.main_arg0)
          ∧ r.2.mem ((c.tc : Thread Cert.ActFwdIdeal.nD Cert.ActFwdIdeal.τ).loc Cert.ActFwdIdeal.main_arg1) = m ((c.tc : Thread Cert.ActFwdIdeal.nD Cert.ActFwdIdeal.τ).loc Cert.ActFwdIdeal.main_arg1)
          ∧ r.2.mem ((c.tc : Thread Cert.ActFwdIdeal.nD Cert.ActFwdIdeal.τ).loc Cert.ActFwdIdeal.main_arg2) = m ((c.tc : Thread Cert.ActFwdIdeal.nD Cert.ActFwdIdeal.τ).loc Cert.ActFwdIdeal.main_arg2)
          ∧ r.2.mem ((c.tc : Thread Cert.ActFwdIdeal.nD Cert.ActFwdIdeal.τ).loc Cert.ActFwdIdeal.main_arg3) = m ((c.tc : Thread Cert.ActFwdIdeal.nD Cert.ActFwdIdeal.τ).loc Cert.ActFwdIdeal.main_arg3))
      ∧ θ_run (Cert.ActFwdRefIdeal.defs (F := Ideal)) (onTc (τ := Cert.ActFwdRefIdeal.τ) (Cert.ActFwdRefIdeal.main (F := Ideal))) ⟨m', fun _ => 0, g'⟩ (fun r => ∀ c : Dev Cert.ActFwdRefIdeal.nD,
          r.2.mem ((c.tc : Thread Cert.ActFwdRefIdeal.nD Cert.ActFwdRefIdeal.τ).loc Cert.ActFwdRefIdeal.main_v16) = v0 c
          ∧ r.2.mem ((c.tc : Thread Cert.ActFwdRefIdeal.nD Cert.ActFwdRefIdeal.τ).loc Cert.ActFwdRefIdeal.main_v17) = v1 c
          ∧ r.2.mem ((c.tc : Thread Cert.ActFwdRefIdeal.nD Cert.ActFwdRefIdeal.τ).loc Cert.ActFwdRefIdeal.main_v18) = v2 c
          ∧ r.2.mem ((c.tc : Thread Cert.ActFwdRefIdeal.nD Cert.ActFwdRefIdeal.τ).loc Cert.ActFwdRefIdeal.main_v19) = v3 c
          ∧ r.2.mem ((c.tc : Thread Cert.ActFwdRefIdeal.nD Cert.ActFwdRefIdeal.τ).loc Cert.ActFwdRefIdeal.main_arg0) = m' ((c.tc : Thread Cert.ActFwdRefIdeal.nD Cert.ActFwdRefIdeal.τ).loc Cert.ActFwdRefIdeal.main_arg0)
          ∧ r.2.mem ((c.tc : Thread Cert.ActFwdRefIdeal.nD Cert.ActFwdRefIdeal.τ).loc Cert.ActFwdRefIdeal.main_arg1) = m' ((c.tc : Thread Cert.ActFwdRefIdeal.nD Cert.ActFwdRefIdeal.τ).loc Cert.ActFwdRefIdeal.main_arg1)
          ∧ r.2.mem ((c.tc : Thread Cert.ActFwdRefIdeal.nD Cert.ActFwdRefIdeal.τ).loc Cert.ActFwdRefIdeal.main_arg2) = m' ((c.tc : Thread Cert.ActFwdRefIdeal.nD Cert.ActFwdRefIdeal.τ).loc Cert.ActFwdRefIdeal.main_arg2)
          ∧ r.2.mem ((c.tc : Thread Cert.ActFwdRefIdeal.nD Cert.ActFwdRefIdeal.τ).loc Cert.ActFwdRefIdeal.main_arg3) = m' ((c.tc : Thread Cert.ActFwdRefIdeal.nD Cert.ActFwdRefIdeal.τ).loc Cert.ActFwdRefIdeal.main_arg3))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v7) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)) (v3 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_v0_3) = v3 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v29) = v0 c
          ∧ r.2.mem ((c.tc : Thread Cert.AdamWRefIdeal.nD Cert.AdamWRefIdeal.τ).loc Cert.AdamWRefIdeal.main_v30) = v1 c
          ∧ r.2.mem ((c.tc : Thread Cert.AdamWRefIdeal.nD Cert.AdamWRefIdeal.τ).loc Cert.AdamWRefIdeal.main_v31) = v2 c
          ∧ r.2.mem ((c.tc : Thread Cert.AdamWRefIdeal.nD Cert.AdamWRefIdeal.τ).loc Cert.AdamWRefIdeal.main_v32) = v3 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hInDx : Cert.InDx.Facts) (hInDxIdeal : Cert.InDxIdeal.Facts) (hInDxRefIdeal : Cert.InDxRefIdeal.Facts) (hSbBwd : Cert.SbBwd.Facts) (hSbBwdIdeal : Cert.SbBwdIdeal.Facts) (hSbBwdRefIdeal : Cert.SbBwdRefIdeal.Facts) (hFfnIn : Cert.FfnIn.Facts) (hFfnInIdeal : Cert.FfnInIdeal.Facts) (hFfnInRefIdeal : Cert.FfnInRefIdeal.Facts) (hFfnAct : Cert.FfnAct.Facts) (hFfnActIdeal : Cert.FfnActIdeal.Facts) (hFfnActRefIdeal : Cert.FfnActRefIdeal.Facts) (hMixBwd : Cert.MixBwd.Facts) (hMixBwdIdeal : Cert.MixBwdIdeal.Facts) (hMixBwdRefIdeal : Cert.MixBwdRefIdeal.Facts) (hFfnBwd : Cert.FfnBwd.Facts) (hFfnBwdIdeal : Cert.FfnBwdIdeal.Facts) (hFfnBwdRefIdeal : Cert.FfnBwdRefIdeal.Facts) (hFfnHead : Cert.FfnHead.Facts) (hFfnHeadIdeal : Cert.FfnHeadIdeal.Facts) (hFfnHeadRefIdeal : Cert.FfnHeadRefIdeal.Facts) (hDownFwd : Cert.DownFwd.Facts) (hDownFwdIdeal : Cert.DownFwdIdeal.Facts) (hDownFwdRefIdeal : Cert.DownFwdRefIdeal.Facts) (hMixFwd : Cert.MixFwd.Facts) (hMixFwdIdeal : Cert.MixFwdIdeal.Facts) (hMixFwdRefIdeal : Cert.MixFwdRefIdeal.Facts) (hActFwd : Cert.ActFwd.Facts) (hActFwdIdeal : Cert.ActFwdIdeal.Facts) (hActFwdRefIdeal : Cert.ActFwdRefIdeal.Facts) (hInDw : Cert.InDw.Facts) (hInDwIdeal : Cert.InDwIdeal.Facts) (hInDwRefIdeal : Cert.InDwRefIdeal.Facts) (hAdamW : Cert.AdamW.Facts) (hAdamWIdeal : Cert.AdamWIdeal.Facts) (hAdamWRefIdeal : Cert.AdamWRefIdeal.Facts) (hPre_finite_in_dx : Cert.Pre_finite_in_dx.Facts) (hPre_finite_sb_bwd : Cert.Pre_finite_sb_bwd.Facts) (hPre_finite_ffn_in : Cert.Pre_finite_ffn_in.Facts) (hPre_finite_ffn_act : Cert.Pre_finite_ffn_act.Facts) (hPre_finite_mix_bwd : Cert.Pre_finite_mix_bwd.Facts) (hPre_finite_ffn_head : Cert.Pre_finite_ffn_head.Facts) (hPre_finite_mix_fwd : Cert.Pre_finite_mix_fwd.Facts) (hPre_finite_act_fwd : Cert.Pre_finite_act_fwd.Facts),
    quiescent_InDx (hInDx := hInDx)
    ∧ quiescent_InDxIdeal (hInDxIdeal := hInDxIdeal)
    ∧ quiescent_InDxIdeal_pre_finite_in_dx (hInDxIdeal := hInDxIdeal) (hPre_finite_in_dx := hPre_finite_in_dx)
    ∧ quiescent_InDxRefIdeal (hInDxRefIdeal := hInDxRefIdeal)
    ∧ quiescent_InDxRefIdeal_pre_finite_in_dx (hInDxRefIdeal := hInDxRefIdeal) (hPre_finite_in_dx := hPre_finite_in_dx)
    ∧ quiescent_SbBwd (hSbBwd := hSbBwd)
    ∧ quiescent_SbBwdIdeal (hSbBwdIdeal := hSbBwdIdeal)
    ∧ quiescent_SbBwdIdeal_pre_finite_sb_bwd (hSbBwdIdeal := hSbBwdIdeal) (hPre_finite_sb_bwd := hPre_finite_sb_bwd)
    ∧ quiescent_SbBwdRefIdeal (hSbBwdRefIdeal := hSbBwdRefIdeal)
    ∧ quiescent_SbBwdRefIdeal_pre_finite_sb_bwd (hSbBwdRefIdeal := hSbBwdRefIdeal) (hPre_finite_sb_bwd := hPre_finite_sb_bwd)
    ∧ quiescent_FfnIn (hFfnIn := hFfnIn)
    ∧ quiescent_FfnInIdeal (hFfnInIdeal := hFfnInIdeal)
    ∧ quiescent_FfnInIdeal_pre_finite_ffn_in (hFfnInIdeal := hFfnInIdeal) (hPre_finite_ffn_in := hPre_finite_ffn_in)
    ∧ quiescent_FfnInRefIdeal (hFfnInRefIdeal := hFfnInRefIdeal)
    ∧ quiescent_FfnInRefIdeal_pre_finite_ffn_in (hFfnInRefIdeal := hFfnInRefIdeal) (hPre_finite_ffn_in := hPre_finite_ffn_in)
    ∧ quiescent_FfnAct (hFfnAct := hFfnAct)
    ∧ quiescent_FfnActIdeal (hFfnActIdeal := hFfnActIdeal)
    ∧ quiescent_FfnActIdeal_pre_finite_ffn_act (hFfnActIdeal := hFfnActIdeal) (hPre_finite_ffn_act := hPre_finite_ffn_act)
    ∧ quiescent_FfnActRefIdeal (hFfnActRefIdeal := hFfnActRefIdeal)
    ∧ quiescent_FfnActRefIdeal_pre_finite_ffn_act (hFfnActRefIdeal := hFfnActRefIdeal) (hPre_finite_ffn_act := hPre_finite_ffn_act)
    ∧ quiescent_MixBwd (hMixBwd := hMixBwd)
    ∧ quiescent_MixBwdIdeal (hMixBwdIdeal := hMixBwdIdeal)
    ∧ quiescent_MixBwdIdeal_pre_finite_mix_bwd (hMixBwdIdeal := hMixBwdIdeal) (hPre_finite_mix_bwd := hPre_finite_mix_bwd)
    ∧ quiescent_MixBwdRefIdeal (hMixBwdRefIdeal := hMixBwdRefIdeal)
    ∧ quiescent_MixBwdRefIdeal_pre_finite_mix_bwd (hMixBwdRefIdeal := hMixBwdRefIdeal) (hPre_finite_mix_bwd := hPre_finite_mix_bwd)
    ∧ quiescent_FfnBwd (hFfnBwd := hFfnBwd)
    ∧ quiescent_FfnBwdIdeal (hFfnBwdIdeal := hFfnBwdIdeal)
    ∧ quiescent_FfnBwdIdeal_pre_finite_ffn_act (hFfnBwdIdeal := hFfnBwdIdeal) (hPre_finite_ffn_act := hPre_finite_ffn_act)
    ∧ quiescent_FfnBwdRefIdeal (hFfnBwdRefIdeal := hFfnBwdRefIdeal)
    ∧ quiescent_FfnBwdRefIdeal_pre_finite_ffn_act (hFfnBwdRefIdeal := hFfnBwdRefIdeal) (hPre_finite_ffn_act := hPre_finite_ffn_act)
    ∧ quiescent_FfnHead (hFfnHead := hFfnHead)
    ∧ quiescent_FfnHeadIdeal (hFfnHeadIdeal := hFfnHeadIdeal)
    ∧ quiescent_FfnHeadIdeal_pre_finite_ffn_head (hFfnHeadIdeal := hFfnHeadIdeal) (hPre_finite_ffn_head := hPre_finite_ffn_head)
    ∧ quiescent_FfnHeadRefIdeal (hFfnHeadRefIdeal := hFfnHeadRefIdeal)
    ∧ quiescent_FfnHeadRefIdeal_pre_finite_ffn_head (hFfnHeadRefIdeal := hFfnHeadRefIdeal) (hPre_finite_ffn_head := hPre_finite_ffn_head)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_MixFwd (hMixFwd := hMixFwd)
    ∧ quiescent_MixFwdIdeal (hMixFwdIdeal := hMixFwdIdeal)
    ∧ quiescent_MixFwdIdeal_pre_finite_mix_fwd (hMixFwdIdeal := hMixFwdIdeal) (hPre_finite_mix_fwd := hPre_finite_mix_fwd)
    ∧ quiescent_MixFwdRefIdeal (hMixFwdRefIdeal := hMixFwdRefIdeal)
    ∧ quiescent_MixFwdRefIdeal_pre_finite_mix_fwd (hMixFwdRefIdeal := hMixFwdRefIdeal) (hPre_finite_mix_fwd := hPre_finite_mix_fwd)
    ∧ quiescent_ActFwd (hActFwd := hActFwd)
    ∧ quiescent_ActFwdIdeal (hActFwdIdeal := hActFwdIdeal)
    ∧ quiescent_ActFwdIdeal_pre_finite_act_fwd (hActFwdIdeal := hActFwdIdeal) (hPre_finite_act_fwd := hPre_finite_act_fwd)
    ∧ quiescent_ActFwdRefIdeal (hActFwdRefIdeal := hActFwdRefIdeal)
    ∧ quiescent_ActFwdRefIdeal_pre_finite_act_fwd (hActFwdRefIdeal := hActFwdRefIdeal) (hPre_finite_act_fwd := hPre_finite_act_fwd)
    ∧ quiescent_InDw (hInDw := hInDw)
    ∧ quiescent_InDwIdeal (hInDwIdeal := hInDwIdeal)
    ∧ quiescent_InDwRefIdeal (hInDwRefIdeal := hInDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_InDx_InDxIdeal
    ∧ algebraic_InDxIdeal_InDxRefIdeal_pre_finite_in_dx (hInDxIdeal := hInDxIdeal) (hInDxRefIdeal := hInDxRefIdeal) (hPre_finite_in_dx := hPre_finite_in_dx)
    ∧ preserves_SbBwd_SbBwdIdeal
    ∧ algebraic_SbBwdIdeal_SbBwdRefIdeal_pre_finite_sb_bwd (hSbBwdIdeal := hSbBwdIdeal) (hSbBwdRefIdeal := hSbBwdRefIdeal) (hPre_finite_sb_bwd := hPre_finite_sb_bwd)
    ∧ preserves_FfnIn_FfnInIdeal
    ∧ algebraic_FfnInIdeal_FfnInRefIdeal_pre_finite_ffn_in (hFfnInIdeal := hFfnInIdeal) (hFfnInRefIdeal := hFfnInRefIdeal) (hPre_finite_ffn_in := hPre_finite_ffn_in)
    ∧ preserves_FfnAct_FfnActIdeal
    ∧ algebraic_FfnActIdeal_FfnActRefIdeal_pre_finite_ffn_act (hFfnActIdeal := hFfnActIdeal) (hFfnActRefIdeal := hFfnActRefIdeal) (hPre_finite_ffn_act := hPre_finite_ffn_act)
    ∧ preserves_MixBwd_MixBwdIdeal
    ∧ algebraic_MixBwdIdeal_MixBwdRefIdeal_pre_finite_mix_bwd (hMixBwdIdeal := hMixBwdIdeal) (hMixBwdRefIdeal := hMixBwdRefIdeal) (hPre_finite_mix_bwd := hPre_finite_mix_bwd)
    ∧ preserves_FfnBwd_FfnBwdIdeal
    ∧ algebraic_FfnBwdIdeal_FfnBwdRefIdeal_pre_finite_ffn_act (hFfnBwdIdeal := hFfnBwdIdeal) (hFfnBwdRefIdeal := hFfnBwdRefIdeal) (hPre_finite_ffn_act := hPre_finite_ffn_act)
    ∧ preserves_FfnHead_FfnHeadIdeal
    ∧ algebraic_FfnHeadIdeal_FfnHeadRefIdeal_pre_finite_ffn_head (hFfnHeadIdeal := hFfnHeadIdeal) (hFfnHeadRefIdeal := hFfnHeadRefIdeal) (hPre_finite_ffn_head := hPre_finite_ffn_head)
    ∧ preserves_DownFwd_DownFwdIdeal
    ∧ algebraic_DownFwdIdeal_DownFwdRefIdeal (hDownFwdIdeal := hDownFwdIdeal) (hDownFwdRefIdeal := hDownFwdRefIdeal)
    ∧ preserves_MixFwd_MixFwdIdeal
    ∧ algebraic_MixFwdIdeal_MixFwdRefIdeal_pre_finite_mix_fwd (hMixFwdIdeal := hMixFwdIdeal) (hMixFwdRefIdeal := hMixFwdRefIdeal) (hPre_finite_mix_fwd := hPre_finite_mix_fwd)
    ∧ preserves_ActFwd_ActFwdIdeal
    ∧ algebraic_ActFwdIdeal_ActFwdRefIdeal_pre_finite_act_fwd (hActFwdIdeal := hActFwdIdeal) (hActFwdRefIdeal := hActFwdRefIdeal) (hPre_finite_act_fwd := hPre_finite_act_fwd)
    ∧ preserves_InDw_InDwIdeal
    ∧ algebraic_InDwIdeal_InDwRefIdeal (hInDwIdeal := hInDwIdeal) (hInDwRefIdeal := hInDwRefIdeal)
    ∧ preserves_AdamW_AdamWIdeal
    ∧ algebraic_AdamWIdeal_AdamWRefIdeal (hAdamWIdeal := hAdamWIdeal) (hAdamWRefIdeal := hAdamWRefIdeal)
-- ==== Pre_finite_act_fwd.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1x1024 .f32) (main_arg2 : FVec F S1024x2816 .f32) (main_arg3 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== Pre_finite_ffn_act.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S2816x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S2816x1024 .f32 := Host.absf main_arg5
  let main_cst_8 : FVec F S_ .f32 := constant S_ .f32 0x7F800000#32
  let main_v25 : FVec F S2816x1024 .f32 := broadcastInDim S2816x1024 ![] bcast_S_S2816x1024 main_cst_8
  let main_v26 : IVec S2816x1024 1 := cmpf .olt main_v24 main_v25
  let main_c_9 : IVec S_ 1 := constantI S_ 1 1#1
  let main_v27 : IVec S_ 1 := (fun x v => Host.reduce IntOp.andi x v reducesTo_S2816x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_ffn_head.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S1x1024 .f32) (main_arg6 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S1x1024 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_arg6 main_v13 main_v16
-- ==== Pre_finite_ffn_in.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg5 : FVec F S1024x2816 .f32) (main_arg6 : FVec F S1024x2816 .f32) (main_v14 : IVec S_ 1) (main_v16 : FVec F S4096x2816 .f32) (main_cst_4 : FVec F S_ .f32) : IVec S_ 1 :=
  let main_v17 : FVec F S4096x2816 .f32 := broadcastInDim S4096x2816 ![] bcast_S_S4096x2816 main_cst_4
  let main_v18 : IVec S4096x2816 1 := cmpf .olt main_v16 main_v17
  let main_c_5 : IVec S_ 1 := constantI S_ 1 1#1
  let main_v19 : IVec S_ 1 := (fun x v => Host.reduce IntOp.andi x v reducesTo_S4096x2816_S_d0_1 h_S_) main_v18 main_c_5
  let main_v20 : IVec S_ 1 := andi main_v14 main_v19
  let main_v21 : FVec F S1024x2816 .f32 := Host.absf main_arg5
  let main_cst_6 : FVec F S_ .f32 := constant S_ .f32 0x7F800000#32
  let main_v22 : FVec F S1024x2816 .f32 := broadcastInDim S1024x2816 ![] bcast_S_S1024x2816 main_cst_6
  let main_v23 : IVec S1024x2816 1 := cmpf .olt main_v21 main_v22
  let main_c_7 : IVec S_ 1 := constantI S_ 1 1#1
  let main_v24 : IVec S_ 1 := (fun x v => Host.reduce IntOp.andi x v reducesTo_S1024x2816_S_d0_1 h_S_) main_v23 main_c_7
  let main_v25 : IVec S_ 1 := andi main_v20 main_v24
  let main_v26 : FVec F S1024x2816 .f32 := Host.absf main_arg6
  let main_cst_8 : FVec F S_ .f32 := constant S_ .f32 0x7F800000#32
  let main_v27 : FVec F S1024x2816 .f32 := broadcastInDim S1024x2816 ![] bcast_S_S1024x2816 main_cst_8
  let main_v28 : IVec S1024x2816 1 := cmpf .olt main_v26 main_v27
  let main_c_9 : IVec S_ 1 := constantI S_ 1 1#1
  let main_v29 : IVec S_ 1 := (fun x v => Host.reduce IntOp.andi x v reducesTo_S1024x2816_S_d0_1 h_S_) main_v28 main_c_9
  let main_v30 : IVec S_ 1 := andi main_v25 main_v29
  main_v30

def fn {F : FTy → Type} [FloatOps F] (main_arg0 : FVec F S4096x1024 .f32) (main_arg1 : FVec F S4096x1024 .f32) (main_arg2 : FVec F S1x1024 .f32) (main_arg3 : FVec F S4096x2816 .bf16) (main_arg4 : FVec F S4096x2816 .bf16) (main_arg5 : FVec F S1024x2816 .f32) (main_arg6 : FVec F S1024x2816 .f32) : IVec S_ 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S4096x2816 .f32 := (extf .f32 · bitsLt_bf16_f32) main_arg3
  let main_v10 : FVec F S4096x2816 .f32 := Host.absf main_v9
  let main_cst_2 : FVec F S_ .f32 := constant S_ .f32 0x7F800000#32
  let main_v11 : FVec F S4096x2816 .f32 := broadcastInDim S4096x2816 ![] bcast_S_S4096x2816 main_cst_2
  let main_v12 : IVec S4096x2816 1 := cmpf .olt main_v10 main_v11
  let main_c_3 : IVec S_ 1 := constantI S_ 1 1#1
  let main_v13 : IVec S_ 1 := (fun x v => Host.reduce IntOp.andi x v reducesTo_S4096x2816_S_d0_1 h_S_) main_v12 main_c_3
  let main_v14 : IVec S_ 1 := andi main_v8 main_v13
  let main_v15 : FVec F S4096x2816 .f32 := (extf .f32 · bitsLt_bf16_f32) main_arg4
  let main_v16 : FVec F S4096x2816 .f32 := Host.absf main_v15
  let main_cst_4 : FVec F S_ .f32 := constant S_ .f32 0x7F800000#32
  fn_part1 (F := F) main_arg5 main_arg6 main_v14 main_v16 main_cst_4
-- ==== Pre_finite_in_dx.lean ====
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part3 {F : FTy → Type} [FloatOps F] (main_v48 : IVec S_ 1) (main_v51 : IVec S1x1024 1) (main_c_17 : IVec S_ 1) : IVec S_ 1 :=
  let main_v52 : IVec S_ 1 := (fun x v => Host.reduce IntOp.andi x v reducesTo_S1x1024_S_d0_1 h_S_) main_v51 main_c_17
  let main_v53 : IVec S_ 1 := andi main_v48 main_v52
  main_v53

def fn_part2 {F : FTy → Type} [FloatOps F] (main_arg7 : FVec F S1024x3584 .f32) (main_arg8 : FVec F S4096x1024 .f32) (main_arg9 : FVec F S1x1024 .f32) (main_v32 : IVec S_ 1) (main_v34 : FVec F S4096x512 .f32) (main_cst_10 : FVec F S_ .f32) : IVec S_ 1 :=
  let main_v35 : FVec F S4096x512 .f32 := broadcastInDim S4096x512 ![] bcast_S_S4096x512 main_cst_10
  let main_v36 : IVec S4096x512 1 := cmpf .olt main_v34 main_v35
  let main_c_11 : IVec S_ 1 := constantI S_ 1 1#1
  let main_v37 : IVec S_ 1 := (fun x v => Host.reduce IntOp.andi x v reducesTo_S4096x512_S_d0_1 h_S_) main_v36 main_c_11
  let main_v38 : IVec S_ 1 := andi main_v32 main_v37
  let main_v39 : FVec F S1024x3584 .f32 := Host.absf main_arg7
  let main_cst_12 : FVec F S_ .f32 := constant S_ .f32 0x7F800000#32
  let main_v40 : FVec F S1024x3584 .f32 := broadcastInDim S1024x3584 ![] bcast_S_S1024x3584 main_cst_12
  let main_v41 : IVec S1024x3584 1 := cmpf .olt main_v39 main_v40
  let main_c_13 : IVec S_ 1 := constantI S_ 1 1#1
  let main_v42 : IVec S_ 1 := (fun x v => Host.reduce IntOp.andi x v reducesTo_S1024x3584_S_d0_1 h_S_) main_v41 main_c_13
  let main_v43 : IVec S_ 1 := andi main_v38 main_v42
  let main_v44 : FVec F S4096x1024 .f32 := Host.absf main_arg8
  let main_cst_14 : FVec F S_ .f32 := constant S_ .f32 0x7F800000#32
  let main_v45 : FVec F S4096x1024 .f32 := broadcastInDim S4096x1024 ![] bcast_S_S4096x1024 main_cst_14
  let main_v46 : IVec S4096x1024 1 := cmpf .olt main_v44 main_v45
  let main_c_15 : IVec S_ 1 := constantI S_ 1 1#1
  let main_v47 : IVec S_ 1 := (fun x v => Host.reduce IntOp.andi x v reducesTo_S4096x1024_S_d0_1 h_S_) main_v46 main_c_15
  let main_v48 : IVec S_ 1 := andi main_v43 main_v47
  let main_v49 : FVec F S1x1024 .f32 := Host.absf main_arg9
  let main_cst_16 : FVec F S_ .f32 := constant S_ .f32 0x7F800000#32
  let main_v50 : FVec F S1x1024 .f32 := broadcastInDim S1x1024 ![] bcast_S_S1x1024 main_cst_16
  let main_v51 : IVec S1x1024 1 := cmpf .olt main_v49 main_v50
  let main_c_17 : IVec S_ 1 := constantI S_ 1 1#1
  fn_part3 (F := F) main_v48 main_v51 main_c_17

def fn_part1 {F : FTy → Type} [FloatOps F] (main_arg4 : FVec F S4096x512 .bf16) (main_arg5 : FVec F S4096x512 .bf16) (main_arg6 : FVec F S4096x512 .bf16) (main_arg7 : FVec F S1024x3584 .f32) (main_arg8 : FVec F S4096x1024 .f32) (main_arg9 : FVec F S1x1024 .f32) (main_v14 : IVec S_ 1) (main_v16 : FVec F S4096x512 .f32) (main_cst_4 : FVec F S_ .f32) : IVec S_ 1 :=
  let main_v17 : FVec F S4096x512 .f32 := broadcastInDim S4096x512 ![] bcast_S_S4096x512 main_cst_4
  let main_v18 : IVec S4096x512 1 := cmpf .olt main_v16 main_v17
  let main_c_5 : IVec S_ 1 := constantI S_ 1 1#1
  let main_v19 : IVec S_ 1 := (fun x v => Host.reduce IntOp.andi x v reducesTo_S4096x512_S_d0_1 h_S_) main_v18 main_c_5
  let main_v20 : IVec S_ 1 := andi main_v14 main_v19
  let main_v21 : FVec F S4096x512 .f32 := (extf .f32 · bitsLt_bf16_f32) main_arg4
  let main_v22 : FVec F S4096x512 .f32 := Host.absf main_v21
  let main_cst_6 : FVec F S_ .f32 := constant S_ .f32 0x7F800000#32
  let main_v23 : FVec F S4096x512 .f32 := broadcastInDim S4096x512 ![] bcast_S_S4096x512 main_cst_6
  let main_v24 : IVec S4096x512 1 := cmpf .olt main_v22 main_v23
  let main_c_7 : IVec S_ 1 := constantI S_ 1 1#1
  let main_v25 : IVec S_ 1 := (fun x v => Host.reduce IntOp.andi x v reducesTo_S4096x512_S_d0_1 h_S_) main_v24 main_c_7
  let main_v26 : IVec S_ 1 := andi main_v20 main_v25
  let main_v27 : FVec F S4096x512 .f32 := (extf .f32 · bitsLt_bf16_f32) main_arg5
  let main_v28 : FVec F S4096x512 .f32 := Host.absf main_v27
  let main_cst_8 : FVec F S_ .f32 := constant S_ .f32 0x7F800000#32
  let main_v29 : FVec F S4096x512 .f32 := broadcastInDim S4096x512 ![] bcast_S_S4096x512 main_cst_8
  let main_v30 : IVec S4096x512 1 := cmpf .olt main_v28 main_v29
  let main_c_9 : IVec S_ 1 := constantI S_ 1 1#1
  let main_v31 : IVec S_ 1 := (fun x v => Host.reduce IntOp.andi x v reducesTo_S4096x512_S_d0_1 h_S_) main_v30 main_c_9
  let main_v32 : IVec S_ 1 := andi main_v26 main_v31
  let main_v33 : FVec F S4096x512 .f32 := (extf .f32 · bitsLt_bf16_f32) main_arg6
  let main_v34 : FVec F S4096x512 .f32 := Host.absf main_v33
  let main_cst_10 : FVec F S_ .f32 := constant S_ .f32 0x7F800000#32
  fn_part2 (F := F) main_arg7 main_arg8 main_arg9 main_v32 main_v34 main_cst_10

def fn {F : FTy → Type} [FloatOps F] (main_arg0 : FVec F S4096x512 .bf16) (main_arg1 : FVec F S4096x512 .f32) (main_arg2 : FVec F S4096x512 .f32) (main_arg3 : FVec F S4096x512 .bf16) (main_arg4 : FVec F S4096x512 .bf16) (main_arg5 : FVec F S4096x512 .bf16) (main_arg6 : FVec F S4096x512 .bf16) (main_arg7 : FVec F S1024x3584 .f32) (main_arg8 : FVec F S4096x1024 .f32) (main_arg9 : FVec F S1x1024 .f32) (main_arg10 : FVec F S4096x1024 .f32) : IVec S_ 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_c : IVec S_ 1 := constantI S_ 1 1#1
  let main_v4 : IVec S_ 1 := (fun x v => Host.reduce IntOp.andi x v reducesTo_S4096x512_S_d0_1 h_S_) main_v3 main_c
  let main_v5 : FVec F S4096x512 .f32 := Host.absf main_arg1
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_c_1 : IVec S_ 1 := constantI S_ 1 1#1
  let main_v8 : IVec S_ 1 := (fun x v => Host.reduce IntOp.andi x v reducesTo_S4096x512_S_d0_1 h_S_) main_v7 main_c_1
  let main_v9 : IVec S_ 1 := andi main_v4 main_v8
  let main_v10 : FVec F S4096x512 .f32 := Host.absf main_arg2
  let main_cst_2 : FVec F S_ .f32 := constant S_ .f32 0x7F800000#32
  let main_v11 : FVec F S4096x512 .f32 := broadcastInDim S4096x512 ![] bcast_S_S4096x512 main_cst_2
  let main_v12 : IVec S4096x512 1 := cmpf .olt main_v10 main_v11
  let main_c_3 : IVec S_ 1 := constantI S_ 1 1#1
  let main_v13 : IVec S_ 1 := (fun x v => Host.reduce IntOp.andi x v reducesTo_S4096x512_S_d0_1 h_S_) main_v12 main_c_3
  let main_v14 : IVec S_ 1 := andi main_v9 main_v13
  let main_v15 : FVec F S4096x512 .f32 := (extf .f32 · bitsLt_bf16_f32) main_arg3
  let main_v16 : FVec F S4096x512 .f32 := Host.absf main_v15
  let main_cst_4 : FVec F S_ .f32 := constant S_ .f32 0x7F800000#32
  fn_part1 (F := F) main_arg4 main_arg5 main_arg6 main_arg7 main_arg8 main_arg9 main_v14 main_v16 main_cst_4
-- ==== Pre_finite_mix_bwd.lean ====
abbrev S4096x1024 : Shape := ⟨2, ![4096, 1024]⟩
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x3584 : S_.BroadcastsInDim S4096x3584 (![] : Fin 0 → Fin S4096x3584.rank)
  reducesTo_S4096x3584_S_d0_1 : S4096x3584.ReducesTo [0, 1] S_
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1x512 .f32) (main_arg5 : FVec F S1x512 .f32) (main_arg6 : FVec F S1024x1024 .f32) (main_v13 : IVec S_ 1) (main_v16 : IVec S4096x3584 1) : IVec S_ 1 :=
  let main_c_5 : IVec S_ 1 := constantI S_ 1 1#1
  let main_v17 : IVec S_ 1 := (fun x v => Host.reduce IntOp.andi x v reducesTo_S4096x3584_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  main_v33

def fn {F : FTy → Type} [FloatOps F] (main_arg0 : FVec F S4096x1024 .f32) (main_arg1 : FVec F S4096x512 .f32) (main_arg2 : FVec F S4096x512 .f32) (main_arg3 : FVec F S4096x3584 .f32) (main_arg4 : FVec F S1x512 .f32) (main_arg5 : FVec F S1x512 .f32) (main_arg6 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x3584 .f32 := Host.absf main_arg3
  let main_cst_4 : FVec F S_ .f32 := constant S_ .f32 0x7F800000#32
  let main_v15 : FVec F S4096x3584 .f32 := broadcastInDim S4096x3584 ![] bcast_S_S4096x3584 main_cst_4
  let main_v16 : IVec S4096x3584 1 := cmpf .olt main_v14 main_v15
  fn_part1 (F := F) main_arg4 main_arg5 main_arg6 main_v13 main_v16
-- ==== Pre_finite_mix_fwd.lean ====
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S4096x1024 : Shape := ⟨2, ![4096, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x3584 : S_.BroadcastsInDim S4096x3584 (![] : Fin 0 → Fin S4096x3584.rank)
  reducesTo_S4096x3584_S_d0_1 : S4096x3584.ReducesTo [0, 1] S_

variable [Facts]

def fn {F : FTy → Type} [FloatOps F] (main_arg0 : FVec F S4096x512 .f32) (main_arg1 : FVec F S4096x512 .f32) (main_arg2 : FVec F S4096x3584 .f32) (main_arg3 : FVec F S1x512 .f32) (main_arg4 : FVec F S1x512 .f32) (main_arg5 : FVec F S1024x1024 .f32) (main_arg6 : FVec F S4096x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x3584 .f32 := Host.absf main_arg2
  let main_cst_2 : FVec F S_ .f32 := constant S_ .f32 0x7F800000#32
  let main_v10 : FVec F S4096x3584 .f32 := broadcastInDim S4096x3584 ![] bcast_S_S4096x3584 main_cst_2
  let main_v11 : IVec S4096x3584 1 := cmpf .olt main_v9 main_v10
  let main_c_3 : IVec S_ 1 := constantI S_ 1 1#1
  let main_v12 : IVec S_ 1 := (fun x v => Host.reduce IntOp.andi x v reducesTo_S4096x3584_S_d0_1 h_S_) main_v11 main_c_3
  let main_v13 : IVec S_ 1 := andi main_v8 main_v12
  main_v13
-- ==== Pre_finite_sb_bwd.lean ====
abbrev S4096x512 : Shape := ⟨2, ![4096, 512]⟩
abbrev S4096x2048 : Shape := ⟨2, ![4096, 2048]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x2048 .f32) (main_arg4 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg4
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== InDx.lean ====
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S4096x3584 : Shape := ⟨2, ![4096, 3584]⟩
abbrev S3584x1024 : Shape := ⟨2, ![3584, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 13
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S1024x3584, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x512, .bf16⟩
  | .hbm, ⟨12, _⟩ => ⟨S4096x512, .bf16⟩
  | .hbm, ⟨13, _⟩ => ⟨S4096x3584, .bf16⟩
  | .hbm, ⟨14, _⟩ => ⟨S3584x1024, .f32⟩
  | .hbm, ⟨15, _⟩ => ⟨S3584x1024, .bf16⟩
  | .hbm, ⟨16, _⟩ => ⟨S4096x1024, .f32⟩
  | .hbm, ⟨17, _⟩ => ⟨S1x1024, .f32⟩
  | .hbm, ⟨18, _⟩ => ⟨S4096x1024, .bf16⟩
  | .local _ .vmem, ⟨0, _⟩ => ⟨S512x3584, .bf16⟩
  | .local _ .vmem, ⟨1, _⟩ => ⟨S512x3584, .bf16⟩
  | .local _ .vmem, ⟨2, _⟩ => ⟨S3584x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k0_cond2 (i : grid0.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InDxRefIdeal.lean ====
abbrev S4096x512 : Shape := ⟨2, ![4096, 512]⟩
abbrev S1024x3584 : Shape := ⟨2, ![1024, 3584]⟩
abbrev S4096x1024 : Shape := ⟨2, ![4096, 1024]⟩
abbrev S1x1024 : Shape := ⟨2, ![1, 1024]⟩
abbrev S4096x3584 : Shape := ⟨2, ![4096, 3584]⟩
abbrev S_ : Shape := ⟨0, ![]⟩
abbrev S4096 : Shape := ⟨1, ![4096]⟩
abbrev S4096x1 : Shape := ⟨2, ![4096, 1]⟩
abbrev S3584x1024 : Shape := ⟨2, ![3584, 1024]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .f32⟩
  | .hbm, ⟨2, _⟩ => ⟨S4096x512, .f32⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S1024x3584, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x3584, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x3584, .f32⟩
  | .hbm, ⟨37, _⟩ => ⟨S3584x1024, .f32⟩
  | .hbm, ⟨38, _⟩ => ⟨S1024x3584, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== SbBwd.lean ====
abbrev S4096x512 : Shape := ⟨2, ![4096, 512]⟩
abbrev S4096x2048 : Shape := ⟨2, ![4096, 2048]⟩
abbrev S4096x3584 : Shape := ⟨2, ![4096, 3584]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x2x8x512x16x256 : Shape := ⟨6, ![4, 2, 8, 512, 16, 256]⟩
abbrev S4x8x16x2x512x256 : Shape := ⟨6, ![4, 8, 16, 2, 512, 256]⟩
abbrev S4x8x16x1024x256 : Shape := ⟨5, ![4, 8, 16, 1024, 256]⟩
abbrev S512x128 : Shape := ⟨2, ![512, 128]⟩
abbrev S4096x128 : Shape := ⟨2, ![4096, 128]⟩
abbrev S1x1x16x1024x256 : Shape := ⟨5, ![1, 1, 16, 1024, 256]⟩
abbrev S1x128 : Shape := ⟨2, ![1, 128]⟩
abbrev S1024x128 : Shape := ⟨2, ![1024, 128]⟩
abbrev S256x256 : Shape := ⟨2, ![256, 256]⟩
abbrev S512x256 : Shape := ⟨2, ![512, 256]⟩
abbrev S1024x1 : Shape := ⟨2, ![1024, 1]⟩
abbrev S1x1x1x1024x256 : Shape := ⟨5, ![1, 1, 1, 1024, 256]⟩
abbrev S1024x256 : Shape := ⟨2, ![1024, 256]⟩
abbrev S256x128 : Shape := ⟨2, ![256, 128]⟩
abbrev S1024x512 : Shape := ⟨2, ![1024, 512]⟩
abbrev S1024 : Shape := ⟨1, ![1024]⟩
abbrev S512x512 : Shape := ⟨2, ![512, 512]⟩
abbrev S256x1 : Shape := ⟨2, ![256, 1]⟩
abbrev S512x1 : Shape := ⟨2, ![512, 1]⟩

abbrev nBuf : Space → Nat
  | .hbm => 76
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x512, .f32⟩
  | .hbm, ⟨5, _⟩ => ⟨S4096x3584, .f32⟩
  | .hbm, ⟨6, _⟩ => ⟨S4096x8x64, .f32⟩
  | .hbm, ⟨7, _⟩ => ⟨S8x4096x64, .f32⟩
  | .hbm, ⟨8, _⟩ => ⟨S4096x8x64, .f32⟩
  | .hbm, ⟨9, _⟩ => ⟨S8x4096x64, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S8x4096x4096, .f32⟩
  | .hbm, ⟨21, _⟩ => ⟨S_, .f32⟩
  | .hbm, ⟨22, _⟩ => ⟨S8x4096x4096, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S_, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .i1⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S_, .f32⟩
  | .hbm, ⟨55, _⟩ => ⟨S8x4096x4096, .i1⟩
  | .hbm, ⟨56, _⟩ => ⟨S8x4096x4096, .f32⟩
  | .hbm, ⟨57, _⟩ => ⟨S8x4096x4096, .f32⟩
  | .hbm, ⟨58, _⟩ => ⟨S_, .f32⟩
  | .hbm, ⟨59, _⟩ => ⟨S_, .f32⟩
  | .hbm, ⟨60, _⟩ => ⟨S8x4096x4096, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S_, .f32⟩
  | .hbm, ⟨66, _⟩ => ⟨S8x4096x4096, .i1⟩
  | .hbm, ⟨67, _⟩ => ⟨S8x4096x4096, .f32⟩
  | .hbm, ⟨68, _⟩ => ⟨S8x4096x4096, .f32⟩
  | .hbm, ⟨69, _⟩ => ⟨S8x4096x4096, .bf16⟩
  | .hbm, ⟨70, _⟩ => ⟨S4x2x8x512x16x256, .bf16⟩
  | .hbm, ⟨71, _⟩ => ⟨S4x8x16x2x512x256, .bf16⟩
  | .hbm, ⟨72, _⟩ => ⟨S4x8x16x1024x256, .bf16⟩
  | .hbm, ⟨73, _⟩ => ⟨S4096x512, .bf16⟩
  | .hbm, ⟨74, _⟩ => ⟨S4096x512, .f32⟩
  | .hbm, ⟨75, _⟩ => ⟨S4096x512, .f32⟩
  | .local _ .vmem, ⟨0, _⟩ => ⟨S512x128, .f32⟩
  | .local _ .vmem, ⟨1, _⟩ => ⟨S512x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x1x16x1024x256, .bf16⟩
  | .local _ .vmem, ⟨7, _⟩ => ⟨S1x1x16x1024x256, .bf16⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v16 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v17 : Ref sig .tc := ⟨.hbm, 57, rfl⟩
abbrev main_call3_cst : Ref sig .tc := ⟨.hbm, 58, rfl⟩
abbrev main_call3_v0 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27_0 : Ref sig .tc := ⟨.hbm, 73, rfl⟩
abbrev main_v27_1 : Ref sig .tc := ⟨.hbm, 74, rfl⟩
abbrev main_v27_2 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_19 : BitVec 32 := 1#32
  ⟨c0_i32_17, v66, c1_i32_19⟩
def k0_mult1 (i : grid0.Coords) (k0_t1 : Fin (k0_t1_loop i).trips) : BitVec 32 :=
  let c4_i32 : BitVec 32 := 4#32
  let c0_i32_17 : BitVec 32 := 0#32
  let c1_i32_19 : BitVec 32 := 1#32
  let arg10 : BitVec 32 := Scf.iv c0_i32_17 c1_i32_19 k0_t1
  let v239 : BitVec 32 := Scalar.muli c4_i32 arg10
  let c0_i32_79 : BitVec 32 := 0#32
  let v240 : BitVec 32 := Scalar.addi v239 c0_i32_79
  let c256_i32_80 : BitVec 32 := 256#32
  let v241 : BitVec 32 := Scalar.muli v240 c256_i32_80
  v241
def k0_off1 (i : grid0.Coords) (k0_t1 : Fin (k0_t1_loop i).trips) (c0_i32_79 : BitVec 32) : Fin 5 → Nat :=
  let c0_81 : Index := 0#32
  let c0_82 : Index := 0#32
  let c4_i32 : BitVec 32 := 4#32
  let c0_i32_17 : BitVec 32 := 0#32
  let c1_i32_19 : BitVec 32 := 1#32
  let arg10 : BitVec 32 := Scf.iv c0_i32_17 c1_i32_19 k0_t1
  let v239 : BitVec 32 := Scalar.muli c4_i32 arg10
  let v240 : BitVec 32 := Scalar.addi v239 c0_i32_79
  let v243 : Index := Scalar.indexCast v240
  let c0_83 : Index := 0#32
  let c0_84 : Index := 0#32
  ![0, 0, v243.toNat, 0, 0]
def k0_off2 (i : grid0.Coords) (k0_t1 : Fin (k0_t1_loop i).trips) (c0_i32_79 : BitVec 32) : Fin 2 → Nat :=
  let c4_i32 : BitVec 32 := 4#32
  let c0_i32_17 : BitVec 32 := 0#32
  let c1_i32_19 : BitVec 32 := 1#32
  let arg10 : BitVec 32 := Scf.iv c0_i32_17 c1_i32_19 k0_t1
  let v239 : BitVec 32 := Scalar.muli c4_i32 arg10
  let v240 : BitVec 32 := Scalar.addi v239 c0_i32_79
  let c256_i32_80 : BitVec 32 := 256#32
  let v241 : BitVec 32 := Scalar.muli v240 c256_i32_80
  let v242 : BitVec 32 := v241
  let v246 : Index := Scalar.indexCast v242
  let c0_85 : Index := 0#32
  ![v246.toNat, 0]
def k0_mult2 (i : grid0.Coords) (k0_t1 : Fin (k0_t1_loop i).trips) : BitVec 32 :=
  let c4_i32_101 : BitVec 32 := 4#32
  let c0_i32_17 : BitVec 32 := 0#32
  let c1_i32_19 : BitVec 32 := 1#32
  let arg10 : BitVec 32 := Scf.iv c0_i32_17 c1_i32_19 k0_t1
  let v297 : BitVec 32 := Scalar.muli c4_i32_101 arg10
  let c1_i32_102 : BitVec 32 := 1#32
  let v298 : BitVec 32 := Scalar.addi v297 c1_i32_102
  let c256_i32_103 : BitVec 32 := 256#32
  let v299 : BitVec 32 := Scalar.muli v298 c256_i32_103
  v299
def k0_mult3 (i : grid0.Coords) (k0_t1 : Fin (k0_t1_loop i).trips) : BitVec 32 :=
  let c4_i32_124 : BitVec 32 := 4#32
  let c0_i32_17 : BitVec 32 := 0#32
  let c1_i32_19 : BitVec 32 := 1#32
  let arg10 : BitVec 32 := Scf.iv c0_i32_17 c1_i32_19 k0_t1
  let v355 : BitVec 32 := Scalar.muli c4_i32_124 arg10
  let c2_i32_125 : BitVec 32 := 2#32
  let v356 : BitVec 32 := Scalar.addi v355 c2_i32_125
  let c256_i32_126 : BitVec 32 := 256#32
  let v357 : BitVec 32 := Scalar.muli v356 c256_i32_126
  v357
def k0_mult4 (i : grid0.Coords) (k0_t1 : Fin (k0_t1_loop i).trips) : BitVec 32 :=
  let c4_i32_147 : BitVec 32 := 4#32
  let c0_i32_17 : BitVec 32 := 0#32
  let c1_i32_19 : BitVec 32 := 1#32
  let arg10 : BitVec 32 := Scf.iv c0_i32_17 c1_i32_19 k0_t1
  let v413 : BitVec 32 := Scalar.muli c4_i32_147 arg10
  let c3_i32 : BitVec 32 := 3#32
  let v414 : BitVec 32 := Scalar.addi v413 c3_i32
  let c256_i32_148 : BitVec 32 := 256#32
  let v415 : BitVec 32 := Scalar.muli v414 c256_i32_148
  v415
@[reducible] def k0_t2_loop (i : grid0.Coords) : Scf.Loop 32 :=
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let v63 : BitVec 32 := Scalar.addi c0_i32_17 v62
  let c1_i32_20 : BitVec 32 := 1#32
  ⟨v66, v63, c1_i32_20⟩
def k0_mult5 (i : grid0.Coords) (k0_t2 : Fin (k0_t2_loop i).trips) : BitVec 32 :=
  let c4_i32 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v239 : BitVec 32 := Scalar.muli c4_i32 arg10
  let c0_i32_79 : BitVec 32 := 0#32
  let v240 : BitVec 32 := Scalar.addi v239 c0_i32_79
  let c256_i32_80 : BitVec 32 := 256#32
  let v241 : BitVec 32 := Scalar.muli v240 c256_i32_80
  v241
def k0_off3 (i : grid0.Coords) (k0_t2 : Fin (k0_t2_loop i).trips) (c0_i32_79 : BitVec 32) : Fin 5 → Nat :=
  let c0_81 : Index := 0#32
  let c0_82 : Index := 0#32
  let c4_i32 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v239 : BitVec 32 := Scalar.muli c4_i32 arg10
  let v240 : BitVec 32 := Scalar.addi v239 c0_i32_79
  let v243 : Index := Scalar.indexCast v240
  let c0_83 : Index := 0#32
  let c0_84 : Index := 0#32
  ![0, 0, v243.toNat, 0, 0]
def k0_off4 (i : grid0.Coords) (k0_t2 : Fin (k0_t2_loop i).trips) (c0_i32_79 : BitVec 32) : Fin 2 → Nat :=
  let c4_i32 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v239 : BitVec 32 := Scalar.muli c4_i32 arg10
  let v240 : BitVec 32 := Scalar.addi v239 c0_i32_79
  let c256_i32_80 : BitVec 32 := 256#32
  let v241 : BitVec 32 := Scalar.muli v240 c256_i32_80
  let v242 : BitVec 32 := v241
  let v246 : Index := Scalar.indexCast v242
  let c0_85 : Index := 0#32
  ![v246.toNat, 0]
def k0_mult6 (i : grid0.Coords) (k0_t2 : Fin (k0_t2_loop i).trips) : BitVec 32 :=
  let c4_i32_101 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v297 : BitVec 32 := Scalar.muli c4_i32_101 arg10
  let c1_i32_102 : BitVec 32 := 1#32
  let v298 : BitVec 32 := Scalar.addi v297 c1_i32_102
  let c256_i32_103 : BitVec 32 := 256#32
  let v299 : BitVec 32 := Scalar.muli v298 c256_i32_103
  v299
def k0_mult7 (i : grid0.Coords) (k0_t2 : Fin (k0_t2_loop i).trips) : BitVec 32 :=
  let c4_i32_124 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v355 : BitVec 32 := Scalar.muli c4_i32_124 arg10
  let c2_i32_125 : BitVec 32 := 2#32
  let v356 : BitVec 32 := Scalar.addi v355 c2_i32_125
  let c256_i32_126 : BitVec 32 := 256#32
  let v357 : BitVec 32 := Scalar.muli v356 c256_i32_126
  v357
def k0_mult8 (i : grid0.Coords) (k0_t2 : Fin (k0_t2_loop i).trips) : BitVec 32 :=
  let c4_i32_147 : BitVec 32 := 4#32
  let c0_i32_17 : BitVec 32 := 0#32
  let arg1 : BitVec 32 := BitVec.ofNat 32 (i 1).val
  let c0_i32_10 : BitVec 32 := 0#32
  let v44 : BitVec 1 := Scalar.cmpi .sgt arg1 c0_i32_10
  let v45 : BitVec 32 := Scalar.extui v44
  let c0_i32_11 : BitVec 32 := 0#32
  let v46 : BitVec 1 := Scalar.cmpi .slt arg1 c0_i32_11
  let v47 : BitVec 32 := Scalar.extui v46
  let v48 : BitVec 32 := Scalar.subi v45 v47
  let c2_i32_9 : BitVec 32 := 2#32
  let c0_i32_12 : BitVec 32 := 0#32
  let v49 : BitVec 1 := Scalar.cmpi .sgt c2_i32_9 c0_i32_12
  let v50 : BitVec 32 := Scalar.extui v49
  let c0_i32_13 : BitVec 32 := 0#32
  let v51 : BitVec 1 := Scalar.cmpi .slt c2_i32_9 c0_i32_13
  let v52 : BitVec 32 := Scalar.extui v51
  let v53 : BitVec 32 := Scalar.subi v50 v52
  let v54 : BitVec 1 := Scalar.cmpi .ne v48 v53
  let v55 : BitVec 32 := Scalar.remsi arg1 c2_i32_9
  let c0_i32_14 : BitVec 32 := 0#32
  let v56 : BitVec 1 := Scalar.cmpi .ne v55 c0_i32_14
  let v57 : BitVec 1 := Scalar.andi v54 v56
  let v43 : BitVec 32 := Scalar.divsi arg1 c2_i32_9
  let c1_i32 : BitVec 32 := 1#32
  let v58 : BitVec 32 := Scalar.subi v43 c1_i32
  let v59 : BitVec 32 := Scalar.select v57 v58 v43
  let v62 : BitVec 32 := Scalar.subi v59 c0_i32_17
  let c1_i32_18 : BitVec 32 := 1#32
  let v64 : BitVec 32 := Scalar.divsi v62 c1_i32_18
  let v65 : BitVec 32 := Scalar.muli v64 c1_i32_18
  let v66 : BitVec 32 := Scalar.addi c0_i32_17 v65
  let c1_i32_20 : BitVec 32 := 1#32
  let arg10 : BitVec 32 := Scf.iv v66 c1_i32_20 k0_t2
  let v413 : BitVec 32 := Scalar.muli c4_i32_147 arg10
  let c3_i32 : BitVec 32 := 3#32
  let v414 : BitVec 32 := Scalar.addi v413 c3_i32
  let c256_i32_148 : BitVec 32 := 256#32
  let v415 : BitVec 32 := Scalar.muli v414 c256_i32_148
  v415
def k0_cond2 (i : grid0.Coords) : BitVec 1 :=
  let arg1 : BitVec 32 := BitVec.ofNat 32 (i 1).val
  let c2_i32_21 : BitVec 32 := 2#32
  let c0_i32_22 : BitVec 32 := 0#32
  let v69 : BitVec 1 := Scalar.cmpi .eq c2_i32_21 c0_i32_22
  let c1_i32_23 : BitVec 32 := 1#32
  let v70 : BitVec 32 := Scalar.select v69 c1_i32_23 c2_i32_21
  let v71 : BitVec 32 := Scalar.remsi arg1 v70
  let c0_i32_25 : BitVec 32 := 0#32
  let v73 : BitVec 1 := Scalar.cmpi .slt v71 c0_i32_25
  let c0_i32_26 : BitVec 32 := 0#32
  let v74 : BitVec 1 := Scalar.cmpi .slt v70 c0_i32_26
  let v75 : BitVec 1 := Scalar.xori v73 v74
  let c0_i32_24 : BitVec 32 := 0#32
  let v72 : BitVec 1 := Scalar.cmpi .ne v71 c0_i32_24
  let v76 : BitVec 1 := Scalar.andi v75 v72
  let v77 : BitVec 32 := Scalar.addi v71 v70
  let v78 : BitVec 32 := Scalar.select v76 v77 v71
  let c1_i32_27 : BitVec 32 := 1#32
  let v79 : BitVec 1 := Scalar.cmpi .eq v78 c1_i32_27
  let v80 : BitVec 32 := Scalar.extui v79
  let c0_i32_28 : BitVec 32 := 0#32
  let v81 : BitVec 1 := Scalar.cmpi .ne v80 c0_i32_28
  v81

def k0_mult9 (i : grid0.Coords) : BitVec 32 :=
  let arg1 : BitVec 32 := BitVec.ofNat 32 (i 1).val
  let c2_i32 : BitVec 32 := 2#32
  let v42 : BitVec 32 := Scalar.muli arg1 c2_i32
  let c2_i32_79 : BitVec 32 := 2#32
  let v239 : BitVec 32 := Scalar.subi v42 c2_i32_79
  let c0_i32_80 : BitVec 32 := 0#32
  let v240 : BitVec 32 := Scalar.addi v239 c0_i32_80
  let c256_i32_81 : BitVec 32 := 256#32
  let v241 : BitVec 32 := Scalar.muli v240 c256_i32_81
  v241
def k0_off5 (i : grid0.Coords) (c0_i32_80 : BitVec 32) : Fin 5 → Nat :=
  let c0_82 : Index := 0#32
  let c0_83 : Index := 0#32
  let arg1 : BitVec 32 := BitVec.ofNat 32 (i 1).val
  let c2_i32 : BitVec 32 := 2#32
  let v42 : BitVec 32 := Scalar.muli arg1 c2_i32
  let c2_i32_79 : BitVec 32 := 2#32
  let v239 : BitVec 32 := Scalar.subi v42 c2_i32_79
  let v240 : BitVec 32 := Scalar.addi v239 c0_i32_80
  let v243 : Index := Scalar.indexCast v240
  let c0_84 : Index := 0#32
  let c0_85 : Index := 0#32
  ![0, 0, v243.toNat, 0, 0]
def k0_off6 (i : grid0.Coords) (c0_i32_80 : BitVec 32) : Fin 2 → Nat :=
  let arg1 : BitVec 32 := BitVec.ofNat 32 (i 1).val
  let c2_i32 : BitVec 32 := 2#32
  let v42 : BitVec 32 := Scalar.muli arg1 c2_i32
  let c2_i32_79 : BitVec 32 := 2#32
  let v239 : BitVec 32 := Scalar.subi v42 c2_i32_79
  let v240 : BitVec 32 := Scalar.addi v239 c0_i32_80
  let c256_i32_81 : BitVec 32 := 256#32
  let v241 : BitVec 32 := Scalar.muli v240 c256_i32_81
  let v242 : BitVec 32 := v241
  let v246 : Index := Scalar.indexCast v242
  let c0_86 : Index := 0#32
  ![v246.toNat, 0]
def k0_mult10 (i : grid0.Coords) : BitVec 32 :=
  let arg1 : BitVec 32 := BitVec.ofNat 32 (i 1).val
  let c2_i32 : BitVec 32 := 2#32
  let v42 : BitVec 32 := Scalar.muli arg1 c2_i32
  let c2_i32_102 : BitVec 32 := 2#32
  let v297 : BitVec 32 := Scalar.subi v42 c2_i32_102
  let c1_i32_103 : BitVec 32 := 1#32
  let v298 : BitVec 32 := Scalar.addi v297 c1_i32_103
  let c256_i32_104 : BitVec 32 := 256#32
  let v299 : BitVec 32 := Scalar.muli v298 c256_i32_104
  v299
def k0_mult11 (i : grid0.Coords) : BitVec 32 :=
  let arg1 : BitVec 32 := BitVec.ofNat 32 (i 1).val
  let c2_i32 : BitVec 32 := 2#32
  let v42 : BitVec 32 := Scalar.muli arg1 c2_i32
  let c0_i32_30 : BitVec 32 := 0#32
  let v86 : BitVec 32 := Scalar.addi v42 c0_i32_30
  let c256_i32 : BitVec 32 := 256#32
  let v88 : BitVec 32 := Scalar.muli v86 c256_i32
  v88
def k0_off7 (i : grid0.Coords) (c0_i32_30 : BitVec 32) : Fin 5 → Nat :=
  let c0_31 : Index := 0#32
  let c0_32 : Index := 0#32
  let arg1 : BitVec 32 := BitVec.ofNat 32 (i 1).val
  let c2_i32 : BitVec 32 := 2#32
  let v42 : BitVec 32 := Scalar.muli arg1 c2_i32
  let v86 : BitVec 32 := Scalar.addi v42 c0_i32_30
  let v90 : Index := Scalar.indexCast v86
  let c0_33 : Index := 0#32
  let c0_34 : Index := 0#32
  ![0, 0, v90.toNat, 0, 0]
def k0_off8 (i : grid0.Coords) (c0_i32_30 : BitVec 32) : Fin 2 → Nat :=
  let arg1 : BitVec 32 := BitVec.ofNat 32 (i 1).val
  let c2_i32 : BitVec 32 := 2#32
  let v42 : BitVec 32 := Scalar.muli arg1 c2_i32
  let v86 : BitVec 32 := Scalar.addi v42 c0_i32_30
  let c256_i32 : BitVec 32 := 256#32
  let v88 : BitVec 32 := Scalar.muli v86 c256_i32
  let v89 : BitVec 32 := v88
  let v93 : Index := Scalar.indexCast v89
  let c0_35 : Index := 0#32
  ![v93.toNat, 0]
def k0_mult12 (i : grid0.Coords) : BitVec 32 :=
  let arg1 : BitVec 32 := BitVec.ofNat 32 (i 1).val
  let c2_i32 : BitVec 32 := 2#32
  let v42 : BitVec 32 := Scalar.muli arg1 c2_i32
  let c1_i32_53 : BitVec 32 := 1#32
  let v150 : BitVec 32 := Scalar.addi v42 c1_i32_53
  let c256_i32_54 : BitVec 32 := 256#32
  let v152 : BitVec 32 := Scalar.muli v150 c256_i32_54
  v152
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x16x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbBwdRefIdeal.lean ====
abbrev S4096x512 : Shape := ⟨2, ![4096, 512]⟩
abbrev S4096x2048 : Shape := ⟨2, ![4096, 2048]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 178
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x2048, .f32⟩
  | 4 => ⟨S4096x512, .f32⟩
  | 5 => ⟨S4096x8x64, .f32⟩
  | 6 => ⟨S8x4096x64, .f32⟩
  | 7 => ⟨S4096x8x64, .f32⟩
  | 8 => ⟨S8x4096x64, .f32⟩
  | 9 => ⟨S8x4096x4096, .f32⟩
  | 10 => ⟨S_, .f32⟩
  | 11 => ⟨S8x4096x4096, .f32⟩
  | 12 => ⟨S8x4096x4096, .f32⟩
  | 13 => ⟨S4096, .i32⟩
  | 14 => ⟨S1x4096, .i32⟩
  | 15 => ⟨S4096x1, .i32⟩
  | 16 => ⟨S4096x4096, .i32⟩
  | 17 => ⟨S4096x4096, .i32⟩
  | 18 => ⟨S4096x4096, .i1⟩
  | 19 => ⟨S8x4096x4096, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S8x4096x4096, .i1⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S_, .f32⟩
  | 35 => ⟨S8x4096x4096, .f32⟩
  | 36 => ⟨S8x4096x4096, .i1⟩
  | 37 => ⟨S_, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .i1⟩
  | 43 => ⟨S_, .f32⟩
  | 44 => ⟨S8x4096x4096, .f32⟩
  | 45 => ⟨S8x4096x4096, .f32⟩
  | 46 => ⟨S8x4096x4096, .f32⟩
  | 47 => ⟨S8x4096x4096, .f32⟩
  | 48 => ⟨S_, .f32⟩
  | 49 => ⟨S_, .f32⟩
  | 50 => ⟨S_, .i1⟩
  | 51 => ⟨S_, .f32⟩
  | 52 => ⟨S_, .f32⟩
  | 53 => ⟨S_, .f32⟩
  | 54 => ⟨S_, .f32⟩
  | 55 => ⟨S8x4096x4096, .f32⟩
  | 56 => ⟨S8x4096x4096, .i1⟩
  | 57 => ⟨S_, .f32⟩
  | 58 => ⟨S8x4096x4096, .f32⟩
  | 59 => ⟨S8x4096x4096, .f32⟩
  | 60 => ⟨S8x4096x4096, .f32⟩
  | 61 => ⟨S8x4096x4096, .f32⟩
  | 62 => ⟨S8x4096x4096, .f32⟩
  | 63 => ⟨S_, .f32⟩
  | 64 => ⟨S8x4096x4096, .f32⟩
  | 65 => ⟨S8x4096x4096, .f32⟩
  | 66 => ⟨S8x4096x4096, .f32⟩
  | 67 => ⟨S8x4096x4096, .f32⟩
  | 68 => ⟨S8x4096x4096, .f32⟩
  | 69 => ⟨S_, .f32⟩
  | 70 => ⟨S8x4096x4096, .f32⟩
  | 71 => ⟨S8x4096x4096, .f32⟩
  | 72 => ⟨S8x4096x4096, .f32⟩
  | 73 => ⟨S8x4096x4096, .f32⟩
  | 74 => ⟨S8x4096x4096, .i1⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .f32⟩
  | 80 => ⟨S8x4096x4096, .f32⟩
  | 81 => ⟨S8x4096x4096, .f32⟩
  | 82 => ⟨S8x4096x4096, .f32⟩
  | 83 => ⟨S_, .f32⟩
  | 84 => ⟨S8x4096x4096, .f32⟩
  | 85 => ⟨S8x4096x4096, .i1⟩
  | 86 => ⟨S_, .f32⟩
  | 87 => ⟨S8x4096x4096, .f32⟩
  | 88 => ⟨S8x4096x4096, .f32⟩
  | 89 => ⟨S_, .f32⟩
  | 90 => ⟨S8x4096x4096, .f32⟩
  | 91 => ⟨S8x4096x4096, .i1⟩
  | 92 => ⟨S_, .f32⟩
  | 93 => ⟨S8x4096x4096, .f32⟩
  | 94 => ⟨S8x4096x4096, .f32⟩
  | 95 => ⟨S8x4096x4096, .f32⟩
  | 96 => ⟨S8x4096x4096, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S8x4096x4096, .f32⟩
  | 105 => ⟨S8x4096x4096, .i1⟩
  | 106 => ⟨S_, .f32⟩
  | 107 => ⟨S8x4096x4096, .f32⟩
  | 108 => ⟨S8x4096x4096, .f32⟩
  | 109 => ⟨S8x4096x4096, .f32⟩
  | 110 => ⟨S8x4096x4096, .f32⟩
  | 111 => ⟨S8x4096x4096, .f32⟩
  | 112 => ⟨S_, .f32⟩
  | 113 => ⟨S8x4096x4096, .f32⟩
  | 114 => ⟨S8x4096x4096, .f32⟩
  | 115 => ⟨S8x4096x4096, .f32⟩
  | 116 => ⟨S_, .f32⟩
  | 117 => ⟨S_, .f32⟩
  | 118 => ⟨S8x4096x4096, .i1⟩
  | 119 => ⟨S8x4096x4096, .f32⟩
  | 120 => ⟨S8x4096x4096, .f32⟩
  | 121 => ⟨S_, .f32⟩
  | 122 => ⟨S8x4096x4096, .f32⟩
  | 123 => ⟨S_, .f32⟩
  | 124 => ⟨S_, .f32⟩
  | 125 => ⟨S8x4096x4096, .f32⟩
  | 126 => ⟨S8x4096x4096, .f32⟩
  | 127 => ⟨S8x4096x4096, .f32⟩
  | _ => ⟨S4096x512, .f32⟩

abbrev hbmTy0_1 (i : Nat) : BufTy := match i % 128 with
  | 0 => ⟨S8x4096x4096, .f32⟩
  | 1 => ⟨S_, .f32⟩
  | 2 => ⟨S_, .f32⟩
  | 3 => ⟨S8x4096x4096, .i1⟩
  | 4 => ⟨S8x4096x4096, .f32⟩
  | 5 => ⟨S8x4096x4096, .f32⟩
  | 6 => ⟨S_, .f32⟩
  | 7 => ⟨S8x4096x4096, .f32⟩
  | 8 => ⟨S4096x8x64, .f32⟩
  | 9 => ⟨S8x4096x64, .f32⟩
  | 10 => ⟨S8x4096x64, .f32⟩
  | 11 => ⟨S4096x8x64, .f32⟩
  | 12 => ⟨S4096x512, .f32⟩
  | 13 => ⟨S4096x8x64, .f32⟩
  | 14 => ⟨S8x4096x64, .f32⟩
  | 15 => ⟨S8x64x4096, .f32⟩
  | 16 => ⟨S8x4096x64, .f32⟩
  | 17 => ⟨S8x4096x4096, .f32⟩
  | 18 => ⟨S4096x8x64, .f32⟩
  | 19 => ⟨S4096x512, .f32⟩
  | 20 => ⟨S_, .f32⟩
  | 21 => ⟨S8x4096x4096, .f32⟩
  | 22 => ⟨S8x4096x4096, .f32⟩
  | 23 => ⟨S8x4096x4096, .f32⟩
  | 24 => ⟨S8x4096x4096, .f32⟩
  | 25 => ⟨S_, .f32⟩
  | 26 => ⟨S_, .f32⟩
  | 27 => ⟨S8x4096x4096, .f32⟩
  | 28 => ⟨S8x4096x4096, .f32⟩
  | 29 => ⟨S_, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S8x4096x4096, .f32⟩
  | 38 => ⟨S8x4096x4096, .f32⟩
  | 39 => ⟨S8x4096x4096, .f32⟩
  | 40 => ⟨S_, .f32⟩
  | 41 => ⟨S8x4096x4096, .f32⟩
  | 42 => ⟨S8x4096x4096, .f32⟩
  | 43 => ⟨S8x4096x64, .f32⟩
  | 44 => ⟨S8x4096x64, .f32⟩
  | 45 => ⟨S4096x8x64, .f32⟩
  | 46 => ⟨S4096x512, .f32⟩
  | 47 => ⟨S4096x8x64, .f32⟩
  | 48 => ⟨S4096x512, .f32⟩
  | 49 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1_0 : Ref sig .tc := ⟨.hbm, 33, rfl⟩
abbrev main_call0_call0_cst_0 : Ref sig .tc := ⟨.hbm, 34, rfl⟩
abbrev main_call0_call0_v13 : Ref sig .tc := ⟨.hbm, 35, rfl⟩
abbrev main_call0_call0_v14 : Ref sig .tc := ⟨.hbm, 36, rfl⟩
abbrev main_call0_call0_cst_1 : Ref sig .tc := ⟨.hbm, 37, rfl⟩
abbrev main_call0_call0_v15 : Ref sig .tc := ⟨.hbm, 38, rfl⟩
abbrev main_call0_call0_v16 : Ref sig .tc := ⟨.hbm, 39, rfl⟩
abbrev main_call0_call0_cst_2 : Ref sig .tc := ⟨.hbm, 40, rfl⟩
abbrev main_call0_call0_v17 : Ref sig .tc := ⟨.hbm, 41, rfl⟩
abbrev main_call0_call0_v18 : Ref sig .tc := ⟨.hbm, 42, rfl⟩
abbrev main_call0_call0_cst_3 : Ref sig .tc := ⟨.hbm, 43, rfl⟩
abbrev main_call0_call0_v19 : Ref sig .tc := ⟨.hbm, 44, rfl⟩
abbrev main_call0_call0_v20 : Ref sig .tc := ⟨.hbm, 45, rfl⟩
abbrev main_call0_call0_v21 : Ref sig .tc := ⟨.hbm, 46, rfl⟩
abbrev main_v13_1 : Ref sig .tc := ⟨.hbm, 47, rfl⟩
abbrev main_call0_call0_cst_4 : Ref sig .tc := ⟨.hbm, 48, rfl⟩
abbrev main_call0_call0_cst_5 : Ref sig .tc := ⟨.hbm, 49, rfl⟩
abbrev main_call0_call0_v23 : Ref sig .tc := ⟨.hbm, 50, rfl⟩
abbrev main_call0_call0_cst_6 : Ref sig .tc := ⟨.hbm, 51, rfl⟩
abbrev main_call0_call0_cst_7 : Ref sig .tc := ⟨.hbm, 52, rfl⟩
abbrev main_call0_call0_v24 : Ref sig .tc := ⟨.hbm, 53, rfl⟩
abbrev main_call0_call0_cst_8 : Ref sig .tc := ⟨.hbm, 54, rfl⟩
abbrev main_call0_call0_v25 : Ref sig .tc := ⟨.hbm, 55, rfl⟩
abbrev main_call0_call0_v26 : Ref sig .tc := ⟨.hbm, 56, rfl⟩
abbrev main_call0_call0_cst_9 : Ref sig .tc := ⟨.hbm, 57, rfl⟩
abbrev main_call0_call0_v27 : Ref sig .tc := ⟨.hbm, 58, rfl⟩
abbrev main_call0_call0_v28 : Ref sig .tc := ⟨.hbm, 59, rfl⟩
abbrev main_call0_call0_v29 : Ref sig .tc := ⟨.hbm, 60, rfl⟩
abbrev main_call0_call0_v30 : Ref sig .tc := ⟨.hbm, 61, rfl⟩
abbrev main_call0_call0_v31 : Ref sig .tc := ⟨.hbm, 62, rfl⟩
abbrev main_call0_call0_cst_10 : Ref sig .tc := ⟨.hbm, 63, rfl⟩
abbrev main_call0_call0_v32 : Ref sig .tc := ⟨.hbm, 64, rfl⟩
abbrev main_v13_2 : Ref sig .tc := ⟨.hbm, 65, rfl⟩
abbrev main_v13_0 : Ref sig .tc := ⟨.hbm, 66, rfl⟩
abbrev main_v14 : Ref sig .tc := ⟨.hbm, 67, rfl⟩
abbrev main_call1_v0 : Ref sig .tc := ⟨.hbm, 68, rfl⟩
abbrev main_call1_call0_cst : Ref sig .tc := ⟨.hbm, 69, rfl⟩
abbrev main_call1_call0_v0 : Ref sig .tc := ⟨.hbm, 70, rfl⟩
abbrev main_call1_call0_v1 : Ref sig .tc := ⟨.hbm, 71, rfl⟩
abbrev main_call1_call0_v2 : Ref sig .tc := ⟨.hbm, 72, rfl⟩
abbrev main_call1_call0_v3 : Ref sig .tc := ⟨.hbm, 73, rfl⟩
abbrev main_call1_call0_v4 : Ref sig .tc := ⟨.hbm, 74, rfl⟩
abbrev main_call1_call0_v5 : Ref sig .tc := ⟨.hbm, 75, rfl⟩
abbrev main_call1_call0_v6 : Ref sig .tc := ⟨.hbm, 76, rfl⟩
abbrev main_call1_call0_v7 : Ref sig .tc := ⟨.hbm, 77, rfl⟩
abbrev main_call1_call0_v8 : Ref sig .tc := ⟨.hbm, 78, rfl⟩
abbrev main_call1_call0_v9 : Ref sig .tc := ⟨.hbm, 79, rfl⟩
abbrev main_call1_call0_v10 : Ref sig .tc := ⟨.hbm, 80, rfl⟩
abbrev main_call1_call0_v11 : Ref sig .tc := ⟨.hbm, 81, rfl⟩
abbrev main_call1_v1_0 : Ref sig .tc := ⟨.hbm, 82, rfl⟩
abbrev main_call1_call0_cst_0 : Ref sig .tc := ⟨.hbm, 83, rfl⟩
abbrev main_call1_call0_v13 : Ref sig .tc := ⟨.hbm, 84, rfl⟩
abbrev main_call1_call0_v14 : Ref sig .tc := ⟨.hbm, 85, rfl⟩
abbrev main_call1_call0_cst_1 : Ref sig .tc := ⟨.hbm, 86, rfl⟩
abbrev main_call1_call0_v15 : Ref sig .tc := ⟨.hbm, 87, rfl⟩
abbrev main_call1_call0_v16 : Ref sig .tc := ⟨.hbm, 88, rfl⟩
abbrev main_call1_call0_cst_2 : Ref sig .tc := ⟨.hbm, 89, rfl⟩
abbrev main_call1_call0_v17 : Ref sig .tc := ⟨.hbm, 90, rfl⟩
abbrev main_call1_call0_v18 : Ref sig .tc := ⟨.hbm, 91, rfl⟩
abbrev main_call1_call0_cst_3 : Ref sig .tc := ⟨.hbm, 92, rfl⟩
abbrev main_call1_call0_v19 : Ref sig .tc := ⟨.hbm, 93, rfl⟩
abbrev main_call1_call0_v20 : Ref sig .tc := ⟨.hbm, 94, rfl⟩
abbrev main_call1_call0_v21 : Ref sig .tc := ⟨.hbm, 95, rfl⟩
abbrev main_v15_1 : Ref sig .tc := ⟨.hbm, 96, rfl⟩
abbrev main_call1_call0_cst_4 : Ref sig .tc := ⟨.hbm, 97, rfl⟩
abbrev main_call1_call0_cst_5 : Ref sig .tc := ⟨.hbm, 98, rfl⟩
abbrev main_call1_call0_v23 : Ref sig .tc := ⟨.hbm, 99, rfl⟩
abbrev main_call1_call0_cst_6 : Ref sig .tc := ⟨.hbm, 100, rfl⟩
abbrev main_call1_call0_cst_7 : Ref sig .tc := ⟨.hbm, 101, rfl⟩
abbrev main_call1_call0_v24 : Ref sig .tc := ⟨.hbm, 102, rfl⟩
abbrev main_call1_call0_cst_8 : Ref sig .tc := ⟨.hbm, 103, rfl⟩
abbrev main_call1_call0_v25 : Ref sig .tc := ⟨.hbm, 104, rfl⟩
abbrev main_call1_call0_v26 : Ref sig .tc := ⟨.hbm, 105, rfl⟩
abbrev main_call1_call0_cst_9 : Ref sig .tc := ⟨.hbm, 106, rfl⟩
abbrev main_call1_call0_v27 : Ref sig .tc := ⟨.hbm, 107, rfl⟩
abbrev main_call1_call0_v28 : Ref sig .tc := ⟨.hbm, 108, rfl⟩
abbrev main_call1_call0_v29 : Ref sig .tc := ⟨.hbm, 109, rfl⟩
abbrev main_call1_call0_v30 : Ref sig .tc := ⟨.hbm, 110, rfl⟩
abbrev main_call1_call0_v31 : Ref sig .tc := ⟨.hbm, 111, rfl⟩
abbrev main_call1_call0_cst_10 : Ref sig .tc := ⟨.hbm, 112, rfl⟩
abbrev main_call1_call0_v32 : Ref sig .tc := ⟨.hbm, 113, rfl⟩
abbrev main_v15_2 : Ref sig .tc := ⟨.hbm, 114, rfl⟩
abbrev main_v15_0 : Ref sig .tc := ⟨.hbm, 115, rfl⟩
abbrev main_cst_0 : Ref sig .tc := ⟨.hbm, 116, rfl⟩
abbrev main_call2_v0 : Ref sig .tc := ⟨.hbm, 117, rfl⟩
abbrev main_v16_1 : Ref sig .tc := ⟨.hbm, 118, rfl⟩
abbrev main_call2_v2 : Ref sig .tc := ⟨.hbm, 119, rfl⟩
abbrev main_v16_0 : Ref sig .tc := ⟨.hbm, 120, rfl⟩
abbrev main_call2_cst : Ref sig .tc := ⟨.hbm, 121, rfl⟩
abbrev main_v16_2 : Ref sig .tc := ⟨.hbm, 122, rfl⟩
abbrev main_call3_cst : Ref sig .tc := ⟨.hbm, 123, rfl⟩
abbrev main_call3_v0 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_cst_1 : Ref sig .tc := ⟨.hbm, 129, rfl⟩
abbrev main_call4_v0 : Ref sig .tc := ⟨.hbm, 130, rfl⟩
abbrev main_v21_1 : Ref sig .tc := ⟨.hbm, 131, rfl⟩
abbrev main_call4_v2 : Ref sig .tc := ⟨.hbm, 132, rfl⟩
abbrev main_v21_0 : Ref sig .tc := ⟨.hbm, 133, rfl⟩
abbrev main_call4_cst : Ref sig .tc := ⟨.hbm, 134, rfl⟩
abbrev main_v21_2 : Ref sig .tc := ⟨.hbm, 135, rfl⟩
abbrev main_v22 : Ref sig .tc := ⟨.hbm, 136, rfl⟩
abbrev main_v23 : Ref sig .tc := ⟨.hbm, 137, rfl⟩
abbrev main_v24 : Ref sig .tc := ⟨.hbm, 138, rfl⟩
abbrev main_v25 : Ref sig .tc := ⟨.hbm, 139, rfl⟩
abbrev main_v26 : Ref sig .tc := ⟨.hbm, 140, rfl⟩
abbrev main_v27 : Ref sig .tc := ⟨.hbm, 141, rfl⟩
abbrev main_v28 : Ref sig .tc := ⟨.hbm, 142, rfl⟩
abbrev main_v29 : Ref sig .tc := ⟨.hbm, 143, rfl⟩
abbrev main_v30 : Ref sig .tc := ⟨.hbm, 144, rfl⟩
abbrev main_v31 : Ref sig .tc := ⟨.hbm, 145, rfl⟩
abbrev main_v32 : Ref sig .tc := ⟨.hbm, 146, rfl⟩
abbrev main_v33 : Ref sig .tc := ⟨.hbm, 147, rfl⟩
abbrev main_call5_cst : Ref sig .tc := ⟨.hbm, 148, rfl⟩
abbrev main_call5_v0 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_call6_cst : Ref sig .tc := ⟨.hbm, 153, rfl⟩
abbrev main_call6_v0 : Ref sig .tc := ⟨.hbm, 154, rfl⟩
abbrev main_v37 : Ref sig .tc := ⟨.hbm, 155, rfl⟩
abbrev main_v38 : Ref sig .tc := ⟨.hbm, 156, rfl⟩
abbrev main_call7_cst : Ref sig .tc := ⟨.hbm, 157, rfl⟩
abbrev main_call7_v0 : Ref sig .tc := ⟨.hbm, 158, rfl⟩
abbrev main_v39 : Ref sig .tc := ⟨.hbm, 159, rfl⟩
abbrev main_call8_v0 : Ref sig .tc := ⟨.hbm, 160, rfl⟩
abbrev main_call8_v1 : Ref sig .tc := ⟨.hbm, 161, rfl⟩
abbrev main_v40 : Ref sig .tc := ⟨.hbm, 162, rfl⟩
abbrev main_v41 : Ref sig .tc := ⟨.hbm, 163, rfl⟩
abbrev main_call9_v0 : Ref sig .tc := ⟨.hbm, 164, rfl⟩
abbrev main_call9_v1 : Ref sig .tc := ⟨.hbm, 165, rfl⟩
abbrev main_v42 : Ref sig .tc := ⟨.hbm, 166, rfl⟩
abbrev main_v43 : Ref sig .tc := ⟨.hbm, 167, rfl⟩
abbrev main_cst_2 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩

abbrev nD : Nat := 1
abbrev τ : Topo := Topo.v7x

variable {F : FTy → Type} [FloatOps F]
-- ==== FfnIn.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S2816x1024 : Shape := ⟨2, ![2816, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x1024, .f32⟩
  | .hbm, ⟨12, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v23 : BitVec 1 := Scalar.cmpi .eq arg0 c0_i32
  let v24 : BitVec 32 := Scalar.extui v23
  let c0_i32_14 : BitVec 32 := 0#32
  let v25 : BitVec 1 := Scalar.cmpi .ne v24 c0_i32_14
  v25

def k0_cond2 (i : grid0.Coords) : BitVec 1 :=
  let arg0 : BitVec 32 := BitVec.ofNat 32 (i 0).val
  let c0_i32_15 : BitVec 32 := 0#32
  let v26 : BitVec 1 := Scalar.cmpi .sgt arg0 c0_i32_15
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnInRefIdeal.lean ====
abbrev S4096x1024 : Shape := ⟨2, ![4096, 1024]⟩
abbrev S1x1024 : Shape := ⟨2, ![1, 1024]⟩
abbrev S4096x2816 : Shape := ⟨2, ![4096, 2816]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S2816x1024 : Shape := ⟨2, ![2816, 1024]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x2816, .bf16⟩
  | .hbm, ⟨4, _⟩ => ⟨S4096x2816, .bf16⟩
  | .hbm, ⟨5, _⟩ => ⟨S1024x2816, .f32⟩
  | .hbm, ⟨6, _⟩ => ⟨S1024x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S2816x1024, .f32⟩
  | .hbm, ⟨31, _⟩ => ⟨S1024x2816, .f32⟩
  | .hbm, ⟨32, _⟩ => ⟨S4096x1024, .f32⟩
  | .hbm, ⟨33, _⟩ => ⟨S2816x1024, .f32⟩
  | .hbm, ⟨34, _⟩ => ⟨S1024x2816, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== FfnAct.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x128 : Shape := ⟨2, ![8, 128]⟩
abbrev S512x1024 : Shape := ⟨2, ![512, 1024]⟩
abbrev S512x1408 : Shape := ⟨2, ![512, 1408]⟩
abbrev S1408x1024 : Shape := ⟨2, ![1408, 1024]⟩

abbrev nBuf : Space → Nat
  | .hbm => 39
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x2816, .f32⟩
  | .hbm, ⟨27, _⟩ => ⟨S4096x2816, .bf16⟩
  | .hbm, ⟨28, _⟩ => ⟨S4096x2816, .f32⟩
  | .hbm, ⟨29, _⟩ => ⟨S4096x2816, .bf16⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S2816x1024, .bf16⟩
  | .hbm, ⟨35, _⟩ => ⟨S_, .f32⟩
  | .hbm, ⟨36, _⟩ => ⟨S8x128, .f32⟩
  | .hbm, ⟨37, _⟩ => ⟨S4096x2816, .bf16⟩
  | .hbm, ⟨38, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnActRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S1024x2816, .f32⟩
  | .hbm, ⟨45, _⟩ => ⟨S2816x1024, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .bf16⟩
  | .hbm, ⟨54, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_cst_2 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩

abbrev nD : Nat := 1
abbrev τ : Topo := Topo.v7x

variable {F : FTy → Type} [FloatOps F]
-- ==== MixBwd.lean ====
abbrev S4096x1024 : Shape := ⟨2, ![4096, 1024]⟩
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S512x1024 : Shape := ⟨2, ![512, 1024]⟩
abbrev S512x512 : Shape := ⟨2, ![512, 512]⟩
abbrev S512 : Shape := ⟨1, ![512]⟩

abbrev nBuf : Space → Nat
  | .hbm => 14
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3584, .f32⟩
  | .hbm, ⟨4, _⟩ => ⟨S1x512, .f32⟩
  | .hbm, ⟨5, _⟩ => ⟨S1x512, .f32⟩
  | .hbm, ⟨6, _⟩ => ⟨S1024x1024, .f32⟩
  | .hbm, ⟨7, _⟩ => ⟨S1024x1024, .bf16⟩
  | .hbm, ⟨8, _⟩ => ⟨S4096x512, .f32⟩
  | .hbm, ⟨9, _⟩ => ⟨S4096x512, .f32⟩
  | .hbm, ⟨10, _⟩ => ⟨S4096x512, .bf16⟩
  | .hbm, ⟨11, _⟩ => ⟨S1x512, .f32⟩
  | .hbm, ⟨12, _⟩ => ⟨S1x512, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S1x512, .f32⟩
  | .local _ .vmem, ⟨18, _⟩ => ⟨S1x512, .f32⟩
  | .local _ .vmem, ⟨19, _⟩ => ⟨S512x1024, .bf16⟩
  | .local _ .vmem, ⟨20, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_68 : BitVec 32 := 0#32
  let v209 : BitVec 1 := Scalar.cmpi .eq arg0 c0_i32_68
  let v210 : BitVec 32 := Scalar.extui v209
  let c0_i32_69 : BitVec 32 := 0#32
  let v211 : BitVec 1 := Scalar.cmpi .ne v210 c0_i32_69
  v211

def k0_cond2 (i : grid0.Coords) : BitVec 1 :=
  let arg0 : BitVec 32 := BitVec.ofNat 32 (i 0).val
  let c0_i32_70 : BitVec 32 := 0#32
  let v212 : BitVec 1 := Scalar.cmpi .sgt arg0 c0_i32_70
  let v213 : BitVec 32 := Scalar.extui v212
  let c0_i32_71 : BitVec 32 := 0#32
  let v214 : BitVec 1 := Scalar.cmpi .ne v213 c0_i32_71
  v214

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixBwdRefIdeal.lean ====
abbrev S4096x1024 : Shape := ⟨2, ![4096, 1024]⟩
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S4096x4x128 : Shape := ⟨3, ![4096, 4, 128]⟩
abbrev S4096x4 : Shape := ⟨2, ![4096, 4]⟩
abbrev S4096x4x1 : Shape := ⟨3, ![4096, 4, 1]⟩
abbrev S512 : Shape := ⟨1, ![512]⟩

abbrev nBuf : Space → Nat
  | .hbm => 129
  | .vmem => 0
  | .smem => 0
  | _ => 0

abbrev hbmTy0_0 (i : Nat) : BufTy := match i % 128 with
  | 0 => ⟨S4096x1024, .f32⟩
  | 1 => ⟨S4096x512, .f32⟩
  | 2 => ⟨S4096x512, .f32⟩
  | 3 => ⟨S4096x3584, .f32⟩
  | 4 => ⟨S1x512, .f32⟩
  | 5 => ⟨S1x512, .f32⟩
  | 6 => ⟨S1024x1024, .f32⟩
  | 7 => ⟨S4096x512, .f32⟩
  | 8 => ⟨S4096x8x64, .f32⟩
  | 9 => ⟨S4096x8x64, .f32⟩
  | 10 => ⟨S_, .f32⟩
  | 11 => ⟨S4096x8, .f32⟩
  | 12 => ⟨S4096x8x1, .f32⟩
  | 13 => ⟨S_, .f32⟩
  | 14 => ⟨S4096x8x1, .f32⟩
  | 15 => ⟨S4096x8x1, .f32⟩
  | 16 => ⟨S_, .f32⟩
  | 17 => ⟨S4096x8x1, .f32⟩
  | 18 => ⟨S4096x8x1, .f32⟩
  | 19 => ⟨S4096x8x1, .f32⟩
  | 20 => ⟨S4096x8x1, .f32⟩
  | 21 => ⟨S_, .f32⟩
  | 22 => ⟨S4096x8x1, .f32⟩
  | 23 => ⟨S4096x8x1, .f32⟩
  | 24 => ⟨S4096x8x64, .f32⟩
  | 25 => ⟨S4096x8x64, .f32⟩
  | 26 => ⟨S4096x512, .f32⟩
  | 27 => ⟨S4096x512, .f32⟩
  | 28 => ⟨S4096x512, .f32⟩
  | 29 => ⟨S4096x4x128, .f32⟩
  | 30 => ⟨S4096x4x128, .f32⟩
  | 31 => ⟨S_, .f32⟩
  | 32 => ⟨S4096x4, .f32⟩
  | 33 => ⟨S4096x4x1, .f32⟩
  | 34 => ⟨S_, .f32⟩
  | 35 => ⟨S4096x4x1, .f32⟩
  | 36 => ⟨S4096x4x1, .f32⟩
  | 37 => ⟨S_, .f32⟩
  | 38 => ⟨S4096x4x1, .f32⟩
  | 39 => ⟨S4096x4x1, .f32⟩
  | 40 => ⟨S4096x4x1, .f32⟩
  | 41 => ⟨S4096x4x1, .f32⟩
  | 42 => ⟨S_, .f32⟩
  | 43 => ⟨S4096x4x1, .f32⟩
  | 44 => ⟨S4096x4x1, .f32⟩
  | 45 => ⟨S4096x4x128, .f32⟩
  | 46 => ⟨S4096x4x128, .f32⟩
  | 47 => ⟨S4096x512, .f32⟩
  | 48 => ⟨S4096x512, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S4096x512, .f32⟩
  | 63 => ⟨S4096x512, .f32⟩
  | 64 => ⟨S4096x1024, .f32⟩
  | 65 => ⟨S4096x1024, .f32⟩
  | 66 => ⟨S1024x1024, .f32⟩
  | 67 => ⟨S1024x1024, .f32⟩
  | 68 => ⟨S4096x1024, .f32⟩
  | 69 => ⟨S4096x512, .f32⟩
  | 70 => ⟨S4096x512, .f32⟩
  | 71 => ⟨S4096x512, .f32⟩
  | 72 => ⟨S4096x512, .f32⟩
  | 73 => ⟨S4096x512, .f32⟩
  | 74 => ⟨S4096x512, .f32⟩
  | 75 => ⟨S4096x512, .f32⟩
  | 76 => ⟨S4096x512, .f32⟩
  | 77 => ⟨S4096x512, .f32⟩
  | 78 => ⟨S_, .f32⟩
  | 79 => ⟨S512, .f32⟩
  | 80 => ⟨S1x512, .f32⟩
  | 81 => ⟨S4096x512, .f32⟩
  | 82 => ⟨S4096x512, .f32⟩
  | 83 => ⟨S4096x4x128, .f32⟩
  | 84 => ⟨S4096x4x128, .f32⟩
  | 85 => ⟨S_, .f32⟩
  | 86 => ⟨S4096x4, .f32⟩
  | 87 => ⟨S4096x4x1, .f32⟩
  | 88 => ⟨S4096x4x128, .f32⟩
  | 89 => ⟨S4096x4x128, .f32⟩
  | 90 => ⟨S4096x4x1, .f32⟩
  | 91 => ⟨S_, .f32⟩
  | 92 => ⟨S4096x4x1, .f32⟩
  | 93 => ⟨S4096x4x1, .f32⟩
  | 94 => ⟨S_, .f32⟩
  | 95 => ⟨S4096x4, .f32⟩
  | 96 => ⟨S4096x4x128, .f32⟩
  | 97 => ⟨S4096x4x128, .f32⟩
  | 98 => ⟨S4096x4x128, .f32⟩
  | 99 => ⟨S4096x4x128, .f32⟩
  | 100 => ⟨S4096x4x128, .f32⟩
  | 101 => ⟨S4096x512, .f32⟩
  | 102 => ⟨S4096x512, .f32⟩
  | 103 => ⟨S_, .f32⟩
  | 104 => ⟨S512, .f32⟩
  | 105 => ⟨S1x512, .f32⟩
  | 106 => ⟨S4096x512, .f32⟩
  | 107 => ⟨S4096x512, .f32⟩
  | 108 => ⟨S4096x8x64, .f32⟩
  | 109 => ⟨S4096x8x64, .f32⟩
  | 110 => ⟨S_, .f32⟩
  | 111 => ⟨S4096x8, .f32⟩
  | 112 => ⟨S4096x8x1, .f32⟩
  | 113 => ⟨S4096x8x64, .f32⟩
  | 114 => ⟨S4096x8x64, .f32⟩
  | 115 => ⟨S4096x8x1, .f32⟩
  | 116 => ⟨S_, .f32⟩
  | 117 => ⟨S4096x8x1, .f32⟩
  | 118 => ⟨S4096x8x1, .f32⟩
  | 119 => ⟨S_, .f32⟩
  | 120 => ⟨S4096x8, .f32⟩
  | 121 => ⟨S4096x8x64, .f32⟩
  | 122 => ⟨S4096x8x64, .f32⟩
  | 123 => ⟨S4096x8x64, .f32⟩
  | 124 => ⟨S4096x8x64, .f32⟩
  | 125 => ⟨S4096x8x64, .f32⟩
  | 126 => ⟨S4096x512, .f32⟩
  | 127 => ⟨S4096x512, .bf16⟩
  | _ => ⟨S4096x1024, .f32⟩

abbrev hbmTy0_1 (i : Nat) : BufTy := match i % 128 with
  | 0 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v35_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v35_1 : Ref sig .tc := ⟨.hbm, 61, rfl⟩
abbrev main_v35_0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_9 : Ref sig .tc := ⟨.hbm, 91, rfl⟩
abbrev main_v59 : Ref sig .tc := ⟨.hbm, 92, rfl⟩
abbrev main_v60 : Ref sig .tc := ⟨.hbm, 93, rfl⟩
abbrev main_cst_10 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_11 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_13 : Ref sig .tc := ⟨.hbm, 116, rfl⟩
abbrev main_v80 : Ref sig .tc := ⟨.hbm, 117, rfl⟩
abbrev main_v81 : Ref sig .tc := ⟨.hbm, 118, rfl⟩
abbrev main_cst_14 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩

abbrev nD : Nat := 1
abbrev τ : Topo := Topo.v7x

variable {F : FTy → Type} [FloatOps F]
-- ==== FfnBwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩

abbrev nBuf : Space → Nat
  | .hbm => 36
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S4096x2816, .f32⟩
  | .hbm, ⟨27, _⟩ => ⟨S4096x2816, .bf16⟩
  | .hbm, ⟨28, _⟩ => ⟨S4096x2816, .f32⟩
  | .hbm, ⟨29, _⟩ => ⟨S4096x2816, .bf16⟩
  | .hbm, ⟨30, _⟩ => ⟨S2816x1024, .bf16⟩
  | .hbm, ⟨31, _⟩ => ⟨S4096x1024, .f32⟩
  | .hbm, ⟨32, _⟩ => ⟨S1x1024, .f32⟩
  | .hbm, ⟨33, _⟩ => ⟨S4096x2816, .bf16⟩
  | .hbm, ⟨34, _⟩ => ⟨S4096x2816, .bf16⟩
  | .hbm, ⟨35, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x1024, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x256, .bf16⟩
  | .local _ .vmem, ⟨29, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v54 : BitVec 1 := Scalar.cmpi .eq arg1 c10_i32
  let v55 : BitVec 32 := Scalar.extui v54
  let c0_i32_35 : BitVec 32 := 0#32
  let v56 : BitVec 1 := Scalar.cmpi .ne v55 c0_i32_35
  v56

def k0_cond3 (i : grid0.Coords) : BitVec 1 :=
  let arg0 : BitVec 32 := BitVec.ofNat 32 (i 0).val
  let c0_i32_50 : BitVec 32 := 0#32
  let v80 : BitVec 1 := Scalar.cmpi .eq arg0 c0_i32_50
  let v81 : BitVec 32 := Scalar.extui v80
  let c0_i32_51 : BitVec 32 := 0#32
  let v82 : BitVec 1 := Scalar.cmpi .ne v81 c0_i32_51
  v82

def k0_cond4 (i : grid0.Coords) : BitVec 1 :=
  let arg0 : BitVec 32 := BitVec.ofNat 32 (i 0).val
  let c0_i32_52 : BitVec 32 := 0#32
  let v83 : BitVec 1 := Scalar.cmpi .sgt arg0 c0_i32_52
  let v84 : BitVec 32 := Scalar.extui v83
  let c0_i32_53 : BitVec 32 := 0#32
  let v85 : BitVec 1 := Scalar.cmpi .ne v84 c0_i32_53
  v85

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnBwdRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1024x2816, .f32⟩
  | 4 => ⟨S1024x2816, .f32⟩
  | 5 => ⟨S2816x1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S4096x1024, .f32⟩
  | 25 => ⟨S4096x2816, .f32⟩
  | 26 => ⟨S4096x2816, .f32⟩
  | 27 => ⟨S4096x2816, .f32⟩
  | 28 => ⟨S_, .f32⟩
  | 29 => ⟨S4096x2816, .f32⟩
  | 30 => ⟨S4096x2816, .f32⟩
  | 31 => ⟨S_, .f32⟩
  | 32 => ⟨S4096x2816, .f32⟩
  | 33 => ⟨S4096x2816, .f32⟩
  | 34 => ⟨S_, .f32⟩
  | 35 => ⟨S4096x2816, .f32⟩
  | 36 => ⟨S4096x2816, .f32⟩
  | 37 => ⟨S4096x2816, .f32⟩
  | 38 => ⟨S4096x2816, .f32⟩
  | 39 => ⟨S4096x2816, .f32⟩
  | 40 => ⟨S4096x2816, .f32⟩
  | 41 => ⟨S4096x1024, .f32⟩
  | 42 => ⟨S_, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S1024x2816, .f32⟩
  | 51 => ⟨S2816x1024, .f32⟩
  | 52 => ⟨S4096x2816, .f32⟩
  | 53 => ⟨S4096x2816, .f32⟩
  | 54 => ⟨S4096x2816, .f32⟩
  | 55 => ⟨S2816x1024, .f32⟩
  | 56 => ⟨S1024x2816, .f32⟩
  | 57 => ⟨S4096x1024, .f32⟩
  | 58 => ⟨S4096x2816, .f32⟩
  | 59 => ⟨S4096x2816, .f32⟩
  | 60 => ⟨S4096x2816, .f32⟩
  | 61 => ⟨S4096x2816, .f32⟩
  | 62 => ⟨S2816x1024, .f32⟩
  | 63 => ⟨S1024x2816, .f32⟩
  | 64 => ⟨S4096x1024, .f32⟩
  | 65 => ⟨S4096x1024, .f32⟩
  | 66 => ⟨S4096x1024, .f32⟩
  | 67 => ⟨S_, .f32⟩
  | 68 => ⟨S1024, .f32⟩
  | 69 => ⟨S1x1024, .f32⟩
  | 70 => ⟨S4096x1024, .f32⟩
  | 71 => ⟨S4096x1024, .f32⟩
  | 72 => ⟨S4096x1024, .f32⟩
  | 73 => ⟨S_, .f32⟩
  | 74 => ⟨S4096, .f32⟩
  | 75 => ⟨S4096x1, .f32⟩
  | 76 => ⟨S4096x1024, .f32⟩
  | 77 => ⟨S4096x1024, .f32⟩
  | 78 => ⟨S4096x1024, .f32⟩
  | 79 => ⟨S4096x1, .f32⟩
  | 80 => ⟨S_, .f32⟩
  | 81 => ⟨S4096x1, .f32⟩
  | 82 => ⟨S4096x1, .f32⟩
  | 83 => ⟨S_, .f32⟩
  | 84 => ⟨S4096, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x1, .f32⟩
  | 99 => ⟨S4096x1, .f32⟩
  | 100 => ⟨S4096x1, .f32⟩
  | 101 => ⟨S4096x1024, .f32⟩
  | 102 => ⟨S4096x1024, .f32⟩
  | 103 => ⟨S4096x1024, .f32⟩
  | 104 => ⟨S4096x1024, .f32⟩
  | 105 => ⟨S4096x2816, .f32⟩
  | 106 => ⟨S4096x2816, .f32⟩
  | 107 => ⟨S4096x2816, .f32⟩
  | 108 => ⟨S4096x2816, .f32⟩
  | 109 => ⟨S_, .f32⟩
  | 110 => ⟨S4096x2816, .f32⟩
  | 111 => ⟨S4096x2816, .f32⟩
  | 112 => ⟨S_, .f32⟩
  | 113 => ⟨S4096x2816, .f32⟩
  | 114 => ⟨S4096x2816, .f32⟩
  | 115 => ⟨S_, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x1024, .f32⟩
  | 122 => ⟨S_, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x2816, .f32⟩
  | 1 => ⟨S2816x1024, .f32⟩
  | 2 => ⟨S4096x2816, .f32⟩
  | 3 => ⟨S4096x2816, .f32⟩
  | 4 => ⟨S4096x2816, .f32⟩
  | 5 => ⟨S4096x2816, .f32⟩
  | 6 => ⟨S4096x2816, .f32⟩
  | 7 => ⟨S4096x2816, .f32⟩
  | 8 => ⟨S4096x2816, .f32⟩
  | 9 => ⟨S4096x2816, .bf16⟩
  | 10 => ⟨S4096x2816, .bf16⟩
  | 11 => ⟨S_, .f32⟩
  | 12 => ⟨S4096x1024, .f32⟩
  | 13 => ⟨S4096x1024, .f32⟩
  | 14 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_9 : Ref sig .tc := ⟨.hbm, 91, rfl⟩
abbrev main_v60 : Ref sig .tc := ⟨.hbm, 92, rfl⟩
abbrev main_v61 : Ref sig .tc := ⟨.hbm, 93, rfl⟩
abbrev main_cst_10 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_v73_2 : Ref sig .tc := ⟨.hbm, 114, rfl⟩
abbrev main_call2_cst_1 : Ref sig .tc := ⟨.hbm, 115, rfl⟩
abbrev main_call2_v6 : Ref sig .tc := ⟨.hbm, 116, rfl⟩
abbrev main_call2_v7 : Ref sig .tc := ⟨.hbm, 117, rfl⟩
abbrev main_v73_1 : Ref sig .tc := ⟨.hbm, 118, rfl⟩
abbrev main_v73_0 : Ref sig .tc := ⟨.hbm, 119, rfl⟩
abbrev main_v74 : Ref sig .tc := ⟨.hbm, 120, rfl⟩
abbrev main_v75 : Ref sig .tc := ⟨.hbm, 121, rfl⟩
abbrev main_cst_12 : Ref sig .tc := ⟨.hbm, 122, rfl⟩
abbrev main_v76 : Ref sig .tc := ⟨.hbm, 123, rfl⟩
abbrev main_v77 : Ref sig .tc := ⟨.hbm, 124, rfl⟩
abbrev main_cst_13 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_14 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩

abbrev nD : Nat := 1
abbrev τ : Topo := Topo.v7x

variable {F : FTy → Type} [FloatOps F]
-- ==== FfnHead.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S256x1024 : Shape := ⟨2, ![256, 1024]⟩
abbrev S1024x256 : Shape := ⟨2, ![1024, 256]⟩
abbrev S1024 : Shape := ⟨1, ![1024]⟩
abbrev S1024x1 : Shape := ⟨2, ![1024, 1]⟩
abbrev S1 : Shape := ⟨1, ![1]⟩
abbrev S1x1 : Shape := ⟨2, ![1, 1]⟩

abbrev nBuf : Space → Nat
  | .hbm => 19
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x2816, .bf16⟩
  | .hbm, ⟨14, _⟩ => ⟨S4096x2816, .bf16⟩
  | .hbm, ⟨15, _⟩ => ⟨S4096x1024, .bf16⟩
  | .hbm, ⟨16, _⟩ => ⟨S4096x2816, .bf16⟩
  | .hbm, ⟨17, _⟩ => ⟨S1x1024, .f32⟩
  | .hbm, ⟨18, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x1024, .bf16⟩
  | .local _ .vmem, ⟨20, _⟩ => ⟨S1024x1024, .bf16⟩
  | .local _ .vmem, ⟨21, _⟩ => ⟨S1024x256, .bf16⟩
  | .local _ .vmem, ⟨22, _⟩ => ⟨S1024x256, .bf16⟩
  | .local _ .vmem, ⟨23, _⟩ => ⟨S1x1024, .f32⟩
  | .local _ .vmem, ⟨24, _⟩ => ⟨S1x1024, .f32⟩
  | .local _ .vmem, ⟨25, _⟩ => ⟨S1024x1024, .f32⟩
  | .local _ .vmem, ⟨26, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨2, ![4, 11], ![false, false]⟩

def k0_cond2 (i : grid0.Coords) : BitVec 1 :=
  let arg1 : BitVec 32 := BitVec.ofNat 32 (i 1).val
  let c10_i32 : BitVec 32 := 10#32
  let v38 : BitVec 1 := Scalar.cmpi .eq arg1 c10_i32
  let v39 : BitVec 32 := Scalar.extui v38
  let c0_i32_27 : BitVec 32 := 0#32
  let v40 : BitVec 1 := Scalar.cmpi .ne v39 c0_i32_27
  v40

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c0_i32_53 : BitVec 32 := 0#32
  let v92 : BitVec 1 := Scalar.cmpi .eq arg0 c0_i32_53
  let v93 : BitVec 32 := Scalar.extui v92
  let c0_i32_54 : BitVec 32 := 0#32
  let v94 : BitVec 1 := Scalar.cmpi .ne v93 c0_i32_54
  v94

def k0_cond4 (i : grid0.Coords) : BitVec 1 :=
  let arg0 : BitVec 32 := BitVec.ofNat 32 (i 0).val
  let c0_i32_55 : BitVec 32 := 0#32
  let v95 : BitVec 1 := Scalar.cmpi .sgt arg0 c0_i32_55
  let v96 : BitVec 32 := Scalar.extui v95
  let c0_i32_56 : BitVec 32 := 0#32
  let v97 : BitVec 1 := Scalar.cmpi .ne v96 c0_i32_56
  v97

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![c10_i32.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]
-- ==== FfnHeadRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 137
  | .vmem => 0
  | .smem => 0
  | _ => 0

abbrev hbmTy0_0 (i : Nat) : BufTy := match i % 128 with
  | 0 => ⟨S4096x1024, .f32⟩
  | 1 => ⟨S1x1024, .f32⟩
  | 2 => ⟨S1024x2816, .f32⟩
  | 3 => ⟨S1024x2816, .f32⟩
  | 4 => ⟨S2816x1024, .f32⟩
  | 5 => ⟨S1x1024, .f32⟩
  | 6 => ⟨S4096x1024, .f32⟩
  | 7 => ⟨S4096x1024, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1, .f32⟩
  | 18 => ⟨S4096x1024, .f32⟩
  | 19 => ⟨S4096x1024, .f32⟩
  | 20 => ⟨S4096x1024, .f32⟩
  | 21 => ⟨S4096x1024, .f32⟩
  | 22 => ⟨S4096x2816, .f32⟩
  | 23 => ⟨S4096x2816, .f32⟩
  | 24 => ⟨S4096x1024, .f32⟩
  | 25 => ⟨S_, .f32⟩
  | 26 => ⟨S4096, .f32⟩
  | 27 => ⟨S4096x1, .f32⟩
  | 28 => ⟨S_, .f32⟩
  | 29 => ⟨S4096x1, .f32⟩
  | 30 => ⟨S4096x1, .f32⟩
  | 31 => ⟨S_, .f32⟩
  | 32 => ⟨S4096x1, .f32⟩
  | 33 => ⟨S4096x1, .f32⟩
  | 34 => ⟨S4096x1, .f32⟩
  | 35 => ⟨S4096x1024, .f32⟩
  | 36 => ⟨S4096x1024, .f32⟩
  | 37 => ⟨S4096x1024, .f32⟩
  | 38 => ⟨S4096x1024, .f32⟩
  | 39 => ⟨S4096x2816, .f32⟩
  | 40 => ⟨S4096x2816, .f32⟩
  | 41 => ⟨S4096x2816, .f32⟩
  | 42 => ⟨S_, .f32⟩
  | 43 => ⟨S4096x2816, .f32⟩
  | 44 => ⟨S4096x2816, .f32⟩
  | 45 => ⟨S_, .f32⟩
  | 46 => ⟨S4096x2816, .f32⟩
  | 47 => ⟨S4096x2816, .f32⟩
  | 48 => ⟨S4096x2816, .f32⟩
  | 49 => ⟨S4096x2816, .f32⟩
  | 50 => ⟨S4096x2816, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096, .f32⟩
  | 59 => ⟨S4096x1, .f32⟩
  | 60 => ⟨S_, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1, .f32⟩
  | 67 => ⟨S4096x1, .f32⟩
  | 68 => ⟨S_, .f32⟩
  | 69 => ⟨S4096x1, .f32⟩
  | 70 => ⟨S4096x1, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S_, .f32⟩
  | 81 => ⟨S4096, .f32⟩
  | 82 => ⟨S_, .f32⟩
  | 83 => ⟨S4096, .f32⟩
  | 84 => ⟨S4096, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S4096, .f32⟩
  | 93 => ⟨S_, .f32⟩
  | 94 => ⟨S4096, .f32⟩
  | 95 => ⟨S4096, .f32⟩
  | 96 => ⟨S4096x1024, .f32⟩
  | 97 => ⟨S4096x1024, .f32⟩
  | 98 => ⟨S4096x1024, .f32⟩
  | 99 => ⟨S4096x1024, .f32⟩
  | 100 => ⟨S_, .f32⟩
  | 101 => ⟨S1024, .f32⟩
  | 102 => ⟨S1x1024, .f32⟩
  | 103 => ⟨S4096x1024, .f32⟩
  | 104 => ⟨S4096x1024, .f32⟩
  | 105 => ⟨S4096x1024, .f32⟩
  | 106 => ⟨S_, .f32⟩
  | 107 => ⟨S4096, .f32⟩
  | 108 => ⟨S4096x1, .f32⟩
  | 109 => ⟨S4096x1024, .f32⟩
  | 110 => ⟨S4096x1024, .f32⟩
  | 111 => ⟨S4096x1, .f32⟩
  | 112 => ⟨S_, .f32⟩
  | 113 => ⟨S4096x1, .f32⟩
  | 114 => ⟨S4096x1, .f32⟩
  | 115 => ⟨S_, .f32⟩
  | 116 => ⟨S4096, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x2816, .f32⟩
  | 123 => ⟨S4096x2816, .f32⟩
  | 124 => ⟨S_, .f32⟩
  | 125 => ⟨S4096x2816, .f32⟩
  | 126 => ⟨S4096x2816, .f32⟩
  | 127 => ⟨S_, .f32⟩
  | _ => ⟨S4096x1024, .f32⟩

abbrev hbmTy0_1 (i : Nat) : BufTy := match i % 128 with
  | 0 => ⟨S4096x2816, .f32⟩
  | 1 => ⟨S4096x2816, .f32⟩
  | 2 => ⟨S4096x2816, .f32⟩
  | 3 => ⟨S4096x2816, .f32⟩
  | 4 => ⟨S4096x2816, .bf16⟩
  | 5 => ⟨S4096x2816, .bf16⟩
  | 6 => ⟨S4096x1024, .bf16⟩
  | 7 => ⟨S4096x2816, .bf16⟩
  | 8 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_cst_12 : Ref sig .tc := ⟨.hbm, 82, rfl⟩
abbrev main_v54 : Ref sig .tc := ⟨.hbm, 83, rfl⟩
abbrev main_v55 : Ref sig .tc := ⟨.hbm, 84, rfl⟩
abbrev main_cst_13 : Ref sig .tc := ⟨.hbm, 85, rfl⟩
abbrev main_v56 : Ref sig .tc := ⟨.hbm, 86, rfl⟩
abbrev main_cst_14 : Ref sig .tc := ⟨.hbm, 87, rfl⟩
abbrev main_v57 : Ref sig .tc := ⟨.hbm, 88, rfl⟩
abbrev main_cst_15 : Ref sig .tc := ⟨.hbm, 89, rfl⟩
abbrev main_cst_16 : Ref sig .tc := ⟨.hbm, 90, rfl⟩
abbrev main_v58 : Ref sig .tc := ⟨.hbm, 91, rfl⟩
abbrev main_v59 : Ref sig .tc := ⟨.hbm, 92, rfl⟩
abbrev main_cst_17 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_18 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_19 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_20 : Ref sig .tc := ⟨.hbm, 112, rfl⟩
abbrev main_v76 : Ref sig .tc := ⟨.hbm, 113, rfl⟩
abbrev main_v77 : Ref sig .tc := ⟨.hbm, 114, rfl⟩
abbrev main_cst_21 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩

abbrev nD : Nat := 1
abbrev τ : Topo := Topo.v7x

variable {F : FTy → Type} [FloatOps F]
-- ==== DownFwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 37
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S2816x1024, .bf16⟩
  | .hbm, ⟨35, _⟩ => ⟨S4096x1024, .f32⟩
  | .hbm, ⟨36, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownFwdRefIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩

abbrev nD : Nat := 1
abbrev τ : Topo := Topo.v7x

variable {F : FTy → Type} [FloatOps F]
-- ==== MixFwd.lean ====
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S4096x1024 : Shape := ⟨2, ![4096, 1024]⟩
abbrev S512x512 : Shape := ⟨2, ![512, 512]⟩
abbrev S512x1024 : Shape := ⟨2, ![512, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S4096x1024, .f32⟩
  | .hbm, ⟨7, _⟩ => ⟨S1024x1024, .bf16⟩
  | .hbm, ⟨8, _⟩ => ⟨S4096x1024, .f32⟩
  | .hbm, ⟨9, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S1x512, .f32⟩
  | .local _ .vmem, ⟨8, _⟩ => ⟨S1024x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixFwdRefIdeal.lean ====
abbrev S4096x512 : Shape := ⟨2, ![4096, 512]⟩
abbrev S4096x3584 : Shape := ⟨2, ![4096, 3584]⟩
abbrev S1x512 : Shape := ⟨2, ![1, 512]⟩
abbrev S1024x1024 : Shape := ⟨2, ![1024, 1024]⟩
abbrev S4096x1024 : Shape := ⟨2, ![4096, 1024]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S4096x4x128 : Shape := ⟨3, ![4096, 4, 128]⟩
abbrev S4096x4 : Shape := ⟨2, ![4096, 4]⟩
abbrev S4096x4x1 : Shape := ⟨3, ![4096, 4, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x3584, .f32⟩
  | .hbm, ⟨3, _⟩ => ⟨S1x512, .f32⟩
  | .hbm, ⟨4, _⟩ => ⟨S1x512, .f32⟩
  | .hbm, ⟨5, _⟩ => ⟨S1024x1024, .f32⟩
  | .hbm, ⟨6, _⟩ => ⟨S4096x1024, .f32⟩
  | .hbm, ⟨7, _⟩ => ⟨S4096x512, .f32⟩
  | .hbm, ⟨8, _⟩ => ⟨S4096x8x64, .f32⟩
  | .hbm, ⟨9, _⟩ => ⟨S4096x8x64, .f32⟩
  | .hbm, ⟨10, _⟩ => ⟨S_, .f32⟩
  | .hbm, ⟨11, _⟩ => ⟨S4096x8, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S4096x8x1, .f32⟩
  | .hbm, ⟨20, _⟩ => ⟨S4096x8x64, .f32⟩
  | .hbm, ⟨21, _⟩ => ⟨S4096x8x64, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x4x128, .f32⟩
  | .hbm, ⟨26, _⟩ => ⟨S4096x4x128, .f32⟩
  | .hbm, ⟨27, _⟩ => ⟨S_, .f32⟩
  | .hbm, ⟨28, _⟩ => ⟨S4096x4, .f32⟩
  | .hbm, ⟨29, _⟩ => ⟨S4096x4x1, .f32⟩
  | .hbm, ⟨30, _⟩ => ⟨S_, .f32⟩
  | .hbm, ⟨31, _⟩ => ⟨S4096x4x1, .f32⟩
  | .hbm, ⟨32, _⟩ => ⟨S4096x4x1, .f32⟩
  | .hbm, ⟨33, _⟩ => ⟨S_, .f32⟩
  | .hbm, ⟨34, _⟩ => ⟨S4096x4x1, .f32⟩
  | .hbm, ⟨35, _⟩ => ⟨S4096x4x1, .f32⟩
  | .hbm, ⟨36, _⟩ => ⟨S4096x4x1, .f32⟩
  | .hbm, ⟨37, _⟩ => ⟨S4096x4x128, .f32⟩
  | .hbm, ⟨38, _⟩ => ⟨S4096x4x128, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== ActFwd.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ActFwdRefIdeal.lean ====
abbrev S4096x1024 : Shape := ⟨2, ![4096, 1024]⟩
abbrev S1x1024 : Shape := ⟨2, ![1, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .bf16⟩
  | .hbm, ⟨32, _⟩ => ⟨S4096x2816, .bf16⟩
  | .hbm, ⟨33, _⟩ => ⟨S4096x2816, .bf16⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== InDw.lean ====
abbrev S4096x3584 : Shape := ⟨2, ![4096, 3584]⟩
abbrev S4096x1024 : Shape := ⟨2, ![4096, 1024]⟩
abbrev S3584x1024 : Shape := ⟨2, ![3584, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S3584x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![14, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDwRefIdeal.lean ====
abbrev S4096x3584 : Shape := ⟨2, ![4096, 3584]⟩
abbrev S4096x1024 : Shape := ⟨2, ![4096, 1024]⟩
abbrev S_ : Shape := ⟨0, ![]⟩
abbrev S1024x3584 : Shape := ⟨2, ![1024, 3584]⟩
abbrev S3584x1024 : Shape := ⟨2, ![3584, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S_, .f32⟩
  | .hbm, ⟨3, _⟩ => ⟨S1024x3584, .f32⟩
  | .hbm, ⟨4, _⟩ => ⟨S4096x1024, .f32⟩
  | .hbm, ⟨5, _⟩ => ⟨S4096x3584, .f32⟩
  | .hbm, ⟨6, _⟩ => ⟨S4096x3584, .f32⟩
  | .hbm, ⟨7, _⟩ => ⟨S3584x1024, .f32⟩
  | .hbm, ⟨8, _⟩ => ⟨S1024x3584, .f32⟩
  | .hbm, ⟨9, _⟩ => ⟨S3584x1024, .f32⟩
  | .hbm, ⟨10, _⟩ => ⟨S3584x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AdamW.lean ====
abbrev S8x448x1024 : Shape := ⟨3, ![8, 448, 1024]⟩
abbrev S1x448x1024 : Shape := ⟨3, ![1, 448, 1024]⟩
abbrev S8x224x1024 : Shape := ⟨3, ![8, 224, 1024]⟩
abbrev S1x224x1024 : Shape := ⟨3, ![1, 224, 1024]⟩
abbrev S224x1024 : Shape := ⟨2, ![224, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x448x1024, .bf16⟩
  | .hbm, ⟨1, _⟩ => ⟨S1x448x1024, .f32⟩
  | .hbm, ⟨2, _⟩ => ⟨S1x448x1024, .f32⟩
  | .hbm, ⟨3, _⟩ => ⟨S1x448x1024, .f32⟩
  | .hbm, ⟨4, _⟩ => ⟨S1x448x1024, .f32⟩
  | .hbm, ⟨5, _⟩ => ⟨S1x448x1024, .f32⟩
  | .hbm, ⟨6, _⟩ => ⟨S1x448x1024, .f32⟩
  | .hbm, ⟨7, _⟩ => ⟨S1x448x1024, .f32⟩
  | .local _ .vmem, ⟨0, _⟩ => ⟨S8x224x1024, .bf16⟩
  | .local _ .vmem, ⟨1, _⟩ => ⟨S8x224x1024, .bf16⟩
  | .local _ .vmem, ⟨2, _⟩ => ⟨S1x224x1024, .f32⟩
  | .local _ .vmem, ⟨3, _⟩ => ⟨S1x224x1024, .f32⟩
  | .local _ .vmem, ⟨4, _⟩ => ⟨S1x224x1024, .f32⟩
  | .local _ .vmem, ⟨5, _⟩ => ⟨S1x224x1024, .f32⟩
  | .local _ .vmem, ⟨6, _⟩ => ⟨S1x224x1024, .f32⟩
  | .local _ .vmem, ⟨7, _⟩ => ⟨S1x224x1024, .f32⟩
  | .local _ .vmem, ⟨8, _⟩ => ⟨S1x224x1024, .f32⟩
  | .local _ .vmem, ⟨9, _⟩ => ⟨S1x224x1024, .f32⟩
  | .local _ .vmem, ⟨10, _⟩ => ⟨S1x224x1024, .f32⟩
  | .local _ .vmem, ⟨11, _⟩ => ⟨S1x224x1024, .f32⟩
  | .local _ .vmem, ⟨12, _⟩ => ⟨S1x224x1024, .f32⟩
  | .local _ .vmem, ⟨13, _⟩ => ⟨S1x224x1024, .f32⟩
  | .local _ .vmem, ⟨14, _⟩ => ⟨S1x224x1024, .f32⟩
  | .local _ .vmem, ⟨15, _⟩ => ⟨S1x224x1024, .f32⟩
  | _, _ => ⟨S8x448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S8x448x1024 : Shape := ⟨3, ![8, 448, 1024]⟩
abbrev S1x448x1024 : Shape := ⟨3, ![1, 448, 1024]⟩
abbrev S_ : Shape := ⟨0, ![]⟩
abbrev S448x1024 : Shape := ⟨2, ![448, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x448x1024, .bf16⟩
  | .hbm, ⟨1, _⟩ => ⟨S1x448x1024, .f32⟩
  | .hbm, ⟨2, _⟩ => ⟨S1x448x1024, .f32⟩
  | .hbm, ⟨3, _⟩ => ⟨S1x448x1024, .f32⟩
  | .hbm, ⟨4, _⟩ => ⟨S8x448x1024, .f32⟩
  | .hbm, ⟨5, _⟩ => ⟨S_, .f32⟩
  | .hbm, ⟨6, _⟩ => ⟨S448x1024, .f32⟩
  | .hbm, ⟨7, _⟩ => ⟨S448x1024, .f32⟩
  | .hbm, ⟨8, _⟩ => ⟨S448x1024, .f32⟩
  | .hbm, ⟨9, _⟩ => ⟨S448x1024, .f32⟩
  | .hbm, ⟨10, _⟩ => ⟨S_, .f32⟩
  | .hbm, ⟨11, _⟩ => ⟨S448x1024, .f32⟩
  | .hbm, ⟨12, _⟩ => ⟨S448x1024, .f32⟩
  | .hbm, ⟨13, _⟩ => ⟨S_, .f32⟩
  | .hbm, ⟨14, _⟩ => ⟨S448x1024, .f32⟩
  | .hbm, ⟨15, _⟩ => ⟨S448x1024, .f32⟩
  | .hbm, ⟨16, _⟩ => ⟨S448x1024, .f32⟩
  | .hbm, ⟨17, _⟩ => ⟨S_, .f32⟩
  | .hbm, ⟨18, _⟩ => ⟨S448x1024, .f32⟩
  | .hbm, ⟨19, _⟩ => ⟨S448x1024, .f32⟩
  | .hbm, ⟨20, _⟩ => ⟨S448x1024, .f32⟩
  | .hbm, ⟨21, _⟩ => ⟨S_, .f32⟩
  | .hbm, ⟨22, _⟩ => ⟨S448x1024, .f32⟩
  | .hbm, ⟨23, _⟩ => ⟨S448x1024, .f32⟩
  | .hbm, ⟨24, _⟩ => ⟨S448x1024, .f32⟩
  | .hbm, ⟨25, _⟩ => ⟨S_, .f32⟩
  | .hbm, ⟨26, _⟩ => ⟨S448x1024, .f32⟩
  | .hbm, ⟨27, _⟩ => ⟨S448x1024, .f32⟩
  | .hbm, ⟨28, _⟩ => ⟨S_, .f32⟩
  | .hbm, ⟨29, _⟩ => ⟨S448x1024, .f32⟩
  | .hbm, ⟨30, _⟩ => ⟨S448x1024, .f32⟩
  | .hbm, ⟨31, _⟩ => ⟨S448x1024, .f32⟩
  | .hbm, ⟨32, _⟩ => ⟨S_, .f32⟩
  | .hbm, ⟨33, _⟩ => ⟨S448x1024, .f32⟩
  | .hbm, ⟨34, _⟩ => ⟨S448x1024, .f32⟩
  | .hbm, ⟨35, _⟩ => ⟨S448x1024, .f32⟩
  | .hbm, ⟨36, _⟩ => ⟨S_, .f32⟩
  | .hbm, ⟨37, _⟩ => ⟨S448x1024, .f32⟩
  | .hbm, ⟨38, _⟩ => ⟨S448x1024, .f32⟩
  | .hbm, ⟨39, _⟩ => ⟨S448x1024, .f32⟩
  | .hbm, ⟨40, _⟩ => ⟨S_, .f32⟩
  | .hbm, ⟨41, _⟩ => ⟨S448x1024, .f32⟩
  | .hbm, ⟨42, _⟩ => ⟨S448x1024, .f32⟩
  | .hbm, ⟨43, _⟩ => ⟨S1x448x1024, .f32⟩
  | .hbm, ⟨44, _⟩ => ⟨S1x448x1024, .f32⟩
  | .hbm, ⟨45, _⟩ => ⟨S1x448x1024, .f32⟩
  | .hbm, ⟨46, _⟩ => ⟨S1x448x1024, .f32⟩
  | _, _ => ⟨S8x448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.Shared.Finite.lean ====
/- Arrays of finite extended reals: the precondition read as "every element is a real number", and sums of
   real numbers taken in the extended reals. -/
module

public import Idealize.ShloMosaic.Lib.StableHlo
public import Idealize.ShloMosaic.PureOps
public import Idealize.ShloMosaic.Lib.Pointwise

@[expose] public section

set_option maxRecDepth 16384

noncomputable section

namespace Cert.Shared

open Idealize.ShloMosaic

/-- A sum of real numbers, taken in the extended reals, is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

theorem and_eq_one (a b : BitVec 1) (h : IntOp.andi a b = 1#1) : a = 1#1 ∧ b = 1#1 := by
  revert a b; decide

theorem foldl_and {α : Type*} (l : List α) (f : α → BitVec 1) (v : BitVec 1)
    (h : l.foldl (fun r n => IntOp.andi r (f n)) v = 1#1) : ∀ n ∈ l, f n = 1#1 := by
  induction l generalizing v with
  | nil => simp
  | cons a l ih =>
    have hv : ∀ (l : List α) (v : BitVec 1), l.foldl (fun r n => IntOp.andi r (f n)) v = 1#1 → v = 1#1 := by
      intro l
      induction l with
      | nil => intro v h; exact h
      | cons b l ih => intro v h; exact (and_eq_one _ _ (ih _ h)).1
    intro n hn
    rcases List.mem_cons.1 hn with rfl | hn
    · exact (and_eq_one _ _ (hv _ _ h)).2
    · exact ih _ h n hn

/-- A reduction by `and` to one truth value that ends at one: every element was one. -/
theorem all_of_reduce {s : Shape} {axes : List (Fin s.rank)} {u : Shape} (x : IVec s 1) (v : u.Idx → BitVec 1)
    (h : s.ReducesTo axes ⟨0, ![]⟩) (hu : 0 < u.numel) (j : Shape.Idx ⟨0, ![]⟩)
    (e : Host.reduce IntOp.andi x v h hu j = 1#1) (i : s.Idx) : x i = 1#1 := by
  unfold Host.reduce at e
  have := foldl_and _ _ _ e (s.rowMajor i) (by
    rw [List.mem_filter]
    exact ⟨List.mem_finRange _, by simpa using funext fun a => a.elim0⟩)
  simpa using this

theorem real_of_abs_lt (x : EReal) (h : max x (-x) < ⊤) : ∃ r : ℝ, x = (r : EReal) := by
  induction x using EReal.rec with
  | bot => simp at h
  | coe r => exact ⟨r, rfl⟩
  | top => simp at h

theorem ofBits_inf : Ideal.ofBits .f32 0x7F800000#32 = ⊤ := by simp [Ideal.ofBits, Ideal.ieee]

/-- The comparison of the precondition, at one element. -/
theorem real_of_cmp (x : EReal)
    (h : FloatOps.cmpf (F := Ideal) (φ := .f32) .olt (max x (-x)) (Ideal.ofBits .f32 0x7F800000#32) = 1#1) :
    ∃ r : ℝ, x = (r : EReal) := by
  rw [ofBits_inf] at h
  refine real_of_abs_lt x ?_
  by_contra hc
  have : FloatOps.cmpf (F := Ideal) (φ := .f32) .olt (max x (-x)) ⊤ = 0#1 := by
    show Ideal.cmp .olt (max x (-x)) ⊤ = 0#1
    unfold Ideal.cmp
    simp only [hc, decide_false]; rfl
  rw [this] at h
  exact absurd h (by decide)

/-- An array of finite numbers, as an array of real numbers. -/
theorem real_array {ι : Type*} (x : ι → EReal) (h : ∀ i, ∃ r : ℝ, x i = (r : EReal)) : ∃ f : ι → ℝ, x = fun i => ((f i : ℝ) : EReal) :=
  ⟨fun i => (h i).choose, funext fun i => (h i).choose_spec⟩

theorem sum_real {ι : Type*} [Fintype ι] (f : ι → EReal) (h : ∀ i, ∃ r : ℝ, f i = (r : EReal)) : ∃ r : ℝ, (∑ i, f i) = (r : EReal) := by
  obtain ⟨f, rfl⟩ := real_array f h
  exact ⟨_, sum_coe _ _⟩

theorem add_real {x y : EReal} (hx : ∃ r : ℝ, x = (r : EReal)) (hy : ∃ r : ℝ, y = (r : EReal)) : ∃ r : ℝ, x + y = (r : EReal) := by
  obtain ⟨r, rfl⟩ := hx
  obtain ⟨s, rfl⟩ := hy
  exact ⟨r + s, (EReal.coe_add r s).symm⟩

theorem mul_real {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨a * b, (EReal.coe_mul _ _).symm⟩

end Cert.Shared

end
-- ==== Proof.Shared.Norm.lean ====
/- The gradient of a row's root-mean-square normalisation, in the two forms the programs compute: the kernel's
   `r + ρ·(dg − x̂·mean(dg·x̂))` and the one differentiation gives. They agree where the row, the cotangent and the
   gain are real numbers. -/
module

public import proofs.«01_k».proof.Proof.Shared.Finite
public import Mathlib.Tactic.FieldSimp
public import Mathlib.Tactic.Linarith

@[expose] public section

set_option maxRecDepth 16384

noncomputable section

namespace Cert.Shared

open Idealize.ShloMosaic

/-- The constants of a row of 1024: its length, the term under the root, minus a half, a half. -/
abbrev cN : EReal := Ideal.ofBits .f32 0x44800000#32
abbrev cE : EReal := Ideal.ofBits .f32 0x358637BD#32
abbrev cM : EReal := Ideal.ofBits .f32 0xBF000000#32
abbrev cH : EReal := Ideal.ofBits .f32 0x3F000000#32

theorem cN_eq : cN = ((1024 : ℝ) : EReal) := by simp [Ideal.ofBits, Ideal.ieee, -EReal.coe_mul]; norm_num
theorem cM_eq : cM = ((-1/2 : ℝ) : EReal) := by simp [Ideal.ofBits, Ideal.ieee, -EReal.coe_mul]; norm_num
theorem cH_eq : cH = ((1/2 : ℝ) : EReal) := by simp [Ideal.ofBits, Ideal.ieee, -EReal.coe_mul]; norm_num
theorem cE_eq : cE = ((8796093 / 8796093022208 : ℝ) : EReal) := by
  simp [Ideal.ofBits, Ideal.ieee, -EReal.coe_mul]; norm_num
theorem c0_eq : Ideal.ofBits .f32 0x00000000#32 = 0 := by simp [Ideal.ofBits, Ideal.ieee]

variable {n : ℕ}

/-- The mean square of a row plus the small term, and the reciprocal of its root. -/
def ms (N : EReal) (x : Fin n → EReal) : EReal := Ideal.div (∑ k, x k * x k) N + cE
def rstd (N : EReal) (x : Fin n → EReal) : EReal := Ideal.rsqrt (ms N x)

/-- The kernel's form of the gradient. -/
def dxK (N : EReal) (x d g : Fin n → EReal) (r : EReal) (j : Fin n) : EReal :=
  r + rstd N x * (d j * g j - x j * rstd N x * Ideal.div (∑ k, d k * g k * (x k * rstd N x)) N)

/-- The form differentiation gives: `q` is the cotangent of the mean square, over the length. -/
def dxQ (N : EReal) (x d g : Fin n → EReal) : EReal :=
  Ideal.div ((∑ k, x k * (d k * g k)) * (cM * Ideal.div (rstd N x) (ms N x))) N
def dxR (N : EReal) (x d g : Fin n → EReal) (r : EReal) (j : Fin n) : EReal :=
  r + d j * g j * rstd N x + x j * dxQ N x d g + dxQ N x d g * x j

/-- At a row of real numbers both are the root's reciprocal of a positive real. -/
theorem ms_coe (N : ℝ) (hN : 0 < N) (x : Fin n → ℝ) :
    ∃ s : ℝ, 0 < s ∧ ms (N : EReal) (fun k => ((x k : ℝ) : EReal)) = (s : EReal)
      ∧ rstd (N : EReal) (fun k => ((x k : ℝ) : EReal)) = ((Real.sqrt s)⁻¹ : ℝ) := by
  have h0 : 0 ≤ ∑ k, x k * x k := Finset.sum_nonneg fun k _ => mul_self_nonneg _
  have hs : 0 < (∑ k, x k * x k) * (1 / N) + 8796093 / 8796093022208 := by positivity
  have e : ms (N : EReal) (fun k => ((x k : ℝ) : EReal)) = (((∑ k, x k * x k) * (1 / N) + 8796093 / 8796093022208 : ℝ) : EReal) := by
    unfold ms
    simp only [← EReal.coe_mul, sum_coe]
    rw [Ideal.div_coe hN.ne', cE_eq, ← EReal.coe_mul, ← EReal.coe_add]
  refine ⟨_, hs, e, ?_⟩
  unfold rstd
  rw [e, Ideal.rsqrt_coe, if_neg (not_lt.2 hs.le), if_neg hs.ne']

theorem rstd_real (N : ℝ) (hN : 0 < N) (x : Fin n → ℝ) : ∃ p : ℝ, rstd (N : EReal) (fun k => ((x k : ℝ) : EReal)) = (p : EReal) := by
  obtain ⟨s, _, _, h⟩ := ms_coe N hN x
  exact ⟨_, h⟩

theorem dx_eq (N : ℝ) (hN : 0 < N) (x d g : Fin n → EReal) (hx : ∀ k, ∃ r : ℝ, x k = r) (hd : ∀ k, ∃ r : ℝ, d k = r) (hg : ∀ k, ∃ r : ℝ, g k = r)
    (r : EReal) (j : Fin n) : dxK (N : EReal) x d g r j = dxR (N : EReal) x d g r j := by
  obtain ⟨x, rfl⟩ := real_array x hx
  obtain ⟨d, rfl⟩ := real_array d hd
  obtain ⟨g, rfl⟩ := real_array g hg
  obtain ⟨s, hs, e, h⟩ := ms_coe N hN x
  unfold dxK dxR dxQ
  rw [h, e, cM_eq]
  simp only [← EReal.coe_mul, sum_coe, Ideal.div_coe hN.ne', Ideal.div_coe hs.ne', ← EReal.coe_sub, ← EReal.coe_add, add_assoc]
  congr 2
  have hq : Real.sqrt s * Real.sqrt s = s := Real.mul_self_sqrt hs.le
  have hp : 0 < Real.sqrt s := Real.sqrt_pos.2 hs
  have hsum : (∑ k, d k * g k * (x k * (Real.sqrt s)⁻¹)) = (∑ k, x k * (d k * g k)) * (Real.sqrt s)⁻¹ := by
    rw [Finset.sum_mul]; exact Finset.sum_congr rfl fun k _ => by ring
  rw [hsum]
  generalize (∑ k, x k * (d k * g k)) = S
  generalize Real.sqrt s = q at *
  subst hq
  field_simp
  ring

theorem dx_eq_1024 (x d g : Fin n → EReal) (hx : ∀ k, ∃ r : ℝ, x k = r) (hd : ∀ k, ∃ r : ℝ, d k = r) (hg : ∀ k, ∃ r : ℝ, g k = r)
    (r : EReal) (j : Fin n) : dxK cN x d g r j = dxR cN x d g r j := by
  rw [cN_eq]
  exact dx_eq 1024 (by norm_num) x d g hx hd hg r j

end Cert.Shared

end
-- ==== Proof.InDx.Pay.lean ====
/- What the body of `in_dx` stores, read at an element. -/
module

public import proofs.«01_k».proof.Proof.Shared.Norm
public import proofs.«01_k».proof.Proof.Gen.InDxIdeal.Skeleton
public import Idealize.ShloMosaic.Lib.Pointwise

@[expose] public section

set_option maxRecDepth 16384

noncomputable section

namespace Cert.InDxIdeal.Pay

open Idealize.ShloMosaic Idealize.ShloMosaic.TcCoe Idealize.SL.Sem
open Cert.InDxIdeal Cert.InDxIdeal.Gen Cert.Shared

variable (v0 : FVec Ideal S512x3584 .bf16) (v2 : FVec Ideal S3584x1024 .bf16) (x dr : FVec Ideal S512x1024 .f32) (g : FVec Ideal S1x1024 .f32)

theorem dx (r : Fin 512) (j : Fin 1024) :
    k0_pay1 (F := Ideal) (k0_pay4 x) (k0_pay8 v0 v2 g) dr (k0_pay9 v0 v2 x g) (ix2 r j)
      = dxK cN (fun k => x (ix2 r k)) (fun k => ∑ l : Fin 3584, v0 (ix2 r l) * v2 (ix2 l k)) (fun k => g (ix2 0 k)) (dr (ix2 r j)) j := by
  unfold dxK rstd ms
  pointwise! [k0_pay1, k0_pay4, k0_pay8, k0_pay9, k0_pay3, k0_pay5]

theorem half (r : Fin 512) (j : Fin 1024) :
    k0_pay2 (F := Ideal) (k0_pay4 x) (k0_pay8 v0 v2 g) dr (k0_pay9 v0 v2 x g) (ix2 r j)
      = cH * dxK cN (fun k => x (ix2 r k)) (fun k => ∑ l : Fin 3584, v0 (ix2 r l) * v2 (ix2 l k)) (fun k => g (ix2 0 k)) (dr (ix2 r j)) j := by
  rw [← dx]; rfl

theorem gain (a : Fin 1) (j : Fin 1024) :
    k0_pay6 (F := Ideal) v0 v2 x (ix2 a j)
      = ∑ r : Fin 512, (∑ l : Fin 3584, v0 (ix2 r l) * v2 (ix2 l j)) * (x (ix2 r j) * rstd cN (fun k => x (ix2 r k))) := by
  unfold rstd ms
  pointwise! [k0_pay6, k0_pay4, k0_pay3, k0_pay5]

theorem gain_add (v : FVec Ideal S1x1024 .f32) (i : S1x1024.Idx) :
    k0_pay7 (F := Ideal) v0 v2 x v i = v i + k0_pay6 (F := Ideal) v0 v2 x i := by
  pointwise [k0_pay7]

end Cert.InDxIdeal.Pay

end
-- ==== Proof.InDx.Value.lean ====
/- What the arrays of `in_dx` hold after its run. -/
module

public import proofs.«01_k».proof.Proof.InDx.Pay
public import proofs.«01_k».proof.Proof.Gen.InDxIdeal.Value
public import Idealize.ShloMosaic.Lib.Pipeline.ValueKit

@[expose] public section

set_option maxRecDepth 16384

noncomputable section

namespace Cert.InDxIdeal.Fin

open Idealize.ShloMosaic Idealize.ShloMosaic.TcCoe Idealize.SL.Sem
open Idealize.ShloMosaic.Pipeline (Dat)
open Cert.InDxIdeal Cert.InDxIdeal.Gen Cert.Shared

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] ∧ win0_7.index t = ![t.val, 0] :=
  (by decide +kernel : ∀ t : Fin grid0.N, _)

/-- The arrays the kernel's windows read, and the row of a block's row. -/
abbrev aP : FVec Ideal S4096x3584 .bf16 := V m c main_v2
abbrev aW : FVec Ideal S3584x1024 .bf16 := V m c main_v4
abbrev aX : FVec Ideal S4096x1024 .f32 := V m c main_arg8
abbrev aG : FVec Ideal S1x1024 .f32 := V m c main_arg9
abbrev aD : FVec Ideal S4096x1024 .f32 := V m c main_arg10

theorem t_lt (t : Fin cfg0.N) : t.val < 8 := lt_of_lt_of_eq t.isLt N_0

def row (t : Fin cfg0.N) (r : Fin 512) : Fin 4096 := ⟨t.val * 512 + r.val, by have := t_lt t; omega⟩

theorem blk0 (t : Fin cfg0.N) (r : Fin 512) (l : Fin 3584) : iblk m c 0 t (ix2 r l) = aP m c (ix2 (row t r) l) := by
  blk_point [iblk, V, idx t, row]
theorem blk1 (t : Fin cfg0.N) (l : Fin 3584) (k : Fin 1024) : iblk m c 1 t (ix2 l k) = aW m c (ix2 l k) := by
  blk_point [iblk, V, idx t, row]
theorem blk2 (t : Fin cfg0.N) (r : Fin 512) (k : Fin 1024) : iblk m c 2 t (ix2 r k) = aX m c (ix2 (row t r) k) := by
  blk_point [iblk, V, idx t, row]
theorem blk3 (t : Fin cfg0.N) (a : Fin 1) (k : Fin 1024) : iblk m c 3 t (ix2 a k) = aG m c (ix2 a k) := by
  blk_point [iblk, V, idx t, row]
theorem blk4 (t : Fin cfg0.N) (r : Fin 512) (k : Fin 1024) : iblk m c 4 t (ix2 r k) = aD m c (ix2 (row t r) k) := by
  blk_point [iblk, V, idx t, row]
theorem emb5 (t : Fin cfg0.N) (r : Fin 512) (k : Fin 1024) : ((cfg0.win 5).blk t).view.emb (ix2 r k) = ix2 (row t r) k := by
  blk_ext [idx t, row]
theorem emb7 (t : Fin cfg0.N) (r : Fin 512) (k : Fin 1024) : ((cfg0.win 7).blk t).view.emb (ix2 r k) = ix2 (row t r) k := by
  blk_ext [idx t, row]

abbrev dh (r : Fin 4096) (k : Fin 1024) : EReal := ∑ l : Fin 3584, aP m c (ix2 r l) * aW m c (ix2 l k)

/-- The gradient of the input, its half, and the gain's gradient. -/
def G5 : FVec Ideal S4096x1024 .f32 := fun i =>
  dxK cN (fun k => aX m c (ix2 (i 0) k)) (dh m c (i 0)) (fun k => aG m c (ix2 0 k)) (aD m c (ix2 (i 0) (i 1))) (i 1)
def G7 : FVec Ideal S4096x1024 .bf16 := fun i => cH * G5 m c i
def G6 : FVec Ideal S1x1024 .f32 := fun i =>
  ∑ r : Fin 4096, dh m c r (i 1) * (aX m c (ix2 r (i 1)) * rstd cN (fun k => aX m c (ix2 r k)))

theorem point5 (t : Fin cfg0.N) (y) :
    k0_pay1 (F := Ideal) (k0_pay4 (iblk m c 2 t)) (k0_pay8 (iblk m c 0 t) (iblk m c 1 t) (iblk m c 3 t)) (iblk m c 4 t) (k0_pay9 (iblk m c 0 t) (iblk m c 1 t) (iblk m c 2 t) (iblk m c 3 t)) y
      = G5 m c (((cfg0.win 5).blk t).view.emb y) := by
  idx_vars y
  rw [Pay.dx, emb5]
  simp only [blk0, blk1, blk2, blk3, blk4]
  rfl

theorem point7 (t : Fin cfg0.N) (y) :
    k0_pay2 (F := Ideal) (k0_pay4 (iblk m c 2 t)) (k0_pay8 (iblk m c 0 t) (iblk m c 1 t) (iblk m c 3 t)) (iblk m c 4 t) (k0_pay9 (iblk m c 0 t) (iblk m c 1 t) (iblk m c 2 t) (iblk m c 3 t)) y
      = G7 m c (((cfg0.win 7).blk t).view.emb y) := by
  idx_vars y
  rw [Pay.half, emb7]
  simp only [blk0, blk1, blk2, blk3, blk4]
  rfl

theorem final5 : (dats m 0 c).arrAt 5 cfg0.N = G5 m c := by
  refine (dats m 0 c).arrAt_eq_of_covers 5 (G5 m c) (by decide +kernel) fun t _ y => ?_
  blk_simp
  rw [after0_5]
  by_cases h : t.val % 8 = 0
  · have h1 : ¬ 1 ≤ t.val := by have := t.isLt; simp [N_0] at this; omega
    rw [outsAt0_A m c t h h1]; frame_out
    exact point5 m c t y
  · have h1 : 1 ≤ t.val := by omega
    rw [outsAt0_B m c t h h1]; frame_out
    exact point5 m c t y

theorem final7 : (dats m 0 c).arrAt 7 cfg0.N = G7 m c := by
  refine (dats m 0 c).arrAt_eq_of_covers 7 (G7 m c) (by decide +kernel) fun t _ y => ?_
  blk_simp
  rw [after0_7]
  by_cases h : t.val % 8 = 0
  · have h1 : ¬ 1 ≤ t.val := by have := t.isLt; simp [N_0] at this; omega
    rw [outsAt0_A m c t h h1]; frame_out
    exact point7 m c t y
  · have h1 : 1 ≤ t.val := by omega
    rw [outsAt0_B m c t h h1]; frame_out
    exact point7 m c t y

/-- What one block adds to the gain's gradient. -/
def part (t : Fin cfg0.N) (j : S1x1024.Idx) : EReal := k0_pay6 (F := Ideal) (iblk m c 0 t) (iblk m c 1 t) (iblk m c 2 t) j

theorem part_eq (t : Fin cfg0.N) (a : Fin 1) (j : Fin 1024) : part m c t (ix2 a j)
    = ∑ r : Fin 512, dh m c (row t r) j * (aX m c (ix2 (row t r) j) * rstd cN (fun k => aX m c (ix2 (row t r) k))) := by
  unfold part
  rw [Pay.gain]
  simp only [blk0, blk1, blk2, blk3, blk4]

theorem final6 : (dats m 0 c).arrAt 6 cfg0.N = G6 m c := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) (part m c)
    (fun t h j => by
      have h1 : ¬ 1 ≤ t.val := by have := t_lt t; omega
      rw [outsAt0_A m c t h h1]; frame_out; exact (zero_add _).symm)
    (fun t h j => by
      have h1 : 1 ≤ t.val := by omega
      rw [outsAt0_B m c t h h1]; frame_out; exact Pay.gain_add _ _ _ _ _)
    (le_of_eq N_0) t0_7 rfl j, zero_add]
  idx_vars j
  simp only [part_eq]
  unfold G6
  refine Fin.sum_mul_add_congr fun s k hl => ?_
  rfl

end Cert.InDxIdeal.Fin

end
-- ==== Proof.InDx.Ref.lean ====
/- What the reference of `in_dx` returns, read at an element. -/
module

public import proofs.«01_k».proof.Proof.Shared.Norm
public import proofs.«01_k».proof.Proof.Gen.InDxRefIdeal.Read
public import Idealize.ShloMosaic.Lib.Pointwise

@[expose] public section

set_option maxRecDepth 16384

noncomputable section

namespace Cert.InDxRefIdeal.Spec

open Idealize.ShloMosaic Idealize.ShloMosaic.TcCoe Idealize.SL.Sem
open Cert.InDxRefIdeal Cert.InDxRefIdeal.Gen Cert.InDxRefIdeal.Read Cert.Shared

variable (x0 : FVec Ideal S4096x512 .bf16) (x1 x2 : FVec Ideal S4096x512 .f32) (x3 x4 x5 x6 : FVec Ideal S4096x512 .bf16)
  (x7 : FVec Ideal S1024x3584 .f32) (x8 : FVec Ideal S4096x1024 .f32) (x9 : FVec Ideal S1x1024 .f32) (x10 : FVec Ideal S4096x1024 .f32)

/-- The cotangent of the projection's input, at a row. -/
abbrev dh (p : FVec Ideal S4096x3584 .f32) (w : FVec Ideal S1024x3584 .f32) (r : Fin 4096) (k : Fin 1024) : EReal :=
  ∑ l : Fin 3584, p (ix2 r l) * w (ix2 k l)

theorem v18_at (r : Fin 4096) (j : Fin 1024) :
    val_main_v18 (F := Ideal) x8 (ix2 r j) = x8 (ix2 r j) * rstd cN (fun k => x8 (ix2 r k)) := by
  unfold rstd ms
  pointwise! [val_main_v18, val_main_v17, val_main_v13, val_main_v12, val_main_v10, val_main_v11, val_main_v8, val_main_v9, val_main_v7, val_main_v6, val_main_cst, val_main_cst_0, val_main_cst_1]

theorem v29_at (r : Fin 4096) (j : Fin 1024) :
    val_main_v29 (F := Ideal) x0 x1 x2 x3 x4 x5 x6 x7 x9 (ix2 r j) = dh (val_main_v5 (F := Ideal) x0 x1 x2 x3 x4 x5 x6) x7 r j * x9 (ix2 0 j) := by
  unfold val_main_v29 val_main_v28 val_main_v24
  generalize val_main_v5 (F := Ideal) x0 x1 x2 x3 x4 x5 x6 = p
  pointwise!

theorem v40_at (r : Fin 4096) (j : Fin 1024) :
    val_main_v40 (F := Ideal) x0 x1 x2 x3 x4 x5 x6 x7 x8 x9 (ix2 r j)
      = dxQ cN (fun k => x8 (ix2 r k)) (dh (val_main_v5 (F := Ideal) x0 x1 x2 x3 x4 x5 x6) x7 r) (fun k => x9 (ix2 0 k)) := by
  have h := v29_at x0 x1 x2 x3 x4 x5 x6 x7 x9
  unfold val_main_v40 val_main_v39 val_main_v38 val_main_v36 val_main_v32 val_main_v31 val_main_v30
  generalize val_main_v29 (F := Ideal) x0 x1 x2 x3 x4 x5 x6 x7 x9 = p at *
  unfold dxQ rstd ms
  pointwise [h, val_main_v37, val_main_cst_6, val_main_cst_4, val_main_cst_5, val_main_cst_2, val_main_v16, val_main_v15, val_main_v14, val_main_v13, val_main_v12, val_main_v10, val_main_v11, val_main_v8, val_main_v9, val_main_v7, val_main_v6, val_main_cst, val_main_cst_0, val_main_cst_1]
  exact Fin.sum_univ_one _

theorem dx_at (r : Fin 4096) (j : Fin 1024) :
    val_main_v44 (F := Ideal) x0 x1 x2 x3 x4 x5 x6 x7 x8 x9 x10 (ix2 r j)
      = dxR cN (fun k => x8 (ix2 r k)) (dh (val_main_v5 (F := Ideal) x0 x1 x2 x3 x4 x5 x6) x7 r) (fun k => x9 (ix2 0 k)) (x10 (ix2 r j)) j := by
  have h := v40_at x0 x1 x2 x3 x4 x5 x6 x7 x8 x9
  have h' := v29_at x0 x1 x2 x3 x4 x5 x6 x7 x9
  unfold dxR
  rw [← h r j]
  unfold val_main_v44 val_main_v43 val_main_v42 val_main_v41 val_main_v35 val_main_v34
  generalize val_main_v40 (F := Ideal) x0 x1 x2 x3 x4 x5 x6 x7 x8 x9 = q at *
  generalize val_main_v29 (F := Ideal) x0 x1 x2 x3 x4 x5 x6 x7 x9 = p at *
  unfold rstd ms
  pointwise! [h', val_main_v33, val_main_v13, val_main_v12, val_main_v10, val_main_v11, val_main_v8, val_main_v9, val_main_v7, val_main_v6, val_main_cst, val_main_cst_0, val_main_cst_1]

theorem half_at (r : Fin 4096) (j : Fin 1024) :
    val_main_v47 (F := Ideal) x0 x1 x2 x3 x4 x5 x6 x7 x8 x9 x10 (ix2 r j)
      = cH * val_main_v44 (F := Ideal) x0 x1 x2 x3 x4 x5 x6 x7 x8 x9 x10 (ix2 r j) := by
  unfold val_main_v47 val_main_v46
  generalize val_main_v44 (F := Ideal) x0 x1 x2 x3 x4 x5 x6 x7 x8 x9 x10 = q
  pointwise [val_main_v45, val_main_cst_7]

theorem gain_at (a : Fin 1) (j : Fin 1024) :
    val_main_v27 (F := Ideal) x0 x1 x2 x3 x4 x5 x6 x7 x8 (ix2 a j)
      = ∑ r : Fin 4096, dh (val_main_v5 (F := Ideal) x0 x1 x2 x3 x4 x5 x6) x7 r j * (x8 (ix2 r j) * rstd cN (fun k => x8 (ix2 r k))) := by
  have h := v18_at x8
  unfold val_main_v27 val_main_v26 val_main_v25 val_main_v24
  generalize val_main_v18 (F := Ideal) x8 = q at *
  generalize val_main_v5 (F := Ideal) x0 x1 x2 x3 x4 x5 x6 = p
  pointwise [h, val_main_cst_3]
  exact Finset.sum_congr rfl fun _ _ => mul_comm _ _

end Cert.InDxRefIdeal.Spec

end
-- ==== Proof.InDx.Claim.lean ====
/- The claims about `in_dx`. -/
module

public import proofs.«01_k».proof.Defs
public import proofs.«01_k».proof.Proof.InDx.Value
public import proofs.«01_k».proof.Proof.InDx.Ref
public import proofs.«01_k».proof.Proof.Gen.Pre_finite_in_dx

@[expose] public section

set_option maxRecDepth 16384

noncomputable section

namespace Cert.InDxClaim

open Idealize.ShloMosaic Idealize.ShloMosaic.TcCoe Idealize.SL.Sem
open Cert.Shared

section Finite
open Cert.Pre_finite_in_dx

/-- The precondition, as: every element of these arrays is a real number. -/
theorem finite (a0 : FVec Ideal S4096x512 .bf16) (a1 a2 : FVec Ideal S4096x512 .f32) (a3 a4 a5 a6 : FVec Ideal S4096x512 .bf16)
    (a7 : FVec Ideal S1024x3584 .f32) (a8 : FVec Ideal S4096x1024 .f32) (a9 : FVec Ideal S1x1024 .f32) (a10 : FVec Ideal S4096x1024 .f32)
    (h : fn (F := Ideal) a0 a1 a2 a3 a4 a5 a6 a7 a8 a9 a10 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal))
      ∧ (∀ i, ∃ r : ℝ, a8 i = (r : EReal)) ∧ (∀ i, ∃ r : ℝ, a9 i = (r : EReal)) := by
  have e := congrFun h (fun a => a.elim0)
  unfold fn fn_part1 fn_part2 fn_part3 at e
  obtain ⟨e, e9⟩ := and_eq_one _ _ e
  obtain ⟨e, e8⟩ := and_eq_one _ _ e
  obtain ⟨e, e7⟩ := and_eq_one _ _ e
  obtain ⟨e, e6⟩ := and_eq_one _ _ e
  obtain ⟨e, e5⟩ := and_eq_one _ _ e
  obtain ⟨e, e4⟩ := and_eq_one _ _ e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i),
    fun i => real_of_cmp _ (all_of_reduce _ _ _ _ _ e2 i), fun i => real_of_cmp _ (all_of_reduce _ _ _ _ _ e3 i),
    fun i => real_of_cmp _ (all_of_reduce _ _ _ _ _ e4 i), fun i => real_of_cmp _ (all_of_reduce _ _ _ _ _ e5 i),
    fun i => real_of_cmp _ (all_of_reduce _ _ _ _ _ e6 i), fun i => real_of_cmp _ (all_of_reduce _ _ _ _ _ e7 i),
    fun i => real_of_cmp _ (all_of_reduce _ _ _ _ _ e8 i), fun i => real_of_cmp _ (all_of_reduce _ _ _ _ _ e9 i)⟩

end Finite

section Ref
open Cert.InDxRefIdeal Cert.InDxRefIdeal.Gen Cert.InDxRefIdeal.Read

theorem cat_real (x0 : FVec Ideal S4096x512 .bf16) (x1 x2 : FVec Ideal S4096x512 .f32) (x3 x4 x5 x6 : FVec Ideal S4096x512 .bf16)
    (h0 : ∀ i, ∃ r : ℝ, x0 i = (r : EReal)) (h1 : ∀ i, ∃ r : ℝ, x1 i = (r : EReal)) (h2 : ∀ i, ∃ r : ℝ, x2 i = (r : EReal)) (h3 : ∀ i, ∃ r : ℝ, x3 i = (r : EReal))
    (h4 : ∀ i, ∃ r : ℝ, x4 i = (r : EReal)) (h5 : ∀ i, ∃ r : ℝ, x5 i = (r : EReal)) (h6 : ∀ i, ∃ r : ℝ, x6 i = (r : EReal)) (r : Fin 4096) (l : Fin 3584) :
    ∃ s : ℝ, val_main_v5 (F := Ideal) x0 x1 x2 x3 x4 x5 x6 (ix2 r l) = (s : EReal) := by
  pointwise [val_main_v5, val_main_v0, val_main_v1, val_main_v2, val_main_v3, val_main_v4]
  split_ifs
  all_goals first | exact h0 _ | exact h1 _ | exact h2 _ | exact h3 _ | exact h4 _ | exact h5 _ | exact h6 _

end Ref

section Kernel
open Cert.InDxIdeal Cert.InDxIdeal.Gen
variable (m : (ℓ : Loc nD τ sig) → Buf (Elt Ideal) ℓ) (c : Dev nD)

theorem x_eq : Cert.InDxIdeal.Fin.aX m c = m ((c : Thread nD τ).loc main_arg8) := by rfl
theorem g_eq : Cert.InDxIdeal.Fin.aG m c = m ((c : Thread nD τ).loc main_arg9) := by rfl
theorem d_eq : Cert.InDxIdeal.Fin.aD m c = m ((c : Thread nD τ).loc main_arg10) := by rfl
theorem p_eq : Cert.InDxIdeal.Fin.aP m c = Cert.InDxRefIdeal.Read.val_main_v5 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) := by rfl
theorem w_eq (l : Fin 3584) (k : Fin 1024) : Cert.InDxIdeal.Fin.aW m c (ix2 l k) = (show FVec Ideal S1024x3584 .f32 from m ((c : Thread nD τ).loc main_arg7)) (ix2 k l) := by
  have : Cert.InDxIdeal.Fin.aW m c = transpose S3584x1024 [1, 0] (show FVec Ideal S1024x3584 .f32 from m ((c : Thread nD τ).loc main_arg7)) transposes_S1024x3584_S3584x1024_1_0 := by rfl
  rw [this]
  pointwise

end Kernel

theorem algebraic : Cert.algebraic_InDxIdeal_InDxRefIdeal_pre_finite_in_dx := by
  intro m g m' g' hpre hag
  have hdh : ∀ c r k, Cert.InDxIdeal.Fin.dh m c r k = Cert.InDxRefIdeal.Spec.dh (Cert.InDxIdeal.Fin.aP m c) (m ((c.tc : Thread Cert.InDxIdeal.nD Cert.InDxIdeal.τ).loc Cert.InDxIdeal.main_arg7)) r k := by
    intro c r k
    refine Finset.sum_congr rfl fun l _ => ?_
    rw [w_eq]
  have hdx : ∀ c i, Cert.InDxIdeal.Fin.G5 m c i = Cert.InDxRefIdeal.Read.val_main_v44 (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4)) (m ((c.tc : Thread Cert.InDxIdeal.nD Cert.InDxIdeal.τ).loc Cert.InDxIdeal.main_arg5)) (m ((c.tc : Thread Cert.InDxIdeal.nD Cert.InDxIdeal.τ).loc Cert.InDxIdeal.main_arg6)) (m ((c.tc : Thread Cert.InDxIdeal.nD Cert.InDxIdeal.τ).loc Cert.InDxIdeal.main_arg7)) (m ((c.tc : Thread Cert.InDxIdeal.nD Cert.InDxIdeal.τ).loc Cert.InDxIdeal.main_arg8)) (m ((c.tc : Thread Cert.InDxIdeal.nD Cert.InDxIdeal.τ).loc Cert.InDxIdeal.main_arg9)) (m ((c.tc : Thread Cert.InDxIdeal.nD Cert.InDxIdeal.τ).loc Cert.InDxIdeal.main_arg10)) i := by
    intro c i
    obtain ⟨h0, h1, h2, h3, h4, h5, h6, h7, h8, h9⟩ := finite _ _ _ _ _ _ _ _ _ _ _ (hpre c)
    idx_vars i
    rw [Cert.InDxRefIdeal.Spec.dx_at, ← p_eq]
    rw [← funext (hdh c i0)]
    refine dx_eq_1024 _ _ _ (fun k => h8 _) (fun k => ?_) (fun k => h9 _) _ _
    show ∃ r : ℝ, Cert.InDxIdeal.Fin.dh m c i0 k = (r : EReal)
    rw [hdh]
    refine sum_real _ fun l => mul_real ?_ (h7 _)
    rw [p_eq]
    exact cat_real _ _ _ _ _ _ _ h0 h1 h2 h3 h4 h5 h6 _ _
  refine ⟨fun c => Cert.InDxIdeal.Fin.G5 m c, fun c => Cert.InDxIdeal.Fin.G6 m c, fun c => Cert.InDxIdeal.Fin.G7 m c,
    (θ_run _ _ _).mono (fun r h c => ?_) (Cert.InDxIdeal.Value.run_blocks m g), (θ_run _ _ _).mono (fun r h c => ?_) (Cert.InDxRefIdeal.Value.run m' g')⟩
  · obtain ⟨e5, e6, e7, e⟩ := h c
    exact ⟨e5.trans (Cert.InDxIdeal.Fin.final5 m c), e6.trans (Cert.InDxIdeal.Fin.final6 m c), e7.trans (Cert.InDxIdeal.Fin.final7 m c), e⟩
  · obtain ⟨e5, e6, e7, e⟩ := h c
    obtain ⟨a0, a1, a2, a3, a4, a5, a6, a7, a8, a9, a10⟩ := hag c
    refine ⟨e5.trans ?_, e6.trans ?_, e7.trans ?_, e⟩
    · rw [Cert.InDxRefIdeal.Read.val_main_v44_eq, a0, a1, a2, a3, a4, a5, a6, a7, a8, a9, a10]
      exact funext fun i => (hdx c i).symm
    · refine (Cert.InDxRefIdeal.Read.val_main_v27_eq _ _ _ _ _ _ _ _ _).trans ?_
      rw [a0, a1, a2, a3, a4, a5, a6, a7, a8]
      funext i
      idx_vars i
      refine (Cert.InDxRefIdeal.Spec.gain_at _ _ _ _ _ _ _ _ _ _ _).trans ?_
      rw [← p_eq]
      exact Finset.sum_congr rfl fun r _ => by rw [← hdh c r i1]; rfl
    · rw [Cert.InDxRefIdeal.Read.val_main_v47_eq, a0, a1, a2, a3, a4, a5, a6, a7, a8, a9, a10]
      funext i
      idx_vars i
      refine (Cert.InDxRefIdeal.Spec.half_at _ _ _ _ _ _ _ _ _ _ _ _ _).trans ?_
      rw [← hdx c]
      rfl

theorem frame_ref : Cert.quiescent_InDxRefIdeal := fun m g _ =>
  (θ_run _ _ _).mono (fun r h => ⟨fun c => (h c).2.2.2, sem_eq_zero_of_no_sems (by decide) r.2⟩) (Cert.InDxRefIdeal.Value.run m g)

end Cert.InDxClaim

end
-- ==== Proof.SbBwd.Pay.lean ====
/- What the body of the attention backward kernel computes, read at an element. -/
module

public import proofs.«01_k».proof.Proof.Shared.Finite
public import proofs.«01_k».proof.Proof.Gen.SbBwdIdeal.Skeleton
public import Idealize.ShloMosaic.Lib.Pointwise
public import Idealize.ShloMosaic.Lib.WordCmp

@[expose] public section

set_option maxRecDepth 16384

noncomputable section

namespace Cert.SbBwdIdeal.Pay

open Idealize.ShloMosaic Idealize.ShloMosaic.TcCoe Idealize.SL.Sem
open Cert.SbBwdIdeal Cert.SbBwdIdeal.Gen Cert.Shared

/-- The constants of the body. -/
def cE : EReal := Ideal.ofBits .f32 0x3E000000#32
def cH : EReal := Ideal.ofBits .f32 0x3F000000#32

/-- A choice by a comparison of two small numbers. -/
theorem sel_lt {α : Type} {a b : ℕ} (ha : a < 2 ^ 20) (hb : b < 2 ^ 20) (x y : α) :
    Scalar.select (IntOp.cmpi CmpIPredicate.slt (BitVec.ofNat 32 a) (BitVec.ofNat 32 b)) x y = if a < b then x else y := by
  rw [WordCmp.cmpi_slt_ofNat (lt_trans ha (by norm_num)) (lt_trans hb (by norm_num)), WordCmp.select_ofBool]
  simp

variable (q d : FVec Ideal S1024x128 .bf16) (tri : FVec Ideal S256x256 .bf16) (w : Vec Ideal S1x1x1x1024x256 .bf16) (k v : Vec Ideal S256x128 .f32)
variable (dq : FVec Ideal S1024x128 .f32) (cg : FVec Ideal S1024x1 .f32)

/-- The gradient of the masked sigmoid's argument from its parts. -/
def back (z g p : EReal) : EReal := g - (cH + cH * Ideal.tanh (cH * z)) * (g + p)

theorem p6 (r : Fin 1024) (c : Fin 256) : k0_pay6 (F := Ideal) d w v (ix2 r c) = w (ix5 0 0 0 r c) * ∑ l : Fin 128, d (ix2 r l) * v (ix2 c l) := by
  pointwise! [k0_pay6, k0_pay4]

theorem two_part (A : FVec Ideal S1024x256 .f32) (r : Fin 1024) (c : Fin 256) :
    matmul dot_S1024x512_S512x256_S1024x256_1_0_0_1_n_n none
      (concatenate S1024x512 1 [⟨S1024x256, (truncf .bf16 A bitsLt_bf16_f32 : FVec Ideal S1024x256 .bf16)⟩,
        ⟨S1024x256, (truncf .bf16 (subf A (extf .f32 (truncf .bf16 A bitsLt_bf16_f32 : FVec Ideal S1024x256 .bf16) bitsLt_bf16_f32)) bitsLt_bf16_f32 : FVec Ideal S1024x256 .bf16)⟩] concatenates_S1024x256_S1024x256_S1024x512_d1)
      (concatenate S512x256 0 [⟨S256x256, tri⟩, ⟨S256x256, tri⟩] concatenates_S256x256_S256x256_S512x256_d0)
      (constant S1024x256 .f32 0x00000000#32) (ix2 r c)
      = (∑ m : Fin 256, A (ix2 r m) * tri (ix2 m c)) + ∑ m : Fin 256, (A (ix2 r m) - A (ix2 r m)) * tri (ix2 m c) := by
  pointwise! []

theorem p7 (r : Fin 1024) (c : Fin 256) : k0_pay7 (F := Ideal) q d tri cg w k v (ix2 r c)
    = back (∑ l : Fin 128, q (ix2 r l) * k (ix2 c l)) (k0_pay6 (F := Ideal) d w v (ix2 r c))
      ((∑ m : Fin 256, k0_pay6 (F := Ideal) d w v (ix2 r m) * tri (ix2 m c)) + (∑ m : Fin 256, (k0_pay6 (F := Ideal) d w v (ix2 r m) - k0_pay6 (F := Ideal) d w v (ix2 r m)) * tri (ix2 m c)) + cg (ix2 r 0)) := by
  unfold back k0_pay7
  generalize hA : k0_pay6 (F := Ideal) d w v = A
  rw [← two_part]
  pointwise! [k0_pay5]

theorem p8 (r : Fin 1024) (l : Fin 128) : k0_pay8 (F := Ideal) q d tri dq cg w k v (ix2 r l)
    = dq (ix2 r l) + ∑ c : Fin 256, k0_pay7 (F := Ideal) q d tri cg w k v (ix2 r c) * k (ix2 c l) := by
  unfold k0_pay8
  generalize k0_pay7 (F := Ideal) q d tri cg w k v = A
  pointwise! [k0_pay5]

theorem p9 (A : FVec Ideal S1024x256 .bf16) (y : Vec Ideal S256x128 .f32) (c : Fin 256) (l : Fin 128) : k0_pay9 (F := Ideal) q A y (ix2 c l)
    = y (ix2 c l) + ∑ r : Fin 1024, A (ix2 r c) * q (ix2 r l) := by
  pointwise! [k0_pay9]

theorem p10 (y : Vec Ideal S256x128 .f32) (c : Fin 256) (l : Fin 128) : k0_pay10 (F := Ideal) d (k0_pay4 w) y (ix2 c l)
    = y (ix2 c l) + ∑ r : Fin 1024, w (ix5 0 0 0 r c) * d (ix2 r l) := by
  pointwise! [k0_pay10, k0_pay4]

theorem p11 (A : FVec Ideal S1024x256 .f32) (r : Fin 1024) : k0_pay11 (F := Ideal) cg A (ix2 r 0) = cg (ix2 r 0) + ∑ c : Fin 256, A (ix2 r c) := by
  pointwise! [k0_pay11]

theorem p85 (x : Vec Ideal S512x128 .f32) (r : Fin 1024) (l : Fin 128) : k0_pay85 (F := Ideal) x (ix2 r l)
    = if (r.val < 512 ↔ l.val < 64) then x (ix2 ⟨r.val % 512, Nat.mod_lt _ (by norm_num)⟩ l) * cE else 0 := by
  pointwise! [k0_pay85]
  have hr := r.isLt
  by_cases h : r.val < 512
  · rw [dif_pos h, sel_lt (a := l.val) (b := 64) (by omega) (by norm_num)]
    simp only [h, true_iff, Nat.mod_eq_of_lt h]; rfl
  · rw [dif_neg h, sel_lt (a := l.val) (b := 64) (by omega) (by norm_num)]
    simp only [h, false_iff, show r.val - 512 = r.val % 512 by omega, ite_not]; rfl

theorem p86 (x : Vec Ideal S512x128 .f32) (r : Fin 1024) (l : Fin 128) : k0_pay86 (F := Ideal) x (ix2 r l)
    = if (r.val < 512 ↔ l.val < 64) then x (ix2 ⟨r.val % 512, Nat.mod_lt _ (by norm_num)⟩ l) else 0 := by
  pointwise! [k0_pay86]
  have hr := r.isLt
  by_cases h : r.val < 512
  · rw [dif_pos h, sel_lt (a := l.val) (b := 64) (by omega) (by norm_num)]
    simp only [h, true_iff, Nat.mod_eq_of_lt h]
  · rw [dif_neg h, sel_lt (a := l.val) (b := 64) (by omega) (by norm_num)]
    simp only [h, false_iff, show r.val - 512 = r.val % 512 by omega, ite_not]

theorem p87 (m c : Fin 256) : k0_pay87 (F := Ideal) (ix2 m c) = if m.val < c.val then 1 else 0 := by
  pointwise! [k0_pay87]
  rw [WordCmp.cmpi_slt_ofNat (by omega) (by omega)]
  by_cases h : m.val < c.val <;> simp [h, FloatOps.sitofp]

theorem p3 (a : Fin 512) (l : Fin 128) : k0_pay3 (F := Ideal) dq (ix2 a l)
    = (if l.val < 64 then dq (ix2 ⟨a.val, by omega⟩ l) else dq (ix2 ⟨512 + a.val, by omega⟩ l)) * cE := by
  pointwise! [k0_pay3]
  rw [sel_lt (a := l.val) (b := 64) (by omega) (by norm_num)]; rfl

/-- The first diagonal block. -/
theorem p109 (r : Fin 1024) (c : Fin 256) : k0_pay109 (F := Ideal) q d tri (iota .tc S512x256 32 [0] iota_S512x256_d0_w32) (iota .tc S512x256 32 [1] iota_S512x256_d1_w32) cg w k v (ix2 r c)
    = if c.val < r.val % 512 then k0_pay7 (F := Ideal) q d tri cg w k v (ix2 r c) else 0 := by
  rw [p7]
  unfold back k0_pay109
  rw [show k0_pay108 (F := Ideal) d w v = k0_pay6 (F := Ideal) d w v from rfl]
  generalize hA : k0_pay6 (F := Ideal) d w v = A
  rw [← two_part]
  pointwise! [k0_pay107]
  have hr := r.isLt
  have e : ∀ a b : ℕ, IntOp.addi (BitVec.ofNat 32 a) (BitVec.ofNat 32 b) = BitVec.ofNat 32 (a + b) := fun a b => (BitVec.ofNat_add ..).symm
  by_cases h : r.val < 512
  · rw [dif_pos h, e, sel_lt (a := c.val + 0) (b := r.val) (by omega) (by omega), Nat.mod_eq_of_lt h]; rfl
  · rw [dif_neg h, e, sel_lt (a := c.val + 0) (b := r.val - 512) (by omega) (by omega), show r.val - 512 = r.val % 512 by omega]; rfl

theorem p111 (A : FVec Ideal S1024x256 .f32) (r : Fin 1024) (l : Fin 128) : k0_pay111 (F := Ideal) dq (k0_pay107 k) A (ix2 r l)
    = dq (ix2 r l) + ∑ c : Fin 256, A (ix2 r c) * k (ix2 c l) := by
  pointwise! [k0_pay111, k0_pay110, k0_pay107]

/-- A row of the second diagonal block's halves, in the tile. -/
def low (u : ℕ) : ℕ := if u < 256 then 256 + u else 512 + u

theorem low_lt (u : Fin 512) : low u.val < 1024 := by unfold low; split_ifs <;> omega

theorem p116 (u : Fin 512) (l : Fin 128) : k0_pay116 (F := Ideal) q (ix2 u l) = q (ix2 ⟨low u.val, low_lt u⟩ l) := by
  pointwise! [k0_pay116]
  have hu := u.isLt
  by_cases h : u.val < 256 <;> simp only [h, low, dif_pos, dif_neg, if_true, if_false, not_false_eq_true]
  simp only [show 768 + (u.val - 256) = 512 + u.val by omega]

theorem p118 (u : Fin 512) (c : Fin 256) : k0_pay118 (F := Ideal) w (ix2 u c) = w (ix5 0 0 0 ⟨low u.val, low_lt u⟩ c) := by
  pointwise! [k0_pay118]
  have hu := u.isLt
  by_cases h : u.val < 256 <;> simp only [h, low, dif_pos, dif_neg, if_true, if_false, not_false_eq_true]
  simp only [show 768 + (u.val - 256) = 512 + u.val by omega]

theorem two_part' (A : FVec Ideal S512x256 .f32) (r : Fin 512) (c : Fin 256) :
    matmul dot_S512x512_S512x256_S512x256_1_0_0_1_n_n none
      (concatenate S512x512 1 [⟨S512x256, (truncf .bf16 A bitsLt_bf16_f32 : FVec Ideal S512x256 .bf16)⟩,
        ⟨S512x256, (truncf .bf16 (subf A (extf .f32 (truncf .bf16 A bitsLt_bf16_f32 : FVec Ideal S512x256 .bf16) bitsLt_bf16_f32)) bitsLt_bf16_f32 : FVec Ideal S512x256 .bf16)⟩] concatenates_S512x256_S512x256_S512x512_d1)
      (concatenate S512x256 0 [⟨S256x256, tri⟩, ⟨S256x256, tri⟩] concatenates_S256x256_S256x256_S512x256_d0)
      (constant S512x256 .f32 0x00000000#32) (ix2 r c)
      = (∑ m : Fin 256, A (ix2 r m) * tri (ix2 m c)) + ∑ m : Fin 256, (A (ix2 r m) - A (ix2 r m)) * tri (ix2 m c) := by
  pointwise! []

/-- The rows of the carried sums the second diagonal block reads. -/
theorem low_col (u : Fin 512) (j : Fin 1) :
    (concatenate S512x1 0 [⟨S256x1, (extractStridedSlice S256x1 ![256, 0] cg slices_S1024x1_o256_0_S256x1 : FVec Ideal S256x1 .f32)⟩,
      ⟨S256x1, (extractStridedSlice S256x1 ![768, 0] cg slices_S1024x1_o768_0_S256x1 : FVec Ideal S256x1 .f32)⟩] concatenates_S256x1_S256x1_S512x1_d0) (ix2 u j)
      = cg (ix2 ⟨low u.val, low_lt u⟩ 0) := by
  pointwise! []
  have hu := u.isLt
  by_cases h : u.val < 256 <;> simp only [h, low, dif_pos, dif_neg, if_true, if_false, not_false_eq_true]
  simp only [show 768 + (u.val - 256) = 512 + u.val by omega]

/-- The second diagonal block. -/
theorem p120 (q' d' : FVec Ideal S512x128 .bf16) (w' : FVec Ideal S512x256 .bf16) (u : Fin 512) (c : Fin 256) :
    k0_pay120 (F := Ideal) tri cg (k0_pay115 (iota .tc S512x256 32 [0] iota_S512x256_d0_w32) (iota .tc S512x256 32 [1] iota_S512x256_d1_w32)) q' d' w' k v (ix2 u c)
    = if c.val < u.val % 256 then back (∑ l : Fin 128, q' (ix2 u l) * k (ix2 c l)) (w' (ix2 u c) * ∑ l : Fin 128, d' (ix2 u l) * v (ix2 c l))
      ((∑ m : Fin 256, (w' (ix2 u m) * ∑ l : Fin 128, d' (ix2 u l) * v (ix2 m l)) * tri (ix2 m c))
        + (∑ m : Fin 256, ((w' (ix2 u m) * ∑ l : Fin 128, d' (ix2 u l) * v (ix2 m l)) - (w' (ix2 u m) * ∑ l : Fin 128, d' (ix2 u l) * v (ix2 m l))) * tri (ix2 m c)) + cg (ix2 ⟨low u.val, low_lt u⟩ 0)) else 0 := by
  have hg : ∀ m : Fin 256, (mulf (extf .f32 w' bitsLt_bf16_f32) (matmul dot_S512x128_S256x128_S512x256_1_1_0_0_n_n none d'
      (truncf .bf16 (shapeCast S256x128 v shapeCasts_S256x128_S256x128 : FVec Ideal S256x128 .f32) bitsLt_bf16_f32) (constant S512x256 .f32 0x00000000#32)) : FVec Ideal S512x256 .f32) (ix2 u m)
      = w' (ix2 u m) * ∑ l : Fin 128, d' (ix2 u l) * v (ix2 m l) := by
    intro m; pointwise! []
  unfold back k0_pay120
  simp only [← hg]
  generalize (mulf (extf .f32 w' bitsLt_bf16_f32) (matmul dot_S512x128_S256x128_S512x256_1_1_0_0_n_n none d'
      (truncf .bf16 (shapeCast S256x128 v shapeCasts_S256x128_S256x128 : FVec Ideal S256x128 .f32) bitsLt_bf16_f32) (constant S512x256 .f32 0x00000000#32)) : FVec Ideal S512x256 .f32) = A
  rw [← two_part', ← low_col cg u 0]
  generalize (concatenate S512x1 0 [⟨S256x1, (extractStridedSlice S256x1 ![256, 0] cg slices_S1024x1_o256_0_S256x1 : FVec Ideal S256x1 .f32)⟩,
      ⟨S256x1, (extractStridedSlice S256x1 ![768, 0] cg slices_S1024x1_o768_0_S256x1 : FVec Ideal S256x1 .f32)⟩] concatenates_S256x1_S256x1_S512x1_d0) = B
  pointwise! [k0_pay119, k0_pay115]
  have hu := u.isLt
  have e : ∀ a b : ℕ, IntOp.addi (BitVec.ofNat 32 a) (BitVec.ofNat 32 b) = BitVec.ofNat 32 (a + b) := fun a b => (BitVec.ofNat_add ..).symm
  by_cases h : u.val < 256
  · rw [dif_pos h, e, sel_lt (a := c.val + 256) (b := 256 + u.val) (by omega) (by omega)]
    simp only [show c.val + 256 < 256 + u.val ↔ c.val < u.val % 256 by omega]; rfl
  · rw [dif_neg h, e, sel_lt (a := c.val + 256) (b := 256 + (u.val - 256)) (by omega) (by omega)]
    simp only [show c.val + 256 < 256 + (u.val - 256) ↔ c.val < u.val % 256 by omega]; rfl

set_option maxHeartbeats 1600000 in
theorem p121 (A : IVec S512x256 1) (q' d' : FVec Ideal S512x128 .bf16) (w' : FVec Ideal S512x256 .bf16) (r : Fin 1024) (l : Fin 128) :
    k0_pay121 (F := Ideal) tri dq cg A q' d' w' k v (ix2 r l)
    = if r.val % 512 < 256 then dq (ix2 r l) else dq (ix2 r l) + ∑ c : Fin 256, k0_pay120 (F := Ideal) tri cg A q' d' w' k v (ix2 ⟨256 * (r.val / 512) + (r.val % 512 - 256), by omega⟩ c) * k (ix2 c l) := by
  unfold k0_pay121
  generalize k0_pay120 (F := Ideal) tri cg A q' d' w' k v = B
  have hM : ∀ (u : Fin 512), (matmul dot_S512x256_S256x128_S512x128_1_0_0_1_n_n none B (k0_pay119 k) (constant S512x128 .f32 0x00000000#32) : FVec Ideal S512x128 .f32) (ix2 u l)
      = ∑ c : Fin 256, B (ix2 u c) * k (ix2 c l) := by
    intro u; pointwise! [k0_pay119]
  generalize (matmul dot_S512x256_S256x128_S512x128_1_0_0_1_n_n none B (k0_pay119 k) (constant S512x128 .f32 0x00000000#32) : FVec Ideal S512x128 .f32) = M at hM ⊢
  rw [← hM]
  pointwise! []
  have hr := r.isLt
  rcases (by omega : r.val / 256 = 0 ∨ r.val / 256 = 1 ∨ r.val / 256 = 2 ∨ r.val / 256 = 3) with h | h | h | h
  · rw [dif_pos (show r.val < 256 by omega), if_pos (show r.val % 512 < 256 by omega)]
  · rw [dif_neg (show ¬ r.val < 256 by omega), dif_pos (show r.val - 256 < 256 by omega), if_neg (show ¬ r.val % 512 < 256 by omega)]
    rw [dif_pos (show r.val - 256 < 256 by omega)]
    congr 3 <;> exact Fin.ext (by first | omega | (simp only []; omega))
  · rw [dif_neg (show ¬ r.val < 256 by omega), dif_neg (show ¬ r.val - 256 < 256 by omega), dif_pos (show r.val - 256 - 256 < 256 by omega), if_pos (show r.val % 512 < 256 by omega)]
    congr 2; exact Fin.ext (by first | omega | (simp only []; omega))
  · rw [dif_neg (show ¬ r.val < 256 by omega), dif_neg (show ¬ r.val - 256 < 256 by omega), dif_neg (show ¬ r.val - 256 - 256 < 256 by omega), if_neg (show ¬ r.val % 512 < 256 by omega)]
    congr 3 <;> exact Fin.ext (by first | omega | (simp only []; omega))

theorem p123 (A : IVec S512x256 1) (q' d' : FVec Ideal S512x128 .bf16) (w' : FVec Ideal S512x256 .bf16) (y : Vec Ideal S256x128 .f32) (c : Fin 256) (l : Fin 128) :
    k0_pay1 (F := Ideal) (k0_pay122 y) (k0_pay123 (F := Ideal) tri cg A q' d' w' k v) (ix2 c l)
    = y (ix2 c l) + ∑ u : Fin 512, k0_pay120 (F := Ideal) tri cg A q' d' w' k v (ix2 u c) * q' (ix2 u l) := by
  unfold k0_pay1 k0_pay122 k0_pay123
  generalize k0_pay120 (F := Ideal) tri cg A q' d' w' k v = B
  pointwise! []

theorem p2 (d' : FVec Ideal S512x128 .bf16) (w' : FVec Ideal S512x256 .bf16) (y : Vec Ideal S256x128 .f32) (c : Fin 256) (l : Fin 128) :
    k0_pay2 (F := Ideal) d' w' y (ix2 c l) = y (ix2 c l) + ∑ u : Fin 512, w' (ix2 u c) * d' (ix2 u l) := by
  pointwise! [k0_pay2]

end Cert.SbBwdIdeal.Pay

end
-- ==== Proof.SbBwd.Body.lean ====
module

public import proofs.«01_k».proof.Proof.Gen.SbBwdIdeal.Frame
public import proofs.«01_k».proof.Proof.Gen.SbBwdIdeal.Skeleton
public import proofs.«01_k».proof.Proof.Gen.SbBwdIdeal.Loops
public import Idealize.ShloMosaic.Lib.VecWindow
public import Idealize.ShloMosaic.Lib.Tactic

/-! # The attention backward kernel's body, run once

The kernel walks the key blocks of 256 rows before a query tile of 512 rows. Each block reads its 256 rows of `k`, `v` and the saved weights,
adds to the query gradient it carries, to the running row sums it carries, and to its 256 rows of `dk` and `dv`. The run below says so on plain
arrays: one function per block, applied in the order of the walk. -/

@[expose] public section

set_option maxRecDepth 16384

noncomputable section

namespace Cert.SbBwdIdeal.Body

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow (window put)

variable {F : FTy → Type} [FloatOps F]

local notation "𝕄" => MT nD τ sig Unit (Elt F) ℕ (UR sig nD τ) ℕ

/-- What the walk over the key blocks carries: the stacked query gradient, the row sums, and `dk`, `dv` of the head pair. -/
structure St (F : FTy → Type) where
  dq : FVec F S1024x128 .f32
  cg : FVec F S1024x1 .f32
  dk : Vec F S4096x128 .f32
  dv : Vec F S4096x128 .f32

/-- One operation followed by the rest of the program. -/
theorem lift_bind.{v} {E : Type → Type v} {α β : Type} (e : E α) (k : α → Prog E β) : (Prog.lift e >>= k) = Prog.op e k := rfl

/-- A store of a rectangle, read through the view it goes through, puts the payload there. -/
theorem read_write_put {sig : RefSig} {κ : Kind} {sp : Space} {sh : Shape} {e : EltTy} {Val : EltTy → Type} (v : Memref sig κ sp sh e) (f : v.view.ty.Contents Val)
    {off size : Fin sh.rank → ℕ} (inb : ∀ a, off a + size a ≤ sh.size a) (w : (Rect.unit off size inb).shape.Idx → Val e) :
    v.view.read Val ((v.access (Rect.unit off size inb)).write Val f w Finset.univ) = put (v.view.read Val f) off size w :=
  View.read_writes_cons_put v.view f inb w [] rfl

/-- The same over earlier stores. -/
theorem read_writes_put {sig : RefSig} {κ : Kind} {sp : Space} {sh : Shape} {e : EltTy} {Val : EltTy → Type} (v : View sig κ sp sh e) (f : v.ty.Contents Val)
    {off size : Fin sh.rank → ℕ} (inb : ∀ a, off a + size a ≤ sh.size a) (w : (Rect.unit off size inb).shape.Idx → Val e) (L : List (View.Piece Val sh e)) :
    v.read Val (v.writes Val f (⟨Rect.unit off size inb, w⟩ :: L)) = put (v.read Val (v.writes Val f L)) off size w :=
  View.read_writes_cons_put v f inb w L rfl

/-- A load of a rectangle is a window of what the view reads. -/
theorem readAt_window {sig : RefSig} {κ : Kind} {sp : Space} {sh : Shape} {e : EltTy} {Val : EltTy → Type} (v : View sig κ sp sh e) (f : v.ty.Contents Val)
    {off size : Fin sh.rank → ℕ} (inb : ∀ a, off a + size a ≤ sh.size a) :
    v.readAt Val (Rect.unit off size inb).toLoadRect f = window (v.read Val f) off size inb := rfl

/-- The two at the shapes of the accumulated results. -/
theorem rows_put {κ : Kind} {sp : Space} (v : Memref sig κ sp S4096x128 .f32) (f : v.view.ty.Contents (Elt F)) {off : Fin 2 → ℕ}
    (inb : ∀ a, off a + (![256, 128] : Fin 2 → ℕ) a ≤ S4096x128.size a) (w : FVec F S256x128 .f32) :
    v.view.read (Elt F) (View.write (Elt F) (v.access (Rect.unit (s := S4096x128) off ![256, 128] inb)) f w Finset.univ)
      = put (v.view.read (Elt F) f) off ![256, 128] w :=
  read_write_put v f inb w

theorem rows_puts {κ : Kind} {sp : Space} (v : Memref sig κ sp S4096x128 .f32) (f : v.view.ty.Contents (Elt F)) {off : Fin 2 → ℕ}
    (inb : ∀ a, off a + (![256, 128] : Fin 2 → ℕ) a ≤ S4096x128.size a) (w : FVec F S256x128 .f32) (L : List (View.Piece (Elt F) S4096x128 .f32)) :
    v.view.read (Elt F) (v.view.writes (Elt F) f (⟨Rect.unit (s := S4096x128) off ![256, 128] inb, w⟩ :: L))
      = put (v.view.read (Elt F) (v.view.writes (Elt F) f L)) off ![256, 128] w :=
  read_writes_put v.view f inb w L

/-- A window of an array's own sizes is the array. -/
theorem window_whole {sh : Shape} {α : Type} (x : sh.Idx → α) {off : Fin sh.rank → ℕ} (h : ∀ a, off a + sh.size a ≤ sh.size a) : window x off sh.size h = x := by
  funext y
  refine congrArg x (funext fun a => Fin.ext ?_)
  show off a + 1 * (y a).val = (y a).val
  have := h a; omega

/-- One block wholly before the query tile. -/
def step (q d : FVec F S1024x128 .bf16) (tri : FVec F S256x256 .bf16) (w : Vec F S1x1x1x1024x256 .bf16) (k v : Vec F S256x128 .f32)
    (o : Fin 2 → ℕ) (h : ∀ a, o a + S256x128.size a ≤ S4096x128.size a) (s : St F) : St F where
  dq := k0_pay8 q d tri s.dq s.cg w k v
  cg := k0_pay11 s.cg (k0_pay6 d w v)
  dk := put s.dk o S256x128.size (k0_pay9 q (k0_pay7 q d tri s.cg w k v) (window s.dk o S256x128.size h))
  dv := put s.dv o S256x128.size (k0_pay10 d (k0_pay4 w) (window s.dv o S256x128.size h))

/-- The tile's first diagonal block: all 512 rows, the mask on. -/
def diag0 (q d : FVec F S1024x128 .bf16) (tri : FVec F S256x256 .bf16) (w : Vec F S1x1x1x1024x256 .bf16) (k v : Vec F S256x128 .f32)
    (o : Fin 2 → ℕ) (h : ∀ a, o a + S256x128.size a ≤ S4096x128.size a) (s : St F) : St F :=
  let dz := k0_pay109 q d tri (iota .tc S512x256 32 [0] iota_S512x256_d0_w32) (iota .tc S512x256 32 [1] iota_S512x256_d1_w32) s.cg w k v
  { dq := k0_pay111 s.dq (k0_pay107 k) dz
    cg := k0_pay114 s.cg (k0_pay108 d w v)
    dk := put s.dk o S256x128.size (k0_pay112 q dz (window s.dk o S256x128.size h))
    dv := put s.dv o S256x128.size (k0_pay113 d (k0_pay106 w) (window s.dv o S256x128.size h)) }

/-- The tile's second diagonal block: the lower 256 rows of each head. -/
def diag1 (q d : FVec F S1024x128 .bf16) (tri : FVec F S256x256 .bf16) (w : Vec F S1x1x1x1024x256 .bf16) (k v : Vec F S256x128 .f32)
    (o : Fin 2 → ℕ) (h : ∀ a, o a + S256x128.size a ≤ S4096x128.size a) (s : St F) : St F :=
  let msk := k0_pay115 (iota .tc S512x256 32 [0] iota_S512x256_d0_w32) (iota .tc S512x256 32 [1] iota_S512x256_d1_w32)
  { dq := k0_pay121 tri s.dq s.cg msk (k0_pay116 q) (k0_pay117 d) (k0_pay118 w) k v
    cg := s.cg
    dk := put s.dk o S256x128.size (k0_pay1 (k0_pay122 (window s.dk o S256x128.size h)) (k0_pay123 tri s.cg msk (k0_pay116 q) (k0_pay117 d) (k0_pay118 w) k v))
    dv := put s.dv o S256x128.size (k0_pay2 (k0_pay117 d) (k0_pay118 w) (window s.dv o S256x128.size h)) }

section Run

variable (c : Dev nD) (i : grid0.Coords)
  (arg2 : Memref sig .tc .vmem S512x128 .f32) (harg2 : arg2.IsWhole) (arg3 : Memref sig .tc .vmem S4096x128 .f32) (harg3 : arg3.IsWhole)
  (arg4 : Memref sig .tc .vmem S4096x128 .f32) (harg4 : arg4.IsWhole) (arg5 : Memref sig .tc .vmem S1x1x16x1024x256 .bf16) (harg5 : arg5.IsWhole)
  (arg6 : Memref sig .tc .vmem S512x128 .f32) (harg6 : arg6.IsWhole) (arg7 : Memref sig .tc .vmem S512x128 .bf16) (harg7 : arg7.IsWhole)
  (arg8 : Memref sig .tc .vmem S4096x128 .f32) (harg8 : arg8.IsWhole) (arg9 : Memref sig .tc .vmem S4096x128 .f32) (harg9 : arg9.IsWhole)
  (x2 : Vec F S512x128 .f32) (x3 x4 : Vec F S4096x128 .f32) (x5 : Vec F S1x1x16x1024x256 .bf16) (x6 : Vec F S512x128 .f32)
  (q d : FVec F S1024x128 .bf16) (tri : FVec F S256x256 .bf16)

/-- Block `j` of trip `k`. -/
def stepL (k : Fin (k0_t1_loop i).trips) (j : Fin 4) (s : St F) : St F :=
  step q d tri (window x5 (k0_off1 i k (BitVec.ofNat 32 j.val)) S1x1x1x1024x256.size (k0_off1_inb i k j))
    (window x3 (k0_off2 i k (BitVec.ofNat 32 j.val)) S256x128.size (k0_off2_inb i k j))
    (window x4 (k0_off2 i k (BitVec.ofNat 32 j.val)) S256x128.size (k0_off2_inb i k j))
    (k0_off2 i k (BitVec.ofNat 32 j.val)) (k0_off2_inb i k j) s

/-- One trip: four blocks. -/
def trip (k : Fin (k0_t1_loop i).trips) (s : St F) : St F :=
  stepL i x3 x4 x5 q d tri k 3 (stepL i x3 x4 x5 q d tri k 2 (stepL i x3 x4 x5 q d tri k 1 (stepL i x3 x4 x5 q d tri k 0 s)))

/-- The buffers a trip touches, at the state `s`. -/
def res (s : St F) : sProp 𝕄 :=
  iprop(owns (c : Thread nD τ) arg3 fullShare x3 ∗ owns (c : Thread nD τ) arg4 fullShare x4 ∗ owns (c : Thread nD τ) arg5 fullShare x5
    ∗ owns (c : Thread nD τ) arg8 fullShare s.dk ∗ owns (c : Thread nD τ) arg9 fullShare s.dv)

set_option maxHeartbeats 4000000 in
theorem trip_run (k : Fin (k0_t1_loop i).trips) (s : St F) (a1 : BitVec 32) :
    res c arg3 arg4 arg5 arg8 arg9 x3 x4 x5 s
      ⊢ wp frame (wpE (defs₀ (F := F)) Variants.none (c : Thread nD τ) none) Set.univ
        (k0_t1_body i arg2 harg2 arg3 harg3 arg4 harg4 arg5 harg5 arg6 harg6 arg7 harg7 arg8 harg8 arg9 harg9 a1 q d tri k (s.dq, s.cg))
        (fun r => iprop(⌜r = ((trip i x3 x4 x5 q d tri k s).dq, (trip i x3 x4 x5 q d tri k s).cg)⌝
          ∗ res c arg3 arg4 arg5 arg8 arg9 x3 x4 x5 (trip i x3 x4 x5 q d tri k s))) := by
  unfold res owns
  iintro ⟨⟨%f3, %h3, H3⟩, ⟨%f4, %h4, H4⟩, ⟨%f5, %h5, H5⟩, ⟨%f8, %h8, H8⟩, ⟨%f9, %h9, H9⟩⟩
  sl_unfold [k0_t1_body]
  sl_open_parts
  simp only [bind_assoc, pure_bind]
  simp only [lift_bind]
  sl_steps
  isplitr
  · ipureintro
    simp only [readAt_window, h3, h4, h5]
    rfl
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H8]
  · iexists _; isplitr; swap; · iexact H8
    ipureintro
    simp only [readAt_window, rows_put, rows_puts, View.writes_nil, h3, h4, h5, h8]
    rfl
  · iexists _; isplitr; swap; · iexact H9
    ipureintro
    simp only [readAt_window, rows_put, rows_puts, View.writes_nil, h3, h4, h5, h9]
    rfl

/-- The state before trip `n`. -/
def walk (s : St F) : ℕ → St F
  | 0 => s
  | n + 1 => if h : n < (k0_t1_loop i).trips then trip i x3 x4 x5 q d tri ⟨n, h⟩ (walk s n) else walk s n

theorem walk_succ (s : St F) (k : Fin (k0_t1_loop i).trips) :
    walk i x3 x4 x5 q d tri s (k.val + 1) = trip i x3 x4 x5 q d tri k (walk i x3 x4 x5 q d tri s k.val) := by
  simp only [walk, dif_pos k.isLt]

theorem trips2 : (k0_t2_loop i).trips = 0 := by
  unfold k0_t2_loop
  generalize i 1 = j
  revert j
  decide +kernel

/-- The walk's start: nothing carried, the accumulated results as they stand. -/
def init (dk dv : Vec F S4096x128 .f32) : St F := ⟨k0_pay88, k0_pay89, dk, dv⟩

set_option maxHeartbeats 4000000 in
theorem loops_run (dk dv : Vec F S4096x128 .f32) (a1 : BitVec 32) :
    res c arg3 arg4 arg5 arg8 arg9 x3 x4 x5 (init dk dv)
      ⊢ wp frame (wpE (defs₀ (F := F)) Variants.none (c : Thread nD τ) none) Set.univ
        (k0_part14 i arg2 harg2 arg3 harg3 arg4 harg4 arg5 harg5 arg6 harg6 arg7 harg7 arg8 harg8 arg9 harg9 a1 q d tri)
        (fun r => iprop(⌜r = ⟨(walk i x3 x4 x5 q d tri (init dk dv) (k0_t1_loop i).trips).dq, (walk i x3 x4 x5 q d tri (init dk dv) (k0_t1_loop i).trips).cg⟩⌝
          ∗ res c arg3 arg4 arg5 arg8 arg9 x3 x4 x5 (walk i x3 x4 x5 q d tri (init dk dv) (k0_t1_loop i).trips))) := by
  rw [k0_part14_eq_skeleton]
  unfold k0_part14_skel
  dsimp only
  iintro H
  sl_for (fun n (acc : FVec F S1024x128 .f32 × FVec F S1024x1 .f32) =>
    iprop(⌜acc = ((walk i x3 x4 x5 q d tri (init dk dv) n).dq, (walk i x3 x4 x5 q d tri (init dk dv) n).cg)⌝
      ∗ res c arg3 arg4 arg5 arg8 arg9 x3 x4 x5 (walk i x3 x4 x5 q d tri (init dk dv) n))) $$ [H]
  · intro k acc
    iintro ⟨%e, H⟩
    subst e
    rw [walk_succ]
    iapply (trip_run c i arg2 harg2 arg3 harg3 arg4 harg4 arg5 harg5 arg6 harg6 arg7 harg7 arg8 harg8 arg9 harg9 x3 x4 x5 q d tri k _ a1) $$ [H]
    iexact H
  · isplitr
    · ipureintro; rfl
    · iexact H
  · iintro %acc ⟨%e, H⟩
    subst e
    sl_for0 (trips2 i)
    sl_steps
    isplitr
    · ipureintro; rfl
    · iexact H

/-- Whether the tile is its head pair's first. -/
def cond1 : BitVec 1 := Scalar.cmpi .ne (Scalar.extui (Scalar.cmpi .eq (BitVec.ofNat 32 (i 1).val) 0#32) : BitVec 32) 0#32

/-- What the tile's own loads give before the walk. -/
abbrev opening (x2 x6 : Vec F S512x128 .f32) :
    Σ' (arg1 : BitVec 32) (v19 : FVec F S1024x128 .bf16) (v33 : FVec F S1024x128 .bf16) (v39 : FVec F S256x256 .bf16) (v40 : IVec S512x256 32) (v41 : IVec S512x256 32), BitVec 32 :=
  ⟨BitVec.ofNat 32 (i 1).val, k0_pay85 x2, k0_pay86 x6, k0_pay87, iota .tc S512x256 32 [0] iota_S512x256_d0_w32, iota .tc S512x256 32 [1] iota_S512x256_d1_w32,
    Scalar.muli (BitVec.ofNat 32 (i 1).val) 2#32⟩

set_option maxHeartbeats 4000000 in
/-- At a head pair's first tile the accumulated results are cleared. -/
theorem open_first (h1 : cond1 i = 1#1) (y8 y9 : Vec F S4096x128 .f32) :
    (iprop(owns (c : Thread nD τ) arg2 fullShare x2 ∗ owns (c : Thread nD τ) arg6 fullShare x6 ∗ owns (c : Thread nD τ) arg8 fullShare y8 ∗ owns (c : Thread nD τ) arg9 fullShare y9) : sProp 𝕄)
      ⊢ wp frame (wpE (defs₀ (F := F)) Variants.none (c : Thread nD τ) none) Set.univ (k0_part13 i arg2 harg2 arg3 harg3 arg4 harg4 arg5 harg5 arg6 harg6 arg7 harg7 arg8 harg8 arg9 harg9)
        (fun r => iprop(⌜r = opening i x2 x6⌝ ∗ owns (c : Thread nD τ) arg2 fullShare x2 ∗ owns (c : Thread nD τ) arg6 fullShare x6
          ∗ owns (c : Thread nD τ) arg8 fullShare (k0_pay83 (F := F)) ∗ owns (c : Thread nD τ) arg9 fullShare (k0_pay84 (F := F)))) := by
  unfold owns
  iintro ⟨⟨%f2, %h2, H2⟩, ⟨%f6, %h6, H6⟩, ⟨%f8, %h8, H8⟩, ⟨%f9, %h9, H9⟩⟩
  rw [k0_part13_eq_skeleton]
  unfold k0_part13_skel
  unfold cond1 at h1
  dsimp only
  rw [dif_pos h1]
  simp only [lift_bind]
  sl_steps
  isplitr
  · ipureintro
    rw [View.readAt_full, View.readAt_full, h2, h6]
  isplitl [H2]; · iexists f2; isplitr; · ipureintro; exact h2
                  iexact H2
  isplitl [H6]; · iexists f6; isplitr; · ipureintro; exact h6
                  iexact H6
  isplitl [H8]
  · iexists _; isplitr; swap; · iexact H8
    ipureintro
    exact View.read_writes_full arg8.view f8 inb_S4096x128_S4096x128_0_0 _ []
  · iexists _; isplitr; swap; · iexact H9
    ipureintro
    exact View.read_writes_full arg9.view f9 inb_S4096x128_S4096x128_0_0 _ []

set_option maxHeartbeats 4000000 in
/-- At every other tile they stay. -/
theorem open_rest (h1 : ¬ cond1 i = 1#1) :
    (iprop(owns (c : Thread nD τ) arg2 fullShare x2 ∗ owns (c : Thread nD τ) arg6 fullShare x6) : sProp 𝕄)
      ⊢ wp frame (wpE (defs₀ (F := F)) Variants.none (c : Thread nD τ) none) Set.univ (k0_part13 i arg2 harg2 arg3 harg3 arg4 harg4 arg5 harg5 arg6 harg6 arg7 harg7 arg8 harg8 arg9 harg9)
        (fun r => iprop(⌜r = opening i x2 x6⌝ ∗ owns (c : Thread nD τ) arg2 fullShare x2 ∗ owns (c : Thread nD τ) arg6 fullShare x6)) := by
  unfold owns
  iintro ⟨⟨%f2, %h2, H2⟩, ⟨%f6, %h6, H6⟩⟩
  rw [k0_part13_eq_skeleton]
  unfold k0_part13_skel
  unfold cond1 at h1
  dsimp only
  rw [dif_neg h1]
  simp only [lift_bind]
  sl_steps
  isplitr
  · ipureintro
    rw [View.readAt_full, View.readAt_full, h2, h6]
  isplitl [H2]; · iexists f2; isplitr; · ipureintro; exact h2
                  iexact H2
  iexists f6; isplitr; · ipureintro; exact h6
  iexact H6

/-- Block `j` of the two before an odd tile. -/
def stepO (h : k0_cond2 i = 1#1) (j : Fin 2) (s : St F) : St F :=
  step q d tri (window x5 (k0_off5 i (BitVec.ofNat 32 j.val)) S1x1x1x1024x256.size (k0_off5_inb i h j))
    (window x3 (k0_off6 i (BitVec.ofNat 32 j.val)) S256x128.size (k0_off6_inb i h j))
    (window x4 (k0_off6 i (BitVec.ofNat 32 j.val)) S256x128.size (k0_off6_inb i h j))
    (k0_off6 i (BitVec.ofNat 32 j.val)) (k0_off6_inb i h j) s

/-- The two blocks before an odd tile. -/
def odd (s : St F) : St F :=
  if h : k0_cond2 i = 1#1 then stepO i x3 x4 x5 q d tri h 1 (stepO i x3 x4 x5 q d tri h 0 s) else s

/-- The tile's two diagonal blocks. -/
def diag (s : St F) : St F :=
  diag1 q d tri (window x5 (k0_off7 i (BitVec.ofNat 32 1)) S1x1x1x1024x256.size (k0_off7_inb i 1))
    (window x3 (k0_off8 i (BitVec.ofNat 32 1)) S256x128.size (k0_off8_inb i 1))
    (window x4 (k0_off8 i (BitVec.ofNat 32 1)) S256x128.size (k0_off8_inb i 1))
    (k0_off8 i (BitVec.ofNat 32 1)) (k0_off8_inb i 1)
    (diag0 q d tri (window x5 (k0_off7 i (BitVec.ofNat 32 0)) S1x1x1x1024x256.size (k0_off7_inb i 0))
      (window x3 (k0_off8 i (BitVec.ofNat 32 0)) S256x128.size (k0_off8_inb i 0))
      (window x4 (k0_off8 i (BitVec.ofNat 32 0)) S256x128.size (k0_off8_inb i 0))
      (k0_off8 i (BitVec.ofNat 32 0)) (k0_off8_inb i 0) s)

/-- The body after the walk. -/
def rest (v40 v41 : IVec S512x256 32) (v42 : BitVec 32) (a : FVec F S1024x128 .f32) (b : FVec F S1024x1 .f32) : Prog (TpuEff nD τ sig (Elt F) Λ₀ .tc) PUnit := do
  let ⟨v82_0, v82_1, v89, v92, v96, v111, v125⟩ : Σ' (v82_0 : FVec F S1024x128 .f32) (v82_1 : FVec F S1024x1 .f32) (v89 : BitVec 32) (v92 : FVec F S1024x256 .bf16) (v96 : FVec F S256x128 .bf16) (v111 : FVec F S1024x256 .f32), FVec F S1024x256 .f32 ← k0_part15 i arg2 harg2 arg3 harg3 arg4 harg4 arg5 harg5 arg6 harg6 arg7 harg7 arg8 harg8 arg9 harg9 q d tri v40 v41 v42 a b
  let ⟨v128, v145, v151, v153, v156, v159, v165, v167⟩ : Σ' (v128 : FVec F S1024x128 .f32) (v145 : FVec F S1024x1 .f32) (v151 : IVec S512x256 1) (v153 : BitVec 32) (v156 : FVec F S512x128 .bf16) (v159 : FVec F S512x128 .bf16) (v165 : FVec F S512x256 .bf16), Vec F S256x128 .f32 ← k0_part16 i arg2 harg2 arg3 harg3 arg4 harg4 arg5 harg5 arg6 harg6 arg7 harg7 arg8 harg8 arg9 harg9 q d v40 v41 v42 v82_0 v82_1 v89 v92 v96 v111 v125
  let ⟨v212, v215, v216⟩ : Σ' (v212 : FVec F S1024x128 .f32) (v215 : FVec F S256x128 .f32), FVec F S256x128 .f32 ← k0_part17 i arg2 harg2 arg3 harg3 arg4 harg4 arg5 harg5 arg6 harg6 arg7 harg7 arg8 harg8 arg9 harg9 tri v128 v145 v151 v153 v156 v159 v165 v167
  let v219 : Vec F S256x128 .f32 ← Prog.lift (.load arg8 (Rect.unit (s := S4096x128) (k0_off8 i 1#32) S256x128.size (k0_off8_inb i 1)).toLoadRect (View.loadsAt_vmem h_S256x128))
  Prog.lift (.store arg8 (Rect.unit (s := S4096x128) (k0_off8 i 1#32) S256x128.size (k0_off8_inb i 1)) (k0_pay1 v215 v216) Finset.univ (View.stores_vmem_bits_univ h_S256x128 rfl) (.inl rfl))
  let v221 : Vec F S256x128 .f32 ← Prog.lift (.load arg9 (Rect.unit (s := S4096x128) (k0_off8 i 1#32) S256x128.size (k0_off8_inb i 1)).toLoadRect (View.loadsAt_vmem h_S256x128))
  let v226 : Vec F S256x128 .f32 ← Prog.lift (.load arg9 (Rect.unit (s := S4096x128) (k0_off8 i 1#32) S256x128.size (k0_off8_inb i 1)).toLoadRect (View.loadsAt_vmem h_S256x128))
  Prog.lift (.store arg9 (Rect.unit (s := S4096x128) (k0_off8 i 1#32) S256x128.size (k0_off8_inb i 1)) (k0_pay2 v159 v165 v221) Finset.univ (View.stores_vmem_bits_univ h_S256x128 rfl) (.inl rfl))
  let v238 : Vec F S512x128 .bf16 ← Prog.lift (.load arg7 (Rect.unit (s := S512x128) ![0, 0] S512x128.size inb_S512x128_S512x128_0_0).toLoadRect (View.loadsAt_vmem h_S512x128))
  Prog.lift (.store arg7 (Rect.unit (s := S512x128) ![0, 0] S512x128.size inb_S512x128_S512x128_0_0) (k0_pay3 v212) Finset.univ (View.stores_vmem h_S512x128 (harg7.storeExact_slice rfl _ packedbf16_S512x128_S512x128_0_0) (fun _ => rfl)) (.inl rfl))
  pure ⟨⟩

set_option maxHeartbeats 8000000 in
/-- After the walk, at an odd tile. -/
theorem rest_odd (h2 : k0_cond2 i = 1#1) (s : St F) (y7 : Vec F S512x128 .bf16) :
    (iprop(res c arg3 arg4 arg5 arg8 arg9 x3 x4 x5 s ∗ owns (c : Thread nD τ) arg7 fullShare y7) : sProp 𝕄)
      ⊢ wp frame (wpE (defs₀ (F := F)) Variants.none (c : Thread nD τ) none) Set.univ (rest i arg2 harg2 arg3 harg3 arg4 harg4 arg5 harg5 arg6 harg6 arg7 harg7 arg8 harg8 arg9 harg9 q d tri (iota .tc S512x256 32 [0] iota_S512x256_d0_w32) (iota .tc S512x256 32 [1] iota_S512x256_d1_w32) (Scalar.muli (BitVec.ofNat 32 (i 1).val) 2#32) s.dq s.cg)
        (fun _ => iprop(res c arg3 arg4 arg5 arg8 arg9 x3 x4 x5 (diag i x3 x4 x5 q d tri (stepO i x3 x4 x5 q d tri h2 1 (stepO i x3 x4 x5 q d tri h2 0 s)))
          ∗ owns (c : Thread nD τ) arg7 fullShare (k0_pay3 (diag i x3 x4 x5 q d tri (stepO i x3 x4 x5 q d tri h2 1 (stepO i x3 x4 x5 q d tri h2 0 s))).dq))) := by
  unfold res owns rest
  iintro ⟨⟨⟨%f3, %h3, H3⟩, ⟨%f4, %h4, H4⟩, ⟨%f5, %h5, H5⟩, ⟨%f8, %h8, H8⟩, ⟨%f9, %h9, H9⟩⟩, ⟨%f7, %h7, H7⟩⟩
  sl_open_parts
  simp only [dif_pos h2]
  simp only [bind_assoc, pure_bind]
  simp only [lift_bind]
  sl_steps
  isplitl [H3 H4 H5 H8 H9]
  · isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H8]
    · iexists _; isplitr; swap; · iexact H8
      ipureintro
      simp only [readAt_window, rows_put, rows_puts, View.writes_nil, h3, h4, h5, h8]
      rfl
    · iexists _; isplitr; swap; · iexact H9
      ipureintro
      simp only [readAt_window, rows_put, rows_puts, View.writes_nil, h3, h4, h5, h9]
      rfl
  · iexists _; isplitr; swap; · iexact H7
    ipureintro
    refine (View.read_writes_full arg7.view f7 inb_S512x128_S512x128_0_0 _ []).trans ?_
    simp only [readAt_window, rows_put, rows_puts, View.writes_nil, h3, h4, h5, h9]
    rfl

set_option maxHeartbeats 8000000 in
/-- After the walk, at an even tile. -/
theorem rest_even (h2 : ¬ k0_cond2 i = 1#1) (s : St F) (y7 : Vec F S512x128 .bf16) :
    (iprop(res c arg3 arg4 arg5 arg8 arg9 x3 x4 x5 s ∗ owns (c : Thread nD τ) arg7 fullShare y7) : sProp 𝕄)
      ⊢ wp frame (wpE (defs₀ (F := F)) Variants.none (c : Thread nD τ) none) Set.univ (rest i arg2 harg2 arg3 harg3 arg4 harg4 arg5 harg5 arg6 harg6 arg7 harg7 arg8 harg8 arg9 harg9 q d tri (iota .tc S512x256 32 [0] iota_S512x256_d0_w32) (iota .tc S512x256 32 [1] iota_S512x256_d1_w32) (Scalar.muli (BitVec.ofNat 32 (i 1).val) 2#32) s.dq s.cg)
        (fun _ => iprop(res c arg3 arg4 arg5 arg8 arg9 x3 x4 x5 (diag i x3 x4 x5 q d tri s)
          ∗ owns (c : Thread nD τ) arg7 fullShare (k0_pay3 (diag i x3 x4 x5 q d tri s).dq))) := by
  unfold res owns rest
  iintro ⟨⟨⟨%f3, %h3, H3⟩, ⟨%f4, %h4, H4⟩, ⟨%f5, %h5, H5⟩, ⟨%f8, %h8, H8⟩, ⟨%f9, %h9, H9⟩⟩, ⟨%f7, %h7, H7⟩⟩
  sl_open_parts
  simp only [dif_neg h2]
  simp only [bind_assoc, pure_bind]
  simp only [lift_bind]
  sl_steps
  isplitl [H3 H4 H5 H8 H9]
  · isplitl [H3]; · iexists f3; isplitr; · ipureintro; exact h3
                    iexact H3
    isplitl [H4]; · iexists f4; isplitr; · ipureintro; exact h4
                    iexact H4
    isplitl [H5]; · iexists f5; isplitr; · ipureintro; exact h5
                    iexact H5
    isplitl [H8]
    · iexists _; isplitr; swap; · iexact H8
      ipureintro
      simp only [readAt_window, rows_put, rows_puts, View.writes_nil, h3, h4, h5, h8]
      rfl
    · iexists _; isplitr; swap; · iexact H9
      ipureintro
      simp only [readAt_window, rows_put, rows_puts, View.writes_nil, h3, h4, h5, h9]
      rfl
  · iexists _; isplitr; swap; · iexact H7
    ipureintro
    refine (View.read_writes_full arg7.view f7 inb_S512x128_S512x128_0_0 _ []).trans ?_
    simp only [readAt_window, rows_put, rows_puts, View.writes_nil, h3, h4, h5, h9]
    rfl

/-- The tile's work from the accumulated results `dk`, `dv`. -/
def tile (dk dv : Vec F S4096x128 .f32) : St F :=
  diag i x3 x4 x5 (k0_pay85 x2) (k0_pay86 x6) k0_pay87
    (odd i x3 x4 x5 (k0_pay85 x2) (k0_pay86 x6) k0_pay87
      (walk i x3 x4 x5 (k0_pay85 x2) (k0_pay86 x6) k0_pay87 (init dk dv) (k0_t1_loop i).trips))

theorem rest_run (s : St F) (y7 : Vec F S512x128 .bf16) :
    (iprop(res c arg3 arg4 arg5 arg8 arg9 x3 x4 x5 s ∗ owns (c : Thread nD τ) arg7 fullShare y7) : sProp 𝕄)
      ⊢ wp frame (wpE (defs₀ (F := F)) Variants.none (c : Thread nD τ) none) Set.univ (rest i arg2 harg2 arg3 harg3 arg4 harg4 arg5 harg5 arg6 harg6 arg7 harg7 arg8 harg8 arg9 harg9 q d tri (iota .tc S512x256 32 [0] iota_S512x256_d0_w32) (iota .tc S512x256 32 [1] iota_S512x256_d1_w32) (Scalar.muli (BitVec.ofNat 32 (i 1).val) 2#32) s.dq s.cg)
        (fun _ => iprop(res c arg3 arg4 arg5 arg8 arg9 x3 x4 x5 (diag i x3 x4 x5 q d tri (odd i x3 x4 x5 q d tri s))
          ∗ owns (c : Thread nD τ) arg7 fullShare (k0_pay3 (diag i x3 x4 x5 q d tri (odd i x3 x4 x5 q d tri s)).dq))) := by
  by_cases h2 : k0_cond2 i = 1#1
  · rw [odd, dif_pos h2]
    exact rest_odd c i arg2 harg2 arg3 harg3 arg4 harg4 arg5 harg5 arg6 harg6 arg7 harg7 arg8 harg8 arg9 harg9 x3 x4 x5 q d tri h2 s y7
  · rw [odd, dif_neg h2]
    exact rest_even c i arg2 harg2 arg3 harg3 arg4 harg4 arg5 harg5 arg6 harg6 arg7 harg7 arg8 harg8 arg9 harg9 x3 x4 x5 q d tri h2 s y7

theorem body_eq : cc0_sb_attn_bwd (F := F) i arg2 harg2 arg3 harg3 arg4 harg4 arg5 harg5 arg6 harg6 arg7 harg7 arg8 harg8 arg9 harg9 = (do
    let ⟨arg1, v19, v33, v39, v40, v41, v42⟩ : Σ' (arg1 : BitVec 32) (v19 : FVec F S1024x128 .bf16) (v33 : FVec F S1024x128 .bf16) (v39 : FVec F S256x256 .bf16) (v40 : IVec S512x256 32) (v41 : IVec S512x256 32), BitVec 32 ← k0_part13 i arg2 harg2 arg3 harg3 arg4 harg4 arg5 harg5 arg6 harg6 arg7 harg7 arg8 harg8 arg9 harg9
    let ⟨a, b⟩ : Σ' (v68_0 : FVec F S1024x128 .f32), FVec F S1024x1 .f32 ← k0_part14 i arg2 harg2 arg3 harg3 arg4 harg4 arg5 harg5 arg6 harg6 arg7 harg7 arg8 harg8 arg9 harg9 arg1 v19 v33 v39
    rest i arg2 harg2 arg3 harg3 arg4 harg4 arg5 harg5 arg6 harg6 arg7 harg7 arg8 harg8 arg9 harg9 v19 v33 v39 v40 v41 v42 a b) := rfl

/-- From the walk on. -/
theorem walk_run (dk dv : Vec F S4096x128 .f32) (y7 : Vec F S512x128 .bf16) :
    (iprop(res c arg3 arg4 arg5 arg8 arg9 x3 x4 x5 (init dk dv) ∗ owns (c : Thread nD τ) arg7 fullShare y7) : sProp 𝕄)
      ⊢ wp frame (wpE (defs₀ (F := F)) Variants.none (c : Thread nD τ) none) Set.univ
        (k0_part14 i arg2 harg2 arg3 harg3 arg4 harg4 arg5 harg5 arg6 harg6 arg7 harg7 arg8 harg8 arg9 harg9 (BitVec.ofNat 32 (i 1).val) (k0_pay85 x2) (k0_pay86 x6) k0_pay87 >>= fun r => match r with
          | ⟨a, b⟩ => rest i arg2 harg2 arg3 harg3 arg4 harg4 arg5 harg5 arg6 harg6 arg7 harg7 arg8 harg8 arg9 harg9 (k0_pay85 x2) (k0_pay86 x6) k0_pay87 (iota .tc S512x256 32 [0] iota_S512x256_d0_w32) (iota .tc S512x256 32 [1] iota_S512x256_d1_w32) (Scalar.muli (BitVec.ofNat 32 (i 1).val) 2#32) a b)
        (fun _ => iprop(res c arg3 arg4 arg5 arg8 arg9 x3 x4 x5 (tile i x2 x3 x4 x5 x6 dk dv)
          ∗ owns (c : Thread nD τ) arg7 fullShare (k0_pay3 (tile i x2 x3 x4 x5 x6 dk dv).dq))) := by
  rw [wp_bind]
  iintro ⟨H, H7⟩
  iapply (wp_wand frame (wpE (defs₀ (F := F)) Variants.none (c : Thread nD τ) none) Set.univ) $$ [H]
  · iapply (loops_run c i arg2 harg2 arg3 harg3 arg4 harg4 arg5 harg5 arg6 harg6 arg7 harg7 arg8 harg8 arg9 harg9 x3 x4 x5 (k0_pay85 x2) (k0_pay86 x6) k0_pay87 dk dv (BitVec.ofNat 32 (i 1).val)) $$ [H]
    iexact H
  · iintro %r ⟨%e, H⟩
    subst e
    iapply (rest_run c i arg2 harg2 arg3 harg3 arg4 harg4 arg5 harg5 arg6 harg6 arg7 harg7 arg8 harg8 arg9 harg9 x3 x4 x5 (k0_pay85 x2) (k0_pay86 x6) k0_pay87 _ y7) $$ [H H7]
    isplitl [H] <;> iassumption

/-- What the body leaves, in the order of its operands. -/
def after (dk dv : Vec F S4096x128 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
    ∗ owns (c : Thread nD τ) arg7 fullShare (k0_pay3 (tile i x2 x3 x4 x5 x6 dk dv).dq) ∗ owns (c : Thread nD τ) arg8 fullShare (tile i x2 x3 x4 x5 x6 dk dv).dk ∗ owns (c : Thread nD τ) arg9 fullShare (tile i x2 x3 x4 x5 x6 dk dv).dv)

theorem body_first (h1 : cond1 i = 1#1) (y7 : Vec F S512x128 .bf16) (y8 y9 : Vec F S4096x128 .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare y7 ∗ owns (c : Thread nD τ) arg8 fullShare y8 ∗ owns (c : Thread nD τ) arg9 fullShare y9) : sProp 𝕄)
      ⊢ wp frame (wpE (defs₀ (F := F)) Variants.none (c : Thread nD τ) none) Set.univ (cc0_sb_attn_bwd i arg2 harg2 arg3 harg3 arg4 harg4 arg5 harg5 arg6 harg6 arg7 harg7 arg8 harg8 arg9 harg9)
        (fun _ => after c i arg2 arg3 arg4 arg5 arg6 arg7 arg8 arg9 x2 x3 x4 x5 x6 (k0_pay83 (F := F)) (k0_pay84 (F := F))) := by
  rw [body_eq, wp_bind]
  iintro ⟨H2, H3, H4, H5, H6, H7, H8, H9⟩
  iapply (wp_wand frame (wpE (defs₀ (F := F)) Variants.none (c : Thread nD τ) none) Set.univ) $$ [H2 H6 H8 H9]
  · iapply (open_first c i arg2 harg2 arg3 harg3 arg4 harg4 arg5 harg5 arg6 harg6 arg7 harg7 arg8 harg8 arg9 harg9 x2 x6 h1 y8 y9) $$ [H2 H6 H8 H9]
    isplitl [H2]; · iexact H2
    isplitl [H6]; · iexact H6
    isplitl [H8] <;> iassumption
  · iintro %r ⟨%e, H2, H6, H8, H9⟩
    subst e
    iapply (wp_wand frame (wpE (defs₀ (F := F)) Variants.none (c : Thread nD τ) none) Set.univ) $$ [H3 H4 H5 H8 H9 H7]
    · iapply (walk_run c i arg2 harg2 arg3 harg3 arg4 harg4 arg5 harg5 arg6 harg6 arg7 harg7 arg8 harg8 arg9 harg9 x2 x3 x4 x5 x6 k0_pay83 k0_pay84 y7) $$ [H3 H4 H5 H8 H9 H7]
      unfold res
      isplitr [H7]; swap; · iexact H7
      isplitl [H3]; · iexact H3
      isplitl [H4]; · iexact H4
      isplitl [H5]; · iexact H5
      isplitl [H8]; · iexact H8
      iexact H9
    · iintro %u ⟨H, H7⟩
      unfold res after
      icases H with ⟨H3, H4, H5, H8, H9⟩
      isplitl [H2]; · iexact H2
      isplitl [H3]; · iexact H3
      isplitl [H4]; · iexact H4
      isplitl [H5]; · iexact H5
      isplitl [H6]; · iexact H6
      isplitl [H7]; · iexact H7
      isplitl [H8] <;> iassumption

theorem body_rest (h1 : ¬ cond1 i = 1#1) (y7 : Vec F S512x128 .bf16) (y8 y9 : Vec F S4096x128 .f32) :
    (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
      ∗ owns (c : Thread nD τ) arg7 fullShare y7 ∗ owns (c : Thread nD τ) arg8 fullShare y8 ∗ owns (c : Thread nD τ) arg9 fullShare y9) : sProp 𝕄)
      ⊢ wp frame (wpE (defs₀ (F := F)) Variants.none (c : Thread nD τ) none) Set.univ (cc0_sb_attn_bwd i arg2 harg2 arg3 harg3 arg4 harg4 arg5 harg5 arg6 harg6 arg7 harg7 arg8 harg8 arg9 harg9)
        (fun _ => after c i arg2 arg3 arg4 arg5 arg6 arg7 arg8 arg9 x2 x3 x4 x5 x6 y8 y9) := by
  rw [body_eq, wp_bind]
  iintro ⟨H2, H3, H4, H5, H6, H7, H8, H9⟩
  iapply (wp_wand frame (wpE (defs₀ (F := F)) Variants.none (c : Thread nD τ) none) Set.univ) $$ [H2 H6]
  · iapply (open_rest c i arg2 harg2 arg3 harg3 arg4 harg4 arg5 harg5 arg6 harg6 arg7 harg7 arg8 harg8 arg9 harg9 x2 x6 h1) $$ [H2 H6]
    isplitl [H2] <;> iassumption
  · iintro %r ⟨%e, H2, H6⟩
    subst e
    iapply (wp_wand frame (wpE (defs₀ (F := F)) Variants.none (c : Thread nD τ) none) Set.univ) $$ [H3 H4 H5 H8 H9 H7]
    · iapply (walk_run c i arg2 harg2 arg3 harg3 arg4 harg4 arg5 harg5 arg6 harg6 arg7 harg7 arg8 harg8 arg9 harg9 x2 x3 x4 x5 x6 y8 y9 y7) $$ [H3 H4 H5 H8 H9 H7]
      unfold res
      isplitr [H7]; swap; · iexact H7
      isplitl [H3]; · iexact H3
      isplitl [H4]; · iexact H4
      isplitl [H5]; · iexact H5
      isplitl [H8]; · iexact H8
      iexact H9
    · iintro %u ⟨H, H7⟩
      unfold res after
      icases H with ⟨H3, H4, H5, H8, H9⟩
      isplitl [H2]; · iexact H2
      isplitl [H3]; · iexact H3
      isplitl [H4]; · iexact H4
      isplitl [H5]; · iexact H5
      isplitl [H6]; · iexact H6
      isplitl [H7]; · iexact H7
      isplitl [H8] <;> iassumption

end Run

end Cert.SbBwdIdeal.Body

end
-- ==== Proof.SbBwd.Walk.lean ====
/- The walk over the key blocks, in real numbers: what a query tile leaves. -/
module

public import proofs.«01_k».proof.Proof.SbBwd.Pay
public import proofs.«01_k».proof.Proof.SbBwd.Body

@[expose] public section

set_option maxRecDepth 16384

noncomputable section

namespace Cert.SbBwdIdeal.Walk

open Idealize.ShloMosaic Idealize.ShloMosaic.TcCoe Idealize.SL.Sem
open Cert.SbBwdIdeal Cert.SbBwdIdeal.Gen Cert.SbBwdIdeal.Body Cert.Shared
open Idealize.ShloMosaic.VecWindow (window put)
open Finset (range)

theorem fin_sum (n : ℕ) (f : ℕ → ℝ) : (∑ i : Fin n, ((f i.val : ℝ) : EReal)) = ((∑ i ∈ range n, f i : ℝ) : EReal) := by
  rw [sum_coe, Finset.sum_range]

theorem sum_below (n c : ℕ) (hc : c ≤ n) (f : ℕ → ℝ) : (∑ m ∈ range n, f m * (if m < c then 1 else 0)) = ∑ m ∈ range c, f m := by
  simp only [mul_ite, mul_one, mul_zero]
  rw [← Finset.sum_filter]
  refine Finset.sum_congr (Finset.ext fun m => ?_) fun _ _ => rfl
  simp only [Finset.mem_filter, Finset.mem_range]; omega

theorem sum_block (b n : ℕ) (f : ℕ → ℝ) : (∑ s ∈ range (b + n), f s) = (∑ s ∈ range b, f s) + ∑ c ∈ range n, f (b + c) :=
  Finset.sum_range_add f b n

/-- A window of 256 rows. -/
theorem window_at {α : Type} (x : S4096x128.Idx → α) (b : ℕ) {o : Fin 2 → ℕ} (ho : o = ![256 * b, 0]) (h : ∀ a, o a + S256x128.size a ≤ S4096x128.size a) (c : Fin 256) (l : Fin 128)
    (hs : 256 * b + c.val < 4096) : window x o S256x128.size h (ix2 c l) = x (ix2 ⟨256 * b + c.val, hs⟩ l) := by
  subst ho
  unfold window
  refine congrArg x (funext fun a => Fin.ext ?_)
  fin_cases a
  · show 256 * b + 1 * c.val = _; rw [one_mul]; rfl
  · show 0 + 1 * l.val = _; rw [one_mul, zero_add]; rfl

/-- 256 rows written over. -/
theorem put_at {α : Type} (x : S4096x128.Idx → α) (b : ℕ) {o : Fin 2 → ℕ} (ho : o = ![256 * b, 0]) (w : S256x128.Idx → α) (s : Fin 4096) (l : Fin 128) :
    put x o S256x128.size w (ix2 s l) = if h : 256 * b ≤ s.val ∧ s.val < 256 * b + 256 then w (ix2 ⟨s.val - 256 * b, by omega⟩ l) else x (ix2 s l) := by
  subst ho
  unfold put
  by_cases h : 256 * b ≤ s.val ∧ s.val < 256 * b + 256
  · rw [dif_pos h, dif_pos ?_]
    · refine congrArg w (funext fun a => Fin.ext ?_)
      fin_cases a
      · show _ = s.val - 256 * b; rfl
      · show _ = l.val; rfl
    · intro a
      fin_cases a
      · exact h
      · exact ⟨Nat.zero_le _, by show l.val < 0 + 128; omega⟩
  · rw [dif_neg h, dif_neg ?_]
    intro h'
    exact h (h' 0)

/-- The logistic function as the kernel takes it. -/
def sg (z : ℝ) : ℝ := 1 / 2 + 1 / 2 * Real.tanh (1 / 2 * z)

section

variable (n0 : ℕ) (Q D K V W dk0 dv0 : ℕ → ℕ → ℝ)

/-- The cotangent of a weight times the weight. -/
def G (r s : ℕ) : ℝ := W r s * ∑ l ∈ range 128, D r l * V s l

/-- The gradient of a score; `n0` is the tile's first row. -/
def DZ (r s : ℕ) : ℝ :=
  if s < n0 + r % 512 then G D V W r s - sg (∑ l ∈ range 128, Q r l * K s l) * (G D V W r s + ∑ s' ∈ range s, G D V W r s') else 0

/-- What the walk holds after `b` blocks. -/
structure Inv (b : ℕ) (st : St Ideal) : Prop where
  dq : ∀ (r : Fin 1024) (l : Fin 128), st.dq (ix2 r l) = ((∑ s ∈ range (256 * b), DZ n0 Q D K V W r.val s * K s l.val : ℝ) : EReal)
  cg : ∀ r : Fin 1024, st.cg (ix2 r 0) = ((∑ s ∈ range (256 * b), G D V W r.val s : ℝ) : EReal)
  dk : ∀ (s : Fin 4096) (l : Fin 128), st.dk (ix2 s l)
    = ((dk0 s.val l.val + (if s.val < 256 * b then ∑ r ∈ range 1024, DZ n0 Q D K V W r s.val * Q r l.val else 0) : ℝ) : EReal)
  dv : ∀ (s : Fin 4096) (l : Fin 128), st.dv (ix2 s l)
    = ((dv0 s.val l.val + (if s.val < 256 * b then ∑ r ∈ range 1024, W r s.val * D r l.val else 0) : ℝ) : EReal)

variable {n0 Q D K V W dk0 dv0}
variable {q d : FVec Ideal S1024x128 .bf16} {tri : FVec Ideal S256x256 .bf16} {w : Vec Ideal S1x1x1x1024x256 .bf16} {k v : Vec Ideal S256x128 .f32}
variable (hq : ∀ (r : Fin 1024) (l : Fin 128), q (ix2 r l) = ((Q r.val l.val : ℝ) : EReal))
variable (hd : ∀ (r : Fin 1024) (l : Fin 128), d (ix2 r l) = ((D r.val l.val : ℝ) : EReal))
variable (ht : ∀ m c : Fin 256, tri (ix2 m c) = if m.val < c.val then 1 else 0)
variable {b : ℕ}
variable (hw : ∀ (r : Fin 1024) (c : Fin 256), w (ix5 0 0 0 r c) = ((W r.val (256 * b + c.val) : ℝ) : EReal))
variable (hk : ∀ (c : Fin 256) (l : Fin 128), k (ix2 c l) = ((K (256 * b + c.val) l.val : ℝ) : EReal))
variable (hv : ∀ (c : Fin 256) (l : Fin 128), v (ix2 c l) = ((V (256 * b + c.val) l.val : ℝ) : EReal))

include hd hw hv in
theorem g_eq (r : Fin 1024) (c : Fin 256) : k0_pay6 (F := Ideal) d w v (ix2 r c) = ((G D V W r.val (256 * b + c.val) : ℝ) : EReal) := by
  rw [Pay.p6, hw]
  simp only [hd, hv, ← EReal.coe_mul]
  rw [fin_sum 128 (fun l => D r.val l * V (256 * b + c.val) l), ← EReal.coe_mul]
  rfl

theorem cH_eq : Pay.cH = ((1 / 2 : ℝ) : EReal) := by
  unfold Pay.cH
  simp [Ideal.ofBits, Ideal.ieee, -EReal.coe_mul]; norm_num

theorem cE_eq : Pay.cE = ((1 / 8 : ℝ) : EReal) := by
  unfold Pay.cE
  simp [Ideal.ofBits, Ideal.ieee, -EReal.coe_mul]; norm_num

theorem back_coe (z g p : ℝ) : Pay.back (z : EReal) (g : EReal) (p : EReal) = ((g - sg z * (g + p) : ℝ) : EReal) := by
  unfold Pay.back sg
  rw [cH_eq]
  simp only [← EReal.coe_mul, Ideal.tanh_coe, ← EReal.coe_add, ← EReal.coe_sub]

/-- The carried sum with the block's own, before a column. -/
theorem prior_eq (g : ℕ → ℝ) (cgr : EReal) (hc : cgr = ((∑ s ∈ range (256 * b), g s : ℝ) : EReal)) (A : Fin 256 → EReal) (hA : ∀ m : Fin 256, A m = ((g (256 * b + m.val) : ℝ) : EReal)) (T : Fin 256 → EReal) (c : Fin 256)
    (hT : ∀ m : Fin 256, T m = if m.val < c.val then 1 else 0) :
    (∑ m : Fin 256, A m * T m) + (∑ m : Fin 256, (A m - A m) * T m) + cgr = ((∑ s ∈ range (256 * b + c.val), g s : ℝ) : EReal) := by
  have e1 : ∀ m : Fin 256, T m = (((if m.val < c.val then 1 else 0 : ℝ)) : EReal) := by
    intro m; rw [hT]; split_ifs <;> simp
  simp only [e1, hA, hc, ← EReal.coe_sub, ← EReal.coe_mul, sub_self, zero_mul]
  rw [fin_sum 256 (fun m => g (256 * b + m) * (if m < c.val then 1 else 0)), fin_sum 256 (fun _ => 0), sum_below 256 c.val (by omega) (fun m => g (256 * b + m)), ← EReal.coe_add, ← EReal.coe_add]
  congr 1
  rw [sum_block, Finset.sum_const_zero]; ring

include hq hd ht hw hk hv in
theorem z_eq (st : St Ideal) (hi : Inv n0 Q D K V W dk0 dv0 b st) (r : Fin 1024) (c : Fin 256) :
    k0_pay7 (F := Ideal) q d tri st.cg w k v (ix2 r c)
      = ((G D V W r.val (256 * b + c.val) - sg (∑ l ∈ range 128, Q r.val l * K (256 * b + c.val) l) * (G D V W r.val (256 * b + c.val) + ∑ s' ∈ range (256 * b + c.val), G D V W r.val s') : ℝ) : EReal) := by
  rw [Pay.p7, prior_eq (G D V W r.val) _ (hi.cg r) (fun m => k0_pay6 (F := Ideal) d w v (ix2 r m)) (fun m => g_eq hd hw hv r m) (fun m => tri (ix2 m c)) c (fun m => ht m c),
    g_eq hd hw hv r c]
  simp only [hq, hk, ← EReal.coe_mul]
  rw [fin_sum 128 (fun l => Q r.val l * K (256 * b + c.val) l), back_coe]

/-- The rows of a block, once more after it. -/
theorem acc_step (X : S4096x128.Idx → EReal) (y : ℕ → ℕ → ℝ) (f : ℕ → ℕ → ℝ) {o : Fin 2 → ℕ} (ho : o = ![256 * b, 0]) (h : ∀ a, o a + S256x128.size a ≤ S4096x128.size a) (hb : b < 16)
    (hX : ∀ (s : Fin 4096) (l : Fin 128), X (ix2 s l) = ((y s.val l.val + (if s.val < 256 * b then f s.val l.val else 0) : ℝ) : EReal))
    (w : S256x128.Idx → EReal) (hw : ∀ (c : Fin 256) (l : Fin 128), w (ix2 c l) = window X o S256x128.size h (ix2 c l) + ((f (256 * b + c.val) l.val : ℝ) : EReal)) (s : Fin 4096) (l : Fin 128) :
    put X o S256x128.size w (ix2 s l) = ((y s.val l.val + (if s.val < 256 * (b + 1) then f s.val l.val else 0) : ℝ) : EReal) := by
  rw [put_at X b ho]
  by_cases h1 : 256 * b ≤ s.val ∧ s.val < 256 * b + 256
  · rw [dif_pos h1, hw, window_at X b ho h _ _ (by have := s.isLt; simp only []; omega), hX, ← EReal.coe_add]
    have e : 256 * b + (s.val - 256 * b) = s.val := by omega
    simp only [e]
    rw [if_neg (by omega), if_pos (by omega), add_zero]
  · rw [dif_neg h1, hX]
    congr 2
    exact if_congr (by omega) rfl rfl

include hq hd ht hw hk hv in
/-- One block wholly before the tile. -/
theorem step_inv (st : St Ideal) (hi : Inv n0 Q D K V W dk0 dv0 b st) (hn : 256 * (b + 1) ≤ n0) (hb : b < 16) {o : Fin 2 → ℕ} (ho : o = ![256 * b, 0]) (h : ∀ a, o a + S256x128.size a ≤ S4096x128.size a) :
    Inv n0 Q D K V W dk0 dv0 (b + 1) (step q d tri w k v o h st) := by
  have hz : ∀ (r : Fin 1024) (c : Fin 256), k0_pay7 (F := Ideal) q d tri st.cg w k v (ix2 r c) = ((DZ n0 Q D K V W r.val (256 * b + c.val) : ℝ) : EReal) := by
    intro r c
    rw [z_eq hq hd ht hw hk hv st hi]
    unfold DZ
    rw [if_pos (by have := c.isLt; omega)]
  constructor
  · intro r l
    show k0_pay8 (F := Ideal) q d tri st.dq st.cg w k v (ix2 r l) = _
    rw [Pay.p8, hi.dq]
    simp only [hz, hk, ← EReal.coe_mul]
    rw [fin_sum 256 (fun c => DZ n0 Q D K V W r.val (256 * b + c) * K (256 * b + c) l.val), ← EReal.coe_add, mul_add, mul_one, sum_block]
  · intro r
    show k0_pay11 (F := Ideal) st.cg (k0_pay6 d w v) (ix2 r 0) = _
    rw [Pay.p11, hi.cg]
    simp only [g_eq hd hw hv]
    rw [fin_sum 256 (fun c => G D V W r.val (256 * b + c)), ← EReal.coe_add, mul_add, mul_one, sum_block]
  · refine acc_step st.dk dk0 (fun s l => ∑ r ∈ range 1024, DZ n0 Q D K V W r s * Q r l) ho h hb hi.dk _ fun c l => ?_
    rw [Pay.p9]
    simp only [hz, hq, ← EReal.coe_mul]
    rw [fin_sum 1024 (fun r => DZ n0 Q D K V W r (256 * b + c.val) * Q r l.val)]
  · refine acc_step st.dv dv0 (fun s l => ∑ r ∈ range 1024, W r s * D r l) ho h hb hi.dv _ fun c l => ?_
    rw [Pay.p10]
    simp only [hw, hd, ← EReal.coe_mul]
    rw [fin_sum 1024 (fun r => W r (256 * b + c.val) * D r l.val)]

include hq hd ht hw hk hv in
/-- The tile's first diagonal block. -/
theorem diag0_inv (st : St Ideal) (hi : Inv n0 Q D K V W dk0 dv0 b st) (hn : n0 = 256 * b) (hb : b < 16) {o : Fin 2 → ℕ} (ho : o = ![256 * b, 0]) (h : ∀ a, o a + S256x128.size a ≤ S4096x128.size a) :
    Inv n0 Q D K V W dk0 dv0 (b + 1) (diag0 q d tri w k v o h st) := by
  have hz : ∀ (r : Fin 1024) (c : Fin 256), k0_pay109 (F := Ideal) q d tri (iota .tc S512x256 32 [0] iota_S512x256_d0_w32) (iota .tc S512x256 32 [1] iota_S512x256_d1_w32) st.cg w k v (ix2 r c)
      = ((DZ n0 Q D K V W r.val (256 * b + c.val) : ℝ) : EReal) := by
    intro r c
    rw [Pay.p109, z_eq hq hd ht hw hk hv st hi]
    unfold DZ
    by_cases hc : c.val < r.val % 512
    · rw [if_pos hc, if_pos (by omega)]
    · rw [if_neg hc, if_neg (by omega)]; rfl
  unfold diag0
  dsimp only
  generalize k0_pay109 (F := Ideal) q d tri (iota .tc S512x256 32 [0] iota_S512x256_d0_w32) (iota .tc S512x256 32 [1] iota_S512x256_d1_w32) st.cg w k v = A at hz ⊢
  constructor
  · intro r l
    show k0_pay111 (F := Ideal) st.dq (k0_pay107 k) A (ix2 r l) = _
    rw [Pay.p111, hi.dq]
    simp only [hz, hk, ← EReal.coe_mul]
    rw [fin_sum 256 (fun c => DZ n0 Q D K V W r.val (256 * b + c) * K (256 * b + c) l.val), ← EReal.coe_add, mul_add, mul_one, sum_block]
  · intro r
    show k0_pay11 (F := Ideal) st.cg (k0_pay6 d w v) (ix2 r 0) = _
    rw [Pay.p11, hi.cg]
    simp only [g_eq hd hw hv]
    rw [fin_sum 256 (fun c => G D V W r.val (256 * b + c)), ← EReal.coe_add, mul_add, mul_one, sum_block]
  · refine acc_step st.dk dk0 (fun s l => ∑ r ∈ range 1024, DZ n0 Q D K V W r s * Q r l) ho h hb hi.dk _ fun c l => ?_
    show k0_pay9 (F := Ideal) q (k0_pay110 A) _ (ix2 c l) = _
    rw [Pay.p9]
    have hz' : ∀ (r : Fin 1024) (c : Fin 256), k0_pay110 (F := Ideal) A (ix2 r c) = ((DZ n0 Q D K V W r.val (256 * b + c.val) : ℝ) : EReal) := hz
    simp only [hz', hq, ← EReal.coe_mul]
    rw [fin_sum 1024 (fun r => DZ n0 Q D K V W r (256 * b + c.val) * Q r l.val)]
  · refine acc_step st.dv dv0 (fun s l => ∑ r ∈ range 1024, W r s * D r l) ho h hb hi.dv _ fun c l => ?_
    show k0_pay10 (F := Ideal) d (k0_pay4 w) _ (ix2 c l) = _
    rw [Pay.p10]
    simp only [hw, hd, ← EReal.coe_mul]
    rw [fin_sum 1024 (fun r => W r (256 * b + c.val) * D r l.val)]

/-- A sum over all rows that has nothing in the upper halves. -/
theorem sum_low (f : ℕ → ℝ) (hf : ∀ r, r % 512 < 256 → f r = 0) : (∑ r ∈ range 1024, f r) = ∑ u ∈ range 512, f (Pay.low u) := by
  rw [show (1024 : ℕ) = 256 + 256 + 256 + 256 from rfl, show (512 : ℕ) = 256 + 256 from rfl, sum_block (256 + 256 + 256), sum_block (256 + 256), sum_block 256, sum_block 256]
  have e1 : (∑ r ∈ range 256, f r) = 0 := Finset.sum_eq_zero fun r hr => hf r (by have := Finset.mem_range.1 hr; omega)
  have e2 : (∑ r ∈ range 256, f (256 + 256 + r)) = 0 := Finset.sum_eq_zero fun r hr => hf _ (by have := Finset.mem_range.1 hr; omega)
  rw [e1, e2, zero_add, add_zero]
  refine congrArg₂ (· + ·) (Finset.sum_congr rfl fun u hu => ?_) (Finset.sum_congr rfl fun u hu => ?_)
  · have := Finset.mem_range.1 hu
    rw [Pay.low, if_pos this]
  · rw [Pay.low, if_neg (by omega)]
    congr 1; omega

include hq hd ht hw hk hv in
/-- The tile's second diagonal block: its upper rows have nothing. -/
theorem diag1_inv (hW : ∀ r s, n0 + r % 512 ≤ s → W r s = 0) (st : St Ideal) (hi : Inv n0 Q D K V W dk0 dv0 b st) (hn : n0 + 256 = 256 * b) (hb : b < 16) {o : Fin 2 → ℕ} (ho : o = ![256 * b, 0]) (h : ∀ a, o a + S256x128.size a ≤ S4096x128.size a) :
    (∀ (r : Fin 1024) (l : Fin 128), (diag1 q d tri w k v o h st).dq (ix2 r l) = ((∑ s ∈ range (256 * (b + 1)), DZ n0 Q D K V W r.val s * K s l.val : ℝ) : EReal))
    ∧ (∀ (s : Fin 4096) (l : Fin 128), (diag1 q d tri w k v o h st).dk (ix2 s l)
      = ((dk0 s.val l.val + (if s.val < 256 * (b + 1) then ∑ r ∈ range 1024, DZ n0 Q D K V W r s.val * Q r l.val else 0) : ℝ) : EReal))
    ∧ (∀ (s : Fin 4096) (l : Fin 128), (diag1 q d tri w k v o h st).dv (ix2 s l)
      = ((dv0 s.val l.val + (if s.val < 256 * (b + 1) then ∑ r ∈ range 1024, W r s.val * D r l.val else 0) : ℝ) : EReal)) := by
  have low_mod : ∀ u : Fin 512, Pay.low u.val % 512 = 256 + u.val % 256 := by
    intro u; unfold Pay.low; split_ifs <;> omega
  have hz : ∀ (u : Fin 512) (c : Fin 256), k0_pay120 (F := Ideal) tri st.cg (k0_pay115 (iota .tc S512x256 32 [0] iota_S512x256_d0_w32) (iota .tc S512x256 32 [1] iota_S512x256_d1_w32)) (k0_pay116 q) (k0_pay117 d) (k0_pay118 w) k v (ix2 u c)
      = ((DZ n0 Q D K V W (Pay.low u.val) (256 * b + c.val) : ℝ) : EReal) := by
    intro u c
    have hg : ∀ m : Fin 256, (k0_pay118 (F := Ideal) w (ix2 u m) * ∑ l : Fin 128, k0_pay117 (F := Ideal) d (ix2 u l) * v (ix2 m l)) = ((G D V W (Pay.low u.val) (256 * b + m.val) : ℝ) : EReal) := by
      intro m
      rw [Pay.p118, ← g_eq hd hw hv ⟨Pay.low u.val, Pay.low_lt u⟩ m, Pay.p6]
      refine congrArg _ (Finset.sum_congr rfl fun l _ => ?_)
      rw [show k0_pay117 (F := Ideal) d = k0_pay116 d from rfl, Pay.p116]
    rw [Pay.p120]
    simp only [hg]
    rw [prior_eq (G D V W (Pay.low u.val)) _ (hi.cg ⟨Pay.low u.val, Pay.low_lt u⟩) (fun m => ((G D V W (Pay.low u.val) (256 * b + m.val) : ℝ) : EReal)) (fun m => rfl) (fun m => tri (ix2 m c)) c (fun m => ht m c)]
    simp only [Pay.p116, hq, hk, ← EReal.coe_mul]
    rw [fin_sum 128 (fun l => Q (Pay.low u.val) l * K (256 * b + c.val) l), back_coe]
    unfold DZ
    rw [low_mod u]
    by_cases hc : c.val < u.val % 256
    · rw [if_pos hc, if_pos (by omega)]
    · rw [if_neg hc, if_neg (by omega)]; rfl
  unfold diag1
  dsimp only
  generalize hA : k0_pay115 (iota .tc S512x256 32 [0] iota_S512x256_d0_w32) (iota .tc S512x256 32 [1] iota_S512x256_d1_w32) = A at hz ⊢
  refine ⟨fun r l => ?_, ?_, ?_⟩
  · rw [Pay.p121, hi.dq, mul_add, mul_one, sum_block]
    by_cases hr : r.val % 512 < 256
    · rw [if_pos hr]
      congr 1
      rw [Finset.sum_eq_zero (s := range 256), add_zero]
      intro c _
      unfold DZ
      rw [if_neg (by omega), zero_mul]
    · rw [if_neg hr]
      simp only [hz, hk, ← EReal.coe_mul]
      have hl : Pay.low (256 * (r.val / 512) + (r.val % 512 - 256)) = r.val := by
        have := r.isLt
        unfold Pay.low; split_ifs <;> omega
      rw [hl, fin_sum 256 (fun c => DZ n0 Q D K V W r.val (256 * b + c) * K (256 * b + c) l.val), ← EReal.coe_add]
  · refine acc_step st.dk dk0 (fun s l => ∑ r ∈ range 1024, DZ n0 Q D K V W r s * Q r l) ho h hb hi.dk _ fun c l => ?_
    rw [Pay.p123]
    simp only [hz, Pay.p116, hq, ← EReal.coe_mul]
    rw [fin_sum 512 (fun u => DZ n0 Q D K V W (Pay.low u) (256 * b + c.val) * Q (Pay.low u) l.val), sum_low (fun r => DZ n0 Q D K V W r (256 * b + c.val) * Q r l.val)]
    intro r hr
    unfold DZ
    rw [if_neg (by omega), zero_mul]
  · refine acc_step st.dv dv0 (fun s l => ∑ r ∈ range 1024, W r s * D r l) ho h hb hi.dv _ fun c l => ?_
    rw [Pay.p2, show k0_pay117 (F := Ideal) d = k0_pay116 d from rfl]
    simp only [Pay.p116, Pay.p118, hw, hd, ← EReal.coe_mul]
    rw [fin_sum 512 (fun u => W (Pay.low u) (256 * b + c.val) * D (Pay.low u) l.val), sum_low (fun r => W r (256 * b + c.val) * D r l.val)]
    intro r hr
    rw [hW _ _ (by omega), zero_mul]

end

end Cert.SbBwdIdeal.Walk

end
-- ==== Proof.SbBwd.Tile.lean ====
/- What a query tile leaves: the blocks before it, then its two diagonal ones. -/
module

public import proofs.«01_k».proof.Proof.SbBwd.Walk

@[expose] public section

set_option maxRecDepth 16384

noncomputable section

namespace Cert.SbBwdIdeal.Walk

open Idealize.ShloMosaic Idealize.ShloMosaic.TcCoe Idealize.SL.Sem
open Cert.SbBwdIdeal Cert.SbBwdIdeal.Gen Cert.SbBwdIdeal.Body Cert.Shared
open Idealize.ShloMosaic.VecWindow (window put)
open Finset (range)

section Offsets

variable (i : grid0.Coords)

theorem trips1 : (k0_t1_loop i).trips = (i 1).val / 2 := by
  unfold k0_t1_loop
  generalize i 1 = j
  revert j
  decide +kernel

theorem cond2_iff : k0_cond2 i = 1#1 ↔ (i 1).val % 2 = 1 := by
  unfold k0_cond2
  generalize i 1 = j
  revert j
  decide +kernel

theorem trip_lt (k : Fin (k0_t1_loop i).trips) : 2 * k.val + 2 ≤ (i 1).val := by
  have := trips1 i
  have := k.isLt
  omega

theorem qi_lt : (i 1).val < 8 := (i 1).isLt

theorem block_word : ∀ (k : Fin 4) (j : Fin 4), (Scalar.indexCast (Scalar.addi (Scalar.muli 4#32 (Scf.iv 0#32 1#32 k)) (BitVec.ofNat 32 j.val)) : Index).toNat = 4 * k.val + j.val := by
  decide +kernel

theorem row_word : ∀ (k : Fin 4) (j : Fin 4), (Scalar.indexCast (Scalar.muli (Scalar.addi (Scalar.muli 4#32 (Scf.iv 0#32 1#32 k)) (BitVec.ofNat 32 j.val)) 256#32) : Index).toNat = 256 * (4 * k.val + j.val) := by
  decide +kernel

theorem off1_eq (k : Fin (k0_t1_loop i).trips) (j : Fin 4) : k0_off1 i k (BitVec.ofNat 32 j.val) = ![0, 0, 4 * k.val + j.val, 0, 0] := by
  have h4 : k.val < 4 := by have := trip_lt i k; have := qi_lt i; omega
  have := block_word ⟨k.val, h4⟩ j
  rw [← this]; rfl

theorem off2_eq (k : Fin (k0_t1_loop i).trips) (j : Fin 4) : k0_off2 i k (BitVec.ofNat 32 j.val) = ![256 * (4 * k.val + j.val), 0] := by
  have h4 : k.val < 4 := by have := trip_lt i k; have := qi_lt i; omega
  have := row_word ⟨k.val, h4⟩ j
  rw [← this]; rfl

theorem off5_eq (h : k0_cond2 i = 1#1) (j : Fin 2) : k0_off5 i (BitVec.ofNat 32 j.val) = ![0, 0, 2 * (i 1).val - 2 + j.val, 0, 0] := by
  rw [cond2_iff] at h
  unfold k0_off5
  generalize i 1 = q at h ⊢
  revert q j
  decide +kernel

theorem off6_eq (h : k0_cond2 i = 1#1) (j : Fin 2) : k0_off6 i (BitVec.ofNat 32 j.val) = ![256 * (2 * (i 1).val - 2 + j.val), 0] := by
  rw [cond2_iff] at h
  unfold k0_off6
  generalize i 1 = q at h ⊢
  revert q j
  decide +kernel

theorem off7_eq (j : Fin 2) : k0_off7 i (BitVec.ofNat 32 j.val) = ![0, 0, 2 * (i 1).val + j.val, 0, 0] := by
  unfold k0_off7
  generalize i 1 = q
  revert q j
  decide +kernel

theorem off8_eq (j : Fin 2) : k0_off8 i (BitVec.ofNat 32 j.val) = ![256 * (2 * (i 1).val + j.val), 0] := by
  unfold k0_off8
  generalize i 1 = q
  revert q j
  decide +kernel

end Offsets

/-- A block of the kept weights. -/
theorem window5_at {α : Type} (x : S1x1x16x1024x256.Idx → α) (b : ℕ) {o : Fin 5 → ℕ} (ho : o = ![0, 0, b, 0, 0]) (h : ∀ a, o a + S1x1x1x1024x256.size a ≤ S1x1x16x1024x256.size a) (r : Fin 1024) (c : Fin 256)
    (hb : b < 16) : window x o S1x1x1x1024x256.size h (ix5 0 0 0 r c) = x (ix5 0 0 ⟨b, hb⟩ r c) := by
  subst ho
  unfold window
  refine congrArg x (funext fun a => Fin.ext ?_)
  fin_cases a
  · rfl
  · rfl
  · show b + 1 * 0 = b; rfl
  · show 0 + 1 * r.val = r.val; omega
  · show 0 + 1 * c.val = c.val; omega

section

variable {i : grid0.Coords} {n0 : ℕ} {Q D K V W dk0 dv0 : ℕ → ℕ → ℝ}
variable {q d : FVec Ideal S1024x128 .bf16} {tri : FVec Ideal S256x256 .bf16}
variable {x3 x4 : Vec Ideal S4096x128 .f32} {x5 : Vec Ideal S1x1x16x1024x256 .bf16} {dk dv : Vec Ideal S4096x128 .f32}
variable (hq : ∀ (r : Fin 1024) (l : Fin 128), q (ix2 r l) = ((Q r.val l.val : ℝ) : EReal))
variable (hd : ∀ (r : Fin 1024) (l : Fin 128), d (ix2 r l) = ((D r.val l.val : ℝ) : EReal))
variable (ht : ∀ m c : Fin 256, tri (ix2 m c) = if m.val < c.val then 1 else 0)
variable (h3 : ∀ (s : Fin 4096) (l : Fin 128), x3 (ix2 s l) = ((K s.val l.val : ℝ) : EReal))
variable (h4 : ∀ (s : Fin 4096) (l : Fin 128), x4 (ix2 s l) = ((V s.val l.val : ℝ) : EReal))
variable (h5 : ∀ (b : Fin 16) (r : Fin 1024) (c : Fin 256), x5 (ix5 0 0 b r c) = ((W r.val (256 * b.val + c.val) : ℝ) : EReal))
variable (hn : n0 = 512 * (i 1).val)

include hq hd ht h3 h4 h5 hn

theorem stepL_inv (k : Fin (k0_t1_loop i).trips) (j : Fin 4) (st : St Ideal) (hi : Inv n0 Q D K V W dk0 dv0 (4 * k.val + j.val) st) :
    Inv n0 Q D K V W dk0 dv0 (4 * k.val + j.val + 1) (stepL i x3 x4 x5 q d tri k j st) := by
  have hk := trip_lt i k
  have hq8 := qi_lt i
  have hj := j.isLt
  refine step_inv hq hd ht (fun r c => ?_) (fun c l => ?_) (fun c l => ?_) st hi (by omega) (by omega) (off2_eq i k j) _
  · rw [window5_at x5 _ (off1_eq i k j) _ r c (by omega), h5]
  · rw [window_at x3 _ (off2_eq i k j) _ c l (by omega), h3]
  · rw [window_at x4 _ (off2_eq i k j) _ c l (by omega), h4]

theorem walk_inv (st : St Ideal) (hi : Inv n0 Q D K V W dk0 dv0 0 st) (n : ℕ) (hle : n ≤ (k0_t1_loop i).trips) :
    Inv n0 Q D K V W dk0 dv0 (4 * n) (walk i x3 x4 x5 q d tri st n) := by
  induction n with
  | zero => exact hi
  | succ n ih =>
    have h := walk_succ i x3 x4 x5 q d tri st ⟨n, hle⟩
    simp only at h
    rw [h]
    have s0 := stepL_inv hq hd ht h3 h4 h5 hn ⟨n, hle⟩ 0 _ (ih (by omega))
    have s1 := stepL_inv hq hd ht h3 h4 h5 hn ⟨n, hle⟩ 1 _ s0
    have s2 := stepL_inv hq hd ht h3 h4 h5 hn ⟨n, hle⟩ 2 _ s1
    exact stepL_inv hq hd ht h3 h4 h5 hn ⟨n, hle⟩ 3 _ s2

theorem stepO_inv (h : k0_cond2 i = 1#1) (j : Fin 2) (st : St Ideal) (hi : Inv n0 Q D K V W dk0 dv0 (2 * (i 1).val - 2 + j.val) st) :
    Inv n0 Q D K V W dk0 dv0 (2 * (i 1).val - 2 + j.val + 1) (stepO i x3 x4 x5 q d tri h j st) := by
  have hodd := (cond2_iff i).mp h
  have hq8 := qi_lt i
  have hj := j.isLt
  refine step_inv hq hd ht (fun r c => ?_) (fun c l => ?_) (fun c l => ?_) st hi (by omega) (by omega) (off6_eq i h j) _
  · rw [window5_at x5 _ (off5_eq i h j) _ r c (by omega), h5]
  · rw [window_at x3 _ (off6_eq i h j) _ c l (by omega), h3]
  · rw [window_at x4 _ (off6_eq i h j) _ c l (by omega), h4]

/-- Before the diagonal all blocks before the tile are done. -/
theorem odd_inv (st : St Ideal) (hi : Inv n0 Q D K V W dk0 dv0 0 st) :
    Inv n0 Q D K V W dk0 dv0 (2 * (i 1).val) (odd i x3 x4 x5 q d tri (walk i x3 x4 x5 q d tri st (k0_t1_loop i).trips)) := by
  have hw := walk_inv hq hd ht h3 h4 h5 hn st hi _ le_rfl
  have ht1 := trips1 i
  unfold odd
  by_cases h : k0_cond2 i = 1#1
  · rw [dif_pos h]
    have hodd := (cond2_iff i).mp h
    rw [show 4 * (k0_t1_loop i).trips = 2 * (i 1).val - 2 + (0 : Fin 2).val by show _ = _ + 0; omega] at hw
    have s0 := stepO_inv hq hd ht h3 h4 h5 hn h 0 _ hw
    have s1 := stepO_inv hq hd ht h3 h4 h5 hn h 1 _ s0
    have e : 2 * (i 1).val = 2 * (i 1).val - 2 + (1 : Fin 2).val + 1 := by show _ = _ + 1 + 1; omega
    rw [e]; exact s1
  · rw [dif_neg h]
    have hodd := (cond2_iff i).not.mp h
    rw [show 4 * (k0_t1_loop i).trips = 2 * (i 1).val by omega] at hw
    exact hw

theorem diag_res (hW : ∀ r s, n0 + r % 512 ≤ s → W r s = 0) (st : St Ideal) (hi : Inv n0 Q D K V W dk0 dv0 (2 * (i 1).val) st) :
    (∀ (r : Fin 1024) (l : Fin 128), (diag i x3 x4 x5 q d tri st).dq (ix2 r l) = ((∑ s ∈ range 4096, DZ n0 Q D K V W r.val s * K s l.val : ℝ) : EReal))
    ∧ (∀ (s : Fin 4096) (l : Fin 128), (diag i x3 x4 x5 q d tri st).dk (ix2 s l) = ((dk0 s.val l.val + ∑ r ∈ range 1024, DZ n0 Q D K V W r s.val * Q r l.val : ℝ) : EReal))
    ∧ (∀ (s : Fin 4096) (l : Fin 128), (diag i x3 x4 x5 q d tri st).dv (ix2 s l) = ((dv0 s.val l.val + ∑ r ∈ range 1024, W r s.val * D r l.val : ℝ) : EReal)) := by
  have hq8 := qi_lt i
  have s0 := diag0_inv (b := 2 * (i 1).val) hq hd ht (w := window x5 (k0_off7 i (BitVec.ofNat 32 0)) S1x1x1x1024x256.size (k0_off7_inb i 0)) (k := window x3 (k0_off8 i (BitVec.ofNat 32 0)) S256x128.size (k0_off8_inb i 0))
    (v := window x4 (k0_off8 i (BitVec.ofNat 32 0)) S256x128.size (k0_off8_inb i 0))
    (fun r c => (window5_at x5 (2 * (i 1).val + 0) (off7_eq i 0) _ r c (by omega)).trans (h5 ⟨2 * (i 1).val + 0, by omega⟩ r c))
    (fun c l => (window_at x3 (2 * (i 1).val + 0) (off8_eq i 0) _ c l (by omega)).trans (h3 ⟨256 * (2 * (i 1).val + 0) + c.val, by omega⟩ l))
    (fun c l => (window_at x4 (2 * (i 1).val + 0) (off8_eq i 0) _ c l (by omega)).trans (h4 ⟨256 * (2 * (i 1).val + 0) + c.val, by omega⟩ l))
    st hi (by omega) (by omega) (off8_eq i 0) (k0_off8_inb i 0)
  have s1 := diag1_inv (b := 2 * (i 1).val + 1) hq hd ht (w := window x5 (k0_off7 i (BitVec.ofNat 32 1)) S1x1x1x1024x256.size (k0_off7_inb i 1)) (k := window x3 (k0_off8 i (BitVec.ofNat 32 1)) S256x128.size (k0_off8_inb i 1))
    (v := window x4 (k0_off8 i (BitVec.ofNat 32 1)) S256x128.size (k0_off8_inb i 1))
    (fun r c => (window5_at x5 (2 * (i 1).val + 1) (off7_eq i 1) _ r c (by omega)).trans (h5 ⟨2 * (i 1).val + 1, by omega⟩ r c))
    (fun c l => (window_at x3 (2 * (i 1).val + 1) (off8_eq i 1) _ c l (by omega)).trans (h3 ⟨256 * (2 * (i 1).val + 1) + c.val, by omega⟩ l))
    (fun c l => (window_at x4 (2 * (i 1).val + 1) (off8_eq i 1) _ c l (by omega)).trans (h4 ⟨256 * (2 * (i 1).val + 1) + c.val, by omega⟩ l))
    hW _ s0 (by omega) (by omega) (off8_eq i 1) (k0_off8_inb i 1)
  obtain ⟨a, e, f⟩ := s1
  refine ⟨fun r l => (a r l).trans ?_, fun s l => (e s l).trans ?_, fun s l => (f s l).trans ?_⟩
  · congr 1
    refine Finset.sum_subset (Finset.range_subset_range.2 (by omega)) fun s _ hs => ?_
    rw [Finset.mem_range] at hs
    unfold DZ
    rw [if_neg (by omega), zero_mul]
  · congr 2
    split_ifs with h
    · rfl
    · refine (Finset.sum_eq_zero fun r _ => ?_).symm
      unfold DZ
      rw [if_neg (by omega), zero_mul]
  · congr 2
    split_ifs with h
    · rfl
    · refine (Finset.sum_eq_zero fun r _ => ?_).symm
      rw [hW _ _ (by omega), zero_mul]

end

/-- A tile's rows, the two heads over each other: the first on the lower lanes, the second on the upper. -/
def stack (x : ℕ → ℕ → ℝ) (r l : ℕ) : ℝ := if (r < 512 ↔ l < 64) then x (r % 512) l else 0

/-- What the tile leaves. -/
theorem tile_res {i : grid0.Coords} {q o K V W dk0 dv0 : ℕ → ℕ → ℝ} {x2 x6 : Vec Ideal S512x128 .f32} {x3 x4 : Vec Ideal S4096x128 .f32} {x5 : Vec Ideal S1x1x16x1024x256 .bf16} {dk dv : Vec Ideal S4096x128 .f32}
    (h2 : ∀ (a : Fin 512) (l : Fin 128), x2 (ix2 a l) = ((q a.val l.val : ℝ) : EReal)) (h6 : ∀ (a : Fin 512) (l : Fin 128), x6 (ix2 a l) = ((o a.val l.val : ℝ) : EReal))
    (h3 : ∀ (s : Fin 4096) (l : Fin 128), x3 (ix2 s l) = ((K s.val l.val : ℝ) : EReal)) (h4 : ∀ (s : Fin 4096) (l : Fin 128), x4 (ix2 s l) = ((V s.val l.val : ℝ) : EReal))
    (h5 : ∀ (b : Fin 16) (r : Fin 1024) (c : Fin 256), x5 (ix5 0 0 b r c) = ((W r.val (256 * b.val + c.val) : ℝ) : EReal))
    (hk : ∀ (s : Fin 4096) (l : Fin 128), dk (ix2 s l) = ((dk0 s.val l.val : ℝ) : EReal)) (hv : ∀ (s : Fin 4096) (l : Fin 128), dv (ix2 s l) = ((dv0 s.val l.val : ℝ) : EReal))
    (hW : ∀ r s, 512 * (i 1).val + r % 512 ≤ s → W r s = 0) :
    (∀ (r : Fin 1024) (l : Fin 128), (tile i x2 x3 x4 x5 x6 dk dv).dq (ix2 r l)
      = ((∑ s ∈ range 4096, DZ (512 * (i 1).val) (stack fun a l => q a l * (1 / 8)) (stack o) K V W r.val s * K s l.val : ℝ) : EReal))
    ∧ (∀ (s : Fin 4096) (l : Fin 128), (tile i x2 x3 x4 x5 x6 dk dv).dk (ix2 s l)
      = ((dk0 s.val l.val + ∑ r ∈ range 1024, DZ (512 * (i 1).val) (stack fun a l => q a l * (1 / 8)) (stack o) K V W r s.val * stack (fun a l => q a l * (1 / 8)) r l.val : ℝ) : EReal))
    ∧ (∀ (s : Fin 4096) (l : Fin 128), (tile i x2 x3 x4 x5 x6 dk dv).dv (ix2 s l) = ((dv0 s.val l.val + ∑ r ∈ range 1024, W r s.val * stack o r l.val : ℝ) : EReal)) := by
  have hq : ∀ (r : Fin 1024) (l : Fin 128), k0_pay85 (F := Ideal) x2 (ix2 r l) = ((stack (fun a l => q a l * (1 / 8)) r.val l.val : ℝ) : EReal) := by
    intro r l
    rw [Pay.p85, h2, cE_eq, ← EReal.coe_mul]
    unfold stack
    split_ifs <;> rfl
  have hd : ∀ (r : Fin 1024) (l : Fin 128), k0_pay86 (F := Ideal) x6 (ix2 r l) = ((stack o r.val l.val : ℝ) : EReal) := by
    intro r l
    rw [Pay.p86, h6]
    unfold stack
    split_ifs <;> rfl
  refine diag_res hq hd Pay.p87 h3 h4 h5 rfl hW _ (odd_inv hq hd Pay.p87 h3 h4 h5 rfl _ ⟨fun r l => ?_, fun r => ?_, fun s l => ?_, fun s l => ?_⟩)
  · simp only [mul_zero, Finset.sum_range_zero, EReal.coe_zero]
    exact Ideal.ofBits_zero_f32
  · simp only [mul_zero, Finset.sum_range_zero, EReal.coe_zero]
    exact Ideal.ofBits_zero_f32
  · rw [if_neg (by omega), add_zero]; exact hk s l
  · rw [if_neg (by omega), add_zero]; exact hv s l

end Cert.SbBwdIdeal.Walk

end
-- ==== Proof.SbBwd.Entry.lean ====
/- What the region finds: the projections side by side, and the weights kept block by block. -/
module

public import proofs.«01_k».proof.Proof.Gen.SbBwdIdeal.Frame
public import proofs.«01_k».proof.Proof.Gen.SbBwdRefIdeal.Read
public import Idealize.ShloMosaic.Lib.Claim

@[expose] public section

set_option maxRecDepth 16384

noncomputable section

namespace Cert.SbBwdIdeal.Entry

open Idealize.ShloMosaic Idealize.ShloMosaic.TcCoe Idealize.SL.Sem Idealize.ShloMosaic.StableHlo
open Cert.SbBwdIdeal Cert.SbBwdIdeal.Gen

variable {F : FTy → Type} [FloatOps F]

/-- The logarithm of the sigmoid, as the host writes it. -/
def lsig (z : FVec F S8x4096x4096 .f32) : FVec F S8x4096x4096 .f32 :=
  let o : FVec F S8x4096x4096 .f32 := broadcastInDim S8x4096x4096 ![] bcast_S_S8x4096x4096 (constant S_ .f32 0x00000000#32 : FVec F S_ .f32)
  let y : FVec F S8x4096x4096 .f32 := Host.negf z
  let d := subf y o
  Host.negf (select (cmpf .une d d) (addf y o) (addf (maximumf y o) (Host.log1p (Host.exp (Host.negf (Host.absf d))))))

/-- Zero outside the mask. -/
def masked (c : IVec S4096x4096 1) (z : FVec F S_ .f32) (x : FVec F S8x4096x4096 .f32) : FVec F S8x4096x4096 .f32 :=
  select (broadcastInDim S8x4096x4096 ![1, 2] bcast_S4096x4096_S8x4096x4096_1_2 c) x (broadcastInDim S8x4096x4096 ![] bcast_S_S8x4096x4096 z)

/-- The sums along the last axis from an index on. -/
def tails (x : FVec F S8x4096x4096 .f32) : FVec F S8x4096x4096 .f32 :=
  Host.reduceWindowAdd ![1, 1, 4096] ![1, 1, 1] ![0, 0, 0] ![0, 0, 4095] x (broadcastInDim S_ ![] bcast_S_S_ (constant S_ .f32 0x00000000#32 : FVec F S_ .f32)) reduceWindows_S8x4096x4096_S8x4096x4096_w1s1p0_0_w1s1p0_0_w4096s1p0_4095 h_S_

theorem after_app {Val : EltTy → Type} (l₁ l₂ : List (HloOp τ sig Val)) (U : Valuation τ sig Val) : after (l₁ ++ l₂) U = after l₂ (after l₁ U) := by
  induction l₁ generalizing U with
  | nil => rfl
  | cons op l ih => exact ih _

section

variable (U : Valuation τ sig (Elt F))

/-- A TensorCore buffer's contents. -/
abbrev at' (U : Valuation τ sig (Elt F)) (r : Ref sig .tc) := U (Proc.devRef .tc r)

theorem s0 : at' (after hostOps0 U) main_v7 = Cert.SbBwdRefIdeal.Read.val_main_v6 (F := F) (at' U main_arg0) (at' U main_arg1) := by
  unfold at'; after_results; rfl
theorem s0' : at' (after hostOps0 U) main_v13 = Cert.SbBwdRefIdeal.Read.val_main_v12 (F := F) := by
  unfold at'; after_results; rfl
theorem s0p : at' (after hostOps0 U) main_v0 = concatenate S4096x3584 1 [⟨S4096x512, (at' U main_arg0 : Vec F S4096x512 .f32)⟩, ⟨S4096x512, at' U main_arg1⟩, ⟨S4096x512, at' U main_arg2⟩, ⟨S4096x2048, at' U main_arg3⟩] concatenates_S4096x512_S4096x512_S4096x512_S4096x2048_S4096x3584_d1 := by
  unfold at'; after_results; rfl
theorem s1 : at' (after hostOps0_1 U) main_v14 = lsig (at' U main_v7) := by
  unfold at'; after_results; rfl
theorem s2 : at' (after hostOps0_2 U) main_v15 = Host.negf (F := F) (s := S8x4096x4096) (φ := .f32) (at' U main_v7) := by
  unfold at'; after_results
theorem s3 : at' (after hostOps0_3 U) main_v16 = lsig (at' U main_v15) := by
  unfold at'; after_results; rfl
theorem s4 : at' (after hostOps0_4 U) main_cst_0 = (constant S_ .f32 0x00000000#32 : FVec F S_ .f32) := by
  unfold at'; after_results
theorem s5 : at' (after hostOps0_5 U) main_v17 = masked (F := F) (at' U main_v13) (at' U main_cst_0) (at' U main_v16) := by
  unfold at'; after_results; rfl
theorem s6 : at' (after hostOps0_6 U) main_v18 = tails (F := F) (at' U main_v17) := by
  unfold at'; after_results; rfl
theorem s7 : at' (after hostOps0_7 U) main_v21 = Host.exp (F := F) (s := S8x4096x4096) (φ := .f32) (addf (at' U main_v14) (subf (at' U main_v18) (at' U main_v17))) := by
  unfold at'; after_results
theorem s7' : at' (after hostOps0_7 U) main_cst_1 = (constant S_ .f32 0x00000000#32 : FVec F S_ .f32) := by
  unfold at'; after_results
theorem s8 : at' (after hostOps0_8 U) main_v22 = masked (F := F) (at' U main_v13) (at' U main_cst_1) (at' U main_v21) := by
  unfold at'; after_results; rfl
theorem s9 : at' (after hostOps0_9 U) main_v26 = shapeCast S4x8x16x1024x256 (transpose S4x8x16x2x512x256 [0, 2, 4, 1, 3, 5] (shapeCast S4x2x8x512x16x256 (truncf .bf16 (at' U main_v22 : FVec F S8x4096x4096 .f32) bitsLt_bf16_f32) shapeCasts_S8x4096x4096_S4x2x8x512x16x256) transposes_S4x2x8x512x16x256_S4x8x16x2x512x256_0_2_4_1_3_5) shapeCasts_S4x8x16x2x512x256_S4x8x16x1024x256 := by
  unfold at'; after_results; rfl

theorem k1 : at' (after hostOps0_1 U) main_v7 = at' U main_v7 ∧ at' (after hostOps0_1 U) main_v13 = at' U main_v13 ∧ at' (after hostOps0_1 U) main_v0 = at' U main_v0 := by
  refine ⟨?_, ?_, ?_⟩ <;> (unfold at'; after_results)
theorem k2 : at' (after hostOps0_2 U) main_v14 = at' U main_v14 ∧ at' (after hostOps0_2 U) main_v13 = at' U main_v13 ∧ at' (after hostOps0_2 U) main_v0 = at' U main_v0 := by
  refine ⟨?_, ?_, ?_⟩ <;> (unfold at'; after_results)
theorem k3 : at' (after hostOps0_3 U) main_v14 = at' U main_v14 ∧ at' (after hostOps0_3 U) main_v13 = at' U main_v13 ∧ at' (after hostOps0_3 U) main_v0 = at' U main_v0 := by
  refine ⟨?_, ?_, ?_⟩ <;> (unfold at'; after_results)
theorem k4 : at' (after hostOps0_4 U) main_v14 = at' U main_v14 ∧ at' (after hostOps0_4 U) main_v13 = at' U main_v13 ∧ at' (after hostOps0_4 U) main_v16 = at' U main_v16 ∧ at' (after hostOps0_4 U) main_v0 = at' U main_v0 := by
  refine ⟨?_, ?_, ?_, ?_⟩ <;> (unfold at'; after_results)
theorem k5 : at' (after hostOps0_5 U) main_v14 = at' U main_v14 ∧ at' (after hostOps0_5 U) main_v13 = at' U main_v13 ∧ at' (after hostOps0_5 U) main_v0 = at' U main_v0 := by
  refine ⟨?_, ?_, ?_⟩ <;> (unfold at'; after_results)
theorem k6 : at' (after hostOps0_6 U) main_v14 = at' U main_v14 ∧ at' (after hostOps0_6 U) main_v13 = at' U main_v13 ∧ at' (after hostOps0_6 U) main_v17 = at' U main_v17 ∧ at' (after hostOps0_6 U) main_v0 = at' U main_v0 := by
  refine ⟨?_, ?_, ?_, ?_⟩ <;> (unfold at'; after_results)
theorem k7 : at' (after hostOps0_7 U) main_v13 = at' U main_v13 ∧ at' (after hostOps0_7 U) main_v0 = at' U main_v0 := by
  refine ⟨?_, ?_⟩ <;> (unfold at'; after_results)
theorem k8 : at' (after hostOps0_8 U) main_v0 = at' U main_v0 := by unfold at'; after_results
theorem k9 : at' (after hostOps0_9 U) main_v0 = at' U main_v0 := by unfold at'; after_results

theorem split_all : after (List.flatten [hostOps0, hostOps0_1, hostOps0_2, hostOps0_3, hostOps0_4, hostOps0_5, hostOps0_6, hostOps0_7, hostOps0_8, hostOps0_9]) U
    = after hostOps0_9 (after hostOps0_8 (after hostOps0_7 (after hostOps0_6 (after hostOps0_5 (after hostOps0_4 (after hostOps0_3 (after hostOps0_2 (after hostOps0_1 (after hostOps0 U))))))))) := by
  rw [List.flatten_cons, List.flatten_cons, List.flatten_cons, List.flatten_cons, List.flatten_cons, List.flatten_cons, List.flatten_cons, List.flatten_cons, List.flatten_cons, List.flatten_cons, List.flatten_nil, List.append_nil]
  rw [after_app, after_app, after_app, after_app, after_app, after_app, after_app, after_app, after_app]

/-- The host's weights. -/
theorem weights : at' (after hostOps0_8 (after hostOps0_7 (after hostOps0_6 (after hostOps0_5 (after hostOps0_4 (after hostOps0_3 (after hostOps0_2 (after hostOps0_1 (after hostOps0 U))))))))) main_v22
    = Cert.SbBwdRefIdeal.Read.val_main_v21_0 (F := F) (at' U main_arg0) (at' U main_arg1) := by
  rw [s8, s7, s7', (k7 _).1, s6, (k6 _).1, (k6 _).2.1, (k6 _).2.2.1, s5, (k5 _).1, (k5 _).2.1, s4, (k4 _).1, (k4 _).2.1, (k4 _).2.2.1, s3, (k3 _).1, (k3 _).2.1, s2, (k2 _).1, (k2 _).2.1, s1, (k1 _).1, (k1 _).2.1, s0, s0']
  rfl

end

section

variable (m : (ℓ : Loc nD τ sig) → Buf (Elt F) ℓ)

abbrev aQ (c : Dev nD) : FVec F S4096x512 .f32 := m ((c : Thread nD τ).loc main_arg0)
abbrev aK (c : Dev nD) : FVec F S4096x512 .f32 := m ((c : Thread nD τ).loc main_arg1)
abbrev aV (c : Dev nD) : FVec F S4096x512 .f32 := m ((c : Thread nD τ).loc main_arg2)
abbrev aR (c : Dev nD) : FVec F S4096x2048 .f32 := m ((c : Thread nD τ).loc main_arg3)
abbrev aO (c : Dev nD) : FVec F S4096x512 .f32 := m ((c : Thread nD τ).loc main_arg4)

/-- The weights, as the forward lines compute them on the host. -/
def hostW (c : Dev nD) : FVec F S8x4096x4096 .f32 := Cert.SbBwdRefIdeal.Read.val_main_v21_0 (F := F) (aQ m c) (aK m c)

theorem V_proj (c : Dev nD) : V m c main_v0 = concatenate S4096x3584 1 [⟨S4096x512, aQ m c⟩, ⟨S4096x512, aK m c⟩, ⟨S4096x512, aV m c⟩, ⟨S4096x2048, aR m c⟩] concatenates_S4096x512_S4096x512_S4096x512_S4096x2048_S4096x3584_d1 := by
  refine (congrFun (split_all (fun b => m (c, b))) (Proc.devRef .tc main_v0)).trans ?_
  refine (k9 _).trans ((k8 _).trans ((k7 _).2.trans ((k6 _).2.2.2.trans ((k5 _).2.2.trans ((k4 _).2.2.2.trans ((k3 _).2.2.trans ((k2 _).2.2.trans ((k1 _).2.2.trans (s0p _)))))))))

theorem V_kept (c : Dev nD) : V m c main_v26 = shapeCast S4x8x16x1024x256 (transpose S4x8x16x2x512x256 [0, 2, 4, 1, 3, 5] (shapeCast S4x2x8x512x16x256 (truncf .bf16 (hostW m c) bitsLt_bf16_f32) shapeCasts_S8x4096x4096_S4x2x8x512x16x256) transposes_S4x2x8x512x16x256_S4x8x16x2x512x256_0_2_4_1_3_5) shapeCasts_S4x8x16x2x512x256_S4x8x16x1024x256 := by
  refine (congrFun (split_all (fun b => m (c, b))) (Proc.devRef .tc main_v26)).trans ?_
  refine (s9 _).trans ?_
  unfold hostW
  rw [weights]

end

end Cert.SbBwdIdeal.Entry

end
-- ==== Proof.SbBwd.Frame.lean ====
module

public import proofs.«01_k».proof.Proof.SbBwd.Body
public import proofs.«01_k».proof.Proof.Gen.SbBwdIdeal.Points
public import proofs.«01_k».proof.Proof.Gen.SbBwdIdeal.Launch
public import proofs.«01_k».proof.Proof.Gen.SbBwdIdeal.Frame
public import Idealize.ShloMosaic.Lib.Pipeline.FrameBody
public import Idealize.ShloMosaic.Lib.Claim

/-! # The attention backward program's run, from any memory

A head pair's eight query tiles follow each other. The first clears `dk` and `dv` of the pair, the others add to what the tile before left.
The run of the pipeline follows, for any float values, and with it the frame. -/

@[expose] public section

set_option maxRecDepth 16384

noncomputable section

namespace Cert.SbBwdIdeal.Body

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A head pair's first tile is every eighth point. -/
theorem first_iff : ∀ t : Fin cfg0.N, cond1 (grid0.coords t) = 1#1 ↔ t.val % 8 = 0 :=
  (by decide +kernel : ∀ t : Fin grid0.N, cond1 (grid0.coords t) = 1#1 ↔ t.val % 8 = 0)

/-- The tile at point `t` from the accumulated results before it. -/
def tileAt (c : Dev nD) (t : Fin cfg0.N) (dk dv : Vec F S4096x128 .f32) : St F :=
  tile (grid0.coords t) (iblk m c 0 t) (iblk m c 1 t) (iblk m c 2 t) (iblk m c 3 t) (iblk m c 4 t) dk dv

/-- What the body leaves at point `n`. -/
def held (c : Dev nD) : (n : ℕ) → n < cfg0.N → St F
  | 0, hn => tileAt m c ⟨0, hn⟩ k0_pay83 k0_pay84
  | n + 1, hn =>
    if (n + 1) % 8 = 0 then tileAt m c ⟨n + 1, hn⟩ k0_pay83 k0_pay84
    else tileAt m c ⟨n + 1, hn⟩ (held c n (by omega)).dk (held c n (by omega)).dv

theorem held_first (c : Dev nD) (t : Fin cfg0.N) (h : t.val % 8 = 0) : held m c t.val t.isLt = tileAt m c t k0_pay83 k0_pay84 := by
  obtain ⟨n, hn⟩ := t
  cases n with
  | zero => rfl
  | succ n => exact if_pos h

theorem held_rest (c : Dev nD) (t : Fin cfg0.N) (h : ¬ t.val % 8 = 0) : held m c t.val t.isLt
    = tileAt m c t (held m c (t.val - 1) (Nat.lt_of_le_of_lt (Nat.sub_le _ _) t.isLt)).dk (held m c (t.val - 1) (Nat.lt_of_le_of_lt (Nat.sub_le _ _) t.isLt)).dv := by
  obtain ⟨n, hn⟩ := t
  cases n with
  | zero => exact absurd (Nat.zero_mod _) h
  | succ n => exact if_neg h

/-- The pipeline's proof data: inputs at their blocks, results at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (held m c t.val t.isLt).dq
    | ⟨6, _⟩ => (held m c t.val t.isLt).dk
    | ⟨7, _⟩ => (held m c t.val t.isLt).dv
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay3 (held m c t.val t.isLt).dq := by dsimp only [dats]
theorem after_6 (c : Dev nD) (t : Fin cfg0.N) : (dats m 0 c).after 6 t = (held m c t.val t.isLt).dk := by dsimp only [dats]
theorem after_7 (c : Dev nD) (t : Fin cfg0.N) : (dats m 0 c).after 7 t = (held m c t.val t.isLt).dv := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- Between a pair's tiles window 6 keeps what the tile before left. -/
theorem before_6 (c : Dev nD) (t : Fin cfg0.N) (h : ¬ t.val % 8 = 0) (d) :
    (dats m 0 c).before 6 t d = (held m c (t.val - 1) (Nat.lt_of_le_of_lt (Nat.sub_le _ _) t.isLt)).dk := by
  rw [Dat.before_out_kept _ 6 rfl t (by omega) ?_ (fun _ => rfl) (fun _ _ => rfl) d, after_6]
  rw [Bool.eq_false_iff]
  intro hf
  have := (flush0_6 ⟨t.val - 1, Nat.lt_of_le_of_lt (Nat.sub_le _ _) t.isLt⟩).mp hf
  simp only at this
  omega

/-- Between a pair's tiles window 7 keeps what the tile before left. -/
theorem before_7 (c : Dev nD) (t : Fin cfg0.N) (h : ¬ t.val % 8 = 0) (d) :
    (dats m 0 c).before 7 t d = (held m c (t.val - 1) (Nat.lt_of_le_of_lt (Nat.sub_le _ _) t.isLt)).dv := by
  rw [Dat.before_out_kept _ 7 rfl t (by omega) ?_ (fun _ => rfl) (fun _ _ => rfl) d, after_7]
  rw [Bool.eq_false_iff]
  intro hf
  have := (flush0_7 ⟨t.val - 1, Nat.lt_of_le_of_lt (Nat.sub_le _ _) t.isLt⟩).mp hf
  simp only at this
  omega

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- No window is ever left out: the body leaves each at the proof data's contents. -/
theorem leaves (c : Dev nD) (t : Fin cfg0.N) (w : Fin cfg0.W) :
    (dats m 0 c).leavesExact w t = owns (c : Thread nD τ) ((cfg0.win w).stage (cfg0.slots t w)) fullShare ((dats m 0 c).after w t) := by
  unfold Dat.leavesExact
  rw [show cfg0.idle w (grid0.coords t) = false from rfl]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl]
  rw [leaves m c t 0, after_0, leaves m c t 1, after_1, leaves m c t 2, after_2, leaves m c t 3, after_3, leaves m c t 4, after_4, leaves m c t 5, after_5, leaves m c t 6, after_6, leaves m c t 7, after_7]
  by_cases h : t.val % 8 = 0
  · rw [held_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand frame (wpE (defs₀ (F := F)) Variants.none (c : Thread nD τ) none) Set.univ) $$ [H0 H1 H2 H3 H4 H5 H6 H7]
    · iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) ((first_iff t).mpr h) _ _ _) $$ [H0 H1 H2 H3 H4 H5 H6 H7]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iintro %u H
      unfold after
      icases H with ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · rw [held_rest m c t h]
    simp only [before_6 m c t h, before_7 m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (wp_wand frame (wpE (defs₀ (F := F)) Variants.none (c : Thread nD τ) none) Set.univ) $$ [H0 H1 H2 H3 H4 H5 H6 H7]
    · iapply (body_rest c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (fun e => h ((first_iff t).mp e)) _ _ _) $$ [H0 H1 H2 H3 H4 H5 H6 H7]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iintro %u H
      unfold after
      icases H with ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline at what the proof data compute, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame, for any float values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.SbBwdIdeal.Body

end
-- ==== Proof.SbBwd.Value.lean ====
/- The three arrays the run leaves, entry by entry. -/
module

public import proofs.«01_k».proof.Proof.SbBwd.Tile
public import proofs.«01_k».proof.Proof.SbBwd.Entry
public import proofs.«01_k».proof.Proof.SbBwd.Frame
public import Idealize.ShloMosaic.Lib.Pipeline.ValueKit

@[expose] public section

set_option maxRecDepth 16384

noncomputable section

namespace Cert.SbBwdIdeal.Value

open Idealize.ShloMosaic Idealize.ShloMosaic.TcCoe Idealize.SL.Sem
open Idealize.ShloMosaic.Pipeline (Dat)
open Cert.SbBwdIdeal Cert.SbBwdIdeal.Gen Cert.SbBwdIdeal.Body Cert.SbBwdIdeal.Walk Cert.SbBwdIdeal.Entry Cert.Shared
open Finset (range)

variable (m : (ℓ : Loc nD τ sig) → Buf (Elt Ideal) ℓ) (c : Dev nD)

theorem idx : ∀ t : Fin cfg0.N, win0_0.index t = ![t.val % 8, t.val / 8] ∧ win0_1.index t = ![0, 4 + t.val / 8] ∧ win0_2.index t = ![0, 8 + t.val / 8]
    ∧ win0_3.index t = ![t.val / 8, t.val % 8, 0, 0, 0] ∧ win0_4.index t = ![t.val % 8, t.val / 8] ∧ win0_5.index t = ![t.val % 8, t.val / 8] ∧ win0_6.index t = ![0, t.val / 8] ∧ win0_7.index t = ![0, t.val / 8] :=
  (by decide +kernel : ∀ t : Fin grid0.N, _)

theorem coord1 : ∀ t : Fin cfg0.N, (grid0.coords t 1).val = t.val % 8 :=
  (by decide +kernel : ∀ t : Fin grid0.N, _)

theorem t_lt (t : Fin cfg0.N) : t.val < 32 := lt_of_lt_of_eq t.isLt N_0

def row (t : Fin cfg0.N) (a : Fin 512) : Fin 4096 := ⟨t.val % 8 * 512 + a.val, by omega⟩
def col (t : Fin cfg0.N) (l : Fin 128) : Fin 512 := ⟨t.val / 8 * 128 + l.val, by have := t_lt t; omega⟩

theorem emb0 (t : Fin cfg0.N) (a : Fin 512) (l : Fin 128) : ((cfg0.win 0).blk t).view.emb (ix2 a l) = ix2 (row t a) (⟨(col t l).val, by omega⟩ : Fin 3584) := by
  blk_ext [idx t, row, col]
theorem emb1 (t : Fin cfg0.N) (a : Fin 4096) (l : Fin 128) : ((cfg0.win 1).blk t).view.emb (ix2 a l) = ix2 a (⟨512 + (col t l).val, by omega⟩ : Fin 3584) := by
  blk_ext [idx t, row, col]
theorem emb2 (t : Fin cfg0.N) (a : Fin 4096) (l : Fin 128) : ((cfg0.win 2).blk t).view.emb (ix2 a l) = ix2 a (⟨1024 + (col t l).val, by omega⟩ : Fin 3584) := by
  blk_ext [idx t, row, col]
theorem emb3 (t : Fin cfg0.N) (b : Fin 16) (r : Fin 1024) (x : Fin 256) : ((cfg0.win 3).blk t).view.emb (ix5 0 0 b r x) = ix5 (⟨t.val / 8, by have := t_lt t; omega⟩ : Fin 4) (⟨t.val % 8, by omega⟩ : Fin 8) b r x := by
  blk_ext [idx t]
theorem emb4 (t : Fin cfg0.N) (a : Fin 512) (l : Fin 128) : ((cfg0.win 4).blk t).view.emb (ix2 a l) = ix2 (row t a) (col t l) := by
  blk_ext [idx t, row, col]
theorem emb5 (t : Fin cfg0.N) (a : Fin 512) (l : Fin 128) : ((cfg0.win 5).blk t).view.emb (ix2 a l) = ix2 (row t a) (col t l) := by
  blk_ext [idx t, row, col]
theorem emb6 (t : Fin cfg0.N) (a : Fin 4096) (l : Fin 128) : ((cfg0.win 6).blk t).view.emb (ix2 a l) = ix2 a (col t l) := by
  blk_ext [idx t, row, col]
theorem emb7 (t : Fin cfg0.N) (a : Fin 4096) (l : Fin 128) : ((cfg0.win 7).blk t).view.emb (ix2 a l) = ix2 a (col t l) := by
  blk_ext [idx t, row, col]

def pt (n : ℕ) (h : n < 32) : Fin cfg0.N := ⟨n, lt_of_lt_of_eq h N_0.symm⟩

theorem cover5 (i : S4096x512.Idx) : ∃ t : Fin cfg0.N, (cfg0.win 5).flush t = true ∧ i ∈ ((cfg0.win 5).blk t).view.set := by
  idx_vars i
  refine ⟨pt (i1.val / 128 * 8 + i0.val / 512) (by omega), flush0_5 _, ?_⟩
  have h := ((cfg0.win 5).blk (pt (i1.val / 128 * 8 + i0.val / 512) (by omega))).view.emb_mem_set (ix2 (⟨i0.val % 512, by omega⟩ : Fin 512) (⟨i1.val % 128, by omega⟩ : Fin 128))
  rw [emb5] at h
  have e0 : row (pt (i1.val / 128 * 8 + i0.val / 512) (by omega)) ⟨i0.val % 512, by omega⟩ = i0 := Fin.ext (by simp only [row, pt]; omega)
  have e1 : col (pt (i1.val / 128 * 8 + i0.val / 512) (by omega)) ⟨i1.val % 128, by omega⟩ = i1 := Fin.ext (by simp only [col, pt]; omega)
  rw [e0, e1] at h
  exact h

theorem cover6 (i : S4096x512.Idx) : ∃ t : Fin cfg0.N, (cfg0.win 6).flush t = true ∧ i ∈ ((cfg0.win 6).blk t).view.set := by
  idx_vars i
  refine ⟨pt (i1.val / 128 * 8 + 7) (by omega), (flush0_6 _).mpr (by show (i1.val / 128 * 8 + 7) % 8 = 7; omega), ?_⟩
  have h := ((cfg0.win 6).blk (pt (i1.val / 128 * 8 + 7) (by omega))).view.emb_mem_set (ix2 i0 (⟨i1.val % 128, by omega⟩ : Fin 128))
  rw [emb6] at h
  have e1 : col (pt (i1.val / 128 * 8 + 7) (by omega)) ⟨i1.val % 128, by omega⟩ = i1 := Fin.ext (by simp only [col, pt]; omega)
  rw [e1] at h
  exact h

theorem cover7 (i : S4096x512.Idx) : ∃ t : Fin cfg0.N, (cfg0.win 7).flush t = true ∧ i ∈ ((cfg0.win 7).blk t).view.set := by
  idx_vars i
  refine ⟨pt (i1.val / 128 * 8 + 7) (by omega), (flush0_7 _).mpr (by show (i1.val / 128 * 8 + 7) % 8 = 7; omega), ?_⟩
  have h := ((cfg0.win 7).blk (pt (i1.val / 128 * 8 + 7) (by omega))).view.emb_mem_set (ix2 i0 (⟨i1.val % 128, by omega⟩ : Fin 128))
  rw [emb7] at h
  have e1 : col (pt (i1.val / 128 * 8 + 7) (by omega)) ⟨i1.val % 128, by omega⟩ = i1 := Fin.ext (by simp only [col, pt]; omega)
  rw [e1] at h
  exact h

section Reads

variable (U : (b : Ref sig .tc) → Buf (Elt Ideal) ((c : Thread nD τ).loc b))

theorem read0 (t : Fin cfg0.N) (y) : ((cfg0.win 0).blk t).view.read (Elt Ideal) (U (Pipeline.arrRef spec0 0)) y = U main_v0 (((cfg0.win 0).blk t).view.emb y) := rfl
theorem read1 (t : Fin cfg0.N) (y) : ((cfg0.win 1).blk t).view.read (Elt Ideal) (U (Pipeline.arrRef spec0 1)) y = U main_v0 (((cfg0.win 1).blk t).view.emb y) := rfl
theorem read2 (t : Fin cfg0.N) (y) : ((cfg0.win 2).blk t).view.read (Elt Ideal) (U (Pipeline.arrRef spec0 2)) y = U main_v0 (((cfg0.win 2).blk t).view.emb y) := rfl
theorem read3 (t : Fin cfg0.N) (y) : ((cfg0.win 3).blk t).view.read (Elt Ideal) (U (Pipeline.arrRef spec0 3)) y = U main_v26 (((cfg0.win 3).blk t).view.emb y) := rfl
theorem read4 (t : Fin cfg0.N) (y) : ((cfg0.win 4).blk t).view.read (Elt Ideal) (U (Pipeline.arrRef spec0 4)) y = U main_arg4 (((cfg0.win 4).blk t).view.emb y) := rfl

end Reads

section Pack

variable (q k v : FVec Ideal S4096x512 .f32) (e : FVec Ideal S4096x2048 .f32) (w : FVec Ideal S8x4096x4096 .f32)

abbrev packed : FVec Ideal S4096x3584 .f32 :=
  concatenate S4096x3584 1 [⟨S4096x512, q⟩, ⟨S4096x512, k⟩, ⟨S4096x512, v⟩, ⟨S4096x2048, e⟩] concatenates_S4096x512_S4096x512_S4096x512_S4096x2048_S4096x3584_d1

theorem pack0 (a : Fin 4096) (j : Fin 512) (h : j.val < 3584) : packed q k v e (ix2 a (⟨j.val, h⟩ : Fin 3584)) = q (ix2 a j) := by
  pointwise!
theorem pack1 (a : Fin 4096) (j : Fin 512) (h : 512 + j.val < 3584) : packed q k v e (ix2 a (⟨512 + j.val, h⟩ : Fin 3584)) = k (ix2 a j) := by
  pointwise!
theorem pack2 (a : Fin 4096) (j : Fin 512) (h : 1024 + j.val < 3584) : packed q k v e (ix2 a (⟨1024 + j.val, h⟩ : Fin 3584)) = v (ix2 a j) := by
  pointwise!
  rw [dif_neg (by omega), dif_neg (by omega), dif_pos (by omega)]
  exact congrArg v (congrArg (ix2 a) (Fin.ext (by show 1024 + j.val - 512 - 512 = j.val; omega)))

theorem keep (p : Fin 4) (i : Fin 8) (b : Fin 16) (r : Fin 1024) (x : Fin 256) :
    (shapeCast S4x8x16x1024x256 (transpose S4x8x16x2x512x256 [0, 2, 4, 1, 3, 5] (shapeCast S4x2x8x512x16x256 (truncf .bf16 w bitsLt_bf16_f32) shapeCasts_S8x4096x4096_S4x2x8x512x16x256) transposes_S4x2x8x512x16x256_S4x8x16x2x512x256_0_2_4_1_3_5) shapeCasts_S4x8x16x2x512x256_S4x8x16x1024x256
      : FVec Ideal S4x8x16x1024x256 .bf16) (ix5 p i b r x)
      = w (ix3 (⟨2 * p.val + r.val / 512, by omega⟩ : Fin 8) (⟨512 * i.val + r.val % 512, by omega⟩ : Fin 4096) (⟨256 * b.val + x.val, by omega⟩ : Fin 4096)) := by
  pointwise!

end Pack

section Sums

theorem sum_tiles (n : ℕ) (f : ℕ → ℝ) : ∑ i ∈ range n, ∑ a ∈ range 512, f (512 * i + a) = ∑ t ∈ range (512 * n), f t := by
  induction n with
  | zero => simp
  | succ n ih => rw [Finset.sum_range_succ, ih, Nat.mul_succ, Finset.sum_range_add]

/-- Over the lanes only the row's own head counts. -/
theorem sum_lanes (x : ℕ → ℕ → ℝ) (f : ℕ → ℝ) (r : ℕ) (hr : r < 1024) :
    ∑ l ∈ range 128, stack x r l * f l = ∑ d ∈ range 64, x (r % 512) (64 * (r / 512) + d) * f (64 * (r / 512) + d) := by
  rw [show 128 = 64 + 64 from rfl, Finset.sum_range_add]
  by_cases h : r < 512
  · rw [Finset.sum_eq_zero (s := range 64) (f := fun d => stack x r (64 + d) * f (64 + d)), add_zero]
    · refine Finset.sum_congr rfl fun d hd => ?_
      rw [Finset.mem_range] at hd
      unfold stack
      rw [if_pos (by omega), show 64 * (r / 512) + d = d by omega]
    · intro d _
      unfold stack
      rw [if_neg (by omega), zero_mul]
  · rw [Finset.sum_eq_zero (s := range 64) (f := fun d => stack x r d * f d), zero_add]
    · refine Finset.sum_congr rfl fun d hd => ?_
      rw [Finset.mem_range] at hd
      unfold stack
      rw [if_pos (by omega), show 64 * (r / 512) + d = 64 + d by omega]
    · intro d hd
      rw [Finset.mem_range] at hd
      unfold stack
      rw [if_neg (by omega), zero_mul]

/-- Over the stacked rows only those of the lane's head count. -/
theorem sum_rows (x : ℕ → ℕ → ℝ) (f : ℕ → ℝ) (l : ℕ) (hl : l < 128) :
    ∑ r ∈ range 1024, f r * stack x r l = ∑ a ∈ range 512, f (512 * (l / 64) + a) * x a l := by
  rw [show 1024 = 512 + 512 from rfl, Finset.sum_range_add]
  by_cases h : l < 64
  · rw [Finset.sum_eq_zero (s := range 512) (f := fun d => f (512 + d) * stack x (512 + d) l), add_zero]
    · refine Finset.sum_congr rfl fun d hd => ?_
      rw [Finset.mem_range] at hd
      unfold stack
      rw [if_pos (by omega), show 512 * (l / 64) + d = d by omega, Nat.mod_eq_of_lt hd]
    · intro d _
      unfold stack
      rw [if_neg (by omega), mul_zero]
  · rw [Finset.sum_eq_zero (s := range 512) (f := fun d => f d * stack x d l), zero_add]
    · refine Finset.sum_congr rfl fun d hd => ?_
      rw [Finset.mem_range] at hd
      unfold stack
      rw [if_pos (by omega), show 512 * (l / 64) + d = 512 + d by omega, show (512 + d) % 512 = d by omega]
    · intro d hd
      rw [Finset.mem_range] at hd
      unfold stack
      rw [if_neg (by omega), mul_zero]

end Sums

section Real

variable (q k v o : ℕ → ℕ → ℝ) (w : ℕ → ℕ → ℕ → ℝ)

/-- The weight's cotangent times the weight, and the logit's cotangent, for head `h`. -/
def gG (h t s : ℕ) : ℝ := w h t s * ∑ d ∈ range 64, o t (64 * h + d) * v s (64 * h + d)
def gZ (h t s : ℕ) : ℝ := ∑ d ∈ range 64, q t (64 * h + d) * (1 / 8) * k s (64 * h + d)
def dZ (h t s : ℕ) : ℝ := if s < t then gG v o w h t s - sg (gZ q k h t s) * (gG v o w h t s + ∑ s' ∈ range s, gG v o w h t s') else 0

abbrev tileOf (x : ℕ → ℕ → ℝ) (p i a l : ℕ) : ℝ := x (512 * i + a) (128 * p + l)
abbrev laneOf (x : ℕ → ℕ → ℝ) (p s l : ℕ) : ℝ := x s (128 * p + l)
abbrev keptOf (p i r s : ℕ) : ℝ := w (2 * p + r / 512) (512 * i + r % 512) s
abbrev qsOf (p i : ℕ) : ℕ → ℕ → ℝ := stack fun a l => tileOf q p i a l * (1 / 8)
abbrev dzOf (p i r s : ℕ) : ℝ := DZ (512 * i) (qsOf q p i) (stack (tileOf o p i)) (laneOf k p) (laneOf v p) (keptOf w p i) r s

theorem dzOf_eq (p i r s : ℕ) (hr : r < 1024) : dzOf q k v o w p i r s = dZ q k v o w (2 * p + r / 512) (512 * i + r % 512) s := by
  have hG : ∀ s, G (stack (tileOf o p i)) (laneOf v p) (keptOf w p i) r s = gG v o w (2 * p + r / 512) (512 * i + r % 512) s := by
    intro s
    unfold G gG
    rw [sum_lanes _ _ _ hr]
    congr 1
    refine Finset.sum_congr rfl fun d _ => ?_
    rw [show 64 * (2 * p + r / 512) + d = 128 * p + (64 * (r / 512) + d) by ring]
  have hZ : ∑ l ∈ range 128, qsOf q p i r l * laneOf k p s l = gZ q k (2 * p + r / 512) (512 * i + r % 512) s := by
    unfold gZ
    rw [sum_lanes _ _ _ hr]
    refine Finset.sum_congr rfl fun d _ => ?_
    rw [show 64 * (2 * p + r / 512) + d = 128 * p + (64 * (r / 512) + d) by ring]
  unfold dzOf DZ dZ
  rw [hZ]
  simp only [hG]

variable {q k v o w}
variable (hq : ∀ (t : Fin 4096) (j : Fin 512), aQ m c (ix2 t j) = ((q t.val j.val : ℝ) : EReal))
variable (hk : ∀ (t : Fin 4096) (j : Fin 512), aK m c (ix2 t j) = ((k t.val j.val : ℝ) : EReal))
variable (hv : ∀ (t : Fin 4096) (j : Fin 512), aV m c (ix2 t j) = ((v t.val j.val : ℝ) : EReal))
variable (ho : ∀ (t : Fin 4096) (j : Fin 512), aO m c (ix2 t j) = ((o t.val j.val : ℝ) : EReal))
variable (hw : ∀ (h : Fin 8) (t s : Fin 4096), hostW m c (ix3 h t s) = ((w h.val t.val s.val : ℝ) : EReal))
variable (hw0 : ∀ h t s, t ≤ s → w h t s = 0)

include hq in
theorem blk0 (t : Fin cfg0.N) (a : Fin 512) (l : Fin 128) : iblk m c 0 t (ix2 a l) = ((tileOf q (t.val / 8) (t.val % 8) a.val l.val : ℝ) : EReal) := by
  refine (read0 c (V m c) t (ix2 a l)).trans ?_
  rw [V_proj, emb0]
  refine (pack0 (aQ m c) (aK m c) (aV m c) (aR m c) (row t a) (col t l) _).trans ((hq _ _).trans ?_)
  simp only [row, col, tileOf, mul_comm]
include hk in
theorem blk1 (t : Fin cfg0.N) (a : Fin 4096) (l : Fin 128) : iblk m c 1 t (ix2 a l) = ((laneOf k (t.val / 8) a.val l.val : ℝ) : EReal) := by
  refine (read1 c (V m c) t (ix2 a l)).trans ?_
  rw [V_proj, emb1]
  refine (pack1 (aQ m c) (aK m c) (aV m c) (aR m c) a (col t l) _).trans ((hk _ _).trans ?_)
  simp only [col, laneOf, mul_comm]
include hv in
theorem blk2 (t : Fin cfg0.N) (a : Fin 4096) (l : Fin 128) : iblk m c 2 t (ix2 a l) = ((laneOf v (t.val / 8) a.val l.val : ℝ) : EReal) := by
  refine (read2 c (V m c) t (ix2 a l)).trans ?_
  rw [V_proj, emb2]
  refine (pack2 (aQ m c) (aK m c) (aV m c) (aR m c) a (col t l) _).trans ((hv _ _).trans ?_)
  simp only [col, laneOf, mul_comm]
include ho in
theorem blk4 (t : Fin cfg0.N) (a : Fin 512) (l : Fin 128) : iblk m c 4 t (ix2 a l) = ((tileOf o (t.val / 8) (t.val % 8) a.val l.val : ℝ) : EReal) := by
  refine (read4 c (V m c) t (ix2 a l)).trans ?_
  rw [V_main_arg4, emb4]
  refine (ho _ _).trans ?_
  simp only [row, col, tileOf, mul_comm]
include hw in
theorem blk3 (t : Fin cfg0.N) (b : Fin 16) (r : Fin 1024) (x : Fin 256) :
    iblk m c 3 t (ix5 0 0 b r x) = ((keptOf w (t.val / 8) (t.val % 8) r.val (256 * b.val + x.val) : ℝ) : EReal) := by
  refine (read3 c (V m c) t (ix5 0 0 b r x)).trans ?_
  rw [emb3]
  refine (congrFun (V_kept m c) _).trans ?_
  generalize hostW m c = W at hw ⊢
  rw [keep W, hw]

include hq hk hv ho hw hw0

theorem tileAt_res (t : Fin cfg0.N) {dk dv : Vec Ideal S4096x128 .f32} {dk0 dv0 : ℕ → ℕ → ℝ}
    (hdk : ∀ (s : Fin 4096) (l : Fin 128), dk (ix2 s l) = ((dk0 s.val l.val : ℝ) : EReal)) (hdv : ∀ (s : Fin 4096) (l : Fin 128), dv (ix2 s l) = ((dv0 s.val l.val : ℝ) : EReal)) :
    (∀ (r : Fin 1024) (l : Fin 128), (tileAt m c t dk dv).dq (ix2 r l)
      = ((∑ s ∈ range 4096, dzOf q k v o w (t.val / 8) (t.val % 8) r.val s * laneOf k (t.val / 8) s l.val : ℝ) : EReal))
    ∧ (∀ (s : Fin 4096) (l : Fin 128), (tileAt m c t dk dv).dk (ix2 s l)
      = ((dk0 s.val l.val + ∑ r ∈ range 1024, dzOf q k v o w (t.val / 8) (t.val % 8) r s.val * qsOf q (t.val / 8) (t.val % 8) r l.val : ℝ) : EReal))
    ∧ (∀ (s : Fin 4096) (l : Fin 128), (tileAt m c t dk dv).dv (ix2 s l)
      = ((dv0 s.val l.val + ∑ r ∈ range 1024, keptOf w (t.val / 8) (t.val % 8) r s.val * stack (tileOf o (t.val / 8) (t.val % 8)) r l.val : ℝ) : EReal)) := by
  have h := tile_res (i := grid0.coords t) (blk0 m c hq t) (blk4 m c ho t) (blk1 m c hk t) (blk2 m c hv t) (blk3 m c hw t) hdk hdv
    (fun r s hs => hw0 _ _ _ (by rw [coord1] at hs; exact hs))
  rw [coord1] at h
  exact h

/-- What stands after a tile: its own rows, and the sums over the pair's tiles so far. -/
theorem held_res (n : ℕ) (hn : n < cfg0.N) :
    (∀ (r : Fin 1024) (l : Fin 128), (held m c n hn).dq (ix2 r l)
      = ((∑ s ∈ range 4096, dzOf q k v o w (n / 8) (n % 8) r.val s * laneOf k (n / 8) s l.val : ℝ) : EReal))
    ∧ (∀ (s : Fin 4096) (l : Fin 128), (held m c n hn).dk (ix2 s l)
      = ((∑ i ∈ range (n % 8 + 1), ∑ r ∈ range 1024, dzOf q k v o w (n / 8) i r s.val * qsOf q (n / 8) i r l.val : ℝ) : EReal))
    ∧ (∀ (s : Fin 4096) (l : Fin 128), (held m c n hn).dv (ix2 s l)
      = ((∑ i ∈ range (n % 8 + 1), ∑ r ∈ range 1024, keptOf w (n / 8) i r s.val * stack (tileOf o (n / 8) i) r l.val : ℝ) : EReal)) := by
  induction n using Nat.strong_induction_on with
  | _ n ih =>
    by_cases h : n % 8 = 0
    · rw [held_first m c ⟨n, hn⟩ h]
      obtain ⟨a, b, d⟩ := tileAt_res m c hq hk hv ho hw hw0 ⟨n, hn⟩ (dk := k0_pay83 (F := Ideal)) (dv := k0_pay84 (F := Ideal)) (dk0 := fun _ _ => 0) (dv0 := fun _ _ => 0)
        (fun s l => Ideal.ofBits_zero_f32.trans EReal.coe_zero.symm) (fun s l => Ideal.ofBits_zero_f32.trans EReal.coe_zero.symm)
      refine ⟨a, fun s l => (b s l).trans ?_, fun s l => (d s l).trans ?_⟩ <;>
        · simp only [h, zero_add, Finset.sum_range_one]
    · rw [held_rest m c ⟨n, hn⟩ h]
      have e1 : (n - 1) / 8 = n / 8 := by omega
      have e2 : (n - 1) % 8 + 1 = n % 8 := by omega
      obtain ⟨_, b', d'⟩ := ih (n - 1) (by omega) (by omega)
      obtain ⟨a, b, d⟩ := tileAt_res m c hq hk hv ho hw hw0 ⟨n, hn⟩
        (dk0 := fun s l => ∑ i ∈ range (n % 8), ∑ r ∈ range 1024, dzOf q k v o w (n / 8) i r s * qsOf q (n / 8) i r l)
        (dv0 := fun s l => ∑ i ∈ range (n % 8), ∑ r ∈ range 1024, keptOf w (n / 8) i r s * stack (tileOf o (n / 8) i) r l)
        (fun s l => by rw [← e2, ← e1]; exact b' s l) (fun s l => by rw [← e2, ← e1]; exact d' s l)
      refine ⟨a, fun s l => (b s l).trans ?_, fun s l => (d s l).trans ?_⟩ <;>
        exact congrArg _ (Finset.sum_range_succ _ _).symm

omit hq hk hv ho hw hw0

/-- The three gradients. -/
def Gq (i : S4096x512.Idx) : EReal := ((∑ s ∈ range 4096, dZ q k v o w ((i 1).val / 64) (i 0).val s * k s (i 1).val * (1 / 8) : ℝ) : EReal)
def Gk (i : S4096x512.Idx) : EReal := ((∑ t ∈ range 4096, dZ q k v o w ((i 1).val / 64) t (i 0).val * (q t (i 1).val * (1 / 8)) : ℝ) : EReal)
def Gv (i : S4096x512.Idx) : EReal := ((∑ t ∈ range 4096, w ((i 1).val / 64) t (i 0).val * o t (i 1).val : ℝ) : EReal)

include hq hk hv ho hw hw0

theorem final5 : (dats m 0 c).arrAt 5 cfg0.N = (Gq (q := q) (k := k) (v := v) (o := o) (w := w) : FVec Ideal S4096x512 .bf16) := by
  refine (dats m 0 c).arrAt_eq_of_emb 5 _ ?_ cover5
  intro t _ y
  idx_vars y
  generalize y0 = a
  generalize y1 = l
  rw [after_5, emb5]
  show k0_pay3 (F := Ideal) (held m c t.val t.isLt).dq (ix2 a l) = _
  have h := (held_res m c hq hk hv ho hw hw0 t.val t.isLt).1
  have ht := t_lt t
  rw [Pay.p3, h, h, cE_eq]
  unfold Gq
  show _ = ((∑ s ∈ range 4096, dZ q k v o w ((col t l).val / 64) (row t a).val s * k s (col t l).val * (1 / 8) : ℝ) : EReal)
  rw [← Finset.sum_mul, EReal.coe_mul]
  congr 1
  split_ifs with hl
  · congr 1
    refine Finset.sum_congr rfl fun s _ => ?_
    rw [dzOf_eq _ _ _ _ _ _ _ _ _ (by show a.val < 1024; omega)]
    simp only [row, col, laneOf]
    rw [show 2 * (t.val / 8) + a.val / 512 = (t.val / 8 * 128 + l.val) / 64 by omega, show 512 * (t.val % 8) + a.val % 512 = t.val % 8 * 512 + a.val by omega, mul_comm 128]
  · congr 1
    refine Finset.sum_congr rfl fun s _ => ?_
    rw [dzOf_eq _ _ _ _ _ _ _ _ _ (by show 512 + a.val < 1024; omega)]
    simp only [row, col, laneOf]
    rw [show 2 * (t.val / 8) + (512 + a.val) / 512 = (t.val / 8 * 128 + l.val) / 64 by omega, show 512 * (t.val % 8) + (512 + a.val) % 512 = t.val % 8 * 512 + a.val by omega, mul_comm 128]

theorem final6 : (dats m 0 c).arrAt 6 cfg0.N = (Gk (q := q) (k := k) (v := v) (o := o) (w := w) : FVec Ideal S4096x512 .f32) := by
  refine (dats m 0 c).arrAt_eq_of_emb 6 _ ?_ cover6
  intro t hf y
  idx_vars y
  generalize y0 = s
  generalize y1 = l
  rw [after_6, emb6]
  show (held m c t.val t.isLt).dk (ix2 s l) = _
  rw [(held_res m c hq hk hv ho hw hw0 t.val t.isLt).2.1, (flush0_6 t).mp hf]
  have ht := t_lt t
  unfold Gk
  show _ = ((∑ t' ∈ range 4096, dZ q k v o w ((col t l).val / 64) t' s.val * (q t' (col t l).val * (1 / 8)) : ℝ) : EReal)
  congr 1
  refine Eq.trans ?_ (sum_tiles (7 + 1) _)
  refine Finset.sum_congr rfl fun i _ => ?_
  unfold qsOf
  rw [sum_rows _ _ _ l.isLt]
  refine Finset.sum_congr rfl fun a ha => ?_
  rw [Finset.mem_range] at ha
  rw [dzOf_eq _ _ _ _ _ _ _ _ _ (by omega)]
  simp only [col, tileOf]
  rw [show 2 * (t.val / 8) + (512 * (l.val / 64) + a) / 512 = (t.val / 8 * 128 + l.val) / 64 by omega, show (512 * (l.val / 64) + a) % 512 = a by omega, mul_comm 128]

theorem final7 : (dats m 0 c).arrAt 7 cfg0.N = (Gv (o := o) (w := w) : FVec Ideal S4096x512 .f32) := by
  refine (dats m 0 c).arrAt_eq_of_emb 7 _ ?_ cover7
  intro t hf y
  idx_vars y
  generalize y0 = s
  generalize y1 = l
  rw [after_7, emb7]
  show (held m c t.val t.isLt).dv (ix2 s l) = _
  rw [(held_res m c hq hk hv ho hw hw0 t.val t.isLt).2.2, (flush0_7 t).mp hf]
  have ht := t_lt t
  unfold Gv
  show _ = ((∑ t' ∈ range 4096, w ((col t l).val / 64) t' s.val * o t' (col t l).val : ℝ) : EReal)
  congr 1
  refine Eq.trans ?_ (sum_tiles (7 + 1) _)
  refine Finset.sum_congr rfl fun i _ => ?_
  rw [sum_rows _ _ _ l.isLt]
  refine Finset.sum_congr rfl fun a ha => ?_
  rw [Finset.mem_range] at ha
  simp only [col, tileOf, keptOf]
  rw [show 2 * (t.val / 8) + (512 * (l.val / 64) + a) / 512 = (t.val / 8 * 128 + l.val) / 64 by omega, show (512 * (l.val / 64) + a) % 512 = a by omega, mul_comm 128]

end Real

end Cert.SbBwdIdeal.Value

end
-- ==== Proof.SbBwd.Ref.lean ====
/- The reference's gradients, as sums of reals. -/
module

public import proofs.«01_k».proof.Proof.SbBwd.Value
public import proofs.«01_k».proof.Proof.Gen.SbBwdRefIdeal.Read

@[expose] public section

set_option maxRecDepth 16384

noncomputable section

namespace Cert.SbBwdRefIdeal.Real

open Idealize.ShloMosaic Idealize.ShloMosaic.TcCoe Idealize.SL.Sem
open Cert.SbBwdRefIdeal Cert.SbBwdRefIdeal.Gen Cert.SbBwdRefIdeal.Read Cert.Shared
open Cert.SbBwdIdeal.Walk (sg)
open Cert.SbBwdIdeal.Value (gG gZ dZ Gq Gk Gv)
open Finset (range)

/-- `log (exp y + 1)`, with the larger term taken out. -/
def lse (y : ℝ) : ℝ := max y 0 + Real.log (1 + Real.exp (-|y|))

theorem exp_sub_lse (y : ℝ) : Real.exp (y - lse y) = sg y := by
  have hp : (0 : ℝ) < 1 + Real.exp (-|y|) := by positivity
  unfold lse sg
  rw [Real.tanh_eq_sinh_div_cosh, Real.sinh_eq, Real.cosh_eq, ← sub_sub, Real.exp_sub, Real.exp_log hp]
  have h2 : Real.exp y = Real.exp (1 / 2 * y) * Real.exp (1 / 2 * y) := by rw [← Real.exp_add]; congr 1; ring
  have hi : Real.exp (-(1 / 2 * y)) = (Real.exp (1 / 2 * y))⁻¹ := Real.exp_neg _
  have hpos := Real.exp_pos (1 / 2 * y)
  rcases le_total 0 y with h | h
  · rw [max_eq_left h, abs_of_nonneg h, sub_self, Real.exp_zero, hi, Real.exp_neg, h2]
    field_simp
    ring
  · rw [max_eq_right h, abs_of_nonpos h, sub_zero, neg_neg, hi, h2]
    field_simp
    ring

theorem sg_neg (z : ℝ) : sg (-z) = 1 - sg z := by
  unfold sg
  rw [show (1 / 2 * -z : ℝ) = -(1 / 2 * z) by ring, Real.tanh_neg]
  ring

/-- The host's `logaddexp y 0`. -/
def lseE (y : EReal) : EReal :=
  let o : EReal := FloatOps.ofBits (F := Ideal) .f32 0x00000000#32
  let d : Ideal .f32 := FloatOps.subf (F := Ideal) (φ := .f32) y o
  Scalar.select (FloatOps.cmpf (F := Ideal) .une d d) (FloatOps.addf (F := Ideal) (φ := .f32) y o)
    (FloatOps.addf (F := Ideal) (φ := .f32) (FloatOps.maximumf (F := Ideal) (φ := .f32) y o)
      (FloatOps.hostUnary (F := Ideal) (φ := .f32) .log1p (FloatOps.hostUnary (F := Ideal) (φ := .f32) .exp (FloatOps.hostNegf (F := Ideal) (φ := .f32) (FloatOps.hostAbsf (F := Ideal) (φ := .f32) d)))))

theorem select_une (d : Ideal .f32) (a b : EReal) : Scalar.select (FloatOps.cmpf (F := Ideal) .une d d) a b = b := by
  have : FloatOps.cmpf (F := Ideal) .une d d = 0#1 := by show BitVec.ofBool (decide (d ≠ d)) = 0#1; simp
  rw [this]; rfl

theorem select_inf (r : ℝ) (a b : EReal) :
    Scalar.select (FloatOps.cmpf (F := Ideal) (φ := .f32) .oeq (r : EReal) (FloatOps.ofBits (F := Ideal) .f32 0x7F800000#32)) a b = b := by
  have : FloatOps.cmpf (F := Ideal) (φ := .f32) .oeq (r : EReal) (FloatOps.ofBits (F := Ideal) .f32 0x7F800000#32) = 0#1 := by
    show BitVec.ofBool (decide ((r : EReal) = Ideal.ofBits .f32 0x7F800000#32)) = 0#1
    rw [ofBits_inf]; simp
  rw [this]; rfl

theorem zero_eq : FloatOps.ofBits (F := Ideal) .f32 0x00000000#32 = ((0 : ℝ) : EReal) := by
  rw [EReal.coe_zero]; exact Ideal.ofBits_zero_f32

theorem max_coe (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem lseE_coe (y : ℝ) : lseE (y : EReal) = ((lse y : ℝ) : EReal) := by
  unfold lseE
  simp only [select_une, zero_eq]
  show max (y : EReal) ((0 : ℝ) : EReal) + Ideal.log (1 + Ideal.exp (-(max ((y : EReal) - ((0 : ℝ) : EReal)) (-((y : EReal) - ((0 : ℝ) : EReal)))))) = _
  have hp : ¬ (1 + Real.exp (-|y|) ≤ 0) := not_le.mpr (by positivity)
  rw [max_coe, ← EReal.coe_sub, sub_zero, ← EReal.coe_neg, max_coe, ← EReal.coe_neg, Ideal.exp_coe, ← EReal.coe_one, ← EReal.coe_add, Ideal.log_coe]
  rw [show max y (-y) = |y| from rfl, if_neg hp, ← EReal.coe_add]
  rfl

/-! ### The running sums -/

theorem window_idx {s t : Shape} (window strides lo hi : Fin s.rank → ℕ) (h : s.ReduceWindows window strides lo hi t) (x : s.Idx → EReal) (j : t.Idx) :
    Ideal.hostReduceWindowAdd window strides lo hi h x 0 j
      = ∑ k : (⟨s.rank, window⟩ : Shape).Idx, (if hin : ∀ a, lo a ≤ (j (a.cast h.1.symm)).val * strides a + (k a).val ∧ (j (a.cast h.1.symm)).val * strides a + (k a).val - lo a < s.size a
        then x (fun a => ⟨_, (hin a).2⟩) else 0) := by
  unfold Ideal.hostReduceWindowAdd Host.reduceWindow
  rw [sum_idx_eq_foldl (M := EReal) (⟨s.rank, window⟩ : Shape)]
  dsimp only
  congr!

theorem window_sum (lo hi : Fin 3 → ℕ) (hw : S8x4096x4096.ReduceWindows ![1, 1, 4096] ![1, 1, 1] lo hi S8x4096x4096) (x : FVec Ideal S8x4096x4096 .f32) (init : FVec Ideal S_ .f32)
    (hi0 : ∀ i, init i = 0) (j : S8x4096x4096.Idx) :
    Host.reduceWindowAdd ![1, 1, 4096] ![1, 1, 1] lo hi x init hw h_S_ j
      = ∑ n : Fin 4096, (if hin : ∀ a : Fin 3, lo a ≤ (j a).val * (![1, 1, 1] : Fin 3 → ℕ) a + ((ix3 (0 : Fin 1) (0 : Fin 1) n : (⟨3, ![1, 1, 4096]⟩ : Shape).Idx) a).val
          ∧ (j a).val * (![1, 1, 1] : Fin 3 → ℕ) a + ((ix3 (0 : Fin 1) (0 : Fin 1) n : (⟨3, ![1, 1, 4096]⟩ : Shape).Idx) a).val - lo a < S8x4096x4096.size a
        then (x (fun a => ⟨_, (hin a).2⟩) : EReal) else 0) := by
  unfold Host.reduceWindowAdd
  rw [hi0, Ideal.hostReduceWindowAdd_def]
  rw [window_idx]
  exact (sum_idx3 (M := EReal) _).trans (by rw [Fin.sum_univ_one, Fin.sum_univ_one]; rfl)

theorem window_real (lo hi : Fin 3 → ℕ) (hw : S8x4096x4096.ReduceWindows ![1, 1, 4096] ![1, 1, 1] lo hi S8x4096x4096) (x : FVec Ideal S8x4096x4096 .f32) (init : FVec Ideal S_ .f32)
    (hi0 : ∀ i, init i = 0) (hx : ∀ i, ∃ r : ℝ, x i = (r : EReal)) (j : S8x4096x4096.Idx) :
    ∃ r : ℝ, Host.reduceWindowAdd ![1, 1, 4096] ![1, 1, 1] lo hi x init hw h_S_ j = (r : EReal) := by
  rw [window_sum lo hi hw x init hi0 j]
  refine sum_real _ fun n => ?_
  split
  · exact hx _
  · exact ⟨0, EReal.coe_zero.symm⟩

theorem sum_tail (f : ℕ → ℝ) (s : ℕ) (hs : s < 4096) : (∑ n ∈ range 4096, if 4095 ≤ s + n then f (s + n - 4095) else 0) = ∑ n ∈ range (s + 1), f n := by
  have h4 : 4096 = (4095 - s) + (s + 1) := by omega
  rw [h4, Finset.sum_range_add, Finset.sum_eq_zero (s := range (4095 - s)), zero_add]
  · refine Finset.sum_congr rfl fun n hn => ?_
    rw [Finset.mem_range] at hn
    rw [if_pos (by omega), show s + (4095 - s + n) - 4095 = n by omega]
  · intro n hn
    rw [Finset.mem_range] at hn
    rw [if_neg (by omega)]

theorem window_fwd (hw : S8x4096x4096.ReduceWindows ![1, 1, 4096] ![1, 1, 1] ![0, 0, 4095] ![0, 0, 0] S8x4096x4096) (x : FVec Ideal S8x4096x4096 .f32) (init : FVec Ideal S_ .f32)
    (hi0 : ∀ i, init i = 0) (f : ℕ → ℕ → ℕ → ℝ) (hx : ∀ (h : Fin 8) (t s : Fin 4096), x (ix3 h t s) = ((f h.val t.val s.val : ℝ) : EReal)) (h : Fin 8) (t s : Fin 4096) :
    Host.reduceWindowAdd ![1, 1, 4096] ![1, 1, 1] ![0, 0, 4095] ![0, 0, 0] x init hw h_S_ (ix3 h t s) = ((∑ s' ∈ range (s.val + 1), f h.val t.val s' : ℝ) : EReal) := by
  rw [window_sum _ _ hw x init hi0]
  have e : ∀ n : Fin 4096, (if hin : ∀ a : Fin 3, (![0, 0, 4095] : Fin 3 → ℕ) a ≤ ((ix3 h t s : S8x4096x4096.Idx) a).val * (![1, 1, 1] : Fin 3 → ℕ) a + ((ix3 (0 : Fin 1) (0 : Fin 1) n : (⟨3, ![1, 1, 4096]⟩ : Shape).Idx) a).val
          ∧ ((ix3 h t s : S8x4096x4096.Idx) a).val * (![1, 1, 1] : Fin 3 → ℕ) a + ((ix3 (0 : Fin 1) (0 : Fin 1) n : (⟨3, ![1, 1, 4096]⟩ : Shape).Idx) a).val - (![0, 0, 4095] : Fin 3 → ℕ) a < S8x4096x4096.size a
        then (x (fun a => ⟨_, (hin a).2⟩) : EReal) else 0) = ((if 4095 ≤ s.val + n.val then f h.val t.val (s.val + n.val - 4095) else 0 : ℝ) : EReal) := by
    intro n
    by_cases hs : 4095 ≤ s.val + n.val
    · have hin : ∀ a : Fin 3, (![0, 0, 4095] : Fin 3 → ℕ) a ≤ ((ix3 h t s : S8x4096x4096.Idx) a).val * (![1, 1, 1] : Fin 3 → ℕ) a + ((ix3 (0 : Fin 1) (0 : Fin 1) n : (⟨3, ![1, 1, 4096]⟩ : Shape).Idx) a).val
          ∧ ((ix3 h t s : S8x4096x4096.Idx) a).val * (![1, 1, 1] : Fin 3 → ℕ) a + ((ix3 (0 : Fin 1) (0 : Fin 1) n : (⟨3, ![1, 1, 4096]⟩ : Shape).Idx) a).val - (![0, 0, 4095] : Fin 3 → ℕ) a < S8x4096x4096.size a := by
        intro a
        match a with
        | ⟨0, _⟩ => exact ⟨Nat.zero_le _, by show h.val * 1 + 0 - 0 < 8; omega⟩
        | ⟨1, _⟩ => exact ⟨Nat.zero_le _, by show t.val * 1 + 0 - 0 < 4096; omega⟩
        | ⟨2, _⟩ => exact ⟨by show 4095 ≤ s.val * 1 + n.val; omega, by show s.val * 1 + n.val - 4095 < 4096; omega⟩
      rw [dif_pos hin, if_pos hs]
      refine Eq.trans (congrArg x ?_) (hx h t ⟨s.val + n.val - 4095, by omega⟩)
      funext a
      match a with
      | ⟨0, _⟩ => exact Fin.ext (by show h.val * 1 + 0 - 0 = h.val; omega)
      | ⟨1, _⟩ => exact Fin.ext (by show t.val * 1 + 0 - 0 = t.val; omega)
      | ⟨2, _⟩ => exact Fin.ext (by show s.val * 1 + n.val - 4095 = s.val + n.val - 4095; omega)
    · rw [dif_neg (fun hin => hs (by have := (hin 2).1; change 4095 ≤ s.val * 1 + n.val at this; omega)), if_neg hs, EReal.coe_zero]
  rw [Finset.sum_congr rfl fun n _ => e n, sum_coe, Fin.sum_univ_eq_sum_range (fun n => if 4095 ≤ s.val + n then f h.val t.val (s.val + n - 4095) else (0 : ℝ)) 4096]
  exact congrArg _ (sum_tail (fun n => f h.val t.val n) s.val s.isLt)

/-! ### The stages -/

section Stages

variable {x0 x1 x2 x4 : FVec Ideal S4096x512 .f32} {q k v o : ℕ → ℕ → ℝ}

abbrev hd (h : Fin 8) (d : Fin 64) : Fin 512 := ⟨64 * h.val + d.val, by omega⟩

theorem v1_at (x : FVec Ideal S4096x512 .f32) (h : Fin 8) (t : Fin 4096) (d : Fin 64) : val_main_v1 (F := Ideal) x (ix3 h t d) = x (ix2 t (hd h d)) := by
  rw [val_main_v1_apply, val_main_v0_apply]
  exact congrArg x (funext fun a => match a with
    | ⟨0, _⟩ => Fin.ext (by show ((t.val * 8 + h.val) * 64 + d.val) / 512 = t.val; omega)
    | ⟨1, _⟩ => Fin.ext (by show ((t.val * 8 + h.val) * 64 + d.val) % 512 = 64 * h.val + d.val; omega))

theorem v3_at (x : FVec Ideal S4096x512 .f32) (h : Fin 8) (t : Fin 4096) (d : Fin 64) : val_main_v3 (F := Ideal) x (ix3 h t d) = x (ix2 t (hd h d)) := v1_at x h t d
theorem v23_at (x : FVec Ideal S4096x512 .f32) (h : Fin 8) (t : Fin 4096) (d : Fin 64) : val_main_v23 (F := Ideal) x (ix3 h t d) = x (ix2 t (hd h d)) := v1_at x h t d
theorem v28_at (x : FVec Ideal S4096x512 .f32) (h : Fin 8) (t : Fin 4096) (d : Fin 64) : val_main_v28 (F := Ideal) x (ix3 h t d) = x (ix2 t (hd h d)) := v1_at x h t d

theorem mask_at (t s : Fin 4096) : val_main_v12 (F := Ideal) (ix2 t s) = BitVec.ofBool (decide (s.val < t.val)) := by
  rw [val_main_v12_apply, val_main_v10_apply, val_main_v11_apply, val_main_v8_apply, val_main_v9_apply, val_main_v7_apply, val_main_v7_apply]
  exact WordCmp.cmpi_slt_ofNat (by show s.val < 2 ^ 31; omega) (by show t.val < 2 ^ 31; omega)

theorem mask16_at (h : Fin 8) (t s : Fin 4096) : val_main_v16_1 (F := Ideal) (ix3 h t s) = BitVec.ofBool (decide (s.val < t.val)) := (val_main_v16_1_apply _).trans (mask_at t s)
theorem mask21_at (h : Fin 8) (t s : Fin 4096) : val_main_v21_1 (F := Ideal) (ix3 h t s) = BitVec.ofBool (decide (s.val < t.val)) := (val_main_v21_1_apply _).trans (mask_at t s)

theorem lse0_at (i : S8x4096x4096.Idx) : val_main_call0_v1_0 (F := Ideal) x0 x1 i = lseE (-(val_main_v6 (F := Ideal) x0 x1 i)) := by
  simp only [val_main_call0_v1_0_apply, val_main_call0_call0_v4_apply, val_main_call0_call0_v6_apply, val_main_call0_call0_v11_apply, val_main_call0_call0_v3_apply, val_main_call0_call0_v1_apply,
    val_main_call0_call0_v10_apply, val_main_call0_call0_v9_apply, val_main_call0_call0_v8_apply, val_main_call0_call0_v7_apply, val_main_call0_call0_v0_apply, val_main_call0_call0_v2_apply, val_main_call0_call0_v5_apply,
    val_main_call0_call0_cst_apply, val_main_call0_v0_apply]
  rfl

theorem lse1_at (i : S8x4096x4096.Idx) : val_main_call1_v1_0 (F := Ideal) x0 x1 i = lseE (-(-(val_main_v6 (F := Ideal) x0 x1 i))) := by
  simp only [val_main_call1_v1_0_apply, val_main_call1_call0_v4_apply, val_main_call1_call0_v6_apply, val_main_call1_call0_v11_apply, val_main_call1_call0_v3_apply, val_main_call1_call0_v1_apply,
    val_main_call1_call0_v10_apply, val_main_call1_call0_v9_apply, val_main_call1_call0_v8_apply, val_main_call1_call0_v7_apply, val_main_call1_call0_v0_apply, val_main_call1_call0_v2_apply, val_main_call1_call0_v5_apply,
    val_main_call1_call0_cst_apply, val_main_call1_v0_apply, val_main_v14_apply]
  rfl

section

variable (hq : ∀ (t : Fin 4096) (j : Fin 512), x0 (ix2 t j) = ((q t.val j.val : ℝ) : EReal)) (hk : ∀ (t : Fin 4096) (j : Fin 512), x1 (ix2 t j) = ((k t.val j.val : ℝ) : EReal))
include hq hk

theorem z_at (h : Fin 8) (t s : Fin 4096) : val_main_v6 (F := Ideal) x0 x1 (ix3 h t s) = ((gZ q k h.val t.val s.val : ℝ) : EReal) := by
  rw [val_main_v6_apply, val_main_v5_apply, val_main_cst_apply]
  show val_main_v4 (F := Ideal) x0 x1 (ix3 h t s) * Cert.SbBwdIdeal.Pay.cE = _
  rw [Cert.SbBwdIdeal.Walk.cE_eq, val_main_v4_apply]
  have e : ∀ d : Fin 64, val_main_v1 (F := Ideal) x0 (lidx_main_v4 (ix3 h t s) d) * val_main_v3 (F := Ideal) x1 (ridx_main_v4 (ix3 h t s) d) = ((q t.val (64 * h.val + d.val) * k s.val (64 * h.val + d.val) : ℝ) : EReal) := fun d => by
    rw [EReal.coe_mul]
    exact congrArg₂ (· * ·) ((v1_at x0 h t d).trans (hq _ _)) ((v3_at x1 h s d).trans (hk _ _))
  rw [Finset.sum_congr rfl fun d _ => e d, sum_coe, ← EReal.coe_mul, Fin.sum_univ_eq_sum_range (fun d => q t.val (64 * h.val + d) * k s.val (64 * h.val + d)) 64, Finset.sum_mul]
  unfold gZ
  exact congrArg _ (Finset.sum_congr rfl fun d _ => by ring)

theorem v13_1_at (h : Fin 8) (t s : Fin 4096) : val_main_v13_1 (F := Ideal) x0 x1 (ix3 h t s) = ((1 - sg (gZ q k h.val t.val s.val) : ℝ) : EReal) := by
  simp only [val_main_v13_1_apply, val_main_call0_call0_v21_apply, val_main_call0_call0_v16_apply, val_main_call0_call0_v20_apply, val_main_call0_call0_v14_apply, val_main_call0_call0_v18_apply,
    val_main_call0_call0_v13_apply, val_main_call0_call0_v17_apply, val_main_call0_call0_cst_0_apply, val_main_call0_call0_cst_2_apply, val_main_call0_v0_apply, lse0_at, z_at hq hk]
  show Ideal.exp (FloatOps.subf (F := Ideal) (φ := .f32) (Scalar.select (FloatOps.cmpf (F := Ideal) (φ := .f32) .oeq (-((gZ q k h.val t.val s.val : ℝ) : EReal)) _) _ (-((gZ q k h.val t.val s.val : ℝ) : EReal))) _) = _
  rw [← EReal.coe_neg, lseE_coe, select_inf, select_inf]
  show Ideal.exp (((-gZ q k h.val t.val s.val : ℝ) : EReal) - ((lse (-gZ q k h.val t.val s.val) : ℝ) : EReal)) = _
  rw [← EReal.coe_sub, Ideal.exp_coe, exp_sub_lse, sg_neg]

theorem v15_1_at (h : Fin 8) (t s : Fin 4096) : val_main_v15_1 (F := Ideal) x0 x1 (ix3 h t s) = ((sg (gZ q k h.val t.val s.val) : ℝ) : EReal) := by
  simp only [val_main_v15_1_apply, val_main_call1_call0_v21_apply, val_main_call1_call0_v16_apply, val_main_call1_call0_v20_apply, val_main_call1_call0_v14_apply, val_main_call1_call0_v18_apply,
    val_main_call1_call0_v13_apply, val_main_call1_call0_v17_apply, val_main_call1_call0_cst_0_apply, val_main_call1_call0_cst_2_apply, val_main_call1_v0_apply, val_main_v14_apply, lse1_at, z_at hq hk]
  show Ideal.exp (FloatOps.subf (F := Ideal) (φ := .f32) (Scalar.select (FloatOps.cmpf (F := Ideal) (φ := .f32) .oeq (-(-((gZ q k h.val t.val s.val : ℝ) : EReal))) _) _ (-(-((gZ q k h.val t.val s.val : ℝ) : EReal)))) _) = _
  rw [neg_neg, lseE_coe, select_inf, select_inf]
  show Ideal.exp (((gZ q k h.val t.val s.val : ℝ) : EReal) - ((lse (gZ q k h.val t.val s.val) : ℝ) : EReal)) = _
  rw [← EReal.coe_sub, Ideal.exp_coe, exp_sub_lse]

theorem v16_real (i : S8x4096x4096.Idx) : ∃ r : ℝ, val_main_v16_0 (F := Ideal) x0 x1 i = (r : EReal) := by
  obtain ⟨h, t, s, rfl⟩ : ∃ (h : Fin 8) (t s : Fin 4096), i = ix3 h t s := ⟨_, _, _, eq_ix3 i⟩
  rw [val_main_v16_0_apply, mask16_at, WordCmp.select_ofBool]
  split
  · rw [val_main_v15_0_apply, lse1_at, z_at hq hk, neg_neg, lseE_coe]
    exact ⟨-lse (gZ q k h.val t.val s.val), (EReal.coe_neg _).symm⟩
  · rw [val_main_call2_v2_apply]
    exact ⟨0, zero_eq⟩

theorem v20_real (i : S8x4096x4096.Idx) : ∃ r : ℝ, val_main_v20 (F := Ideal) x0 x1 i = (r : EReal) := by
  obtain ⟨a, ha⟩ := window_real ![0, 0, 0] ![0, 0, 4095] reduceWindows_S8x4096x4096_S8x4096x4096_w1s1p0_0_w1s1p0_0_w4096s1p0_4095 (val_main_v16_0 (F := Ideal) x0 x1) (val_main_call3_v0 (F := Ideal))
    (fun i => (val_main_call3_v0_apply i).trans Ideal.ofBits_zero_f32) (v16_real hq hk) i
  obtain ⟨b, hb⟩ := v16_real hq hk i
  obtain ⟨h, t, s, rfl⟩ : ∃ (h : Fin 8) (t s : Fin 4096), i = ix3 h t s := ⟨_, _, _, eq_ix3 i⟩
  rw [val_main_v20_apply, val_main_v19_apply, val_main_v18_apply, val_main_v13_0_apply, lse0_at, z_at hq hk, hb]
  unfold val_main_v17
  rw [ha, ← EReal.coe_neg, lseE_coe]
  exact ⟨Real.exp (-lse (-gZ q k h.val t.val s.val) + (a - b)), rfl⟩

/-- The attention's weights, as reals. -/
def W (x0 x1 : FVec Ideal S4096x512 .f32) (h t s : ℕ) : ℝ :=
  if b : (h < 8 ∧ t < 4096 ∧ s < 4096) ∧ s < t then (val_main_v20 (F := Ideal) x0 x1 (ix3 ⟨h, b.1.1⟩ ⟨t, b.1.2.1⟩ ⟨s, b.1.2.2⟩)).toReal else 0

omit hq hk in
theorem W_zero (h t s : ℕ) (hs : t ≤ s) : W x0 x1 h t s = 0 := dif_neg (fun b => absurd b.2 (by omega))

theorem v20_at (h : Fin 8) (t s : Fin 4096) (hs : s.val < t.val) : val_main_v20 (F := Ideal) x0 x1 (ix3 h t s) = ((W x0 x1 h.val t.val s.val : ℝ) : EReal) := by
  obtain ⟨r, hr⟩ := v20_real hq hk (ix3 h t s)
  unfold W
  rw [dif_pos ⟨⟨h.isLt, t.isLt, s.isLt⟩, hs⟩]
  show val_main_v20 (F := Ideal) x0 x1 (ix3 h t s) = ((val_main_v20 (F := Ideal) x0 x1 (ix3 h t s)).toReal : EReal)
  rw [hr, EReal.toReal_coe]

theorem w_at (h : Fin 8) (t s : Fin 4096) : val_main_v21_0 (F := Ideal) x0 x1 (ix3 h t s) = ((W x0 x1 h.val t.val s.val : ℝ) : EReal) := by
  rw [val_main_v21_0_apply, mask21_at, WordCmp.select_ofBool]
  by_cases hs : s.val < t.val
  · rw [if_pos (decide_eq_true hs)]
    exact v20_at hq hk h t s hs
  · rw [if_neg (by simpa using hs), W_zero _ _ _ (by omega), val_main_call4_v2_apply]
    exact zero_eq

section Grad

variable (hv : ∀ (t : Fin 4096) (j : Fin 512), x2 (ix2 t j) = ((v t.val j.val : ℝ) : EReal)) (ho : ∀ (t : Fin 4096) (j : Fin 512), x4 (ix2 t j) = ((o t.val j.val : ℝ) : EReal))
include hv ho

omit hq hk in
theorem v31_at (h : Fin 8) (t s : Fin 4096) : val_main_v31 (F := Ideal) x2 x4 (ix3 h t s) = ((∑ d ∈ range 64, o t.val (64 * h.val + d) * v s.val (64 * h.val + d) : ℝ) : EReal) := by
  rw [val_main_v31_apply]
  have e : ∀ d : Fin 64, val_main_v28 (F := Ideal) x4 (lidx_main_v31 (ix3 h t s) d) * val_main_v23 (F := Ideal) x2 (ridx_main_v31 (ix3 h t s) d) = ((o t.val (64 * h.val + d.val) * v s.val (64 * h.val + d.val) : ℝ) : EReal) := fun d => by
    rw [EReal.coe_mul]
    exact congrArg₂ (· * ·) ((v28_at x4 h t d).trans (ho _ _)) ((v23_at x2 h s d).trans (hv _ _))
  rw [Finset.sum_congr rfl fun d _ => e d, sum_coe, Fin.sum_univ_eq_sum_range (fun d => o t.val (64 * h.val + d) * v s.val (64 * h.val + d)) 64]

theorem g_at (h : Fin 8) (t s : Fin 4096) : val_main_v35 (F := Ideal) x0 x1 x2 x4 (ix3 h t s) = ((gG v o (W x0 x1) h.val t.val s.val : ℝ) : EReal) := by
  rw [val_main_v35_apply, val_main_v34_apply, mask21_at, WordCmp.select_ofBool]
  unfold gG
  by_cases hs : s.val < t.val
  · rw [if_pos (decide_eq_true hs), v31_at hv ho, v20_at hq hk h t s hs, mul_comm (W _ _ _ _ _), EReal.coe_mul]
    rfl
  · obtain ⟨r, hr⟩ := v20_real hq hk (ix3 h t s)
    rw [if_neg (by simpa using hs), W_zero _ _ _ (by omega), val_main_call5_v0_apply, hr, zero_mul]
    show FloatOps.ofBits (F := Ideal) .f32 0x00000000#32 * (r : EReal) = _
    rw [zero_eq, ← EReal.coe_mul, zero_mul]

theorem cum_at (h : Fin 8) (t s : Fin 4096) : val_main_v37 (F := Ideal) x0 x1 x2 x4 (ix3 h t s) = ((∑ s' ∈ range (s.val + 1), gG v o (W x0 x1) h.val t.val s' : ℝ) : EReal) := by
  unfold val_main_v37
  exact window_fwd _ _ _ (fun i => (val_main_call6_v0_apply i).trans Ideal.ofBits_zero_f32) (gG v o (W x0 x1)) (g_at hq hk hv ho) h t s

theorem dz_at (h : Fin 8) (t s : Fin 4096) : val_main_v43 (F := Ideal) x0 x1 x2 x4 (ix3 h t s) = ((dZ q k v o (W x0 x1) h.val t.val s.val : ℝ) : EReal) := by
  rw [val_main_v43_apply, val_main_v41_apply, val_main_v42_apply, val_main_v40_apply, val_main_call8_v1_apply, val_main_call9_v1_apply, val_main_call8_v0_apply, val_main_call9_v0_apply,
    v13_1_at hq hk, v15_1_at hq hk, g_at hq hk hv ho, val_main_v39_apply, mask16_at, WordCmp.select_ofBool]
  unfold dZ
  by_cases hs : s.val < t.val
  · rw [if_pos (decide_eq_true hs), if_pos hs, val_main_v38_apply, val_main_v36_apply, g_at hq hk hv ho, cum_at hq hk hv ho]
    show -(-(-(-(((gG v o (W x0 x1) h.val t.val s.val : ℝ) : EReal)) + ((∑ s' ∈ range (s.val + 1), gG v o (W x0 x1) h.val t.val s' : ℝ) : EReal)) * ((sg (gZ q k h.val t.val s.val) : ℝ) : EReal)))
      + -(-((gG v o (W x0 x1) h.val t.val s.val : ℝ) : EReal) * ((1 - sg (gZ q k h.val t.val s.val) : ℝ) : EReal)) = _
    simp only [← EReal.coe_neg, ← EReal.coe_add, ← EReal.coe_mul]
    rw [Finset.sum_range_succ]
    exact congrArg _ (by ring)
  · have hg : gG v o (W x0 x1) h.val t.val s.val = 0 := by unfold gG; rw [W_zero _ _ _ (by omega), zero_mul]
    rw [if_neg (by simpa using hs), if_neg hs, hg, val_main_call7_v0_apply]
    show -(-(-(FloatOps.ofBits (F := Ideal) .f32 0x00000000#32) * ((sg (gZ q k h.val t.val s.val) : ℝ) : EReal)))
      + -(-((0 : ℝ) : EReal) * ((1 - sg (gZ q k h.val t.val s.val) : ℝ) : EReal)) = _
    rw [zero_eq]
    simp only [← EReal.coe_neg, ← EReal.coe_add, ← EReal.coe_mul]
    exact congrArg _ (by ring)

theorem dzs_at (h : Fin 8) (t s : Fin 4096) : val_main_v45 (F := Ideal) x0 x1 x2 x4 (ix3 h t s) = ((dZ q k v o (W x0 x1) h.val t.val s.val * (1 / 8) : ℝ) : EReal) := by
  rw [val_main_v45_apply, dz_at hq hk hv ho, val_main_v44_apply, EReal.coe_mul]
  exact congrArg _ Cert.SbBwdIdeal.Walk.cE_eq

theorem dq_head (h : Fin 8) (t : Fin 4096) (d : Fin 64) :
    val_main_v47 (F := Ideal) x0 x1 x2 x4 (ix3 h t d) = ((∑ s ∈ range 4096, dZ q k v o (W x0 x1) h.val t.val s * k s (64 * h.val + d.val) * (1 / 8) : ℝ) : EReal) := by
  rw [val_main_v47_apply]
  have e : ∀ s : Fin 4096, val_main_v45 (F := Ideal) x0 x1 x2 x4 (lidx_main_v47 (ix3 h t d) s) * val_main_v3 (F := Ideal) x1 (ridx_main_v47 (ix3 h t d) s) = ((dZ q k v o (W x0 x1) h.val t.val s.val * k s.val (64 * h.val + d.val) * (1 / 8) : ℝ) : EReal) := fun s => by
    rw [mul_right_comm, EReal.coe_mul _ (k _ _)]
    exact congrArg₂ (· * ·) ((congrArg _ (eq_ix3 _)).trans (dzs_at hq hk hv ho h t s)) ((v3_at x1 h s d).trans (hk _ _))
  rw [Finset.sum_congr rfl fun s _ => e s, sum_coe, Fin.sum_univ_eq_sum_range (fun s => dZ q k v o (W x0 x1) h.val t.val s * k s (64 * h.val + d.val) * (1 / 8)) 4096]

theorem dk_head (h : Fin 8) (s : Fin 4096) (d : Fin 64) :
    val_main_v46 (F := Ideal) x0 x1 x2 x4 (ix3 h s d) = ((∑ t ∈ range 4096, dZ q k v o (W x0 x1) h.val t s.val * (q t (64 * h.val + d.val) * (1 / 8)) : ℝ) : EReal) := by
  rw [val_main_v46_apply]
  have e : ∀ t : Fin 4096, val_main_v45 (F := Ideal) x0 x1 x2 x4 (lidx_main_v46 (ix3 h s d) t) * val_main_v1 (F := Ideal) x0 (ridx_main_v46 (ix3 h s d) t) = ((dZ q k v o (W x0 x1) h.val t.val s.val * (q t.val (64 * h.val + d.val) * (1 / 8)) : ℝ) : EReal) := fun t => by
    rw [mul_comm (q _ _), ← mul_assoc, EReal.coe_mul _ (q _ _)]
    exact congrArg₂ (· * ·) ((congrArg _ (eq_ix3 _)).trans (dzs_at hq hk hv ho h t s)) ((v1_at x0 h t d).trans (hq _ _))
  rw [Finset.sum_congr rfl fun t _ => e t, sum_coe, Fin.sum_univ_eq_sum_range (fun t => dZ q k v o (W x0 x1) h.val t s.val * (q t (64 * h.val + d.val) * (1 / 8))) 4096]

omit hv in
theorem dv_head (h : Fin 8) (s : Fin 4096) (d : Fin 64) :
    val_main_v30 (F := Ideal) x0 x1 x4 (ix3 h s d) = ((∑ t ∈ range 4096, W x0 x1 h.val t s.val * o t (64 * h.val + d.val) : ℝ) : EReal) := by
  rw [val_main_v30_apply, val_main_v29_apply]
  have e : ∀ t : Fin 4096, val_main_v28 (F := Ideal) x4 (lidx_main_v29 (idx_main_v30 (ix3 h s d)) t) * val_main_v21_0 (F := Ideal) x0 x1 (ridx_main_v29 (idx_main_v30 (ix3 h s d)) t) = ((W x0 x1 h.val t.val s.val * o t.val (64 * h.val + d.val) : ℝ) : EReal) := fun t => by
    rw [mul_comm (W _ _ _ _ _), EReal.coe_mul]
    exact congrArg₂ (· * ·) ((congrArg _ (eq_ix3 _)).trans ((v28_at x4 h t d).trans (ho _ _))) ((congrArg _ (eq_ix3 _)).trans (w_at hq hk h t s))
  rw [Finset.sum_congr rfl fun t _ => e t, sum_coe, Fin.sum_univ_eq_sum_range (fun t => W x0 x1 h.val t s.val * o t (64 * h.val + d.val)) 4096]

omit hq hk hv ho in
/-- The head and the lane of a column. -/
theorem col_split (j : Fin 512) : ∃ (h : Fin 8) (d : Fin 64), j = hd h d ∧ j.val / 64 = h.val := by
  refine ⟨⟨j.val / 64, by omega⟩, ⟨j.val % 64, by omega⟩, Fin.ext ?_, rfl⟩
  show j.val = 64 * (j.val / 64) + j.val % 64
  omega

omit hq hk hv ho in
theorem merge (y : FVec Ideal S8x4096x64 .f32) (t : Fin 4096) (h : Fin 8) (d : Fin 64) : y (idx_main_v48 (idx_main_v49 (ix2 t (hd h d)))) = y (ix3 h t d) :=
  congrArg y (funext fun a => match a with
    | ⟨0, _⟩ => Fin.ext (by show (t.val * 512 + (64 * h.val + d.val)) / 64 % 8 = h.val; omega)
    | ⟨1, _⟩ => Fin.ext (by show (t.val * 512 + (64 * h.val + d.val)) / 512 = t.val; omega)
    | ⟨2, _⟩ => Fin.ext (by show (t.val * 512 + (64 * h.val + d.val)) % 64 = d.val; omega))

theorem dq_at : (val_main_v52 (F := Ideal) x0 x1 x2 x4 : S4096x512.Idx → EReal) = Gq (q := q) (k := k) (v := v) (o := o) (w := W x0 x1) := by
  funext i
  obtain ⟨t, j, rfl⟩ : ∃ (t : Fin 4096) (j : Fin 512), i = ix2 t j := ⟨_, _, eq_ix2 i⟩
  obtain ⟨h, d, rfl, hh⟩ := col_split j
  rw [val_main_v52_apply]
  show val_main_v51 (F := Ideal) x0 x1 x2 x4 (ix2 t (hd h d)) = _
  rw [val_main_v51_apply, val_main_v50_apply]
  refine (merge _ t h d).trans ((dq_head hq hk hv ho h t d).trans ?_)
  unfold Gq
  show _ = ((∑ s ∈ range 4096, dZ q k v o (W x0 x1) ((hd h d).val / 64) t.val s * k s (hd h d).val * (1 / 8) : ℝ) : EReal)
  rw [hh]

theorem dk_at : (val_main_v49 (F := Ideal) x0 x1 x2 x4 : S4096x512.Idx → EReal) = Gk (q := q) (k := k) (v := v) (o := o) (w := W x0 x1) := by
  funext i
  obtain ⟨t, j, rfl⟩ : ∃ (t : Fin 4096) (j : Fin 512), i = ix2 t j := ⟨_, _, eq_ix2 i⟩
  obtain ⟨h, d, rfl, hh⟩ := col_split j
  rw [val_main_v49_apply, val_main_v48_apply]
  refine (merge _ t h d).trans ((dk_head hq hk hv ho h t d).trans ?_)
  unfold Gk
  show _ = ((∑ s ∈ range 4096, dZ q k v o (W x0 x1) ((hd h d).val / 64) s t.val * (q s (hd h d).val * (1 / 8)) : ℝ) : EReal)
  rw [hh]

omit hv in
theorem dv_at : (val_main_v33 (F := Ideal) x0 x1 x4 : S4096x512.Idx → EReal) = Gv (o := o) (w := W x0 x1) := by
  funext i
  obtain ⟨t, j, rfl⟩ : ∃ (t : Fin 4096) (j : Fin 512), i = ix2 t j := ⟨_, _, eq_ix2 i⟩
  obtain ⟨h, d, rfl, hh⟩ := col_split j
  rw [val_main_v33_apply, val_main_v32_apply]
  refine (merge _ t h d).trans ((dv_head hq hk ho h t d).trans ?_)
  unfold Gv
  show _ = ((∑ s ∈ range 4096, W x0 x1 ((hd h d).val / 64) s t.val * o s (hd h d).val : ℝ) : EReal)
  rw [hh]

end Grad

end

end Stages

end Cert.SbBwdRefIdeal.Real

end
-- ==== Proof.SbBwd.Claim.lean ====
/- The claims about the attention's backward call. -/
module

public import proofs.«01_k».proof.Defs
public import proofs.«01_k».proof.Proof.SbBwd.Ref
public import proofs.«01_k».proof.Proof.Gen.SbBwd
public import proofs.«01_k».proof.Proof.Gen.SbBwdRefIdeal.Run
public import proofs.«01_k».proof.Proof.Gen.Pre_finite_sb_bwd

@[expose] public section

set_option maxRecDepth 16384

noncomputable section

namespace Cert.SbBwdClaim

open Idealize.ShloMosaic Idealize.ShloMosaic.TcCoe Idealize.SL.Sem
open Cert.Shared

section Finite
open Cert.Pre_finite_sb_bwd

/-- The precondition, as: every element of these arrays is a real number. -/
theorem finite (a0 a1 a2 : FVec Ideal S4096x512 .f32) (a3 : FVec Ideal S4096x2048 .f32) (a4 : FVec Ideal S4096x512 .f32)
    (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a4 i = (r : EReal)) := by
  have e := congrFun h (fun a => a.elim0)
  unfold fn at e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i),
    fun i => real_of_cmp _ (all_of_reduce _ _ _ _ _ e2 i), fun i => real_of_cmp _ (all_of_reduce _ _ _ _ _ e3 i)⟩

end Finite

/-- An array of reals, by the values of its rows and columns. -/
theorem grid {n k : ℕ} (x : (⟨2, ![n, k]⟩ : Shape).Idx → EReal) (h : ∀ i, ∃ r : ℝ, x i = (r : EReal)) :
    ∃ f : ℕ → ℕ → ℝ, ∀ (t : Fin n) (j : Fin k), x (ix2 t j) = ((f t.val j.val : ℝ) : EReal) := by
  choose g hg using h
  refine ⟨fun t j => if b : t < n ∧ j < k then g (ix2 ⟨t, b.1⟩ ⟨j, b.2⟩) else 0, fun t j => ?_⟩
  rw [hg]
  show _ = ((if b : t.val < n ∧ j.val < k then g (ix2 ⟨t.val, b.1⟩ ⟨j.val, b.2⟩) else 0 : ℝ) : EReal)
  rw [dif_pos ⟨t.isLt, j.isLt⟩]

section Kernel
open Cert.SbBwdIdeal Cert.SbBwdIdeal.Gen Cert.SbBwdIdeal.Body

/-- The frame at the bit-exact floats, of the text both programs share. -/
def FrameBits : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_bits : FrameBits := fun m ρ _ => frame_all (F := Bits) m ρ

end Kernel

theorem frame_same : Cert.quiescent_SbBwd = FrameBits := by sl_kernel_rfl

theorem frame_kernel : Cert.quiescent_SbBwd := frame_same.mpr frame_bits

theorem frame_ideal : Cert.quiescent_SbBwdIdeal := fun m ρ _ => Cert.SbBwdIdeal.Body.frame_all (F := Ideal) m ρ

theorem frame_ref : Cert.quiescent_SbBwdRefIdeal := fun m g _ =>
  (θ_run _ _ _).mono (fun r h => ⟨fun c => (h c).2.2.2, sem_eq_zero_of_no_sems (by decide) r.2⟩) (Cert.SbBwdRefIdeal.Value.run m g)

section Algebraic
open Cert.SbBwdIdeal Cert.SbBwdIdeal.Gen Cert.SbBwdIdeal.Body Cert.SbBwdIdeal.Entry
open Cert.SbBwdIdeal.Value (Gq Gk Gv final5 final6 final7)
open Cert.SbBwdRefIdeal.Real (W W_zero w_at dq_at dk_at dv_at)

theorem algebraic : Cert.algebraic_SbBwdIdeal_SbBwdRefIdeal_pre_finite_sb_bwd := by
  intro m g m' g' hpre hag
  have hex := fun c : Dev nD => finite _ _ _ _ _ (hpre c)
  choose q hq using fun c => grid (aQ m c) (hex c).1
  choose k hk using fun c => grid (aK m c) (hex c).2.1
  choose v hv using fun c => grid (aV m c) (hex c).2.2.1
  choose o ho using fun c => grid (aO m c) (hex c).2.2.2
  have hw := fun c => w_at (hq c) (hk c)
  refine ⟨fun c => Gq (q := q c) (k := k c) (v := v c) (o := o c) (w := W (aQ m c) (aK m c)), fun c => Gk (q := q c) (k := k c) (v := v c) (o := o c) (w := W (aQ m c) (aK m c)), fun c => Gv (o := o c) (w := W (aQ m c) (aK m c)),
    (θ_run _ _ _).mono (fun r h c => ?_) (θ_run_and (run_all m g) (frame_all m g)), (θ_run _ _ _).mono (fun r h c => ?_) (Cert.SbBwdRefIdeal.Value.run m' g')⟩
  · obtain ⟨⟨hp, -⟩, hf, -⟩ := h
    exact ⟨((hp c).1 5).trans (final5 m c (hq c) (hk c) (hv c) (ho c) (hw c) W_zero), ((hp c).1 6).trans (final6 m c (hq c) (hk c) (hv c) (ho c) (hw c) W_zero),
      ((hp c).1 7).trans (final7 m c (hq c) (hk c) (hv c) (ho c) (hw c) W_zero), hf c⟩
  · obtain ⟨e5, e6, e7, e⟩ := h c
    obtain ⟨a0, a1, a2, a3, a4⟩ := hag c
    refine ⟨e5.trans ?_, e6.trans ?_, e7.trans ?_, e⟩
    · rw [Cert.SbBwdRefIdeal.Read.val_main_v52_eq, a0, a1, a2, a4]
      exact dq_at (hq c) (hk c) (hv c) (ho c)
    · rw [Cert.SbBwdRefIdeal.Read.val_main_v49_eq, a0, a1, a2, a4]
      exact dk_at (hq c) (hk c) (hv c) (ho c)
    · rw [Cert.SbBwdRefIdeal.Read.val_main_v33_eq, a0, a1, a4]
      exact dv_at (hq c) (hk c) (ho c)

end Algebraic

end Cert.SbBwdClaim

end
-- ==== Proof.FfnIn.Pay.lean ====
/- What the body of `ffn_in` stores, read at an element. -/
module

public import proofs.«01_k».proof.Proof.Shared.Norm
public import proofs.«01_k».proof.Proof.Gen.FfnInIdeal.Skeleton
public import Idealize.ShloMosaic.Lib.Pointwise

@[expose] public section

set_option maxRecDepth 16384

noncomputable section

namespace Cert.FfnInIdeal.Pay

open Idealize.ShloMosaic Idealize.ShloMosaic.TcCoe Idealize.SL.Sem
open Cert.FfnInIdeal Cert.FfnInIdeal.Gen Cert.Shared

variable (da : FVec Ideal S512x2816 .bf16) (wg : FVec Ideal S2816x1024 .bf16) (db : FVec Ideal S512x2816 .bf16) (wu : FVec Ideal S2816x1024 .bf16)
  (x dr : FVec Ideal S512x1024 .f32) (g : FVec Ideal S1x1024 .f32)

theorem dx (r : Fin 512) (j : Fin 1024) :
    k0_pay1 (F := Ideal) (k0_pay3 x) (k0_pay4 x) (k0_pay7 da wg db wu g) dr (ix2 r j)
      = dxK cN (fun k => x (ix2 r k)) (fun k => (∑ l : Fin 2816, da (ix2 r l) * wg (ix2 l k)) + ∑ l : Fin 2816, db (ix2 r l) * wu (ix2 l k))
          (fun k => g (ix2 0 k)) (dr (ix2 r j)) j := by
  unfold dxK rstd ms
  pointwise! [k0_pay1, k0_pay2, k0_pay3, k0_pay4, k0_pay7]

theorem gain (a : Fin 1) (j : Fin 1024) :
    k0_pay5 (F := Ideal) da wg db wu x (ix2 a j)
      = ∑ r : Fin 512, ((∑ l : Fin 2816, da (ix2 r l) * wg (ix2 l j)) + ∑ l : Fin 2816, db (ix2 r l) * wu (ix2 l j)) * (x (ix2 r j) * rstd cN (fun k => x (ix2 r k))) := by
  unfold rstd ms
  pointwise! [k0_pay5, k0_pay2, k0_pay3, k0_pay4]

theorem gain_add (v : FVec Ideal S1x1024 .f32) (i : S1x1024.Idx) :
    k0_pay6 (F := Ideal) da wg db wu x v i = v i + k0_pay5 (F := Ideal) da wg db wu x i := by
  pointwise [k0_pay6]

end Cert.FfnInIdeal.Pay

end
-- ==== Proof.FfnIn.Value.lean ====
/- What the arrays of `ffn_in` hold after its run. -/
module

public import proofs.«01_k».proof.Proof.FfnIn.Pay
public import proofs.«01_k».proof.Proof.Gen.FfnInIdeal.Value
public import Idealize.ShloMosaic.Lib.Pipeline.ValueKit

@[expose] public section

set_option maxRecDepth 16384

noncomputable section

namespace Cert.FfnInIdeal.Fin

open Idealize.ShloMosaic Idealize.ShloMosaic.TcCoe Idealize.SL.Sem
open Idealize.ShloMosaic.Pipeline (Dat)
open Cert.FfnInIdeal Cert.FfnInIdeal.Gen Cert.Shared

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![t.val, 0] ∧ win0_8.index t = ![0, 0] :=
  (by decide +kernel : ∀ t : Fin grid0.N, _)

/-- The arrays the kernel's windows read, and the row of a block's row. -/
abbrev aD : FVec Ideal S4096x1024 .f32 := V m c main_arg0
abbrev aX : FVec Ideal S4096x1024 .f32 := V m c main_arg1
abbrev aG : FVec Ideal S1x1024 .f32 := V m c main_arg2
abbrev aA : FVec Ideal S4096x2816 .bf16 := V m c main_arg3
abbrev aB : FVec Ideal S4096x2816 .bf16 := V m c main_arg4
abbrev aWg : FVec Ideal S2816x1024 .bf16 := V m c main_v1
abbrev aWu : FVec Ideal S2816x1024 .bf16 := V m c main_v3

theorem t_lt (t : Fin cfg0.N) : t.val < 8 := lt_of_lt_of_eq t.isLt N_0
def row (t : Fin cfg0.N) (r : Fin 512) : Fin 4096 := ⟨t.val * 512 + r.val, by have := t_lt t; omega⟩

theorem blk0 (t : Fin cfg0.N) (r : Fin 512) (k : Fin 1024) : iblk m c 0 t (ix2 r k) = aD m c (ix2 (row t r) k) := by
  blk_point [iblk, V, idx t, row]
theorem blk1 (t : Fin cfg0.N) (r : Fin 512) (k : Fin 1024) : iblk m c 1 t (ix2 r k) = aX m c (ix2 (row t r) k) := by
  blk_point [iblk, V, idx t, row]
theorem blk2 (t : Fin cfg0.N) (a : Fin 1) (k : Fin 1024) : iblk m c 2 t (ix2 a k) = aG m c (ix2 a k) := by
  blk_point [iblk, V, idx t, row]
theorem blk3 (t : Fin cfg0.N) (r : Fin 512) (l : Fin 2816) : iblk m c 3 t (ix2 r l) = aA m c (ix2 (row t r) l) := by
  blk_point [iblk, V, idx t, row]
theorem blk4 (t : Fin cfg0.N) (r : Fin 512) (l : Fin 2816) : iblk m c 4 t (ix2 r l) = aB m c (ix2 (row t r) l) := by
  blk_point [iblk, V, idx t, row]
theorem blk5 (t : Fin cfg0.N) (l : Fin 2816) (k : Fin 1024) : iblk m c 5 t (ix2 l k) = aWg m c (ix2 l k) := by
  blk_point [iblk, V, idx t, row]
theorem blk6 (t : Fin cfg0.N) (l : Fin 2816) (k : Fin 1024) : iblk m c 6 t (ix2 l k) = aWu m c (ix2 l k) := by
  blk_point [iblk, V, idx t, row]
theorem emb7 (t : Fin cfg0.N) (r : Fin 512) (k : Fin 1024) : ((cfg0.win 7).blk t).view.emb (ix2 r k) = ix2 (row t r) k := by
  blk_ext [idx t, row]

abbrev dh (r : Fin 4096) (k : Fin 1024) : EReal :=
  (∑ l : Fin 2816, aA m c (ix2 r l) * aWg m c (ix2 l k)) + ∑ l : Fin 2816, aB m c (ix2 r l) * aWu m c (ix2 l k)

/-- The gradients of the input and of the gain. -/
def G7 : FVec Ideal S4096x1024 .f32 := fun i =>
  dxK cN (fun k => aX m c (ix2 (i 0) k)) (dh m c (i 0)) (fun k => aG m c (ix2 0 k)) (aD m c (ix2 (i 0) (i 1))) (i 1)
def G8 : FVec Ideal S1x1024 .f32 := fun i =>
  ∑ r : Fin 4096, dh m c r (i 1) * (aX m c (ix2 r (i 1)) * rstd cN (fun k => aX m c (ix2 r k)))

theorem point7 (t : Fin cfg0.N) (y) :
    k0_pay1 (F := Ideal) (k0_pay3 (iblk m c 1 t)) (k0_pay4 (iblk m c 1 t)) (k0_pay7 (iblk m c 3 t) (iblk m c 5 t) (iblk m c 4 t) (iblk m c 6 t) (iblk m c 2 t)) (iblk m c 0 t) y
      = G7 m c (((cfg0.win 7).blk t).view.emb y) := by
  idx_vars y
  rw [Pay.dx, emb7]
  simp only [blk0, blk1, blk2, blk3, blk4, blk5, blk6]
  rfl

theorem final7 : (dats m 0 c).arrAt 7 cfg0.N = G7 m c := by
  refine (dats m 0 c).arrAt_eq_of_covers 7 (G7 m c) (by decide +kernel) fun t _ y => ?_
  blk_simp
  rw [after0_7]
  by_cases h : t.val % 8 = 0
  · have h1 : ¬ 1 ≤ t.val := by have := t_lt t; omega
    rw [outsAt0_A m c t h h1]; frame_out
    exact point7 m c t y
  · have h1 : 1 ≤ t.val := by omega
    rw [outsAt0_B m c t h h1]; frame_out
    exact point7 m c t y

/-- What one block adds to the gain's gradient. -/
def part (t : Fin cfg0.N) (j : S1x1024.Idx) : EReal :=
  k0_pay5 (F := Ideal) (iblk m c 3 t) (iblk m c 5 t) (iblk m c 4 t) (iblk m c 6 t) (iblk m c 1 t) j

theorem part_eq (t : Fin cfg0.N) (a : Fin 1) (j : Fin 1024) : part m c t (ix2 a j)
    = ∑ r : Fin 512, dh m c (row t r) j * (aX m c (ix2 (row t r) j) * rstd cN (fun k => aX m c (ix2 (row t r) k))) := by
  unfold part
  rw [Pay.gain]
  simp only [blk0, blk1, blk2, blk3, blk4, blk5, blk6]

theorem final8 : (dats m 0 c).arrAt 8 cfg0.N = G8 m c := by
  refine (dats m 0 c).arrAt_eq_of_after_last 8 t0_7 (by decide +kernel) _ fun j => ?_
  blk_simp
  rw [after0_8, Pipeline.eq_sum_fin_of_reset_step_apply_last (fun n h => (outsAt0 m c n h).2) 8 (fun _ => 0) (part m c)
    (fun t h j => by
      have h1 : ¬ 1 ≤ t.val := by have := t_lt t; omega
      rw [outsAt0_A m c t h h1]; frame_out; exact (zero_add _).symm)
    (fun t h j => by
      have h1 : 1 ≤ t.val := by omega
      rw [outsAt0_B m c t h h1]; frame_out; exact Pay.gain_add _ _ _ _ _ _ _)
    (le_of_eq N_0) t0_7 rfl j, zero_add]
  idx_vars j
  simp only [part_eq]
  unfold G8
  refine Fin.sum_mul_add_congr fun s k hl => ?_
  rfl

end Cert.FfnInIdeal.Fin

end
-- ==== Proof.FfnIn.Ref.lean ====
/- What the reference of `ffn_in` returns, read at an element. -/
module

public import proofs.«01_k».proof.Proof.Shared.Norm
public import proofs.«01_k».proof.Proof.Gen.FfnInRefIdeal.Read
public import Idealize.ShloMosaic.Lib.Pointwise

@[expose] public section

set_option maxRecDepth 16384

noncomputable section

namespace Cert.FfnInRefIdeal.Spec

open Idealize.ShloMosaic Idealize.ShloMosaic.TcCoe Idealize.SL.Sem
open Cert.FfnInRefIdeal Cert.FfnInRefIdeal.Gen Cert.FfnInRefIdeal.Read Cert.Shared

variable (x0 x1 : FVec Ideal S4096x1024 .f32) (x2 : FVec Ideal S1x1024 .f32) (x3 x4 : FVec Ideal S4096x2816 .bf16) (x5 x6 : FVec Ideal S1024x2816 .f32)

/-- The cotangent of the normalised input, at a row. -/
abbrev dh (a b : FVec Ideal S4096x2816 .bf16) (wg wu : FVec Ideal S1024x2816 .f32) (r : Fin 4096) (k : Fin 1024) : EReal :=
  (∑ l : Fin 2816, a (ix2 r l) * wg (ix2 k l)) + ∑ l : Fin 2816, b (ix2 r l) * wu (ix2 k l)

theorem v12_at (r : Fin 4096) (j : Fin 1024) :
    val_main_v12 (F := Ideal) x1 (ix2 r j) = x1 (ix2 r j) * rstd cN (fun k => x1 (ix2 r k)) := by
  unfold rstd ms
  pointwise! [val_main_v12, val_main_v11, val_main_v7, val_main_v6, val_main_v4, val_main_v5, val_main_v2, val_main_v3, val_main_v1, val_main_v0, val_main_cst, val_main_cst_0, val_main_cst_1]

theorem v25_at (r : Fin 4096) (j : Fin 1024) :
    val_main_v25 (F := Ideal) x3 x4 x5 x6 (ix2 r j) = dh x3 x4 x5 x6 r j := by
  pointwise [val_main_v25, val_main_v24, val_main_v21, val_main_v17, val_main_v18]
  exact add_comm _ _

theorem v30_at (r : Fin 4096) (j : Fin 1024) :
    val_main_v30 (F := Ideal) x2 x3 x4 x5 x6 (ix2 r j) = dh x3 x4 x5 x6 r j * x2 (ix2 0 j) := by
  have h := v25_at x3 x4 x5 x6
  unfold val_main_v30 val_main_v29
  generalize val_main_v25 (F := Ideal) x3 x4 x5 x6 = p at *
  pointwise! [h]

theorem v41_at (r : Fin 4096) (j : Fin 1024) :
    val_main_v41 (F := Ideal) x1 x2 x3 x4 x5 x6 (ix2 r j)
      = dxQ cN (fun k => x1 (ix2 r k)) (dh x3 x4 x5 x6 r) (fun k => x2 (ix2 0 k)) := by
  have h := v30_at x2 x3 x4 x5 x6
  unfold val_main_v41 val_main_v40 val_main_v39 val_main_v37 val_main_v33 val_main_v32 val_main_v31
  generalize val_main_v30 (F := Ideal) x2 x3 x4 x5 x6 = p at *
  unfold dxQ rstd ms
  pointwise [h, val_main_v38, val_main_cst_6, val_main_cst_4, val_main_cst_5, val_main_cst_2, val_main_v10, val_main_v9, val_main_v8, val_main_v7, val_main_v6, val_main_v4, val_main_v5, val_main_v2, val_main_v3, val_main_v1, val_main_v0, val_main_cst, val_main_cst_0, val_main_cst_1]
  exact Fin.sum_univ_one _

theorem dx_at (r : Fin 4096) (j : Fin 1024) :
    val_main_v45 (F := Ideal) x0 x1 x2 x3 x4 x5 x6 (ix2 r j)
      = dxR cN (fun k => x1 (ix2 r k)) (dh x3 x4 x5 x6 r) (fun k => x2 (ix2 0 k)) (x0 (ix2 r j)) j := by
  have h := v41_at x1 x2 x3 x4 x5 x6
  have h' := v30_at x2 x3 x4 x5 x6
  unfold dxR
  rw [← h r j]
  unfold val_main_v45 val_main_v44 val_main_v43 val_main_v42 val_main_v36 val_main_v35
  generalize val_main_v41 (F := Ideal) x1 x2 x3 x4 x5 x6 = q at *
  generalize val_main_v30 (F := Ideal) x2 x3 x4 x5 x6 = p at *
  unfold rstd ms
  pointwise! [h', val_main_v34, val_main_v7, val_main_v6, val_main_v4, val_main_v5, val_main_v2, val_main_v3, val_main_v1, val_main_v0, val_main_cst, val_main_cst_0, val_main_cst_1]

theorem gain_at (a : Fin 1) (j : Fin 1024) :
    val_main_v28 (F := Ideal) x1 x3 x4 x5 x6 (ix2 a j)
      = ∑ r : Fin 4096, dh x3 x4 x5 x6 r j * (x1 (ix2 r j) * rstd cN (fun k => x1 (ix2 r k))) := by
  have h := v12_at x1
  have h' := v25_at x3 x4 x5 x6
  unfold val_main_v28 val_main_v27 val_main_v26
  generalize val_main_v12 (F := Ideal) x1 = q at *
  generalize val_main_v25 (F := Ideal) x3 x4 x5 x6 = p at *
  pointwise [h, h', val_main_cst_3]
  exact Finset.sum_congr rfl fun _ _ => mul_comm _ _

end Cert.FfnInRefIdeal.Spec

end
-- ==== Proof.FfnIn.Claim.lean ====
/- The claims about `ffn_in`. -/
module

public import proofs.«01_k».proof.Defs
public import proofs.«01_k».proof.Proof.FfnIn.Value
public import proofs.«01_k».proof.Proof.FfnIn.Ref
public import proofs.«01_k».proof.Proof.Gen.Pre_finite_ffn_in

@[expose] public section

set_option maxRecDepth 16384

noncomputable section

namespace Cert.FfnInClaim

open Idealize.ShloMosaic Idealize.ShloMosaic.TcCoe Idealize.SL.Sem
open Cert.Shared

section Finite
open Cert.Pre_finite_ffn_in

/-- The precondition, as: every element of these arrays is a real number. -/
theorem finite (a0 a1 : FVec Ideal S4096x1024 .f32) (a2 : FVec Ideal S1x1024 .f32) (a3 a4 : FVec Ideal S4096x2816 .bf16) (a5 a6 : FVec Ideal S1024x2816 .f32)
    (h : fn (F := Ideal) a0 a1 a2 a3 a4 a5 a6 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have e := congrFun h (fun a => a.elim0)
  unfold fn fn_part1 at e
  obtain ⟨e, e6⟩ := and_eq_one _ _ e
  obtain ⟨e, e5⟩ := and_eq_one _ _ e
  obtain ⟨e, e4⟩ := and_eq_one _ _ e
  obtain ⟨e, e3⟩ := and_eq_one _ _ e
  obtain ⟨e1, e2⟩ := and_eq_one _ _ e
  exact ⟨fun i => real_of_cmp _ (all_of_reduce _ _ _ _ _ e1 i),
    fun i => real_of_cmp _ (all_of_reduce _ _ _ _ _ e2 i), fun i => real_of_cmp _ (all_of_reduce _ _ _ _ _ e3 i),
    fun i => real_of_cmp _ (all_of_reduce _ _ _ _ _ e4 i), fun i => real_of_cmp _ (all_of_reduce _ _ _ _ _ e5 i),
    fun i => real_of_cmp _ (all_of_reduce _ _ _ _ _ e6 i)⟩

end Finite

section Kernel
open Cert.FfnInIdeal Cert.FfnInIdeal.Gen
variable (m : (ℓ : Loc nD τ sig) → Buf (Elt Ideal) ℓ) (c : Dev nD)

theorem wg_eq (l : Fin 2816) (k : Fin 1024) : Cert.FfnInIdeal.Fin.aWg m c (ix2 l k) = (show FVec Ideal S1024x2816 .f32 from m ((c : Thread nD τ).loc main_arg5)) (ix2 k l) := by
  have : Cert.FfnInIdeal.Fin.aWg m c = transpose S2816x1024 [1, 0] (show FVec Ideal S1024x2816 .f32 from m ((c : Thread nD τ).loc main_arg5)) transposes_S1024x2816_S2816x1024_1_0 := by rfl
  rw [this]
  pointwise

theorem wu_eq (l : Fin 2816) (k : Fin 1024) : Cert.FfnInIdeal.Fin.aWu m c (ix2 l k) = (show FVec Ideal S1024x2816 .f32 from m ((c : Thread nD τ).loc main_arg6)) (ix2 k l) := by
  have : Cert.FfnInIdeal.Fin.aWu m c = transpose S2816x1024 [1, 0] (show FVec Ideal S1024x2816 .f32 from m ((c : Thread nD τ).loc main_arg6)) transposes_S1024x2816_S2816x1024_1_0 := by rfl
  rw [this]
  pointwise

/-- The arguments' contents, at their shapes. -/
abbrev b0 : FVec Ideal S4096x1024 .f32 := m ((c : Thread nD τ).loc main_arg0)
abbrev b1 : FVec Ideal S4096x1024 .f32 := m ((c : Thread nD τ).loc main_arg1)
abbrev b2 : FVec Ideal S1x1024 .f32 := m ((c : Thread nD τ).loc main_arg2)
abbrev b3 : FVec Ideal S4096x2816 .bf16 := m ((c : Thread nD τ).loc main_arg3)
abbrev b4 : FVec Ideal S4096x2816 .bf16 := m ((c : Thread nD τ).loc main_arg4)
abbrev b5 : FVec Ideal S1024x2816 .f32 := m ((c : Thread nD τ).loc main_arg5)
abbrev b6 : FVec Ideal S1024x2816 .f32 := m ((c : Thread nD τ).loc main_arg6)

end Kernel

theorem algebraic : Cert.algebraic_FfnInIdeal_FfnInRefIdeal_pre_finite_ffn_in := by
  intro m g m' g' hpre hag
  have hdh : ∀ c r k, Cert.FfnInIdeal.Fin.dh m c r k = Cert.FfnInRefIdeal.Spec.dh (b3 m c) (b4 m c) (b5 m c) (b6 m c) r k := by
    intro c r k
    refine congrArg₂ (· + ·) (Finset.sum_congr rfl fun l _ => ?_) (Finset.sum_congr rfl fun l _ => ?_)
    · rw [wg_eq]; rfl
    · rw [wu_eq]; rfl
  have hdx : ∀ c i, Cert.FfnInIdeal.Fin.G7 m c i = Cert.FfnInRefIdeal.Read.val_main_v45 (F := Ideal) (b0 m c) (b1 m c) (b2 m c) (b3 m c) (b4 m c) (b5 m c) (b6 m c) i := by
    intro c i
    obtain ⟨h1, h2, h3, h4, h5, h6⟩ := finite _ _ _ _ _ _ _ (hpre c)
    idx_vars i
    rw [Cert.FfnInRefIdeal.Spec.dx_at, ← funext (hdh c i0)]
    refine dx_eq_1024 _ _ _ (fun k => h1 _) (fun k => ?_) (fun k => h2 _) _ _
    show ∃ r : ℝ, Cert.FfnInIdeal.Fin.dh m c i0 k = (r : EReal)
    rw [hdh]
    exact add_real (sum_real _ fun l => mul_real (h3 _) (h5 _)) (sum_real _ fun l => mul_real (h4 _) (h6 _))
  refine ⟨fun c => Cert.FfnInIdeal.Fin.G7 m c, fun c => Cert.FfnInIdeal.Fin.G8 m c,
    (θ_run _ _ _).mono (fun r h c => ?_) (Cert.FfnInIdeal.Value.run_blocks m g), (θ_run _ _ _).mono (fun r h c => ?_) (Cert.FfnInRefIdeal.Value.run m' g')⟩
  · obtain ⟨e7, e8, e⟩ := h c
    exact ⟨e7.trans (Cert.FfnInIdeal.Fin.final7 m c), e8.trans (Cert.FfnInIdeal.Fin.final8 m c), e⟩
  · obtain ⟨e7, e8, e⟩ := h c
    obtain ⟨a0, a1, a2, a3, a4, a5, a6⟩ := hag c
    refine ⟨e7.trans ?_, e8.trans ?_, e⟩
    · rw [Cert.FfnInRefIdeal.Read.val_main_v45_eq, a0, a1, a2, a3, a4, a5, a6]
      exact funext fun i => (hdx c i).symm
    · refine (Cert.FfnInRefIdeal.Read.val_main_v28_eq _ _ _ _ _).trans ?_
      rw [a1, a3, a4, a5, a6]
      funext i
      idx_vars i
      refine (Cert.FfnInRefIdeal.Spec.gain_at _ _ _ _ _ _ _).trans ?_
      exact Finset.sum_congr rfl fun r _ => by rw [← hdh c r i1]; rfl

theorem frame_ref : Cert.quiescent_FfnInRefIdeal := fun m g _ =>
  (θ_run _ _ _).mono (fun r h => ⟨fun c => (h c).2.2, sem_eq_zero_of_no_sems (by decide) r.2⟩) (Cert.FfnInRefIdeal.Value.run m g)

end Cert.FfnInClaim

end
-- ==== Proof.Shared.Gate.lean ====
/- The logistic function and the gradient of `a·σ(a)·b`, in the forms the programs compute. -/
module

public import proofs.«01_k».proof.Proof.Shared.Norm

@[expose] public section

set_option maxRecDepth 16384

noncomputable section

namespace Cert.Shared

open Idealize.ShloMosaic

/-- One. -/
abbrev c1 : EReal := Ideal.ofBits .f32 0x3F800000#32
theorem c1_eq : c1 = ((1 : ℝ) : EReal) := by simp [Ideal.ofBits, Ideal.ieee, -EReal.coe_mul]

/-- The logistic function by the hyperbolic tangent, and by the exponential. -/
def sgK (z : EReal) : EReal := cH + cH * Ideal.tanh (cH * z)
def sgR (z : EReal) : EReal := Ideal.div c1 (c1 + Ideal.exp (-z))

theorem sgR_coe (z : ℝ) : sgR z = (((1 + Real.exp (-z))⁻¹ : ℝ) : EReal) := by
  have hp : (1 + Real.exp (-z) : ℝ) ≠ 0 := by positivity
  unfold sgR
  rw [c1_eq, ← EReal.coe_neg, Ideal.exp_coe, ← EReal.coe_add, Ideal.div_coe hp, ← EReal.coe_mul, one_mul]
  try rw [one_div]

theorem sgK_coe (z : ℝ) : sgK z = (((1 + Real.exp (-z))⁻¹ : ℝ) : EReal) := by
  unfold sgK
  rw [cH_eq, ← EReal.coe_mul, Ideal.tanh_coe, ← EReal.coe_mul, ← EReal.coe_add]
  congr 1
  rw [Real.tanh_eq_sinh_div_cosh, Real.sinh_eq, Real.cosh_eq]
  have h2 : Real.exp (-z) = (Real.exp (1 / 2 * z))⁻¹ * (Real.exp (1 / 2 * z))⁻¹ := by
    rw [← Real.exp_neg, ← Real.exp_add]; congr 1; ring
  have hpos := Real.exp_pos (1 / 2 * z)
  rw [h2, Real.exp_neg]
  field_simp
  ring

theorem sgK_eq {z : EReal} (hz : ∃ r : ℝ, z = (r : EReal)) : sgK z = sgR z := by
  obtain ⟨z, rfl⟩ := hz
  rw [sgK_coe, sgR_coe]

theorem sgR_real {z : EReal} (hz : ∃ r : ℝ, z = (r : EReal)) : ∃ r : ℝ, sgR z = (r : EReal) := by
  obtain ⟨z, rfl⟩ := hz
  exact ⟨_, sgR_coe z⟩

/-- The gradient at the gate's argument: the kernel's form, and the one differentiation gives. -/
def daK (s a b : EReal) : EReal := s * b * (sgK a * (c1 + a * (c1 - sgK a)))
def daR (s a b : EReal) : EReal := s * b * sgR a + a * (s * b) * (sgR a * (c1 - sgR a))

theorem da_eq {s a b : EReal} (hs : ∃ r : ℝ, s = (r : EReal)) (ha : ∃ r : ℝ, a = (r : EReal)) (hb : ∃ r : ℝ, b = (r : EReal)) : daK s a b = daR s a b := by
  obtain ⟨p, hp⟩ := sgR_real ha
  unfold daK daR
  rw [sgK_eq ha, hp, c1_eq]
  obtain ⟨s, rfl⟩ := hs
  obtain ⟨a, rfl⟩ := ha
  obtain ⟨b, rfl⟩ := hb
  simp only [← EReal.coe_mul, ← EReal.coe_sub, ← EReal.coe_add]
  congr 1
  ring

/-- A row normalised and scaled, times a column of weights. -/
def preact {n : ℕ} (x g w : Fin n → EReal) : EReal := ∑ l, x l * rstd cN x * g l * w l

theorem preact_real {n : ℕ} (x g w : Fin n → EReal) (hx : ∀ k, ∃ r : ℝ, x k = r) (hg : ∀ k, ∃ r : ℝ, g k = r) (hw : ∀ k, ∃ r : ℝ, w k = r) :
    ∃ r : ℝ, preact x g w = (r : EReal) := by
  obtain ⟨x, rfl⟩ := real_array x hx
  have h : ∃ r : ℝ, rstd cN (fun k => ((x k : ℝ) : EReal)) = (r : EReal) := by
    rw [cN_eq]; exact rstd_real 1024 (by norm_num) x
  exact sum_real _ fun l => mul_real (mul_real (mul_real ⟨_, rfl⟩ h) (hg l)) (hw l)

end Cert.Shared

end
-- ==== Proof.FfnAct.Pay.lean ====
/- What the body of `ffn_act` stores, read at an element. -/
module

public import proofs.«01_k».proof.Proof.Shared.Gate
public import proofs.«01_k».proof.Proof.Gen.FfnActIdeal.Skeleton
public import Idealize.ShloMosaic.Lib.Pointwise

@[expose] public section

set_option maxRecDepth 16384

noncomputable section

namespace Cert.FfnActIdeal.Pay

open Idealize.ShloMosaic Idealize.ShloMosaic.TcCoe Idealize.SL.Sem
open Cert.FfnActIdeal Cert.FfnActIdeal.Gen Cert.Shared

variable (d : FVec Ideal S512x1024 .bf16) (w : FVec Ideal S1408x1024 .bf16) (a b : FVec Ideal S512x1408 .bf16)

theorem db (r : Fin 512) (j : Fin 1408) :
    k0_pay4 (F := Ideal) d w a (ix2 r j) = (∑ l : Fin 1024, d (ix2 r l) * w (ix2 j l)) * (a (ix2 r j) * sgK (a (ix2 r j))) := by
  unfold sgK
  pointwise! [k0_pay4, k0_pay1, k0_pay2, k0_pay3]

theorem da (r : Fin 512) (j : Fin 1408) :
    k0_pay5 (F := Ideal) d w a b (ix2 r j) = daK (∑ l : Fin 1024, d (ix2 r l) * w (ix2 j l)) (a (ix2 r j)) (b (ix2 r j)) := by
  unfold daK sgK
  pointwise! [k0_pay5, k0_pay1, k0_pay2, k0_pay3]

end Cert.FfnActIdeal.Pay

end
-- ==== Proof.FfnAct.Value.lean ====
/- What the arrays of `ffn_act` hold after its run. -/
module

public import proofs.«01_k».proof.Proof.FfnAct.Pay
public import proofs.«01_k».proof.Proof.Gen.FfnActIdeal.Value
public import Idealize.ShloMosaic.Lib.Pipeline.ValueKit

@[expose] public section

set_option maxRecDepth 16384

noncomputable section

namespace Cert.FfnActIdeal.Fin

open Idealize.ShloMosaic Idealize.ShloMosaic.TcCoe Idealize.SL.Sem
open Idealize.ShloMosaic.Pipeline (Dat)
open Cert.FfnActIdeal Cert.FfnActIdeal.Gen Cert.Shared

variable (m : (ℓ : Loc nD τ sig) → Buf (Elt Ideal) ℓ) (c : Dev nD)

theorem idx : ∀ t : Fin cfg0.N, win0_0.index t = ![t.val / 2, 0] ∧ win0_1.index t = ![t.val / 2, t.val % 2] ∧ win0_2.index t = ![t.val / 2, t.val % 2]
    ∧ win0_3.index t = ![t.val % 2, 0] ∧ win0_4.index t = ![t.val / 2, t.val % 2] ∧ win0_5.index t = ![t.val / 2, t.val % 2] :=
  (by decide +kernel : ∀ t : Fin grid0.N, _)

/-- The arrays the kernel's windows read, and the row and column of a tile's. -/
abbrev aD : FVec Ideal S4096x1024 .bf16 := V m c main_v23
abbrev aA : FVec Ideal S4096x2816 .bf16 := V m c main_v18
abbrev aB : FVec Ideal S4096x2816 .bf16 := V m c main_v20
abbrev aW : FVec Ideal S2816x1024 .bf16 := V m c main_v24

theorem t_lt (t : Fin cfg0.N) : t.val < 16 := lt_of_lt_of_eq t.isLt N_0
def row (t : Fin cfg0.N) (r : Fin 512) : Fin 4096 := ⟨t.val / 2 * 512 + r.val, by have := t_lt t; omega⟩
def col (t : Fin cfg0.N) (j : Fin 1408) : Fin 2816 := ⟨t.val % 2 * 1408 + j.val, by omega⟩

theorem blk0 (t : Fin cfg0.N) (r : Fin 512) (l : Fin 1024) : iblk m c 0 t (ix2 r l) = aD m c (ix2 (row t r) l) := by
  blk_point [iblk, V, idx t, row, col]
theorem blk1 (t : Fin cfg0.N) (r : Fin 512) (j : Fin 1408) : iblk m c 1 t (ix2 r j) = aA m c (ix2 (row t r) (col t j)) := by
  blk_point [iblk, V, idx t, row, col]
theorem blk2 (t : Fin cfg0.N) (r : Fin 512) (j : Fin 1408) : iblk m c 2 t (ix2 r j) = aB m c (ix2 (row t r) (col t j)) := by
  blk_point [iblk, V, idx t, row, col]
theorem blk3 (t : Fin cfg0.N) (j : Fin 1408) (l : Fin 1024) : iblk m c 3 t (ix2 j l) = aW m c (ix2 (col t j) l) := by
  blk_point [iblk, V, idx t, row, col]
theorem emb4 (t : Fin cfg0.N) (r : Fin 512) (j : Fin 1408) : ((cfg0.win 4).blk t).view.emb (ix2 r j) = ix2 (row t r) (col t j) := by
  blk_ext [idx t, row, col]
theorem emb5 (t : Fin cfg0.N) (r : Fin 512) (j : Fin 1408) : ((cfg0.win 5).blk t).view.emb (ix2 r j) = ix2 (row t r) (col t j) := by
  blk_ext [idx t, row, col]

/-- The cotangent of the gated product. -/
abbrev ds (r : Fin 4096) (j : Fin 2816) : EReal := ∑ l : Fin 1024, aD m c (ix2 r l) * aW m c (ix2 j l)

/-- The gradients at the gate's argument and at the other factor. -/
def G4 : FVec Ideal S4096x2816 .bf16 := fun i => daK (ds m c (i 0) (i 1)) (aA m c (ix2 (i 0) (i 1))) (aB m c (ix2 (i 0) (i 1)))
def G5 : FVec Ideal S4096x2816 .bf16 := fun i => ds m c (i 0) (i 1) * (aA m c (ix2 (i 0) (i 1)) * sgK (aA m c (ix2 (i 0) (i 1))))

theorem point4 (t : Fin cfg0.N) (y) :
    k0_pay5 (F := Ideal) (iblk m c 0 t) (iblk m c 3 t) (iblk m c 1 t) (iblk m c 2 t) y = G4 m c (((cfg0.win 4).blk t).view.emb y) := by
  idx_vars y
  rw [Pay.da, emb4]
  simp only [blk0, blk1, blk2, blk3]
  rfl

theorem point5 (t : Fin cfg0.N) (y) :
    k0_pay4 (F := Ideal) (iblk m c 0 t) (iblk m c 3 t) (iblk m c 1 t) y = G5 m c (((cfg0.win 5).blk t).view.emb y) := by
  idx_vars y
  rw [Pay.db, emb5]
  simp only [blk0, blk1, blk2, blk3]
  rfl

theorem final4 : (dats m 0 c).arrAt 4 cfg0.N = G4 m c := by
  refine (dats m 0 c).arrAt_eq_of_covers 4 (G4 m c) (by decide +kernel) fun t _ y => ?_
  blk_simp
  rw [after0_4]
  unfold outsAt0
  frame_out
  exact point4 m c t y

theorem final5 : (dats m 0 c).arrAt 5 cfg0.N = G5 m c := by
  refine (dats m 0 c).arrAt_eq_of_covers 5 (G5 m c) (by decide +kernel) fun t _ y => ?_
  blk_simp
  rw [after0_5]
  unfold outsAt0
  frame_out
  exact point5 m c t y

end Cert.FfnActIdeal.Fin

end
-- ==== Proof.FfnAct.Ref.lean ====
/- What the reference of `ffn_act` returns, read at an element. -/
module

public import proofs.«01_k».proof.Proof.Shared.Gate
public import proofs.«01_k».proof.Proof.Gen.FfnActRefIdeal.Read
public import Idealize.ShloMosaic.Lib.Pointwise

@[expose] public section

set_option maxRecDepth 16384

noncomputable section

namespace Cert.FfnActRefIdeal.Spec

open Idealize.ShloMosaic Idealize.ShloMosaic.TcCoe Idealize.SL.Sem
open Cert.FfnActRefIdeal Cert.FfnActRefIdeal.Gen Cert.FfnActRefIdeal.Read Cert.Shared

variable (x0 x1 : FVec Ideal S4096x1024 .f32) (x2 : FVec Ideal S1x1024 .f32) (x3 x4 : FVec Ideal S1024x2816 .f32) (x5 : FVec Ideal S2816x1024 .f32)

/-- A product's entry: the normalised row times a column. -/
abbrev pre (x : FVec Ideal S4096x1024 .f32) (g : FVec Ideal S1x1024 .f32) (w : FVec Ideal S1024x2816 .f32) (r : Fin 4096) (j : Fin 2816) : EReal :=
  preact (fun l => x (ix2 r l)) (fun l => g (ix2 0 l)) (fun l => w (ix2 l j))
/-- The cotangent of the gated product. -/
abbrev ds (d : FVec Ideal S4096x1024 .f32) (w : FVec Ideal S2816x1024 .f32) (r : Fin 4096) (j : Fin 2816) : EReal :=
  ∑ l : Fin 1024, cH * d (ix2 r l) * w (ix2 j l)

theorem v11_at (r : Fin 4096) (j : Fin 1024) :
    val_main_v11 (F := Ideal) x1 x2 (ix2 r j) = x1 (ix2 r j) * rstd cN (fun k => x1 (ix2 r k)) * x2 (ix2 0 j) := by
  unfold rstd ms
  pointwise! [val_main_v11, val_main_v10, val_main_v9, val_main_v8, val_main_v7, val_main_v6, val_main_v4, val_main_v5, val_main_v2, val_main_v3, val_main_v1, val_main_v0, val_main_cst, val_main_cst_0, val_main_cst_1]

theorem v12_at (r : Fin 4096) (j : Fin 2816) : val_main_v12 (F := Ideal) x1 x2 x3 (ix2 r j) = pre x1 x2 x3 r j := by
  have h := v11_at x1 x2
  unfold val_main_v12 pre preact
  generalize val_main_v11 (F := Ideal) x1 x2 = p at *
  pointwise! [h]

theorem v13_at (r : Fin 4096) (j : Fin 2816) : val_main_v13 (F := Ideal) x1 x2 x4 (ix2 r j) = pre x1 x2 x4 r j := v12_at x1 x2 x4 r j

theorem v14_2_at (r : Fin 4096) (j : Fin 2816) : val_main_v14_2 (F := Ideal) x1 x2 x3 (ix2 r j) = sgR (pre x1 x2 x3 r j) := by
  rw [← v12_at]
  unfold val_main_v14_2 val_main_call0_v3 val_main_call0_v1 val_main_call0_v0 sgR
  generalize val_main_v12 (F := Ideal) x1 x2 x3 = p
  pointwise! [val_main_call0_v4, val_main_call0_cst_0, val_main_call0_v2, val_main_call0_cst]

theorem v23_at (r : Fin 4096) (j : Fin 2816) : val_main_v23 (F := Ideal) x0 x5 (ix2 r j) = ds x0 x5 r j := by
  pointwise! [val_main_v23, val_main_v20, val_main_v19, val_main_cst_3]

theorem db_at (r : Fin 4096) (j : Fin 2816) :
    val_main_v28 (F := Ideal) x0 x1 x2 x3 x5 (ix2 r j) = pre x1 x2 x3 r j * sgR (pre x1 x2 x3 r j) * ds x0 x5 r j := by
  show val_main_v12 (F := Ideal) x1 x2 x3 (ix2 r j) * val_main_v14_2 (F := Ideal) x1 x2 x3 (ix2 r j) * val_main_v23 (F := Ideal) x0 x5 (ix2 r j) = _
  rw [v12_at, v14_2_at, v23_at]

theorem one_at (i) : val_main_call0_v6 (F := Ideal) i = c1 := by
  obtain ⟨r, j, rfl⟩ : ∃ (r : Fin 4096) (j : Fin 2816), i = ix2 r j := ⟨_, _, eq_ix2 i⟩
  pointwise! [val_main_call0_v6, val_main_call0_cst_1]

theorem da_at (r : Fin 4096) (j : Fin 2816) :
    val_main_v27 (F := Ideal) x0 x1 x2 x3 x4 x5 (ix2 r j) = daR (ds x0 x5 r j) (pre x1 x2 x3 r j) (pre x1 x2 x4 r j) := by
  show val_main_v23 (F := Ideal) x0 x5 (ix2 r j) * val_main_v13 (F := Ideal) x1 x2 x4 (ix2 r j) * val_main_v14_2 (F := Ideal) x1 x2 x3 (ix2 r j)
    + val_main_v12 (F := Ideal) x1 x2 x3 (ix2 r j) * (val_main_v23 (F := Ideal) x0 x5 (ix2 r j) * val_main_v13 (F := Ideal) x1 x2 x4 (ix2 r j))
      * (val_main_v14_2 (F := Ideal) x1 x2 x3 (ix2 r j) * (val_main_call0_v6 (F := Ideal) (ix2 r j) - val_main_v14_2 (F := Ideal) x1 x2 x3 (ix2 r j))) = _
  rw [v12_at, v13_at, v14_2_at, v23_at, one_at]
  rfl

end Cert.FfnActRefIdeal.Spec

end
-- ==== Proof.FfnAct.Claim.lean ====
/- The claims about `ffn_act`. -/
module

public import proofs.«01_k».proof.Defs
public import proofs.«01_k».proof.Proof.FfnAct.Value
public import proofs.«01_k».proof.Proof.FfnAct.Ref
public import proofs.«01_k».proof.Proof.Gen.Pre_finite_ffn_act

@[expose] public section

set_option maxRecDepth 16384

noncomputable section

namespace Cert.FfnActClaim

open Idealize.ShloMosaic Idealize.ShloMosaic.TcCoe Idealize.SL.Sem
open Cert.Shared

section Finite
open Cert.Pre_finite_ffn_act

/-- The precondition, as: every element of the arrays is a real number. -/
theorem finite (a0 a1 : FVec Ideal S4096x1024 .f32) (a2 : FVec Ideal S1x1024 .f32) (a3 a4 : FVec Ideal S1024x2816 .f32) (a5 : FVec Ideal S2816x1024 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have e := congrFun h (fun a => a.elim0)
  unfold fn fn_part1 at e
  obtain ⟨e, e5⟩ := and_eq_one _ _ e
  obtain ⟨e, e4⟩ := and_eq_one _ _ e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i),
    fun i => real_of_cmp _ (all_of_reduce _ _ _ _ _ e2 i), fun i => real_of_cmp _ (all_of_reduce _ _ _ _ _ e3 i),
    fun i => real_of_cmp _ (all_of_reduce _ _ _ _ _ e4 i), fun i => real_of_cmp _ (all_of_reduce _ _ _ _ _ e5 i)⟩

end Finite

section Kernel
open Cert.FfnActIdeal Cert.FfnActIdeal.Gen Cert.FfnActIdeal.Fin
variable (m : (ℓ : Loc nD τ sig) → Buf (Elt Ideal) ℓ) (c : Dev nD)

/-- The arguments' contents, at their shapes. -/
abbrev b0 : FVec Ideal S4096x1024 .f32 := m ((c : Thread nD τ).loc main_arg0)
abbrev b1 : FVec Ideal S4096x1024 .f32 := m ((c : Thread nD τ).loc main_arg1)
abbrev b2 : FVec Ideal S1x1024 .f32 := m ((c : Thread nD τ).loc main_arg2)
abbrev b3 : FVec Ideal S1024x2816 .f32 := m ((c : Thread nD τ).loc main_arg3)
abbrev b4 : FVec Ideal S1024x2816 .f32 := m ((c : Thread nD τ).loc main_arg4)
abbrev b5 : FVec Ideal S2816x1024 .f32 := m ((c : Thread nD τ).loc main_arg5)

theorem w_eq : aW m c = b5 m c := by rfl

theorem d_eq (r : Fin 4096) (l : Fin 1024) : aD m c (ix2 r l) = cH * b0 m c (ix2 r l) := by
  have : aD m c = (mulf (broadcastInDim S4096x1024 ![] bcast_S_S4096x1024 (constant (F := Ideal) S_ .f32 0x3F000000#32)) (b0 m c) : FVec Ideal S4096x1024 .f32) := by rfl
  rw [this]
  pointwise!

/-- The normalised rows, as the kernel's host lines compute them. -/
abbrev hn : FVec Ideal S4096x1024 .bf16 := Cert.FfnActRefIdeal.Read.val_main_v11 (F := Ideal) (b1 m c) (b2 m c)

theorem a_eq (r : Fin 4096) (j : Fin 2816) : aA m c (ix2 r j) = Cert.FfnActRefIdeal.Spec.pre (b1 m c) (b2 m c) (b3 m c) r j := by
  have : aA m c = (Host.dotGeneral dot_S4096x1024_S2816x1024_S4096x2816_1_1_0_0_n_n none (hn m c)
    (transpose S2816x1024 [1, 0] (b3 m c) transposes_S1024x2816_S2816x1024_1_0 : FVec Ideal S2816x1024 .bf16) : FVec Ideal S4096x2816 .f32) := by rfl
  rw [this]
  have h := Cert.FfnActRefIdeal.Spec.v11_at (b1 m c) (b2 m c)
  unfold hn Cert.FfnActRefIdeal.Spec.pre preact
  generalize Cert.FfnActRefIdeal.Read.val_main_v11 (F := Ideal) (b1 m c) (b2 m c) = p at *
  pointwise! [h]

theorem b_eq (r : Fin 4096) (j : Fin 2816) : aB m c (ix2 r j) = Cert.FfnActRefIdeal.Spec.pre (b1 m c) (b2 m c) (b4 m c) r j := by
  have : aB m c = (Host.dotGeneral dot_S4096x1024_S2816x1024_S4096x2816_1_1_0_0_n_n none (hn m c)
    (transpose S2816x1024 [1, 0] (b4 m c) transposes_S1024x2816_S2816x1024_1_0 : FVec Ideal S2816x1024 .bf16) : FVec Ideal S4096x2816 .f32) := by rfl
  rw [this]
  have h := Cert.FfnActRefIdeal.Spec.v11_at (b1 m c) (b2 m c)
  unfold hn Cert.FfnActRefIdeal.Spec.pre preact
  generalize Cert.FfnActRefIdeal.Read.val_main_v11 (F := Ideal) (b1 m c) (b2 m c) = p at *
  pointwise! [h]

theorem ds_eq (r : Fin 4096) (j : Fin 2816) : ds m c r j = Cert.FfnActRefIdeal.Spec.ds (b0 m c) (b5 m c) r j := by
  refine Finset.sum_congr rfl fun l _ => ?_
  rw [d_eq, w_eq]

end Kernel

theorem algebraic : Cert.algebraic_FfnActIdeal_FfnActRefIdeal_pre_finite_ffn_act := by
  intro m g m' g' hpre hag
  have real : ∀ c, (∀ r j, ∃ s : ℝ, Cert.FfnActRefIdeal.Spec.ds (b0 m c) (b5 m c) r j = (s : EReal))
      ∧ (∀ r j, ∃ s : ℝ, Cert.FfnActRefIdeal.Spec.pre (b1 m c) (b2 m c) (b3 m c) r j = (s : EReal))
      ∧ (∀ r j, ∃ s : ℝ, Cert.FfnActRefIdeal.Spec.pre (b1 m c) (b2 m c) (b4 m c) r j = (s : EReal)) := by
    intro c
    obtain ⟨h0, h1, h2, h3, h4, h5⟩ := finite _ _ _ _ _ _ (hpre c)
    exact ⟨fun r j => sum_real _ fun l => mul_real (mul_real ⟨_, cH_eq⟩ (h0 _)) (h5 _),
      fun r j => preact_real _ _ _ (fun k => h1 _) (fun k => h2 _) (fun k => h3 _),
      fun r j => preact_real _ _ _ (fun k => h1 _) (fun k => h2 _) (fun k => h4 _)⟩
  have hda : ∀ c, Cert.FfnActIdeal.Fin.G4 m c = Cert.FfnActRefIdeal.Read.val_main_v27 (F := Ideal) (b0 m c) (b1 m c) (b2 m c) (b3 m c) (b4 m c) (b5 m c) := by
    intro c
    funext i
    obtain ⟨r, j, rfl⟩ : ∃ (r : Fin 4096) (j : Fin 2816), i = ix2 r j := ⟨_, _, eq_ix2 i⟩
    obtain ⟨hs, ha, hb⟩ := real c
    rw [Cert.FfnActRefIdeal.Spec.da_at, ← da_eq (hs r j) (ha r j) (hb r j), ← ds_eq, ← a_eq, ← b_eq]
    rfl
  have hdb : ∀ c, Cert.FfnActIdeal.Fin.G5 m c = Cert.FfnActRefIdeal.Read.val_main_v28 (F := Ideal) (b0 m c) (b1 m c) (b2 m c) (b3 m c) (b5 m c) := by
    intro c
    funext i
    obtain ⟨r, j, rfl⟩ : ∃ (r : Fin 4096) (j : Fin 2816), i = ix2 r j := ⟨_, _, eq_ix2 i⟩
    obtain ⟨hs, ha, hb⟩ := real c
    rw [Cert.FfnActRefIdeal.Spec.db_at, ← sgK_eq (ha r j), ← ds_eq, ← a_eq, mul_comm]
    rfl
  refine ⟨fun c => Cert.FfnActIdeal.Fin.G4 m c, fun c => Cert.FfnActIdeal.Fin.G5 m c,
    (θ_run _ _ _).mono (fun r h c => ?_) (Cert.FfnActIdeal.Value.run_blocks m g), (θ_run _ _ _).mono (fun r h c => ?_) (Cert.FfnActRefIdeal.Value.run m' g')⟩
  · obtain ⟨e4, e5, e⟩ := h c
    exact ⟨e4.trans (Cert.FfnActIdeal.Fin.final4 m c), e5.trans (Cert.FfnActIdeal.Fin.final5 m c), e⟩
  · obtain ⟨e4, e5, e⟩ := h c
    obtain ⟨a0, a1, a2, a3, a4, a5⟩ := hag c
    refine ⟨e4.trans ?_, e5.trans ?_, e⟩
    · rw [Cert.FfnActRefIdeal.Read.val_main_v27_eq, a0, a1, a2, a3, a4, a5]
      exact (hda c).symm
    · refine (Cert.FfnActRefIdeal.Read.val_main_v28_eq _ _ _ _ _).trans ?_
      rw [a0, a1, a2, a3, a5]
      exact (hdb c).symm

theorem frame_ref : Cert.quiescent_FfnActRefIdeal := fun m g _ =>
  (θ_run _ _ _).mono (fun r h => ⟨fun c => (h c).2.2, sem_eq_zero_of_no_sems (by decide) r.2⟩) (Cert.FfnActRefIdeal.Value.run m g)

end Cert.FfnActClaim

end
-- ==== Proof.Shared.Head.lean ====
/- Rows of 512 in heads of `D`: sums over one head by a product with the matrix of equal heads. -/
module

public import proofs.«01_k».proof.Proof.Shared.Gate
public import Idealize.ShloMosaic.Lib.Pointwise

@[expose] public section

set_option maxRecDepth 16384

noncomputable section

namespace Cert.Shared

open Idealize.ShloMosaic

variable {H D : ℕ}

/-- Column `e` of the head that column `k` is in, and a column's place in its head. -/
def hcol (h : H * D = 512) (k : Fin 512) (e : Fin D) : Fin 512 := ⟨k.val / D * D + e.val, by
  have h1 : k.val / D < H := Nat.div_lt_of_lt_mul (by rw [mul_comm, h]; exact k.isLt)
  have h2 : (k.val / D + 1) * D ≤ H * D := Nat.mul_le_mul_right D h1
  rw [Nat.add_mul, one_mul] at h2
  have := e.isLt
  omega⟩
def hoff (h : H * D = 512) (k : Fin 512) : Fin D := ⟨k.val % D, Nat.mod_lt _ (Nat.pos_of_ne_zero fun h0 => by subst h0; omega)⟩

theorem hcol_off (h : H * D = 512) (k : Fin 512) : hcol h k (hoff h k) = k := Fin.ext (Nat.div_add_mod' k.val D)

theorem hcol_div (h : H * D = 512) (k : Fin 512) (e : Fin D) : (hcol h k e).val / D = k.val / D := by
  show (k.val / D * D + e.val) / D = _
  rw [mul_comm, Nat.mul_add_div (lt_of_le_of_lt (Nat.zero_le _) e.isLt), Nat.div_eq_of_lt e.isLt, add_zero]

theorem hcol_hcol (h : H * D = 512) (k : Fin 512) (e e' : Fin D) : hcol h (hcol h k e) e' = hcol h k e' := by
  apply Fin.ext
  show (hcol h k e).val / D * D + e'.val = _
  rw [hcol_div]; rfl

theorem group_sum (h : H * D = 512) (f : Fin 512 → EReal) (k : Fin 512) :
    (∑ c, f c * (if c.val / D = k.val / D then (1 : EReal) else 0)) = ∑ e, f (hcol h k e) := by
  rw [Fin.sum_univ_tiles H D h]
  have hk : k.val / D < H := Nat.div_lt_of_lt_mul (by rw [mul_comm, h]; exact k.isLt)
  rw [Finset.sum_eq_single (⟨k.val / D, hk⟩ : Fin H)]
  · refine Finset.sum_congr rfl fun e _ => ?_
    have e1 : (k.val / D * D + e.val) / D = k.val / D := hcol_div h k e
    dsimp only
    rw [if_pos e1, mul_one]; rfl
  · intro J _ hJ
    refine Finset.sum_eq_zero fun e _ => ?_
    have e1 : (J.val * D + e.val) / D = J.val := by
      rw [mul_comm, Nat.mul_add_div (lt_of_le_of_lt (Nat.zero_le _) e.isLt), Nat.div_eq_of_lt e.isLt, add_zero]
    dsimp only
    rw [if_neg (by rw [e1]; exact fun hh => hJ (Fin.ext hh)), mul_zero]
  · intro hn; exact absurd (Finset.mem_univ _) hn

theorem sub_self_real {a : EReal} (ha : ∃ r : ℝ, a = (r : EReal)) : a - a = 0 := by
  obtain ⟨a, rfl⟩ := ha
  rw [← EReal.coe_sub, sub_self, EReal.coe_zero]

/-- The sum in two parts: the rounded terms, and what rounding left. -/
theorem split_sum (h : H * D = 512) (f : Fin 512 → EReal) (hf : ∀ c, ∃ r : ℝ, f c = (r : EReal)) (k : Fin 512) :
    (∑ c, f c * (if c.val / D = k.val / D then (1 : EReal) else 0)) + (∑ c, (f c - f c) * (if c.val / D = k.val / D then (1 : EReal) else 0))
      = ∑ e, f (hcol h k e) := by
  rw [group_sum h]
  simp only [sub_self_real (hf _), zero_mul, Finset.sum_const_zero, add_zero]

/-- The head sizes and their reciprocals. -/
abbrev c64 : EReal := Ideal.ofBits .f32 0x42800000#32
abbrev c64i : EReal := Ideal.ofBits .f32 0x3C800000#32
abbrev c128 : EReal := Ideal.ofBits .f32 0x43000000#32
abbrev c128i : EReal := Ideal.ofBits .f32 0x3C000000#32
theorem c64_eq : c64 = ((64 : ℝ) : EReal) := by simp [Ideal.ofBits, Ideal.ieee, -EReal.coe_mul]; norm_num
theorem c64i_eq : c64i = ((1 / 64 : ℝ) : EReal) := by simp [Ideal.ofBits, Ideal.ieee, -EReal.coe_mul]; norm_num
theorem c128_eq : c128 = ((128 : ℝ) : EReal) := by simp [Ideal.ofBits, Ideal.ieee, -EReal.coe_mul]; norm_num
theorem c128i_eq : c128i = ((1 / 128 : ℝ) : EReal) := by simp [Ideal.ofBits, Ideal.ieee, -EReal.coe_mul]; norm_num
theorem mul_c64i (x : EReal) : x * c64i = Ideal.div x c64 := by
  rw [c64_eq, Ideal.div_coe (by norm_num), c64i_eq]
theorem mul_c128i (x : EReal) : x * c128i = Ideal.div x c128 := by
  rw [c128_eq, Ideal.div_coe (by norm_num), c128i_eq]

theorem h64 : 8 * 64 = 512 := rfl
theorem h128 : 4 * 128 = 512 := rfl

/-- A row's head. -/
abbrev hrow (h : H * D = 512) (f : Fin 512 → EReal) (k : Fin 512) : Fin D → EReal := fun e => f (hcol h k e)

/-- The gradient of a head's normalisation, without a term added. -/
def dhead (h : H * D = 512) (N : EReal) (x d g : Fin 512 → EReal) (k : Fin 512) : EReal :=
  dxK N (hrow h x k) (hrow h d k) (hrow h g k) 0 (hoff h k)

/-- The same from its parts, the mean taken by the matrix. -/
theorem dhead_eq (h : H * D = 512) (N : EReal) (x d g : Fin 512 → EReal) (k : Fin 512) :
    dhead h N x d g k = rstd N (hrow h x k) * (d k * g k - x k * rstd N (hrow h x k)
      * Ideal.div (∑ e, (fun c => d c * g c * (x c * rstd N (hrow h x c))) (hcol h k e)) N) := by
  have hx : ∀ e, hrow h x (hcol h k e) = hrow h x k := fun e => funext fun e' => congrArg x (hcol_hcol h k e e')
  unfold dhead dxK
  have hf : ∀ f : Fin 512 → EReal, hrow h f k (hoff h k) = f k := fun f => congrArg f (hcol_off h k)
  rw [hf d, hf g, hf x, zero_add]
  simp only [hx]

theorem head_rstd_real (h : H * D = 512) {N : EReal} {n : ℝ} (hN : N = (n : EReal)) (hn : 0 < n) (x : Fin 512 → EReal) (hx : ∀ k, ∃ r : ℝ, x k = r) (k : Fin 512) :
    ∃ r : ℝ, rstd N (hrow h x k) = (r : EReal) := by
  obtain ⟨y, hy⟩ := real_array (hrow h x k) (fun e => hx _)
  subst hN
  rw [hy]
  exact rstd_real n hn y

end Cert.Shared

end
-- ==== Proof.MixBwd.Mat.lean ====
/- The matrix of equal heads, as the body of `mix_bwd` builds it. -/
module

public import proofs.«01_k».proof.Proof.Shared.Head
public import proofs.«01_k».proof.Proof.Gen.MixBwdIdeal.Skeleton

@[expose] public section

set_option maxRecDepth 16384

noncomputable section

namespace Cert.MixBwdIdeal.Mat

open Idealize.ShloMosaic Idealize.ShloMosaic.TcCoe Idealize.SL.Sem
open Cert.MixBwdIdeal Cert.MixBwdIdeal.Gen Cert.Shared

theorem row64 (a b : Fin 512) : k0_pay1 (ix2 a b) = BitVec.ofNat 32 (a.val / 64) := by
  pointwise [k0_pay1]
  revert a
  decide +kernel

theorem col64 (a b : Fin 512) : (select (andi k0_pay3 k0_pay4) (subi k0_pay2 (broadcast S512x512 1#32)) k0_pay2) (ix2 a b) = BitVec.ofNat 32 (b.val / 64) := by
  pointwise [k0_pay2, k0_pay3, k0_pay4]
  revert b
  decide +kernel

theorem row128 (a b : Fin 512) : k0_pay6 (ix2 a b) = BitVec.ofNat 32 (a.val / 128) := by
  pointwise [k0_pay6]
  revert a
  decide +kernel

/-- Whether words of small numbers are equal, as a number. -/
theorem eq_word {x y : ℕ} (hx : x < 512) (hy : y < 512) :
    ((((IntOp.cmpi .eq (BitVec.ofNat 32 x) (BitVec.ofNat 32 y)).setWidth 32).toInt : ℝ) : EReal) = if x = y then 1 else 0 := by
  by_cases h : x = y
  · subst h
    rw [if_pos rfl]
    simp [IntOp.cmpi]
  · have hn : BitVec.ofNat 32 x ≠ BitVec.ofNat 32 y := fun e => h (by
      have := congrArg BitVec.toNat e
      simp only [BitVec.toNat_ofNat] at this
      omega)
    rw [if_neg h]
    show ((((BitVec.ofBool (BitVec.ofNat 32 x == BitVec.ofNat 32 y)).setWidth 32).toInt : ℝ) : EReal) = 0
    rw [beq_eq_false_iff_ne.mpr hn]
    simp

/-- The matrix of equal heads of 64, and of 128. -/
theorem m64 (a b : Fin 512) : k0_pay5 (F := Ideal) k0_pay1 k0_pay2 k0_pay3 k0_pay4 (ix2 a b) = if a.val / 64 = b.val / 64 then 1 else 0 := by
  rw [← eq_word (by omega : a.val / 64 < 512) (by omega : b.val / 64 < 512), ← row64 a b, ← col64 a b]
  rfl

theorem col128 (a b : Fin 512) (u : IVec S512x512 32) (hu : ∀ a b, u (ix2 a b) = BitVec.ofNat 32 b.val) :
    (select (andi (cmpi .ne k0_pay8 (broadcast S512x512 (Scalar.subi (Scalar.extui (Scalar.cmpi .sgt 128#32 0#32)) (Scalar.extui (Scalar.cmpi .slt 128#32 0#32)))))
      (cmpi .ne (remsi u (broadcast S512x512 128#32)) (broadcast S512x512 0#32))) (subi k0_pay7 (broadcast S512x512 1#32)) k0_pay7) (ix2 a b) = BitVec.ofNat 32 (b.val / 128) := by
  pointwise [k0_pay7, k0_pay8, hu]
  clear hu
  revert b
  decide +kernel

/-- The matrix of equal heads of 128. -/
theorem m128 (a b : Fin 512) : k0_pay9 (F := Ideal) (iota .tc S512x512 32 [1] iota_S512x512_d1_w32) k0_pay6 128#32 k0_pay7 k0_pay8
    (Scalar.extui (Scalar.cmpi .sgt 128#32 0#32)) (Scalar.extui (Scalar.cmpi .slt 128#32 0#32)) (ix2 a b) = if a.val / 128 = b.val / 128 then 1 else 0 := by
  rw [← eq_word (by omega : a.val / 128 < 512) (by omega : b.val / 128 < 512), ← row128 a b, ← col128 a b (iota .tc S512x512 32 [1] iota_S512x512_d1_w32) (fun a b => by pointwise)]
  rfl

end Cert.MixBwdIdeal.Mat

end
-- ==== Proof.MixBwd.Pay.lean ====
/- What the body of `mix_bwd` stores, read at an element. -/
module

public import proofs.«01_k».proof.Proof.MixBwd.Mat
public import proofs.«01_k».proof.Proof.Shared.Head

@[expose] public section

set_option maxRecDepth 16384

noncomputable section

namespace Cert.MixBwdIdeal.Pay

open Idealize.ShloMosaic Idealize.ShloMosaic.TcCoe Idealize.SL.Sem
open Cert.MixBwdIdeal Cert.MixBwdIdeal.Gen Cert.Shared

/-- A product of the cotangent's row with a row of the weights. -/
def dyf (dx : FVec Ideal S512x1024 .f32) (w : FVec Ideal S1024x1024 .bf16) (r : Fin 512) (k : Fin 1024) : EReal := ∑ l : Fin 1024, dx (ix2 r l) * w (ix2 k l)
abbrev lo (k : Fin 512) : Fin 1024 := ⟨k.val, by omega⟩
abbrev hi (k : Fin 512) : Fin 1024 := ⟨512 + k.val, by omega⟩

theorem dyLo (dx : FVec Ideal S512x1024 .f32) (w : FVec Ideal S1024x1024 .bf16) (r j : Fin 512) : k0_pay12 (F := Ideal) dx w (ix2 r j) = dyf dx w r (lo j) := by
  unfold dyf
  pointwise! [k0_pay12, k0_pay11, k0_pay10]
theorem dyHi (dx : FVec Ideal S512x1024 .f32) (w : FVec Ideal S1024x1024 .bf16) (r j : Fin 512) : k0_pay13 (F := Ideal) dx w (ix2 r j) = dyf dx w r (hi j) := by
  unfold dyf
  pointwise! [k0_pay13, k0_pay11, k0_pay10]

section

variable (M : FVec Ideal S512x512 .bf16) (x d : FVec Ideal S512x512 .f32) (g : FVec Ideal S1x512 .f32) (r j : Fin 512)

abbrev fin (x : FVec Ideal S512x512 .f32) (r : Fin 512) : Prop := ∀ k, ∃ q : ℝ, x (ix2 r k) = (q : EReal)

theorem rstd64 (hM : ∀ a b : Fin 512, M (ix2 a b) = if a.val / 64 = b.val / 64 then 1 else 0) (hx : fin x r) :
    k0_pay14 (F := Ideal) M x (ix2 r j) = rstd c64 (hrow h64 (fun k => x (ix2 r k)) j) := by
  unfold rstd ms
  rw [← split_sum h64 (fun k => x (ix2 r k) * x (ix2 r k)) (fun k => mul_real (hx k) (hx k)), ← mul_c64i]
  simp only [← hM]
  pointwise! [k0_pay14]
theorem rstd128 (hM : ∀ a b : Fin 512, M (ix2 a b) = if a.val / 128 = b.val / 128 then 1 else 0) (hx : fin x r) :
    k0_pay18 (F := Ideal) M x (ix2 r j) = rstd c128 (hrow h128 (fun k => x (ix2 r k)) j) := by
  unfold rstd ms
  rw [← split_sum h128 (fun k => x (ix2 r k) * x (ix2 r k)) (fun k => mul_real (hx k) (hx k)), ← mul_c128i]
  simp only [← hM]
  pointwise! [k0_pay18]

theorem oh64 : k0_pay15 (F := Ideal) M x (ix2 r j) = x (ix2 r j) * k0_pay14 (F := Ideal) M x (ix2 r j) := by
  pointwise [k0_pay15]
theorem oh128 : k0_pay19 (F := Ideal) M x (ix2 r j) = x (ix2 r j) * k0_pay18 (F := Ideal) M x (ix2 r j) := by
  pointwise [k0_pay19]

theorem dx64 (hM : ∀ a b : Fin 512, M (ix2 a b) = if a.val / 64 = b.val / 64 then 1 else 0) (hx : fin x r) (hd : fin d r) (hg : ∀ k, ∃ q : ℝ, g (ix2 0 k) = (q : EReal)) :
    k0_pay17 (F := Ideal) M d (k0_pay14 (F := Ideal) M x) (k0_pay15 (F := Ideal) M x) g (ix2 r j)
      = dhead h64 c64 (fun k => x (ix2 r k)) (fun k => d (ix2 r k)) (fun k => g (ix2 0 k)) j := by
  have hr : ∀ k, ∃ q : ℝ, k0_pay14 (F := Ideal) M x (ix2 r k) = (q : EReal) := fun k => by
    rw [rstd64 M x r k hM hx]; exact head_rstd_real h64 c64_eq (by norm_num) _ hx k
  rw [dhead_eq]
  simp only [← rstd64 M x r _ hM hx]
  rw [← split_sum h64 _ (fun k => mul_real (mul_real (hd k) (hg k)) (mul_real (hx k) (hr k))), ← mul_c64i]
  simp only [← hM]
  generalize hp : k0_pay14 (F := Ideal) M x = p
  pointwise! [k0_pay17, k0_pay15, hp]
theorem dx128 (hM : ∀ a b : Fin 512, M (ix2 a b) = if a.val / 128 = b.val / 128 then 1 else 0) (hx : fin x r) (hd : fin d r) (hg : ∀ k, ∃ q : ℝ, g (ix2 0 k) = (q : EReal)) :
    k0_pay24 (F := Ideal) M (k0_pay18 (F := Ideal) M x) (k0_pay19 (F := Ideal) M x) d g (ix2 r j)
      = dhead h128 c128 (fun k => x (ix2 r k)) (fun k => d (ix2 r k)) (fun k => g (ix2 0 k)) j := by
  have hr : ∀ k, ∃ q : ℝ, k0_pay18 (F := Ideal) M x (ix2 r k) = (q : EReal) := fun k => by
    rw [rstd128 M x r k hM hx]; exact head_rstd_real h128 c128_eq (by norm_num) _ hx k
  rw [dhead_eq]
  simp only [← rstd128 M x r _ hM hx]
  rw [← split_sum h128 _ (fun k => mul_real (mul_real (hd k) (hg k)) (mul_real (hx k) (hr k))), ← mul_c128i]
  simp only [← hM]
  generalize hp : k0_pay18 (F := Ideal) M x = p
  pointwise! [k0_pay24, k0_pay19, hp]

/-- The cotangent past the gate, and the gate's gradient. -/
theorem dn (gt : FVec Ideal S512x512 .f32) : k0_pay21 (F := Ideal) d gt (ix2 r j) = d (ix2 r j) * (gt (ix2 r j) * sgK (gt (ix2 r j))) := by
  unfold sgK
  pointwise [k0_pay21, k0_pay20]
theorem dgate (gt oh : FVec Ideal S512x512 .f32) : k0_pay22 (F := Ideal) d oh gt (k0_pay20 (F := Ideal) gt) g (ix2 r j)
    = daK (d (ix2 r j)) (gt (ix2 r j)) (oh (ix2 r j) * g (ix2 0 j)) := by
  unfold daK sgK
  pointwise! [k0_pay22, k0_pay20]

end

theorem gain64 (M : FVec Ideal S512x512 .bf16) (x : FVec Ideal S512x512 .f32) (dx : FVec Ideal S512x1024 .f32) (w : FVec Ideal S1024x1024 .bf16)
    (hM : ∀ a b : Fin 512, M (ix2 a b) = if a.val / 64 = b.val / 64 then 1 else 0) (hx : ∀ r, fin x r) (a : Fin 1) (j : Fin 512) :
    k0_pay16 (F := Ideal) M dx w x (ix2 a j) = ∑ r : Fin 512, dyf dx w r (lo j) * (x (ix2 r j) * rstd c64 (hrow h64 (fun k => x (ix2 r k)) j)) := by
  simp only [← rstd64 M x _ _ hM (hx _), ← dyLo]
  generalize hp : k0_pay14 (F := Ideal) M x = p
  generalize hq : k0_pay12 (F := Ideal) dx w = q
  pointwise! [k0_pay16, k0_pay15, hp, hq]
theorem gain128 (oh dn : FVec Ideal S512x512 .f32) (a : Fin 1) (j : Fin 512) :
    k0_pay23 (F := Ideal) oh dn (ix2 a j) = ∑ r : Fin 512, dn (ix2 r j) * oh (ix2 r j) := by
  pointwise! [k0_pay23]

theorem gain_add (p v : FVec Ideal S1x512 .f32) (i : S1x512.Idx) : k0_pay25 (F := Ideal) p v i = v i + p i := by
  pointwise [k0_pay25]
theorem gain_add' (oh dn : FVec Ideal S512x512 .f32) (v : FVec Ideal S1x512 .f32) (i : S1x512.Idx) :
    k0_pay26 (F := Ideal) oh dn v i = v i + k0_pay23 (F := Ideal) oh dn i := by
  pointwise [k0_pay26]

end Cert.MixBwdIdeal.Pay

end
-- ==== Proof.MixBwd.Value.lean ====
/- What the arrays of `mix_bwd` hold after its run. -/
module

public import proofs.«01_k».proof.Proof.MixBwd.Pay
public import proofs.«01_k».proof.Proof.Gen.MixBwdIdeal.Value
public import Idealize.ShloMosaic.Lib.Pipeline.ValueKit

@[expose] public section

set_option maxRecDepth 16384

noncomputable section

namespace Cert.MixBwdIdeal.Fin

open Idealize.ShloMosaic Idealize.ShloMosaic.TcCoe Idealize.SL.Sem
open Idealize.ShloMosaic.Pipeline (Dat)
open Cert.MixBwdIdeal Cert.MixBwdIdeal.Gen Cert.MixBwdIdeal.Mat Cert.MixBwdIdeal.Pay Cert.Shared

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 6] ∧ win0_4.index t = ![0, 0] ∧ win0_5.index t = ![0, 0] ∧ win0_6.index t = ![0, 0]
    ∧ win0_7.index t = ![t.val, 0] ∧ win0_8.index t = ![t.val, 0] ∧ win0_9.index t = ![t.val, 0]
    ∧ win0_10.index t = ![0, 0] ∧ win0_11.index t = ![0, 0] ∧ win0_12.index t = ![t.val, 0] :=
  (by decide +kernel : ∀ t : Fin grid0.N, _)

/-- The arrays the kernel's windows read, and the row of a block's row. -/
abbrev aD : FVec Ideal S4096x1024 .f32 := V m c main_arg0
abbrev aS : FVec Ideal S4096x512 .f32 := V m c main_arg1
abbrev aH : FVec Ideal S4096x512 .f32 := V m c main_arg2
abbrev aP : FVec Ideal S4096x3584 .f32 := V m c main_arg3
abbrev aGs : FVec Ideal S1x512 .f32 := V m c main_arg4
abbrev aGh : FVec Ideal S1x512 .f32 := V m c main_arg5
abbrev aW : FVec Ideal S1024x1024 .bf16 := V m c main_v0

theorem t_lt (t : Fin cfg0.N) : t.val < 8 := lt_of_lt_of_eq t.isLt N_0
def row (t : Fin cfg0.N) (r : Fin 512) : Fin 4096 := ⟨t.val * 512 + r.val, by have := t_lt t; omega⟩
abbrev col (k : Fin 512) : Fin 3584 := ⟨3072 + k.val, by omega⟩

theorem blk0 (t : Fin cfg0.N) (r : Fin 512) (k : Fin 1024) : iblk m c 0 t (ix2 r k) = aD m c (ix2 (row t r) k) := by
  blk_point [iblk, V, idx t, row]
theorem blk1 (t : Fin cfg0.N) (r : Fin 512) (k : Fin 512) : iblk m c 1 t (ix2 r k) = aS m c (ix2 (row t r) k) := by
  blk_point [iblk, V, idx t, row]
theorem blk2 (t : Fin cfg0.N) (r : Fin 512) (k : Fin 512) : iblk m c 2 t (ix2 r k) = aH m c (ix2 (row t r) k) := by
  blk_point [iblk, V, idx t, row]
theorem blk3 (t : Fin cfg0.N) (r : Fin 512) (k : Fin 512) : iblk m c 3 t (ix2 r k) = aP m c (ix2 (row t r) (col k)) := by
  blk_point [iblk, V, idx t, row, col]
theorem blk4 (t : Fin cfg0.N) (a : Fin 1) (k : Fin 512) : iblk m c 4 t (ix2 a k) = aGs m c (ix2 a k) := by
  blk_point [iblk, V, idx t, row]
theorem blk5 (t : Fin cfg0.N) (a : Fin 1) (k : Fin 512) : iblk m c 5 t (ix2 a k) = aGh m c (ix2 a k) := by
  blk_point [iblk, V, idx t, row]
theorem blk6 (t : Fin cfg0.N) (l : Fin 1024) (k : Fin 1024) : iblk m c 6 t (ix2 l k) = aW m c (ix2 l k) := by
  blk_point [iblk, V, idx t, row]
theorem emb7 (t : Fin cfg0.N) (r : Fin 512) (k : Fin 512) : ((cfg0.win 7).blk t).view.emb (ix2 r k) = ix2 (row t r) k := by
  blk_ext [idx t, row]
theorem emb8 (t : Fin cfg0.N) (r : Fin 512) (k : Fin 512) : ((cfg0.win 8).blk t).view.emb (ix2 r k) = ix2 (row t r) k := by
  blk_ext [idx t, row]
theorem emb9 (t : Fin cfg0.N) (r : Fin 512) (k : Fin 512) : ((cfg0.win 9).blk t).view.emb (ix2 r k) = ix2 (row t r) k := by
  blk_ext [idx t, row]
theorem emb12 (t : Fin cfg0.N) (r : Fin 512) (k : Fin 1024) : ((cfg0.win 12).blk t).view.emb (ix2 r k) = ix2 (row t r) k := by
  blk_ext [idx t, row]

/-- A product of the cotangent's row with a row of the weights, the gate, and the cotangent past the gate. -/
def dy (r : Fin 4096) (k : Fin 1024) : EReal := ∑ l : Fin 1024, aD m c (ix2 r l) * aW m c (ix2 k l)
abbrev gt (r : Fin 4096) (k : Fin 512) : EReal := aP m c (ix2 r (col k))
abbrev dN (r : Fin 4096) (k : Fin 512) : EReal := dy m c r (hi k) * (gt m c r k * sgK (gt m c r k))

theorem dy_blk (t : Fin cfg0.N) (r : Fin 512) (k : Fin 1024) : dyf (iblk m c 0 t) (iblk m c 6 t) r k = dy m c (row t r) k := by
  unfold dyf dy
  simp only [blk0, blk6]

/-- The gradients: of the two heads' outputs, of the gate, of the two gains, and the cotangent itself. -/
def G7 : FVec Ideal S4096x512 .f32 := fun i =>
  dhead h64 c64 (fun k => aS m c (ix2 (i 0) k)) (fun k => dy m c (i 0) (lo k)) (fun k => aGs m c (ix2 0 k)) (i 1)
def G8 : FVec Ideal S4096x512 .f32 := fun i =>
  dhead h128 c128 (fun k => aH m c (ix2 (i 0) k)) (fun k => dN m c (i 0) k) (fun k => aGh m c (ix2 0 k)) (i 1)
def G9 : FVec Ideal S4096x512 .bf16 := fun i =>
  daK (dy m c (i 0) (hi (i 1))) (gt m c (i 0) (i 1)) (aH m c (ix2 (i 0) (i 1)) * rstd c128 (hrow h128 (fun k => aH m c (ix2 (i 0) k)) (i 1)) * aGh m c (ix2 0 (i 1)))
def G10 : FVec Ideal S1x512 .f32 := fun i =>
  ∑ r : Fin 4096, dy m c r (lo (i 1)) * (aS m c (ix2 r (i 1)) * rstd c64 (hrow h64 (fun k => aS m c (ix2 r k)) (i 1)))
def G11 : FVec Ideal S1x512 .f32 := fun i =>
  ∑ r : Fin 4096, dN m c r (i 1) * (aH m c (ix2 r (i 1)) * rstd c128 (hrow h128 (fun k => aH m c (ix2 r k)) (i 1)))

/-- The two matrices as the body has them. -/
abbrev M64 : FVec Ideal S512x512 .bf16 := k0_pay5 (F := Ideal) k0_pay1 k0_pay2 k0_pay3 k0_pay4
abbrev M128 : FVec Ideal S512x512 .bf16 := k0_pay9 (F := Ideal) (iota .tc S512x512 32 [1] iota_S512x512_d1_w32) k0_pay6 128#32 k0_pay7 k0_pay8
    (Scalar.extui (Scalar.cmpi .sgt 128#32 0#32)) (Scalar.extui (Scalar.cmpi .slt 128#32 0#32))

/-- What the precondition gives. -/
structure Real : Prop where
  d : ∀ i, ∃ q : ℝ, aD m c i = (q : EReal)
  s : ∀ i, ∃ q : ℝ, aS m c i = (q : EReal)
  h : ∀ i, ∃ q : ℝ, aH m c i = (q : EReal)
  p : ∀ i, ∃ q : ℝ, aP m c i = (q : EReal)
  gs : ∀ i, ∃ q : ℝ, aGs m c i = (q : EReal)
  gh : ∀ i, ∃ q : ℝ, aGh m c i = (q : EReal)
  w : ∀ i, ∃ q : ℝ, aW m c i = (q : EReal)

theorem dy_real (R : Real m c) (r : Fin 4096) (k : Fin 1024) : ∃ q : ℝ, dy m c r k = (q : EReal) :=
  sum_real _ fun l => mul_real (R.d _) (R.w _)
theorem dN_real (R : Real m c) (r : Fin 4096) (k : Fin 512) : ∃ q : ℝ, dN m c r k = (q : EReal) := by
  unfold dN
  rw [sgK_eq (R.p _)]
  exact mul_real (dy_real m c R r _) (mul_real (R.p _) (sgR_real (R.p _)))

variable (R : Real m c) (t : Fin cfg0.N)
include R

theorem fin1 (r : Fin 512) : fin (iblk m c 1 t) r := fun k => by rw [blk1]; exact R.s _
theorem fin2 (r : Fin 512) : fin (iblk m c 2 t) r := fun k => by rw [blk2]; exact R.h _
omit R in
theorem dN_blk (r k : Fin 512) : k0_pay21 (F := Ideal) (k0_pay13 (iblk m c 0 t) (iblk m c 6 t)) (iblk m c 3 t) (ix2 r k) = dN m c (row t r) k := by
  rw [dn, dyHi, dy_blk, blk3]
theorem oh_blk (r k : Fin 512) : k0_pay19 (F := Ideal) M128 (iblk m c 2 t) (ix2 r k)
    = aH m c (ix2 (row t r) k) * rstd c128 (hrow h128 (fun k => aH m c (ix2 (row t r) k)) k) := by
  rw [oh128, rstd128 _ _ _ _ m128 (fin2 m c R t r)]
  simp only [blk2]

theorem point7 (y) : k0_pay17 (F := Ideal) M64 (k0_pay12 (iblk m c 0 t) (iblk m c 6 t)) (k0_pay14 M64 (iblk m c 1 t)) (k0_pay15 M64 (iblk m c 1 t)) (iblk m c 4 t) y
      = G7 m c (((cfg0.win 7).blk t).view.emb y) := by
  idx_vars y
  rw [dx64 _ _ _ _ _ _ m64 (fin1 m c R t _) (fun k => by rw [dyLo, dy_blk]; exact dy_real m c R _ _) (fun k => by rw [blk4]; exact R.gs _), emb7]
  simp only [blk1, blk4, dyLo, dy_blk]
  rfl
theorem point8 (y) : k0_pay24 (F := Ideal) M128 (k0_pay18 M128 (iblk m c 2 t)) (k0_pay19 M128 (iblk m c 2 t))
        (k0_pay21 (k0_pay13 (iblk m c 0 t) (iblk m c 6 t)) (iblk m c 3 t)) (iblk m c 5 t) y
      = G8 m c (((cfg0.win 8).blk t).view.emb y) := by
  idx_vars y
  rw [dx128 _ _ _ _ _ _ m128 (fin2 m c R t _) (fun k => by rw [dN_blk]; exact dN_real m c R _ _) (fun k => by rw [blk5]; exact R.gh _), emb8]
  simp only [blk2, blk5, dN_blk]
  rfl
theorem point9 (y) : k0_pay22 (F := Ideal) (k0_pay13 (iblk m c 0 t) (iblk m c 6 t)) (k0_pay19 M128 (iblk m c 2 t)) (iblk m c 3 t) (k0_pay20 (iblk m c 3 t)) (iblk m c 5 t) y
      = G9 m c (((cfg0.win 9).blk t).view.emb y) := by
  idx_vars y
  rw [dgate, emb9, oh_blk m c R, dyHi, dy_blk, blk3, blk5]
  rfl
omit R in
theorem point12 (y) : k0_pay10 (F := Ideal) (iblk m c 0 t) y = aD m c (((cfg0.win 12).blk t).view.emb y) := by
  idx_vars y
  rw [emb12, ← blk0]
  rfl

theorem final7 : (dats m 0 c).arrAt 7 cfg0.N = G7 m c := by
  refine (dats m 0 c).arrAt_eq_of_covers 7 (G7 m c) (by decide +kernel) fun t _ y => ?_
  blk_simp
  rw [after0_7]
  by_cases h : t.val % 8 = 0
  · have h1 : ¬ 1 ≤ t.val := by have := t_lt t; omega
    rw [outsAt0_A m c t h h1]; frame_out
    exact point7 m c R t y
  · have h1 : 1 ≤ t.val := by omega
    rw [outsAt0_B m c t h h1]; frame_out
    exact point7 m c R t y

theorem final8 : (dats m 0 c).arrAt 8 cfg0.N = G8 m c := by
  refine (dats m 0 c).arrAt_eq_of_covers 8 (G8 m c) (by decide +kernel) fun t _ y => ?_
  blk_simp
  rw [after0_8]
  by_cases h : t.val % 8 = 0
  · have h1 : ¬ 1 ≤ t.val := by have := t_lt t; omega
    rw [outsAt0_A m c t h h1]; frame_out
    exact point8 m c R t y
  · have h1 : 1 ≤ t.val := by omega
    rw [outsAt0_B m c t h h1]; frame_out
    exact point8 m c R t y

theorem final9 : (dats m 0 c).arrAt 9 cfg0.N = G9 m c := by
  refine (dats m 0 c).arrAt_eq_of_covers 9 (G9 m c) (by decide +kernel) fun t _ y => ?_
  blk_simp
  rw [after0_9]
  by_cases h : t.val % 8 = 0
  · have h1 : ¬ 1 ≤ t.val := by have := t_lt t; omega
    rw [outsAt0_A m c t h h1]; frame_out
    exact point9 m c R t y
  · have h1 : 1 ≤ t.val := by omega
    rw [outsAt0_B m c t h h1]; frame_out
    exact point9 m c R t y
omit R in

theorem final12 : (dats m 0 c).arrAt 12 cfg0.N = aD m c := by
  refine (dats m 0 c).arrAt_eq_of_covers 12 (aD m c) (by decide +kernel) fun t _ y => ?_
  blk_simp
  rw [after0_12]
  by_cases h : t.val % 8 = 0
  · have h1 : ¬ 1 ≤ t.val := by have := t_lt t; omega
    rw [outsAt0_A m c t h h1]; frame_out
    exact point12 m c t y
  · have h1 : 1 ≤ t.val := by omega
    rw [outsAt0_B m c t h h1]; frame_out
    exact point12 m c t y

omit R in
/-- What one block adds to this gain's gradient. -/
def part10 (t : Fin cfg0.N) (j : S1x512.Idx) : EReal := k0_pay16 (F := Ideal) M64 (iblk m c 0 t) (iblk m c 6 t) (iblk m c 1 t) j
theorem part10_eq (t : Fin cfg0.N) (a : Fin 1) (j : Fin 512) : part10 m c t (ix2 a j)
    = ∑ r : Fin 512, dy m c (row t r) (lo j) * (aS m c (ix2 (row t r) j) * rstd c64 (hrow h64 (fun k => aS m c (ix2 (row t r) k)) j)) := by
  unfold part10
  rw [gain64 _ _ _ _ m64 (fin1 m c R t)]
  simp only [blk1, dy_blk]
theorem final10 : (dats m 0 c).arrAt 10 cfg0.N = G10 m c := by
  refine (dats m 0 c).arrAt_eq_of_after_last 10 t0_7 (by decide +kernel) _ fun j => ?_
  blk_simp
  rw [after0_10, Pipeline.eq_sum_fin_of_reset_step_apply_last (fun n h => (outsAt0 m c n h).2.2.2.1) 8 (fun _ => 0) (part10 m c)
    (fun t h j => by
      have h1 : ¬ 1 ≤ t.val := by have := t_lt t; omega
      rw [outsAt0_A m c t h h1]; frame_out; exact (zero_add _).symm)
    (fun t h j => by
      have h1 : 1 ≤ t.val := by omega
      rw [outsAt0_B m c t h h1]; frame_out; exact gain_add _ _ _)
    (le_of_eq N_0) t0_7 rfl j, zero_add]
  idx_vars j
  simp only [part10_eq m c R]
  unfold G10
  refine Fin.sum_mul_add_congr fun s k hl => ?_
  rfl

omit R in
/-- What one block adds to this gain's gradient. -/
def part11 (t : Fin cfg0.N) (j : S1x512.Idx) : EReal := k0_pay23 (F := Ideal) (k0_pay19 M128 (iblk m c 2 t)) (k0_pay21 (k0_pay13 (iblk m c 0 t) (iblk m c 6 t)) (iblk m c 3 t)) j
theorem part11_eq (t : Fin cfg0.N) (a : Fin 1) (j : Fin 512) : part11 m c t (ix2 a j)
    = ∑ r : Fin 512, dN m c (row t r) j * (aH m c (ix2 (row t r) j) * rstd c128 (hrow h128 (fun k => aH m c (ix2 (row t r) k)) j)) := by
  unfold part11
  rw [gain128]
  simp only [dN_blk, oh_blk m c R]
theorem final11 : (dats m 0 c).arrAt 11 cfg0.N = G11 m c := by
  refine (dats m 0 c).arrAt_eq_of_after_last 11 t0_7 (by decide +kernel) _ fun j => ?_
  blk_simp
  rw [after0_11, Pipeline.eq_sum_fin_of_reset_step_apply_last (fun n h => (outsAt0 m c n h).2.2.2.2.1) 8 (fun _ => 0) (part11 m c)
    (fun t h j => by
      have h1 : ¬ 1 ≤ t.val := by have := t_lt t; omega
      rw [outsAt0_A m c t h h1]; frame_out; exact (zero_add _).symm)
    (fun t h j => by
      have h1 : 1 ≤ t.val := by omega
      rw [outsAt0_B m c t h h1]; frame_out; exact gain_add' _ _ _ _)
    (le_of_eq N_0) t0_7 rfl j, zero_add]
  idx_vars j
  simp only [part11_eq m c R]
  unfold G11
  refine Fin.sum_mul_add_congr fun s k hl => ?_
  rfl

end Cert.MixBwdIdeal.Fin

end
-- ==== Proof.MixBwd.Ref.lean ====
/- What the reference of `mix_bwd` computes, read at an element. -/
module

public import proofs.«01_k».proof.Proof.Gen.MixBwdRefIdeal.Read
public import proofs.«01_k».proof.Proof.Shared.Head
public import Idealize.ShloMosaic.Lib.Pointwise

@[expose] public section

set_option maxRecDepth 16384

noncomputable section

namespace Cert.MixBwdRefIdeal.Spec

open Idealize.ShloMosaic Idealize.ShloMosaic.TcCoe Idealize.SL.Sem
open Cert.MixBwdRefIdeal Cert.MixBwdRefIdeal.Gen Cert.MixBwdRefIdeal.Read Cert.Shared

variable (x0 : FVec Ideal S4096x1024 .f32) (x1 x2 : FVec Ideal S4096x512 .f32) (x3 : FVec Ideal S4096x3584 .f32) (x4 x5 : FVec Ideal S1x512 .f32) (x6 : FVec Ideal S1024x1024 .f32)

/-- A product of the cotangent's row with a row of the weights, its two halves, the gate, and the cotangent past the gate. -/
def dyr (r : Fin 4096) (k : Fin 1024) : EReal := ∑ l : Fin 1024, x0 (ix2 r l) * x6 (ix2 k l)
abbrev dLo (r : Fin 4096) (k : Fin 512) : EReal := dyr x0 x6 r ⟨k.val, by omega⟩
abbrev dHi (r : Fin 4096) (k : Fin 512) : EReal := dyr x0 x6 r ⟨512 + k.val, by omega⟩
abbrev gt (r : Fin 4096) (k : Fin 512) : EReal := x3 (ix2 r ⟨3072 + k.val, by omega⟩)
abbrev dN (r : Fin 4096) (k : Fin 512) : EReal := dHi x0 x6 r k * (gt x3 r k * sgR (gt x3 r k))

theorem v42_at (r : Fin 4096) (k : Fin 512) : val_main_v42 (F := Ideal) x0 x6 (ix2 r k) = dLo x0 x6 r k := by
  unfold dLo dyr
  pointwise! [val_main_v42, val_main_v41]
theorem v43_at (r : Fin 4096) (k : Fin 512) : val_main_v43 (F := Ideal) x0 x6 (ix2 r k) = dHi x0 x6 r k := by
  unfold dHi dyr
  pointwise! [val_main_v43, val_main_v41]
theorem v0_at (r : Fin 4096) (k : Fin 512) : val_main_v0 (F := Ideal) x3 (ix2 r k) = gt x3 r k := by
  pointwise! [val_main_v0]
theorem sg_at (r : Fin 4096) (k : Fin 512) : val_main_v35_2 (F := Ideal) x3 (ix2 r k) = sgR (gt x3 r k) := by
  rw [← v0_at]
  unfold val_main_v35_2 val_main_call0_v3 val_main_call0_v1 val_main_call0_v0 sgR
  generalize val_main_v0 (F := Ideal) x3 = p
  pointwise! [val_main_call0_v4, val_main_call0_cst_0, val_main_call0_v2, val_main_call0_cst]
theorem one_at (r : Fin 4096) (k : Fin 512) : val_main_call0_v6 (F := Ideal) (ix2 r k) = c1 := by
  pointwise! [val_main_call0_v6, val_main_call0_cst_1]
theorem v45_at (r : Fin 4096) (k : Fin 512) : val_main_v45 (F := Ideal) x0 x3 x6 (ix2 r k) = dN x0 x3 x6 r k := by
  show val_main_v43 (F := Ideal) x0 x6 (ix2 r k) * (val_main_v0 (F := Ideal) x3 (ix2 r k) * val_main_v35_2 (F := Ideal) x3 (ix2 r k)) = _
  rw [v43_at, v0_at, sg_at]
theorem preA_at (r : Fin 4096) (k : Fin 512) : val_main_v72 (F := Ideal) x0 x4 x6 (ix2 r k) = dLo x0 x6 r k * x4 (ix2 0 k) := by
  rw [← v42_at]
  unfold val_main_v72
  generalize val_main_v42 (F := Ideal) x0 x6 = p
  pointwise! [val_main_v71]
theorem preB_at (r : Fin 4096) (k : Fin 512) : val_main_v51 (F := Ideal) x0 x3 x5 x6 (ix2 r k) = dN x0 x3 x6 r k * x5 (ix2 0 k) := by
  rw [← v45_at]
  unfold val_main_v51
  generalize val_main_v45 (F := Ideal) x0 x3 x6 = p
  pointwise! [val_main_v50]

/-- Heads of 64: the column, the normalisation, and its gradient. -/
def hcA (h : Fin 8) (e : Fin 64) : Fin 512 := ⟨h.val * 64 + e.val, by omega⟩

theorem xA_at (r : Fin 4096) (h : Fin 8) (e : Fin 64) : val_main_v1 (F := Ideal) x1 (ix3 r h e) = x1 (ix2 r (hcA h e)) := by
  rw [val_main_v1_apply]
  refine congrArg _ (funext fun a => ?_)
  fin_cases a
  · apply Fin.ext; show ((r.val * 8 + h.val) * 64 + e.val) / 512 = r.val; omega
  · apply Fin.ext; show ((r.val * 8 + h.val) * 64 + e.val) % 512 = h.val * 64 + e.val; omega

theorem msA_at (r : Fin 4096) (h : Fin 8) (a : Fin 1) : val_main_v8 (F := Ideal) x1 (ix3 r h a) = ms c64 (fun e => x1 (ix2 r (hcA h e))) := by
  unfold ms
  simp only [← xA_at]
  generalize hp : val_main_v1 (F := Ideal) x1 = p
  pointwise! [val_main_v8, val_main_v7, val_main_v6, val_main_v5, val_main_v4, val_main_v3, val_main_v2, hp, val_main_cst, val_main_cst_0, val_main_cst_1]
theorem rsA_at (r : Fin 4096) (h : Fin 8) (a : Fin 1) : val_main_v9 (F := Ideal) x1 (ix3 r h a) = rstd c64 (fun e => x1 (ix2 r (hcA h e))) := by
  show Ideal.rsqrt (val_main_v8 (F := Ideal) x1 (ix3 r h a)) = _
  rw [msA_at]; rfl
theorem brA_at (r : Fin 4096) (h : Fin 8) (e : Fin 64) : val_main_v13 (F := Ideal) x1 (ix3 r h e) = rstd c64 (fun e => x1 (ix2 r (hcA h e))) := by
  rw [val_main_v13_apply, ← rsA_at x1 r h 0]
  refine congrArg _ (funext fun a => ?_)
  fin_cases a <;> rfl
theorem hatA_at (r : Fin 4096) (j : Fin 512) : val_main_v15 (F := Ideal) x1 (ix2 r j) = x1 (ix2 r j) * rstd c64 (hrow h64 (fun k => x1 (ix2 r k)) j) := by
  have e1 : hcA ⟨j.val / 64, by omega⟩ ⟨j.val % 64, by omega⟩ = j := Fin.ext (Nat.div_add_mod' j.val 64)
  have e : idx_main_v15 (ix2 r j) = ix3 r ⟨j.val / 64, by omega⟩ ⟨j.val % 64, by omega⟩ := by
    funext a
    fin_cases a <;> apply Fin.ext
    · show (r.val * 512 + j.val) / 512 = r.val; omega
    · show (r.val * 512 + j.val) / 64 % 8 = j.val / 64; omega
    · show (r.val * 512 + j.val) % 64 = j.val % 64; omega
  rw [val_main_v15_apply, e]
  show val_main_v1 (F := Ideal) x1 _ * val_main_v13 (F := Ideal) x1 _ = _
  rw [xA_at, brA_at, e1]
  rfl

theorem dgA_at (r : Fin 4096) (h : Fin 8) (e : Fin 64) : val_main_v73 (F := Ideal) x0 x4 x6 (ix3 r h e) = dLo x0 x6 r (hcA h e) * x4 (ix2 0 (hcA h e)) := by
  rw [val_main_v73_apply, ← preA_at]
  refine congrArg _ (funext fun a => ?_)
  fin_cases a
  · apply Fin.ext; show ((r.val * 8 + h.val) * 64 + e.val) / 512 = r.val; have := h.isLt; have := e.isLt; omega
  · apply Fin.ext; show ((r.val * 8 + h.val) * 64 + e.val) % 512 = h.val * 64 + e.val; have := h.isLt; have := e.isLt; omega
/-- The products with the cotangent, summed over a head. -/
theorem xsA_at (r : Fin 4096) (h : Fin 8) (a : Fin 1) : val_main_v76 (F := Ideal) x0 x1 x4 x6 (ix3 r h a)
    = ∑ e : Fin 64, x1 (ix2 r (hcA h e)) * (dLo x0 x6 r (hcA h e) * x4 (ix2 0 (hcA h e))) := by
  have e1 : idx_main_v76 (ix3 r h a) = ix2 r h := by
    funext b
    fin_cases b <;> apply Fin.ext
    · show ((r.val * 8 + h.val) * 1 + a.val) / 8 = r.val; have := h.isLt; omega
    · show ((r.val * 8 + h.val) * 1 + a.val) % 8 = h.val; have := h.isLt; omega
  rw [val_main_v76_apply, e1]
  simp only [← xA_at, ← dgA_at]
  unfold val_main_v75 val_main_v74
  generalize val_main_v1 (F := Ideal) x1 = p
  generalize val_main_v73 (F := Ideal) x0 x4 x6 = p'
  pointwise! [val_main_cst_12]
/-- The cotangent of the mean square, over the head's length. -/
theorem qA_at (r : Fin 4096) (h : Fin 8) (e : Fin 64) : val_main_v83 (F := Ideal) x0 x1 x4 x6 (ix3 r h e)
    = dxQ c64 (fun e => x1 (ix2 r (hcA h e))) (fun e => dLo x0 x6 r (hcA h e)) (fun e => x4 (ix2 0 (hcA h e))) := by
  unfold dxQ
  rw [← xsA_at (r := r) (h := h) (a := 0), ← msA_at x1 r h 0, ← rsA_at x1 r h 0]
  unfold val_main_v83 val_main_v82 val_main_v81 val_main_v79 val_main_v12 val_main_v10
  generalize val_main_v76 (F := Ideal) x0 x1 x4 x6 = p
  generalize val_main_v9 (F := Ideal) x1 = p1
  generalize val_main_v8 (F := Ideal) x1 = p2
  pointwise! [val_main_v11, val_main_cst_2, val_main_v80, val_main_cst_13, val_main_cst_14]
  all_goals rw [Fin.sum_univ_one]
/-- The gradient of a head's normalisation. -/
theorem oA_at (r : Fin 4096) (j : Fin 512) : val_main_v88 (F := Ideal) x0 x1 x4 x6 (ix2 r j)
    = dxR c64 (hrow h64 (fun k => x1 (ix2 r k)) j) (hrow h64 (fun k => dLo x0 x6 r k) j) (hrow h64 (fun k => x4 (ix2 0 k)) j) 0 (hoff h64 j) := by
  have e1 : hcA ⟨j.val / 64, by omega⟩ ⟨j.val % 64, by omega⟩ = j := Fin.ext (Nat.div_add_mod' j.val 64)
  have e : idx_main_v88 (ix2 r j) = ix3 r ⟨j.val / 64, by omega⟩ ⟨j.val % 64, by omega⟩ := by
    funext a
    fin_cases a <;> apply Fin.ext
    · show (r.val * 512 + j.val) / 512 = r.val; omega
    · show (r.val * 512 + j.val) / 64 % 8 = j.val / 64; omega
    · show (r.val * 512 + j.val) % 64 = j.val % 64; omega
  rw [val_main_v88_apply, e]
  show val_main_v73 (F := Ideal) x0 x4 x6 _ * val_main_v77 (F := Ideal) x1 _ + val_main_v1 (F := Ideal) x1 _ * val_main_v83 (F := Ideal) x0 x1 x4 x6 _ + val_main_v83 (F := Ideal) x0 x1 x4 x6 _ * val_main_v1 (F := Ideal) x1 _ = _
  rw [xA_at, dgA_at, qA_at, show val_main_v77 (F := Ideal) x1 = val_main_v13 (F := Ideal) x1 from rfl, brA_at, e1]
  unfold dxR
  rw [zero_add]
  simp only [hrow, hcol_off]
  rfl

/-- Heads of 128: the column, the normalisation, and its gradient. -/
def hcB (h : Fin 4) (e : Fin 128) : Fin 512 := ⟨h.val * 128 + e.val, by omega⟩

theorem xB_at (r : Fin 4096) (h : Fin 4) (e : Fin 128) : val_main_v18 (F := Ideal) x2 (ix3 r h e) = x2 (ix2 r (hcB h e)) := by
  rw [val_main_v18_apply]
  refine congrArg _ (funext fun a => ?_)
  fin_cases a
  · apply Fin.ext; show ((r.val * 4 + h.val) * 128 + e.val) / 512 = r.val; omega
  · apply Fin.ext; show ((r.val * 4 + h.val) * 128 + e.val) % 512 = h.val * 128 + e.val; omega

theorem msB_at (r : Fin 4096) (h : Fin 4) (a : Fin 1) : val_main_v25 (F := Ideal) x2 (ix3 r h a) = ms c128 (fun e => x2 (ix2 r (hcB h e))) := by
  unfold ms
  simp only [← xB_at]
  generalize hp : val_main_v18 (F := Ideal) x2 = p
  pointwise! [val_main_v25, val_main_v24, val_main_v23, val_main_v22, val_main_v21, val_main_v20, val_main_v19, hp, val_main_cst_3, val_main_cst_4, val_main_cst_5]
theorem rsB_at (r : Fin 4096) (h : Fin 4) (a : Fin 1) : val_main_v26 (F := Ideal) x2 (ix3 r h a) = rstd c128 (fun e => x2 (ix2 r (hcB h e))) := by
  show Ideal.rsqrt (val_main_v25 (F := Ideal) x2 (ix3 r h a)) = _
  rw [msB_at]; rfl
theorem brB_at (r : Fin 4096) (h : Fin 4) (e : Fin 128) : val_main_v30 (F := Ideal) x2 (ix3 r h e) = rstd c128 (fun e => x2 (ix2 r (hcB h e))) := by
  rw [val_main_v30_apply, ← rsB_at x2 r h 0]
  refine congrArg _ (funext fun a => ?_)
  fin_cases a <;> rfl
theorem hatB_at (r : Fin 4096) (j : Fin 512) : val_main_v32 (F := Ideal) x2 (ix2 r j) = x2 (ix2 r j) * rstd c128 (hrow h128 (fun k => x2 (ix2 r k)) j) := by
  have e1 : hcB ⟨j.val / 128, by omega⟩ ⟨j.val % 128, by omega⟩ = j := Fin.ext (Nat.div_add_mod' j.val 128)
  have e : idx_main_v32 (ix2 r j) = ix3 r ⟨j.val / 128, by omega⟩ ⟨j.val % 128, by omega⟩ := by
    funext a
    fin_cases a <;> apply Fin.ext
    · show (r.val * 512 + j.val) / 512 = r.val; omega
    · show (r.val * 512 + j.val) / 128 % 4 = j.val / 128; omega
    · show (r.val * 512 + j.val) % 128 = j.val % 128; omega
  rw [val_main_v32_apply, e]
  show val_main_v18 (F := Ideal) x2 _ * val_main_v30 (F := Ideal) x2 _ = _
  rw [xB_at, brB_at, e1]
  rfl

theorem dgB_at (r : Fin 4096) (h : Fin 4) (e : Fin 128) : val_main_v52 (F := Ideal) x0 x3 x5 x6 (ix3 r h e) = dN x0 x3 x6 r (hcB h e) * x5 (ix2 0 (hcB h e)) := by
  rw [val_main_v52_apply, ← preB_at]
  refine congrArg _ (funext fun a => ?_)
  fin_cases a
  · apply Fin.ext; show ((r.val * 4 + h.val) * 128 + e.val) / 512 = r.val; have := h.isLt; have := e.isLt; omega
  · apply Fin.ext; show ((r.val * 4 + h.val) * 128 + e.val) % 512 = h.val * 128 + e.val; have := h.isLt; have := e.isLt; omega
/-- The products with the cotangent, summed over a head. -/
theorem xsB_at (r : Fin 4096) (h : Fin 4) (a : Fin 1) : val_main_v55 (F := Ideal) x0 x2 x3 x5 x6 (ix3 r h a)
    = ∑ e : Fin 128, x2 (ix2 r (hcB h e)) * (dN x0 x3 x6 r (hcB h e) * x5 (ix2 0 (hcB h e))) := by
  have e1 : idx_main_v55 (ix3 r h a) = ix2 r h := by
    funext b
    fin_cases b <;> apply Fin.ext
    · show ((r.val * 4 + h.val) * 1 + a.val) / 4 = r.val; have := h.isLt; omega
    · show ((r.val * 4 + h.val) * 1 + a.val) % 4 = h.val; have := h.isLt; omega
  rw [val_main_v55_apply, e1]
  simp only [← xB_at, ← dgB_at]
  unfold val_main_v54 val_main_v53
  generalize val_main_v18 (F := Ideal) x2 = p
  generalize val_main_v52 (F := Ideal) x0 x3 x5 x6 = p'
  pointwise! [val_main_cst_8]
/-- The cotangent of the mean square, over the head's length. -/
theorem qB_at (r : Fin 4096) (h : Fin 4) (e : Fin 128) : val_main_v62 (F := Ideal) x0 x2 x3 x5 x6 (ix3 r h e)
    = dxQ c128 (fun e => x2 (ix2 r (hcB h e))) (fun e => dN x0 x3 x6 r (hcB h e)) (fun e => x5 (ix2 0 (hcB h e))) := by
  unfold dxQ
  rw [← xsB_at (r := r) (h := h) (a := 0), ← msB_at x2 r h 0, ← rsB_at x2 r h 0]
  unfold val_main_v62 val_main_v61 val_main_v60 val_main_v58 val_main_v29 val_main_v27
  generalize val_main_v55 (F := Ideal) x0 x2 x3 x5 x6 = p
  generalize val_main_v26 (F := Ideal) x2 = p1
  generalize val_main_v25 (F := Ideal) x2 = p2
  pointwise! [val_main_v28, val_main_cst_6, val_main_v59, val_main_cst_9, val_main_cst_10]
  all_goals rw [Fin.sum_univ_one]
/-- The gradient of a head's normalisation. -/
theorem oB_at (r : Fin 4096) (j : Fin 512) : val_main_v67 (F := Ideal) x0 x2 x3 x5 x6 (ix2 r j)
    = dxR c128 (hrow h128 (fun k => x2 (ix2 r k)) j) (hrow h128 (fun k => dN x0 x3 x6 r k) j) (hrow h128 (fun k => x5 (ix2 0 k)) j) 0 (hoff h128 j) := by
  have e1 : hcB ⟨j.val / 128, by omega⟩ ⟨j.val % 128, by omega⟩ = j := Fin.ext (Nat.div_add_mod' j.val 128)
  have e : idx_main_v67 (ix2 r j) = ix3 r ⟨j.val / 128, by omega⟩ ⟨j.val % 128, by omega⟩ := by
    funext a
    fin_cases a <;> apply Fin.ext
    · show (r.val * 512 + j.val) / 512 = r.val; omega
    · show (r.val * 512 + j.val) / 128 % 4 = j.val / 128; omega
    · show (r.val * 512 + j.val) % 128 = j.val % 128; omega
  rw [val_main_v67_apply, e]
  show val_main_v52 (F := Ideal) x0 x3 x5 x6 _ * val_main_v56 (F := Ideal) x2 _ + val_main_v18 (F := Ideal) x2 _ * val_main_v62 (F := Ideal) x0 x2 x3 x5 x6 _ + val_main_v62 (F := Ideal) x0 x2 x3 x5 x6 _ * val_main_v18 (F := Ideal) x2 _ = _
  rw [xB_at, dgB_at, qB_at, show val_main_v56 (F := Ideal) x2 = val_main_v30 (F := Ideal) x2 from rfl, brB_at, e1]
  unfold dxR
  rw [zero_add]
  simp only [hrow, hcol_off]
  rfl

theorem gain5_at (r : Fin 4096) (k : Fin 512) : val_main_v33 (F := Ideal) x5 (ix2 r k) = x5 (ix2 0 k) := by
  pointwise! [val_main_v33]
/-- The gate's gradient. -/
theorem dgate_at (r : Fin 4096) (k : Fin 512) : val_main_v89 (F := Ideal) x0 x2 x3 x5 x6 (ix2 r k)
    = daR (x2 (ix2 r k) * rstd c128 (hrow h128 (fun k => x2 (ix2 r k)) k) * x5 (ix2 0 k)) (gt x3 r k) (dHi x0 x6 r k) := by
  show val_main_v32 (F := Ideal) x2 (ix2 r k) * val_main_v33 (F := Ideal) x5 (ix2 r k) * val_main_v43 (F := Ideal) x0 x6 (ix2 r k) * val_main_v35_2 (F := Ideal) x3 (ix2 r k)
    + val_main_v0 (F := Ideal) x3 (ix2 r k) * (val_main_v32 (F := Ideal) x2 (ix2 r k) * val_main_v33 (F := Ideal) x5 (ix2 r k) * val_main_v43 (F := Ideal) x0 x6 (ix2 r k))
      * (val_main_v35_2 (F := Ideal) x3 (ix2 r k) * (val_main_call0_v6 (F := Ideal) (ix2 r k) - val_main_v35_2 (F := Ideal) x3 (ix2 r k))) = _
  rw [hatB_at, gain5_at, v43_at, sg_at, v0_at, one_at]
  rfl
/-- The gradients of the two gains. -/
theorem gA_at (a : Fin 1) (j : Fin 512) : val_main_v70 (F := Ideal) x0 x1 x6 (ix2 a j)
    = ∑ r : Fin 4096, x1 (ix2 r j) * rstd c64 (hrow h64 (fun k => x1 (ix2 r k)) j) * dLo x0 x6 r j := by
  simp only [← hatA_at, ← v42_at]
  unfold val_main_v70 val_main_v69 val_main_v68
  generalize val_main_v15 (F := Ideal) x1 = p
  generalize val_main_v42 (F := Ideal) x0 x6 = p'
  pointwise! [val_main_cst_11]
theorem gB_at (a : Fin 1) (j : Fin 512) : val_main_v49 (F := Ideal) x0 x2 x3 x6 (ix2 a j)
    = ∑ r : Fin 4096, x2 (ix2 r j) * rstd c128 (hrow h128 (fun k => x2 (ix2 r k)) j) * dN x0 x3 x6 r j := by
  simp only [← hatB_at, ← v45_at]
  unfold val_main_v49 val_main_v48 val_main_v47
  generalize val_main_v32 (F := Ideal) x2 = p
  generalize val_main_v45 (F := Ideal) x0 x3 x6 = p'
  pointwise! [val_main_cst_7]

end Cert.MixBwdRefIdeal.Spec

end
-- ==== Proof.MixBwd.Claim.lean ====
/- The claims about `mix_bwd`. -/
module

public import proofs.«01_k».proof.Defs
public import proofs.«01_k».proof.Proof.MixBwd.Value
public import proofs.«01_k».proof.Proof.MixBwd.Ref
public import proofs.«01_k».proof.Proof.Gen.Pre_finite_mix_bwd

@[expose] public section

set_option maxRecDepth 16384

noncomputable section

namespace Cert.MixBwdClaim

open Idealize.ShloMosaic Idealize.ShloMosaic.TcCoe Idealize.SL.Sem
open Cert.Shared

/-- The gradient of a head's normalisation, in both forms. -/
theorem dhead_64 (x d g : Fin 512 → EReal) (hx : ∀ k, ∃ r : ℝ, x k = r) (hd : ∀ k, ∃ r : ℝ, d k = r) (hg : ∀ k, ∃ r : ℝ, g k = r) (j : Fin 512) :
    dhead h64 c64 x d g j = dxR c64 (hrow h64 x j) (hrow h64 d j) (hrow h64 g j) 0 (hoff h64 j) := by
  unfold dhead
  rw [c64_eq]
  exact dx_eq 64 (by norm_num) _ _ _ (fun k => hx _) (fun k => hd _) (fun k => hg _) _ _
theorem dhead_128 (x d g : Fin 512 → EReal) (hx : ∀ k, ∃ r : ℝ, x k = r) (hd : ∀ k, ∃ r : ℝ, d k = r) (hg : ∀ k, ∃ r : ℝ, g k = r) (j : Fin 512) :
    dhead h128 c128 x d g j = dxR c128 (hrow h128 x j) (hrow h128 d j) (hrow h128 g j) 0 (hoff h128 j) := by
  unfold dhead
  rw [c128_eq]
  exact dx_eq 128 (by norm_num) _ _ _ (fun k => hx _) (fun k => hd _) (fun k => hg _) _ _

theorem daK_comm (s a b : EReal) : daK s a b = daK b a s := by
  unfold daK
  rw [mul_comm s b]

section Finite
open Cert.Pre_finite_mix_bwd

/-- The precondition, as: every element of the arrays is a real number. -/
theorem finite (a0 : FVec Ideal S4096x1024 .f32) (a1 a2 : FVec Ideal S4096x512 .f32) (a3 : FVec Ideal S4096x3584 .f32) (a4 a5 : FVec Ideal S1x512 .f32) (a6 : FVec Ideal S1024x1024 .f32)
    (h : fn (F := Ideal) a0 a1 a2 a3 a4 a5 a6 = fun _ => 1#1) :
    (∀ i, ∃ r : ℝ, a0 i = (r : EReal))
      ∧ (∀ i, ∃ r : ℝ, a1 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal)) := by
  have e := congrFun h (fun a => a.elim0)
  unfold fn fn_part1 at e
  obtain ⟨e, e6⟩ := and_eq_one _ _ e
  obtain ⟨e, e5⟩ := and_eq_one _ _ e
  obtain ⟨e, e4⟩ := and_eq_one _ _ e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i),
    fun i => real_of_cmp _ (all_of_reduce _ _ _ _ _ e1 i),
    fun i => real_of_cmp _ (all_of_reduce _ _ _ _ _ e2 i),
    fun i => real_of_cmp _ (all_of_reduce _ _ _ _ _ e3 i),
    fun i => real_of_cmp _ (all_of_reduce _ _ _ _ _ e4 i),
    fun i => real_of_cmp _ (all_of_reduce _ _ _ _ _ e5 i),
    fun i => real_of_cmp _ (all_of_reduce _ _ _ _ _ e6 i)⟩

end Finite

section Kernel
open Cert.MixBwdIdeal Cert.MixBwdIdeal.Gen Cert.MixBwdIdeal.Fin
variable (m : (ℓ : Loc nD τ sig) → Buf (Elt Ideal) ℓ) (c : Dev nD)

/-- The arguments' contents, at their shapes. -/
abbrev b0 : FVec Ideal S4096x1024 .f32 := m ((c : Thread nD τ).loc main_arg0)
abbrev b1 : FVec Ideal S4096x512 .f32 := m ((c : Thread nD τ).loc main_arg1)
abbrev b2 : FVec Ideal S4096x512 .f32 := m ((c : Thread nD τ).loc main_arg2)
abbrev b3 : FVec Ideal S4096x3584 .f32 := m ((c : Thread nD τ).loc main_arg3)
abbrev b4 : FVec Ideal S1x512 .f32 := m ((c : Thread nD τ).loc main_arg4)
abbrev b5 : FVec Ideal S1x512 .f32 := m ((c : Thread nD τ).loc main_arg5)
abbrev b6 : FVec Ideal S1024x1024 .f32 := m ((c : Thread nD τ).loc main_arg6)

theorem w_eq : aW m c = b6 m c := by rfl

theorem dy_eq (r : Fin 4096) (k : Fin 1024) : dy m c r k = Cert.MixBwdRefIdeal.Spec.dyr (b0 m c) (b6 m c) r k := by
  refine Finset.sum_congr rfl fun l _ => ?_
  rw [w_eq]; rfl
theorem dN_eq (R : Real m c) (r : Fin 4096) (k : Fin 512) : dN m c r k = Cert.MixBwdRefIdeal.Spec.dN (b0 m c) (b3 m c) (b6 m c) r k := by
  unfold dN
  rw [dy_eq, sgK_eq (R.p _)]
  rfl
theorem dyr_real (R : Real m c) (r : Fin 4096) (k : Fin 1024) : ∃ q : ℝ, Cert.MixBwdRefIdeal.Spec.dyr (b0 m c) (b6 m c) r k = (q : EReal) := by
  rw [← dy_eq]
  exact dy_real m c R r k
theorem gt_real (R : Real m c) (r : Fin 4096) (k : Fin 512) : ∃ q : ℝ, Cert.MixBwdRefIdeal.Spec.gt (b3 m c) r k = (q : EReal) := R.p _

end Kernel

theorem algebraic : Cert.algebraic_MixBwdIdeal_MixBwdRefIdeal_pre_finite_mix_bwd := by
  intro m g m' g' hpre hag
  have real : ∀ c, Cert.MixBwdIdeal.Fin.Real m c := by
    intro c
    obtain ⟨h0, h1, h2, h3, h4, h5, h6⟩ := finite _ _ _ _ _ _ _ (hpre c)
    exact ⟨h0, h1, h2, h3, h4, h5, h6⟩
  have e7 : ∀ c, Cert.MixBwdIdeal.Fin.G7 m c = Cert.MixBwdRefIdeal.Read.val_main_v88 (F := Ideal) (b0 m c) (b1 m c) (b4 m c) (b6 m c) := by
    intro c
    funext i
    obtain ⟨r, j, rfl⟩ : ∃ (r : Fin 4096) (j : Fin 512), i = ix2 r j := ⟨_, _, eq_ix2 i⟩
    rw [Cert.MixBwdRefIdeal.Spec.oA_at, ← dhead_64 (fun k => b1 m c (ix2 r k)) (fun k => Cert.MixBwdRefIdeal.Spec.dLo (b0 m c) (b6 m c) r k) (fun k => b4 m c (ix2 0 k)) (fun k => (real c).s _) (fun k => dyr_real m c (real c) r _) (fun k => (real c).gs _)]
    simp only [← dy_eq]
    rfl
  have e8 : ∀ c, Cert.MixBwdIdeal.Fin.G8 m c = Cert.MixBwdRefIdeal.Read.val_main_v67 (F := Ideal) (b0 m c) (b2 m c) (b3 m c) (b5 m c) (b6 m c) := by
    intro c
    funext i
    obtain ⟨r, j, rfl⟩ : ∃ (r : Fin 4096) (j : Fin 512), i = ix2 r j := ⟨_, _, eq_ix2 i⟩
    rw [Cert.MixBwdRefIdeal.Spec.oB_at, ← dhead_128 (fun k => b2 m c (ix2 r k)) (fun k => Cert.MixBwdRefIdeal.Spec.dN (b0 m c) (b3 m c) (b6 m c) r k) (fun k => b5 m c (ix2 0 k)) (fun k => (real c).h _) (fun k => by rw [← dN_eq m c (real c)]; exact Cert.MixBwdIdeal.Fin.dN_real m c (real c) _ _) (fun k => (real c).gh _)]
    simp only [← dN_eq m c (real c)]
    rfl
  have e9 : ∀ c, Cert.MixBwdIdeal.Fin.G9 m c = Cert.MixBwdRefIdeal.Read.val_main_v89 (F := Ideal) (b0 m c) (b2 m c) (b3 m c) (b5 m c) (b6 m c) := by
    intro c
    funext i
    obtain ⟨r, j, rfl⟩ : ∃ (r : Fin 4096) (j : Fin 512), i = ix2 r j := ⟨_, _, eq_ix2 i⟩
    have hb : ∃ q : ℝ, b2 m c (ix2 r j) * rstd c128 (hrow h128 (fun k => b2 m c (ix2 r k)) j) * b5 m c (ix2 0 j) = (q : EReal) :=
      mul_real (mul_real ((real c).h _) (head_rstd_real h128 c128_eq (by norm_num) _ (fun k => (real c).h _) j)) ((real c).gh _)
    rw [Cert.MixBwdRefIdeal.Spec.dgate_at, ← da_eq hb (gt_real m c (real c) r j) (dyr_real m c (real c) r _), daK_comm]
    exact congrArg (fun z => daK z _ _) (dy_eq m c r _)
  have e10 : ∀ c, Cert.MixBwdIdeal.Fin.G10 m c = Cert.MixBwdRefIdeal.Read.val_main_v70 (F := Ideal) (b0 m c) (b1 m c) (b6 m c) := by
    intro c
    funext i
    obtain ⟨a, j, rfl⟩ : ∃ (a : Fin 1) (j : Fin 512), i = ix2 a j := ⟨_, _, eq_ix2 i⟩
    rw [Cert.MixBwdRefIdeal.Spec.gA_at]
    refine Finset.sum_congr rfl fun r _ => ?_
    refine (mul_comm _ _).trans ?_
    simp only [← dy_eq]
    rfl
  have e11 : ∀ c, Cert.MixBwdIdeal.Fin.G11 m c = Cert.MixBwdRefIdeal.Read.val_main_v49 (F := Ideal) (b0 m c) (b2 m c) (b3 m c) (b6 m c) := by
    intro c
    funext i
    obtain ⟨a, j, rfl⟩ : ∃ (a : Fin 1) (j : Fin 512), i = ix2 a j := ⟨_, _, eq_ix2 i⟩
    rw [Cert.MixBwdRefIdeal.Spec.gB_at]
    refine Finset.sum_congr rfl fun r _ => ?_
    refine (mul_comm _ _).trans ?_
    rw [← dN_eq m c (real c)]
    rfl
  refine ⟨fun c => Cert.MixBwdIdeal.Fin.G7 m c, fun c => Cert.MixBwdIdeal.Fin.G8 m c, fun c => Cert.MixBwdIdeal.Fin.G9 m c, fun c => Cert.MixBwdIdeal.Fin.G10 m c,
    fun c => Cert.MixBwdIdeal.Fin.G11 m c, fun c => Cert.MixBwdIdeal.Fin.aD m c,
    (θ_run _ _ _).mono (fun r h c => ?_) (Cert.MixBwdIdeal.Value.run_blocks m g), (θ_run _ _ _).mono (fun r h c => ?_) (Cert.MixBwdRefIdeal.Value.run m' g')⟩
  · obtain ⟨x7, x8, x9, x10, x11, x12, e⟩ := h c
    exact ⟨x7.trans (Cert.MixBwdIdeal.Fin.final7 m c (real c)), x8.trans (Cert.MixBwdIdeal.Fin.final8 m c (real c)), x9.trans (Cert.MixBwdIdeal.Fin.final9 m c (real c)),
      x10.trans (Cert.MixBwdIdeal.Fin.final10 m c (real c)), x11.trans (Cert.MixBwdIdeal.Fin.final11 m c (real c)), x12.trans (Cert.MixBwdIdeal.Fin.final12 m c), e⟩
  · obtain ⟨x7, x8, x9, x10, x11, x12, e⟩ := h c
    obtain ⟨a0, a1, a2, a3, a4, a5, a6⟩ := hag c
    refine ⟨x7.trans ?_, x8.trans ?_, x9.trans ?_, x10.trans ?_, x11.trans ?_, x12.trans ?_, e⟩
    · rw [Cert.MixBwdRefIdeal.Read.val_main_v88_eq, a0, a1, a4, a6]
      exact (e7 c).symm
    · rw [Cert.MixBwdRefIdeal.Read.val_main_v67_eq, a0, a2, a3, a5, a6]
      exact (e8 c).symm
    · refine (Cert.MixBwdRefIdeal.Read.val_main_v89_eq _ _ _ _ _).trans ?_
      rw [a0, a2, a3, a5, a6]
      exact (e9 c).symm
    · refine (Cert.MixBwdRefIdeal.Read.val_main_v70_eq _ _ _).trans ?_
      rw [a0, a1, a6]
      exact (e10 c).symm
    · refine (Cert.MixBwdRefIdeal.Read.val_main_v49_eq _ _ _ _).trans ?_
      rw [a0, a2, a3, a6]
      exact (e11 c).symm
    · rw [a0]; rfl

theorem frame_ref : Cert.quiescent_MixBwdRefIdeal := fun m g _ =>
  (θ_run _ _ _).mono (fun r h => ⟨fun c => (h c).2.2.2.2.2.2, sem_eq_zero_of_no_sems (by decide) r.2⟩) (Cert.MixBwdRefIdeal.Value.run m g)

end Cert.MixBwdClaim

end
-- ==== Proof.FfnBwd.Body.lean ====
module

public import proofs.«01_k».proof.Proof.Gen.FfnBwdIdeal.Frame
public import proofs.«01_k».proof.Proof.Gen.FfnBwdIdeal.Skeleton
public import Idealize.ShloMosaic.Lib.VecWindow
public import Idealize.ShloMosaic.Lib.Tactic

/-! # The second FFN's backward kernel: its body, run once

A row block of 1024 rows meets the eleven column blocks of the hidden layer one after the other. The first column block halves the cotangent and
clears what is carried. Every column block adds the products left by the one before and leaves its own cotangents. The last also adds its own
products and finishes the gradient of the input and of the gain. -/

@[expose] public section

set_option maxRecDepth 16384

noncomputable section

namespace Cert.FfnBwdIdeal.Body

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What is carried between column blocks: half the cotangent, the hidden layer's gradient so far, and the cotangents the block before left. -/
structure St (F : FTy → Type) where
  d : Vec F S1024x1024 .bf16
  h : Vec F S1024x1024 .f32
  a : Vec F S1024x256 .bf16
  b : Vec F S1024x256 .bf16

/-- A row block's start. -/
def clear (x0 : Vec F S1024x1024 .f32) : St F := ⟨k0_pay15 x0, k0_pay16, k0_pay17, k0_pay18⟩

/-- The gate's cotangent of a column block. -/
def daOf (s : St F) (x3 x4 : Vec F S1024x256 .bf16) (x9 : Vec F S256x1024 .bf16) : Vec F S1024x256 .bf16 :=
  k0_pay3 (k0_pay20 s.d x9) (k0_pay21 x3) (k0_pay22 x4) (k0_pay23 x3)

/-- The up projection's cotangent of a column block. -/
def dbOf (s : St F) (x3 : Vec F S1024x256 .bf16) (x9 : Vec F S256x1024 .bf16) : Vec F S1024x256 .bf16 :=
  k0_pay2 (k0_pay20 s.d x9) (k0_pay21 x3) (k0_pay23 x3)

/-- What a column block leaves. -/
def next (s : St F) (x3 x4 : Vec F S1024x256 .bf16) (x5 x6 x9 : Vec F S256x1024 .bf16) : St F :=
  ⟨s.d, k0_pay19 s.h s.a x5 s.b x6, k0_pay4 (k0_pay20 s.d x9) (k0_pay21 x3) (k0_pay22 x4) (k0_pay23 x3),
    k0_pay5 (k0_pay20 s.d x9) (k0_pay21 x3) (k0_pay23 x3)⟩

/-- The gradient of the input, finished by the last column block. -/
def dxOf (h : Vec F S1024x1024 .f32) (da db : Vec F S1024x256 .bf16) (x0 x1 : Vec F S1024x1024 .f32) (x2 : Vec F S1x1024 .f32) (x7 x8 : Vec F S256x1024 .bf16) : Vec F S1024x1024 .f32 :=
  k0_pay6 (k0_pay7 x1) (k0_pay8 x1) (k0_pay12 db da h x7 x8 x2) x0 (k0_pay13 db da x1 h x7 x8 x2)

/-- Loads and stores of the whole of an array, at the shapes of this kernel. -/
theorem load_rows {e : EltTy} (v : Memref sig .tc .vmem S1024x1024 e) (f : v.view.ty.Contents (Elt F)) (inb : ∀ a, (![0, 0] : Fin 2 → ℕ) a + (![1024, 1024] : Fin 2 → ℕ) a ≤ S1024x1024.size a) :
    v.view.readAt (Elt F) (Rect.unit (s := S1024x1024) ![0, 0] ![1024, 1024] inb).toLoadRect f = v.view.read (Elt F) f := View.readAt_full v.view f inb
theorem reload_rows {e : EltTy} (v : Memref sig .tc .vmem S1024x1024 e) (f : v.view.ty.Contents (Elt F)) (inb inb' : ∀ a, (![0, 0] : Fin 2 → ℕ) a + (![1024, 1024] : Fin 2 → ℕ) a ≤ S1024x1024.size a)
    (w : Vec F S1024x1024 e) (L : List (View.Piece (Elt F) S1024x1024 e)) :
    v.view.readAt (Elt F) (Rect.unit (s := S1024x1024) ![0, 0] ![1024, 1024] inb).toLoadRect (v.view.writes (Elt F) f (⟨Rect.unit (s := S1024x1024) ![0, 0] ![1024, 1024] inb', w⟩ :: L)) = w :=
  (View.readAt_full v.view _ inb).trans (View.read_writes_full v.view f inb' w L)
theorem load_gain {e : EltTy} (v : Memref sig .tc .vmem S1x1024 e) (f : v.view.ty.Contents (Elt F)) (inb : ∀ a, (![0, 0] : Fin 2 → ℕ) a + (![1, 1024] : Fin 2 → ℕ) a ≤ S1x1024.size a) :
    v.view.readAt (Elt F) (Rect.unit (s := S1x1024) ![0, 0] ![1, 1024] inb).toLoadRect f = v.view.read (Elt F) f := View.readAt_full v.view f inb
theorem reload_gain {e : EltTy} (v : Memref sig .tc .vmem S1x1024 e) (f : v.view.ty.Contents (Elt F)) (inb inb' : ∀ a, (![0, 0] : Fin 2 → ℕ) a + (![1, 1024] : Fin 2 → ℕ) a ≤ S1x1024.size a)
    (w : Vec F S1x1024 e) (L : List (View.Piece (Elt F) S1x1024 e)) :
    v.view.readAt (Elt F) (Rect.unit (s := S1x1024) ![0, 0] ![1, 1024] inb).toLoadRect (v.view.writes (Elt F) f (⟨Rect.unit (s := S1x1024) ![0, 0] ![1, 1024] inb', w⟩ :: L)) = w :=
  (View.readAt_full v.view _ inb).trans (View.read_writes_full v.view f inb' w L)
theorem load_tile {e : EltTy} (v : Memref sig .tc .vmem S1024x256 e) (f : v.view.ty.Contents (Elt F)) (inb : ∀ a, (![0, 0] : Fin 2 → ℕ) a + (![1024, 256] : Fin 2 → ℕ) a ≤ S1024x256.size a) :
    v.view.readAt (Elt F) (Rect.unit (s := S1024x256) ![0, 0] ![1024, 256] inb).toLoadRect f = v.view.read (Elt F) f := View.readAt_full v.view f inb
theorem reload_tile {e : EltTy} (v : Memref sig .tc .vmem S1024x256 e) (f : v.view.ty.Contents (Elt F)) (inb inb' : ∀ a, (![0, 0] : Fin 2 → ℕ) a + (![1024, 256] : Fin 2 → ℕ) a ≤ S1024x256.size a)
    (w : Vec F S1024x256 e) (L : List (View.Piece (Elt F) S1024x256 e)) :
    v.view.readAt (Elt F) (Rect.unit (s := S1024x256) ![0, 0] ![1024, 256] inb).toLoadRect (v.view.writes (Elt F) f (⟨Rect.unit (s := S1024x256) ![0, 0] ![1024, 256] inb', w⟩ :: L)) = w :=
  (View.readAt_full v.view _ inb).trans (View.read_writes_full v.view f inb' w L)
theorem load_block {e : EltTy} (v : Memref sig .tc .vmem S256x1024 e) (f : v.view.ty.Contents (Elt F)) (inb : ∀ a, (![0, 0] : Fin 2 → ℕ) a + (![256, 1024] : Fin 2 → ℕ) a ≤ S256x1024.size a) :
    v.view.readAt (Elt F) (Rect.unit (s := S256x1024) ![0, 0] ![256, 1024] inb).toLoadRect f = v.view.read (Elt F) f := View.readAt_full v.view f inb
theorem reload_block {e : EltTy} (v : Memref sig .tc .vmem S256x1024 e) (f : v.view.ty.Contents (Elt F)) (inb inb' : ∀ a, (![0, 0] : Fin 2 → ℕ) a + (![256, 1024] : Fin 2 → ℕ) a ≤ S256x1024.size a)
    (w : Vec F S256x1024 e) (L : List (View.Piece (Elt F) S256x1024 e)) :
    v.view.readAt (Elt F) (Rect.unit (s := S256x1024) ![0, 0] ![256, 1024] inb).toLoadRect (v.view.writes (Elt F) f (⟨Rect.unit (s := S256x1024) ![0, 0] ![256, 1024] inb', w⟩ :: L)) = w :=
  (View.readAt_full v.view _ inb).trans (View.read_writes_full v.view f inb' w L)

theorem covered_rows {e : EltTy} (v : Memref sig .tc .vmem S1024x1024 e) (inb inb' : ∀ a, (![0, 0] : Fin 2 → ℕ) a + (![1024, 1024] : Fin 2 → ℕ) a ≤ S1024x1024.size a)
    (w : Vec F S1024x1024 e) (L : List (View.Piece (Elt F) S1024x1024 e)) :
    v.view.readCov (⟨Rect.unit (s := S1024x1024) ![0, 0] ![1024, 1024] inb', w⟩ :: L) (Rect.unit (s := S1024x1024) ![0, 0] ![1024, 1024] inb).toLoadRect = w :=
  View.readCov_full v.view inb inb' w L
theorem covered_tile {e : EltTy} (v : Memref sig .tc .vmem S1024x256 e) (inb inb' : ∀ a, (![0, 0] : Fin 2 → ℕ) a + (![1024, 256] : Fin 2 → ℕ) a ≤ S1024x256.size a)
    (w : Vec F S1024x256 e) (L : List (View.Piece (Elt F) S1024x256 e)) :
    v.view.readCov (⟨Rect.unit (s := S1024x256) ![0, 0] ![1024, 256] inb', w⟩ :: L) (Rect.unit (s := S1024x256) ![0, 0] ![1024, 256] inb).toLoadRect = w :=
  View.readCov_full v.view inb inb' w L
section Run

variable (c : Dev nD) (i : grid0.Coords) (arg2 : Memref sig .tc .vmem S1024x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S256x1024 .bf16) (harg7 : arg7.IsWhole) (arg8 : Memref sig .tc .vmem S256x1024 .bf16) (harg8 : arg8.IsWhole) (arg9 : Memref sig .tc .vmem S256x1024 .bf16) (harg9 : arg9.IsWhole) (arg10 : Memref sig .tc .vmem S256x1024 .bf16) (harg10 : arg10.IsWhole) (arg11 : Memref sig .tc .vmem S256x1024 .bf16) (harg11 : arg11.IsWhole) (arg12 : Memref sig .tc .vmem S1024x1024 .f32) (harg12 : arg12.IsWhole) (arg13 : Memref sig .tc .vmem S1x1024 .f32) (harg13 : arg13.IsWhole) (arg14 : Memref sig .tc .vmem S1024x256 .bf16) (harg14 : arg14.IsWhole) (arg15 : Memref sig .tc .vmem S1024x256 .bf16) (harg15 : arg15.IsWhole) (arg16 : Memref sig .tc .vmem S1024x1024 .bf16) (harg16 : arg16.IsWhole) (arg17 : Memref sig .tc .vmem S1024x1024 .bf16) (harg17 : arg17.IsWhole) (arg18 : Memref sig .tc .vmem S1024x1024 .f32) (harg18 : arg18.IsWhole) (arg19 : Memref sig .tc .vmem S1024x256 .bf16) (harg19 : arg19.IsWhole) (arg20 : Memref sig .tc .vmem S1024x256 .bf16) (harg20 : arg20.IsWhole)
variable (x0 : Vec F S1024x1024 .f32) (x1 : Vec F S1024x1024 .f32) (x2 : Vec F S1x1024 .f32) (x3 : Vec F S1024x256 .bf16) (x4 : Vec F S1024x256 .bf16) (x5 : Vec F S256x1024 .bf16) (x6 : Vec F S256x1024 .bf16) (x7 : Vec F S256x1024 .bf16) (x8 : Vec F S256x1024 .bf16) (x9 : Vec F S256x1024 .bf16) (s : St F)

set_option maxHeartbeats 8000000 in
/-- A row block's first column block. -/
theorem body_first (h1 : k0_cond1 i = 1#1) (h2 : ¬ k0_cond2 i = 1#1) (y14 : Vec F S1024x256 .bf16) (y15 : Vec F S1024x256 .bf16) (y16 : Vec F S1024x1024 .bf16) (y17 : Vec F S1024x1024 .bf16) (y18 : Vec F S1024x1024 .f32) (y19 : Vec F S1024x256 .bf16) (y20 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg14 fullShare y14 ∗ owns (c : Thread nD τ) arg15 fullShare y15 ∗ owns (c : Thread nD τ) arg16 fullShare y16 ∗ owns (c : Thread nD τ) arg17 fullShare y17 ∗ owns (c : Thread nD τ) arg18 fullShare y18 ∗ owns (c : Thread nD τ) arg19 fullShare y19 ∗ owns (c : Thread nD τ) arg20 fullShare y20) : sProp 𝕄)
      ⊢ wp frame (wpE (defs₀ (F := F)) Variants.none (c : Thread nD τ) none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg14 fullShare (daOf (clear x0) x3 x4 x9) ∗ owns (c : Thread nD τ) arg15 fullShare (dbOf (clear x0) x3 x9) ∗ owns (c : Thread nD τ) arg16 fullShare (k0_pay14 x0) ∗ owns (c : Thread nD τ) arg17 fullShare (clear x0).d ∗ owns (c : Thread nD τ) arg18 fullShare (next (clear x0) x3 x4 x5 x6 x9).h ∗ owns (c : Thread nD τ) arg19 fullShare (next (clear x0) x3 x4 x5 x6 x9).a ∗ owns (c : Thread nD τ) arg20 fullShare (next (clear x0) x3 x4 x5 x6 x9).b)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f14, %h14, H14⟩, ⟨%f15, %h15, H15⟩, ⟨%f16, %h16, H16⟩, ⟨%f17, %h17, H17⟩, ⟨%f18, %h18, H18⟩, ⟨%f19, %h19, H19⟩, ⟨%f20, %h20, H20⟩⟩
  simp only [cc0_ffn2_bwd_eq_skeleton]; unfold cc0_ffn2_bwd_skel
  simp only [k0_part2_eq_skeleton, k0_part1_eq_skeleton]
  sl_exec (disch := first | sl_exact h1 | sl_exact h2)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H14]; iexists _; isplitr; rotate_left; iexact H14
  isplitl [H15]; iexists _; isplitr; rotate_left; iexact H15
  isplitl [H16]; iexists _; isplitr; rotate_left; iexact H16
  isplitl [H17]; iexists _; isplitr; rotate_left; iexact H17
  isplitl [H18]; iexists _; isplitr; rotate_left; iexact H18
  isplitl [H19]; iexists _; isplitr; rotate_left; iexact H19
  iexists _; isplitr; rotate_left; iexact H20
  all_goals
    ipureintro
    refine (View.read_writes_full _ _ _ _ _).trans ?_
    repeat (first | delta body_first.sl.r | delta body_first.sl.r_1 | delta body_first.sl.r_2 | delta body_first.sl.r_3 | delta body_first.sl.v3 | delta body_first.sl.v4 | delta body_first.sl.v8 | delta body_first.sl.v17 | delta body_first.sl.H17_1 | delta body_first.sl.H18_1 | delta body_first.sl.H19_1 | delta body_first.sl.H20_1)
    try simp only [covered_rows, covered_tile, load_rows, load_gain, load_tile, load_block, reload_rows, reload_gain, reload_tile, reload_block, h2, h3, h4, h5, h6, h7, h8, h9, h10, h11, h14, h15, h16, h17, h18, h19, h20]
    try rfl

set_option maxHeartbeats 8000000 in
/-- A column block between. -/
theorem body_mid (h1 : ¬ k0_cond1 i = 1#1) (h2 : ¬ k0_cond2 i = 1#1) (y14 : Vec F S1024x256 .bf16) (y15 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg14 fullShare y14 ∗ owns (c : Thread nD τ) arg15 fullShare y15 ∗ owns (c : Thread nD τ) arg17 fullShare s.d ∗ owns (c : Thread nD τ) arg18 fullShare s.h ∗ owns (c : Thread nD τ) arg19 fullShare s.a ∗ owns (c : Thread nD τ) arg20 fullShare s.b) : sProp 𝕄)
      ⊢ wp frame (wpE (defs₀ (F := F)) Variants.none (c : Thread nD τ) none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg14 fullShare (daOf s x3 x4 x9) ∗ owns (c : Thread nD τ) arg15 fullShare (dbOf s x3 x9) ∗ owns (c : Thread nD τ) arg17 fullShare s.d ∗ owns (c : Thread nD τ) arg18 fullShare (next s x3 x4 x5 x6 x9).h ∗ owns (c : Thread nD τ) arg19 fullShare (next s x3 x4 x5 x6 x9).a ∗ owns (c : Thread nD τ) arg20 fullShare (next s x3 x4 x5 x6 x9).b)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f14, %h14, H14⟩, ⟨%f15, %h15, H15⟩, ⟨%f17, %h17, H17⟩, ⟨%f18, %h18, H18⟩, ⟨%f19, %h19, H19⟩, ⟨%f20, %h20, H20⟩⟩
  simp only [cc0_ffn2_bwd_eq_skeleton]; unfold cc0_ffn2_bwd_skel
  simp only [k0_part2_eq_skeleton, k0_part1_eq_skeleton]
  sl_exec (disch := first | sl_exact h1 | sl_exact h2)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H14]; iexists _; isplitr; rotate_left; iexact H14
  isplitl [H15]; iexists _; isplitr; rotate_left; iexact H15
  isplitl [H17]
  · iexists f17; isplitr; · ipureintro; exact h17
    iexact H17
  isplitl [H18]; iexists _; isplitr; rotate_left; iexact H18
  isplitl [H19]; iexists _; isplitr; rotate_left; iexact H19
  iexists _; isplitr; rotate_left; iexact H20
  all_goals
    ipureintro
    refine (View.read_writes_full _ _ _ _ _).trans ?_
    repeat (first | delta body_mid.sl.r | delta body_mid.sl.r_1 | delta body_mid.sl.r_2 | delta body_mid.sl.r_3)
    try simp only [covered_rows, covered_tile, load_rows, load_gain, load_tile, load_block, reload_rows, reload_gain, reload_tile, reload_block, h2, h3, h4, h5, h6, h7, h8, h9, h10, h11, h14, h15, h17, h18, h19, h20]
    try rfl

set_option maxHeartbeats 8000000 in
/-- The last column block of the first row block. -/
theorem body_last_first (h1 : ¬ k0_cond1 i = 1#1) (h2 : k0_cond2 i = 1#1) (h3 : k0_cond3 i = 1#1) (h4 : ¬ k0_cond4 i = 1#1) (y12 : Vec F S1024x1024 .f32) (y13 : Vec F S1x1024 .f32) (y14 : Vec F S1024x256 .bf16) (y15 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg17 fullShare s.d ∗ owns (c : Thread nD τ) arg18 fullShare s.h ∗ owns (c : Thread nD τ) arg19 fullShare s.a ∗ owns (c : Thread nD τ) arg20 fullShare s.b) : sProp 𝕄)
      ⊢ wp frame (wpE (defs₀ (F := F)) Variants.none (c : Thread nD τ) none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxOf (next s x3 x4 x5 x6 x9).h (daOf s x3 x4 x9) (dbOf s x3 x9) x0 x1 x2 x7 x8) ∗ owns (c : Thread nD τ) arg13 fullShare (k0_pay10 (dbOf s x3 x9) (daOf s x3 x4 x9) x1 (next s x3 x4 x5 x6 x9).h x7 x8) ∗ owns (c : Thread nD τ) arg14 fullShare (daOf s x3 x4 x9) ∗ owns (c : Thread nD τ) arg15 fullShare (dbOf s x3 x9) ∗ owns (c : Thread nD τ) arg17 fullShare s.d ∗ owns (c : Thread nD τ) arg18 fullShare (next s x3 x4 x5 x6 x9).h ∗ owns (c : Thread nD τ) arg19 fullShare (next s x3 x4 x5 x6 x9).a ∗ owns (c : Thread nD τ) arg20 fullShare (next s x3 x4 x5 x6 x9).b)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f17, %h17, H17⟩, ⟨%f18, %h18, H18⟩, ⟨%f19, %h19, H19⟩, ⟨%f20, %h20, H20⟩⟩
  simp only [cc0_ffn2_bwd_eq_skeleton]; unfold cc0_ffn2_bwd_skel
  simp only [k0_part2_eq_skeleton, k0_part1_eq_skeleton]
  sl_exec (disch := first | sl_exact h1 | sl_exact h2 | sl_exact h3 | sl_exact h4)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]; iexists _; isplitr; rotate_left; iexact H12
  isplitl [H13]; iexists _; isplitr; rotate_left; iexact H13
  isplitl [H14]; iexists _; isplitr; rotate_left; iexact H14
  isplitl [H15]; iexists _; isplitr; rotate_left; iexact H15
  isplitl [H17]
  · iexists f17; isplitr; · ipureintro; exact h17
    iexact H17
  isplitl [H18]; iexists _; isplitr; rotate_left; iexact H18
  isplitl [H19]; iexists _; isplitr; rotate_left; iexact H19
  iexists _; isplitr; rotate_left; iexact H20
  all_goals
    ipureintro
    refine (View.read_writes_full _ _ _ _ _).trans ?_
    repeat (first | delta body_last_first.sl.r | delta body_last_first.sl.r_1 | delta body_last_first.sl.r_2 | delta body_last_first.sl.r_3 | delta body_last_first.sl.r_4 | delta body_last_first.sl.r_5 | delta body_last_first.sl.r_6 | delta body_last_first.sl.r_7 | delta body_last_first.sl.r_8 | delta body_last_first.sl.v68 | delta body_last_first.sl.H18_1)
    try simp only [covered_rows, covered_tile, load_rows, load_gain, load_tile, load_block, reload_rows, reload_gain, reload_tile, reload_block, h2, h3, h4, h5, h6, h7, h8, h9, h10, h11, h12, h13, h14, h15, h17, h18, h19, h20]
    try rfl

set_option maxHeartbeats 8000000 in
/-- The last column block of the other row blocks. -/
theorem body_last (h1 : ¬ k0_cond1 i = 1#1) (h2 : k0_cond2 i = 1#1) (h3 : ¬ k0_cond3 i = 1#1) (h4 : k0_cond4 i = 1#1) (y12 : Vec F S1024x1024 .f32) (y13 : Vec F S1x1024 .f32) (y14 : Vec F S1024x256 .bf16) (y15 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg17 fullShare s.d ∗ owns (c : Thread nD τ) arg18 fullShare s.h ∗ owns (c : Thread nD τ) arg19 fullShare s.a ∗ owns (c : Thread nD τ) arg20 fullShare s.b) : sProp 𝕄)
      ⊢ wp frame (wpE (defs₀ (F := F)) Variants.none (c : Thread nD τ) none) Set.univ (cc0_ffn2_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (dxOf (next s x3 x4 x5 x6 x9).h (daOf s x3 x4 x9) (dbOf s x3 x9) x0 x1 x2 x7 x8) ∗ owns (c : Thread nD τ) arg13 fullShare (k0_pay11 (dbOf s x3 x9) (daOf s x3 x4 x9) x1 (next s x3 x4 x5 x6 x9).h x7 x8 y13) ∗ owns (c : Thread nD τ) arg14 fullShare (daOf s x3 x4 x9) ∗ owns (c : Thread nD τ) arg15 fullShare (dbOf s x3 x9) ∗ owns (c : Thread nD τ) arg17 fullShare s.d ∗ owns (c : Thread nD τ) arg18 fullShare (next s x3 x4 x5 x6 x9).h ∗ owns (c : Thread nD τ) arg19 fullShare (next s x3 x4 x5 x6 x9).a ∗ owns (c : Thread nD τ) arg20 fullShare (next s x3 x4 x5 x6 x9).b)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f17, %h17, H17⟩, ⟨%f18, %h18, H18⟩, ⟨%f19, %h19, H19⟩, ⟨%f20, %h20, H20⟩⟩
  simp only [cc0_ffn2_bwd_eq_skeleton]; unfold cc0_ffn2_bwd_skel
  simp only [k0_part2_eq_skeleton, k0_part1_eq_skeleton]
  sl_exec (disch := first | sl_exact h1 | sl_exact h2 | sl_exact h3 | sl_exact h4)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]
  · iexists f10; isplitr; · ipureintro; exact h10
    iexact H10
  isplitl [H11]
  · iexists f11; isplitr; · ipureintro; exact h11
    iexact H11
  isplitl [H12]; iexists _; isplitr; rotate_left; iexact H12
  isplitl [H13]; iexists _; isplitr; rotate_left; iexact H13
  isplitl [H14]; iexists _; isplitr; rotate_left; iexact H14
  isplitl [H15]; iexists _; isplitr; rotate_left; iexact H15
  isplitl [H17]
  · iexists f17; isplitr; · ipureintro; exact h17
    iexact H17
  isplitl [H18]; iexists _; isplitr; rotate_left; iexact H18
  isplitl [H19]; iexists _; isplitr; rotate_left; iexact H19
  iexists _; isplitr; rotate_left; iexact H20
  all_goals
    ipureintro
    refine (View.read_writes_full _ _ _ _ _).trans ?_
    repeat (first | delta body_last.sl.r | delta body_last.sl.r_1 | delta body_last.sl.r_2 | delta body_last.sl.r_3 | delta body_last.sl.r_4 | delta body_last.sl.r_5 | delta body_last.sl.r_6 | delta body_last.sl.r_7 | delta body_last.sl.r_8 | delta body_last.sl.v68 | delta body_last.sl.H18_1)
    try simp only [covered_rows, covered_tile, load_rows, load_gain, load_tile, load_block, reload_rows, reload_gain, reload_tile, reload_block, h2, h3, h4, h5, h6, h7, h8, h9, h10, h11, h12, h13, h14, h15, h17, h18, h19, h20]
    try rfl

end Run

end Cert.FfnBwdIdeal.Body

end
-- ==== Proof.FfnBwd.Pay.lean ====
/- What the body of the second FFN's backward kernel computes, read at an element. -/
module

public import proofs.«01_k».proof.Proof.Shared.Gate
public import proofs.«01_k».proof.Proof.FfnBwd.Body
public import Idealize.ShloMosaic.Lib.Pointwise

@[expose] public section

set_option maxRecDepth 16384

noncomputable section

namespace Cert.FfnBwdIdeal.Pay

open Idealize.ShloMosaic Idealize.ShloMosaic.TcCoe Idealize.SL.Sem
open Cert.FfnBwdIdeal Cert.FfnBwdIdeal.Gen Cert.FfnBwdIdeal.Body Cert.Shared

variable (s : St Ideal) (x0 x1 h : FVec Ideal S1024x1024 .f32) (x2 : FVec Ideal S1x1024 .f32) (a b da db : FVec Ideal S1024x256 .bf16)
  (x5 x6 x7 x8 x9 : FVec Ideal S256x1024 .bf16)

theorem ob (r : Fin 1024) (l : Fin 1024) : k0_pay14 (F := Ideal) x0 (ix2 r l) = cH * x0 (ix2 r l) := by
  pointwise! [k0_pay14]

theorem clear_d (r : Fin 1024) (l : Fin 1024) : (clear (F := Ideal) x0).d (ix2 r l) = cH * x0 (ix2 r l) := by
  show k0_pay15 (F := Ideal) x0 (ix2 r l) = _
  pointwise! [k0_pay15, k0_pay14]

theorem clear_h (r : Fin 1024) (k : Fin 1024) : (clear (F := Ideal) x0).h (ix2 r k) = 0 := by
  show k0_pay16 (F := Ideal) (ix2 r k) = _
  pointwise! [k0_pay16]

theorem clear_a (r : Fin 1024) (j : Fin 256) : (clear (F := Ideal) x0).a (ix2 r j) = 0 := by
  show k0_pay17 (F := Ideal) (ix2 r j) = _
  pointwise! [k0_pay17]

theorem clear_b (r : Fin 1024) (j : Fin 256) : (clear (F := Ideal) x0).b (ix2 r j) = 0 := clear_a x0 r j

/-- A product with a block of the down projection. -/
abbrev ds (d : FVec Ideal S1024x1024 .bf16) (w : FVec Ideal S256x1024 .bf16) (r : Fin 1024) (j : Fin 256) : EReal := ∑ l : Fin 1024, d (ix2 r l) * w (ix2 j l)

theorem ds_at (d : FVec Ideal S1024x1024 .bf16) (r : Fin 1024) (j : Fin 256) : k0_pay20 (F := Ideal) d x9 (ix2 r j) = ds d x9 r j := by
  pointwise! [k0_pay20]

theorem db_at (r : Fin 1024) (j : Fin 256) : dbOf s a x9 (ix2 r j) = ds s.d x9 r j * (a (ix2 r j) * sgK (a (ix2 r j))) := by
  have e := ds_at x9 s.d
  unfold dbOf
  generalize k0_pay20 (F := Ideal) s.d x9 = p at *
  rw [← e]
  unfold sgK
  pointwise! [k0_pay2, k0_pay1, k0_pay21, k0_pay23]

theorem da_at (r : Fin 1024) (j : Fin 256) : daOf s a b x9 (ix2 r j) = daK (ds s.d x9 r j) (a (ix2 r j)) (b (ix2 r j)) := by
  have e := ds_at x9 s.d
  unfold daOf
  generalize k0_pay20 (F := Ideal) s.d x9 = p at *
  rw [← e]
  unfold daK sgK
  pointwise! [k0_pay3, k0_pay1, k0_pay21, k0_pay22, k0_pay23]

theorem next_a (r : Fin 1024) (j : Fin 256) : (next s a b x5 x6 x9).a (ix2 r j) = daOf s a b x9 (ix2 r j) := by
  show k0_pay4 (F := Ideal) _ _ _ _ (ix2 r j) = _
  unfold daOf k0_pay4
  generalize k0_pay3 (F := Ideal) _ _ _ _ = p
  pointwise!

theorem next_b (r : Fin 1024) (j : Fin 256) : (next s a b x5 x6 x9).b (ix2 r j) = dbOf s a x9 (ix2 r j) := by
  show k0_pay5 (F := Ideal) _ _ _ (ix2 r j) = _
  unfold dbOf k0_pay5
  generalize k0_pay2 (F := Ideal) _ _ _ = p
  pointwise!

/-- Both products of a column block with the transposed weights. -/
abbrev both (a b : FVec Ideal S1024x256 .bf16) (wg wu : FVec Ideal S256x1024 .bf16) (r : Fin 1024) (k : Fin 1024) : EReal :=
  (∑ l : Fin 256, a (ix2 r l) * wg (ix2 l k)) + ∑ l : Fin 256, b (ix2 r l) * wu (ix2 l k)

theorem next_h (r : Fin 1024) (k : Fin 1024) : (next s a b x5 x6 x9).h (ix2 r k) = s.h (ix2 r k) + both s.a s.b x5 x6 r k := by
  show k0_pay19 (F := Ideal) s.h s.a x5 s.b x6 (ix2 r k) = _
  generalize s.h = sh
  generalize s.a = sa
  generalize s.b = sb
  pointwise! [k0_pay19]

theorem dh_at (r : Fin 1024) (k : Fin 1024) : k0_pay9 (F := Ideal) db da h x7 x8 (ix2 r k) = h (ix2 r k) + both da db x7 x8 r k := by
  pointwise [k0_pay9]
  exact add_assoc _ _ _

theorem dx_at (r : Fin 1024) (j : Fin 1024) : dxOf (F := Ideal) h da db x0 x1 x2 x7 x8 (ix2 r j)
    = dxK cN (fun k => x1 (ix2 r k)) (fun k => h (ix2 r k) + both da db x7 x8 r k) (fun k => x2 (ix2 0 k)) (x0 (ix2 r j)) j := by
  have e := dh_at h da db x7 x8
  unfold dxOf k0_pay13 k0_pay12
  generalize k0_pay9 (F := Ideal) db da h x7 x8 = p at *
  simp only [← e]
  unfold dxK rstd ms
  pointwise! [k0_pay6, k0_pay7, k0_pay8]

theorem gain_at (i : Fin 1) (j : Fin 1024) : k0_pay10 (F := Ideal) db da x1 h x7 x8 (ix2 i j)
    = ∑ r : Fin 1024, (h (ix2 r j) + both da db x7 x8 r j) * (x1 (ix2 r j) * rstd cN (fun k => x1 (ix2 r k))) := by
  have e := dh_at h da db x7 x8
  unfold k0_pay10
  generalize k0_pay9 (F := Ideal) db da h x7 x8 = p at *
  simp only [← e]
  unfold rstd ms
  pointwise! [k0_pay7, k0_pay8]

theorem gain_add (v : FVec Ideal S1x1024 .f32) (i : S1x1024.Idx) :
    k0_pay11 (F := Ideal) db da x1 h x7 x8 v i = v i + k0_pay10 (F := Ideal) db da x1 h x7 x8 i := by
  unfold k0_pay11
  generalize k0_pay10 (F := Ideal) db da x1 h x7 x8 = p
  pointwise

end Cert.FfnBwdIdeal.Pay

end
-- ==== Proof.FfnBwd.Frame.lean ====
module

public import proofs.«01_k».proof.Proof.FfnBwd.Body
public import proofs.«01_k».proof.Proof.Gen.FfnBwdIdeal.Points
public import proofs.«01_k».proof.Proof.Gen.FfnBwdIdeal.Launch
public import proofs.«01_k».proof.Proof.Gen.FfnBwdIdeal.Frame
public import Idealize.ShloMosaic.Lib.Pipeline.FrameBody
public import Idealize.ShloMosaic.Lib.Claim

/-! # The second FFN backward program's run, from any memory

The carried buffers between the column blocks of a row block, the gain's gradient from row block to row block, and the run of the pipeline
for any float values, with the frame. -/

@[expose] public section

set_option maxRecDepth 16384

noncomputable section

namespace Cert.FfnBwdIdeal.Body

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)
theorem cond2_iff : ∀ t : Fin cfg0.N, k0_cond2 (grid0.coords t) = 1#1 ↔ t.val % 11 = 10 :=
  (by decide +kernel : ∀ t : Fin grid0.N, k0_cond2 (grid0.coords t) = 1#1 ↔ t.val % 11 = 10)
theorem cond3_iff : ∀ t : Fin cfg0.N, k0_cond3 (grid0.coords t) = 1#1 ↔ t.val < 11 :=
  (by decide +kernel : ∀ t : Fin grid0.N, k0_cond3 (grid0.coords t) = 1#1 ↔ t.val < 11)
theorem cond4_iff : ∀ t : Fin cfg0.N, k0_cond4 (grid0.coords t) = 1#1 ↔ ¬ t.val < 11 :=
  (by decide +kernel : ∀ t : Fin grid0.N, k0_cond4 (grid0.coords t) = 1#1 ↔ ¬ t.val < 11)
theorem idle_10 : ∀ t : Fin cfg0.N, cfg0.idle 10 (cfg0.grid.coords t) = decide (t.val % 11 ≠ 10) :=
  (by decide +kernel : ∀ t : Fin grid0.N, idle0 10 (grid0.coords t) = decide (t.val % 11 ≠ 10))
theorem idle_11 : ∀ t : Fin cfg0.N, cfg0.idle 11 (cfg0.grid.coords t) = decide (t.val % 11 ≠ 10) :=
  (by decide +kernel : ∀ t : Fin grid0.N, idle0 11 (grid0.coords t) = decide (t.val % 11 ≠ 10))
theorem idle_14 : ∀ t : Fin cfg0.N, cfg0.idle 14 (cfg0.grid.coords t) = decide (t.val % 11 ≠ 0) :=
  (by decide +kernel : ∀ t : Fin grid0.N, idle0 14 (grid0.coords t) = decide (t.val % 11 ≠ 0))

/-- The grid's point with number `n`. -/
def pt (n : ℕ) : Fin cfg0.N := ⟨n % 44, lt_of_lt_of_eq (Nat.mod_lt _ (by decide)) N_0.symm⟩

theorem lt44 (t : Fin cfg0.N) : t.val < 44 := lt_of_lt_of_eq t.isLt N_0

theorem pt_val (t : Fin cfg0.N) : pt t.val = t := Fin.ext (Nat.mod_eq_of_lt (lt44 t))

/-- What the column block at point `n` makes of what is carried to it. -/
def step (c : Dev nD) (n : ℕ) (s : St F) : St F := next s (iblk m c 3 (pt n)) (iblk m c 4 (pt n)) (iblk m c 5 (pt n)) (iblk m c 6 (pt n)) (iblk m c 9 (pt n))

/-- What is carried away from point `n`. -/
def held (c : Dev nD) : ℕ → St F
  | 0 => step m c 0 (clear (iblk m c 0 (pt 0)))
  | n + 1 => step m c (n + 1) (if (n + 1) % 11 = 0 then clear (iblk m c 0 (pt (n + 1))) else held c n)

/-- What is carried to point `n`. -/
def pre (c : Dev nD) (n : ℕ) : St F := if n % 11 = 0 then clear (iblk m c 0 (pt n)) else held m c (n - 1)

theorem held_eq (c : Dev nD) (n : ℕ) : held m c n = step m c n (pre m c n) := by
  cases n with
  | zero => rfl
  | succ n => rfl

theorem pre_first (c : Dev nD) (n : ℕ) (h : n % 11 = 0) : pre m c n = clear (iblk m c 0 (pt n)) := if_pos h
theorem pre_rest (c : Dev nD) (n : ℕ) (h : ¬ n % 11 = 0) : pre m c n = held m c (n - 1) := if_neg h

/-- The cotangents of a column block. -/
def daAt (c : Dev nD) (n : ℕ) : Vec F S1024x256 .bf16 := daOf (pre m c n) (iblk m c 3 (pt n)) (iblk m c 4 (pt n)) (iblk m c 9 (pt n))
def dbAt (c : Dev nD) (n : ℕ) : Vec F S1024x256 .bf16 := dbOf (pre m c n) (iblk m c 3 (pt n)) (iblk m c 9 (pt n))

/-- The gradient of the gain after row block `k`. -/
def gain (c : Dev nD) : ℕ → Vec F S1x1024 .f32
  | 0 => k0_pay10 (dbAt m c 10) (daAt m c 10) (iblk m c 1 (pt 10)) (held m c 10).h (iblk m c 7 (pt 10)) (iblk m c 8 (pt 10))
  | k + 1 => k0_pay11 (dbAt m c (11 * (k + 1) + 10)) (daAt m c (11 * (k + 1) + 10)) (iblk m c 1 (pt (11 * (k + 1) + 10))) (held m c (11 * (k + 1) + 10)).h (iblk m c 7 (pt (11 * (k + 1) + 10))) (iblk m c 8 (pt (11 * (k + 1) + 10))) (gain c k)

/-- The gradient of the input at a row block's last point. -/
def dxAt (c : Dev nD) (n : ℕ) : Vec F S1024x1024 .f32 := dxOf (held m c n).h (daAt m c n) (dbAt m c n) (iblk m c 0 (pt n)) (iblk m c 1 (pt n)) (iblk m c 2 (pt n)) (iblk m c 7 (pt n)) (iblk m c 8 (pt n))

/-- Half the cotangent of a row block, as its first point leaves it. -/
def obAt (c : Dev nD) (n : ℕ) : Vec F S1024x1024 .bf16 := k0_pay14 (iblk m c 0 (pt (n - n % 11)))

/-- What is between the points: the carried buffers, at a row block's first point at anything. -/
def between (c : Dev nD) (n : ℕ) : sProp 𝕄 :=
  iprop(∃ s : St F, ⌜n % 11 = 0 ∨ s = held m c (n - 1)⌝ ∗ (owns (c : Thread nD τ) (Memref.whole cc0_scratch0) fullShare s.d ∗ owns (c : Thread nD τ) (Memref.whole cc0_scratch1) fullShare s.h
    ∗ owns (c : Thread nD τ) (Memref.whole cc0_scratch2) fullShare s.a ∗ owns (c : Thread nD τ) (Memref.whole cc0_scratch3) fullShare s.b) ∗ (∃ r, prngReg c r))

/-- The pipeline's proof data: inputs at their blocks, results at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dxAt m c t.val
    | ⟨11, _⟩ => gain m c (t.val / 11)
    | ⟨12, _⟩ => daAt m c t.val
    | ⟨13, _⟩ => dbAt m c t.val
    | ⟨14, _⟩ => obAt m c t.val
  Φ t := between m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = dxAt m c t.val := by dsimp only [dats]
theorem after_11 (c : Dev nD) (t : Fin cfg0.N) : (dats m 0 c).after 11 t = gain m c (t.val / 11) := by dsimp only [dats]
theorem after_12 (c : Dev nD) (t : Fin cfg0.N) : (dats m 0 c).after 12 t = daAt m c t.val := by dsimp only [dats]
theorem after_13 (c : Dev nD) (t : Fin cfg0.N) : (dats m 0 c).after 13 t = dbAt m c t.val := by dsimp only [dats]
theorem after_14 (c : Dev nD) (t : Fin cfg0.N) : (dats m 0 c).after 14 t = obAt m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d

theorem kept_11 (c : Dev nD) (t : Fin cfg0.N) (d) : (dats m 0 c).kept 11 t d = gain m c (t.val / 11) := by
  unfold Dat.kept
  rw [Pipeline.fill_of_clip_none (cfg := cfg0) 11 _ (fun _ => rfl) d ((dats m 0 c).after 11 t), Window.fill_cut, after_11]

theorem kept_14 (c : Dev nD) (t : Fin cfg0.N) (d) : (dats m 0 c).kept 14 t d = obAt m c t.val := by
  unfold Dat.kept
  rw [Pipeline.fill_of_clip_none (cfg := cfg0) 14 _ (fun _ => rfl) d ((dats m 0 c).after 14 t), Window.fill_cut, after_14]

/-- From the second row block on window 11 holds what the row block before left. -/
theorem before_11 (c : Dev nD) : ∀ (n : ℕ) (hn : n < cfg0.N), ¬ n < 11 → ∀ d, (dats m 0 c).before 11 ⟨n, hn⟩ d = gain m c (n / 11 - 1) := by
  intro n
  induction n with
  | zero => intro hn h; omega
  | succ n ih =>
    intro hn h d
    have h44 : n + 1 < 44 := lt44 ⟨n + 1, hn⟩
    rw [(dats m 0 c).before_of_pos 11 ⟨n + 1, hn⟩ (Nat.succ_ne_zero n) rfl d, if_neg (by
      intro hf
      have := (flush0_11 ⟨n, by omega⟩).mp hf
      simp only at this
      omega)]
    show (dats m 0 c).left 11 ⟨n, by omega⟩ d = _
    unfold Dat.left
    rw [idle_11]
    by_cases hl : n % 11 = 10
    · simp only [hl, ne_eq, not_true_eq_false, decide_false]
      rw [kept_11]
      congr 1
      simp only
      omega
    · simp only [hl, ne_eq, not_false_eq_true, decide_true]
      rw [ih (by omega) (by omega) d]
      congr 1
      omega

/-- Within a row block window 14 keeps what the first point left. -/
theorem before_14 (c : Dev nD) : ∀ (n : ℕ) (hn : n < cfg0.N), ¬ n % 11 = 0 → ∀ d, (dats m 0 c).before 14 ⟨n, hn⟩ d = obAt m c n := by
  intro n
  induction n with
  | zero => intro hn h; omega
  | succ n ih =>
    intro hn h d
    have h44 : n + 1 < 44 := lt44 ⟨n + 1, hn⟩
    have hob : obAt m c n = obAt m c (n + 1) := by
      unfold obAt
      rw [show n - n % 11 = n + 1 - (n + 1) % 11 by omega]
    rw [(dats m 0 c).before_of_pos 14 ⟨n + 1, hn⟩ (Nat.succ_ne_zero n) rfl d, if_neg (by
      intro hf
      have := (flush0_14 ⟨n, by omega⟩).mp hf
      simp only at this
      omega)]
    show (dats m 0 c).left 14 ⟨n, by omega⟩ d = _
    unfold Dat.left
    rw [idle_14, ← hob]
    by_cases hl : n % 11 = 0
    · simp only [hl, ne_eq, not_true_eq_false, decide_false]
      exact kept_14 m c _ d
    · simp only [hl, ne_eq, not_false_eq_true, decide_true]
      exact ih (by omega) hl d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window that is not left out, or is written back, is left at the proof data's contents. -/
theorem leaves (c : Dev nD) (t : Fin cfg0.N) (w : Fin cfg0.W) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem no_flush (w : Fin cfg0.W) (t : Fin cfg0.N) (h : ¬ (cfg0.win w).flush t = true) : (cfg0.win w).flush t = false := by
  rwa [Bool.eq_false_iff]

set_option maxHeartbeats 1600000 in
/-- A row block's first point. -/
theorem sound_first (c : Dev nD) (t : Fin cfg0.N) (h : t.val % 11 = 0) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (iblk m c 3 t) (iblk m c 4 t) (iblk m c 5 t) (iblk m c 6 t) (iblk m c 9 t) := by rw [held_eq]; unfold step; rw [hp]
  unfold bodyPre bodyPost bodyAt0
  simp only [before_0, before_1, before_2, before_3, before_4, before_5, before_6, before_7, before_8, before_9]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 8 (Or.inl rfl), after_8]
  rw [leaves m c t 9 (Or.inl rfl), after_9]
  rw [leaves m c t 12 (Or.inl rfl), after_12]
  rw [leaves m c t 13 (Or.inl rfl), after_13]
  rw [Dat.leavesExact_idle _ 10 t (by rw [idle_10]; exact decide_eq_true (by omega)) (no_flush 10 t (by rw [flush0_10]; omega))]
  rw [Dat.leavesExact_idle _ 11 t (by rw [idle_11]; exact decide_eq_true (by omega)) (no_flush 11 t (by rw [flush0_11]; omega))]
  rw [leaves m c t 14 (Or.inl (by rw [idle_14]; exact decide_eq_false (by omega))), after_14]
  unfold between
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = clear (iblk m c 0 t) := by rw [pre_first m c t.val h, hp]
  iapply (wp_wand frame (wpE (defs₀ (F := F)) Variants.none (c : Thread nD τ) none) Set.univ) $$ [H0 H1 H2 H3 H4 H5 H6 H7 H8 H9 H12 H13 H14 S0 S1 S2 S3]
  · iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (e1.mpr h) (fun x => by have := e2.mp x; omega) _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    isplitl [H14]; · iexact H14
    isplitl [S0]; · iexact S0
    isplitl [S1]; · iexact S1
    isplitl [S2]; · iexact S2
    iexact S3
  · iintro %u H
    icases H with ⟨H0, H1, H2, H3, H4, H5, H6, H7, H8, H9, H12, H13, H14, S0, S1, S2, S3⟩
    isplitl [S0 S1 S2 S3 Hg]
    · iexists (held m c t.val)
      isplitr; · ipureintro; right; rfl
      isplitl [S0 S1 S2 S3]
      · rw [hn, hpre]
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    isplitl [H11]; · iexists d11; iexact H11
    isplitl [H12]; · unfold daAt; rw [hp, hpre]; iexact H12
    isplitl [H13]; · unfold dbAt; rw [hp, hpre]; iexact H13
    unfold obAt; rw [show t.val - t.val % 11 = t.val by omega, hp]; iexact H14

set_option maxHeartbeats 1600000 in
/-- A point between. -/
theorem sound_mid (c : Dev nD) (t : Fin cfg0.N) (h : ¬ t.val % 11 = 0) (h2 : ¬ t.val % 11 = 10) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (iblk m c 3 t) (iblk m c 4 t) (iblk m c 5 t) (iblk m c 6 t) (iblk m c 9 t) := by rw [held_eq]; unfold step; rw [hp]
  unfold bodyPre bodyPost bodyAt0
  simp only [before_0, before_1, before_2, before_3, before_4, before_5, before_6, before_7, before_8, before_9]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 8 (Or.inl rfl), after_8]
  rw [leaves m c t 9 (Or.inl rfl), after_9]
  rw [leaves m c t 12 (Or.inl rfl), after_12]
  rw [leaves m c t 13 (Or.inl rfl), after_13]
  rw [Dat.leavesExact_idle _ 10 t (by rw [idle_10]; exact decide_eq_true (by omega)) (no_flush 10 t (by rw [flush0_10]; omega))]
  rw [Dat.leavesExact_idle _ 11 t (by rw [idle_11]; exact decide_eq_true (by omega)) (no_flush 11 t (by rw [flush0_11]; omega))]
  rw [Dat.leavesExact_idle _ 14 t (by rw [idle_14]; exact decide_eq_true (by omega)) (no_flush 14 t (by rw [flush0_14]; omega))]
  unfold between
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  iapply (wp_wand frame (wpE (defs₀ (F := F)) Variants.none (c : Thread nD τ) none) Set.univ) $$ [H0 H1 H2 H3 H4 H5 H6 H7 H8 H9 H12 H13 S0 S1 S2 S3]
  · iapply (body_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) s (fun x => h (e1.mp x)) (fun x => h2 (e2.mp x)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    isplitl [S0]; · iexact S0
    isplitl [S1]; · iexact S1
    isplitl [S2]; · iexact S2
    iexact S3
  · iintro %u H
    icases H with ⟨H0, H1, H2, H3, H4, H5, H6, H7, H8, H9, H12, H13, S0, S1, S2, S3⟩
    isplitl [S0 S1 S2 S3 Hg]
    · iexists (held m c t.val)
      isplitr; · ipureintro; right; rfl
      isplitl [S0 S1 S2 S3]
      · rw [hn, hpre]
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists d10; iexact H10
    isplitl [H11]; · iexists d11; iexact H11
    isplitl [H12]; · unfold daAt; rw [hp, hpre]; iexact H12
    isplitl [H13]; · unfold dbAt; rw [hp, hpre]; iexact H13
    iexists d14; iexact H14

set_option maxHeartbeats 1600000 in
/-- The last point of the first row block. -/
theorem sound_last_first (c : Dev nD) (t : Fin cfg0.N) (h2 : t.val % 11 = 10) (h3 : t.val < 11) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (iblk m c 3 t) (iblk m c 4 t) (iblk m c 5 t) (iblk m c 6 t) (iblk m c 9 t) := by rw [held_eq]; unfold step; rw [hp]
  have hgain : gain m c (t.val / 11) = k0_pay10 (dbAt m c t.val) (daAt m c t.val) (iblk m c 1 (pt t.val)) (held m c t.val).h (iblk m c 7 (pt t.val)) (iblk m c 8 (pt t.val)) := by
    have hv : t.val = 10 := by omega
    rw [hv]
    rfl
  unfold bodyPre bodyPost bodyAt0
  simp only [before_0, before_1, before_2, before_3, before_4, before_5, before_6, before_7, before_8, before_9]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 8 (Or.inl rfl), after_8]
  rw [leaves m c t 9 (Or.inl rfl), after_9]
  rw [leaves m c t 12 (Or.inl rfl), after_12]
  rw [leaves m c t 13 (Or.inl rfl), after_13]
  rw [leaves m c t 10 (Or.inl (by rw [idle_10]; exact decide_eq_false (by omega))), after_10]
  rw [leaves m c t 11 (Or.inl (by rw [idle_11]; exact decide_eq_false (by omega))), after_11]
  rw [leaves m c t 14 (Or.inr ((flush0_14 t).mpr (by omega))), after_14]
  unfold between
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  rw [before_14 m c t.val t.isLt (by omega)]
  iapply (wp_wand frame (wpE (defs₀ (F := F)) Variants.none (c : Thread nD τ) none) Set.univ) $$ [H0 H1 H2 H3 H4 H5 H6 H7 H8 H9 H10 H11 H12 H13 S0 S1 S2 S3]
  · iapply (body_last_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) s (fun x => by have := e1.mp x; omega) (e2.mpr h2) (e3.mpr h3) (fun x => e4.mp x h3) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    iexact S3
  · iintro %u H
    icases H with ⟨H0, H1, H2, H3, H4, H5, H6, H7, H8, H9, H10, H11, H12, H13, S0, S1, S2, S3⟩
    isplitl [S0 S1 S2 S3 Hg]
    · iexists (held m c t.val)
      isplitr; · ipureintro; right; rfl
      isplitl [S0 S1 S2 S3]
      · rw [hn, hpre]
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · unfold dxAt daAt dbAt; rw [hp, hn, hpre]; iexact H10
    isplitl [H11]; · rw [hgain]; unfold daAt dbAt; rw [hp, hn, hpre]; iexact H11
    isplitl [H12]; · unfold daAt; rw [hp, hpre]; iexact H12
    isplitl [H13]; · unfold dbAt; rw [hp, hpre]; iexact H13
    iexact H14

set_option maxHeartbeats 1600000 in
/-- The last point of the other row blocks. -/
theorem sound_last (c : Dev nD) (t : Fin cfg0.N) (h2 : t.val % 11 = 10) (h3 : ¬ t.val < 11) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (iblk m c 3 t) (iblk m c 4 t) (iblk m c 5 t) (iblk m c 6 t) (iblk m c 9 t) := by rw [held_eq]; unfold step; rw [hp]
  have hgain : gain m c (t.val / 11) = k0_pay11 (dbAt m c t.val) (daAt m c t.val) (iblk m c 1 (pt t.val)) (held m c t.val).h (iblk m c 7 (pt t.val)) (iblk m c 8 (pt t.val)) (gain m c (t.val / 11 - 1)) := by
    obtain ⟨k, hk⟩ : ∃ k, t.val / 11 = k + 1 := ⟨t.val / 11 - 1, by omega⟩
    have hv : t.val = 11 * (k + 1) + 10 := by omega
    rw [hk, Nat.add_sub_cancel]
    unfold gain
    rw [hv]
    cases k <;> rfl
  unfold bodyPre bodyPost bodyAt0
  simp only [before_0, before_1, before_2, before_3, before_4, before_5, before_6, before_7, before_8, before_9]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 8 (Or.inl rfl), after_8]
  rw [leaves m c t 9 (Or.inl rfl), after_9]
  rw [leaves m c t 12 (Or.inl rfl), after_12]
  rw [leaves m c t 13 (Or.inl rfl), after_13]
  rw [leaves m c t 10 (Or.inl (by rw [idle_10]; exact decide_eq_false (by omega))), after_10]
  rw [leaves m c t 11 (Or.inl (by rw [idle_11]; exact decide_eq_false (by omega))), after_11]
  rw [leaves m c t 14 (Or.inr ((flush0_14 t).mpr (by omega))), after_14]
  unfold between
  iintro ⟨⟨%s, %hs, ⟨S0, S1, S2, S3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  rw [before_11 m c t.val t.isLt (by omega)]
  rw [before_14 m c t.val t.isLt (by omega)]
  iapply (wp_wand frame (wpE (defs₀ (F := F)) Variants.none (c : Thread nD τ) none) Set.univ) $$ [H0 H1 H2 H3 H4 H5 H6 H7 H8 H9 H10 H11 H12 H13 S0 S1 S2 S3]
  · iapply (body_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (Memref.whole cc0_scratch2) (Memref.isWhole_whole _) (Memref.whole cc0_scratch3) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) s (fun x => by have := e1.mp x; omega) (e2.mpr h2) (fun x => h3 (e3.mp x)) (e4.mpr h3) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    iexact S3
  · iintro %u H
    icases H with ⟨H0, H1, H2, H3, H4, H5, H6, H7, H8, H9, H10, H11, H12, H13, S0, S1, S2, S3⟩
    isplitl [S0 S1 S2 S3 Hg]
    · iexists (held m c t.val)
      isplitr; · ipureintro; right; rfl
      isplitl [S0 S1 S2 S3]
      · rw [hn, hpre]
        isplitl [S0]; · iexact S0
        isplitl [S1]; · iexact S1
        isplitl [S2]; · iexact S2
        iexact S3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · unfold dxAt daAt dbAt; rw [hp, hn, hpre]; iexact H10
    isplitl [H11]; · rw [hgain]; unfold daAt dbAt; rw [hp, hn, hpre]; iexact H11
    isplitl [H12]; · unfold daAt; rw [hp, hpre]; iexact H12
    isplitl [H13]; · unfold dbAt; rw [hp, hpre]; iexact H13
    iexact H14

theorem sound_body (c : Dev nD) (t : Fin cfg0.N) :
    bodyPre m c t ⊢ wp frame (wpE (defs₀ (F := F)) Variants.none c none) Set.univ (bodyAt0 t) (fun _ => bodyPost m c t) := by
  by_cases h : t.val % 11 = 0
  · exact sound_first m c t h
  · by_cases h2 : t.val % 11 = 10
    · by_cases h3 : t.val < 11
      · exact sound_last_first m c t h2 h3
      · exact sound_last m c t h2 h3
    · exact sound_mid m c t h h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives, in the carried buffers. -/
theorem launch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
      ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [launch_eq, show (dats m 0 c).Φ 0 = between m c 0 from rfl]
  unfold between
  iintro ⟨⟨⟨%d, S0⟩, ⟨%h, S1⟩, ⟨%a, S2⟩, ⟨%b, S3⟩⟩, Hg⟩
  iexists (St.mk d h a b)
  isplitr; · ipureintro; left; rfl
  isplitl [S0 S1 S2 S3]
  · isplitl [S0]; · iexact S0
    isplitl [S1]; · iexact S1
    isplitl [S2]; · iexact S2
    iexact S3
  iexact Hg

theorem exits (c : Dev nD) : (dats m 0 c).Φ (Fin.last cfg0.N) ⊢ (Pipeline.ΦA spec0 c : sProp 𝕄) := by
  rw [launch_eq, show (dats m 0 c).Φ (Fin.last cfg0.N) = between m c cfg0.N from rfl]
  unfold between
  iintro ⟨%s, %hs, ⟨S0, S1, S2, S3⟩, Hg⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The run: every array of the pipeline at what the proof data compute, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enters m) (hout := exits m)

/-- The frame, for any float values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.FfnBwdIdeal.Body

end
-- ==== Proof.FfnBwd.Value.lean ====
/- What the arrays of the second FFN's backward kernel hold after its run. -/
module

public import proofs.«01_k».proof.Proof.FfnBwd.Pay
public import proofs.«01_k».proof.Proof.FfnBwd.Frame
public import Idealize.ShloMosaic.Lib.Pipeline.ValueKit

@[expose] public section

set_option maxRecDepth 16384

noncomputable section

namespace Cert.FfnBwdIdeal.Fin

open Idealize.ShloMosaic Idealize.ShloMosaic.TcCoe Idealize.SL.Sem
open Idealize.ShloMosaic.Pipeline (Dat)
open Cert.FfnBwdIdeal Cert.FfnBwdIdeal.Gen Cert.FfnBwdIdeal.Body Cert.Shared
open Finset (range)

variable (m : (ℓ : Loc nD τ sig) → Buf (Elt Ideal) ℓ) (c : Dev nD)

theorem idx : ∀ t : Fin cfg0.N, win0_0.index t = ![t.val / 11, 0] ∧ win0_1.index t = ![t.val / 11, 0] ∧ win0_2.index t = ![0, 0]
    ∧ win0_3.index t = ![t.val / 11, t.val % 11] ∧ win0_4.index t = ![t.val / 11, t.val % 11] ∧ win0_5.index t = ![t.val % 11 - 1, 0]
    ∧ win0_6.index t = ![t.val % 11 - 1, 0] ∧ win0_7.index t = ![10, 0] ∧ win0_8.index t = ![10, 0] ∧ win0_9.index t = ![t.val % 11, 0]
    ∧ win0_10.index t = ![t.val / 11, 0] ∧ win0_12.index t = ![t.val / 11, t.val % 11] ∧ win0_13.index t = ![t.val / 11, t.val % 11]
    ∧ win0_14.index t = ![t.val / 11, 0] :=
  (by decide +kernel : ∀ t : Fin grid0.N, _)

/-- The arrays the kernel's windows read. -/
abbrev aD : FVec Ideal S4096x1024 .f32 := V m c main_arg0
abbrev aX : FVec Ideal S4096x1024 .f32 := V m c main_arg1
abbrev aG : FVec Ideal S1x1024 .f32 := V m c main_arg2
abbrev aA : FVec Ideal S4096x2816 .bf16 := V m c main_v18
abbrev aB : FVec Ideal S4096x2816 .bf16 := V m c main_v20
abbrev aWg : FVec Ideal S2816x1024 .bf16 := V m c main_v1
abbrev aWu : FVec Ideal S2816x1024 .bf16 := V m c main_v3
abbrev aWd : FVec Ideal S2816x1024 .bf16 := V m c main_v21

/-- A row of a row block, a column of a column block, of a point. -/
def row (t : Fin cfg0.N) (r : Fin 1024) : Fin 4096 := ⟨t.val / 11 * 1024 + r.val, by have := lt44 t; omega⟩
def col (t : Fin cfg0.N) (j : Fin 256) : Fin 2816 := ⟨t.val % 11 * 256 + j.val, by omega⟩
def colB (t : Fin cfg0.N) (j : Fin 256) : Fin 2816 := ⟨(t.val % 11 - 1) * 256 + j.val, by omega⟩
def colZ (j : Fin 256) : Fin 2816 := ⟨10 * 256 + j.val, by omega⟩

theorem blk0 (t : Fin cfg0.N) (r : Fin 1024) (l : Fin 1024) : iblk m c 0 t (ix2 r l) = aD m c (ix2 (row t r) l) := by
  blk_point [iblk, V, idx t, row, col]
theorem blk1 (t : Fin cfg0.N) (r : Fin 1024) (l : Fin 1024) : iblk m c 1 t (ix2 r l) = aX m c (ix2 (row t r) l) := by
  blk_point [iblk, V, idx t, row, col]
theorem blk2 (t : Fin cfg0.N) (r : Fin 1) (l : Fin 1024) : iblk m c 2 t (ix2 r l) = aG m c (ix2 r l) := by
  blk_point [iblk, V, idx t, row, col]
theorem blk3 (t : Fin cfg0.N) (r : Fin 1024) (j : Fin 256) : iblk m c 3 t (ix2 r j) = aA m c (ix2 (row t r) (col t j)) := by
  blk_point [iblk, V, idx t, row, col]
theorem blk4 (t : Fin cfg0.N) (r : Fin 1024) (j : Fin 256) : iblk m c 4 t (ix2 r j) = aB m c (ix2 (row t r) (col t j)) := by
  blk_point [iblk, V, idx t, row, col]
theorem blk5 (t : Fin cfg0.N) (j : Fin 256) (k : Fin 1024) : iblk m c 5 t (ix2 j k) = aWg m c (ix2 (colB t j) k) := by
  blk_point [iblk, V, idx t, row, colB]
theorem blk6 (t : Fin cfg0.N) (j : Fin 256) (k : Fin 1024) : iblk m c 6 t (ix2 j k) = aWu m c (ix2 (colB t j) k) := by
  blk_point [iblk, V, idx t, row, colB]
theorem blk7 (t : Fin cfg0.N) (j : Fin 256) (k : Fin 1024) : iblk m c 7 t (ix2 j k) = aWg m c (ix2 (colZ j) k) := by
  blk_point [iblk, V, idx t, row, colZ]
theorem blk8 (t : Fin cfg0.N) (j : Fin 256) (k : Fin 1024) : iblk m c 8 t (ix2 j k) = aWu m c (ix2 (colZ j) k) := by
  blk_point [iblk, V, idx t, row, colZ]
theorem blk9 (t : Fin cfg0.N) (j : Fin 256) (k : Fin 1024) : iblk m c 9 t (ix2 j k) = aWd m c (ix2 (col t j) k) := by
  blk_point [iblk, V, idx t, row, col]
theorem emb10 (t : Fin cfg0.N) (r : Fin 1024) (l : Fin 1024) : ((cfg0.win 10).blk t).view.emb (ix2 r l) = ix2 (row t r) l := by
  blk_ext [idx t, row, col]
theorem emb12 (t : Fin cfg0.N) (r : Fin 1024) (j : Fin 256) : ((cfg0.win 12).blk t).view.emb (ix2 r j) = ix2 (row t r) (col t j) := by
  blk_ext [idx t, row, col]
theorem emb13 (t : Fin cfg0.N) (r : Fin 1024) (j : Fin 256) : ((cfg0.win 13).blk t).view.emb (ix2 r j) = ix2 (row t r) (col t j) := by
  blk_ext [idx t, row, col]
theorem emb14 (t : Fin cfg0.N) (r : Fin 1024) (l : Fin 1024) : ((cfg0.win 14).blk t).view.emb (ix2 r l) = ix2 (row t r) l := by
  blk_ext [idx t, row, col]

/-- The same row and column by the numbers of their blocks. -/
def rowN (i : ℕ) (r : Fin 1024) : Fin 4096 := ⟨(i * 1024 + r.val) % 4096, Nat.mod_lt _ (by decide)⟩
def colN (s : ℕ) (j : Fin 256) : Fin 2816 := ⟨(s * 256 + j.val) % 2816, Nat.mod_lt _ (by decide)⟩

variable {n : ℕ} (hn : n < 44)

include hn in
theorem row_pt (r : Fin 1024) : row (pt n) r = rowN (n / 11) r := Fin.ext (by simp only [row, rowN, pt]; omega)
include hn in
theorem col_pt (j : Fin 256) : col (pt n) j = colN (n % 11) j := Fin.ext (by simp only [col, colN, pt]; omega)
include hn in
theorem colB_pt (j : Fin 256) : colB (pt n) j = colN (n % 11 - 1) j := Fin.ext (by simp only [colB, colN, pt]; omega)
theorem colZ_eq (j : Fin 256) : colZ j = colN 10 j := Fin.ext (by simp only [colZ, colN]; omega)

/-- The cotangent of the gated product, and those of its two factors' arguments. -/
def ds (r : Fin 4096) (j : Fin 2816) : EReal := ∑ l : Fin 1024, cH * aD m c (ix2 r l) * aWd m c (ix2 j l)
def da (r : Fin 4096) (j : Fin 2816) : EReal := daK (ds m c r j) (aA m c (ix2 r j)) (aB m c (ix2 r j))
def db (r : Fin 4096) (j : Fin 2816) : EReal := ds m c r j * (aA m c (ix2 r j) * sgK (aA m c (ix2 r j)))

/-- What one column block adds to the cotangent of the normalised input. -/
def part (r : Fin 4096) (k : Fin 1024) (s : ℕ) : EReal :=
  (∑ l : Fin 256, da m c r (colN s l) * aWg m c (ix2 (colN s l) k)) + ∑ l : Fin 256, db m c r (colN s l) * aWu m c (ix2 (colN s l) k)

/-- What the carried buffers hold when point `n` begins. -/
def Before (n : ℕ) : Prop := ∀ r l, (pre m c n).d (ix2 r l) = cH * aD m c (ix2 (rowN (n / 11) r) l)

include hn in
theorem da_pt (h : Before m c n) (r : Fin 1024) (j : Fin 256) : daAt m c n (ix2 r j) = da m c (rowN (n / 11) r) (colN (n % 11) j) := by
  unfold daAt da ds
  rw [Pay.da_at]
  unfold Pay.ds
  simp only [h r, blk3, blk4, blk9, row_pt hn, col_pt hn]

include hn in
theorem db_pt (h : Before m c n) (r : Fin 1024) (j : Fin 256) : dbAt m c n (ix2 r j) = db m c (rowN (n / 11) r) (colN (n % 11) j) := by
  unfold dbAt db ds
  rw [Pay.db_at]
  unfold Pay.ds
  simp only [h r, blk3, blk9, row_pt hn, col_pt hn]

theorem held_d : (held m c n).d = (pre m c n).d := by rw [held_eq]; rfl
theorem held_a (r : Fin 1024) (j : Fin 256) : (held m c n).a (ix2 r j) = daAt m c n (ix2 r j) := by
  rw [held_eq]; exact Pay.next_a _ _ _ _ _ _ _ _
theorem held_b (r : Fin 1024) (j : Fin 256) : (held m c n).b (ix2 r j) = dbAt m c n (ix2 r j) := by
  rw [held_eq]; exact Pay.next_b _ _ _ _ _ _ _ _
theorem held_h (r : Fin 1024) (k : Fin 1024) : (held m c n).h (ix2 r k)
    = (pre m c n).h (ix2 r k) + Pay.both (pre m c n).a (pre m c n).b (iblk m c 5 (pt n)) (iblk m c 6 (pt n)) r k := by
  rw [held_eq]; exact Pay.next_h _ _ _ _ _ _ _ _

theorem before_at (n : ℕ) : n < 44 → Before m c n := by
  induction n with
  | zero =>
    intro hn r l
    rw [pre_first m c 0 rfl, Pay.clear_d, blk0, row_pt hn]
  | succ n ih =>
    intro hn r l
    by_cases h : (n + 1) % 11 = 0
    · rw [pre_first m c _ h, Pay.clear_d, blk0, row_pt hn]
    · rw [pre_rest m c _ h, Nat.add_sub_cancel, held_d, ih (by omega) r l, show n / 11 = (n + 1) / 11 by omega]

theorem h_at (n : ℕ) : n < 44 → ∀ r k, (held m c n).h (ix2 r k) = ∑ s ∈ range (n % 11), part m c (rowN (n / 11) r) k s := by
  have first (n : ℕ) (h : n % 11 = 0) (r k) : (held m c n).h (ix2 r k) = ∑ s ∈ range (n % 11), part m c (rowN (n / 11) r) k s := by
    rw [held_h, pre_first m c n h, h, Pay.clear_h]
    unfold Pay.both
    simp only [Pay.clear_a, Pay.clear_b, zero_mul, Finset.sum_const_zero, add_zero, Finset.range_zero, Finset.sum_empty]
  induction n with
  | zero => exact fun _ => first 0 rfl
  | succ n ih =>
    intro hn r k
    by_cases h : (n + 1) % 11 = 0
    · exact first _ h r k
    · have hn' : n < 44 := by omega
      have e1 : (n + 1) / 11 = n / 11 := by omega
      have e2 : (n + 1) % 11 = n % 11 + 1 := by omega
      rw [held_h, pre_rest m c _ h, Nat.add_sub_cancel, ih hn' r k, e1, e2, Finset.sum_range_succ]
      unfold Pay.both part
      simp only [held_a, held_b, da_pt m c hn' (before_at m c n hn'), db_pt m c hn' (before_at m c n hn'), blk5, blk6, colB_pt hn, e2, Nat.add_sub_cancel]

/-- The cotangent of the normalised input. -/
abbrev dh (r : Fin 4096) (k : Fin 1024) : EReal :=
  (∑ l : Fin 2816, da m c r l * aWg m c (ix2 l k)) + ∑ l : Fin 2816, db m c r l * aWu m c (ix2 l k)

theorem parts (r : Fin 4096) (k : Fin 1024) : ∑ s ∈ range 11, part m c r k s = dh m c r k := by
  unfold part dh
  rw [Finset.sum_add_distrib, Finset.sum_range, Finset.sum_range]
  congr 1 <;> refine Fin.sum_mul_add_congr (fun s l hl => ?_) rfl
  all_goals rw [show colN s.val l = ⟨s.val * 256 + l.val, hl⟩ from Fin.ext (Nat.mod_eq_of_lt hl)]

include hn in
theorem dh_at (h : n % 11 = 10) (r : Fin 1024) (k : Fin 1024) : (held m c n).h (ix2 r k)
    + Pay.both (daAt m c n) (dbAt m c n) (iblk m c 7 (pt n)) (iblk m c 8 (pt n)) r k = dh m c (rowN (n / 11) r) k := by
  rw [h_at m c n hn, ← parts, h, Finset.sum_range_succ _ 10]
  unfold Pay.both part
  simp only [da_pt m c hn (before_at m c n hn), db_pt m c hn (before_at m c n hn), blk7, blk8, colZ_eq, h]

/-- What one row block adds to the gain's gradient. -/
def gpart (j : Fin 1024) (i : ℕ) : EReal :=
  ∑ r : Fin 1024, dh m c (rowN i r) j * (aX m c (ix2 (rowN i r) j) * rstd cN (fun k => aX m c (ix2 (rowN i r) k)))

theorem gpart_at (k : ℕ) (hk : k < 4) (a : Fin 1) (j : Fin 1024) :
    k0_pay10 (dbAt m c (11 * k + 10)) (daAt m c (11 * k + 10)) (iblk m c 1 (pt (11 * k + 10))) (held m c (11 * k + 10)).h
      (iblk m c 7 (pt (11 * k + 10))) (iblk m c 8 (pt (11 * k + 10))) (ix2 a j) = gpart m c j k := by
  have hn : 11 * k + 10 < 44 := by omega
  have e : (11 * k + 10) / 11 = k := by omega
  rw [Pay.gain_at]
  unfold gpart
  simp only [dh_at m c hn (by omega), blk1, row_pt hn, e]

theorem gain_at (k : ℕ) : k < 4 → ∀ a j, gain m c k (ix2 a j) = ∑ i ∈ range (k + 1), gpart m c j i := by
  induction k with
  | zero =>
    intro hk a j
    rw [Finset.sum_range_one]
    exact gpart_at m c 0 hk a j
  | succ k ih =>
    intro hk a j
    rw [Finset.sum_range_succ, ← ih (by omega) a j, ← gpart_at m c (k + 1) hk a j]
    exact Pay.gain_add _ _ _ _ _ _ _ _

/-- The five results. -/
def G10 : FVec Ideal S4096x1024 .f32 := fun i =>
  dxK cN (fun k => aX m c (ix2 (i 0) k)) (dh m c (i 0)) (fun k => aG m c (ix2 0 k)) (aD m c (ix2 (i 0) (i 1))) (i 1)
def G11 : FVec Ideal S1x1024 .f32 := fun i =>
  ∑ r : Fin 4096, dh m c r (i 1) * (aX m c (ix2 r (i 1)) * rstd cN (fun k => aX m c (ix2 r k)))
def G12 : FVec Ideal S4096x2816 .bf16 := fun i => da m c (i 0) (i 1)
def G13 : FVec Ideal S4096x2816 .bf16 := fun i => db m c (i 0) (i 1)
def G14 : FVec Ideal S4096x1024 .bf16 := fun i => cH * aD m c (ix2 (i 0) (i 1))

theorem row_t (t : Fin cfg0.N) (r : Fin 1024) : rowN (t.val / 11) r = row t r := by rw [← row_pt (lt44 t), pt_val]
theorem col_t (t : Fin cfg0.N) (j : Fin 256) : colN (t.val % 11) j = col t j := by rw [← col_pt (lt44 t), pt_val]

theorem point10 (t : Fin cfg0.N) (h : t.val % 11 = 10) (y) : dxAt m c t.val y = G10 m c (((cfg0.win 10).blk t).view.emb y) := by
  idx_vars y
  unfold dxAt
  rw [Pay.dx_at, emb10]
  simp only [dh_at m c (lt44 t) h, blk0, blk1, blk2, pt_val, row_t]
  rfl

theorem point12 (t : Fin cfg0.N) (y) : daAt m c t.val y = G12 m c (((cfg0.win 12).blk t).view.emb y) := by
  idx_vars y
  rw [da_pt m c (lt44 t) (before_at m c _ (lt44 t)), emb12, row_t, col_t]
  rfl

theorem point13 (t : Fin cfg0.N) (y) : dbAt m c t.val y = G13 m c (((cfg0.win 13).blk t).view.emb y) := by
  idx_vars y
  rw [db_pt m c (lt44 t) (before_at m c _ (lt44 t)), emb13, row_t, col_t]
  rfl

theorem point14 (t : Fin cfg0.N) (y) : obAt m c t.val y = G14 m c (((cfg0.win 14).blk t).view.emb y) := by
  idx_vars y
  have hb : t.val - t.val % 11 < 44 := by have := lt44 t; omega
  unfold obAt
  rw [Pay.ob, emb14, blk0, row_pt hb, show (t.val - t.val % 11) / 11 = t.val / 11 by omega, row_t]
  rfl

theorem final10 : (dats m 0 c).arrAt 10 cfg0.N = G10 m c := by
  refine (dats m 0 c).arrAt_eq_of_covers 10 (G10 m c) (by decide +kernel) fun t h y => ?_
  blk_simp
  rw [after_10]
  exact point10 m c t ((flush0_10 t).mp h) y

theorem final11 : (dats m 0 c).arrAt 11 cfg0.N = G11 m c := by
  refine (dats m 0 c).arrAt_eq_of_after_last 11 (pt 43) (by decide +kernel) _ fun j => ?_
  blk_simp
  rw [after_11]
  idx_vars j
  show gain m c 3 _ = _
  refine (gain_at m c 3 (by decide) _ _).trans ?_
  rw [Finset.sum_range]
  unfold gpart G11
  refine Fin.sum_mul_add_congr (fun s l hl => ?_) rfl
  rw [show rowN s.val l = ⟨s.val * 1024 + l.val, hl⟩ from Fin.ext (Nat.mod_eq_of_lt hl)]
  rfl

theorem final12 : (dats m 0 c).arrAt 12 cfg0.N = G12 m c := by
  refine (dats m 0 c).arrAt_eq_of_covers 12 (G12 m c) (by decide +kernel) fun t _ y => ?_
  blk_simp
  rw [after_12]
  exact point12 m c t y

theorem final13 : (dats m 0 c).arrAt 13 cfg0.N = G13 m c := by
  refine (dats m 0 c).arrAt_eq_of_covers 13 (G13 m c) (by decide +kernel) fun t _ y => ?_
  blk_simp
  rw [after_13]
  exact point13 m c t y

theorem final14 : (dats m 0 c).arrAt 14 cfg0.N = G14 m c := by
  refine (dats m 0 c).arrAt_eq_of_covers 14 (G14 m c) (by decide +kernel) fun t _ y => ?_
  blk_simp
  rw [after_14]
  exact point14 m c t y

end Cert.FfnBwdIdeal.Fin

end
-- ==== Proof.FfnBwd.Ref.lean ====
/- What the reference of the second FFN's backward call returns, read at an element. -/
module

public import proofs.«01_k».proof.Proof.Shared.Norm
public import proofs.«01_k».proof.Proof.Shared.Gate
public import proofs.«01_k».proof.Proof.Gen.FfnBwdRefIdeal.Read
public import Idealize.ShloMosaic.Lib.Pointwise

@[expose] public section

set_option maxRecDepth 16384

noncomputable section

namespace Cert.FfnBwdRefIdeal.Spec

open Idealize.ShloMosaic Idealize.ShloMosaic.TcCoe Idealize.SL.Sem
open Cert.FfnBwdRefIdeal Cert.FfnBwdRefIdeal.Gen Cert.FfnBwdRefIdeal.Read Cert.Shared

variable (x0 x1 : FVec Ideal S4096x1024 .f32) (x2 : FVec Ideal S1x1024 .f32) (x3 x4 : FVec Ideal S1024x2816 .f32) (x5 : FVec Ideal S2816x1024 .f32)

/-- A product's entry: the normalised row times a column. -/
abbrev pre (x : FVec Ideal S4096x1024 .f32) (g : FVec Ideal S1x1024 .f32) (w : FVec Ideal S1024x2816 .f32) (r : Fin 4096) (j : Fin 2816) : EReal :=
  preact (fun l => x (ix2 r l)) (fun l => g (ix2 0 l)) (fun l => w (ix2 l j))
/-- The cotangents of the gated product and of its two factors' arguments. -/
abbrev ds (d : FVec Ideal S4096x1024 .f32) (w : FVec Ideal S2816x1024 .f32) (r : Fin 4096) (j : Fin 2816) : EReal :=
  ∑ l : Fin 1024, cH * d (ix2 r l) * w (ix2 j l)
def da (r : Fin 4096) (j : Fin 2816) : EReal := daR (ds x0 x5 r j) (pre x1 x2 x3 r j) (pre x1 x2 x4 r j)
def db (r : Fin 4096) (j : Fin 2816) : EReal := pre x1 x2 x3 r j * sgR (pre x1 x2 x3 r j) * ds x0 x5 r j
/-- The cotangent of the normalised input, at a row. -/
def dh (r : Fin 4096) (k : Fin 1024) : EReal :=
  (∑ l : Fin 2816, da x0 x1 x2 x3 x4 x5 r l * x3 (ix2 k l)) + ∑ l : Fin 2816, db x0 x1 x2 x3 x5 r l * x4 (ix2 k l)

theorem v12_at (r : Fin 4096) (j : Fin 1024) :
    val_main_v12 (F := Ideal) x1 (ix2 r j) = x1 (ix2 r j) * rstd cN (fun k => x1 (ix2 r k)) := by
  unfold rstd ms
  pointwise! [val_main_v12, val_main_v11, val_main_v7, val_main_v6, val_main_v4, val_main_v5, val_main_v2, val_main_v3, val_main_v1, val_main_v0, val_main_cst, val_main_cst_0, val_main_cst_1]

theorem v14_at (r : Fin 4096) (j : Fin 1024) :
    val_main_v14 (F := Ideal) x1 x2 (ix2 r j) = x1 (ix2 r j) * rstd cN (fun k => x1 (ix2 r k)) * x2 (ix2 0 j) := by
  have h := v12_at x1
  unfold val_main_v14
  generalize val_main_v12 (F := Ideal) x1 = p at *
  pointwise! [h, val_main_v13]

theorem v15_at (r : Fin 4096) (j : Fin 2816) : val_main_v15 (F := Ideal) x1 x2 x3 (ix2 r j) = pre x1 x2 x3 r j := by
  have h := v14_at x1 x2
  unfold val_main_v15 pre preact
  generalize val_main_v14 (F := Ideal) x1 x2 = p at *
  pointwise! [h]

theorem v17_at (r : Fin 4096) (j : Fin 2816) : val_main_v17 (F := Ideal) x1 x2 x4 (ix2 r j) = pre x1 x2 x4 r j := v15_at x1 x2 x4 r j

theorem v16_2_at (r : Fin 4096) (j : Fin 2816) : val_main_v16_2 (F := Ideal) x1 x2 x3 (ix2 r j) = sgR (pre x1 x2 x3 r j) := by
  rw [← v15_at]
  unfold val_main_v16_2 val_main_call0_v3 val_main_call0_v1 val_main_call0_v0 sgR
  generalize val_main_v15 (F := Ideal) x1 x2 x3 = p
  pointwise! [val_main_call0_v4, val_main_call0_cst_0, val_main_call0_v2, val_main_call0_cst]

theorem v25_at (r : Fin 4096) (j : Fin 1024) : val_main_v25 (F := Ideal) x0 (ix2 r j) = cH * x0 (ix2 r j) := by
  pointwise! [val_main_v25, val_main_v23, val_main_v24, val_main_cst_4]

theorem v28_at (r : Fin 4096) (j : Fin 2816) : val_main_v28 (F := Ideal) x0 x5 (ix2 r j) = ds x0 x5 r j := by
  have h := v25_at x0
  unfold val_main_v28 ds
  generalize val_main_v25 (F := Ideal) x0 = p at *
  pointwise! [h]

theorem v29_at (r : Fin 4096) (j : Fin 2816) : val_main_v29 (F := Ideal) x0 x1 x2 x3 x5 (ix2 r j) = db x0 x1 x2 x3 x5 r j := by
  show val_main_v15 (F := Ideal) x1 x2 x3 (ix2 r j) * val_main_v16_2 (F := Ideal) x1 x2 x3 (ix2 r j) * val_main_v28 (F := Ideal) x0 x5 (ix2 r j) = _
  rw [v15_at, v16_2_at, v28_at]
  rfl

theorem one_at (i) : val_main_call0_v6 (F := Ideal) i = c1 := by
  obtain ⟨r, j, rfl⟩ : ∃ (r : Fin 4096) (j : Fin 2816), i = ix2 r j := ⟨_, _, eq_ix2 i⟩
  pointwise! [val_main_call0_v6, val_main_call0_cst_1]

theorem v34_at (r : Fin 4096) (j : Fin 2816) : val_main_v34 (F := Ideal) x0 x1 x2 x3 x4 x5 (ix2 r j) = da x0 x1 x2 x3 x4 x5 r j := by
  show val_main_v28 (F := Ideal) x0 x5 (ix2 r j) * val_main_v17 (F := Ideal) x1 x2 x4 (ix2 r j) * val_main_v16_2 (F := Ideal) x1 x2 x3 (ix2 r j)
    + val_main_v15 (F := Ideal) x1 x2 x3 (ix2 r j) * (val_main_v28 (F := Ideal) x0 x5 (ix2 r j) * val_main_v17 (F := Ideal) x1 x2 x4 (ix2 r j))
      * (val_main_v16_2 (F := Ideal) x1 x2 x3 (ix2 r j) * (val_main_call0_v6 (F := Ideal) (ix2 r j) - val_main_v16_2 (F := Ideal) x1 x2 x3 (ix2 r j))) = _
  rw [v15_at, v17_at, v16_2_at, v28_at, one_at]
  rfl

theorem v38_at (r : Fin 4096) (j : Fin 1024) :
    val_main_v38 (F := Ideal) x0 x1 x2 x3 x4 x5 (ix2 r j) = dh x0 x1 x2 x3 x4 x5 r j := by
  have h := v29_at x0 x1 x2 x3 x5
  have h' := v34_at x0 x1 x2 x3 x4 x5
  unfold val_main_v38 val_main_v33 val_main_v37 dh
  generalize val_main_v29 (F := Ideal) x0 x1 x2 x3 x5 = p at *
  generalize val_main_v34 (F := Ideal) x0 x1 x2 x3 x4 x5 = q at *
  pointwise [h, h']
  exact add_comm _ _

theorem v43_at (r : Fin 4096) (j : Fin 1024) :
    val_main_v43 (F := Ideal) x0 x1 x2 x3 x4 x5 (ix2 r j) = dh x0 x1 x2 x3 x4 x5 r j * x2 (ix2 0 j) := by
  have h := v38_at x0 x1 x2 x3 x4 x5
  unfold val_main_v43 val_main_v42
  generalize val_main_v38 (F := Ideal) x0 x1 x2 x3 x4 x5 = p at *
  pointwise! [h]

theorem v54_at (r : Fin 4096) (j : Fin 1024) :
    val_main_v54 (F := Ideal) x0 x1 x2 x3 x4 x5 (ix2 r j)
      = dxQ cN (fun k => x1 (ix2 r k)) (dh x0 x1 x2 x3 x4 x5 r) (fun k => x2 (ix2 0 k)) := by
  have h := v43_at x0 x1 x2 x3 x4 x5
  unfold val_main_v54 val_main_v53 val_main_v52 val_main_v50 val_main_v46 val_main_v45 val_main_v44
  generalize val_main_v43 (F := Ideal) x0 x1 x2 x3 x4 x5 = p at *
  unfold dxQ rstd ms
  pointwise [h, val_main_v51, val_main_cst_6, val_main_cst_7, val_main_cst_8, val_main_cst_2, val_main_v10, val_main_v9, val_main_v8, val_main_v7, val_main_v6, val_main_v4, val_main_v5, val_main_v2, val_main_v3, val_main_v1, val_main_v0, val_main_cst, val_main_cst_0, val_main_cst_1]
  exact Fin.sum_univ_one _

theorem dx_at (r : Fin 4096) (j : Fin 1024) :
    val_main_v58 (F := Ideal) x0 x1 x2 x3 x4 x5 (ix2 r j)
      = dxR cN (fun k => x1 (ix2 r k)) (dh x0 x1 x2 x3 x4 x5 r) (fun k => x2 (ix2 0 k)) (x0 (ix2 r j)) j := by
  have h := v54_at x0 x1 x2 x3 x4 x5
  have h' := v43_at x0 x1 x2 x3 x4 x5
  unfold dxR
  rw [← h r j]
  unfold val_main_v58 val_main_v57 val_main_v56 val_main_v55 val_main_v49 val_main_v48
  generalize val_main_v54 (F := Ideal) x0 x1 x2 x3 x4 x5 = q at *
  generalize val_main_v43 (F := Ideal) x0 x1 x2 x3 x4 x5 = p at *
  unfold rstd ms
  pointwise! [h', val_main_v47, val_main_v7, val_main_v6, val_main_v4, val_main_v5, val_main_v2, val_main_v3, val_main_v1, val_main_v0, val_main_cst, val_main_cst_0, val_main_cst_1]

theorem gain_at (a : Fin 1) (j : Fin 1024) :
    val_main_v41 (F := Ideal) x0 x1 x2 x3 x4 x5 (ix2 a j)
      = ∑ r : Fin 4096, dh x0 x1 x2 x3 x4 x5 r j * (x1 (ix2 r j) * rstd cN (fun k => x1 (ix2 r k))) := by
  have h := v12_at x1
  have h' := v38_at x0 x1 x2 x3 x4 x5
  unfold val_main_v41 val_main_v40 val_main_v39
  generalize val_main_v12 (F := Ideal) x1 = q at *
  generalize val_main_v38 (F := Ideal) x0 x1 x2 x3 x4 x5 = p at *
  pointwise [h, h', val_main_cst_5]
  exact Finset.sum_congr rfl fun _ _ => mul_comm _ _

theorem v70_at (r : Fin 4096) (j : Fin 1024) :
    val_main_v70 (F := Ideal) x1 x2 (ix2 r j) = x1 (ix2 r j) * rstd cN (fun k => x1 (ix2 r k)) * x2 (ix2 0 j) := by
  unfold rstd ms
  pointwise! [val_main_v70, val_main_v69, val_main_v68, val_main_v67, val_main_v66, val_main_v65, val_main_v63, val_main_v64, val_main_v61, val_main_v62, val_main_v60, val_main_v59, val_main_cst_9, val_main_cst_10, val_main_cst_11]

theorem v71_at (r : Fin 4096) (j : Fin 2816) : val_main_v71 (F := Ideal) x1 x2 x3 (ix2 r j) = pre x1 x2 x3 r j := by
  have h := v70_at x1 x2
  unfold val_main_v71 pre preact
  generalize val_main_v70 (F := Ideal) x1 x2 = p at *
  pointwise! [h]

theorem v72_at (r : Fin 4096) (j : Fin 2816) : val_main_v72 (F := Ideal) x1 x2 x4 (ix2 r j) = pre x1 x2 x4 r j := v71_at x1 x2 x4 r j

theorem v73_2_at (r : Fin 4096) (j : Fin 2816) : val_main_v73_2 (F := Ideal) x1 x2 x3 (ix2 r j) = sgR (pre x1 x2 x3 r j) := by
  rw [← v71_at]
  unfold val_main_v73_2 val_main_call2_v3 val_main_call2_v1 val_main_call2_v0 sgR
  generalize val_main_v71 (F := Ideal) x1 x2 x3 = p
  pointwise! [val_main_call2_v4, val_main_call2_cst_0, val_main_call2_v2, val_main_call2_cst]

theorem v82_at (r : Fin 4096) (j : Fin 2816) : val_main_v82 (F := Ideal) x0 x5 (ix2 r j) = ds x0 x5 r j := by
  pointwise! [val_main_v82, val_main_v79, val_main_v78, val_main_cst_13]

theorem one_at' (i) : val_main_call2_v6 (F := Ideal) i = c1 := by
  obtain ⟨r, j, rfl⟩ : ∃ (r : Fin 4096) (j : Fin 2816), i = ix2 r j := ⟨_, _, eq_ix2 i⟩
  pointwise! [val_main_call2_v6, val_main_call2_cst_1]

theorem da_at (r : Fin 4096) (j : Fin 2816) : val_main_v86 (F := Ideal) x0 x1 x2 x3 x4 x5 (ix2 r j) = da x0 x1 x2 x3 x4 x5 r j := by
  show val_main_v82 (F := Ideal) x0 x5 (ix2 r j) * val_main_v72 (F := Ideal) x1 x2 x4 (ix2 r j) * val_main_v73_2 (F := Ideal) x1 x2 x3 (ix2 r j)
    + val_main_v71 (F := Ideal) x1 x2 x3 (ix2 r j) * (val_main_v82 (F := Ideal) x0 x5 (ix2 r j) * val_main_v72 (F := Ideal) x1 x2 x4 (ix2 r j))
      * (val_main_v73_2 (F := Ideal) x1 x2 x3 (ix2 r j) * (val_main_call2_v6 (F := Ideal) (ix2 r j) - val_main_v73_2 (F := Ideal) x1 x2 x3 (ix2 r j))) = _
  rw [v71_at, v72_at, v73_2_at, v82_at, one_at']
  rfl

theorem db_at (r : Fin 4096) (j : Fin 2816) : val_main_v87 (F := Ideal) x0 x1 x2 x3 x5 (ix2 r j) = db x0 x1 x2 x3 x5 r j := by
  show val_main_v71 (F := Ideal) x1 x2 x3 (ix2 r j) * val_main_v73_2 (F := Ideal) x1 x2 x3 (ix2 r j) * val_main_v82 (F := Ideal) x0 x5 (ix2 r j) = _
  rw [v71_at, v73_2_at, v82_at]
  rfl

theorem half_at (r : Fin 4096) (j : Fin 1024) : val_main_v90 (F := Ideal) x0 (ix2 r j) = cH * x0 (ix2 r j) := by
  pointwise! [val_main_v90, val_main_v89, val_main_v88, val_main_cst_14]

end Cert.FfnBwdRefIdeal.Spec

end
-- ==== Proof.FfnBwd.Claim.lean ====
/- The claims about the second FFN's backward call. -/
module

public import proofs.«01_k».proof.Defs
public import proofs.«01_k».proof.Proof.FfnBwd.Value
public import proofs.«01_k».proof.Proof.FfnBwd.Ref
public import proofs.«01_k».proof.Proof.Gen.FfnBwd
public import proofs.«01_k».proof.Proof.Gen.FfnBwdRefIdeal.Run
public import proofs.«01_k».proof.Proof.Gen.Pre_finite_ffn_act

@[expose] public section

set_option maxRecDepth 16384

noncomputable section

namespace Cert.FfnBwdClaim

open Idealize.ShloMosaic Idealize.ShloMosaic.TcCoe Idealize.SL.Sem
open Cert.Shared

section Finite
open Cert.Pre_finite_ffn_act

/-- The precondition, as: every element of the arrays is a real number. -/
theorem finite (a0 a1 : FVec Ideal S4096x1024 .f32) (a2 : FVec Ideal S1x1024 .f32) (a3 a4 : FVec Ideal S1024x2816 .f32) (a5 : FVec Ideal S2816x1024 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) := by
  have e := congrFun h (fun a => a.elim0)
  unfold fn fn_part1 at e
  obtain ⟨e, e5⟩ := and_eq_one _ _ e
  obtain ⟨e, e4⟩ := and_eq_one _ _ e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i),
    fun i => real_of_cmp _ (all_of_reduce _ _ _ _ _ e2 i), fun i => real_of_cmp _ (all_of_reduce _ _ _ _ _ e3 i),
    fun i => real_of_cmp _ (all_of_reduce _ _ _ _ _ e4 i), fun i => real_of_cmp _ (all_of_reduce _ _ _ _ _ e5 i)⟩

end Finite

section Kernel
open Cert.FfnBwdIdeal Cert.FfnBwdIdeal.Gen Cert.FfnBwdIdeal.Fin
variable (m : (ℓ : Loc nD τ sig) → Buf (Elt Ideal) ℓ) (c : Dev nD)

/-- The arguments' contents, at their shapes. -/
abbrev b0 : FVec Ideal S4096x1024 .f32 := m ((c : Thread nD τ).loc main_arg0)
abbrev b1 : FVec Ideal S4096x1024 .f32 := m ((c : Thread nD τ).loc main_arg1)
abbrev b2 : FVec Ideal S1x1024 .f32 := m ((c : Thread nD τ).loc main_arg2)
abbrev b3 : FVec Ideal S1024x2816 .f32 := m ((c : Thread nD τ).loc main_arg3)
abbrev b4 : FVec Ideal S1024x2816 .f32 := m ((c : Thread nD τ).loc main_arg4)
abbrev b5 : FVec Ideal S2816x1024 .f32 := m ((c : Thread nD τ).loc main_arg5)

theorem wd_eq : aWd m c = b5 m c := by rfl
theorem d_eq : aD m c = b0 m c := by rfl
theorem x_eq : aX m c = b1 m c := by rfl
theorem g_eq : aG m c = b2 m c := by rfl

theorem wg_eq (l : Fin 2816) (k : Fin 1024) : aWg m c (ix2 l k) = b3 m c (ix2 k l) := by
  have : aWg m c = transpose S2816x1024 [1, 0] (b3 m c) transposes_S1024x2816_S2816x1024_1_0 := by rfl
  rw [this]
  pointwise

theorem wu_eq (l : Fin 2816) (k : Fin 1024) : aWu m c (ix2 l k) = b4 m c (ix2 k l) := by
  have : aWu m c = transpose S2816x1024 [1, 0] (b4 m c) transposes_S1024x2816_S2816x1024_1_0 := by rfl
  rw [this]
  pointwise

/-- The normalised rows, as the kernel's host lines compute them. -/
abbrev hn : FVec Ideal S4096x1024 .bf16 := Cert.FfnBwdRefIdeal.Read.val_main_v70 (F := Ideal) (b1 m c) (b2 m c)

theorem a_eq (r : Fin 4096) (j : Fin 2816) : aA m c (ix2 r j) = Cert.FfnBwdRefIdeal.Spec.pre (b1 m c) (b2 m c) (b3 m c) r j := by
  have : aA m c = (Host.dotGeneral dot_S4096x1024_S2816x1024_S4096x2816_1_1_0_0_n_n none (hn m c)
    (transpose S2816x1024 [1, 0] (b3 m c) transposes_S1024x2816_S2816x1024_1_0 : FVec Ideal S2816x1024 .bf16) : FVec Ideal S4096x2816 .f32) := by rfl
  rw [this]
  have h := Cert.FfnBwdRefIdeal.Spec.v70_at (b1 m c) (b2 m c)
  unfold hn Cert.FfnBwdRefIdeal.Spec.pre preact
  generalize Cert.FfnBwdRefIdeal.Read.val_main_v70 (F := Ideal) (b1 m c) (b2 m c) = p at *
  pointwise! [h]

theorem b_eq (r : Fin 4096) (j : Fin 2816) : aB m c (ix2 r j) = Cert.FfnBwdRefIdeal.Spec.pre (b1 m c) (b2 m c) (b4 m c) r j := by
  have : aB m c = (Host.dotGeneral dot_S4096x1024_S2816x1024_S4096x2816_1_1_0_0_n_n none (hn m c)
    (transpose S2816x1024 [1, 0] (b4 m c) transposes_S1024x2816_S2816x1024_1_0 : FVec Ideal S2816x1024 .bf16) : FVec Ideal S4096x2816 .f32) := by rfl
  rw [this]
  have h := Cert.FfnBwdRefIdeal.Spec.v70_at (b1 m c) (b2 m c)
  unfold hn Cert.FfnBwdRefIdeal.Spec.pre preact
  generalize Cert.FfnBwdRefIdeal.Read.val_main_v70 (F := Ideal) (b1 m c) (b2 m c) = p at *
  pointwise! [h]

theorem ds_eq (r : Fin 4096) (j : Fin 2816) : ds m c r j = Cert.FfnBwdRefIdeal.Spec.ds (b0 m c) (b5 m c) r j := by
  unfold ds
  rw [d_eq, wd_eq]

end Kernel

/-- The gate's cotangent is a real number at real arguments. -/
theorem daR_real {s a b : EReal} (hs : ∃ r : ℝ, s = (r : EReal)) (ha : ∃ r : ℝ, a = (r : EReal)) (hb : ∃ r : ℝ, b = (r : EReal)) :
    ∃ r : ℝ, daR s a b = (r : EReal) := by
  have hp := sgR_real ha
  have hq : ∃ r : ℝ, c1 - sgR a = (r : EReal) := by
    obtain ⟨p, hp⟩ := hp
    exact ⟨1 - p, by rw [hp, c1_eq]; exact (EReal.coe_sub 1 p).symm⟩
  exact add_real (mul_real (mul_real hs hb) hp) (mul_real (mul_real ha (mul_real hs hb)) (mul_real hp hq))

theorem algebraic : Cert.algebraic_FfnBwdIdeal_FfnBwdRefIdeal_pre_finite_ffn_act := by
  intro m g m' g' hpre hag
  have real : ∀ c, (∀ r j, ∃ s : ℝ, Cert.FfnBwdRefIdeal.Spec.ds (b0 m c) (b5 m c) r j = (s : EReal))
      ∧ (∀ r j, ∃ s : ℝ, Cert.FfnBwdRefIdeal.Spec.pre (b1 m c) (b2 m c) (b3 m c) r j = (s : EReal))
      ∧ (∀ r j, ∃ s : ℝ, Cert.FfnBwdRefIdeal.Spec.pre (b1 m c) (b2 m c) (b4 m c) r j = (s : EReal)) := by
    intro c
    obtain ⟨h0, h1, h2, h3, h4, h5⟩ := finite _ _ _ _ _ _ (hpre c)
    exact ⟨fun r j => sum_real _ fun l => mul_real (mul_real ⟨_, cH_eq⟩ (h0 _)) (h5 _),
      fun r j => preact_real _ _ _ (fun k => h1 _) (fun k => h2 _) (fun k => h3 _),
      fun r j => preact_real _ _ _ (fun k => h1 _) (fun k => h2 _) (fun k => h4 _)⟩
  have hda : ∀ c r j, Cert.FfnBwdIdeal.Fin.da m c r j = Cert.FfnBwdRefIdeal.Spec.da (b0 m c) (b1 m c) (b2 m c) (b3 m c) (b4 m c) (b5 m c) r j := by
    intro c r j
    obtain ⟨hs, ha, hb⟩ := real c
    unfold Cert.FfnBwdRefIdeal.Spec.da Cert.FfnBwdIdeal.Fin.da
    rw [← da_eq (hs r j) (ha r j) (hb r j), ds_eq, a_eq, b_eq]
  have hdb : ∀ c r j, Cert.FfnBwdIdeal.Fin.db m c r j = Cert.FfnBwdRefIdeal.Spec.db (b0 m c) (b1 m c) (b2 m c) (b3 m c) (b5 m c) r j := by
    intro c r j
    obtain ⟨hs, ha, hb⟩ := real c
    unfold Cert.FfnBwdRefIdeal.Spec.db Cert.FfnBwdIdeal.Fin.db
    rw [← sgK_eq (ha r j), ds_eq, a_eq, mul_comm]
  have hdh : ∀ c r k, Cert.FfnBwdIdeal.Fin.dh m c r k = Cert.FfnBwdRefIdeal.Spec.dh (b0 m c) (b1 m c) (b2 m c) (b3 m c) (b4 m c) (b5 m c) r k := by
    intro c r k
    refine congrArg₂ (· + ·) (Finset.sum_congr rfl fun l _ => ?_) (Finset.sum_congr rfl fun l _ => ?_)
    · rw [wg_eq, hda]
    · rw [wu_eq, hdb]
  have hdx : ∀ c i, Cert.FfnBwdIdeal.Fin.G10 m c i = Cert.FfnBwdRefIdeal.Read.val_main_v58 (F := Ideal) (b0 m c) (b1 m c) (b2 m c) (b3 m c) (b4 m c) (b5 m c) i := by
    intro c i
    obtain ⟨h0, h1, h2, h3, h4, h5⟩ := finite _ _ _ _ _ _ (hpre c)
    obtain ⟨hs, ha, hb⟩ := real c
    idx_vars i
    rw [Cert.FfnBwdRefIdeal.Spec.dx_at, ← funext (hdh c i0)]
    refine dx_eq_1024 _ _ _ (fun k => h1 _) (fun k => ?_) (fun k => h2 _) _ _
    show ∃ r : ℝ, Cert.FfnBwdIdeal.Fin.dh m c i0 k = (r : EReal)
    rw [hdh]
    exact add_real (sum_real _ fun l => mul_real (daR_real (hs _ _) (ha _ _) (hb _ _)) (h3 _))
      (sum_real _ fun l => mul_real (mul_real (mul_real (ha _ _) (sgR_real (ha _ _))) (hs _ _)) (h4 _))
  refine ⟨fun c => Cert.FfnBwdIdeal.Fin.G10 m c, fun c => Cert.FfnBwdIdeal.Fin.G11 m c, fun c => Cert.FfnBwdIdeal.Fin.G12 m c,
    fun c => Cert.FfnBwdIdeal.Fin.G13 m c, fun c => Cert.FfnBwdIdeal.Fin.G14 m c,
    (θ_run _ _ _).mono (fun r h c => ?_) (θ_run_and (Cert.FfnBwdIdeal.Body.run_all m g) (Cert.FfnBwdIdeal.Body.frame_all m g)),
    (θ_run _ _ _).mono (fun r h c => ?_) (Cert.FfnBwdRefIdeal.Value.run m' g')⟩
  · obtain ⟨⟨hp, -⟩, hf, -⟩ := h
    exact ⟨((hp c).1 10).trans (Cert.FfnBwdIdeal.Fin.final10 m c), ((hp c).1 11).trans (Cert.FfnBwdIdeal.Fin.final11 m c),
      ((hp c).1 12).trans (Cert.FfnBwdIdeal.Fin.final12 m c), ((hp c).1 13).trans (Cert.FfnBwdIdeal.Fin.final13 m c),
      ((hp c).1 14).trans (Cert.FfnBwdIdeal.Fin.final14 m c), hf c⟩
  · obtain ⟨e0, e1, e2, e3, e4, e⟩ := h c
    obtain ⟨a0, a1, a2, a3, a4, a5⟩ := hag c
    refine ⟨e0.trans ?_, e1.trans ?_, e2.trans ?_, e3.trans ?_, e4.trans ?_, e⟩
    · refine (Cert.FfnBwdRefIdeal.Read.val_main_v58_eq _ _).trans ?_
      rw [a0, a1, a2, a3, a4, a5]
      exact funext fun i => (hdx c i).symm
    · refine (Cert.FfnBwdRefIdeal.Read.val_main_v41_eq _ _).trans ?_
      rw [a0, a1, a2, a3, a4, a5]
      funext i
      idx_vars i
      refine (Cert.FfnBwdRefIdeal.Spec.gain_at _ _ _ _ _ _ _ _).trans ?_
      exact Finset.sum_congr rfl fun r _ => by rw [← hdh c r i1]; rfl
    · refine (Cert.FfnBwdRefIdeal.Read.val_main_v86_eq _ _).trans ?_
      rw [a0, a1, a2, a3, a4, a5]
      funext i
      idx_vars i
      exact (Cert.FfnBwdRefIdeal.Spec.da_at _ _ _ _ _ _ _ _).trans (hda c i0 i1).symm
    · refine (Cert.FfnBwdRefIdeal.Read.val_main_v87_eq _ _ _ _ _).trans ?_
      rw [a0, a1, a2, a3, a5]
      funext i
      idx_vars i
      exact (Cert.FfnBwdRefIdeal.Spec.db_at _ _ _ _ _ _ _).trans (hdb c i0 i1).symm
    · refine (Cert.FfnBwdRefIdeal.Read.val_main_v90_eq _).trans ?_
      rw [a0]
      funext i
      idx_vars i
      exact Cert.FfnBwdRefIdeal.Spec.half_at _ _ _

section Frames
open Cert.FfnBwdIdeal Cert.FfnBwdIdeal.Gen Cert.FfnBwdIdeal.Body

/-- The frame at the bit-exact floats, of the text both programs share. -/
def FrameBits : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem frame_bits : FrameBits := fun m ρ _ => frame_all (F := Bits) m ρ

end Frames

theorem frame_same : Cert.quiescent_FfnBwd = FrameBits := by sl_kernel_rfl

theorem frame_kernel : Cert.quiescent_FfnBwd := frame_same.mpr frame_bits

theorem frame_ideal : Cert.quiescent_FfnBwdIdeal := fun m ρ _ => Cert.FfnBwdIdeal.Body.frame_all (F := Ideal) m ρ

theorem frame_ref : Cert.quiescent_FfnBwdRefIdeal := fun m g _ =>
  (θ_run _ _ _).mono (fun r h => ⟨fun c => (h c).2.2.2.2.2, sem_eq_zero_of_no_sems (by decide) r.2⟩) (Cert.FfnBwdRefIdeal.Value.run m g)

end Cert.FfnBwdClaim

end
-- ==== Proof.Shared.Loss.lean ====
/- The loss of a row: half the mean square of the normalised row's error, and its gradient's factor. -/
module

public import proofs.«01_k».proof.Proof.Shared.Gate

@[expose] public section

set_option maxRecDepth 16384

noncomputable section

namespace Cert.Shared

open Idealize.ShloMosaic

/-- Two, and the reciprocal of a row's length. -/
abbrev c2 : EReal := Ideal.ofBits .f32 0x40000000#32
abbrev cNi : EReal := Ideal.ofBits .f32 0x3A800000#32
theorem c2_eq : c2 = ((2 : ℝ) : EReal) := by simp [Ideal.ofBits, Ideal.ieee, -EReal.coe_mul]; norm_num
theorem cNi_eq : cNi = ((1 / 1024 : ℝ) : EReal) := by simp [Ideal.ofBits, Ideal.ieee, -EReal.coe_mul]; norm_num

variable {n : ℕ}

/-- The error of the normalised row, its mean square, and the loss's gradient at it. -/
def err (x g t : Fin n → EReal) (k : Fin n) : EReal := x k * rstd cN x * g k - t k
def meanSq (x g t : Fin n → EReal) : EReal := Ideal.div (∑ k, err x g t k * err x g t k) cN
def dy (x g t : Fin n → EReal) (k : Fin n) : EReal := err x g t k * cNi

/-- The factor differentiation gives: half of two over the length. -/
theorem dy_eq (e : EReal) : Ideal.div (cH * c1) cN * (c2 * e) = e * cNi := by
  rw [cN_eq, Ideal.div_coe (by norm_num), cH_eq, c1_eq, c2_eq, cNi_eq, ← EReal.coe_mul, ← EReal.coe_mul, ← mul_assoc, ← EReal.coe_mul, mul_comm]
  norm_num

theorem rstd_real_row (x : Fin n → EReal) (hx : ∀ k, ∃ r : ℝ, x k = r) : ∃ r : ℝ, rstd cN x = (r : EReal) := by
  obtain ⟨x, rfl⟩ := real_array x hx
  rw [cN_eq]
  exact rstd_real 1024 (by norm_num) x

theorem err_real (x g t : Fin n → EReal) (hx : ∀ k, ∃ r : ℝ, x k = r) (hg : ∀ k, ∃ r : ℝ, g k = r) (ht : ∀ k, ∃ r : ℝ, t k = r) (k : Fin n) :
    ∃ r : ℝ, err x g t k = (r : EReal) := by
  obtain ⟨a, ha⟩ := mul_real (mul_real (hx k) (rstd_real_row x hx)) (hg k)
  obtain ⟨b, hb⟩ := ht k
  exact ⟨a - b, by unfold err; rw [ha, hb]; exact (EReal.coe_sub a b).symm⟩

theorem dy_real (x g t : Fin n → EReal) (hx : ∀ k, ∃ r : ℝ, x k = r) (hg : ∀ k, ∃ r : ℝ, g k = r) (ht : ∀ k, ∃ r : ℝ, t k = r) (k : Fin n) :
    ∃ r : ℝ, dy x g t k = (r : EReal) := mul_real (err_real x g t hx hg ht k) ⟨_, cNi_eq⟩

theorem meanSq_real (x g t : Fin n → EReal) (hx : ∀ k, ∃ r : ℝ, x k = r) (hg : ∀ k, ∃ r : ℝ, g k = r) (ht : ∀ k, ∃ r : ℝ, t k = r) :
    ∃ r : ℝ, meanSq x g t = (r : EReal) := by
  have e (k : Fin n) := err_real x g t hx hg ht k
  unfold meanSq
  rw [cN_eq, Ideal.div_coe (by norm_num)]
  exact mul_real (sum_real _ fun k => mul_real (e k) (e k)) ⟨_, rfl⟩

/-- Half a sum of real numbers. -/
theorem half_sum (f : Fin n → EReal) (hf : ∀ k, ∃ r : ℝ, f k = r) : cH * ∑ k, f k = ∑ k, cH * f k := by
  obtain ⟨f, rfl⟩ := real_array f hf
  rw [cH_eq]
  simp only [sum_coe, ← EReal.coe_mul, Finset.mul_sum]

end Cert.Shared

end
-- ==== Proof.FfnHead.Body.lean ====
module

public import proofs.«01_k».proof.Proof.Gen.FfnHeadIdeal.Frame
public import proofs.«01_k».proof.Proof.Gen.FfnHeadIdeal.Skeleton
public import Idealize.ShloMosaic.Lib.VecWindow
public import Idealize.ShloMosaic.Lib.Tactic

/-! # The second FFN's forward kernel with the loss: its body, run once

A row block of 1024 rows meets the eleven column blocks of the hidden layer one after the other. The first column block normalises the rows and
clears what is carried. Every column block adds the product left by the one before and leaves its own gated tile. The last also adds its own
product and finishes the loss and its gradients. -/

@[expose] public section

set_option maxRecDepth 16384

noncomputable section

namespace Cert.FfnHeadIdeal.Body

open Cert.FfnHeadIdeal Cert.FfnHeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What is carried between column blocks: the down projection so far and the gated tile the block before left. -/
structure St (F : FTy → Type) where
  h : Vec F S1024x1024 .f32
  a : Vec F S1024x256 .bf16

/-- A row block's start. -/
def clear : St F := ⟨k0_pay17, k0_pay18⟩

/-- The gated tile of a column block, from the normalised rows and the two weights' blocks. -/
def sOf (h : Vec F S1024x1024 .bf16) (x2 x3 : Vec F S256x1024 .bf16) : Vec F S1024x256 .bf16 :=
  k0_pay1 (k0_pay21 h x2) (k0_pay22 h x3) (k0_pay25 h x2)

/-- What a column block leaves. -/
def next (s : St F) (h : Vec F S1024x1024 .bf16) (x2 x3 x4 : Vec F S256x1024 .bf16) : St F :=
  ⟨k0_pay19 s.h s.a x4, k0_pay2 (k0_pay21 h x2) (k0_pay22 h x3) (k0_pay25 h x2)⟩

/-- The gradient of the FFN's output, finished by the last column block. -/
def dxOf (t : Vec F S1024x256 .bf16) (x0 a : Vec F S1024x1024 .f32) (x5 : Vec F S256x1024 .bf16) (x6 : Vec F S1x1024 .f32) (x7 : Vec F S1024x1024 .f32) : Vec F S1024x1024 .f32 :=
  k0_pay3 (k0_pay9 t x0 a x5) (k0_pay10 t x0 a x5) (k0_pay14 t x0 a x5 x6 x7) (k0_pay15 t x0 a x5 x6 x7)

/-- Loads and stores of the whole of an array, at the shapes of this kernel. -/
theorem load_rows {e : EltTy} (v : Memref sig .tc .vmem S1024x1024 e) (f : v.view.ty.Contents (Elt F)) (inb : ∀ a, (![0, 0] : Fin 2 → ℕ) a + (![1024, 1024] : Fin 2 → ℕ) a ≤ S1024x1024.size a) :
    v.view.readAt (Elt F) (Rect.unit (s := S1024x1024) ![0, 0] ![1024, 1024] inb).toLoadRect f = v.view.read (Elt F) f := View.readAt_full v.view f inb
theorem reload_rows {e : EltTy} (v : Memref sig .tc .vmem S1024x1024 e) (f : v.view.ty.Contents (Elt F)) (inb inb' : ∀ a, (![0, 0] : Fin 2 → ℕ) a + (![1024, 1024] : Fin 2 → ℕ) a ≤ S1024x1024.size a)
    (w : Vec F S1024x1024 e) (L : List (View.Piece (Elt F) S1024x1024 e)) :
    v.view.readAt (Elt F) (Rect.unit (s := S1024x1024) ![0, 0] ![1024, 1024] inb).toLoadRect (v.view.writes (Elt F) f (⟨Rect.unit (s := S1024x1024) ![0, 0] ![1024, 1024] inb', w⟩ :: L)) = w :=
  (View.readAt_full v.view _ inb).trans (View.read_writes_full v.view f inb' w L)
theorem load_gain {e : EltTy} (v : Memref sig .tc .vmem S1x1024 e) (f : v.view.ty.Contents (Elt F)) (inb : ∀ a, (![0, 0] : Fin 2 → ℕ) a + (![1, 1024] : Fin 2 → ℕ) a ≤ S1x1024.size a) :
    v.view.readAt (Elt F) (Rect.unit (s := S1x1024) ![0, 0] ![1, 1024] inb).toLoadRect f = v.view.read (Elt F) f := View.readAt_full v.view f inb
theorem reload_gain {e : EltTy} (v : Memref sig .tc .vmem S1x1024 e) (f : v.view.ty.Contents (Elt F)) (inb inb' : ∀ a, (![0, 0] : Fin 2 → ℕ) a + (![1, 1024] : Fin 2 → ℕ) a ≤ S1x1024.size a)
    (w : Vec F S1x1024 e) (L : List (View.Piece (Elt F) S1x1024 e)) :
    v.view.readAt (Elt F) (Rect.unit (s := S1x1024) ![0, 0] ![1, 1024] inb).toLoadRect (v.view.writes (Elt F) f (⟨Rect.unit (s := S1x1024) ![0, 0] ![1, 1024] inb', w⟩ :: L)) = w :=
  (View.readAt_full v.view _ inb).trans (View.read_writes_full v.view f inb' w L)
theorem load_tile {e : EltTy} (v : Memref sig .tc .vmem S1024x256 e) (f : v.view.ty.Contents (Elt F)) (inb : ∀ a, (![0, 0] : Fin 2 → ℕ) a + (![1024, 256] : Fin 2 → ℕ) a ≤ S1024x256.size a) :
    v.view.readAt (Elt F) (Rect.unit (s := S1024x256) ![0, 0] ![1024, 256] inb).toLoadRect f = v.view.read (Elt F) f := View.readAt_full v.view f inb
theorem reload_tile {e : EltTy} (v : Memref sig .tc .vmem S1024x256 e) (f : v.view.ty.Contents (Elt F)) (inb inb' : ∀ a, (![0, 0] : Fin 2 → ℕ) a + (![1024, 256] : Fin 2 → ℕ) a ≤ S1024x256.size a)
    (w : Vec F S1024x256 e) (L : List (View.Piece (Elt F) S1024x256 e)) :
    v.view.readAt (Elt F) (Rect.unit (s := S1024x256) ![0, 0] ![1024, 256] inb).toLoadRect (v.view.writes (Elt F) f (⟨Rect.unit (s := S1024x256) ![0, 0] ![1024, 256] inb', w⟩ :: L)) = w :=
  (View.readAt_full v.view _ inb).trans (View.read_writes_full v.view f inb' w L)
theorem load_block {e : EltTy} (v : Memref sig .tc .vmem S256x1024 e) (f : v.view.ty.Contents (Elt F)) (inb : ∀ a, (![0, 0] : Fin 2 → ℕ) a + (![256, 1024] : Fin 2 → ℕ) a ≤ S256x1024.size a) :
    v.view.readAt (Elt F) (Rect.unit (s := S256x1024) ![0, 0] ![256, 1024] inb).toLoadRect f = v.view.read (Elt F) f := View.readAt_full v.view f inb
theorem reload_block {e : EltTy} (v : Memref sig .tc .vmem S256x1024 e) (f : v.view.ty.Contents (Elt F)) (inb inb' : ∀ a, (![0, 0] : Fin 2 → ℕ) a + (![256, 1024] : Fin 2 → ℕ) a ≤ S256x1024.size a)
    (w : Vec F S256x1024 e) (L : List (View.Piece (Elt F) S256x1024 e)) :
    v.view.readAt (Elt F) (Rect.unit (s := S256x1024) ![0, 0] ![256, 1024] inb).toLoadRect (v.view.writes (Elt F) f (⟨Rect.unit (s := S256x1024) ![0, 0] ![256, 1024] inb', w⟩ :: L)) = w :=
  (View.readAt_full v.view _ inb).trans (View.read_writes_full v.view f inb' w L)

theorem covered_rows {e : EltTy} (v : Memref sig .tc .vmem S1024x1024 e) (inb inb' : ∀ a, (![0, 0] : Fin 2 → ℕ) a + (![1024, 1024] : Fin 2 → ℕ) a ≤ S1024x1024.size a)
    (w : Vec F S1024x1024 e) (L : List (View.Piece (Elt F) S1024x1024 e)) :
    v.view.readCov (⟨Rect.unit (s := S1024x1024) ![0, 0] ![1024, 1024] inb', w⟩ :: L) (Rect.unit (s := S1024x1024) ![0, 0] ![1024, 1024] inb).toLoadRect = w :=
  View.readCov_full v.view inb inb' w L
theorem covered_tile {e : EltTy} (v : Memref sig .tc .vmem S1024x256 e) (inb inb' : ∀ a, (![0, 0] : Fin 2 → ℕ) a + (![1024, 256] : Fin 2 → ℕ) a ≤ S1024x256.size a)
    (w : Vec F S1024x256 e) (L : List (View.Piece (Elt F) S1024x256 e)) :
    v.view.readCov (⟨Rect.unit (s := S1024x256) ![0, 0] ![1024, 256] inb', w⟩ :: L) (Rect.unit (s := S1024x256) ![0, 0] ![1024, 256] inb).toLoadRect = w :=
  View.readCov_full v.view inb inb' w L
section Run

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S256x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S256x1024 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x1024 .bf16) (harg13 : arg13.IsWhole) (arg14 : Memref sig .tc .vmem S1024x256 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x1024 .f32) (harg17 : arg17.IsWhole) (arg18 : Memref sig .tc .vmem S1024x256 .bf16) (harg18 : arg18.IsWhole)
variable (x0 : Vec F S1024x1024 .f32) (x1 : Vec F S1x1024 .f32) (x2 : Vec F S256x1024 .bf16) (x3 : Vec F S256x1024 .bf16) (x4 : Vec F S256x1024 .bf16) (x5 : Vec F S256x1024 .bf16) (x6 : Vec F S1x1024 .f32) (x7 : Vec F S1024x1024 .f32) (s : St F)

set_option maxHeartbeats 8000000 in
/-- A row block's first column block. -/
theorem body_first (h1 : k0_cond1 i = 1#1) (h2 : ¬ k0_cond2 i = 1#1) (y11 : Vec F S1024x256 .bf16) (y12 : Vec F S1024x256 .bf16) (y13 : Vec F S1024x1024 .bf16) (y14 : Vec F S1024x256 .bf16) (y17 : Vec F S1024x1024 .f32) (y18 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg17 fullShare y17 ∗ owns (c : Thread nD τ) arg18 fullShare y18) : sProp 𝕄)
      ⊢ wp frame (wpE (defs₀ (F := F)) Variants.none (c : Thread nD τ) none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (k0_pay23 (k0_pay16 x0 x1) x2) ∗ owns (c : Thread nD τ) arg12 fullShare (k0_pay24 (k0_pay16 x0 x1) x3) ∗ owns (c : Thread nD τ) arg13 fullShare (k0_pay16 x0 x1) ∗ owns (c : Thread nD τ) arg14 fullShare (sOf (k0_pay16 x0 x1) x2 x3) ∗ owns (c : Thread nD τ) arg17 fullShare (next (clear) (k0_pay16 x0 x1) x2 x3 x4).h ∗ owns (c : Thread nD τ) arg18 fullShare (next (clear) (k0_pay16 x0 x1) x2 x3 x4).a)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f11, %h11, H11⟩, ⟨%f12, %h12, H12⟩, ⟨%f13, %h13, H13⟩, ⟨%f14, %h14, H14⟩, ⟨%f17, %h17, H17⟩, ⟨%f18, %h18, H18⟩⟩
  simp only [cc0_ffn2_fwd_eq_skeleton]; unfold cc0_ffn2_fwd_skel
  simp only [k0_part2_eq_skeleton, k0_part1_eq_skeleton]
  sl_exec (disch := first | sl_exact h1 | sl_exact h2)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H11]; iexists _; isplitr; rotate_left; iexact H11
  isplitl [H12]; iexists _; isplitr; rotate_left; iexact H12
  isplitl [H13]; iexists _; isplitr; rotate_left; iexact H13
  isplitl [H14]; iexists _; isplitr; rotate_left; iexact H14
  isplitl [H17]; iexists _; isplitr; rotate_left; iexact H17
  iexists _; isplitr; rotate_left; iexact H18
  all_goals
    ipureintro
    refine (View.read_writes_full _ _ _ _ _).trans ?_
    repeat (first | delta body_first.sl.r | delta body_first.sl.r_1 | delta body_first.sl.r_2 | delta body_first.sl.r_3 | delta body_first.sl.r_4 | delta body_first.sl.v3 | delta body_first.sl.v4 | delta body_first.sl.v12 | delta body_first.sl.H13_1 | delta body_first.sl.H17_1 | delta body_first.sl.H18_1)
    try simp only [covered_rows, covered_tile, load_rows, load_gain, load_tile, load_block, reload_rows, reload_gain, reload_tile, reload_block, h2, h3, h4, h5, h6, h7, h8, h9, h11, h12, h13, h14, h17, h18]
    try rfl

set_option maxHeartbeats 8000000 in
/-- A column block between. -/
theorem body_mid (h1 : ¬ k0_cond1 i = 1#1) (h2 : ¬ k0_cond2 i = 1#1) (y11 : Vec F S1024x256 .bf16) (y12 : Vec F S1024x256 .bf16) (y13 : Vec F S1024x1024 .bf16) (y14 : Vec F S1024x256 .bf16) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg17 fullShare s.h ∗ owns (c : Thread nD τ) arg18 fullShare s.a) : sProp 𝕄)
      ⊢ wp frame (wpE (defs₀ (F := F)) Variants.none (c : Thread nD τ) none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg11 fullShare (k0_pay23 y13 x2) ∗ owns (c : Thread nD τ) arg12 fullShare (k0_pay24 y13 x3) ∗ owns (c : Thread nD τ) arg13 fullShare y13 ∗ owns (c : Thread nD τ) arg14 fullShare (sOf y13 x2 x3) ∗ owns (c : Thread nD τ) arg17 fullShare (next s y13 x2 x3 x4).h ∗ owns (c : Thread nD τ) arg18 fullShare (next s y13 x2 x3 x4).a)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f11, %h11, H11⟩, ⟨%f12, %h12, H12⟩, ⟨%f13, %h13, H13⟩, ⟨%f14, %h14, H14⟩, ⟨%f17, %h17, H17⟩, ⟨%f18, %h18, H18⟩⟩
  simp only [cc0_ffn2_fwd_eq_skeleton]; unfold cc0_ffn2_fwd_skel
  simp only [k0_part2_eq_skeleton, k0_part1_eq_skeleton]
  sl_exec (disch := first | sl_exact h1 | sl_exact h2)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H11]; iexists _; isplitr; rotate_left; iexact H11
  isplitl [H12]; iexists _; isplitr; rotate_left; iexact H12
  isplitl [H13]
  · iexists f13; isplitr; · ipureintro; exact h13
    iexact H13
  isplitl [H14]; iexists _; isplitr; rotate_left; iexact H14
  isplitl [H17]; iexists _; isplitr; rotate_left; iexact H17
  iexists _; isplitr; rotate_left; iexact H18
  all_goals
    ipureintro
    refine (View.read_writes_full _ _ _ _ _).trans ?_
    repeat (first | delta body_mid.sl.r | delta body_mid.sl.r_1 | delta body_mid.sl.r_2 | delta body_mid.sl.r_3 | delta body_mid.sl.r_4 | delta body_mid.sl.H17_1 | delta body_mid.sl.H18_1 | delta body_mid.sl.v12)
    try simp only [covered_rows, covered_tile, load_rows, load_gain, load_tile, load_block, reload_rows, reload_gain, reload_tile, reload_block, h2, h3, h4, h5, h6, h7, h8, h9, h11, h12, h13, h14, h17, h18]
    try rfl

set_option maxHeartbeats 8000000 in
/-- The last column block of the first row block. -/
theorem body_last_first (h1 : ¬ k0_cond1 i = 1#1) (h2 : k0_cond2 i = 1#1) (h3 : k0_cond3 i = 1#1) (h4 : ¬ k0_cond4 i = 1#1) (y10 : Vec F S1024x1024 .f32) (y11 : Vec F S1024x256 .bf16) (y12 : Vec F S1024x256 .bf16) (y13 : Vec F S1024x1024 .bf16) (y14 : Vec F S1024x256 .bf16) (y15 : Vec F S1x1024 .f32) (y16 : Vec F S1x1024 .f32) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare s.h ∗ owns (c : Thread nD τ) arg18 fullShare s.a) : sProp 𝕄)
      ⊢ wp frame (wpE (defs₀ (F := F)) Variants.none (c : Thread nD τ) none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxOf (sOf y13 x2 x3) x0 (next s y13 x2 x3 x4).h x5 x6 x7) ∗ owns (c : Thread nD τ) arg11 fullShare (k0_pay23 y13 x2) ∗ owns (c : Thread nD τ) arg12 fullShare (k0_pay24 y13 x3) ∗ owns (c : Thread nD τ) arg13 fullShare y13 ∗ owns (c : Thread nD τ) arg14 fullShare (sOf y13 x2 x3) ∗ owns (c : Thread nD τ) arg15 fullShare (k0_pay4 (k0_pay10 (sOf y13 x2 x3) x0 (next s y13 x2 x3 x4).h x5) (k0_pay13 (sOf y13 x2 x3) x0 (next s y13 x2 x3 x4).h x5 x6 x7)) ∗ owns (c : Thread nD τ) arg16 fullShare (k0_pay5 (k0_pay12 (sOf y13 x2 x3) x0 (next s y13 x2 x3 x4).h x5 x6 x7)) ∗ owns (c : Thread nD τ) arg17 fullShare (next s y13 x2 x3 x4).h ∗ owns (c : Thread nD τ) arg18 fullShare (next s y13 x2 x3 x4).a)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  simp only [cc0_ffn2_fwd_eq_skeleton]; unfold cc0_ffn2_fwd_skel
  simp only [k0_part2_eq_skeleton, k0_part1_eq_skeleton]
  sl_exec (disch := first | sl_exact h1 | sl_exact h2 | sl_exact h3 | sl_exact h4)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]; iexists _; isplitr; rotate_left; iexact H10
  isplitl [H11]; iexists _; isplitr; rotate_left; iexact H11
  isplitl [H12]; iexists _; isplitr; rotate_left; iexact H12
  isplitl [H13]
  · iexists f13; isplitr; · ipureintro; exact h13
    iexact H13
  isplitl [H14]; iexists _; isplitr; rotate_left; iexact H14
  isplitl [H15]; iexists _; isplitr; rotate_left; iexact H15
  isplitl [H16]; iexists _; isplitr; rotate_left; iexact H16
  isplitl [H17]; iexists _; isplitr; rotate_left; iexact H17
  iexists _; isplitr; rotate_left; iexact H18
  all_goals
    ipureintro
    refine (View.read_writes_full _ _ _ _ _).trans ?_
    repeat (first | delta body_last_first.sl.r | delta body_last_first.sl.r_1 | delta body_last_first.sl.r_2 | delta body_last_first.sl.r_3 | delta body_last_first.sl.r_4 | delta body_last_first.sl.r_5 | delta body_last_first.sl.r_6 | delta body_last_first.sl.r_7 | delta body_last_first.sl.r_8 | delta body_last_first.sl.r_9 | delta body_last_first.sl.v42 | delta body_last_first.sl.H17_1 | delta body_last_first.sl.H18_1)
    try simp only [covered_rows, covered_tile, load_rows, load_gain, load_tile, load_block, reload_rows, reload_gain, reload_tile, reload_block, h2, h3, h4, h5, h6, h7, h8, h9, h10, h11, h12, h13, h14, h15, h16, h17, h18]
    try rfl

set_option maxHeartbeats 8000000 in
/-- The last column block of the other row blocks. -/
theorem body_last (h1 : ¬ k0_cond1 i = 1#1) (h2 : k0_cond2 i = 1#1) (h3 : ¬ k0_cond3 i = 1#1) (h4 : k0_cond4 i = 1#1) (y10 : Vec F S1024x1024 .f32) (y11 : Vec F S1024x256 .bf16) (y12 : Vec F S1024x256 .bf16) (y13 : Vec F S1024x1024 .bf16) (y14 : Vec F S1024x256 .bf16) (y15 : Vec F S1x1024 .f32) (y16 : Vec F S1x1024 .f32) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare y10 ∗ owns (c : Thread nD τ) arg11 fullShare y11 ∗ owns (c : Thread nD τ) arg12 fullShare y12 ∗ owns (c : Thread nD τ) arg13 fullShare y13 ∗ owns (c : Thread nD τ) arg14 fullShare y14 ∗ owns (c : Thread nD τ) arg15 fullShare y15 ∗ owns (c : Thread nD τ) arg16 fullShare y16 ∗ owns (c : Thread nD τ) arg17 fullShare s.h ∗ owns (c : Thread nD τ) arg18 fullShare s.a) : sProp 𝕄)
      ⊢ wp frame (wpE (defs₀ (F := F)) Variants.none (c : Thread nD τ) none) Set.univ (cc0_ffn2_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dxOf (sOf y13 x2 x3) x0 (next s y13 x2 x3 x4).h x5 x6 x7) ∗ owns (c : Thread nD τ) arg11 fullShare (k0_pay23 y13 x2) ∗ owns (c : Thread nD τ) arg12 fullShare (k0_pay24 y13 x3) ∗ owns (c : Thread nD τ) arg13 fullShare y13 ∗ owns (c : Thread nD τ) arg14 fullShare (sOf y13 x2 x3) ∗ owns (c : Thread nD τ) arg15 fullShare (k0_pay6 (k0_pay10 (sOf y13 x2 x3) x0 (next s y13 x2 x3 x4).h x5) (k0_pay13 (sOf y13 x2 x3) x0 (next s y13 x2 x3 x4).h x5 x6 x7) y15) ∗ owns (c : Thread nD τ) arg16 fullShare (k0_pay7 (k0_pay12 (sOf y13 x2 x3) x0 (next s y13 x2 x3 x4).h x5 x6 x7) y16) ∗ owns (c : Thread nD τ) arg17 fullShare (next s y13 x2 x3 x4).h ∗ owns (c : Thread nD τ) arg18 fullShare (next s y13 x2 x3 x4).a)) := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩⟩
  simp only [cc0_ffn2_fwd_eq_skeleton]; unfold cc0_ffn2_fwd_skel
  simp only [k0_part2_eq_skeleton, k0_part1_eq_skeleton]
  sl_exec (disch := first | sl_exact h1 | sl_exact h2 | sl_exact h3 | sl_exact h4)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists f9; isplitr; · ipureintro; exact h9
    iexact H9
  isplitl [H10]; iexists _; isplitr; rotate_left; iexact H10
  isplitl [H11]; iexists _; isplitr; rotate_left; iexact H11
  isplitl [H12]; iexists _; isplitr; rotate_left; iexact H12
  isplitl [H13]
  · iexists f13; isplitr; · ipureintro; exact h13
    iexact H13
  isplitl [H14]; iexists _; isplitr; rotate_left; iexact H14
  isplitl [H15]; iexists _; isplitr; rotate_left; iexact H15
  isplitl [H16]; iexists _; isplitr; rotate_left; iexact H16
  isplitl [H17]; iexists _; isplitr; rotate_left; iexact H17
  iexists _; isplitr; rotate_left; iexact H18
  all_goals
    ipureintro
    refine (View.read_writes_full _ _ _ _ _).trans ?_
    repeat (first | delta body_last.sl.r | delta body_last.sl.r_1 | delta body_last.sl.r_2 | delta body_last.sl.r_3 | delta body_last.sl.r_4 | delta body_last.sl.r_5 | delta body_last.sl.r_6 | delta body_last.sl.r_7 | delta body_last.sl.r_8 | delta body_last.sl.r_9 | delta body_last.sl.v42 | delta body_last.sl.H17_1 | delta body_last.sl.H18_1)
    try simp only [covered_rows, covered_tile, load_rows, load_gain, load_tile, load_block, reload_rows, reload_gain, reload_tile, reload_block, h2, h3, h4, h5, h6, h7, h8, h9, h10, h11, h12, h13, h14, h15, h16, h17, h18]
    try rfl

end Run

end Cert.FfnHeadIdeal.Body

end
-- ==== Proof.FfnHead.Pay.lean ====
/- What the body of the second FFN's forward kernel with the loss computes, read at an element. -/
module

public import proofs.«01_k».proof.Proof.Shared.Loss
public import proofs.«01_k».proof.Proof.FfnHead.Body
public import Idealize.ShloMosaic.Lib.Pointwise

@[expose] public section

set_option maxRecDepth 16384

noncomputable section

namespace Cert.FfnHeadIdeal.Pay

open Idealize.ShloMosaic Idealize.ShloMosaic.TcCoe Idealize.SL.Sem
open Cert.FfnHeadIdeal Cert.FfnHeadIdeal.Gen Cert.FfnHeadIdeal.Body Cert.Shared

variable (s : St Ideal) (x0 a : FVec Ideal S1024x1024 .f32) (h : FVec Ideal S1024x1024 .bf16) (x1 x6 : FVec Ideal S1x1024 .f32) (t : FVec Ideal S1024x256 .bf16)
  (x2 x3 x4 x5 : FVec Ideal S256x1024 .bf16) (x7 : FVec Ideal S1024x1024 .f32)

theorem clear_h (r : Fin 1024) (k : Fin 1024) : (clear (F := Ideal)).h (ix2 r k) = 0 := by
  show k0_pay17 (F := Ideal) (ix2 r k) = _
  pointwise! [k0_pay17]

theorem clear_a (r : Fin 1024) (j : Fin 256) : (clear (F := Ideal)).a (ix2 r j) = 0 := by
  show k0_pay18 (F := Ideal) (ix2 r j) = _
  pointwise! [k0_pay18]

/-- The normalised rows. -/
theorem h_at (r : Fin 1024) (k : Fin 1024) : k0_pay16 (F := Ideal) x0 x1 (ix2 r k) = x0 (ix2 r k) * rstd cN (fun k => x0 (ix2 r k)) * x1 (ix2 0 k) := by
  unfold rstd ms
  pointwise! [k0_pay16]

/-- A product with a block of a transposed weight. -/
abbrev dot (h : FVec Ideal S1024x1024 .bf16) (w : FVec Ideal S256x1024 .bf16) (r : Fin 1024) (j : Fin 256) : EReal := ∑ l : Fin 1024, h (ix2 r l) * w (ix2 j l)

theorem a32_at (r : Fin 1024) (j : Fin 256) : k0_pay21 (F := Ideal) h x2 (ix2 r j) = dot h x2 r j := by
  pointwise! [k0_pay21, k0_pay20]
theorem b32_at (r : Fin 1024) (j : Fin 256) : k0_pay22 (F := Ideal) h x3 (ix2 r j) = dot h x3 r j := by
  pointwise! [k0_pay22, k0_pay20]
theorem a_at (r : Fin 1024) (j : Fin 256) : k0_pay23 (F := Ideal) h x2 (ix2 r j) = dot h x2 r j := a32_at h x2 r j
theorem b_at (r : Fin 1024) (j : Fin 256) : k0_pay24 (F := Ideal) h x3 (ix2 r j) = dot h x3 r j := b32_at h x3 r j

theorem s_at (r : Fin 1024) (j : Fin 256) : sOf (F := Ideal) h x2 x3 (ix2 r j) = dot h x2 r j * sgK (dot h x2 r j) * dot h x3 r j := by
  have e := a32_at h x2
  have e' := b32_at h x3
  unfold sOf k0_pay25
  generalize k0_pay21 (F := Ideal) h x2 = p at *
  generalize k0_pay22 (F := Ideal) h x3 = q at *
  rw [← e, ← e']
  unfold sgK
  pointwise! [k0_pay1]

theorem next_a (r : Fin 1024) (j : Fin 256) : (next s h x2 x3 x4).a (ix2 r j) = sOf h x2 x3 (ix2 r j) := by
  show k0_pay2 (F := Ideal) _ _ _ (ix2 r j) = _
  unfold sOf k0_pay2
  generalize k0_pay1 (F := Ideal) _ _ _ = p
  pointwise!

/-- A product of the gated tile with a block of the down projection. -/
abbrev down (t : FVec Ideal S1024x256 .bf16) (w : FVec Ideal S256x1024 .bf16) (r : Fin 1024) (k : Fin 1024) : EReal := ∑ l : Fin 256, t (ix2 r l) * w (ix2 l k)

theorem next_h (r : Fin 1024) (k : Fin 1024) : (next s h x2 x3 x4).h (ix2 r k) = s.h (ix2 r k) + down s.a x4 r k := by
  show k0_pay19 (F := Ideal) s.h s.a x4 (ix2 r k) = _
  generalize s.h = sh
  generalize s.a = sa
  pointwise! [k0_pay19]

/-- The FFN's output. -/
abbrev xo (t : FVec Ideal S1024x256 .bf16) (x0 a : FVec Ideal S1024x1024 .f32) (x5 : FVec Ideal S256x1024 .bf16) (r : Fin 1024) (k : Fin 1024) : EReal :=
  x0 (ix2 r k) + cH * (a (ix2 r k) + down t x5 r k)

theorem xo_at (r : Fin 1024) (k : Fin 1024) : k0_pay8 (F := Ideal) t x0 a x5 (ix2 r k) = xo t x0 a x5 r k := by
  pointwise! [k0_pay8]

abbrev row (x : FVec Ideal S1x1024 .f32) : Fin 1024 → EReal := fun k => x (ix2 0 k)
abbrev line (x : FVec Ideal S1024x1024 .f32) (r : Fin 1024) : Fin 1024 → EReal := fun k => x (ix2 r k)

theorem rstd_at (r : Fin 1024) (z : Fin 1) : k0_pay9 (F := Ideal) t x0 a x5 (ix2 r z) = rstd cN (xo t x0 a x5 r) := by
  have e := xo_at x0 a t x5
  unfold k0_pay9
  generalize k0_pay8 (F := Ideal) t x0 a x5 = p at *
  rw [← funext (e r)]
  unfold rstd ms
  pointwise!

theorem hat_at (r : Fin 1024) (k : Fin 1024) : k0_pay10 (F := Ideal) t x0 a x5 (ix2 r k) = xo t x0 a x5 r k * rstd cN (xo t x0 a x5 r) := by
  rw [← rstd_at x0 a t x5 r 0, ← xo_at]
  unfold k0_pay10
  generalize k0_pay8 (F := Ideal) t x0 a x5 = p
  generalize k0_pay9 (F := Ideal) t x0 a x5 = q
  pointwise!

theorem err_at (r : Fin 1024) (k : Fin 1024) : k0_pay11 (F := Ideal) t x0 a x5 x6 x7 (ix2 r k) = err (xo t x0 a x5 r) (row x6) (line x7 r) k := by
  unfold err
  rw [← hat_at]
  unfold k0_pay11
  generalize k0_pay10 (F := Ideal) t x0 a x5 = p
  pointwise!

theorem loss_at (y z : Fin 1) : k0_pay12 (F := Ideal) t x0 a x5 x6 x7 (ix2 y z) = cH * ∑ r : Fin 1024, meanSq (xo t x0 a x5 r) (row x6) (line x7 r) := by
  have e := err_at x0 a x6 t x5 x7
  unfold k0_pay12 meanSq
  generalize k0_pay11 (F := Ideal) t x0 a x5 x6 x7 = p at *
  simp only [← e]
  pointwise!

theorem dy_at (r : Fin 1024) (k : Fin 1024) : k0_pay13 (F := Ideal) t x0 a x5 x6 x7 (ix2 r k) = dy (xo t x0 a x5 r) (row x6) (line x7 r) k := by
  unfold dy
  rw [← err_at]
  unfold k0_pay13
  generalize k0_pay11 (F := Ideal) t x0 a x5 x6 x7 = p
  pointwise!

theorem dx_at (r : Fin 1024) (j : Fin 1024) : dxOf (F := Ideal) t x0 a x5 x6 x7 (ix2 r j)
    = dxK cN (xo t x0 a x5 r) (dy (xo t x0 a x5 r) (row x6) (line x7 r)) (row x6) 0 j := by
  have e := dy_at x0 a x6 t x5 x7
  have e1 := hat_at x0 a t x5
  have e2 := rstd_at x0 a t x5
  unfold dxK
  rw [zero_add]
  simp only [← e, ← e1]
  rw [← e2 r 0]
  unfold dxOf k0_pay15 k0_pay14
  generalize k0_pay13 (F := Ideal) t x0 a x5 x6 x7 = p
  generalize k0_pay10 (F := Ideal) t x0 a x5 = q
  generalize k0_pay9 (F := Ideal) t x0 a x5 = o
  pointwise! [k0_pay3]

theorem gain_at (p q : FVec Ideal S1024x1024 .f32) (i : Fin 1) (j : Fin 1024) : k0_pay4 (F := Ideal) p q (ix2 i j) = ∑ r : Fin 1024, q (ix2 r j) * p (ix2 r j) := by
  pointwise! [k0_pay4]

theorem gain_add (p q : FVec Ideal S1024x1024 .f32) (v : FVec Ideal S1x1024 .f32) (i : Fin 1) (j : Fin 1024) :
    k0_pay6 (F := Ideal) p q v (ix2 i j) = v (ix2 i j) + k0_pay4 (F := Ideal) p q (ix2 i j) := by
  unfold k0_pay6
  generalize k0_pay4 (F := Ideal) p q = o
  pointwise!

theorem loss_first (v : FVec Ideal S1x1 .f32) (i : Fin 1) (j : Fin 1024) : k0_pay5 (F := Ideal) v (ix2 i j) = v (ix2 0 0) := by
  pointwise! [k0_pay5]

theorem loss_add (v : FVec Ideal S1x1 .f32) (w : FVec Ideal S1x1024 .f32) (i : Fin 1) (j : Fin 1024) :
    k0_pay7 (F := Ideal) v w (ix2 i j) = w (ix2 i j) + v (ix2 0 0) := by
  pointwise! [k0_pay7]

end Cert.FfnHeadIdeal.Pay

end
-- ==== Proof.FfnHead.Frame.lean ====
module

public import proofs.«01_k».proof.Proof.FfnHead.Body
public import proofs.«01_k».proof.Proof.Gen.FfnHeadIdeal.Points
public import proofs.«01_k».proof.Proof.Gen.FfnHeadIdeal.Launch
public import proofs.«01_k».proof.Proof.Gen.FfnHeadIdeal.Frame
public import Idealize.ShloMosaic.Lib.Pipeline.FrameBody
public import Idealize.ShloMosaic.Lib.Claim

/-! # The second FFN and loss program's run, from any memory

The carried buffers between the column blocks of a row block, the loss and the gain's gradient from row block to row block, and the run of the pipeline
for any float values, with the frame. -/

@[expose] public section

set_option maxRecDepth 16384

noncomputable section

namespace Cert.FfnHeadIdeal.Body

open Cert.FfnHeadIdeal Cert.FfnHeadIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 11 = 0 :=
  (by decide +kernel : ∀ t : Fin grid0.N, k0_cond1 (grid0.coords t) = 1#1 ↔ t.val % 11 = 0)
theorem cond2_iff : ∀ t : Fin cfg0.N, k0_cond2 (grid0.coords t) = 1#1 ↔ t.val % 11 = 10 :=
  (by decide +kernel : ∀ t : Fin grid0.N, k0_cond2 (grid0.coords t) = 1#1 ↔ t.val % 11 = 10)
theorem cond3_iff : ∀ t : Fin cfg0.N, k0_cond3 (grid0.coords t) = 1#1 ↔ t.val < 11 :=
  (by decide +kernel : ∀ t : Fin grid0.N, k0_cond3 (grid0.coords t) = 1#1 ↔ t.val < 11)
theorem cond4_iff : ∀ t : Fin cfg0.N, k0_cond4 (grid0.coords t) = 1#1 ↔ ¬ t.val < 11 :=
  (by decide +kernel : ∀ t : Fin grid0.N, k0_cond4 (grid0.coords t) = 1#1 ↔ ¬ t.val < 11)
theorem idle_8 : ∀ t : Fin cfg0.N, cfg0.idle 8 (cfg0.grid.coords t) = decide (t.val % 11 ≠ 10) :=
  (by decide +kernel : ∀ t : Fin grid0.N, idle0 8 (grid0.coords t) = decide (t.val % 11 ≠ 10))
theorem idle_11 : ∀ t : Fin cfg0.N, cfg0.idle 11 (cfg0.grid.coords t) = decide (t.val % 11 ≠ 0) :=
  (by decide +kernel : ∀ t : Fin grid0.N, idle0 11 (grid0.coords t) = decide (t.val % 11 ≠ 0))
theorem idle_13 : ∀ t : Fin cfg0.N, cfg0.idle 13 (cfg0.grid.coords t) = decide (t.val % 11 ≠ 10) :=
  (by decide +kernel : ∀ t : Fin grid0.N, idle0 13 (grid0.coords t) = decide (t.val % 11 ≠ 10))
theorem idle_14 : ∀ t : Fin cfg0.N, cfg0.idle 14 (cfg0.grid.coords t) = decide (t.val % 11 ≠ 10) :=
  (by decide +kernel : ∀ t : Fin grid0.N, idle0 14 (grid0.coords t) = decide (t.val % 11 ≠ 10))

/-- The grid's point with number `n`. -/
def pt (n : ℕ) : Fin cfg0.N := ⟨n % 44, lt_of_lt_of_eq (Nat.mod_lt _ (by decide)) N_0.symm⟩

theorem lt44 (t : Fin cfg0.N) : t.val < 44 := lt_of_lt_of_eq t.isLt N_0

theorem pt_val (t : Fin cfg0.N) : pt t.val = t := Fin.ext (Nat.mod_eq_of_lt (lt44 t))

/-- The normalised rows of a row block, as its first point leaves them. -/
def hAt (c : Dev nD) (n : ℕ) : Vec F S1024x1024 .bf16 := k0_pay16 (iblk m c 0 (pt (n - n % 11))) (iblk m c 1 (pt (n - n % 11)))

/-- What the column block at point `n` makes of what is carried to it. -/
def step (c : Dev nD) (n : ℕ) (s : St F) : St F := next s (hAt m c n) (iblk m c 2 (pt n)) (iblk m c 3 (pt n)) (iblk m c 4 (pt n))

/-- What is carried away from point `n`. -/
def held (c : Dev nD) : ℕ → St F
  | 0 => step m c 0 clear
  | n + 1 => step m c (n + 1) (if (n + 1) % 11 = 0 then clear else held c n)

/-- What is carried to point `n`. -/
def pre (c : Dev nD) (n : ℕ) : St F := if n % 11 = 0 then clear else held m c (n - 1)

theorem held_eq (c : Dev nD) (n : ℕ) : held m c n = step m c n (pre m c n) := by
  cases n with
  | zero => rfl
  | succ n => rfl

theorem pre_first (c : Dev nD) (n : ℕ) (h : n % 11 = 0) : pre m c n = clear := if_pos h
theorem pre_rest (c : Dev nD) (n : ℕ) (h : ¬ n % 11 = 0) : pre m c n = held m c (n - 1) := if_neg h

/-- The gated tile of a column block. -/
def sAt (c : Dev nD) (n : ℕ) : Vec F S1024x256 .bf16 := sOf (hAt m c n) (iblk m c 2 (pt n)) (iblk m c 3 (pt n))
def aAt (c : Dev nD) (n : ℕ) : Vec F S1024x256 .bf16 := k0_pay23 (hAt m c n) (iblk m c 2 (pt n))
def bAt (c : Dev nD) (n : ℕ) : Vec F S1024x256 .bf16 := k0_pay24 (hAt m c n) (iblk m c 3 (pt n))

/-- The normalised output rows, the error over the width, and the loss of a row block, as its last point forms them. -/
def hatAt (c : Dev nD) (n : ℕ) : Vec F S1024x1024 .f32 := k0_pay10 (sAt m c n) (iblk m c 0 (pt n)) (held m c n).h (iblk m c 5 (pt n))
def dyAt (c : Dev nD) (n : ℕ) : Vec F S1024x1024 .f32 := k0_pay13 (sAt m c n) (iblk m c 0 (pt n)) (held m c n).h (iblk m c 5 (pt n)) (iblk m c 6 (pt n)) (iblk m c 7 (pt n))
def lossAt (c : Dev nD) (n : ℕ) : Vec F S1x1 .f32 := k0_pay12 (sAt m c n) (iblk m c 0 (pt n)) (held m c n).h (iblk m c 5 (pt n)) (iblk m c 6 (pt n)) (iblk m c 7 (pt n))

/-- The gradient of the gain after row block `k`. -/
def gain (c : Dev nD) : ℕ → Vec F S1x1024 .f32
  | 0 => k0_pay4 (hatAt m c 10) (dyAt m c 10)
  | k + 1 => k0_pay6 (hatAt m c (11 * (k + 1) + 10)) (dyAt m c (11 * (k + 1) + 10)) (gain c k)

/-- The loss after row block `k`. -/
def loss (c : Dev nD) : ℕ → Vec F S1x1024 .f32
  | 0 => k0_pay5 (lossAt m c 10)
  | k + 1 => k0_pay7 (lossAt m c (11 * (k + 1) + 10)) (loss c k)

/-- The gradient of the FFN's output at a row block's last point. -/
def dxAt (c : Dev nD) (n : ℕ) : Vec F S1024x1024 .f32 := dxOf (sAt m c n) (iblk m c 0 (pt n)) (held m c n).h (iblk m c 5 (pt n)) (iblk m c 6 (pt n)) (iblk m c 7 (pt n))

/-- What is between the points: the carried buffers, at a row block's first point at anything. -/
def between (c : Dev nD) (n : ℕ) : sProp 𝕄 :=
  iprop(∃ s : St F, ⌜n % 11 = 0 ∨ s = held m c (n - 1)⌝ ∗ (owns (c : Thread nD τ) (Memref.whole cc0_scratch0) fullShare s.h
    ∗ owns (c : Thread nD τ) (Memref.whole cc0_scratch1) fullShare s.a) ∗ (∃ r, prngReg c r))

/-- The pipeline's proof data: inputs at their blocks, results at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dxAt m c t.val
    | ⟨9, _⟩ => aAt m c t.val
    | ⟨10, _⟩ => bAt m c t.val
    | ⟨11, _⟩ => hAt m c t.val
    | ⟨12, _⟩ => sAt m c t.val
    | ⟨13, _⟩ => gain m c (t.val / 11)
    | ⟨14, _⟩ => loss m c (t.val / 11)
  Φ t := between m c t.val
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dxAt m c t.val := by dsimp only [dats]
theorem after_9 (c : Dev nD) (t : Fin cfg0.N) : (dats m 0 c).after 9 t = aAt m c t.val := by dsimp only [dats]
theorem after_10 (c : Dev nD) (t : Fin cfg0.N) : (dats m 0 c).after 10 t = bAt m c t.val := by dsimp only [dats]
theorem after_11 (c : Dev nD) (t : Fin cfg0.N) : (dats m 0 c).after 11 t = hAt m c t.val := by dsimp only [dats]
theorem after_12 (c : Dev nD) (t : Fin cfg0.N) : (dats m 0 c).after 12 t = sAt m c t.val := by dsimp only [dats]
theorem after_13 (c : Dev nD) (t : Fin cfg0.N) : (dats m 0 c).after 13 t = gain m c (t.val / 11) := by dsimp only [dats]
theorem after_14 (c : Dev nD) (t : Fin cfg0.N) : (dats m 0 c).after 14 t = loss m c (t.val / 11) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

theorem kept_11 (c : Dev nD) (t : Fin cfg0.N) (d) : (dats m 0 c).kept 11 t d = hAt m c t.val := by
  unfold Dat.kept
  rw [Pipeline.fill_of_clip_none (cfg := cfg0) 11 _ (fun _ => rfl) d ((dats m 0 c).after 11 t), Window.fill_cut, after_11]

theorem kept_13 (c : Dev nD) (t : Fin cfg0.N) (d) : (dats m 0 c).kept 13 t d = gain m c (t.val / 11) := by
  unfold Dat.kept
  rw [Pipeline.fill_of_clip_none (cfg := cfg0) 13 _ (fun _ => rfl) d ((dats m 0 c).after 13 t), Window.fill_cut, after_13]

theorem kept_14 (c : Dev nD) (t : Fin cfg0.N) (d) : (dats m 0 c).kept 14 t d = loss m c (t.val / 11) := by
  unfold Dat.kept
  rw [Pipeline.fill_of_clip_none (cfg := cfg0) 14 _ (fun _ => rfl) d ((dats m 0 c).after 14 t), Window.fill_cut, after_14]

/-- From the second row block on window 13 holds what the row block before left. -/
theorem before_13 (c : Dev nD) : ∀ (n : ℕ) (hn : n < cfg0.N), ¬ n < 11 → ∀ d, (dats m 0 c).before 13 ⟨n, hn⟩ d = gain m c (n / 11 - 1) := by
  intro n
  induction n with
  | zero => intro hn h; omega
  | succ n ih =>
    intro hn h d
    have h44 : n + 1 < 44 := lt44 ⟨n + 1, hn⟩
    rw [(dats m 0 c).before_of_pos 13 ⟨n + 1, hn⟩ (Nat.succ_ne_zero n) rfl d, if_neg (by
      intro hf
      have := (flush0_13 ⟨n, by omega⟩).mp hf
      simp only at this
      omega)]
    show (dats m 0 c).left 13 ⟨n, by omega⟩ d = _
    unfold Dat.left
    rw [idle_13]
    by_cases hl : n % 11 = 10
    · simp only [hl, ne_eq, not_true_eq_false, decide_false]
      rw [kept_13]
      congr 1
      simp only
      omega
    · simp only [hl, ne_eq, not_false_eq_true, decide_true]
      rw [ih (by omega) (by omega) d]
      congr 1
      omega

/-- From the second row block on window 14 holds what the row block before left. -/
theorem before_14 (c : Dev nD) : ∀ (n : ℕ) (hn : n < cfg0.N), ¬ n < 11 → ∀ d, (dats m 0 c).before 14 ⟨n, hn⟩ d = loss m c (n / 11 - 1) := by
  intro n
  induction n with
  | zero => intro hn h; omega
  | succ n ih =>
    intro hn h d
    have h44 : n + 1 < 44 := lt44 ⟨n + 1, hn⟩
    rw [(dats m 0 c).before_of_pos 14 ⟨n + 1, hn⟩ (Nat.succ_ne_zero n) rfl d, if_neg (by
      intro hf
      have := (flush0_14 ⟨n, by omega⟩).mp hf
      simp only at this
      omega)]
    show (dats m 0 c).left 14 ⟨n, by omega⟩ d = _
    unfold Dat.left
    rw [idle_14]
    by_cases hl : n % 11 = 10
    · simp only [hl, ne_eq, not_true_eq_false, decide_false]
      rw [kept_14]
      congr 1
      simp only
      omega
    · simp only [hl, ne_eq, not_false_eq_true, decide_true]
      rw [ih (by omega) (by omega) d]
      congr 1
      omega

/-- Within a row block window 11 keeps what the first point left. -/
theorem before_11 (c : Dev nD) : ∀ (n : ℕ) (hn : n < cfg0.N), ¬ n % 11 = 0 → ∀ d, (dats m 0 c).before 11 ⟨n, hn⟩ d = hAt m c n := by
  intro n
  induction n with
  | zero => intro hn h; omega
  | succ n ih =>
    intro hn h d
    have h44 : n + 1 < 44 := lt44 ⟨n + 1, hn⟩
    have hh : hAt m c n = hAt m c (n + 1) := by
      unfold hAt
      rw [show n - n % 11 = n + 1 - (n + 1) % 11 by omega]
    rw [(dats m 0 c).before_of_pos 11 ⟨n + 1, hn⟩ (Nat.succ_ne_zero n) rfl d, if_neg (by
      intro hf
      have := (flush0_11 ⟨n, by omega⟩).mp hf
      simp only at this
      omega)]
    show (dats m 0 c).left 11 ⟨n, by omega⟩ d = _
    unfold Dat.left
    rw [idle_11, ← hh]
    by_cases hl : n % 11 = 0
    · simp only [hl, ne_eq, not_true_eq_false, decide_false]
      exact kept_11 m c _ d
    · simp only [hl, ne_eq, not_false_eq_true, decide_true]
      exact ih (by omega) hl d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

/-- A window that is not left out, or is written back, is left at the proof data's contents. -/
theorem leaves (c : Dev nD) (t : Fin cfg0.N) (w : Fin cfg0.W) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

theorem no_flush (w : Fin cfg0.W) (t : Fin cfg0.N) (h : ¬ (cfg0.win w).flush t = true) : (cfg0.win w).flush t = false := by
  rwa [Bool.eq_false_iff]

set_option maxHeartbeats 1600000 in
/-- A row block's first point. -/
theorem sound_first (c : Dev nD) (t : Fin cfg0.N) (h : t.val % 11 = 0) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (hAt m c t.val) (iblk m c 2 t) (iblk m c 3 t) (iblk m c 4 t) := by rw [held_eq]; unfold step; rw [hp]
  have hh : hAt m c t.val = k0_pay16 (iblk m c 0 t) (iblk m c 1 t) := by unfold hAt; rw [show t.val - t.val % 11 = t.val by omega, hp]
  unfold bodyPre bodyPost bodyAt0
  simp only [before_0, before_1, before_2, before_3, before_4, before_5, before_6, before_7]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 9 (Or.inl rfl), after_9]
  rw [leaves m c t 10 (Or.inl rfl), after_10]
  rw [leaves m c t 12 (Or.inl rfl), after_12]
  rw [Dat.leavesExact_idle _ 8 t (by rw [idle_8]; exact decide_eq_true (by omega)) (no_flush 8 t (by rw [flush0_8]; omega))]
  rw [leaves m c t 11 (Or.inl (by rw [idle_11]; exact decide_eq_false (by omega))), after_11]
  rw [Dat.leavesExact_idle _ 13 t (by rw [idle_13]; exact decide_eq_true (by omega)) (no_flush 13 t (by rw [flush0_13]; omega))]
  rw [Dat.leavesExact_idle _ 14 t (by rw [idle_14]; exact decide_eq_true (by omega)) (no_flush 14 t (by rw [flush0_14]; omega))]
  unfold between
  iintro ⟨⟨%s, %hs, ⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = clear := pre_first m c t.val h
  iapply (wp_wand frame (wpE (defs₀ (F := F)) Variants.none (c : Thread nD τ) none) Set.univ) $$ [H0 H1 H2 H3 H4 H5 H6 H7 H9 H10 H11 H12 S0 S1]
  · iapply (body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) (e1.mpr h) (fun x => by have := e2.mp x; omega) _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [S0]; · iexact S0
    iexact S1
  · iintro %u H
    icases H with ⟨H0, H1, H2, H3, H4, H5, H6, H7, H9, H10, H11, H12, S0, S1⟩
    isplitl [S0 S1 Hg]
    · iexists (held m c t.val)
      isplitr; · ipureintro; right; rfl
      isplitl [S0 S1]
      · rw [hn, hpre, hh]
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · unfold aAt; rw [hp, hh]; iexact H9
    isplitl [H10]; · unfold bAt; rw [hp, hh]; iexact H10
    isplitl [H11]; · rw [hh]; iexact H11
    isplitl [H12]; · unfold sAt; rw [hp, hh]; iexact H12
    isplitl [H13]; · iexists d13; iexact H13
    iexists d14; iexact H14

set_option maxHeartbeats 1600000 in
/-- A point between. -/
theorem sound_mid (c : Dev nD) (t : Fin cfg0.N) (h : ¬ t.val % 11 = 0) (h2 : ¬ t.val % 11 = 10) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (hAt m c t.val) (iblk m c 2 t) (iblk m c 3 t) (iblk m c 4 t) := by rw [held_eq]; unfold step; rw [hp]
  unfold bodyPre bodyPost bodyAt0
  simp only [before_0, before_1, before_2, before_3, before_4, before_5, before_6, before_7]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 9 (Or.inl rfl), after_9]
  rw [leaves m c t 10 (Or.inl rfl), after_10]
  rw [leaves m c t 12 (Or.inl rfl), after_12]
  rw [Dat.leavesExact_idle _ 8 t (by rw [idle_8]; exact decide_eq_true (by omega)) (no_flush 8 t (by rw [flush0_8]; omega))]
  rw [Dat.leavesExact_idle _ 11 t (by rw [idle_11]; exact decide_eq_true (by omega)) (no_flush 11 t (by rw [flush0_11]; omega))]
  rw [Dat.leavesExact_idle _ 13 t (by rw [idle_13]; exact decide_eq_true (by omega)) (no_flush 13 t (by rw [flush0_13]; omega))]
  rw [Dat.leavesExact_idle _ 14 t (by rw [idle_14]; exact decide_eq_true (by omega)) (no_flush 14 t (by rw [flush0_14]; omega))]
  unfold between
  iintro ⟨⟨%s, %hs, ⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  simp only [before_11 m c t.val t.isLt (by omega)]
  iapply (wp_wand frame (wpE (defs₀ (F := F)) Variants.none (c : Thread nD τ) none) Set.univ) $$ [H0 H1 H2 H3 H4 H5 H6 H7 H9 H10 H11 H12 S0 S1]
  · iapply (body_mid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) s (fun x => h (e1.mp x)) (fun x => h2 (e2.mp x)) _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H12]; · iexact H12
    isplitl [S0]; · iexact S0
    iexact S1
  · iintro %u H
    icases H with ⟨H0, H1, H2, H3, H4, H5, H6, H7, H9, H10, H11, H12, S0, S1⟩
    isplitl [S0 S1 Hg]
    · iexists (held m c t.val)
      isplitr; · ipureintro; right; rfl
      isplitl [S0 S1]
      · rw [hn, hpre]
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists d8; iexact H8
    isplitl [H9]; · unfold aAt; rw [hp]; iexact H9
    isplitl [H10]; · unfold bAt; rw [hp]; iexact H10
    isplitl [H11]; · iexists d11; iexact H11
    isplitl [H12]; · unfold sAt; rw [hp]; iexact H12
    isplitl [H13]; · iexists d13; iexact H13
    iexists d14; iexact H14

set_option maxHeartbeats 1600000 in
/-- The last point of the first row block. -/
theorem sound_last_first (c : Dev nD) (t : Fin cfg0.N) (h2 : t.val % 11 = 10) (h3 : t.val < 11) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (hAt m c t.val) (iblk m c 2 t) (iblk m c 3 t) (iblk m c 4 t) := by rw [held_eq]; unfold step; rw [hp]
  have hgain : gain m c (t.val / 11) = k0_pay4 (hatAt m c t.val) (dyAt m c t.val) := by
    have hv : t.val = 10 := by omega
    rw [hv]
    rfl
  have hloss : loss m c (t.val / 11) = k0_pay5 (lossAt m c t.val) := by
    have hv : t.val = 10 := by omega
    rw [hv]
    rfl
  unfold bodyPre bodyPost bodyAt0
  simp only [before_0, before_1, before_2, before_3, before_4, before_5, before_6, before_7]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 9 (Or.inl rfl), after_9]
  rw [leaves m c t 10 (Or.inl rfl), after_10]
  rw [leaves m c t 12 (Or.inl rfl), after_12]
  rw [leaves m c t 8 (Or.inl (by rw [idle_8]; exact decide_eq_false (by omega))), after_8]
  rw [leaves m c t 11 (Or.inr ((flush0_11 t).mpr (by omega))), after_11]
  rw [leaves m c t 13 (Or.inl (by rw [idle_13]; exact decide_eq_false (by omega))), after_13]
  rw [leaves m c t 14 (Or.inl (by rw [idle_14]; exact decide_eq_false (by omega))), after_14]
  unfold between
  iintro ⟨⟨%s, %hs, ⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  simp only [before_11 m c t.val t.isLt (by omega)]
  iapply (wp_wand frame (wpE (defs₀ (F := F)) Variants.none (c : Thread nD τ) none) Set.univ) $$ [H0 H1 H2 H3 H4 H5 H6 H7 H8 H9 H10 H11 H12 H13 H14 S0 S1]
  · iapply (body_last_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) s (fun x => by have := e1.mp x; omega) (e2.mpr h2) (e3.mpr h3) (fun x => e4.mp x h3) _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    iexact S1
  · iintro %u H
    icases H with ⟨H0, H1, H2, H3, H4, H5, H6, H7, H8, H9, H10, H11, H12, H13, H14, S0, S1⟩
    isplitl [S0 S1 Hg]
    · iexists (held m c t.val)
      isplitr; · ipureintro; right; rfl
      isplitl [S0 S1]
      · rw [hn, hpre]
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold dxAt sAt; rw [hp, hn, hpre]; iexact H8
    isplitl [H9]; · unfold aAt; rw [hp]; iexact H9
    isplitl [H10]; · unfold bAt; rw [hp]; iexact H10
    isplitl [H11]; · iexact H11
    isplitl [H12]; · unfold sAt; rw [hp]; iexact H12
    isplitl [H13]; · rw [hgain]; unfold hatAt dyAt sAt; rw [hp, hn, hpre]; iexact H13
    rw [hloss]; unfold lossAt sAt; rw [hp, hn, hpre]; iexact H14

set_option maxHeartbeats 1600000 in
/-- The last point of the other row blocks. -/
theorem sound_last (c : Dev nD) (t : Fin cfg0.N) (h2 : t.val % 11 = 10) (h3 : ¬ t.val < 11) :
    bodyPre m c t ⊢ wp frame (wpE (defs₀ (F := F)) Variants.none c none) Set.univ (bodyAt0 t) (fun _ => bodyPost m c t) := by
  have e1 := cond1_iff t
  have e2 := cond2_iff t
  have e3 := cond3_iff t
  have e4 := cond4_iff t
  have h44 := lt44 t
  have hp := pt_val t
  have hn : held m c t.val = next (pre m c t.val) (hAt m c t.val) (iblk m c 2 t) (iblk m c 3 t) (iblk m c 4 t) := by rw [held_eq]; unfold step; rw [hp]
  have hgain : gain m c (t.val / 11) = k0_pay6 (hatAt m c t.val) (dyAt m c t.val) (gain m c (t.val / 11 - 1)) := by
    obtain ⟨k, hk⟩ : ∃ k, t.val / 11 = k + 1 := ⟨t.val / 11 - 1, by omega⟩
    have hv : t.val = 11 * (k + 1) + 10 := by omega
    rw [hk, Nat.add_sub_cancel]
    unfold gain
    rw [hv]
    cases k <;> rfl
  have hloss : loss m c (t.val / 11) = k0_pay7 (lossAt m c t.val) (loss m c (t.val / 11 - 1)) := by
    obtain ⟨k, hk⟩ : ∃ k, t.val / 11 = k + 1 := ⟨t.val / 11 - 1, by omega⟩
    have hv : t.val = 11 * (k + 1) + 10 := by omega
    rw [hk, Nat.add_sub_cancel]
    unfold loss
    rw [hv]
    cases k <;> rfl
  unfold bodyPre bodyPost bodyAt0
  simp only [before_0, before_1, before_2, before_3, before_4, before_5, before_6, before_7]
  rw [show (dats m 0 c).Φ t.succ = between m c (t.val + 1) from rfl, show (dats m 0 c).Φ t.castSucc = between m c t.val from rfl,
    show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (Or.inl rfl), after_7]
  rw [leaves m c t 9 (Or.inl rfl), after_9]
  rw [leaves m c t 10 (Or.inl rfl), after_10]
  rw [leaves m c t 12 (Or.inl rfl), after_12]
  rw [leaves m c t 8 (Or.inl (by rw [idle_8]; exact decide_eq_false (by omega))), after_8]
  rw [leaves m c t 11 (Or.inr ((flush0_11 t).mpr (by omega))), after_11]
  rw [leaves m c t 13 (Or.inl (by rw [idle_13]; exact decide_eq_false (by omega))), after_13]
  rw [leaves m c t 14 (Or.inl (by rw [idle_14]; exact decide_eq_false (by omega))), after_14]
  unfold between
  iintro ⟨⟨%s, %hs, ⟨S0, S1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hpre : pre m c t.val = s := by rw [pre_rest m c t.val (by omega)]; exact (hs.resolve_left (by omega)).symm
  simp only [before_11 m c t.val t.isLt (by omega)]
  rw [before_13 m c t.val t.isLt (by omega), before_14 m c t.val t.isLt (by omega)]
  iapply (wp_wand frame (wpE (defs₀ (F := F)) Variants.none (c : Thread nD τ) none) Set.univ) $$ [H0 H1 H2 H3 H4 H5 H6 H7 H8 H9 H10 H11 H12 H13 H14 S0 S1]
  · iapply (body_last c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) (iblk m c 6 t) (iblk m c 7 t) s (fun x => by have := e1.mp x; omega) (e2.mpr h2) (fun x => h3 (e3.mp x)) (e4.mpr h3) _ _ _ _ _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    iexact S1
  · iintro %u H
    icases H with ⟨H0, H1, H2, H3, H4, H5, H6, H7, H8, H9, H10, H11, H12, H13, H14, S0, S1⟩
    isplitl [S0 S1 Hg]
    · iexists (held m c t.val)
      isplitr; · ipureintro; right; rfl
      isplitl [S0 S1]
      · rw [hn, hpre]
        isplitl [S0]; · iexact S0
        iexact S1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · unfold dxAt sAt; rw [hp, hn, hpre]; iexact H8
    isplitl [H9]; · unfold aAt; rw [hp]; iexact H9
    isplitl [H10]; · unfold bAt; rw [hp]; iexact H10
    isplitl [H11]; · iexact H11
    isplitl [H12]; · unfold sAt; rw [hp]; iexact H12
    isplitl [H13]; · rw [hgain]; unfold hatAt dyAt sAt; rw [hp, hn, hpre]; iexact H13
    rw [hloss]; unfold lossAt sAt; rw [hp, hn, hpre]; iexact H14

theorem sound_body (c : Dev nD) (t : Fin cfg0.N) :
    bodyPre m c t ⊢ wp frame (wpE (defs₀ (F := F)) Variants.none c none) Set.univ (bodyAt0 t) (fun _ => bodyPost m c t) := by
  by_cases h : t.val % 11 = 0
  · exact sound_first m c t h
  · by_cases h2 : t.val % 11 = 10
    · by_cases h3 : t.val < 11
      · exact sound_last_first m c t h2 h3
      · exact sound_last m c t h2 h3
    · exact sound_mid m c t h h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch gives, in the carried buffers. -/
theorem launch_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

theorem enters (c : Dev nD) : (Pipeline.ΦA spec0 c : sProp 𝕄) ⊢ (dats m 0 c).Φ 0 := by
  rw [launch_eq, show (dats m 0 c).Φ 0 = between m c 0 from rfl]
  unfold between
  iintro ⟨⟨⟨%h, S0⟩, ⟨%a, S1⟩⟩, Hg⟩
  iexists (St.mk h a)
  isplitr; · ipureintro; left; rfl
  isplitl [S0 S1]
  · isplitl [S0]; · iexact S0
    iexact S1
  iexact Hg

theorem exits (c : Dev nD) : (dats m 0 c).Φ (Fin.last cfg0.N) ⊢ (Pipeline.ΦA spec0 c : sProp 𝕄) := by
  rw [launch_eq, show (dats m 0 c).Φ (Fin.last cfg0.N) = between m c cfg0.N from rfl]
  unfold between
  iintro ⟨%s, %hs, ⟨S0, S1⟩, Hg⟩
  isplitl [S0 S1]
  · isplitl [S0]; · iexists _; iexact S0
    iexists _; iexact S1
  iexact Hg

set_option backward.isDefEq.respectTransparency.types false in
/-- The run: every array of the pipeline at what the proof data compute, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enters m) (hout := exits m)

/-- The frame, for any float values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.FfnHeadIdeal.Body

end
-- ==== Proof.FfnHead.Value.lean ====
/- What the arrays of the second FFN's forward kernel with the loss hold after its run. -/
module

public import proofs.«01_k».proof.Proof.FfnHead.Pay
public import proofs.«01_k».proof.Proof.FfnHead.Frame
public import Idealize.ShloMosaic.Lib.Pipeline.ValueKit

@[expose] public section

set_option maxRecDepth 16384

noncomputable section

namespace Cert.FfnHeadIdeal.Fin

open Idealize.ShloMosaic Idealize.ShloMosaic.TcCoe Idealize.SL.Sem
open Idealize.ShloMosaic.Pipeline (Dat)
open Cert.FfnHeadIdeal Cert.FfnHeadIdeal.Gen Cert.FfnHeadIdeal.Body Cert.Shared
open Finset (range)

variable (m : (ℓ : Loc nD τ sig) → Buf (Elt Ideal) ℓ) (c : Dev nD)

theorem idx : ∀ t : Fin cfg0.N, win0_0.index t = ![t.val / 11, 0] ∧ win0_1.index t = ![0, 0] ∧ win0_2.index t = ![t.val % 11, 0]
    ∧ win0_3.index t = ![t.val % 11, 0] ∧ win0_4.index t = ![t.val % 11 - 1, 0] ∧ win0_5.index t = ![10, 0]
    ∧ win0_6.index t = ![0, 0] ∧ win0_7.index t = ![t.val / 11, 0] ∧ win0_8.index t = ![t.val / 11, 0]
    ∧ win0_9.index t = ![t.val / 11, t.val % 11] ∧ win0_10.index t = ![t.val / 11, t.val % 11] ∧ win0_11.index t = ![t.val / 11, 0]
    ∧ win0_12.index t = ![t.val / 11, t.val % 11] :=
  (by decide +kernel : ∀ t : Fin grid0.N, _)

/-- The arrays the kernel's windows read. -/
abbrev aX : FVec Ideal S4096x1024 .f32 := V m c main_arg0
abbrev aG : FVec Ideal S1x1024 .f32 := V m c main_arg1
abbrev aWg : FVec Ideal S2816x1024 .bf16 := V m c main_v1
abbrev aWu : FVec Ideal S2816x1024 .bf16 := V m c main_v3
abbrev aWd : FVec Ideal S2816x1024 .bf16 := V m c main_v4
abbrev aF : FVec Ideal S1x1024 .f32 := V m c main_arg5
abbrev aT : FVec Ideal S4096x1024 .f32 := V m c main_arg6

/-- A row of a row block, a column of a column block, of a point. -/
def row (t : Fin cfg0.N) (r : Fin 1024) : Fin 4096 := ⟨t.val / 11 * 1024 + r.val, by have := lt44 t; omega⟩
def col (t : Fin cfg0.N) (j : Fin 256) : Fin 2816 := ⟨t.val % 11 * 256 + j.val, by omega⟩
def colB (t : Fin cfg0.N) (j : Fin 256) : Fin 2816 := ⟨(t.val % 11 - 1) * 256 + j.val, by omega⟩
def colZ (j : Fin 256) : Fin 2816 := ⟨10 * 256 + j.val, by omega⟩

theorem blk0 (t : Fin cfg0.N) (r : Fin 1024) (l : Fin 1024) : iblk m c 0 t (ix2 r l) = aX m c (ix2 (row t r) l) := by
  blk_point [iblk, V, idx t, row, col]
theorem blk1 (t : Fin cfg0.N) (r : Fin 1) (l : Fin 1024) : iblk m c 1 t (ix2 r l) = aG m c (ix2 r l) := by
  blk_point [iblk, V, idx t, row, col]
theorem blk2 (t : Fin cfg0.N) (j : Fin 256) (k : Fin 1024) : iblk m c 2 t (ix2 j k) = aWg m c (ix2 (col t j) k) := by
  blk_point [iblk, V, idx t, row, col]
theorem blk3 (t : Fin cfg0.N) (j : Fin 256) (k : Fin 1024) : iblk m c 3 t (ix2 j k) = aWu m c (ix2 (col t j) k) := by
  blk_point [iblk, V, idx t, row, col]
theorem blk4 (t : Fin cfg0.N) (j : Fin 256) (k : Fin 1024) : iblk m c 4 t (ix2 j k) = aWd m c (ix2 (colB t j) k) := by
  blk_point [iblk, V, idx t, row, colB]
theorem blk5 (t : Fin cfg0.N) (j : Fin 256) (k : Fin 1024) : iblk m c 5 t (ix2 j k) = aWd m c (ix2 (colZ j) k) := by
  blk_point [iblk, V, idx t, row, colZ]
theorem blk6 (t : Fin cfg0.N) (r : Fin 1) (l : Fin 1024) : iblk m c 6 t (ix2 r l) = aF m c (ix2 r l) := by
  blk_point [iblk, V, idx t, row, col]
theorem blk7 (t : Fin cfg0.N) (r : Fin 1024) (l : Fin 1024) : iblk m c 7 t (ix2 r l) = aT m c (ix2 (row t r) l) := by
  blk_point [iblk, V, idx t, row, col]
theorem emb8 (t : Fin cfg0.N) (r : Fin 1024) (l : Fin 1024) : ((cfg0.win 8).blk t).view.emb (ix2 r l) = ix2 (row t r) l := by
  blk_ext [idx t, row, col]
theorem emb9 (t : Fin cfg0.N) (r : Fin 1024) (j : Fin 256) : ((cfg0.win 9).blk t).view.emb (ix2 r j) = ix2 (row t r) (col t j) := by
  blk_ext [idx t, row, col]
theorem emb10 (t : Fin cfg0.N) (r : Fin 1024) (j : Fin 256) : ((cfg0.win 10).blk t).view.emb (ix2 r j) = ix2 (row t r) (col t j) := by
  blk_ext [idx t, row, col]
theorem emb11 (t : Fin cfg0.N) (r : Fin 1024) (l : Fin 1024) : ((cfg0.win 11).blk t).view.emb (ix2 r l) = ix2 (row t r) l := by
  blk_ext [idx t, row, col]
theorem emb12 (t : Fin cfg0.N) (r : Fin 1024) (j : Fin 256) : ((cfg0.win 12).blk t).view.emb (ix2 r j) = ix2 (row t r) (col t j) := by
  blk_ext [idx t, row, col]

/-- The same row and column by the numbers of their blocks. -/
def rowN (i : ℕ) (r : Fin 1024) : Fin 4096 := ⟨(i * 1024 + r.val) % 4096, Nat.mod_lt _ (by decide)⟩
def colN (s : ℕ) (j : Fin 256) : Fin 2816 := ⟨(s * 256 + j.val) % 2816, Nat.mod_lt _ (by decide)⟩

variable {n : ℕ} (hn : n < 44)

include hn in
theorem row_pt (r : Fin 1024) : row (pt n) r = rowN (n / 11) r := Fin.ext (by simp only [row, rowN, pt]; omega)
include hn in
theorem col_pt (j : Fin 256) : col (pt n) j = colN (n % 11) j := Fin.ext (by simp only [col, colN, pt]; omega)
include hn in
theorem colB_pt (j : Fin 256) : colB (pt n) j = colN (n % 11 - 1) j := Fin.ext (by simp only [colB, colN, pt]; omega)
theorem colZ_eq (j : Fin 256) : colZ j = colN 10 j := Fin.ext (by simp only [colZ, colN]; omega)

/-- The normalised rows, the two products, the gated product. -/
def hh (r : Fin 4096) (l : Fin 1024) : EReal := aX m c (ix2 r l) * rstd cN (fun k => aX m c (ix2 r k)) * aG m c (ix2 0 l)
def pa (r : Fin 4096) (j : Fin 2816) : EReal := ∑ l : Fin 1024, hh m c r l * aWg m c (ix2 j l)
def pb (r : Fin 4096) (j : Fin 2816) : EReal := ∑ l : Fin 1024, hh m c r l * aWu m c (ix2 j l)
def sg (r : Fin 4096) (j : Fin 2816) : EReal := pa m c r j * sgK (pa m c r j) * pb m c r j

/-- What one column block adds to the down projection. -/
def part (r : Fin 4096) (k : Fin 1024) (s : ℕ) : EReal := ∑ l : Fin 256, sg m c r (colN s l) * aWd m c (ix2 (colN s l) k)

include hn in
theorem h_pt (r : Fin 1024) (l : Fin 1024) : hAt m c n (ix2 r l) = hh m c (rowN (n / 11) r) l := by
  have hb : n - n % 11 < 44 := by omega
  unfold hAt hh
  rw [Pay.h_at]
  simp only [blk0, blk1, row_pt hb, show (n - n % 11) / 11 = n / 11 by omega]

include hn in
theorem a_pt (r : Fin 1024) (j : Fin 256) : aAt m c n (ix2 r j) = pa m c (rowN (n / 11) r) (colN (n % 11) j) := by
  unfold aAt pa
  rw [Pay.a_at]
  unfold Pay.dot
  simp only [h_pt m c hn, blk2, col_pt hn]

include hn in
theorem b_pt (r : Fin 1024) (j : Fin 256) : bAt m c n (ix2 r j) = pb m c (rowN (n / 11) r) (colN (n % 11) j) := by
  unfold bAt pb
  rw [Pay.b_at]
  unfold Pay.dot
  simp only [h_pt m c hn, blk3, col_pt hn]

include hn in
theorem s_pt (r : Fin 1024) (j : Fin 256) : sAt m c n (ix2 r j) = sg m c (rowN (n / 11) r) (colN (n % 11) j) := by
  unfold sAt sg
  rw [Pay.s_at, ← a_pt m c hn, ← b_pt m c hn]
  unfold aAt bAt
  rw [Pay.a_at, Pay.b_at]

theorem held_a (r : Fin 1024) (j : Fin 256) : (held m c n).a (ix2 r j) = sAt m c n (ix2 r j) := by
  rw [held_eq]; exact Pay.next_a _ _ _ _ _ _ _
theorem held_h (r : Fin 1024) (k : Fin 1024) : (held m c n).h (ix2 r k)
    = (pre m c n).h (ix2 r k) + Pay.down (pre m c n).a (iblk m c 4 (pt n)) r k := by
  rw [held_eq]; exact Pay.next_h _ _ _ _ _ _ _

theorem acc_at (n : ℕ) : n < 44 → ∀ r k, (held m c n).h (ix2 r k) = ∑ s ∈ range (n % 11), part m c (rowN (n / 11) r) k s := by
  have first (n : ℕ) (h : n % 11 = 0) (r k) : (held m c n).h (ix2 r k) = ∑ s ∈ range (n % 11), part m c (rowN (n / 11) r) k s := by
    rw [held_h, pre_first m c n h, h, Pay.clear_h]
    unfold Pay.down
    simp only [Pay.clear_a, zero_mul, Finset.sum_const_zero, add_zero, Finset.range_zero, Finset.sum_empty]
  induction n with
  | zero => exact fun _ => first 0 rfl
  | succ n ih =>
    intro hn r k
    by_cases h : (n + 1) % 11 = 0
    · exact first _ h r k
    · have hn' : n < 44 := by omega
      have e1 : (n + 1) / 11 = n / 11 := by omega
      have e2 : (n + 1) % 11 = n % 11 + 1 := by omega
      rw [held_h, pre_rest m c _ h, Nat.add_sub_cancel, ih hn' r k, e1, e2, Finset.sum_range_succ]
      unfold Pay.down part
      simp only [held_a, s_pt m c hn', blk4, colB_pt hn, e2, Nat.add_sub_cancel]

theorem parts (r : Fin 4096) (k : Fin 1024) : ∑ s ∈ range 11, part m c r k s = ∑ l : Fin 2816, sg m c r l * aWd m c (ix2 l k) := by
  unfold part
  rw [Finset.sum_range]
  refine Fin.sum_mul_add_congr (fun s l hl => ?_) rfl
  rw [show colN s.val l = ⟨s.val * 256 + l.val, hl⟩ from Fin.ext (Nat.mod_eq_of_lt hl)]

/-- The FFN's output, and a row of the last gain and of the target. -/
def xo (r : Fin 4096) (k : Fin 1024) : EReal := aX m c (ix2 r k) + cH * ∑ l : Fin 2816, sg m c r l * aWd m c (ix2 l k)
abbrev fg : Fin 1024 → EReal := fun k => aF m c (ix2 0 k)
abbrev tg (r : Fin 4096) : Fin 1024 → EReal := fun k => aT m c (ix2 r k)

include hn in
theorem xo_pt (h : n % 11 = 10) (r : Fin 1024) :
    Pay.xo (sAt m c n) (iblk m c 0 (pt n)) (held m c n).h (iblk m c 5 (pt n)) r = xo m c (rowN (n / 11) r) := by
  funext k
  unfold Pay.xo xo
  rw [acc_at m c n hn, ← parts, h, Finset.sum_range_succ _ 10]
  unfold Pay.down part
  simp only [s_pt m c hn, blk0, blk5, row_pt hn, colZ_eq, h]

theorem fg_pt : Pay.row (iblk m c 6 (pt n)) = fg m c := funext fun k => blk6 m c _ _ _

include hn in
theorem tg_pt (r : Fin 1024) : Pay.line (iblk m c 7 (pt n)) r = tg m c (rowN (n / 11) r) := funext fun k => by
  unfold Pay.line tg
  rw [blk7, row_pt hn]

/-- The loss's gradient at the error, and the normalised output. -/
abbrev dyM (r : Fin 4096) : Fin 1024 → EReal := dy (xo m c r) (fg m c) (tg m c r)
abbrev hatM (r : Fin 4096) (k : Fin 1024) : EReal := xo m c r k * rstd cN (xo m c r)

include hn in
theorem dy_pt (h : n % 11 = 10) (r k : Fin 1024) : dyAt m c n (ix2 r k) = dyM m c (rowN (n / 11) r) k := by
  unfold dyAt
  rw [Pay.dy_at, xo_pt m c hn h, fg_pt, tg_pt m c hn]

include hn in
theorem hat_pt (h : n % 11 = 10) (r k : Fin 1024) : hatAt m c n (ix2 r k) = hatM m c (rowN (n / 11) r) k := by
  unfold hatAt
  rw [Pay.hat_at, xo_pt m c hn h]

include hn in
theorem loss_pt (h : n % 11 = 10) (y z : Fin 1) :
    lossAt m c n (ix2 y z) = cH * ∑ r : Fin 1024, meanSq (xo m c (rowN (n / 11) r)) (fg m c) (tg m c (rowN (n / 11) r)) := by
  unfold lossAt
  rw [Pay.loss_at]
  simp only [xo_pt m c hn h, fg_pt, tg_pt m c hn]

/-- What one row block adds to the gain's gradient and to the loss. -/
def gpart (j : Fin 1024) (i : ℕ) : EReal := ∑ r : Fin 1024, dyM m c (rowN i r) j * hatM m c (rowN i r) j
def lpart (i : ℕ) : EReal := cH * ∑ r : Fin 1024, meanSq (xo m c (rowN i r)) (fg m c) (tg m c (rowN i r))

theorem gpart_at (k : ℕ) (hk : k < 4) (a : Fin 1) (j : Fin 1024) :
    k0_pay4 (hatAt m c (11 * k + 10)) (dyAt m c (11 * k + 10)) (ix2 a j) = gpart m c j k := by
  have hn : 11 * k + 10 < 44 := by omega
  have e : (11 * k + 10) / 11 = k := by omega
  rw [Pay.gain_at]
  unfold gpart
  simp only [dy_pt m c hn (by omega), hat_pt m c hn (by omega), e]

theorem lpart_at (k : ℕ) (hk : k < 4) (y z : Fin 1) : lossAt m c (11 * k + 10) (ix2 y z) = lpart m c k := by
  have hn : 11 * k + 10 < 44 := by omega
  rw [loss_pt m c hn (by omega), show (11 * k + 10) / 11 = k by omega]
  rfl

theorem gain_at (k : ℕ) : k < 4 → ∀ a j, gain m c k (ix2 a j) = ∑ i ∈ range (k + 1), gpart m c j i := by
  induction k with
  | zero =>
    intro hk a j
    rw [Finset.sum_range_one]
    exact gpart_at m c 0 hk a j
  | succ k ih =>
    intro hk a j
    rw [Finset.sum_range_succ, ← ih (by omega) a j, ← gpart_at m c (k + 1) hk a j]
    exact Pay.gain_add _ _ _ _ _

theorem loss_at (k : ℕ) : k < 4 → ∀ a j, loss m c k (ix2 a j) = ∑ i ∈ range (k + 1), lpart m c i := by
  induction k with
  | zero =>
    intro hk a j
    rw [Finset.sum_range_one]
    exact (Pay.loss_first _ _ _).trans (lpart_at m c 0 hk 0 0)
  | succ k ih =>
    intro hk a j
    rw [Finset.sum_range_succ, ← ih (by omega) a j, ← lpart_at m c (k + 1) hk 0 0]
    exact Pay.loss_add _ _ _ _

/-- The seven results. -/
def G8 : FVec Ideal S4096x1024 .f32 := fun i => dxK cN (xo m c (i 0)) (dyM m c (i 0)) (fg m c) 0 (i 1)
def G9 : FVec Ideal S4096x2816 .bf16 := fun i => pa m c (i 0) (i 1)
def G10 : FVec Ideal S4096x2816 .bf16 := fun i => pb m c (i 0) (i 1)
def G11 : FVec Ideal S4096x1024 .bf16 := fun i => hh m c (i 0) (i 1)
def G12 : FVec Ideal S4096x2816 .bf16 := fun i => sg m c (i 0) (i 1)
def G13 : FVec Ideal S1x1024 .f32 := fun i => ∑ r : Fin 4096, dyM m c r (i 1) * hatM m c r (i 1)
def G14 : FVec Ideal S1x1024 .f32 := fun _ => ∑ i ∈ range 4, lpart m c i

theorem row_t (t : Fin cfg0.N) (r : Fin 1024) : rowN (t.val / 11) r = row t r := by rw [← row_pt (lt44 t), pt_val]
theorem col_t (t : Fin cfg0.N) (j : Fin 256) : colN (t.val % 11) j = col t j := by rw [← col_pt (lt44 t), pt_val]

theorem point8 (t : Fin cfg0.N) (h : t.val % 11 = 10) (y) : dxAt m c t.val y = G8 m c (((cfg0.win 8).blk t).view.emb y) := by
  idx_vars y
  unfold dxAt
  rw [Pay.dx_at, emb8, xo_pt m c (lt44 t) h, fg_pt, tg_pt m c (lt44 t), row_t]
  rfl

theorem point9 (t : Fin cfg0.N) (y) : aAt m c t.val y = G9 m c (((cfg0.win 9).blk t).view.emb y) := by
  idx_vars y
  rw [a_pt m c (lt44 t), emb9, row_t, col_t]
  rfl

theorem point10 (t : Fin cfg0.N) (y) : bAt m c t.val y = G10 m c (((cfg0.win 10).blk t).view.emb y) := by
  idx_vars y
  rw [b_pt m c (lt44 t), emb10, row_t, col_t]
  rfl

theorem point11 (t : Fin cfg0.N) (y) : hAt m c t.val y = G11 m c (((cfg0.win 11).blk t).view.emb y) := by
  idx_vars y
  rw [h_pt m c (lt44 t), emb11, row_t]
  rfl

theorem point12 (t : Fin cfg0.N) (y) : sAt m c t.val y = G12 m c (((cfg0.win 12).blk t).view.emb y) := by
  idx_vars y
  rw [s_pt m c (lt44 t), emb12, row_t, col_t]
  rfl

theorem final8 : (dats m 0 c).arrAt 8 cfg0.N = G8 m c := by
  refine (dats m 0 c).arrAt_eq_of_covers 8 (G8 m c) (by decide +kernel) fun t h y => ?_
  blk_simp
  rw [after_8]
  exact point8 m c t ((flush0_8 t).mp h) y

theorem final9 : (dats m 0 c).arrAt 9 cfg0.N = G9 m c := by
  refine (dats m 0 c).arrAt_eq_of_covers 9 (G9 m c) (by decide +kernel) fun t _ y => ?_
  blk_simp
  rw [after_9]
  exact point9 m c t y

theorem final10 : (dats m 0 c).arrAt 10 cfg0.N = G10 m c := by
  refine (dats m 0 c).arrAt_eq_of_covers 10 (G10 m c) (by decide +kernel) fun t _ y => ?_
  blk_simp
  rw [after_10]
  exact point10 m c t y

theorem final11 : (dats m 0 c).arrAt 11 cfg0.N = G11 m c := by
  refine (dats m 0 c).arrAt_eq_of_covers 11 (G11 m c) (by decide +kernel) fun t _ y => ?_
  blk_simp
  rw [after_11]
  exact point11 m c t y

theorem final12 : (dats m 0 c).arrAt 12 cfg0.N = G12 m c := by
  refine (dats m 0 c).arrAt_eq_of_covers 12 (G12 m c) (by decide +kernel) fun t _ y => ?_
  blk_simp
  rw [after_12]
  exact point12 m c t y

theorem final13 : (dats m 0 c).arrAt 13 cfg0.N = G13 m c := by
  refine (dats m 0 c).arrAt_eq_of_after_last 13 (pt 43) (by decide +kernel) _ fun j => ?_
  blk_simp
  rw [after_13]
  idx_vars j
  show gain m c 3 _ = _
  refine (gain_at m c 3 (by decide) _ _).trans ?_
  rw [Finset.sum_range]
  unfold gpart G13
  refine Fin.sum_mul_add_congr (fun s l hl => ?_) rfl
  rw [show rowN s.val l = ⟨s.val * 1024 + l.val, hl⟩ from Fin.ext (Nat.mod_eq_of_lt hl)]
  rfl

theorem final14 : (dats m 0 c).arrAt 14 cfg0.N = G14 m c := by
  refine (dats m 0 c).arrAt_eq_of_after_last 14 (pt 43) (by decide +kernel) _ fun j => ?_
  blk_simp
  rw [after_14]
  idx_vars j
  show loss m c 3 _ = _
  exact loss_at m c 3 (by decide) _ _

/-- The row blocks' losses together, at real numbers. -/
theorem loss_sum (h : ∀ r, ∃ s : ℝ, meanSq (xo m c r) (fg m c) (tg m c r) = (s : EReal)) :
    ∑ i ∈ range 4, lpart m c i = cH * ∑ r : Fin 4096, meanSq (xo m c r) (fg m c) (tg m c r) := by
  rw [half_sum _ h, Finset.sum_range]
  unfold lpart
  simp only [half_sum _ fun l => h (rowN _ l)]
  refine Fin.sum_mul_add_congr (fun s l hl => ?_) rfl
  rw [show rowN s.val l = ⟨s.val * 1024 + l.val, hl⟩ from Fin.ext (Nat.mod_eq_of_lt hl)]

end Cert.FfnHeadIdeal.Fin

end
-- ==== Proof.FfnHead.Ref.lean ====
/- What the reference of the second FFN's forward call with the loss returns, read at an element. -/
module

public import proofs.«01_k».proof.Proof.Shared.Loss
public import proofs.«01_k».proof.Proof.Gen.FfnHeadRefIdeal.Read
public import Idealize.ShloMosaic.Lib.Pointwise

@[expose] public section

set_option maxRecDepth 16384

noncomputable section

namespace Cert.FfnHeadRefIdeal.Spec

open Idealize.ShloMosaic Idealize.ShloMosaic.TcCoe Idealize.SL.Sem
open Cert.FfnHeadRefIdeal Cert.FfnHeadRefIdeal.Gen Cert.FfnHeadRefIdeal.Read Cert.Shared

variable (x0 x6 : FVec Ideal S4096x1024 .f32) (x1 x5 : FVec Ideal S1x1024 .f32) (x2 x3 : FVec Ideal S1024x2816 .f32) (x4 : FVec Ideal S2816x1024 .f32)

/-- A product's entry: the normalised row times a column. -/
abbrev pre (x : FVec Ideal S4096x1024 .f32) (g : FVec Ideal S1x1024 .f32) (w : FVec Ideal S1024x2816 .f32) (r : Fin 4096) (j : Fin 2816) : EReal :=
  preact (fun l => x (ix2 r l)) (fun l => g (ix2 0 l)) (fun l => w (ix2 l j))
/-- The gated product, and the FFN's output. -/
def sg (r : Fin 4096) (j : Fin 2816) : EReal := pre x0 x1 x2 r j * sgR (pre x0 x1 x2 r j) * pre x0 x1 x3 r j
def xo (r : Fin 4096) (k : Fin 1024) : EReal := x0 (ix2 r k) + cH * ∑ l : Fin 2816, sg x0 x1 x2 x3 r l * x4 (ix2 l k)
/-- The loss's gradient at the error, and the rows the loss reads. -/
abbrev fg (x5 : FVec Ideal S1x1024 .f32) : Fin 1024 → EReal := fun k => x5 (ix2 0 k)
abbrev tg (x6 : FVec Ideal S4096x1024 .f32) (r : Fin 4096) : Fin 1024 → EReal := fun k => x6 (ix2 r k)
abbrev dyM (r : Fin 4096) : Fin 1024 → EReal := dy (xo x0 x1 x2 x3 x4 r) (fg x5) (tg x6 r)

theorem v11_at (r : Fin 4096) (j : Fin 1024) :
    val_main_v11 (F := Ideal) x0 x1 (ix2 r j) = x0 (ix2 r j) * rstd cN (fun k => x0 (ix2 r k)) * x1 (ix2 0 j) := by
  unfold rstd ms
  pointwise! [val_main_v11, val_main_v10, val_main_v9, val_main_v8, val_main_v7, val_main_v6, val_main_v4, val_main_v5, val_main_v2, val_main_v3, val_main_v1, val_main_v0, val_main_cst, val_main_cst_0, val_main_cst_1]

theorem v25_at (r : Fin 4096) (j : Fin 1024) :
    val_main_v25 (F := Ideal) x0 x1 (ix2 r j) = x0 (ix2 r j) * rstd cN (fun k => x0 (ix2 r k)) * x1 (ix2 0 j) := by
  unfold rstd ms
  pointwise! [val_main_v25, val_main_v24, val_main_v23, val_main_v22, val_main_v21, val_main_v20, val_main_v18, val_main_v19, val_main_v16, val_main_v17, val_main_v15, val_main_v14, val_main_cst_2, val_main_cst_3, val_main_cst_4]

theorem v12_at (r : Fin 4096) (j : Fin 2816) : val_main_v12 (F := Ideal) x0 x1 x2 (ix2 r j) = pre x0 x1 x2 r j := by
  have h := v11_at x0 x1
  unfold val_main_v12 pre preact
  generalize val_main_v11 (F := Ideal) x0 x1 = p at *
  pointwise! [h]

theorem v13_at (r : Fin 4096) (j : Fin 2816) : val_main_v13 (F := Ideal) x0 x1 x3 (ix2 r j) = pre x0 x1 x3 r j := v12_at x0 x1 x3 r j

theorem v26_at (r : Fin 4096) (j : Fin 2816) : val_main_v26 (F := Ideal) x0 x1 x2 (ix2 r j) = pre x0 x1 x2 r j := by
  have h := v25_at x0 x1
  unfold val_main_v26 pre preact
  generalize val_main_v25 (F := Ideal) x0 x1 = p at *
  pointwise! [h]

theorem v28_at (r : Fin 4096) (j : Fin 2816) : val_main_v28 (F := Ideal) x0 x1 x3 (ix2 r j) = pre x0 x1 x3 r j := v26_at x0 x1 x3 r j

theorem gate1 (r : Fin 4096) (j : Fin 2816) : val_main_call1_v5 (F := Ideal) x0 x1 x2 (ix2 r j) = sgR (pre x0 x1 x2 r j) := by
  rw [← v12_at]
  unfold val_main_call1_v5 val_main_call1_v3 val_main_call1_v1 val_main_call1_v0 sgR
  generalize val_main_v12 (F := Ideal) x0 x1 x2 = p
  pointwise! [val_main_call1_v4, val_main_call1_cst_0, val_main_call1_v2, val_main_call1_cst]

theorem gate0 (r : Fin 4096) (j : Fin 2816) : val_main_call0_v5 (F := Ideal) x0 x1 x2 (ix2 r j) = sgR (pre x0 x1 x2 r j) := by
  rw [← v26_at]
  unfold val_main_call0_v5 val_main_call0_v3 val_main_call0_v1 val_main_call0_v0 sgR
  generalize val_main_v26 (F := Ideal) x0 x1 x2 = p
  pointwise! [val_main_call0_v4, val_main_call0_cst_0, val_main_call0_v2, val_main_call0_cst]

theorem s_at (r : Fin 4096) (j : Fin 2816) : val_main_v89 (F := Ideal) x0 x1 x2 x3 (ix2 r j) = sg x0 x1 x2 x3 r j := by
  show val_main_v12 (F := Ideal) x0 x1 x2 (ix2 r j) * val_main_call1_v5 (F := Ideal) x0 x1 x2 (ix2 r j) * val_main_v13 (F := Ideal) x0 x1 x3 (ix2 r j) = _
  rw [v12_at, v13_at, gate1]
  rfl

theorem v29_at (r : Fin 4096) (j : Fin 2816) : val_main_v29 (F := Ideal) x0 x1 x2 x3 (ix2 r j) = sg x0 x1 x2 x3 r j := by
  show val_main_v26 (F := Ideal) x0 x1 x2 (ix2 r j) * val_main_call0_v5 (F := Ideal) x0 x1 x2 (ix2 r j) * val_main_v28 (F := Ideal) x0 x1 x3 (ix2 r j) = _
  rw [v26_at, v28_at, gate0]
  rfl

theorem v33_at (r : Fin 4096) (k : Fin 1024) : val_main_v33 (F := Ideal) x0 x1 x2 x3 x4 (ix2 r k) = xo x0 x1 x2 x3 x4 r k := by
  have h := v29_at x0 x1 x2 x3
  unfold val_main_v33 val_main_v32 val_main_v30 xo
  generalize val_main_v29 (F := Ideal) x0 x1 x2 x3 = p at *
  pointwise! [h, val_main_v31, val_main_cst_5]

theorem v40_at (r : Fin 4096) (z : Fin 1) : val_main_v40 (F := Ideal) x0 x1 x2 x3 x4 (ix2 r z) = ms cN (xo x0 x1 x2 x3 x4 r) := by
  have h := v33_at x0 x1 x2 x3 x4
  unfold val_main_v40 val_main_v38 val_main_v36 val_main_v35 val_main_v34 ms
  generalize val_main_v33 (F := Ideal) x0 x1 x2 x3 x4 = p at *
  pointwise! [h, val_main_v39, val_main_v37, val_main_cst_6, val_main_cst_7, val_main_cst_8]

theorem v41_at (r : Fin 4096) (z : Fin 1) : val_main_v41 (F := Ideal) x0 x1 x2 x3 x4 (ix2 r z) = rstd cN (xo x0 x1 x2 x3 x4 r) := by
  show Ideal.rsqrt (val_main_v40 (F := Ideal) x0 x1 x2 x3 x4 (ix2 r z)) = _
  rw [v40_at]
  rfl

theorem v46_at (r : Fin 4096) (k : Fin 1024) :
    val_main_v46 (F := Ideal) x0 x1 x2 x3 x4 (ix2 r k) = xo x0 x1 x2 x3 x4 r k * rstd cN (xo x0 x1 x2 x3 x4 r) := by
  have h := v33_at x0 x1 x2 x3 x4
  have h' := v41_at x0 x1 x2 x3 x4
  unfold val_main_v46 val_main_v45
  generalize val_main_v33 (F := Ideal) x0 x1 x2 x3 x4 = p at *
  generalize val_main_v41 (F := Ideal) x0 x1 x2 x3 x4 = q at *
  pointwise! [h, h']

theorem v49_at (r : Fin 4096) (k : Fin 1024) :
    val_main_v49 (F := Ideal) x0 x1 x2 x3 x4 x5 x6 (ix2 r k) = err (xo x0 x1 x2 x3 x4 r) (fg x5) (tg x6 r) k := by
  have h := v46_at x0 x1 x2 x3 x4
  unfold val_main_v49 val_main_v48 err
  generalize val_main_v46 (F := Ideal) x0 x1 x2 x3 x4 = p at *
  pointwise! [h, val_main_v47]

theorem v55_at (r : Fin 4096) :
    val_main_v55 (F := Ideal) x0 x1 x2 x3 x4 x5 x6 (ix1 r) = meanSq (xo x0 x1 x2 x3 x4 r) (fg x5) (tg x6 r) := by
  have h := v49_at x0 x6 x1 x5 x2 x3 x4
  unfold val_main_v55 val_main_v53 val_main_v50 meanSq
  generalize val_main_v49 (F := Ideal) x0 x1 x2 x3 x4 x5 x6 = p at *
  pointwise! [h, val_main_v54, val_main_cst_11, val_main_cst_12]

theorem loss_at (a : Fin 1) (j : Fin 1024) : val_main_v90 (F := Ideal) x0 x1 x2 x3 x4 x5 x6 (ix2 a j)
    = cH * ∑ r : Fin 4096, meanSq (xo x0 x1 x2 x3 x4 r) (fg x5) (tg x6 r) := by
  have h := v55_at x0 x6 x1 x5 x2 x3 x4
  unfold val_main_v90 val_main_v57 val_main_v56
  generalize val_main_v55 (F := Ideal) x0 x1 x2 x3 x4 x5 x6 = p at *
  pointwise! [h, val_main_cst_13, val_main_cst_14]

theorem v63_at (r : Fin 4096) (k : Fin 1024) :
    val_main_v63 (F := Ideal) x0 x1 x2 x3 x4 x5 x6 (ix2 r k) = dyM x0 x6 x1 x5 x2 x3 x4 r k := by
  have h := v49_at x0 x6 x1 x5 x2 x3 x4
  unfold dyM dy
  rw [← h, ← dy_eq]
  unfold val_main_v63 val_main_v52
  generalize val_main_v49 (F := Ideal) x0 x1 x2 x3 x4 x5 x6 = p at *
  pointwise! [val_main_v62, val_main_v61, val_main_v60, val_main_v59, val_main_v58, val_main_v51, val_main_cst_10, val_main_cst_15, val_main_cst_16, val_main_cst_17]

theorem gain_at (a : Fin 1) (j : Fin 1024) : val_main_v67 (F := Ideal) x0 x1 x2 x3 x4 x5 x6 (ix2 a j)
    = ∑ r : Fin 4096, dyM x0 x6 x1 x5 x2 x3 x4 r j * (xo x0 x1 x2 x3 x4 r j * rstd cN (xo x0 x1 x2 x3 x4 r)) := by
  have h := v46_at x0 x1 x2 x3 x4
  have h' := v63_at x0 x6 x1 x5 x2 x3 x4
  unfold val_main_v67 val_main_v66 val_main_v65
  generalize val_main_v46 (F := Ideal) x0 x1 x2 x3 x4 = p at *
  generalize val_main_v63 (F := Ideal) x0 x1 x2 x3 x4 x5 x6 = q at *
  pointwise [h, h', val_main_cst_18]
  exact Finset.sum_congr rfl fun _ _ => mul_comm _ _

theorem v69_at (r : Fin 4096) (k : Fin 1024) :
    val_main_v69 (F := Ideal) x0 x1 x2 x3 x4 x5 x6 (ix2 r k) = dyM x0 x6 x1 x5 x2 x3 x4 r k * x5 (ix2 0 k) := by
  have h := v63_at x0 x6 x1 x5 x2 x3 x4
  unfold val_main_v69 val_main_v68
  generalize val_main_v63 (F := Ideal) x0 x1 x2 x3 x4 x5 x6 = p at *
  pointwise! [h]

theorem v44_at (r : Fin 4096) (z : Fin 1) : val_main_v44 (F := Ideal) x0 x1 x2 x3 x4 (ix2 r z)
    = cM * Ideal.div (rstd cN (xo x0 x1 x2 x3 x4 r)) (ms cN (xo x0 x1 x2 x3 x4 r)) := by
  rw [← v40_at x0 x1 x2 x3 x4 r z, ← v41_at x0 x1 x2 x3 x4 r z]
  unfold val_main_v44 val_main_v42
  generalize val_main_v40 (F := Ideal) x0 x1 x2 x3 x4 = p
  generalize val_main_v41 (F := Ideal) x0 x1 x2 x3 x4 = q
  pointwise! [val_main_v43, val_main_cst_9]

theorem v79_at (r : Fin 4096) (k : Fin 1024) : val_main_v79 (F := Ideal) x0 x1 x2 x3 x4 x5 x6 (ix2 r k)
    = dxQ cN (xo x0 x1 x2 x3 x4 r) (dyM x0 x6 x1 x5 x2 x3 x4 r) (fg x5) := by
  have h := v33_at x0 x1 x2 x3 x4
  have h1 := v69_at x0 x6 x1 x5 x2 x3 x4
  have h2 := v44_at x0 x1 x2 x3 x4
  unfold dxQ
  rw [← h2 r 0]
  simp only [← h1, ← h]
  unfold val_main_v79 val_main_v78 val_main_v77 val_main_v75 val_main_v72 val_main_v71 val_main_v70
  generalize val_main_v33 (F := Ideal) x0 x1 x2 x3 x4 = p at *
  generalize val_main_v69 (F := Ideal) x0 x1 x2 x3 x4 x5 x6 = q at *
  generalize val_main_v44 (F := Ideal) x0 x1 x2 x3 x4 = o at *
  pointwise [val_main_v76, val_main_cst_19, val_main_cst_20, val_main_cst_21]
  exact Fin.sum_univ_one _

theorem dx_at (r : Fin 4096) (j : Fin 1024) : val_main_v83 (F := Ideal) x0 x1 x2 x3 x4 x5 x6 (ix2 r j)
    = dxR cN (xo x0 x1 x2 x3 x4 r) (dyM x0 x6 x1 x5 x2 x3 x4 r) (fg x5) 0 j := by
  have h := v33_at x0 x1 x2 x3 x4 r j
  have h1 := v69_at x0 x6 x1 x5 x2 x3 x4 r j
  have h2 := v41_at x0 x1 x2 x3 x4 r 0
  have h3 := v79_at x0 x6 x1 x5 x2 x3 x4 r j
  unfold dxR
  rw [← h3, ← h2, ← h1, ← h, zero_add]
  unfold val_main_v83 val_main_v81 val_main_v80 val_main_v82 val_main_v74 val_main_v73
  generalize val_main_v33 (F := Ideal) x0 x1 x2 x3 x4 = p at *
  generalize val_main_v69 (F := Ideal) x0 x1 x2 x3 x4 x5 x6 = q at *
  generalize val_main_v41 (F := Ideal) x0 x1 x2 x3 x4 = o at *
  generalize val_main_v79 (F := Ideal) x0 x1 x2 x3 x4 x5 x6 = n at *
  pointwise!

theorem a_at (r : Fin 4096) (j : Fin 2816) : val_main_v86 (F := Ideal) x0 x1 x2 (ix2 r j) = pre x0 x1 x2 r j := v12_at x0 x1 x2 r j
theorem b_at (r : Fin 4096) (j : Fin 2816) : val_main_v87 (F := Ideal) x0 x1 x3 (ix2 r j) = pre x0 x1 x3 r j := v13_at x0 x1 x3 r j
theorem h_at (r : Fin 4096) (j : Fin 1024) :
    val_main_v88 (F := Ideal) x0 x1 (ix2 r j) = x0 (ix2 r j) * rstd cN (fun k => x0 (ix2 r k)) * x1 (ix2 0 j) := v11_at x0 x1 r j

end Cert.FfnHeadRefIdeal.Spec

end
-- ==== Proof.FfnHead.Claim.lean ====
/- The claims about the second FFN's forward call with the loss. -/
module

public import proofs.«01_k».proof.Defs
public import proofs.«01_k».proof.Proof.FfnHead.Value
public import proofs.«01_k».proof.Proof.FfnHead.Ref
public import proofs.«01_k».proof.Proof.Gen.FfnHead
public import proofs.«01_k».proof.Proof.Gen.FfnHeadRefIdeal.Run
public import proofs.«01_k».proof.Proof.Gen.Pre_finite_ffn_head

@[expose] public section

set_option maxRecDepth 16384

noncomputable section

namespace Cert.FfnHeadClaim

open Idealize.ShloMosaic Idealize.ShloMosaic.TcCoe Idealize.SL.Sem
open Cert.Shared

section Finite
open Cert.Pre_finite_ffn_head

/-- The precondition, as: every element of the arrays is a real number. -/
theorem finite (a0 : FVec Ideal S4096x1024 .f32) (a1 : FVec Ideal S1x1024 .f32) (a2 a3 : FVec Ideal S1024x2816 .f32) (a4 : FVec Ideal S2816x1024 .f32)
    (a5 : FVec Ideal S1x1024 .f32) (a6 : FVec Ideal S4096x1024 .f32) (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal)) := by
  have e := congrFun h (fun a => a.elim0)
  unfold fn fn_part1 at e
  obtain ⟨e, e6⟩ := and_eq_one _ _ e
  obtain ⟨e, e5⟩ := and_eq_one _ _ e
  obtain ⟨e, e4⟩ := and_eq_one _ _ e
  obtain ⟨e, e3⟩ := and_eq_one _ _ e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i),
    fun i => real_of_cmp _ (all_of_reduce _ _ _ _ _ e2 i), fun i => real_of_cmp _ (all_of_reduce _ _ _ _ _ e3 i),
    fun i => real_of_cmp _ (all_of_reduce _ _ _ _ _ e4 i), fun i => real_of_cmp _ (all_of_reduce _ _ _ _ _ e5 i),
    fun i => real_of_cmp _ (all_of_reduce _ _ _ _ _ e6 i)⟩

end Finite

section Kernel
open Cert.FfnHeadIdeal Cert.FfnHeadIdeal.Gen Cert.FfnHeadIdeal.Fin
variable (m : (ℓ : Loc nD τ sig) → Buf (Elt Ideal) ℓ) (c : Dev nD)

/-- The arguments' contents, at their shapes. -/
abbrev b0 : FVec Ideal S4096x1024 .f32 := m ((c : Thread nD τ).loc main_arg0)
abbrev b1 : FVec Ideal S1x1024 .f32 := m ((c : Thread nD τ).loc main_arg1)
abbrev b2 : FVec Ideal S1024x2816 .f32 := m ((c : Thread nD τ).loc main_arg2)
abbrev b3 : FVec Ideal S1024x2816 .f32 := m ((c : Thread nD τ).loc main_arg3)
abbrev b4 : FVec Ideal S2816x1024 .f32 := m ((c : Thread nD τ).loc main_arg4)
abbrev b5 : FVec Ideal S1x1024 .f32 := m ((c : Thread nD τ).loc main_arg5)
abbrev b6 : FVec Ideal S4096x1024 .f32 := m ((c : Thread nD τ).loc main_arg6)

theorem x_eq : aX m c = b0 m c := by rfl
theorem g_eq : aG m c = b1 m c := by rfl
theorem wd_eq : aWd m c = b4 m c := by rfl
theorem f_eq : aF m c = b5 m c := by rfl
theorem t_eq : aT m c = b6 m c := by rfl

theorem wg_eq (l : Fin 2816) (k : Fin 1024) : aWg m c (ix2 l k) = b2 m c (ix2 k l) := by
  have : aWg m c = transpose S2816x1024 [1, 0] (b2 m c) transposes_S1024x2816_S2816x1024_1_0 := by rfl
  rw [this]
  pointwise

theorem wu_eq (l : Fin 2816) (k : Fin 1024) : aWu m c (ix2 l k) = b3 m c (ix2 k l) := by
  have : aWu m c = transpose S2816x1024 [1, 0] (b3 m c) transposes_S1024x2816_S2816x1024_1_0 := by rfl
  rw [this]
  pointwise

theorem pa_eq (r : Fin 4096) (j : Fin 2816) : pa m c r j = Cert.FfnHeadRefIdeal.Spec.pre (b0 m c) (b1 m c) (b2 m c) r j := by
  unfold pa hh
  exact Finset.sum_congr rfl fun l _ => congrArg (_ * ·) (wg_eq m c j l)

theorem pb_eq (r : Fin 4096) (j : Fin 2816) : pb m c r j = Cert.FfnHeadRefIdeal.Spec.pre (b0 m c) (b1 m c) (b3 m c) r j := by
  unfold pb hh
  exact Finset.sum_congr rfl fun l _ => congrArg (_ * ·) (wu_eq m c j l)

end Kernel

theorem algebraic : Cert.algebraic_FfnHeadIdeal_FfnHeadRefIdeal_pre_finite_ffn_head := by
  intro m g m' g' hpre hag
  have ha : ∀ c r j, ∃ s : ℝ, Cert.FfnHeadRefIdeal.Spec.pre (b0 m c) (b1 m c) (b2 m c) r j = (s : EReal) := fun c r j => by
    obtain ⟨h0, h1, h2, h3, h4, h5, h6⟩ := finite _ _ _ _ _ _ _ (hpre c)
    exact preact_real _ _ _ (fun k => h0 _) (fun k => h1 _) (fun k => h2 _)
  have hb : ∀ c r j, ∃ s : ℝ, Cert.FfnHeadRefIdeal.Spec.pre (b0 m c) (b1 m c) (b3 m c) r j = (s : EReal) := fun c r j => by
    obtain ⟨h0, h1, h2, h3, h4, h5, h6⟩ := finite _ _ _ _ _ _ _ (hpre c)
    exact preact_real _ _ _ (fun k => h0 _) (fun k => h1 _) (fun k => h3 _)
  have hs : ∀ c r j, Cert.FfnHeadIdeal.Fin.sg m c r j = Cert.FfnHeadRefIdeal.Spec.sg (b0 m c) (b1 m c) (b2 m c) (b3 m c) r j := by
    intro c r j
    unfold Cert.FfnHeadIdeal.Fin.sg Cert.FfnHeadRefIdeal.Spec.sg
    rw [pa_eq, pb_eq, sgK_eq (ha c r j)]
  have hx : ∀ c r, Cert.FfnHeadIdeal.Fin.xo m c r = Cert.FfnHeadRefIdeal.Spec.xo (b0 m c) (b1 m c) (b2 m c) (b3 m c) (b4 m c) r := by
    intro c r
    funext k
    unfold Cert.FfnHeadIdeal.Fin.xo Cert.FfnHeadRefIdeal.Spec.xo
    simp only [hs]
    rfl
  have rx : ∀ c r k, ∃ s : ℝ, Cert.FfnHeadIdeal.Fin.xo m c r k = (s : EReal) := by
    intro c r k
    obtain ⟨h0, h1, h2, h3, h4, h5, h6⟩ := finite _ _ _ _ _ _ _ (hpre c)
    rw [hx]
    exact add_real (h0 _) (mul_real ⟨_, cH_eq⟩ (sum_real _ fun l => mul_real (mul_real (mul_real (ha c r l) (sgR_real (ha c r l))) (hb c r l)) (h4 _)))
  have rf : ∀ c k, ∃ s : ℝ, Cert.FfnHeadIdeal.Fin.fg m c k = (s : EReal) := fun c k => by
    obtain ⟨h0, h1, h2, h3, h4, h5, h6⟩ := finite _ _ _ _ _ _ _ (hpre c)
    exact h5 _
  have rt : ∀ c r k, ∃ s : ℝ, Cert.FfnHeadIdeal.Fin.tg m c r k = (s : EReal) := fun c r k => by
    obtain ⟨h0, h1, h2, h3, h4, h5, h6⟩ := finite _ _ _ _ _ _ _ (hpre c)
    exact h6 _
  refine ⟨fun c => Cert.FfnHeadIdeal.Fin.G8 m c, fun c => Cert.FfnHeadIdeal.Fin.G9 m c, fun c => Cert.FfnHeadIdeal.Fin.G10 m c,
    fun c => Cert.FfnHeadIdeal.Fin.G11 m c, fun c => Cert.FfnHeadIdeal.Fin.G12 m c, fun c => Cert.FfnHeadIdeal.Fin.G13 m c,
    fun c => Cert.FfnHeadIdeal.Fin.G14 m c,
    (θ_run _ _ _).mono (fun r h c => ?_) (θ_run_and (Cert.FfnHeadIdeal.Body.run_all m g) (Cert.FfnHeadIdeal.Body.frame_all m g)),
    (θ_run _ _ _).mono (fun r h c => ?_) (Cert.FfnHeadRefIdeal.Value.run m' g')⟩
  · obtain ⟨⟨hp, -⟩, hf, -⟩ := h
    exact ⟨((hp c).1 8).trans (Cert.FfnHeadIdeal.Fin.final8 m c), ((hp c).1 9).trans (Cert.FfnHeadIdeal.Fin.final9 m c),
      ((hp c).1 10).trans (Cert.FfnHeadIdeal.Fin.final10 m c), ((hp c).1 11).trans (Cert.FfnHeadIdeal.Fin.final11 m c),
      ((hp c).1 12).trans (Cert.FfnHeadIdeal.Fin.final12 m c), ((hp c).1 13).trans (Cert.FfnHeadIdeal.Fin.final13 m c),
      ((hp c).1 14).trans (Cert.FfnHeadIdeal.Fin.final14 m c), hf c⟩
  · obtain ⟨e0, e1, e2, e3, e4, e5, e6, e⟩ := h c
    obtain ⟨a0, a1, a2, a3, a4, a5, a6⟩ := hag c
    refine ⟨e0.trans ?_, e1.trans ?_, e2.trans ?_, e3.trans ?_, e4.trans ?_, e5.trans ?_, e6.trans ?_, e⟩
    · refine (Cert.FfnHeadRefIdeal.Read.val_main_v83_eq _ _).trans ?_
      rw [a0, a1, a2, a3, a4, a5, a6]
      funext i
      idx_vars i
      refine (Cert.FfnHeadRefIdeal.Spec.dx_at _ _ _ _ _ _ _ _ _).trans ?_
      unfold Cert.FfnHeadRefIdeal.Spec.dyM
      rw [← hx c i0]
      exact (dx_eq_1024 _ _ _ (rx c i0) (dy_real _ _ _ (rx c i0) (rf c) (rt c i0)) (rf c) _ _).symm
    · refine (Cert.FfnHeadRefIdeal.Read.val_main_v86_eq _ _ _).trans ?_
      rw [a0, a1, a2]
      funext i
      idx_vars i
      exact (Cert.FfnHeadRefIdeal.Spec.a_at _ _ _ _ _).trans (pa_eq m c i0 i1).symm
    · refine (Cert.FfnHeadRefIdeal.Read.val_main_v87_eq _ _ _).trans ?_
      rw [a0, a1, a3]
      funext i
      idx_vars i
      exact (Cert.FfnHeadRefIdeal.Spec.b_at _ _ _ _ _).trans (pb_eq m c i0 i1).symm
    · refine (Cert.FfnHeadRefIdeal.Read.val_main_v88_eq _ _).trans ?_
      rw [a0, a1]
      funext i
      idx_vars i
      exact Cert.FfnHeadRefIdeal.Spec.h_at _ _ _ _
    · refine (Cert.FfnHeadRefIdeal.Read.val_main_v89_eq _ _ _ _).trans ?_
      rw [a0, a1, a2, a3]
      funext i
      idx_vars i
      exact (Cert.FfnHeadRefIdeal.Spec.s_at _ _ _ _ _ _).trans (hs c i0 i1).symm
    · refine (Cert.FfnHeadRefIdeal.Read.val_main_v67_eq _ _).trans ?_
      rw [a0, a1, a2, a3, a4, a5, a6]
      funext i
      idx_vars i
      refine (Cert.FfnHeadRefIdeal.Spec.gain_at _ _ _ _ _ _ _ _ _).trans ?_
      unfold Cert.FfnHeadRefIdeal.Spec.dyM
      exact Finset.sum_congr rfl fun r _ => by rw [← hx c r]; rfl
    · refine (Cert.FfnHeadRefIdeal.Read.val_main_v90_eq _ _).trans ?_
      rw [a0, a1, a2, a3, a4, a5, a6]
      funext i
      idx_vars i
      refine (Cert.FfnHeadRefIdeal.Spec.loss_at _ _ _ _ _ _ _ _ _).trans ?_
      refine Eq.trans ?_ (Cert.FfnHeadIdeal.Fin.loss_sum m c fun r => meanSq_real _ _ _ (rx c r) (rf c) (rt c r)).symm
      exact congrArg (cH * ·) (Finset.sum_congr rfl fun r _ => by rw [← hx c r]; rfl)

section Frames
open Cert.FfnHeadIdeal Cert.FfnHeadIdeal.Gen Cert.FfnHeadIdeal.Body

/-- The frame at the bit-exact floats, of the text both programs share. -/
def FrameBits : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem frame_bits : FrameBits := fun m ρ _ => frame_all (F := Bits) m ρ

end Frames

theorem frame_same : Cert.quiescent_FfnHead = FrameBits := by sl_kernel_rfl

theorem frame_kernel : Cert.quiescent_FfnHead := frame_same.mpr frame_bits

theorem frame_ideal : Cert.quiescent_FfnHeadIdeal := fun m ρ _ => Cert.FfnHeadIdeal.Body.frame_all (F := Ideal) m ρ

theorem frame_ref : Cert.quiescent_FfnHeadRefIdeal := fun m g _ =>
  (θ_run _ _ _).mono (fun r h => ⟨fun c => (h c).2.2.2.2.2.2.2, sem_eq_zero_of_no_sems (by decide) r.2⟩) (Cert.FfnHeadRefIdeal.Value.run m g)

end Cert.FfnHeadClaim

end
-- ==== Proof.DownFwd.Value.lean ====
/- What the first FFN's down projection leaves in its two arrays: the sum with the residual, and its normalised rows. -/
module

public import proofs.«01_k».proof.Proof.Shared.Norm
public import proofs.«01_k».proof.Proof.Gen.DownFwdIdeal.Value
public import Idealize.ShloMosaic.Lib.Pointwise
public import Idealize.ShloMosaic.Lib.Pipeline.ValueKit

@[expose] public section

set_option maxRecDepth 16384

noncomputable section

namespace Cert.DownFwdIdeal.Fin

open Idealize.ShloMosaic Idealize.ShloMosaic.TcCoe Idealize.SL.Sem
open Idealize.ShloMosaic.Pipeline (Dat)
open Cert.DownFwdIdeal Cert.DownFwdIdeal.Gen Cert.Shared

section Pay
variable (x : FVec Ideal S512x1024 .f32) (s : FVec Ideal S512x2816 .bf16) (w : FVec Ideal S2816x1024 .bf16) (g : FVec Ideal S1x1024 .f32)

theorem xo_at (r : Fin 512) (k : Fin 1024) :
    k0_pay1 (F := Ideal) x s w (ix2 r k) = x (ix2 r k) + cH * ∑ l : Fin 2816, s (ix2 r l) * w (ix2 l k) := by
  pointwise! [k0_pay1]

theorem hn_at (r : Fin 512) (k : Fin 1024) : k0_pay2 (F := Ideal) x s w g (ix2 r k)
    = k0_pay1 (F := Ideal) x s w (ix2 r k) * rstd cN (fun k => k0_pay1 (F := Ideal) x s w (ix2 r k)) * g (ix2 0 k) := by
  unfold k0_pay2 rstd ms
  generalize k0_pay1 (F := Ideal) x s w = p
  pointwise!

end Pay

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The arrays the kernel's windows read, and the row of a block's row. -/
abbrev aX : FVec Ideal S4096x1024 .f32 := V m c main_arg0
abbrev aS : FVec Ideal S4096x2816 .bf16 := V m c main_v16
abbrev aW : FVec Ideal S2816x1024 .bf16 := V m c main_v17
abbrev aG : FVec Ideal S1x1024 .f32 := V m c main_arg5

theorem t_lt (t : Fin cfg0.N) : t.val < 8 := lt_of_lt_of_eq t.isLt N_0
def row (t : Fin cfg0.N) (r : Fin 512) : Fin 4096 := ⟨t.val * 512 + r.val, by have := t_lt t; omega⟩

theorem blk0 (t : Fin cfg0.N) (r : Fin 512) (k : Fin 1024) : iblk m c 0 t (ix2 r k) = aX m c (ix2 (row t r) k) := by
  blk_point [iblk, V, idx t, row]
theorem blk1 (t : Fin cfg0.N) (r : Fin 512) (l : Fin 2816) : iblk m c 1 t (ix2 r l) = aS m c (ix2 (row t r) l) := by
  blk_point [iblk, V, idx t, row]
theorem blk2 (t : Fin cfg0.N) (l : Fin 2816) (k : Fin 1024) : iblk m c 2 t (ix2 l k) = aW m c (ix2 l k) := by
  blk_point [iblk, V, idx t, row]
theorem blk3 (t : Fin cfg0.N) (a : Fin 1) (k : Fin 1024) : iblk m c 3 t (ix2 a k) = aG m c (ix2 a k) := by
  blk_point [iblk, V, idx t, row]
theorem emb4 (t : Fin cfg0.N) (r : Fin 512) (k : Fin 1024) : ((cfg0.win 4).blk t).view.emb (ix2 r k) = ix2 (row t r) k := by
  blk_ext [idx t, row]
theorem emb5 (t : Fin cfg0.N) (r : Fin 512) (k : Fin 1024) : ((cfg0.win 5).blk t).view.emb (ix2 r k) = ix2 (row t r) k := by
  blk_ext [idx t, row]

/-- The FFN's output, and the rows it leaves normalised. -/
def xo (r : Fin 4096) (k : Fin 1024) : EReal := aX m c (ix2 r k) + cH * ∑ l : Fin 2816, aS m c (ix2 r l) * aW m c (ix2 l k)
def G4 : FVec Ideal S4096x1024 .f32 := fun i => xo m c (i 0) (i 1)
def G5 : FVec Ideal S4096x1024 .bf16 := fun i => xo m c (i 0) (i 1) * rstd cN (xo m c (i 0)) * aG m c (ix2 0 (i 1))

theorem xo_blk (t : Fin cfg0.N) (r : Fin 512) (k : Fin 1024) :
    k0_pay1 (F := Ideal) (iblk m c 0 t) (iblk m c 1 t) (iblk m c 2 t) (ix2 r k) = xo m c (row t r) k := by
  rw [xo_at]
  simp only [blk0, blk1, blk2]
  rfl

theorem final4 : (dats m 0 c).arrAt 4 cfg0.N = G4 m c := by
  refine (dats m 0 c).arrAt_eq_of_covers 4 (G4 m c) (by decide +kernel) fun t _ y => ?_
  blk_simp
  rw [after0_4]
  unfold out0_4
  frame_out
  idx_vars y
  rw [emb4]
  exact xo_blk m c t _ _

theorem final5 : (dats m 0 c).arrAt 5 cfg0.N = G5 m c := by
  refine (dats m 0 c).arrAt_eq_of_covers 5 (G5 m c) (by decide +kernel) fun t _ y => ?_
  blk_simp
  rw [after0_5]
  unfold out0_5
  frame_out
  idx_vars y
  rw [emb5, hn_at]
  simp only [xo_blk, blk3]
  rfl

end Cert.DownFwdIdeal.Fin

end
-- ==== Proof.DownFwd.Claim.lean ====
/- The claims about the first FFN's down projection. -/
module

public import proofs.«01_k».proof.Defs
public import proofs.«01_k».proof.Proof.DownFwd.Value
public import proofs.«01_k».proof.Proof.Gen.DownFwd
public import proofs.«01_k».proof.Proof.Gen.DownFwdRefIdeal.Read

@[expose] public section

set_option maxRecDepth 16384

noncomputable section

namespace Cert.DownFwdRefIdeal.Spec

open Idealize.ShloMosaic Idealize.ShloMosaic.TcCoe Idealize.SL.Sem
open Cert.DownFwdRefIdeal Cert.DownFwdRefIdeal.Gen Cert.DownFwdRefIdeal.Read Cert.Shared

variable (x0 : FVec Ideal S4096x1024 .f32) (x1 x5 : FVec Ideal S1x1024 .f32) (x2 x3 : FVec Ideal S1024x2816 .f32) (x4 : FVec Ideal S2816x1024 .f32)

theorem v19_at (r : Fin 4096) (k : Fin 1024) : val_main_v19 (F := Ideal) x0 x1 x2 x3 x4 (ix2 r k)
    = x0 (ix2 r k) + cH * ∑ l : Fin 2816, val_main_v15 (F := Ideal) x0 x1 x2 x3 (ix2 r l) * x4 (ix2 l k) := by
  unfold val_main_v19 val_main_v18 val_main_v16
  generalize val_main_v15 (F := Ideal) x0 x1 x2 x3 = p
  pointwise! [val_main_v17, val_main_cst_2]

theorem v32_at (r : Fin 4096) (k : Fin 1024) : val_main_v32 (F := Ideal) x0 x1 x2 x3 x4 x5 (ix2 r k)
    = val_main_v19 (F := Ideal) x0 x1 x2 x3 x4 (ix2 r k) * rstd cN (fun k => val_main_v19 (F := Ideal) x0 x1 x2 x3 x4 (ix2 r k)) * x5 (ix2 0 k) := by
  unfold val_main_v32 val_main_v31 val_main_v29 val_main_v28 val_main_v27 val_main_v26 val_main_v24 val_main_v22 val_main_v21 val_main_v20 rstd ms
  generalize val_main_v19 (F := Ideal) x0 x1 x2 x3 x4 = p
  pointwise! [val_main_v30, val_main_v25, val_main_v23, val_main_cst_3, val_main_cst_4, val_main_cst_5]

end Cert.DownFwdRefIdeal.Spec

namespace Cert.DownFwdClaim

open Idealize.ShloMosaic Idealize.ShloMosaic.TcCoe Idealize.SL.Sem
open Cert.Shared

section Kernel
open Cert.DownFwdIdeal Cert.DownFwdIdeal.Gen Cert.DownFwdIdeal.Fin
variable (m : (ℓ : Loc nD τ sig) → Buf (Elt Ideal) ℓ) (c : Dev nD)

/-- The arguments' contents, at their shapes. -/
abbrev b0 : FVec Ideal S4096x1024 .f32 := m ((c : Thread nD τ).loc main_arg0)
abbrev b1 : FVec Ideal S1x1024 .f32 := m ((c : Thread nD τ).loc main_arg1)
abbrev b2 : FVec Ideal S1024x2816 .f32 := m ((c : Thread nD τ).loc main_arg2)
abbrev b3 : FVec Ideal S1024x2816 .f32 := m ((c : Thread nD τ).loc main_arg3)
abbrev b4 : FVec Ideal S2816x1024 .f32 := m ((c : Thread nD τ).loc main_arg4)
abbrev b5 : FVec Ideal S1x1024 .f32 := m ((c : Thread nD τ).loc main_arg5)

/-- The gated product, as the host lines before the kernel leave it. -/
theorem s_eq : aS m c = Cert.DownFwdRefIdeal.Read.val_main_v15 (F := Ideal) (b0 m c) (b1 m c) (b2 m c) (b3 m c) := by rfl
theorem w_eq : aW m c = b4 m c := by rfl

theorem xo_eq (r : Fin 4096) (k : Fin 1024) : xo m c r k = Cert.DownFwdRefIdeal.Read.val_main_v19 (F := Ideal) (b0 m c) (b1 m c) (b2 m c) (b3 m c) (b4 m c) (ix2 r k) := by
  rw [Cert.DownFwdRefIdeal.Spec.v19_at]
  unfold xo
  rw [s_eq, w_eq]
  rfl

theorem e4 : G4 m c = Cert.DownFwdRefIdeal.Read.val_main_v19 (F := Ideal) (b0 m c) (b1 m c) (b2 m c) (b3 m c) (b4 m c) := by
  funext i
  obtain ⟨r, k, rfl⟩ : ∃ (r : Fin 4096) (k : Fin 1024), i = ix2 r k := ⟨_, _, eq_ix2 i⟩
  exact xo_eq m c r k

theorem e5 : G5 m c = Cert.DownFwdRefIdeal.Read.val_main_v32 (F := Ideal) (b0 m c) (b1 m c) (b2 m c) (b3 m c) (b4 m c) (b5 m c) := by
  funext i
  obtain ⟨r, k, rfl⟩ : ∃ (r : Fin 4096) (k : Fin 1024), i = ix2 r k := ⟨_, _, eq_ix2 i⟩
  rw [Cert.DownFwdRefIdeal.Spec.v32_at]
  simp only [← xo_eq]
  rfl

end Kernel

theorem algebraic : Cert.algebraic_DownFwdIdeal_DownFwdRefIdeal := by
  intro m g m' g' hpre hag
  refine ⟨fun c => Cert.DownFwdIdeal.Fin.G4 m c, fun c => Cert.DownFwdIdeal.Fin.G5 m c,
    (θ_run _ _ _).mono (fun r h c => ?_) (Cert.DownFwdIdeal.Value.run_blocks m g), (θ_run _ _ _).mono (fun r h c => ?_) (Cert.DownFwdRefIdeal.Value.run m' g')⟩
  · obtain ⟨x4, x5, e⟩ := h c
    exact ⟨x4.trans (Cert.DownFwdIdeal.Fin.final4 m c), x5.trans (Cert.DownFwdIdeal.Fin.final5 m c), e⟩
  · obtain ⟨x4, x5, e⟩ := h c
    obtain ⟨a0, a1, a2, a3, a4, a5⟩ := hag c
    refine ⟨x4.trans ?_, x5.trans ?_, e⟩
    · rw [Cert.DownFwdRefIdeal.Read.val_main_v19_eq, a0, a1, a2, a3, a4]
      exact (e4 m c).symm
    · rw [Cert.DownFwdRefIdeal.Read.val_main_v32_eq, a0, a1, a2, a3, a4, a5]
      exact (e5 m c).symm

theorem frame_ref : Cert.quiescent_DownFwdRefIdeal := fun m g _ =>
  (θ_run _ _ _).mono (fun r h => ⟨fun c => (h c).2.2, sem_eq_zero_of_no_sems (by decide) r.2⟩) (Cert.DownFwdRefIdeal.Value.run m g)

end Cert.DownFwdClaim

end
-- ==== Proof.MixFwd.Pay.lean ====
/- What the body of the mixer's output call stores, read at an element. The matrices of equal heads and the roots are those of its backward call. -/
module

public import proofs.«01_k».proof.Proof.MixBwd.Pay
public import proofs.«01_k».proof.Proof.Gen.MixFwdIdeal.Skeleton

@[expose] public section

set_option maxRecDepth 16384

noncomputable section

namespace Cert.MixFwdIdeal.Pay

open Idealize.ShloMosaic Idealize.ShloMosaic.TcCoe Idealize.SL.Sem
open Cert.MixFwdIdeal Cert.MixFwdIdeal.Gen Cert.Shared
open Cert.MixBwdIdeal.Pay (lo hi fin)

/-- The matrix of equal heads of 64, and the sums of squares over heads of 128. -/
abbrev M64 : FVec Ideal S512x512 .bf16 := k0_pay7 (F := Ideal) k0_pay3 k0_pay4 k0_pay5 k0_pay6
abbrev sums (x : FVec Ideal S512x512 .f32) : FVec Ideal S512x512 .f32 := k0_pay12 (F := Ideal) (iota .tc S512x512 32 [1] iota_S512x512_d1_w32) k0_pay8 128#32 k0_pay9 k0_pay10 (Scalar.extui (Scalar.cmpi .sgt 128#32 0#32)) (Scalar.extui (Scalar.cmpi .slt 128#32 0#32)) x

theorem m64 (a b : Fin 512) : M64 (ix2 a b) = if a.val / 64 = b.val / 64 then 1 else 0 := Cert.MixBwdIdeal.Mat.m64 a b

variable (x n gt s : FVec Ideal S512x512 .f32) (g : FVec Ideal S1x512 .f32) (r j : Fin 512)

theorem nsb_at (hx : fin x r) : k0_pay11 (F := Ideal) M64 x g (ix2 r j) = x (ix2 r j) * rstd c64 (hrow h64 (fun k => x (ix2 r k)) j) * g (ix2 0 j) := by
  rw [← Cert.MixBwdIdeal.Pay.rstd64 M64 x r j m64 hx]
  have e : k0_pay11 (F := Ideal) M64 x g = mulf (mulf x (Cert.MixBwdIdeal.Gen.k0_pay14 (F := Ideal) M64 x)) (broadcastTo S512x512 g broadcasts_S1x512_S512x512) := rfl
  rw [e]
  generalize Cert.MixBwdIdeal.Gen.k0_pay14 (F := Ideal) M64 x = p
  pointwise!

theorem root128 (hx : fin x r) : Ideal.rsqrt (sums x (ix2 r j) * c128i + cE) = rstd c128 (hrow h128 (fun k => x (ix2 r k)) j) := by
  rw [← Cert.MixBwdIdeal.Pay.rstd128 _ x r j Cert.MixBwdIdeal.Mat.m128 hx]
  rfl

theorem lo_at : k0_pay1 (F := Ideal) x n gt s (Scalar.ofBits .f32 0x3C000000#32) g (ix2 r (lo j)) = n (ix2 r j) := by
  pointwise! [k0_pay1]

theorem hi_at : k0_pay1 (F := Ideal) x n gt s (Scalar.ofBits .f32 0x3C000000#32) g (ix2 r (hi j))
    = x (ix2 r j) * Ideal.rsqrt (s (ix2 r j) * c128i + cE) * g (ix2 0 j) * (gt (ix2 r j) * sgK (gt (ix2 r j))) := by
  unfold sgK
  pointwise! [k0_pay1]

theorem xo_at (b : FVec Ideal S512x1024 .f32) (w : FVec Ideal S1024x1024 .bf16) (k : Fin 1024) :
    k0_pay2 (F := Ideal) x n gt s (Scalar.ofBits .f32 0x3C000000#32) g b w (ix2 r k)
      = b (ix2 r k) + ∑ l : Fin 1024, k0_pay1 (F := Ideal) x n gt s (Scalar.ofBits .f32 0x3C000000#32) g (ix2 r l) * w (ix2 l k) := by
  unfold k0_pay2
  generalize k0_pay1 (F := Ideal) x n gt s (Scalar.ofBits .f32 0x3C000000#32) g = p
  pointwise!

end Cert.MixFwdIdeal.Pay

end
-- ==== Proof.MixFwd.Ref.lean ====
/- What the reference of the mixer's output call returns, read at an element. -/
module

public import proofs.«01_k».proof.Proof.MixBwd.Ref
public import proofs.«01_k».proof.Proof.MixBwd.Pay
public import proofs.«01_k».proof.Proof.Gen.MixFwdRefIdeal.Read

@[expose] public section

set_option maxRecDepth 16384

noncomputable section

namespace Cert.MixFwdRefIdeal.Spec

open Idealize.ShloMosaic Idealize.ShloMosaic.TcCoe Idealize.SL.Sem
open Cert.MixFwdRefIdeal Cert.MixFwdRefIdeal.Gen Cert.MixFwdRefIdeal.Read Cert.Shared
open Cert.MixBwdIdeal.Pay (lo hi)

variable (x0 x1 : FVec Ideal S4096x512 .f32) (x2 : FVec Ideal S4096x3584 .f32) (x3 x4 : FVec Ideal S1x512 .f32) (x5 : FVec Ideal S1024x1024 .f32) (x6 : FVec Ideal S4096x1024 .f32)

/-- The gate, and the two halves of a row: the attention's heads, and the recurrence's past the gate. -/
abbrev gt (r : Fin 4096) (k : Fin 512) : EReal := x2 (ix2 r ⟨3072 + k.val, by omega⟩)
abbrev nA (r : Fin 4096) (j : Fin 512) : EReal := x0 (ix2 r j) * rstd c64 (hrow h64 (fun k => x0 (ix2 r k)) j) * x3 (ix2 0 j)
abbrev nB (r : Fin 4096) (j : Fin 512) : EReal := x1 (ix2 r j) * rstd c128 (hrow h128 (fun k => x1 (ix2 r k)) j) * x4 (ix2 0 j) * (gt x2 r j * sgR (gt x2 r j))

theorem v12_at (r : Fin 4096) (j : Fin 512) : val_main_v12 (F := Ideal) x0 (ix2 r j) = x0 (ix2 r j) * rstd c64 (hrow h64 (fun k => x0 (ix2 r k)) j) :=
  Cert.MixBwdRefIdeal.Spec.hatA_at x0 r j
theorem v26_at (r : Fin 4096) (j : Fin 512) : val_main_v26 (F := Ideal) x1 (ix2 r j) = x1 (ix2 r j) * rstd c128 (hrow h128 (fun k => x1 (ix2 r k)) j) :=
  Cert.MixBwdRefIdeal.Spec.hatB_at x1 r j
theorem v0_at (r : Fin 4096) (j : Fin 512) : val_main_v0 (F := Ideal) x2 (ix2 r j) = gt x2 r j := Cert.MixBwdRefIdeal.Spec.v0_at x2 r j
theorem sg_at (r : Fin 4096) (j : Fin 512) : val_main_call0_v5 (F := Ideal) x2 (ix2 r j) = sgR (gt x2 r j) := Cert.MixBwdRefIdeal.Spec.sg_at x2 r j

theorem v14_at (r : Fin 4096) (j : Fin 512) : val_main_v14 (F := Ideal) x0 x3 (ix2 r j) = nA x0 x3 r j := by
  have h := v12_at x0
  unfold val_main_v14
  generalize val_main_v12 (F := Ideal) x0 = p at *
  pointwise! [h, val_main_v13]

theorem v30_at (r : Fin 4096) (j : Fin 512) : val_main_v30 (F := Ideal) x1 x2 x4 (ix2 r j) = nB x1 x2 x4 r j := by
  have h := v26_at x1
  have h' := sg_at x2
  have h'' := v0_at x2
  unfold val_main_v30 val_main_v29 val_main_v28
  generalize val_main_v26 (F := Ideal) x1 = p at *
  generalize val_main_call0_v5 (F := Ideal) x2 = q at *
  generalize val_main_v0 (F := Ideal) x2 = o at *
  pointwise! [h, h', h'', val_main_v27]

theorem lo_at (r : Fin 4096) (j : Fin 512) : val_main_v31 (F := Ideal) x0 x1 x2 x3 x4 (ix2 r (lo j)) = nA x0 x3 r j := by
  rw [← v14_at]
  unfold val_main_v31
  generalize val_main_v14 (F := Ideal) x0 x3 = p
  generalize val_main_v30 (F := Ideal) x1 x2 x4 = q
  pointwise!

theorem hi_at (r : Fin 4096) (j : Fin 512) : val_main_v31 (F := Ideal) x0 x1 x2 x3 x4 (ix2 r (hi j)) = nB x1 x2 x4 r j := by
  rw [← v30_at]
  unfold val_main_v31
  generalize val_main_v14 (F := Ideal) x0 x3 = p
  generalize val_main_v30 (F := Ideal) x1 x2 x4 = q
  pointwise!

theorem xo_at (r : Fin 4096) (k : Fin 1024) : val_main_v33 (F := Ideal) x0 x1 x2 x3 x4 x5 x6 (ix2 r k)
    = x6 (ix2 r k) + ∑ l : Fin 1024, val_main_v31 (F := Ideal) x0 x1 x2 x3 x4 (ix2 r l) * x5 (ix2 l k) := by
  unfold val_main_v33 val_main_v32
  generalize val_main_v31 (F := Ideal) x0 x1 x2 x3 x4 = p
  pointwise!

end Cert.MixFwdRefIdeal.Spec

end
-- ==== Proof.MixFwd.Claim.lean ====
/- What the mixer's output call leaves in its two arrays, and the claims about it. -/
module

public import proofs.«01_k».proof.Defs
public import proofs.«01_k».proof.Proof.MixFwd.Pay
public import proofs.«01_k».proof.Proof.MixFwd.Ref
public import proofs.«01_k».proof.Proof.Gen.MixFwd
public import proofs.«01_k».proof.Proof.Gen.MixFwdIdeal.Value
public import proofs.«01_k».proof.Proof.Gen.Pre_finite_mix_fwd
public import Idealize.ShloMosaic.Lib.Pipeline.ValueKit

@[expose] public section

set_option maxRecDepth 16384

noncomputable section

namespace Cert.MixFwdIdeal.Fin

open Idealize.ShloMosaic Idealize.ShloMosaic.TcCoe Idealize.SL.Sem
open Idealize.ShloMosaic.Pipeline (Dat)
open Cert.MixFwdIdeal Cert.MixFwdIdeal.Gen Cert.MixFwdIdeal.Pay Cert.Shared
open Cert.MixBwdIdeal.Pay (lo hi fin)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 6]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The arguments' contents, at their shapes. -/
abbrev b0 : FVec Ideal S4096x512 .f32 := m ((c : Thread nD τ).loc main_arg0)
abbrev b1 : FVec Ideal S4096x512 .f32 := m ((c : Thread nD τ).loc main_arg1)
abbrev b2 : FVec Ideal S4096x3584 .f32 := m ((c : Thread nD τ).loc main_arg2)
abbrev b3 : FVec Ideal S1x512 .f32 := m ((c : Thread nD τ).loc main_arg3)
abbrev b4 : FVec Ideal S1x512 .f32 := m ((c : Thread nD τ).loc main_arg4)
abbrev b5 : FVec Ideal S1024x1024 .f32 := m ((c : Thread nD τ).loc main_arg5)
abbrev b6 : FVec Ideal S4096x1024 .f32 := m ((c : Thread nD τ).loc main_arg6)
/-- The arrays the kernel's windows read are those. -/
abbrev a0 : FVec Ideal S4096x512 .f32 := V m c main_arg0
abbrev a1 : FVec Ideal S4096x512 .f32 := V m c main_arg1
abbrev a2 : FVec Ideal S4096x3584 .f32 := V m c main_arg2
abbrev a3 : FVec Ideal S1x512 .f32 := V m c main_arg3
abbrev a4 : FVec Ideal S1x512 .f32 := V m c main_arg4
abbrev a5 : FVec Ideal S1024x1024 .bf16 := V m c main_v0
abbrev a6 : FVec Ideal S4096x1024 .f32 := V m c main_arg6
theorem a0_eq : a0 m c = b0 m c := by rfl
theorem a1_eq : a1 m c = b1 m c := by rfl

theorem t_lt (t : Fin cfg0.N) : t.val < 8 := lt_of_lt_of_eq t.isLt N_0
def row (t : Fin cfg0.N) (r : Fin 512) : Fin 4096 := ⟨t.val * 512 + r.val, by have := t_lt t; omega⟩
abbrev col (k : Fin 512) : Fin 3584 := ⟨3072 + k.val, by omega⟩

theorem blk0 (t : Fin cfg0.N) (r k : Fin 512) : iblk m c 0 t (ix2 r k) = a0 m c (ix2 (row t r) k) := by
  blk_point [iblk, V, idx t, row]
theorem blk1 (t : Fin cfg0.N) (r k : Fin 512) : iblk m c 1 t (ix2 r k) = a1 m c (ix2 (row t r) k) := by
  blk_point [iblk, V, idx t, row]
theorem blk2 (t : Fin cfg0.N) (r k : Fin 512) : iblk m c 2 t (ix2 r k) = a2 m c (ix2 (row t r) (col k)) := by
  blk_point [iblk, V, idx t, row, col]
theorem blk3 (t : Fin cfg0.N) (a : Fin 1) (k : Fin 512) : iblk m c 3 t (ix2 a k) = a3 m c (ix2 a k) := by
  blk_point [iblk, V, idx t, row]
theorem blk4 (t : Fin cfg0.N) (a : Fin 1) (k : Fin 512) : iblk m c 4 t (ix2 a k) = a4 m c (ix2 a k) := by
  blk_point [iblk, V, idx t, row]
theorem blk5 (t : Fin cfg0.N) (l k : Fin 1024) : iblk m c 5 t (ix2 l k) = a5 m c (ix2 l k) := by
  blk_point [iblk, V, idx t, row]
theorem blk6 (t : Fin cfg0.N) (r : Fin 512) (k : Fin 1024) : iblk m c 6 t (ix2 r k) = a6 m c (ix2 (row t r) k) := by
  blk_point [iblk, V, idx t, row]
theorem emb7 (t : Fin cfg0.N) (r : Fin 512) (k : Fin 1024) : ((cfg0.win 7).blk t).view.emb (ix2 r k) = ix2 (row t r) k := by
  blk_ext [idx t, row]
theorem emb8 (t : Fin cfg0.N) (r : Fin 512) (k : Fin 1024) : ((cfg0.win 8).blk t).view.emb (ix2 r k) = ix2 (row t r) k := by
  blk_ext [idx t, row]

/-- What the reference returns, at these arguments. -/
abbrev G7 : FVec Ideal S4096x1024 .f32 := Cert.MixFwdRefIdeal.Read.val_main_v33 (F := Ideal) (b0 m c) (b1 m c) (b2 m c) (b3 m c) (b4 m c) (b5 m c) (b6 m c)
abbrev G8 : FVec Ideal S4096x1024 .bf16 := Cert.MixFwdRefIdeal.Read.val_main_v34 (F := Ideal) (b0 m c) (b1 m c) (b2 m c) (b3 m c) (b4 m c)

/-- The arrays whose finiteness the values need. -/
structure Real : Prop where
  s : ∀ i, ∃ r : ℝ, b0 m c i = (r : EReal)
  h : ∀ i, ∃ r : ℝ, b1 m c i = (r : EReal)
  p : ∀ i, ∃ r : ℝ, b2 m c i = (r : EReal)

theorem halves (k : Fin 1024) : ∃ j : Fin 512, k = lo j ∨ k = hi j := by
  by_cases h : k.val < 512
  · exact ⟨⟨k.val, h⟩, Or.inl rfl⟩
  · exact ⟨⟨k.val - 512, by omega⟩, Or.inr (Fin.ext (by show k.val = 512 + (k.val - 512); omega))⟩

theorem fin0 (R : Real m c) (t : Fin cfg0.N) (r : Fin 512) : fin (iblk m c 0 t) r := fun k => by rw [blk0, a0_eq]; exact R.s _
theorem fin1 (R : Real m c) (t : Fin cfg0.N) (r : Fin 512) : fin (iblk m c 1 t) r := fun k => by rw [blk1, a1_eq]; exact R.h _

/-- A row of the two mixers' heads, as the block holds it. -/
theorem mixed (R : Real m c) (t : Fin cfg0.N) (r : Fin 512) (k : Fin 1024) :
    k0_pay1 (F := Ideal) (iblk m c 1 t) (k0_pay11 (F := Ideal) M64 (iblk m c 0 t) (iblk m c 3 t)) (iblk m c 2 t) (sums (iblk m c 1 t))
      (Scalar.ofBits .f32 0x3C000000#32) (iblk m c 4 t) (ix2 r k) = Cert.MixFwdRefIdeal.Read.val_main_v31 (F := Ideal) (b0 m c) (b1 m c) (b2 m c) (b3 m c) (b4 m c) (ix2 (row t r) k) := by
  obtain ⟨j, rfl | rfl⟩ := halves k
  · rw [lo_at, nsb_at _ _ _ _ (fin0 m c R t r), Cert.MixFwdRefIdeal.Spec.lo_at]
    simp only [blk0, blk3]
    rfl
  · rw [hi_at, root128 _ _ _ (fin1 m c R t r), Cert.MixFwdRefIdeal.Spec.hi_at]
    simp only [blk1, blk2, blk4]
    rw [sgK_eq (z := a2 m c _) (R.p _)]
    rfl

theorem final8 (R : Real m c) : (dats m 0 c).arrAt 8 cfg0.N = G8 m c := by
  refine (dats m 0 c).arrAt_eq_of_covers 8 (G8 m c) (by decide +kernel) fun t _ y => ?_
  blk_simp
  rw [after0_8]
  unfold_out out0_8
  frame_out
  idx_vars y
  rw [emb8]
  exact mixed m c R t _ _

theorem final7 (R : Real m c) : (dats m 0 c).arrAt 7 cfg0.N = G7 m c := by
  refine (dats m 0 c).arrAt_eq_of_covers 7 (G7 m c) (by decide +kernel) fun t _ y => ?_
  blk_simp
  rw [after0_7]
  unfold_out out0_7
  frame_out
  idx_vars y
  rw [emb7, xo_at, blk6]
  refine Eq.trans ?_ (Cert.MixFwdRefIdeal.Spec.xo_at _ _ _ _ _ _ _ _ _).symm
  refine congrArg (_ + ·) (Finset.sum_congr rfl fun l _ => ?_)
  rw [blk5]
  exact congrArg (· * _) (mixed m c R t _ l)

end Cert.MixFwdIdeal.Fin

namespace Cert.MixFwdClaim

open Idealize.ShloMosaic Idealize.ShloMosaic.TcCoe Idealize.SL.Sem
open Cert.Shared

section Finite
open Cert.Pre_finite_mix_fwd

/-- The precondition, as: every element of the three arrays is a real number. -/
theorem finite (a0 a1 : FVec Ideal S4096x512 .f32) (a2 : FVec Ideal S4096x3584 .f32) (a3 a4 : FVec Ideal S1x512 .f32) (a5 : FVec Ideal S1024x1024 .f32) (a6 : FVec Ideal S4096x1024 .f32)
    (h : fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h (fun a => a.elim0)
  unfold fn at e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i), fun i => real_of_cmp _ (all_of_reduce _ _ _ _ _ e2 i)⟩

end Finite

theorem algebraic : Cert.algebraic_MixFwdIdeal_MixFwdRefIdeal_pre_finite_mix_fwd := by
  intro m g m' g' hpre hag
  have real : ∀ c, Cert.MixFwdIdeal.Fin.Real m c := by
    intro c
    obtain ⟨h0, h1, h2⟩ := finite _ _ _ _ _ _ _ (hpre c)
    exact ⟨h0, h1, h2⟩
  refine ⟨fun c => Cert.MixFwdIdeal.Fin.G7 m c, fun c => Cert.MixFwdIdeal.Fin.G8 m c,
    (θ_run _ _ _).mono (fun r h c => ?_) (Cert.MixFwdIdeal.Value.run_blocks m g), (θ_run _ _ _).mono (fun r h c => ?_) (Cert.MixFwdRefIdeal.Value.run m' g')⟩
  · obtain ⟨x7, x8, e⟩ := h c
    exact ⟨x7.trans (Cert.MixFwdIdeal.Fin.final7 m c (real c)), x8.trans (Cert.MixFwdIdeal.Fin.final8 m c (real c)), e⟩
  · obtain ⟨x7, x8, e⟩ := h c
    obtain ⟨a0, a1, a2, a3, a4, a5, a6⟩ := hag c
    refine ⟨x7.trans ?_, x8.trans ?_, e⟩
    · rw [Cert.MixFwdRefIdeal.Read.val_main_v33_eq, a0, a1, a2, a3, a4, a5, a6]
    · refine (Cert.MixFwdRefIdeal.Read.val_main_v34_eq _ _ _ _ _).trans ?_
      rw [a0, a1, a2, a3, a4]

theorem frame_ref : Cert.quiescent_MixFwdRefIdeal := fun m g _ =>
  (θ_run _ _ _).mono (fun r h => ⟨fun c => (h c).2.2, sem_eq_zero_of_no_sems (by decide) r.2⟩) (Cert.MixFwdRefIdeal.Value.run m g)

end Cert.MixFwdClaim

end
-- ==== Proof.ActFwd.Body.lean ====
module

public import proofs.«01_k».proof.Proof.Gen.ActFwdIdeal.Frame
public import proofs.«01_k».proof.Proof.Gen.ActFwdIdeal.Skeleton
public import Idealize.ShloMosaic.Lib.VecWindow
public import Idealize.ShloMosaic.Lib.Tactic

/-! # The first FFN's gated product: its body, run once

A row block of 512 rows meets the two halves of the hidden layer one after the other. The first half normalises the rows, and both read them. -/

@[expose] public section

set_option maxRecDepth 16384

noncomputable section

namespace Cert.ActFwdIdeal.Body

open Cert.ActFwdIdeal Cert.ActFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Reading the normalised rows just stored. -/
theorem covered_rows {e : EltTy} (v : Memref sig .tc .vmem S512x1024 e) (inb inb' : ∀ a, (![0, 0] : Fin 2 → ℕ) a + (![512, 1024] : Fin 2 → ℕ) a ≤ S512x1024.size a)
    (w : Vec F S512x1024 e) (L : List (View.Piece (Elt F) S512x1024 e)) :
    v.view.readCov (⟨Rect.unit (s := S512x1024) ![0, 0] ![512, 1024] inb', w⟩ :: L) (Rect.unit (s := S512x1024) ![0, 0] ![512, 1024] inb).toLoadRect = w :=
  View.readCov_full v.view inb inb' w L
/-- Loads of the whole of an array, at the shapes of this kernel. -/
theorem load_rows {e : EltTy} (v : Memref sig .tc .vmem S512x1024 e) (f : v.view.ty.Contents (Elt F)) (inb : ∀ a, (![0, 0] : Fin 2 → ℕ) a + (![512, 1024] : Fin 2 → ℕ) a ≤ S512x1024.size a) :
    v.view.readAt (Elt F) (Rect.unit (s := S512x1024) ![0, 0] ![512, 1024] inb).toLoadRect f = v.view.read (Elt F) f := View.readAt_full v.view f inb
theorem load_gain {e : EltTy} (v : Memref sig .tc .vmem S1x1024 e) (f : v.view.ty.Contents (Elt F)) (inb : ∀ a, (![0, 0] : Fin 2 → ℕ) a + (![1, 1024] : Fin 2 → ℕ) a ≤ S1x1024.size a) :
    v.view.readAt (Elt F) (Rect.unit (s := S1x1024) ![0, 0] ![1, 1024] inb).toLoadRect f = v.view.read (Elt F) f := View.readAt_full v.view f inb
theorem load_block {e : EltTy} (v : Memref sig .tc .vmem S1408x1024 e) (f : v.view.ty.Contents (Elt F)) (inb : ∀ a, (![0, 0] : Fin 2 → ℕ) a + (![1408, 1024] : Fin 2 → ℕ) a ≤ S1408x1024.size a) :
    v.view.readAt (Elt F) (Rect.unit (s := S1408x1024) ![0, 0] ![1408, 1024] inb).toLoadRect f = v.view.read (Elt F) f := View.readAt_full v.view f inb

section Run

variable (c : Dev nD) (i : grid0.Coords)
  (arg2 : Memref sig .tc .vmem S512x1024 .f32) (harg2 : arg2.IsWhole)   (arg3 : Memref sig .tc .vmem S1x1024 .f32) (harg3 : arg3.IsWhole)   (arg4 : Memref sig .tc .vmem S1408x1024 .bf16) (harg4 : arg4.IsWhole)   (arg5 : Memref sig .tc .vmem S1408x1024 .bf16) (harg5 : arg5.IsWhole)   (arg6 : Memref sig .tc .vmem S512x1408 .bf16) (harg6 : arg6.IsWhole)   (arg7 : Memref sig .tc .vmem S512x1408 .bf16) (harg7 : arg7.IsWhole)   (arg8 : Memref sig .tc .vmem S512x1408 .bf16) (harg8 : arg8.IsWhole)   (arg9 : Memref sig .tc .vmem S512x1024 .bf16) (harg9 : arg9.IsWhole)
  (x0 : Vec F S512x1024 .f32) (x1 : Vec F S1x1024 .f32) (x2 : Vec F S1408x1024 .bf16) (x3 : Vec F S1408x1024 .bf16) (y6 : Vec F S512x1408 .bf16) (y7 : Vec F S512x1408 .bf16) (y8 : Vec F S512x1408 .bf16) (y9 : Vec F S512x1024 .bf16)

/-- What the body is run with, and what it leaves from the normalised rows `h`. -/
def got : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare y6 ∗ owns (c : Thread nD τ) arg7 fullShare y7 ∗ owns (c : Thread nD τ) arg8 fullShare y8 ∗ owns (c : Thread nD τ) arg9 fullShare y9)
def left (h : Vec F S512x1024 .bf16) : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay5 h x2) ∗ owns (c : Thread nD τ) arg7 fullShare (k0_pay6 h x3) ∗ owns (c : Thread nD τ) arg8 fullShare (k0_pay7 h x2 x3) ∗ owns (c : Thread nD τ) arg9 fullShare h)

set_option maxHeartbeats 4000000 in
/-- A row block's first half. -/
theorem body_first (h1 : k0_cond1 i = 1#1) :
    got c arg2 arg3 arg4 arg5 arg6 arg7 arg8 arg9 x0 x1 x2 x3 y6 y7 y8 y9
      ⊢ wp frame (wpE (defs₀ (F := F)) Variants.none (c : Thread nD τ) none) Set.univ (cc0_ffn1_fwd_act i arg2 harg2 arg3 harg3 arg4 harg4 arg5 harg5 arg6 harg6 arg7 harg7 arg8 harg8 arg9 harg9)
        (fun _ => left c arg2 arg3 arg4 arg5 arg6 arg7 arg8 arg9 x0 x1 x2 x3 (k0_pay1 x0 x1)) := by
  unfold got left owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  simp only [cc0_ffn1_fwd_act_eq_skeleton]; unfold cc0_ffn1_fwd_act_skel
  sl_exec (disch := sl_exact h1)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]; iexists _; isplitr; rotate_left; iexact H6
  isplitl [H7]; iexists _; isplitr; rotate_left; iexact H7
  isplitl [H8]; iexists _; isplitr; rotate_left; iexact H8
  iexists _; isplitr; rotate_left; iexact H9
  all_goals
    ipureintro
    refine (View.read_writes_full _ _ _ _ _).trans ?_
    repeat (first | delta body_first.sl.v3 | delta body_first.sl.H9_1 | delta body_first.sl.r)
    try simp only [covered_rows, load_rows, load_gain, load_block, h2, h3, h4, h5, h6, h7, h8, h9]

set_option maxHeartbeats 4000000 in
/-- A row block's second half. -/
theorem body_rest (h1 : ¬ k0_cond1 i = 1#1) :
    got c arg2 arg3 arg4 arg5 arg6 arg7 arg8 arg9 x0 x1 x2 x3 y6 y7 y8 y9
      ⊢ wp frame (wpE (defs₀ (F := F)) Variants.none (c : Thread nD τ) none) Set.univ (cc0_ffn1_fwd_act i arg2 harg2 arg3 harg3 arg4 harg4 arg5 harg5 arg6 harg6 arg7 harg7 arg8 harg8 arg9 harg9)
        (fun _ => left c arg2 arg3 arg4 arg5 arg6 arg7 arg8 arg9 x0 x1 x2 x3 y9) := by
  unfold got left owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  simp only [cc0_ffn1_fwd_act_eq_skeleton]; unfold cc0_ffn1_fwd_act_skel
  sl_exec (disch := sl_exact h1)
  sl_step
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists _; isplitr; swap; · iexact H6
    ipureintro
    refine (View.read_writes_full arg6.view _ _ _ _).trans ?_
    try simp only [covered_rows, load_rows, load_gain, load_block, h2, h3, h4, h5, h6, h7, h8, h9]
  isplitl [H7]
  · iexists _; isplitr; swap; · iexact H7
    ipureintro
    refine (View.read_writes_full arg7.view _ _ _ _).trans ?_
    try simp only [covered_rows, load_rows, load_gain, load_block, h2, h3, h4, h5, h6, h7, h8, h9]
  isplitl [H8]
  · iexists _; isplitr; swap; · iexact H8
    ipureintro
    refine (View.read_writes_full arg8.view _ _ _ _).trans ?_
    try simp only [covered_rows, load_rows, load_gain, load_block, h2, h3, h4, h5, h6, h7, h8, h9]
  iexists f9; isplitr; · ipureintro; exact h9
  iexact H9

end Run

end Cert.ActFwdIdeal.Body

end
-- ==== Proof.ActFwd.Frame.lean ====
module

public import proofs.«01_k».proof.Proof.ActFwd.Body
public import proofs.«01_k».proof.Proof.Gen.ActFwdIdeal.Points
public import proofs.«01_k».proof.Proof.Gen.ActFwdIdeal.Launch
public import proofs.«01_k».proof.Proof.Gen.ActFwdIdeal.Frame
public import Idealize.ShloMosaic.Lib.Pipeline.FrameBody
public import Idealize.ShloMosaic.Lib.Claim

/-! # The first FFN's gated product program's run, from any memory

A row block's first half leaves its normalised rows in the last window, and the second half finds them there.
The run of the pipeline follows, for any float values, and with it the frame. -/

@[expose] public section

set_option maxRecDepth 16384

noncomputable section

namespace Cert.ActFwdIdeal.Body

open Cert.ActFwdIdeal Cert.ActFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cond1_iff : ∀ t : Fin cfg0.N, k0_cond1 (grid0.coords t) = 1#1 ↔ t.val % 2 = 0 :=
  (by decide +kernel : ∀ t : Fin grid0.N, k0_cond1 (grid0.coords t) = 1#1 ↔ t.val % 2 = 0)
theorem idle_7 : ∀ t : Fin cfg0.N, cfg0.idle 7 (cfg0.grid.coords t) = decide (t.val % 2 ≠ 0) :=
  (by decide +kernel : ∀ t : Fin grid0.N, idle0 7 (grid0.coords t) = decide (t.val % 2 ≠ 0))

theorem lt16 (t : Fin cfg0.N) : t.val < 16 := lt_of_lt_of_eq t.isLt N_0

/-- The first point of a row block. -/
def start (n : ℕ) : Fin cfg0.N := ⟨(n - n % 2) % 16, lt_of_lt_of_eq (Nat.mod_lt _ (by decide)) N_0.symm⟩

theorem start_eq (t : Fin cfg0.N) (h : t.val % 2 = 0) : start t.val = t := Fin.ext (by have := lt16 t; show (t.val - t.val % 2) % 16 = t.val; omega)

/-- The normalised rows of a row block, as its first point leaves them. -/
def hAt (c : Dev nD) (n : ℕ) : Vec F S512x1024 .bf16 := k0_pay1 (iblk m c 0 (start n)) (iblk m c 1 (start n))

/-- The pipeline's proof data: inputs at their blocks, results at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay5 (hAt m c t.val) (iblk m c 2 t)
    | ⟨5, _⟩ => k0_pay6 (hAt m c t.val) (iblk m c 3 t)
    | ⟨6, _⟩ => k0_pay7 (hAt m c t.val) (iblk m c 2 t) (iblk m c 3 t)
    | ⟨7, _⟩ => hAt m c t.val
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay5 (hAt m c t.val) (iblk m c 2 t) := by dsimp only [dats]
theorem after_5 (c : Dev nD) (t : Fin cfg0.N) : (dats m 0 c).after 5 t = k0_pay6 (hAt m c t.val) (iblk m c 3 t) := by dsimp only [dats]
theorem after_6 (c : Dev nD) (t : Fin cfg0.N) : (dats m 0 c).after 6 t = k0_pay7 (hAt m c t.val) (iblk m c 2 t) (iblk m c 3 t) := by dsimp only [dats]
theorem after_7 (c : Dev nD) (t : Fin cfg0.N) : (dats m 0 c).after 7 t = hAt m c t.val := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- At a row block's second point window 7 holds what the first left. -/
theorem before_7 (c : Dev nD) : ∀ (n : ℕ) (hn : n < cfg0.N), ¬ n % 2 = 0 → ∀ d, (dats m 0 c).before 7 ⟨n, hn⟩ d = hAt m c n := by
  intro n hn h d
  cases n with
  | zero => omega
  | succ n =>
    rw [(dats m 0 c).before_of_pos 7 ⟨n + 1, hn⟩ (Nat.succ_ne_zero n) rfl d, if_neg (by
      intro hf
      have := (flush0_7 ⟨n, by omega⟩).mp hf
      simp only at this
      omega)]
    show (dats m 0 c).left 7 ⟨n, by omega⟩ d = _
    unfold Dat.left
    rw [idle_7]
    have hl : n % 2 = 0 := by omega
    simp only [hl, ne_eq, not_true_eq_false, decide_false]
    unfold Dat.kept
    rw [Pipeline.fill_of_clip_none (cfg := cfg0) 7 _ (fun _ => rfl) d ((dats m 0 c).after 7 _), Window.fill_cut, after_7]
    unfold hAt
    rw [show start n = start (n + 1) from Fin.ext (by show (n - n % 2) % 16 = (n + 1 - (n + 1) % 2) % 16; omega)]

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- A window that is not left out, or is written back, is left at the proof data's contents. -/
theorem leaves (c : Dev nD) (t : Fin cfg0.N) (w : Fin cfg0.W) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-- What the body leaves at a point, from either of its runs. -/
theorem finish (c : Dev nD) (t : Fin cfg0.N) : iprop((dats m 0 c).Φ t.castSucc ∗ (dats m 0 c).owesAt () t.castSucc
    ∗ left (F := F) c (st0_0 t) (st0_1 t) (st0_2 t) (st0_3 t) (st0_4 t) (st0_5 t) (st0_6 t) (st0_7 t) (iblk m c 0 t) (iblk m c 1 t) (iblk m c 2 t) (iblk m c 3 t) (hAt m c t.val)) ⊢ bodyPost m c t := by
  unfold bodyPost left
  rw [show (dats m 0 c).Φ t.succ = (dats m 0 c).Φ t.castSucc from rfl, show (dats m 0 c).owesAt () t.succ = (dats m 0 c).owesAt () t.castSucc from rfl]
  rw [leaves m c t 0 (Or.inl rfl), after_0]
  rw [leaves m c t 1 (Or.inl rfl), after_1]
  rw [leaves m c t 2 (Or.inl rfl), after_2]
  rw [leaves m c t 3 (Or.inl rfl), after_3]
  rw [leaves m c t 4 (Or.inl rfl), after_4]
  rw [leaves m c t 5 (Or.inl rfl), after_5]
  rw [leaves m c t 6 (Or.inl rfl), after_6]
  rw [leaves m c t 7 (by
    by_cases h : t.val % 2 = 0
    · exact Or.inl (by rw [idle_7]; exact decide_eq_false (by omega))
    · exact Or.inr ((flush0_7 t).mpr (by omega))), after_7]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  have run : ∀ y7, (t.val % 2 = 0 ∨ y7 = hAt m c t.val) → ∀ y4 y5 y6, got (F := F) c (st0_0 t) (st0_1 t) (st0_2 t) (st0_3 t) (st0_4 t) (st0_5 t) (st0_6 t) (st0_7 t) (iblk m c 0 t) (iblk m c 1 t) (iblk m c 2 t) (iblk m c 3 t) y4 y5 y6 y7

      ⊢ wp frame (wpE (defs₀ (F := F)) Variants.none (c : Thread nD τ) none) Set.univ (bodyAt0 t) (fun _ => left c (st0_0 t) (st0_1 t) (st0_2 t) (st0_3 t) (st0_4 t) (st0_5 t) (st0_6 t) (st0_7 t) (iblk m c 0 t) (iblk m c 1 t) (iblk m c 2 t) (iblk m c 3 t) (hAt m c t.val)) := by
    intro y7 hy y4 y5 y6
    by_cases h : t.val % 2 = 0
    · have e : hAt m c t.val = k0_pay1 (iblk m c 0 t) (iblk m c 1 t) := by unfold hAt; rw [start_eq t h]
      rw [e]
      exact body_first c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) y4 y5 y6 y7 ((cond1_iff t).mpr h)
    · rw [← hy.resolve_left h]
      exact body_rest c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) y4 y5 y6 y7 (fun e => h ((cond1_iff t).mp e))
  have hy : ∀ d, t.val % 2 = 0 ∨ (dats m 0 c).before 7 t d = hAt m c t.val := fun d => by
    by_cases h : t.val % 2 = 0
    · exact Or.inl h
    · exact Or.inr (before_7 m c t.val t.isLt h d)
  unfold bodyPre
  simp only [before_0, before_1, before_2, before_3]
  iintro ⟨Hp, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (wp_wand frame (wpE (defs₀ (F := F)) Variants.none (c : Thread nD τ) none) Set.univ) $$ [H0 H1 H2 H3 H4 H5 H6 H7]
  · iapply (run _ (hy d7) _ _ _)
    unfold got
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro %u H
    iapply (finish m c t)
    isplitl [Hp]; · iexact Hp
    isplitl [Ho]; · iexact Ho
    iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline at what the proof data compute, every semaphore at zero. -/
theorem run_all : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, for any float values. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_all m ρ))) ((θ_run defs _ _).mono (fun _ h => h.2) (run_all m ρ))

end Cert.ActFwdIdeal.Body

end
-- ==== Proof.ActFwd.Value.lean ====
/- What the first FFN's gated product leaves in its four arrays: the two products, the gated product and the normalised rows. -/
module

public import proofs.«01_k».proof.Proof.Shared.Gate
public import proofs.«01_k».proof.Proof.ActFwd.Frame
public import proofs.«01_k».proof.Proof.Gen.ActFwdRefIdeal.Read
public import Idealize.ShloMosaic.Lib.Pointwise
public import Idealize.ShloMosaic.Lib.Pipeline.ValueKit

@[expose] public section

set_option maxRecDepth 16384

noncomputable section

namespace Cert.ActFwdRefIdeal.Spec

open Idealize.ShloMosaic Idealize.ShloMosaic.TcCoe Idealize.SL.Sem
open Cert.ActFwdRefIdeal Cert.ActFwdRefIdeal.Gen Cert.ActFwdRefIdeal.Read Cert.Shared

variable (x0 : FVec Ideal S4096x1024 .f32) (x1 : FVec Ideal S1x1024 .f32) (x2 x3 : FVec Ideal S1024x2816 .f32) (r : Fin 4096)

/-- The normalised and scaled rows, and their products with a weight. -/
abbrev hn (k : Fin 1024) : EReal := x0 (ix2 r k) * rstd cN (fun k => x0 (ix2 r k)) * x1 (ix2 0 k)
abbrev pre (j : Fin 2816) : EReal := preact (fun k => x0 (ix2 r k)) (fun k => x1 (ix2 0 k)) (fun k => x2 (ix2 k j))

theorem v11_at (k : Fin 1024) : val_main_v11 (F := Ideal) x0 x1 (ix2 r k) = hn x0 x1 r k := by
  unfold hn rstd ms
  pointwise! [val_main_v11, val_main_v10, val_main_v9, val_main_v8, val_main_v7, val_main_v6, val_main_v5, val_main_v4, val_main_v3, val_main_v2, val_main_v1, val_main_v0,
    val_main_cst, val_main_cst_0, val_main_cst_1]

theorem v12_at (j : Fin 2816) : val_main_v12 (F := Ideal) x0 x1 x2 (ix2 r j) = pre x0 x1 x2 r j := by
  have h := v11_at x0 x1 r
  unfold val_main_v12 pre preact
  generalize val_main_v11 (F := Ideal) x0 x1 = p at *
  pointwise! [h]

theorem v15_at (j : Fin 2816) : val_main_v15 (F := Ideal) x0 x1 x2 x3 (ix2 r j)
    = pre x0 x1 x2 r j * sgR (pre x0 x1 x2 r j) * val_main_v13 (F := Ideal) x0 x1 x3 (ix2 r j) := by
  rw [← v12_at]
  unfold val_main_v15 val_main_v14 val_main_call0_v5 val_main_call0_v3 val_main_call0_v1 val_main_call0_v0 sgR
  generalize val_main_v12 (F := Ideal) x0 x1 x2 = p
  generalize val_main_v13 (F := Ideal) x0 x1 x3 = q
  pointwise! [val_main_call0_v4, val_main_call0_v2, val_main_call0_cst, val_main_call0_cst_0]

end Cert.ActFwdRefIdeal.Spec

namespace Cert.ActFwdIdeal.Fin

open Idealize.ShloMosaic Idealize.ShloMosaic.TcCoe Idealize.SL.Sem
open Idealize.ShloMosaic.Pipeline (Dat)
open Cert.ActFwdIdeal Cert.ActFwdIdeal.Gen Cert.ActFwdIdeal.Body Cert.Shared

section Pay
variable (x : FVec Ideal S512x1024 .f32) (g : FVec Ideal S1x1024 .f32) (h : FVec Ideal S512x1024 .bf16) (w v : FVec Ideal S1408x1024 .bf16) (r : Fin 512) (j : Fin 1408)

theorem pay1_at (k : Fin 1024) : k0_pay1 (F := Ideal) x g (ix2 r k) = x (ix2 r k) * rstd cN (fun k => x (ix2 r k)) * g (ix2 0 k) := by
  unfold rstd ms
  pointwise! [k0_pay1]

theorem pay3_at : k0_pay3 (F := Ideal) h w (ix2 r j) = ∑ k : Fin 1024, h (ix2 r k) * w (ix2 j k) := by
  pointwise! [k0_pay3, k0_pay2]

theorem pay7_at : k0_pay7 (F := Ideal) h w v (ix2 r j)
    = k0_pay3 (F := Ideal) h w (ix2 r j) * sgK (k0_pay3 (F := Ideal) h w (ix2 r j)) * k0_pay4 (F := Ideal) h v (ix2 r j) := by
  unfold k0_pay7 sgK
  generalize k0_pay3 (F := Ideal) h w = p
  generalize k0_pay4 (F := Ideal) h v = q
  pointwise!

end Pay

variable (m : (ℓ : Loc nD τ sig) → Buf (Elt Ideal) ℓ) (c : Dev nD)

theorem idx : ∀ t : Fin cfg0.N, win0_0.index t = ![t.val / 2, 0] ∧ win0_1.index t = ![0, 0] ∧ win0_2.index t = ![t.val % 2, 0]
    ∧ win0_3.index t = ![t.val % 2, 0] ∧ win0_4.index t = ![t.val / 2, t.val % 2] ∧ win0_5.index t = ![t.val / 2, t.val % 2]
    ∧ win0_6.index t = ![t.val / 2, t.val % 2] ∧ win0_7.index t = ![t.val / 2, 0] :=
  (by decide +kernel : ∀ t : Fin grid0.N, _)

/-- The arguments' contents, at their shapes, and the arrays the kernel's windows read. -/
abbrev b0 : FVec Ideal S4096x1024 .f32 := m ((c : Thread nD τ).loc main_arg0)
abbrev b1 : FVec Ideal S1x1024 .f32 := m ((c : Thread nD τ).loc main_arg1)
abbrev b2 : FVec Ideal S1024x2816 .f32 := m ((c : Thread nD τ).loc main_arg2)
abbrev b3 : FVec Ideal S1024x2816 .f32 := m ((c : Thread nD τ).loc main_arg3)
abbrev aX : FVec Ideal S4096x1024 .f32 := V m c main_arg0
abbrev aG : FVec Ideal S1x1024 .f32 := V m c main_arg1
abbrev aWg : FVec Ideal S2816x1024 .bf16 := V m c main_v1
abbrev aWu : FVec Ideal S2816x1024 .bf16 := V m c main_v3

theorem x_eq : aX m c = b0 m c := by rfl
theorem g_eq : aG m c = b1 m c := by rfl
theorem wg_eq (l : Fin 2816) (k : Fin 1024) : aWg m c (ix2 l k) = b2 m c (ix2 k l) := by
  have : aWg m c = transpose S2816x1024 [1, 0] (b2 m c) transposes_S1024x2816_S2816x1024_1_0 := by rfl
  rw [this]
  pointwise
theorem wu_eq (l : Fin 2816) (k : Fin 1024) : aWu m c (ix2 l k) = b3 m c (ix2 k l) := by
  have : aWu m c = transpose S2816x1024 [1, 0] (b3 m c) transposes_S1024x2816_S2816x1024_1_0 := by rfl
  rw [this]
  pointwise

/-- A row of a row block, a column of a half, of a point. -/
def row (t : Fin cfg0.N) (r : Fin 512) : Fin 4096 := ⟨t.val / 2 * 512 + r.val, by have := lt16 t; omega⟩
def col (t : Fin cfg0.N) (j : Fin 1408) : Fin 2816 := ⟨t.val % 2 * 1408 + j.val, by omega⟩

theorem blk0 (t : Fin cfg0.N) (r : Fin 512) (k : Fin 1024) : iblk m c 0 t (ix2 r k) = aX m c (ix2 (row t r) k) := by
  blk_point [iblk, V, idx t, row, col]
theorem blk1 (t : Fin cfg0.N) (a : Fin 1) (k : Fin 1024) : iblk m c 1 t (ix2 a k) = aG m c (ix2 a k) := by
  blk_point [iblk, V, idx t, row, col]
theorem blk2 (t : Fin cfg0.N) (j : Fin 1408) (k : Fin 1024) : iblk m c 2 t (ix2 j k) = aWg m c (ix2 (col t j) k) := by
  blk_point [iblk, V, idx t, row, col]
theorem blk3 (t : Fin cfg0.N) (j : Fin 1408) (k : Fin 1024) : iblk m c 3 t (ix2 j k) = aWu m c (ix2 (col t j) k) := by
  blk_point [iblk, V, idx t, row, col]
theorem emb4 (t : Fin cfg0.N) (r : Fin 512) (j : Fin 1408) : ((cfg0.win 4).blk t).view.emb (ix2 r j) = ix2 (row t r) (col t j) := by
  blk_ext [idx t, row, col]
theorem emb5 (t : Fin cfg0.N) (r : Fin 512) (j : Fin 1408) : ((cfg0.win 5).blk t).view.emb (ix2 r j) = ix2 (row t r) (col t j) := by
  blk_ext [idx t, row, col]
theorem emb6 (t : Fin cfg0.N) (r : Fin 512) (j : Fin 1408) : ((cfg0.win 6).blk t).view.emb (ix2 r j) = ix2 (row t r) (col t j) := by
  blk_ext [idx t, row, col]
theorem emb7 (t : Fin cfg0.N) (r : Fin 512) (k : Fin 1024) : ((cfg0.win 7).blk t).view.emb (ix2 r k) = ix2 (row t r) k := by
  blk_ext [idx t, row, col]

theorem row_start (t : Fin cfg0.N) (r : Fin 512) : row (start t.val) r = row t r :=
  Fin.ext (by have := lt16 t; show (t.val - t.val % 2) % 16 / 2 * 512 + r.val = t.val / 2 * 512 + r.val; omega)

/-- What the reference returns, at these arguments. -/
abbrev G4 : FVec Ideal S4096x2816 .bf16 := Cert.ActFwdRefIdeal.Read.val_main_v16 (F := Ideal) (b0 m c) (b1 m c) (b2 m c)
abbrev G5 : FVec Ideal S4096x2816 .bf16 := Cert.ActFwdRefIdeal.Read.val_main_v17 (F := Ideal) (b0 m c) (b1 m c) (b3 m c)
abbrev G6 : FVec Ideal S4096x2816 .bf16 := Cert.ActFwdRefIdeal.Read.val_main_v18 (F := Ideal) (b0 m c) (b1 m c) (b2 m c) (b3 m c)
abbrev G7 : FVec Ideal S4096x1024 .bf16 := Cert.ActFwdRefIdeal.Read.val_main_v19 (F := Ideal) (b0 m c) (b1 m c)

variable (t : Fin cfg0.N) (r : Fin 512) (j : Fin 1408)

theorem h_blk (k : Fin 1024) : hAt m c t.val (ix2 r k) = Cert.ActFwdRefIdeal.Spec.hn (b0 m c) (b1 m c) (row t r) k := by
  unfold hAt
  rw [pay1_at]
  simp only [blk0, blk1, row_start]
  rfl

theorem a_blk : k0_pay3 (F := Ideal) (hAt m c t.val) (iblk m c 2 t) (ix2 r j) = Cert.ActFwdRefIdeal.Spec.pre (b0 m c) (b1 m c) (b2 m c) (row t r) (col t j) := by
  rw [pay3_at]
  simp only [blk2, h_blk]
  exact Finset.sum_congr rfl fun k _ => congrArg (_ * ·) (wg_eq m c (col t j) k)

theorem b_blk : k0_pay4 (F := Ideal) (hAt m c t.val) (iblk m c 3 t) (ix2 r j) = Cert.ActFwdRefIdeal.Spec.pre (b0 m c) (b1 m c) (b3 m c) (row t r) (col t j) := by
  refine (pay3_at (hAt m c t.val) (iblk m c 3 t) r j).trans ?_
  simp only [blk3, h_blk]
  exact Finset.sum_congr rfl fun k _ => congrArg (_ * ·) (wu_eq m c (col t j) k)

theorem final4 : (dats m 0 c).arrAt 4 cfg0.N = G4 m c := by
  refine (dats m 0 c).arrAt_eq_of_covers 4 (G4 m c) (by decide +kernel) fun t _ y => ?_
  blk_simp
  rw [after_4]
  idx_vars y
  rw [emb4]
  exact (a_blk m c t _ _).trans (Cert.ActFwdRefIdeal.Spec.v12_at _ _ _ _ _).symm

theorem final5 : (dats m 0 c).arrAt 5 cfg0.N = G5 m c := by
  refine (dats m 0 c).arrAt_eq_of_covers 5 (G5 m c) (by decide +kernel) fun t _ y => ?_
  blk_simp
  rw [after_5]
  idx_vars y
  rw [emb5]
  exact (b_blk m c t _ _).trans (Cert.ActFwdRefIdeal.Spec.v12_at _ _ _ _ _).symm

theorem final6 (real : ∀ r j, ∃ s : ℝ, Cert.ActFwdRefIdeal.Spec.pre (b0 m c) (b1 m c) (b2 m c) r j = (s : EReal)) : (dats m 0 c).arrAt 6 cfg0.N = G6 m c := by
  refine (dats m 0 c).arrAt_eq_of_covers 6 (G6 m c) (by decide +kernel) fun t _ y => ?_
  blk_simp
  rw [after_6]
  idx_vars y
  rw [emb6, pay7_at, a_blk, b_blk, sgK_eq (real _ _)]
  refine Eq.trans ?_ (Cert.ActFwdRefIdeal.Spec.v15_at _ _ _ _ _ _).symm
  exact congrArg (_ * ·) (Cert.ActFwdRefIdeal.Spec.v12_at _ _ (b3 m c) _ _).symm

theorem final7 : (dats m 0 c).arrAt 7 cfg0.N = G7 m c := by
  refine (dats m 0 c).arrAt_eq_of_covers 7 (G7 m c) (by decide +kernel) fun t _ y => ?_
  blk_simp
  rw [after_7]
  idx_vars y
  rw [emb7]
  exact (h_blk m c t _ _).trans (Cert.ActFwdRefIdeal.Spec.v11_at _ _ _ _).symm

end Cert.ActFwdIdeal.Fin

end
-- ==== Proof.ActFwd.Claim.lean ====
/- The claims about the first FFN's gated product. -/
module

public import proofs.«01_k».proof.Defs
public import proofs.«01_k».proof.Proof.ActFwd.Value
public import proofs.«01_k».proof.Proof.Gen.ActFwd
public import proofs.«01_k».proof.Proof.Gen.ActFwdRefIdeal.Run
public import proofs.«01_k».proof.Proof.Gen.Pre_finite_act_fwd

@[expose] public section

set_option maxRecDepth 16384

noncomputable section

namespace Cert.ActFwdClaim

open Idealize.ShloMosaic Idealize.ShloMosaic.TcCoe Idealize.SL.Sem
open Cert.Shared

section Finite
open Cert.Pre_finite_act_fwd

/-- The precondition, as: every element of the three arrays is a real number. -/
theorem finite (a0 : FVec Ideal S4096x1024 .f32) (a1 : FVec Ideal S1x1024 .f32) (a2 a3 : FVec Ideal S1024x2816 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h (fun a => a.elim0)
  unfold fn at e
  obtain ⟨e, e2⟩ := and_eq_one _ _ e
  obtain ⟨e0, e1⟩ := and_eq_one _ _ e
  exact ⟨fun i => real_of_cmp _ (all_of_reduce _ _ _ _ _ e0 i), fun i => real_of_cmp _ (all_of_reduce _ _ _ _ _ e1 i), fun i => real_of_cmp _ (all_of_reduce _ _ _ _ _ e2 i)⟩

end Finite

theorem algebraic : Cert.algebraic_ActFwdIdeal_ActFwdRefIdeal_pre_finite_act_fwd := by
  intro m g m' g' hpre hag
  have real : ∀ c r j, ∃ s : ℝ, Cert.ActFwdRefIdeal.Spec.pre (Cert.ActFwdIdeal.Fin.b0 m c) (Cert.ActFwdIdeal.Fin.b1 m c) (Cert.ActFwdIdeal.Fin.b2 m c) r j = (s : EReal) := by
    intro c r j
    obtain ⟨h0, h1, h2⟩ := finite _ _ _ _ (hpre c)
    exact preact_real _ _ _ (fun k => h0 _) (fun k => h1 _) (fun k => h2 _)
  refine ⟨fun c => Cert.ActFwdIdeal.Fin.G4 m c, fun c => Cert.ActFwdIdeal.Fin.G5 m c, fun c => Cert.ActFwdIdeal.Fin.G6 m c, fun c => Cert.ActFwdIdeal.Fin.G7 m c,
    (θ_run _ _ _).mono (fun r h c => ?_) (θ_run_and (Cert.ActFwdIdeal.Body.run_all m g) (Cert.ActFwdIdeal.Body.frame_all m g)),
    (θ_run _ _ _).mono (fun r h c => ?_) (Cert.ActFwdRefIdeal.Value.run m' g')⟩
  · obtain ⟨⟨hp, -⟩, hf, -⟩ := h
    exact ⟨((hp c).1 4).trans (Cert.ActFwdIdeal.Fin.final4 m c), ((hp c).1 5).trans (Cert.ActFwdIdeal.Fin.final5 m c),
      ((hp c).1 6).trans (Cert.ActFwdIdeal.Fin.final6 m c (real c)), ((hp c).1 7).trans (Cert.ActFwdIdeal.Fin.final7 m c), hf c⟩
  · obtain ⟨e0, e1, e2, e3, e⟩ := h c
    obtain ⟨a0, a1, a2, a3⟩ := hag c
    refine ⟨e0.trans ?_, e1.trans ?_, e2.trans ?_, e3.trans ?_, e⟩
    · refine (Cert.ActFwdRefIdeal.Read.val_main_v16_eq _ _ _).trans ?_
      rw [a0, a1, a2]
    · refine (Cert.ActFwdRefIdeal.Read.val_main_v17_eq _ _ _).trans ?_
      rw [a0, a1, a3]
    · refine (Cert.ActFwdRefIdeal.Read.val_main_v18_eq _ _ _ _).trans ?_
      rw [a0, a1, a2, a3]
    · refine (Cert.ActFwdRefIdeal.Read.val_main_v19_eq _ _).trans ?_
      rw [a0, a1]

section Frames
open Cert.ActFwdIdeal Cert.ActFwdIdeal.Gen Cert.ActFwdIdeal.Body

/-- The frame at the bit-exact floats, of the text both programs share. -/
def FrameBits : Prop := ∀ (m : (ℓ : Loc nD τ sig) → Buf (Elt Bits) ℓ) (g : Dev nD → PrngReg), True →
  θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_bits : FrameBits := fun m ρ _ => frame_all (F := Bits) m ρ

end Frames

theorem frame_same : Cert.quiescent_ActFwd = FrameBits := by sl_kernel_rfl

theorem frame_kernel : Cert.quiescent_ActFwd := frame_same.mpr frame_bits

theorem frame_ideal : Cert.quiescent_ActFwdIdeal := fun m ρ _ => Cert.ActFwdIdeal.Body.frame_all (F := Ideal) m ρ

theorem frame_ref : Cert.quiescent_ActFwdRefIdeal := fun m g _ =>
  (θ_run _ _ _).mono (fun r h => ⟨fun c => (h c).2.2.2.2, sem_eq_zero_of_no_sems (by decide) r.2⟩) (Cert.ActFwdRefIdeal.Value.run m g)

end Cert.ActFwdClaim

end
-- ==== Proof.InDw.Claim.lean ====
/- The claims about the gradient of the input projection's weight. -/
module

public import proofs.«01_k».proof.Defs
public import proofs.«01_k».proof.Proof.Gen.InDw
public import proofs.«01_k».proof.Proof.Gen.InDwIdeal.Value
public import proofs.«01_k».proof.Proof.Gen.InDwRefIdeal.Read
public import Idealize.ShloMosaic.Lib.Pointwise
public import Idealize.ShloMosaic.Lib.Pipeline.ValueKit

@[expose] public section

set_option maxRecDepth 16384

noncomputable section

namespace Cert.InDwRefIdeal.Spec

open Idealize.ShloMosaic Idealize.ShloMosaic.TcCoe Idealize.SL.Sem
open Cert.InDwRefIdeal Cert.InDwRefIdeal.Gen Cert.InDwRefIdeal.Read

theorem v7_at (x0 : FVec Ideal S4096x3584 .bf16) (x1 : FVec Ideal S4096x1024 .bf16) (r : Fin 3584) (k : Fin 1024) :
    val_main_v7 (F := Ideal) x0 x1 (ix2 r k) = ∑ l : Fin 4096, x0 (ix2 l r) * x1 (ix2 l k) := by
  pointwise! [val_main_v7, val_main_v6, val_main_v5, val_main_v4, val_main_v3, val_main_v1]

end Cert.InDwRefIdeal.Spec

namespace Cert.InDwIdeal.Fin

open Idealize.ShloMosaic Idealize.ShloMosaic.TcCoe Idealize.SL.Sem
open Idealize.ShloMosaic.Pipeline (Dat)
open Cert.InDwIdeal Cert.InDwIdeal.Gen

theorem pay_at (x : FVec Ideal S4096x256 .bf16) (y : FVec Ideal S4096x1024 .bf16) (r : Fin 256) (k : Fin 1024) :
    k0_pay1 (F := Ideal) x y (ix2 r k) = ∑ l : Fin 4096, x (ix2 l r) * y (ix2 l k) := by
  pointwise! [k0_pay1]

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

/-- The arguments' contents, at their shapes, and the column of a block's column. -/
abbrev b0 : FVec Ideal S4096x3584 .bf16 := m ((c : Thread nD τ).loc main_arg0)
abbrev b1 : FVec Ideal S4096x1024 .bf16 := m ((c : Thread nD τ).loc main_arg1)
def col (t : Fin cfg0.N) (r : Fin 256) : Fin 3584 := ⟨t.val * 256 + r.val, by have := lt_of_lt_of_eq t.isLt N_0; omega⟩

theorem blk0 (t : Fin cfg0.N) (l : Fin 4096) (r : Fin 256) : iblk m c 0 t (ix2 l r) = b0 m c (ix2 l (col t r)) := by
  blk_point [iblk, V, idx t, col]
theorem blk1 (t : Fin cfg0.N) (l : Fin 4096) (k : Fin 1024) : iblk m c 1 t (ix2 l k) = b1 m c (ix2 l k) := by
  blk_point [iblk, V, idx t, col]
theorem emb2 (t : Fin cfg0.N) (r : Fin 256) (k : Fin 1024) : ((cfg0.win 2).blk t).view.emb (ix2 r k) = ix2 (col t r) k := by
  blk_ext [idx t, col]

/-- What the reference returns, at these arguments. -/
abbrev G2 : FVec Ideal S3584x1024 .bf16 := Cert.InDwRefIdeal.Read.val_main_v7 (F := Ideal) (b0 m c) (b1 m c)

theorem final2 : (dats m 0 c).arrAt 2 cfg0.N = G2 m c := by
  refine (dats m 0 c).arrAt_eq_of_covers 2 (G2 m c) (by decide +kernel) fun t _ y => ?_
  blk_simp
  rw [after0_2]
  unfold out0_2
  frame_out
  idx_vars y
  rw [emb2, pay_at]
  simp only [blk0, blk1]
  exact (Cert.InDwRefIdeal.Spec.v7_at _ _ _ _).symm

end Cert.InDwIdeal.Fin

namespace Cert.InDwClaim

open Idealize.ShloMosaic Idealize.ShloMosaic.TcCoe Idealize.SL.Sem

theorem algebraic : Cert.algebraic_InDwIdeal_InDwRefIdeal := by
  intro m g m' g' hpre hag
  refine ⟨fun c => Cert.InDwIdeal.Fin.G2 m c, (θ_run _ _ _).mono (fun r h c => ?_) (Cert.InDwIdeal.Value.run_blocks m g),
    (θ_run _ _ _).mono (fun r h c => ?_) (Cert.InDwRefIdeal.Value.run m' g')⟩
  · exact ⟨(h c).1.trans (Cert.InDwIdeal.Fin.final2 m c), (h c).2⟩
  · obtain ⟨a0, a1⟩ := hag c
    refine ⟨(h c).1.trans ((Cert.InDwRefIdeal.Read.val_main_v7_eq _ _).trans ?_), (h c).2⟩
    rw [a0, a1]

theorem frame_ref : Cert.quiescent_InDwRefIdeal := fun m g _ =>
  (θ_run _ _ _).mono (fun r h => ⟨fun c => (h c).2, sem_eq_zero_of_no_sems (by decide) r.2⟩) (Cert.InDwRefIdeal.Value.run m g)

end Cert.InDwClaim

end
-- ==== Proof.AdamW.Claim.lean ====
/- The claims about the sum of the devices' gradients and the optimiser's step. -/
module

public import proofs.«01_k».proof.Defs
public import proofs.«01_k».proof.Proof.Gen.AdamW
public import proofs.«01_k».proof.Proof.Gen.AdamWIdeal.Value
public import proofs.«01_k».proof.Proof.Gen.AdamWRefIdeal.Read
public import Idealize.ShloMosaic.Lib.Pointwise
public import Idealize.ShloMosaic.Lib.Pipeline.ValueKit

@[expose] public section

set_option maxRecDepth 16384

noncomputable section

namespace Cert.AdamWSpec

open Idealize.ShloMosaic

/-- The two moments and the step, of one gradient, weight and pair of moments. -/
def mom (g m : EReal) : EReal := Ideal.ofBits .f32 0x3F666666#32 * m + Ideal.ofBits .f32 0x3DCCCCCD#32 * g
def var (g v : EReal) : EReal := Ideal.ofBits .f32 0x3F7FBE77#32 * v + Ideal.ofBits .f32 0x3A83126F#32 * (g * g)
def step (w m v : EReal) : EReal := Ideal.ofBits .f32 0xBA83126F#32
  * (Ideal.div (Ideal.div m (Ideal.ofBits .f32 0x3F26BD02#32)) (Ideal.sqrt (Ideal.div v (Ideal.ofBits .f32 0x3C231ACC#32)) + Ideal.ofBits .f32 0x322BCC77#32)
    + Ideal.ofBits .f32 0x3C23D70A#32 * w)

end Cert.AdamWSpec

namespace Cert.AdamWRefIdeal.Spec

open Idealize.ShloMosaic Idealize.ShloMosaic.TcCoe Idealize.SL.Sem
open Cert.AdamWRefIdeal Cert.AdamWRefIdeal.Gen Cert.AdamWRefIdeal.Read Cert.AdamWSpec

variable (x0 : FVec Ideal S8x448x1024 .bf16) (x1 x2 x3 : FVec Ideal S1x448x1024 .f32) (a : Fin 1) (r : Fin 448) (k : Fin 1024)

theorem v1_at : val_main_v1 (F := Ideal) x0 (ix2 r k) = ∑ s : Fin 8, x0 (ix3 s r k) := by
  pointwise! [val_main_v1, val_main_v0, val_main_cst]

theorem v29_at : val_main_v29 (F := Ideal) x0 (ix3 a r k) = val_main_v1 (F := Ideal) x0 (ix2 r k) := by
  unfold val_main_v29
  generalize val_main_v1 (F := Ideal) x0 = p
  pointwise!

theorem v9_at : val_main_v9 (F := Ideal) x0 x2 (ix2 r k) = mom (val_main_v1 (F := Ideal) x0 (ix2 r k)) (x2 (ix3 0 r k)) := by
  unfold val_main_v9 val_main_v8 mom
  generalize val_main_v1 (F := Ideal) x0 = p
  pointwise! [val_main_v7, val_main_v6, val_main_v5, val_main_v3, val_main_cst_0, val_main_cst_1]

theorem v31_at : val_main_v31 (F := Ideal) x0 x2 (ix3 a r k) = val_main_v9 (F := Ideal) x0 x2 (ix2 r k) := by
  unfold val_main_v31
  generalize val_main_v9 (F := Ideal) x0 x2 = p
  pointwise!

theorem v15_at : val_main_v15 (F := Ideal) x0 x3 (ix2 r k) = var (val_main_v1 (F := Ideal) x0 (ix2 r k)) (x3 (ix3 0 r k)) := by
  unfold val_main_v15 val_main_v14 val_main_v12 var
  generalize val_main_v1 (F := Ideal) x0 = p
  pointwise! [val_main_v13, val_main_v11, val_main_v10, val_main_v4, val_main_cst_2, val_main_cst_3]

theorem v32_at : val_main_v32 (F := Ideal) x0 x3 (ix3 a r k) = val_main_v15 (F := Ideal) x0 x3 (ix2 r k) := by
  unfold val_main_v32
  generalize val_main_v15 (F := Ideal) x0 x3 = p
  pointwise!

theorem v30_at : val_main_v30 (F := Ideal) x0 x1 x2 x3 (ix3 a r k)
    = step (x1 (ix3 0 r k)) (val_main_v9 (F := Ideal) x0 x2 (ix2 r k)) (val_main_v15 (F := Ideal) x0 x3 (ix2 r k)) := by
  unfold val_main_v30 val_main_v28 val_main_v26 val_main_v23 val_main_v22 val_main_v20 val_main_v19 val_main_v17 step
  generalize val_main_v9 (F := Ideal) x0 x2 = p
  generalize val_main_v15 (F := Ideal) x0 x3 = q
  pointwise! [val_main_v27, val_main_v25, val_main_v24, val_main_v21, val_main_v18, val_main_v16, val_main_v2, val_main_cst_4, val_main_cst_5, val_main_cst_6, val_main_cst_7,
    val_main_cst_8]

end Cert.AdamWRefIdeal.Spec

namespace Cert.AdamWIdeal.Fin

open Idealize.ShloMosaic Idealize.ShloMosaic.TcCoe Idealize.SL.Sem
open Idealize.ShloMosaic.Pipeline (Dat)
open Cert.AdamWIdeal Cert.AdamWIdeal.Gen Cert.AdamWSpec

section Pay
variable (x0 : FVec Ideal S8x224x1024 .bf16) (x1 x2 x3 : FVec Ideal S1x224x1024 .f32) (p : FVec Ideal S224x1024 .f32) (a : Fin 1) (r : Fin 224) (k : Fin 1024)

theorem pay3_at (y0 y1 y2 y3 y4 y5 y6 y7 : FVec Ideal S1x224x1024 .bf16) : k0_pay3 (F := Ideal) y0 y1 y2 y3 y4 y5 y6 y7 (ix2 r k)
    = y0 (ix3 0 r k) + y1 (ix3 0 r k) + y2 (ix3 0 r k) + y3 (ix3 0 r k) + y4 (ix3 0 r k) + y5 (ix3 0 r k) + y6 (ix3 0 r k) + y7 (ix3 0 r k) := by
  pointwise! [k0_pay3]

theorem sum_at : k0_pay8 (F := Ideal) x0 x1 x2 x3 (ix2 r k) = ∑ s : Fin 8, x0 (ix3 s r k) := by
  have ld (s : Fin 8) (inb) : View.ld (show Vec Ideal S8x224x1024 .bf16 from x0) (Rect.unit (s := S8x224x1024) ![s.val, 0, 0] S1x224x1024.size inb) (ix3 0 r k) = x0 (ix3 s r k) :=
    View.ld_unit_apply_of (Val := Elt Ideal) (e := .bf16) (S := S8x224x1024) x0 ![s.val, 0, 0] S1x224x1024.size inb (ix3 0 r k) (ix3 s r k) fun
      | ⟨0, _⟩ => rfl
      | ⟨1, _⟩ => (Nat.zero_add _).symm
      | ⟨2, _⟩ => (Nat.zero_add _).symm
  unfold k0_pay8
  rw [pay3_at, Fin.sum_univ_eight]
  exact congr (congrArg _ (congr (congrArg _ (congr (congrArg _ (congr (congrArg _ (congr (congrArg _ (congr (congrArg _ (congr (congrArg _ (ld 0 _)) (ld 1 _))) (ld 2 _)))
    (ld 3 _))) (ld 4 _))) (ld 5 _))) (ld 6 _))) (ld 7 _)

theorem pay4_at : k0_pay4 (F := Ideal) p (ix3 a r k) = p (ix2 r k) := by
  pointwise! [k0_pay4]
theorem pay1_at : k0_pay1 (F := Ideal) p (ix3 a r k) = p (ix2 r k) := by
  pointwise! [k0_pay1]
theorem pay2_at : k0_pay2 (F := Ideal) p (ix3 a r k) = p (ix2 r k) := by
  pointwise! [k0_pay2]
theorem pay5_at : k0_pay5 (F := Ideal) p x2 (ix2 r k) = mom (p (ix2 r k)) (x2 (ix3 0 r k)) := by
  unfold mom
  pointwise! [k0_pay5]
theorem pay6_at : k0_pay6 (F := Ideal) p x3 (ix2 r k) = var (p (ix2 r k)) (x3 (ix3 0 r k)) := by
  unfold var
  pointwise! [k0_pay6]
theorem pay7_at : k0_pay7 (F := Ideal) p x1 x2 x3 (ix3 a r k)
    = step (x1 (ix3 0 r k)) (k0_pay5 (F := Ideal) p x2 (ix2 r k)) (k0_pay6 (F := Ideal) p x3 (ix2 r k)) := by
  unfold k0_pay7 step
  generalize k0_pay5 (F := Ideal) p x2 = q
  generalize k0_pay6 (F := Ideal) p x3 = s
  pointwise!

end Pay

variable (m : (ℓ : Loc nD τ sig) → Buf (Elt Ideal) ℓ) (c : Dev nD)

theorem idx : ∀ t : Fin cfg0.N, win0_0.index t = ![0, t.val, 0] ∧ win0_1.index t = ![0, t.val, 0] ∧ win0_2.index t = ![0, t.val, 0] ∧ win0_3.index t = ![0, t.val, 0]
    ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The arguments' contents, at their shapes, and the row of a block's row. -/
abbrev b0 : FVec Ideal S8x448x1024 .bf16 := m ((c : Thread nD τ).loc main_arg0)
abbrev b1 : FVec Ideal S1x448x1024 .f32 := m ((c : Thread nD τ).loc main_arg1)
abbrev b2 : FVec Ideal S1x448x1024 .f32 := m ((c : Thread nD τ).loc main_arg2)
abbrev b3 : FVec Ideal S1x448x1024 .f32 := m ((c : Thread nD τ).loc main_arg3)
def row (t : Fin cfg0.N) (r : Fin 224) : Fin 448 := ⟨t.val * 224 + r.val, by have := lt_of_lt_of_eq t.isLt N_0; omega⟩

section Blocks
variable (t : Fin cfg0.N) (a : Fin 1) (r : Fin 224) (k : Fin 1024)

theorem blk0 (s : Fin 8) : iblk m c 0 t (ix3 s r k) = b0 m c (ix3 s (row t r) k) := by
  blk_point [iblk, V, idx t, row]
theorem blk1 : iblk m c 1 t (ix3 a r k) = b1 m c (ix3 a (row t r) k) := by
  blk_point [iblk, V, idx t, row]
theorem blk2 : iblk m c 2 t (ix3 a r k) = b2 m c (ix3 a (row t r) k) := by
  blk_point [iblk, V, idx t, row]
theorem blk3 : iblk m c 3 t (ix3 a r k) = b3 m c (ix3 a (row t r) k) := by
  blk_point [iblk, V, idx t, row]
theorem emb4 : ((cfg0.win 4).blk t).view.emb (ix3 a r k) = ix3 a (row t r) k := by
  blk_ext [idx t, row]
theorem emb5 : ((cfg0.win 5).blk t).view.emb (ix3 a r k) = ix3 a (row t r) k := by
  blk_ext [idx t, row]
theorem emb6 : ((cfg0.win 6).blk t).view.emb (ix3 a r k) = ix3 a (row t r) k := by
  blk_ext [idx t, row]
theorem emb7 : ((cfg0.win 7).blk t).view.emb (ix3 a r k) = ix3 a (row t r) k := by
  blk_ext [idx t, row]

theorem g_blk : k0_pay8 (F := Ideal) (iblk m c 0 t) (iblk m c 1 t) (iblk m c 2 t) (iblk m c 3 t) (ix2 r k)
    = Cert.AdamWRefIdeal.Read.val_main_v1 (F := Ideal) (b0 m c) (ix2 (row t r) k) := by
  rw [sum_at]
  simp only [blk0]
  exact (Cert.AdamWRefIdeal.Spec.v1_at _ _ _).symm

theorem m_blk : k0_pay5 (F := Ideal) (k0_pay8 (F := Ideal) (iblk m c 0 t) (iblk m c 1 t) (iblk m c 2 t) (iblk m c 3 t)) (iblk m c 2 t) (ix2 r k)
    = Cert.AdamWRefIdeal.Read.val_main_v9 (F := Ideal) (b0 m c) (b2 m c) (ix2 (row t r) k) := by
  rw [pay5_at, g_blk, blk2]
  exact (Cert.AdamWRefIdeal.Spec.v9_at _ _ _ _).symm

theorem v_blk : k0_pay6 (F := Ideal) (k0_pay8 (F := Ideal) (iblk m c 0 t) (iblk m c 1 t) (iblk m c 2 t) (iblk m c 3 t)) (iblk m c 3 t) (ix2 r k)
    = Cert.AdamWRefIdeal.Read.val_main_v15 (F := Ideal) (b0 m c) (b3 m c) (ix2 (row t r) k) := by
  rw [pay6_at, g_blk, blk3]
  exact (Cert.AdamWRefIdeal.Spec.v15_at _ _ _ _).symm

end Blocks

/-- What the reference returns, at these arguments. -/
abbrev G4 : FVec Ideal S1x448x1024 .f32 := Cert.AdamWRefIdeal.Read.val_main_v29 (F := Ideal) (b0 m c)
abbrev G5 : FVec Ideal S1x448x1024 .f32 := Cert.AdamWRefIdeal.Read.val_main_v30 (F := Ideal) (b0 m c) (b1 m c) (b2 m c) (b3 m c)
abbrev G6 : FVec Ideal S1x448x1024 .f32 := Cert.AdamWRefIdeal.Read.val_main_v31 (F := Ideal) (b0 m c) (b2 m c)
abbrev G7 : FVec Ideal S1x448x1024 .f32 := Cert.AdamWRefIdeal.Read.val_main_v32 (F := Ideal) (b0 m c) (b3 m c)

theorem final4 : (dats m 0 c).arrAt 4 cfg0.N = G4 m c := by
  refine (dats m 0 c).arrAt_eq_of_covers 4 (G4 m c) (by decide +kernel) fun t _ y => ?_
  blk_simp
  rw [after0_4]
  unfold out0_4
  frame_out
  idx_vars y
  rw [emb4, pay4_at, g_blk]
  exact (Cert.AdamWRefIdeal.Spec.v29_at _ _ _ _).symm

theorem final5 : (dats m 0 c).arrAt 5 cfg0.N = G5 m c := by
  refine (dats m 0 c).arrAt_eq_of_covers 5 (G5 m c) (by decide +kernel) fun t _ y => ?_
  blk_simp
  rw [after0_5]
  unfold out0_5
  frame_out
  idx_vars y
  rw [emb5, pay7_at, m_blk, v_blk, blk1]
  exact (Cert.AdamWRefIdeal.Spec.v30_at _ _ _ _ _ _ _).symm

theorem final6 : (dats m 0 c).arrAt 6 cfg0.N = G6 m c := by
  refine (dats m 0 c).arrAt_eq_of_covers 6 (G6 m c) (by decide +kernel) fun t _ y => ?_
  blk_simp
  rw [after0_6]
  unfold out0_6
  frame_out
  idx_vars y
  rw [emb6, pay1_at, m_blk]
  exact (Cert.AdamWRefIdeal.Spec.v31_at _ _ _ _ _).symm

theorem final7 : (dats m 0 c).arrAt 7 cfg0.N = G7 m c := by
  refine (dats m 0 c).arrAt_eq_of_covers 7 (G7 m c) (by decide +kernel) fun t _ y => ?_
  blk_simp
  rw [after0_7]
  unfold out0_7
  frame_out
  idx_vars y
  rw [emb7, pay2_at, v_blk]
  exact (Cert.AdamWRefIdeal.Spec.v32_at _ _ _ _ _).symm

end Cert.AdamWIdeal.Fin

namespace Cert.AdamWClaim

open Idealize.ShloMosaic Idealize.ShloMosaic.TcCoe Idealize.SL.Sem
open Cert.AdamWIdeal.Fin Cert.AdamWRefIdeal.Read

theorem algebraic : Cert.algebraic_AdamWIdeal_AdamWRefIdeal := by
  intro m g m' g' hpre hag
  refine ⟨fun c => G4 m c, fun c => G5 m c, fun c => G6 m c, fun c => G7 m c, (θ_run _ _ _).mono (fun r h c => ?_) (Cert.AdamWIdeal.Value.run_blocks m g),
    (θ_run _ _ _).mono (fun r h c => ?_) (Cert.AdamWRefIdeal.Value.run m' g')⟩
  · obtain ⟨e0, e1, e2, e3, e⟩ := h c
    exact ⟨e0.trans (final4 m c), e1.trans (final5 m c), e2.trans (final6 m c), e3.trans (final7 m c), e⟩
  · obtain ⟨e0, e1, e2, e3, e⟩ := h c
    obtain ⟨a0, a1, a2, a3⟩ := hag c
    refine ⟨e0.trans ((val_main_v29_eq _).trans ?_), e1.trans ((val_main_v30_eq _ _ _ _).trans ?_), e2.trans ((val_main_v31_eq _ _).trans ?_),
      e3.trans ((val_main_v32_eq _ _).trans ?_), e⟩
    · rw [a0]
    · rw [a0, a1, a2, a3]
    · rw [a0, a2]
    · rw [a0, a3]

theorem frame_ref : Cert.quiescent_AdamWRefIdeal := fun m g _ =>
  (θ_run _ _ _).mono (fun r h => ⟨fun c => (h c).2.2.2.2, sem_eq_zero_of_no_sems (by decide) r.2⟩) (Cert.AdamWRefIdeal.Value.run m g)

end Cert.AdamWClaim

end
-- ==== Proof.lean ====
module

public import proofs.«01_k».proof.Defs
public import proofs.«01_k».proof.Proof.Gen.InDx
public import proofs.«01_k».proof.Proof.Gen.InDx.Frame
public import proofs.«01_k».proof.Proof.Gen.InDxIdeal
public import proofs.«01_k».proof.Proof.Gen.InDxIdeal.Frame
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDxRefIdeal.Read
public import proofs.«01_k».proof.Proof.Gen.Pre_finite_in_dx
public import proofs.«01_k».proof.Proof.InDx.Claim
public import proofs.«01_k».proof.Proof.Gen.SbBwd
public import proofs.«01_k».proof.Proof.Gen.SbBwdIdeal
public import proofs.«01_k».proof.Proof.Gen.SbBwdIdeal.Frame
public import proofs.«01_k».proof.Proof.Gen.SbBwdRefIdeal
public import proofs.«01_k».proof.Proof.Gen.SbBwdRefIdeal.Run
public import proofs.«01_k».proof.Proof.Gen.SbBwdRefIdeal.Read
public import proofs.«01_k».proof.Proof.Gen.Pre_finite_sb_bwd
public import proofs.«01_k».proof.Proof.SbBwd.Claim
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.Pre_finite_ffn_in
public import proofs.«01_k».proof.Proof.FfnIn.Claim
public import proofs.«01_k».proof.Proof.Gen.FfnAct
public import proofs.«01_k».proof.Proof.Gen.FfnAct.Frame
public import proofs.«01_k».proof.Proof.Gen.FfnActIdeal
public import proofs.«01_k».proof.Proof.Gen.FfnActIdeal.Frame
public import proofs.«01_k».proof.Proof.Gen.FfnActIdeal.Value
public import proofs.«01_k».proof.Proof.Gen.FfnActRefIdeal
public import proofs.«01_k».proof.Proof.Gen.FfnActRefIdeal.Run
public import proofs.«01_k».proof.Proof.Gen.FfnActRefIdeal.Read
public import proofs.«01_k».proof.Proof.Gen.Pre_finite_ffn_act
public import proofs.«01_k».proof.Proof.FfnAct.Claim
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixBwdIdeal.Value
public import proofs.«01_k».proof.Proof.Gen.MixBwdRefIdeal
public import proofs.«01_k».proof.Proof.Gen.MixBwdRefIdeal.Run
public import proofs.«01_k».proof.Proof.Gen.MixBwdRefIdeal.Read
public import proofs.«01_k».proof.Proof.Gen.Pre_finite_mix_bwd
public import proofs.«01_k».proof.Proof.MixBwd.Claim
public import proofs.«01_k».proof.Proof.Gen.FfnBwd
public import proofs.«01_k».proof.Proof.Gen.FfnBwdIdeal
public import proofs.«01_k».proof.Proof.Gen.FfnBwdIdeal.Frame
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.FfnBwd.Claim
public import proofs.«01_k».proof.Proof.Gen.FfnHead
public import proofs.«01_k».proof.Proof.Gen.FfnHeadIdeal
public import proofs.«01_k».proof.Proof.Gen.FfnHeadIdeal.Frame
public import proofs.«01_k».proof.Proof.Gen.FfnHeadRefIdeal
public import proofs.«01_k».proof.Proof.Gen.FfnHeadRefIdeal.Run
public import proofs.«01_k».proof.Proof.Gen.FfnHeadRefIdeal.Read
public import proofs.«01_k».proof.Proof.Gen.Pre_finite_ffn_head
public import proofs.«01_k».proof.Proof.FfnHead.Claim
public import proofs.«01_k».proof.Proof.Gen.DownFwd
public import proofs.«01_k».proof.Proof.Gen.DownFwd.Frame
public import proofs.«01_k».proof.Proof.Gen.DownFwdIdeal
public import proofs.«01_k».proof.Proof.Gen.DownFwdIdeal.Frame
public import proofs.«01_k».proof.Proof.Gen.DownFwdIdeal.Value
public import proofs.«01_k».proof.Proof.Gen.DownFwdRefIdeal
public import proofs.«01_k».proof.Proof.Gen.DownFwdRefIdeal.Run
public import proofs.«01_k».proof.Proof.Gen.DownFwdRefIdeal.Read
public import proofs.«01_k».proof.Proof.DownFwd.Claim
public import proofs.«01_k».proof.Proof.Gen.MixFwd
public import proofs.«01_k».proof.Proof.Gen.MixFwd.Frame
public import proofs.«01_k».proof.Proof.Gen.MixFwdIdeal
public import proofs.«01_k».proof.Proof.Gen.MixFwdIdeal.Frame
public import proofs.«01_k».proof.Proof.Gen.MixFwdIdeal.Value
public import proofs.«01_k».proof.Proof.Gen.MixFwdRefIdeal
public import proofs.«01_k».proof.Proof.Gen.MixFwdRefIdeal.Run
public import proofs.«01_k».proof.Proof.Gen.MixFwdRefIdeal.Read
public import proofs.«01_k».proof.Proof.Gen.Pre_finite_mix_fwd
public import proofs.«01_k».proof.Proof.MixFwd.Claim
public import proofs.«01_k».proof.Proof.Gen.ActFwd
public import proofs.«01_k».proof.Proof.Gen.ActFwdIdeal
public import proofs.«01_k».proof.Proof.Gen.ActFwdIdeal.Frame
public import proofs.«01_k».proof.Proof.Gen.ActFwdRefIdeal
public import proofs.«01_k».proof.Proof.Gen.ActFwdRefIdeal.Run
public import proofs.«01_k».proof.Proof.Gen.ActFwdRefIdeal.Read
public import proofs.«01_k».proof.Proof.Gen.Pre_finite_act_fwd
public import proofs.«01_k».proof.Proof.ActFwd.Claim
public import proofs.«01_k».proof.Proof.Gen.InDw
public import proofs.«01_k».proof.Proof.Gen.InDw.Frame
public import proofs.«01_k».proof.Proof.Gen.InDwIdeal
public import proofs.«01_k».proof.Proof.Gen.InDwIdeal.Frame
public import proofs.«01_k».proof.Proof.Gen.InDwIdeal.Value
public import proofs.«01_k».proof.Proof.Gen.InDwRefIdeal
public import proofs.«01_k».proof.Proof.Gen.InDwRefIdeal.Run
public import proofs.«01_k».proof.Proof.Gen.InDwRefIdeal.Read
public import proofs.«01_k».proof.Proof.InDw.Claim
public import proofs.«01_k».proof.Proof.Gen.AdamW
public import proofs.«01_k».proof.Proof.Gen.AdamW.Frame
public import proofs.«01_k».proof.Proof.Gen.AdamWIdeal
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.AdamW.Claim
public import Idealize.ShloMosaic.Adequacy
public import Idealize.ShloMosaic.Init

@[expose] public section

noncomputable section

namespace Cert.Proof

open Idealize.ShloMosaic Idealize.SL.Sem

theorem claim : Cert.Claim := ⟨
  Cert.InDx.Gen.facts,
  Cert.InDxIdeal.Gen.facts,
  Cert.InDxRefIdeal.Gen.facts,
  Cert.SbBwd.Gen.facts,
  Cert.SbBwdIdeal.Gen.facts,
  Cert.SbBwdRefIdeal.Gen.facts,
  Cert.FfnIn.Gen.facts,
  Cert.FfnInIdeal.Gen.facts,
  Cert.FfnInRefIdeal.Gen.facts,
  Cert.FfnAct.Gen.facts,
  Cert.FfnActIdeal.Gen.facts,
  Cert.FfnActRefIdeal.Gen.facts,
  Cert.MixBwd.Gen.facts,
  Cert.MixBwdIdeal.Gen.facts,
  Cert.MixBwdRefIdeal.Gen.facts,
  Cert.FfnBwd.Gen.facts,
  Cert.FfnBwdIdeal.Gen.facts,
  Cert.FfnBwdRefIdeal.Gen.facts,
  Cert.FfnHead.Gen.facts,
  Cert.FfnHeadIdeal.Gen.facts,
  Cert.FfnHeadRefIdeal.Gen.facts,
  Cert.DownFwd.Gen.facts,
  Cert.DownFwdIdeal.Gen.facts,
  Cert.DownFwdRefIdeal.Gen.facts,
  Cert.MixFwd.Gen.facts,
  Cert.MixFwdIdeal.Gen.facts,
  Cert.MixFwdRefIdeal.Gen.facts,
  Cert.ActFwd.Gen.facts,
  Cert.ActFwdIdeal.Gen.facts,
  Cert.ActFwdRefIdeal.Gen.facts,
  Cert.InDw.Gen.facts,
  Cert.InDwIdeal.Gen.facts,
  Cert.InDwRefIdeal.Gen.facts,
  Cert.AdamW.Gen.facts,
  Cert.AdamWIdeal.Gen.facts,
  Cert.AdamWRefIdeal.Gen.facts,
  Cert.Pre_finite_in_dx.Gen.facts,
  Cert.Pre_finite_sb_bwd.Gen.facts,
  Cert.Pre_finite_ffn_in.Gen.facts,
  Cert.Pre_finite_ffn_act.Gen.facts,
  Cert.Pre_finite_mix_bwd.Gen.facts,
  Cert.Pre_finite_ffn_head.Gen.facts,
  Cert.Pre_finite_mix_fwd.Gen.facts,
  Cert.Pre_finite_act_fwd.Gen.facts,
  fun m ρ _ => Cert.InDx.Gen.frame m ρ,
  fun m ρ _ => Cert.InDxIdeal.Gen.frame m ρ,
  fun m ρ _ => Cert.InDxIdeal.Gen.frame m ρ,
  Cert.InDxClaim.frame_ref,
  fun m ρ _ => Cert.InDxClaim.frame_ref m ρ trivial,
  Cert.SbBwdClaim.frame_kernel,
  Cert.SbBwdClaim.frame_ideal,
  fun m ρ _ => Cert.SbBwdClaim.frame_ideal m ρ trivial,
  Cert.SbBwdClaim.frame_ref,
  fun m ρ _ => Cert.SbBwdClaim.frame_ref m ρ trivial,
  fun m ρ _ => Cert.FfnIn.Gen.frame m ρ,
  fun m ρ _ => Cert.FfnInIdeal.Gen.frame m ρ,
  fun m ρ _ => Cert.FfnInIdeal.Gen.frame m ρ,
  Cert.FfnInClaim.frame_ref,
  fun m ρ _ => Cert.FfnInClaim.frame_ref m ρ trivial,
  fun m ρ _ => Cert.FfnAct.Gen.frame m ρ,
  fun m ρ _ => Cert.FfnActIdeal.Gen.frame m ρ,
  fun m ρ _ => Cert.FfnActIdeal.Gen.frame m ρ,
  Cert.FfnActClaim.frame_ref,
  fun m ρ _ => Cert.FfnActClaim.frame_ref m ρ trivial,
  fun m ρ _ => Cert.MixBwd.Gen.frame m ρ,
  fun m ρ _ => Cert.MixBwdIdeal.Gen.frame m ρ,
  fun m ρ _ => Cert.MixBwdIdeal.Gen.frame m ρ,
  Cert.MixBwdClaim.frame_ref,
  fun m ρ _ => Cert.MixBwdClaim.frame_ref m ρ trivial,
  Cert.FfnBwdClaim.frame_kernel,
  Cert.FfnBwdClaim.frame_ideal,
  fun m ρ _ => Cert.FfnBwdClaim.frame_ideal m ρ trivial,
  Cert.FfnBwdClaim.frame_ref,
  fun m ρ _ => Cert.FfnBwdClaim.frame_ref m ρ trivial,
  Cert.FfnHeadClaim.frame_kernel,
  Cert.FfnHeadClaim.frame_ideal,
  fun m ρ _ => Cert.FfnHeadClaim.frame_ideal m ρ trivial,
  Cert.FfnHeadClaim.frame_ref,
  fun m ρ _ => Cert.FfnHeadClaim.frame_ref m ρ trivial,
  fun m ρ _ => Cert.DownFwd.Gen.frame m ρ,
  fun m ρ _ => Cert.DownFwdIdeal.Gen.frame m ρ,
  Cert.DownFwdClaim.frame_ref,
  fun m ρ _ => Cert.MixFwd.Gen.frame m ρ,
  fun m ρ _ => Cert.MixFwdIdeal.Gen.frame m ρ,
  fun m ρ _ => Cert.MixFwdIdeal.Gen.frame m ρ,
  Cert.MixFwdClaim.frame_ref,
  fun m ρ _ => Cert.MixFwdClaim.frame_ref m ρ trivial,
  Cert.ActFwdClaim.frame_kernel,
  Cert.ActFwdClaim.frame_ideal,
  fun m ρ _ => Cert.ActFwdClaim.frame_ideal m ρ trivial,
  Cert.ActFwdClaim.frame_ref,
  fun m ρ _ => Cert.ActFwdClaim.frame_ref m ρ trivial,
  fun m ρ _ => Cert.InDw.Gen.frame m ρ,
  fun m ρ _ => Cert.InDwIdeal.Gen.frame m ρ,
  Cert.InDwClaim.frame_ref,
  fun m ρ _ => Cert.AdamW.Gen.frame m ρ,
  fun m ρ _ => Cert.AdamWIdeal.Gen.frame m ρ,
  Cert.AdamWClaim.frame_ref,
  trivial,
  Cert.InDxClaim.algebraic,
  trivial,
  Cert.SbBwdClaim.algebraic,
  trivial,
  Cert.FfnInClaim.algebraic,
  trivial,
  Cert.FfnActClaim.algebraic,
  trivial,
  Cert.MixBwdClaim.algebraic,
  trivial,
  Cert.FfnBwdClaim.algebraic,
  trivial,
  Cert.FfnHeadClaim.algebraic,
  trivial,
  Cert.DownFwdClaim.algebraic,
  trivial,
  Cert.MixFwdClaim.algebraic,
  trivial,
  Cert.ActFwdClaim.algebraic,
  trivial,
  Cert.InDwClaim.algebraic,
  trivial,
  Cert.AdamWClaim.algebraic⟩

end Cert.Proof

end
